-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_StickGrad (m : (ℓ : Loc Cert.StickGrad.nD Cert.StickGrad.τ Cert.StickGrad.sig) → Buf (Elt Bits) ℓ) : Prop :=
  True

def Pre_StickGradIdeal (m : (ℓ : Loc Cert.StickGradIdeal.nD Cert.StickGradIdeal.τ Cert.StickGradIdeal.sig) → Buf (Elt Ideal) ℓ) : Prop :=
  True

def Pre_StickGradIdeal_stick_finite [hPre_stick_finite : Cert.Pre_stick_finite.Facts] (m : (ℓ : Loc Cert.StickGradIdeal.nD Cert.StickGradIdeal.τ Cert.StickGradIdeal.sig) → Buf (Elt Ideal) ℓ) : Prop :=
  ∀ c : Dev Cert.StickGradIdeal.nD,
    (Cert.Pre_stick_finite.fn (F := Ideal) (m ((c.tc : Thread Cert.StickGradIdeal.nD Cert.StickGradIdeal.τ).loc Cert.StickGradIdeal.main_arg0)) (m ((c.tc : Thread Cert.StickGradIdeal.nD Cert.StickGradIdeal.τ).loc Cert.StickGradIdeal.main_arg1))) = (fun _ => 1#1)

def Pre_StickGradRefIdeal (m : (ℓ : Loc Cert.StickGradRefIdeal.nD Cert.StickGradRefIdeal.τ Cert.StickGradRefIdeal.sig) → Buf (Elt Ideal) ℓ) : Prop :=
  True

def Pre_StickGradRefIdeal_stick_finite [hPre_stick_finite : Cert.Pre_stick_finite.Facts] (m : (ℓ : Loc Cert.StickGradRefIdeal.nD Cert.StickGradRefIdeal.τ Cert.StickGradRefIdeal.sig) → Buf (Elt Ideal) ℓ) : Prop :=
  ∀ c : Dev Cert.StickGradRefIdeal.nD,
    (Cert.Pre_stick_finite.fn (F := Ideal) (m ((c.tc : Thread Cert.StickGradRefIdeal.nD Cert.StickGradRefIdeal.τ).loc Cert.StickGradRefIdeal.main_arg0)) (m ((c.tc : Thread Cert.StickGradRefIdeal.nD Cert.StickGradRefIdeal.τ).loc Cert.StickGradRefIdeal.main_arg1))) = (fun _ => 1#1)

def Pre_RetQ (m : (ℓ : Loc Cert.RetQ.nD Cert.RetQ.τ Cert.RetQ.sig) → Buf (Elt Bits) ℓ) : Prop :=
  True

def Pre_RetQIdeal (m : (ℓ : Loc Cert.RetQIdeal.nD Cert.RetQIdeal.τ Cert.RetQIdeal.sig) → Buf (Elt Ideal) ℓ) : Prop :=
  True

def Pre_RetQIdeal_ret_finite [hPre_ret_finite : Cert.Pre_ret_finite.Facts] (m : (ℓ : Loc Cert.RetQIdeal.nD Cert.RetQIdeal.τ Cert.RetQIdeal.sig) → Buf (Elt Ideal) ℓ) : Prop :=
  ∀ c : Dev Cert.RetQIdeal.nD,
    (Cert.Pre_ret_finite.fn (F := Ideal) (m ((c.tc : Thread Cert.RetQIdeal.nD Cert.RetQIdeal.τ).loc Cert.RetQIdeal.main_arg0)) (m ((c.tc : Thread Cert.RetQIdeal.nD Cert.RetQIdeal.τ).loc Cert.RetQIdeal.main_arg1)) (m ((c.tc : Thread Cert.RetQIdeal.nD Cert.RetQIdeal.τ).loc Cert.RetQIdeal.main_arg2)) (m ((c.tc : Thread Cert.RetQIdeal.nD Cert.RetQIdeal.τ).loc Cert.RetQIdeal.main_arg3))) = (fun _ => 1#1)

def Pre_RetQRefIdeal (m : (ℓ : Loc Cert.RetQRefIdeal.nD Cert.RetQRefIdeal.τ Cert.RetQRefIdeal.sig) → Buf (Elt Ideal) ℓ) : Prop :=
  True

def Pre_RetQRefIdeal_ret_finite [hPre_ret_finite : Cert.Pre_ret_finite.Facts] (m : (ℓ : Loc Cert.RetQRefIdeal.nD Cert.RetQRefIdeal.τ Cert.RetQRefIdeal.sig) → Buf (Elt Ideal) ℓ) : Prop :=
  ∀ c : Dev Cert.RetQRefIdeal.nD,
    (Cert.Pre_ret_finite.fn (F := Ideal) (m ((c.tc : Thread Cert.RetQRefIdeal.nD Cert.RetQRefIdeal.τ).loc Cert.RetQRefIdeal.main_arg0)) (m ((c.tc : Thread Cert.RetQRefIdeal.nD Cert.RetQRefIdeal.τ).loc Cert.RetQRefIdeal.main_arg1)) (m ((c.tc : Thread Cert.RetQRefIdeal.nD Cert.RetQRefIdeal.τ).loc Cert.RetQRefIdeal.main_arg2)) (m ((c.tc : Thread Cert.RetQRefIdeal.nD Cert.RetQRefIdeal.τ).loc Cert.RetQRefIdeal.main_arg3))) = (fun _ => 1#1)

def Pre_RetKV (m : (ℓ : Loc Cert.RetKV.nD Cert.RetKV.τ Cert.RetKV.sig) → Buf (Elt Bits) ℓ) : Prop :=
  True

def Pre_RetKVIdeal (m : (ℓ : Loc Cert.RetKVIdeal.nD Cert.RetKVIdeal.τ Cert.RetKVIdeal.sig) → Buf (Elt Ideal) ℓ) : Prop :=
  True

def Pre_RetKVIdeal_ret_finite [hPre_ret_finite : Cert.Pre_ret_finite.Facts] (m : (ℓ : Loc Cert.RetKVIdeal.nD Cert.RetKVIdeal.τ Cert.RetKVIdeal.sig) → Buf (Elt Ideal) ℓ) : Prop :=
  ∀ c : Dev Cert.RetKVIdeal.nD,
    (Cert.Pre_ret_finite.fn (F := Ideal) (m ((c.tc : Thread Cert.RetKVIdeal.nD Cert.RetKVIdeal.τ).loc Cert.RetKVIdeal.main_arg0)) (m ((c.tc : Thread Cert.RetKVIdeal.nD Cert.RetKVIdeal.τ).loc Cert.RetKVIdeal.main_arg1)) (m ((c.tc : Thread Cert.RetKVIdeal.nD Cert.RetKVIdeal.τ).loc Cert.RetKVIdeal.main_arg2)) (m ((c.tc : Thread Cert.RetKVIdeal.nD Cert.RetKVIdeal.τ).loc Cert.RetKVIdeal.main_arg3))) = (fun _ => 1#1)

def Pre_RetKVRefIdeal (m : (ℓ : Loc Cert.RetKVRefIdeal.nD Cert.RetKVRefIdeal.τ Cert.RetKVRefIdeal.sig) → Buf (Elt Ideal) ℓ) : Prop :=
  True

def Pre_RetKVRefIdeal_ret_finite [hPre_ret_finite : Cert.Pre_ret_finite.Facts] (m : (ℓ : Loc Cert.RetKVRefIdeal.nD Cert.RetKVRefIdeal.τ Cert.RetKVRefIdeal.sig) → Buf (Elt Ideal) ℓ) : Prop :=
  ∀ c : Dev Cert.RetKVRefIdeal.nD,
    (Cert.Pre_ret_finite.fn (F := Ideal) (m ((c.tc : Thread Cert.RetKVRefIdeal.nD Cert.RetKVRefIdeal.τ).loc Cert.RetKVRefIdeal.main_arg0)) (m ((c.tc : Thread Cert.RetKVRefIdeal.nD Cert.RetKVRefIdeal.τ).loc Cert.RetKVRefIdeal.main_arg1)) (m ((c.tc : Thread Cert.RetKVRefIdeal.nD Cert.RetKVRefIdeal.τ).loc Cert.RetKVRefIdeal.main_arg2)) (m ((c.tc : Thread Cert.RetKVRefIdeal.nD Cert.RetKVRefIdeal.τ).loc Cert.RetKVRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_finite [hPre_in_finite : Cert.Pre_in_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))) = (fun _ => 1#1)

def Pre_Ff1Bwd (m : (ℓ : Loc Cert.Ff1Bwd.nD Cert.Ff1Bwd.τ Cert.Ff1Bwd.sig) → Buf (Elt Bits) ℓ) : Prop :=
  True

def Pre_Ff1BwdIdeal (m : (ℓ : Loc Cert.Ff1BwdIdeal.nD Cert.Ff1BwdIdeal.τ Cert.Ff1BwdIdeal.sig) → Buf (Elt Ideal) ℓ) : Prop :=
  True

def Pre_Ff1BwdIdeal_ff1_finite [hPre_ff1_finite : Cert.Pre_ff1_finite.Facts] (m : (ℓ : Loc Cert.Ff1BwdIdeal.nD Cert.Ff1BwdIdeal.τ Cert.Ff1BwdIdeal.sig) → Buf (Elt Ideal) ℓ) : Prop :=
  ∀ c : Dev Cert.Ff1BwdIdeal.nD,
    (Cert.Pre_ff1_finite.fn (F := Ideal) (m ((c.tc : Thread Cert.Ff1BwdIdeal.nD Cert.Ff1BwdIdeal.τ).loc Cert.Ff1BwdIdeal.main_arg0)) (m ((c.tc : Thread Cert.Ff1BwdIdeal.nD Cert.Ff1BwdIdeal.τ).loc Cert.Ff1BwdIdeal.main_arg1)) (m ((c.tc : Thread Cert.Ff1BwdIdeal.nD Cert.Ff1BwdIdeal.τ).loc Cert.Ff1BwdIdeal.main_arg2)) (m ((c.tc : Thread Cert.Ff1BwdIdeal.nD Cert.Ff1BwdIdeal.τ).loc Cert.Ff1BwdIdeal.main_arg3)) (m ((c.tc : Thread Cert.Ff1BwdIdeal.nD Cert.Ff1BwdIdeal.τ).loc Cert.Ff1BwdIdeal.main_arg4)) (m ((c.tc : Thread Cert.Ff1BwdIdeal.nD Cert.Ff1BwdIdeal.τ).loc Cert.Ff1BwdIdeal.main_arg5)) (m ((c.tc : Thread Cert.Ff1BwdIdeal.nD Cert.Ff1BwdIdeal.τ).loc Cert.Ff1BwdIdeal.main_arg6)) (m ((c.tc : Thread Cert.Ff1BwdIdeal.nD Cert.Ff1BwdIdeal.τ).loc Cert.Ff1BwdIdeal.main_arg7)) (m ((c.tc : Thread Cert.Ff1BwdIdeal.nD Cert.Ff1BwdIdeal.τ).loc Cert.Ff1BwdIdeal.main_arg8))) = (fun _ => 1#1)

def Pre_Ff1BwdRefIdeal (m : (ℓ : Loc Cert.Ff1BwdRefIdeal.nD Cert.Ff1BwdRefIdeal.τ Cert.Ff1BwdRefIdeal.sig) → Buf (Elt Ideal) ℓ) : Prop :=
  True

def Pre_Ff1BwdRefIdeal_ff1_finite [hPre_ff1_finite : Cert.Pre_ff1_finite.Facts] (m : (ℓ : Loc Cert.Ff1BwdRefIdeal.nD Cert.Ff1BwdRefIdeal.τ Cert.Ff1BwdRefIdeal.sig) → Buf (Elt Ideal) ℓ) : Prop :=
  ∀ c : Dev Cert.Ff1BwdRefIdeal.nD,
    (Cert.Pre_ff1_finite.fn (F := Ideal) (m ((c.tc : Thread Cert.Ff1BwdRefIdeal.nD Cert.Ff1BwdRefIdeal.τ).loc Cert.Ff1BwdRefIdeal.main_arg0)) (m ((c.tc : Thread Cert.Ff1BwdRefIdeal.nD Cert.Ff1BwdRefIdeal.τ).loc Cert.Ff1BwdRefIdeal.main_arg1)) (m ((c.tc : Thread Cert.Ff1BwdRefIdeal.nD Cert.Ff1BwdRefIdeal.τ).loc Cert.Ff1BwdRefIdeal.main_arg2)) (m ((c.tc : Thread Cert.Ff1BwdRefIdeal.nD Cert.Ff1BwdRefIdeal.τ).loc Cert.Ff1BwdRefIdeal.main_arg3)) (m ((c.tc : Thread Cert.Ff1BwdRefIdeal.nD Cert.Ff1BwdRefIdeal.τ).loc Cert.Ff1BwdRefIdeal.main_arg4)) (m ((c.tc : Thread Cert.Ff1BwdRefIdeal.nD Cert.Ff1BwdRefIdeal.τ).loc Cert.Ff1BwdRefIdeal.main_arg5)) (m ((c.tc : Thread Cert.Ff1BwdRefIdeal.nD Cert.Ff1BwdRefIdeal.τ).loc Cert.Ff1BwdRefIdeal.main_arg6)) (m ((c.tc : Thread Cert.Ff1BwdRefIdeal.nD Cert.Ff1BwdRefIdeal.τ).loc Cert.Ff1BwdRefIdeal.main_arg7)) (m ((c.tc : Thread Cert.Ff1BwdRefIdeal.nD Cert.Ff1BwdRefIdeal.τ).loc Cert.Ff1BwdRefIdeal.main_arg8))) = (fun _ => 1#1)

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchIdeal_branch_finite [hPre_branch_finite : Cert.Pre_branch_finite.Facts] (m : (ℓ : Loc Cert.BranchIdeal.nD Cert.BranchIdeal.τ Cert.BranchIdeal.sig) → Buf (Elt Ideal) ℓ) : Prop :=
  ∀ c : Dev Cert.BranchIdeal.nD,
    (Cert.Pre_branch_finite.fn (F := Ideal) (m ((c.tc : Thread Cert.BranchIdeal.nD Cert.BranchIdeal.τ).loc Cert.BranchIdeal.main_arg0)) (m ((c.tc : Thread Cert.BranchIdeal.nD Cert.BranchIdeal.τ).loc Cert.BranchIdeal.main_arg1)) (m ((c.tc : Thread Cert.BranchIdeal.nD Cert.BranchIdeal.τ).loc Cert.BranchIdeal.main_arg2)) (m ((c.tc : Thread Cert.BranchIdeal.nD Cert.BranchIdeal.τ).loc Cert.BranchIdeal.main_arg3)) (m ((c.tc : Thread Cert.BranchIdeal.nD Cert.BranchIdeal.τ).loc Cert.BranchIdeal.main_arg4)) (m ((c.tc : Thread Cert.BranchIdeal.nD Cert.BranchIdeal.τ).loc Cert.BranchIdeal.main_arg5)) (m ((c.tc : Thread Cert.BranchIdeal.nD Cert.BranchIdeal.τ).loc Cert.BranchIdeal.main_arg6)) (m ((c.tc : Thread Cert.BranchIdeal.nD Cert.BranchIdeal.τ).loc Cert.BranchIdeal.main_arg7))) = (fun _ => 1#1)

def Pre_BranchRefIdeal (m : (ℓ : Loc Cert.BranchRefIdeal.nD Cert.BranchRefIdeal.τ Cert.BranchRefIdeal.sig) → Buf (Elt Ideal) ℓ) : Prop :=
  True

def Pre_BranchRefIdeal_branch_finite [hPre_branch_finite : Cert.Pre_branch_finite.Facts] (m : (ℓ : Loc Cert.BranchRefIdeal.nD Cert.BranchRefIdeal.τ Cert.BranchRefIdeal.sig) → Buf (Elt Ideal) ℓ) : Prop :=
  ∀ c : Dev Cert.BranchRefIdeal.nD,
    (Cert.Pre_branch_finite.fn (F := Ideal) (m ((c.tc : Thread Cert.BranchRefIdeal.nD Cert.BranchRefIdeal.τ).loc Cert.BranchRefIdeal.main_arg0)) (m ((c.tc : Thread Cert.BranchRefIdeal.nD Cert.BranchRefIdeal.τ).loc Cert.BranchRefIdeal.main_arg1)) (m ((c.tc : Thread Cert.BranchRefIdeal.nD Cert.BranchRefIdeal.τ).loc Cert.BranchRefIdeal.main_arg2)) (m ((c.tc : Thread Cert.BranchRefIdeal.nD Cert.BranchRefIdeal.τ).loc Cert.BranchRefIdeal.main_arg3)) (m ((c.tc : Thread Cert.BranchRefIdeal.nD Cert.BranchRefIdeal.τ).loc Cert.BranchRefIdeal.main_arg4)) (m ((c.tc : Thread Cert.BranchRefIdeal.nD Cert.BranchRefIdeal.τ).loc Cert.BranchRefIdeal.main_arg5)) (m ((c.tc : Thread Cert.BranchRefIdeal.nD Cert.BranchRefIdeal.τ).loc Cert.BranchRefIdeal.main_arg6)) (m ((c.tc : Thread Cert.BranchRefIdeal.nD Cert.BranchRefIdeal.τ).loc Cert.BranchRefIdeal.main_arg7))) = (fun _ => 1#1)

def Pre_Assemble (m : (ℓ : Loc Cert.Assemble.nD Cert.Assemble.τ Cert.Assemble.sig) → Buf (Elt Bits) ℓ) : Prop :=
  True

def Pre_AssembleIdeal (m : (ℓ : Loc Cert.AssembleIdeal.nD Cert.AssembleIdeal.τ Cert.AssembleIdeal.sig) → Buf (Elt Ideal) ℓ) : Prop :=
  True

def Pre_AssembleRefIdeal (m : (ℓ : Loc Cert.AssembleRefIdeal.nD Cert.AssembleRefIdeal.τ Cert.AssembleRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_StickGrad [hStickGrad : Cert.StickGrad.Facts] : Prop :=
  ∀ (m : (ℓ : Loc Cert.StickGrad.nD Cert.StickGrad.τ Cert.StickGrad.sig) → Buf (Elt Bits) ℓ) (g : Dev Cert.StickGrad.nD → PrngReg), Pre_StickGrad m →
    θ_run (Cert.StickGrad.defs (F := Bits)) (onTc (τ := Cert.StickGrad.τ) (Cert.StickGrad.main (F := Bits))) ⟨m, fun _ => 0, g⟩ (fun r => (∀ c : Dev Cert.StickGrad.nD,
      r.2.mem ((c.tc : Thread Cert.StickGrad.nD Cert.StickGrad.τ).loc Cert.StickGrad.main_arg0) = m ((c.tc : Thread Cert.StickGrad.nD Cert.StickGrad.τ).loc Cert.StickGrad.main_arg0)
      ∧ r.2.mem ((c.tc : Thread Cert.StickGrad.nD Cert.StickGrad.τ).loc Cert.StickGrad.main_arg1) = m ((c.tc : Thread Cert.StickGrad.nD Cert.StickGrad.τ).loc Cert.StickGrad.main_arg1))
      ∧ r.2.sem = fun _ => 0)

def quiescent_StickGradIdeal [hStickGradIdeal : Cert.StickGradIdeal.Facts] : Prop :=
  ∀ (m : (ℓ : Loc Cert.StickGradIdeal.nD Cert.StickGradIdeal.τ Cert.StickGradIdeal.sig) → Buf (Elt Ideal) ℓ) (g : Dev Cert.StickGradIdeal.nD → PrngReg), Pre_StickGradIdeal m →
    θ_run (Cert.StickGradIdeal.defs (F := Ideal)) (onTc (τ := Cert.StickGradIdeal.τ) (Cert.StickGradIdeal.main (F := Ideal))) ⟨m, fun _ => 0, g⟩ (fun r => (∀ c : Dev Cert.StickGradIdeal.nD,
      r.2.mem ((c.tc : Thread Cert.StickGradIdeal.nD Cert.StickGradIdeal.τ).loc Cert.StickGradIdeal.main_arg0) = m ((c.tc : Thread Cert.StickGradIdeal.nD Cert.StickGradIdeal.τ).loc Cert.StickGradIdeal.main_arg0)
      ∧ r.2.mem ((c.tc : Thread Cert.StickGradIdeal.nD Cert.StickGradIdeal.τ).loc Cert.StickGradIdeal.main_arg1) = m ((c.tc : Thread Cert.StickGradIdeal.nD Cert.StickGradIdeal.τ).loc Cert.StickGradIdeal.main_arg1))
      ∧ r.2.sem = fun _ => 0)

def quiescent_StickGradIdeal_pre_stick_finite [hStickGradIdeal : Cert.StickGradIdeal.Facts] [hPre_stick_finite : Cert.Pre_stick_finite.Facts] : Prop :=
  ∀ (m : (ℓ : Loc Cert.StickGradIdeal.nD Cert.StickGradIdeal.τ Cert.StickGradIdeal.sig) → Buf (Elt Ideal) ℓ) (g : Dev Cert.StickGradIdeal.nD → PrngReg), Pre_StickGradIdeal_stick_finite m →
    θ_run (Cert.StickGradIdeal.defs (F := Ideal)) (onTc (τ := Cert.StickGradIdeal.τ) (Cert.StickGradIdeal.main (F := Ideal))) ⟨m, fun _ => 0, g⟩ (fun r => (∀ c : Dev Cert.StickGradIdeal.nD,
      r.2.mem ((c.tc : Thread Cert.StickGradIdeal.nD Cert.StickGradIdeal.τ).loc Cert.StickGradIdeal.main_arg0) = m ((c.tc : Thread Cert.StickGradIdeal.nD Cert.StickGradIdeal.τ).loc Cert.StickGradIdeal.main_arg0)
      ∧ r.2.mem ((c.tc : Thread Cert.StickGradIdeal.nD Cert.StickGradIdeal.τ).loc Cert.StickGradIdeal.main_arg1) = m ((c.tc : Thread Cert.StickGradIdeal.nD Cert.StickGradIdeal.τ).loc Cert.StickGradIdeal.main_arg1))
      ∧ r.2.sem = fun _ => 0)

def quiescent_StickGradRefIdeal [hStickGradRefIdeal : Cert.StickGradRefIdeal.Facts] : Prop :=
  ∀ (m : (ℓ : Loc Cert.StickGradRefIdeal.nD Cert.StickGradRefIdeal.τ Cert.StickGradRefIdeal.sig) → Buf (Elt Ideal) ℓ) (g : Dev Cert.StickGradRefIdeal.nD → PrngReg), Pre_StickGradRefIdeal m →
    θ_run (Cert.StickGradRefIdeal.defs (F := Ideal)) (onTc (τ := Cert.StickGradRefIdeal.τ) (Cert.StickGradRefIdeal.main (F := Ideal))) ⟨m, fun _ => 0, g⟩ (fun r => (∀ c : Dev Cert.StickGradRefIdeal.nD,
      r.2.mem ((c.tc : Thread Cert.StickGradRefIdeal.nD Cert.StickGradRefIdeal.τ).loc Cert.StickGradRefIdeal.main_arg0) = m ((c.tc : Thread Cert.StickGradRefIdeal.nD Cert.StickGradRefIdeal.τ).loc Cert.StickGradRefIdeal.main_arg0)
      ∧ r.2.mem ((c.tc : Thread Cert.StickGradRefIdeal.nD Cert.StickGradRefIdeal.τ).loc Cert.StickGradRefIdeal.main_arg1) = m ((c.tc : Thread Cert.StickGradRefIdeal.nD Cert.StickGradRefIdeal.τ).loc Cert.StickGradRefIdeal.main_arg1))
      ∧ r.2.sem = fun _ => 0)

def quiescent_StickGradRefIdeal_pre_stick_finite [hStickGradRefIdeal : Cert.StickGradRefIdeal.Facts] [hPre_stick_finite : Cert.Pre_stick_finite.Facts] : Prop :=
  ∀ (m : (ℓ : Loc Cert.StickGradRefIdeal.nD Cert.StickGradRefIdeal.τ Cert.StickGradRefIdeal.sig) → Buf (Elt Ideal) ℓ) (g : Dev Cert.StickGradRefIdeal.nD → PrngReg), Pre_StickGradRefIdeal_stick_finite m →
    θ_run (Cert.StickGradRefIdeal.defs (F := Ideal)) (onTc (τ := Cert.StickGradRefIdeal.τ) (Cert.StickGradRefIdeal.main (F := Ideal))) ⟨m, fun _ => 0, g⟩ (fun r => (∀ c : Dev Cert.StickGradRefIdeal.nD,
      r.2.mem ((c.tc : Thread Cert.StickGradRefIdeal.nD Cert.StickGradRefIdeal.τ).loc Cert.StickGradRefIdeal.main_arg0) = m ((c.tc : Thread Cert.StickGradRefIdeal.nD Cert.StickGradRefIdeal.τ).loc Cert.StickGradRefIdeal.main_arg0)
      ∧ r.2.mem ((c.tc : Thread Cert.StickGradRefIdeal.nD Cert.StickGradRefIdeal.τ).loc Cert.StickGradRefIdeal.main_arg1) = m ((c.tc : Thread Cert.StickGradRefIdeal.nD Cert.StickGradRefIdeal.τ).loc Cert.StickGradRefIdeal.main_arg1))
      ∧ r.2.sem = fun _ => 0)

def quiescent_RetQ [hRetQ : Cert.RetQ.Facts] : Prop :=
  ∀ (m : (ℓ : Loc Cert.RetQ.nD Cert.RetQ.τ Cert.RetQ.sig) → Buf (Elt Bits) ℓ) (g : Dev Cert.RetQ.nD → PrngReg), Pre_RetQ m →
    θ_run (Cert.RetQ.defs (F := Bits)) (onTc (τ := Cert.RetQ.τ) (Cert.RetQ.main (F := Bits))) ⟨m, fun _ => 0, g⟩ (fun r => (∀ c : Dev Cert.RetQ.nD,
      r.2.mem ((c.tc : Thread Cert.RetQ.nD Cert.RetQ.τ).loc Cert.RetQ.main_arg0) = m ((c.tc : Thread Cert.RetQ.nD Cert.RetQ.τ).loc Cert.RetQ.main_arg0)
      ∧ r.2.mem ((c.tc : Thread Cert.RetQ.nD Cert.RetQ.τ).loc Cert.RetQ.main_arg1) = m ((c.tc : Thread Cert.RetQ.nD Cert.RetQ.τ).loc Cert.RetQ.main_arg1)
      ∧ r.2.mem ((c.tc : Thread Cert.RetQ.nD Cert.RetQ.τ).loc Cert.RetQ.main_arg2) = m ((c.tc : Thread Cert.RetQ.nD Cert.RetQ.τ).loc Cert.RetQ.main_arg2)
      ∧ r.2.mem ((c.tc : Thread Cert.RetQ.nD Cert.RetQ.τ).loc Cert.RetQ.main_arg3) = m ((c.tc : Thread Cert.RetQ.nD Cert.RetQ.τ).loc Cert.RetQ.main_arg3))
      ∧ r.2.sem = fun _ => 0)

def quiescent_RetQIdeal [hRetQIdeal : Cert.RetQIdeal.Facts] : Prop :=
  ∀ (m : (ℓ : Loc Cert.RetQIdeal.nD Cert.RetQIdeal.τ Cert.RetQIdeal.sig) → Buf (Elt Ideal) ℓ) (g : Dev Cert.RetQIdeal.nD → PrngReg), Pre_RetQIdeal m →
    θ_run (Cert.RetQIdeal.defs (F := Ideal)) (onTc (τ := Cert.RetQIdeal.τ) (Cert.RetQIdeal.main (F := Ideal))) ⟨m, fun _ => 0, g⟩ (fun r => (∀ c : Dev Cert.RetQIdeal.nD,
      r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
      ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1)
      ∧ r.2.mem ((c.tc : Thread Cert.RetQIdeal.nD Cert.RetQIdeal.τ).loc Cert.RetQIdeal.main_arg2) = m ((c.tc : Thread Cert.RetQIdeal.nD Cert.RetQIdeal.τ).loc Cert.RetQIdeal.main_arg2)
      ∧ r.2.mem ((c.tc : Thread Cert.RetQIdeal.nD Cert.RetQIdeal.τ).loc Cert.RetQIdeal.main_arg3) = m ((c.tc : Thread Cert.RetQIdeal.nD Cert.RetQIdeal.τ).loc Cert.RetQIdeal.main_arg3))
      ∧ r.2.sem = fun _ => 0)

def quiescent_RetQIdeal_pre_ret_finite [hRetQIdeal : Cert.RetQIdeal.Facts] [hPre_ret_finite : Cert.Pre_ret_finite.Facts] : Prop :=
  ∀ (m : (ℓ : Loc Cert.RetQIdeal.nD Cert.RetQIdeal.τ Cert.RetQIdeal.sig) → Buf (Elt Ideal) ℓ) (g : Dev Cert.RetQIdeal.nD → PrngReg), Pre_RetQIdeal_ret_finite m →
    θ_run (Cert.RetQIdeal.defs (F := Ideal)) (onTc (τ := Cert.RetQIdeal.τ) (Cert.RetQIdeal.main (F := Ideal))) ⟨m, fun _ => 0, g⟩ (fun r => (∀ c : Dev Cert.RetQIdeal.nD,
      r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
      ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1)
      ∧ r.2.mem ((c.tc : Thread Cert.RetQIdeal.nD Cert.RetQIdeal.τ).loc Cert.RetQIdeal.main_arg2) = m ((c.tc : Thread Cert.RetQIdeal.nD Cert.RetQIdeal.τ).loc Cert.RetQIdeal.main_arg2)
      ∧ r.2.mem ((c.tc : Thread Cert.RetQIdeal.nD Cert.RetQIdeal.τ).loc Cert.RetQIdeal.main_arg3) = m ((c.tc : Thread Cert.RetQIdeal.nD Cert.RetQIdeal.τ).loc Cert.RetQIdeal.main_arg3))
      ∧ r.2.sem = fun _ => 0)

def quiescent_RetQRefIdeal [hRetQRefIdeal : Cert.RetQRefIdeal.Facts] : Prop :=
  ∀ (m : (ℓ : Loc Cert.RetQRefIdeal.nD Cert.RetQRefIdeal.τ Cert.RetQRefIdeal.sig) → Buf (Elt Ideal) ℓ) (g : Dev Cert.RetQRefIdeal.nD → PrngReg), Pre_RetQRefIdeal m →
    θ_run (Cert.RetQRefIdeal.defs (F := Ideal)) (onTc (τ := Cert.RetQRefIdeal.τ) (Cert.RetQRefIdeal.main (F := Ideal))) ⟨m, fun _ => 0, g⟩ (fun r => (∀ c : Dev Cert.RetQRefIdeal.nD,
      r.2.mem ((c.tc : Thread Cert.RetQRefIdeal.nD Cert.RetQRefIdeal.τ).loc Cert.RetQRefIdeal.main_arg0) = m ((c.tc : Thread Cert.RetQRefIdeal.nD Cert.RetQRefIdeal.τ).loc Cert.RetQRefIdeal.main_arg0)
      ∧ r.2.mem ((c.tc : Thread Cert.RetQRefIdeal.nD Cert.RetQRefIdeal.τ).loc Cert.RetQRefIdeal.main_arg1) = m ((c.tc : Thread Cert.RetQRefIdeal.nD Cert.RetQRefIdeal.τ).loc Cert.RetQRefIdeal.main_arg1)
      ∧ r.2.mem ((c.tc : Thread Cert.RetQRefIdeal.nD Cert.RetQRefIdeal.τ).loc Cert.RetQRefIdeal.main_arg2) = m ((c.tc : Thread Cert.RetQRefIdeal.nD Cert.RetQRefIdeal.τ).loc Cert.RetQRefIdeal.main_arg2)
      ∧ r.2.mem ((c.tc : Thread Cert.RetQRefIdeal.nD Cert.RetQRefIdeal.τ).loc Cert.RetQRefIdeal.main_arg3) = m ((c.tc : Thread Cert.RetQRefIdeal.nD Cert.RetQRefIdeal.τ).loc Cert.RetQRefIdeal.main_arg3))
      ∧ r.2.sem = fun _ => 0)

def quiescent_RetQRefIdeal_pre_ret_finite [hRetQRefIdeal : Cert.RetQRefIdeal.Facts] [hPre_ret_finite : Cert.Pre_ret_finite.Facts] : Prop :=
  ∀ (m : (ℓ : Loc Cert.RetQRefIdeal.nD Cert.RetQRefIdeal.τ Cert.RetQRefIdeal.sig) → Buf (Elt Ideal) ℓ) (g : Dev Cert.RetQRefIdeal.nD → PrngReg), Pre_RetQRefIdeal_ret_finite m →
    θ_run (Cert.RetQRefIdeal.defs (F := Ideal)) (onTc (τ := Cert.RetQRefIdeal.τ) (Cert.RetQRefIdeal.main (F := Ideal))) ⟨m, fun _ => 0, g⟩ (fun r => (∀ c : Dev Cert.RetQRefIdeal.nD,
      r.2.mem ((c.tc : Thread Cert.RetQRefIdeal.nD Cert.RetQRefIdeal.τ).loc Cert.RetQRefIdeal.main_arg0) = m ((c.tc : Thread Cert.RetQRefIdeal.nD Cert.RetQRefIdeal.τ).loc Cert.RetQRefIdeal.main_arg0)
      ∧ r.2.mem ((c.tc : Thread Cert.RetQRefIdeal.nD Cert.RetQRefIdeal.τ).loc Cert.RetQRefIdeal.main_arg1) = m ((c.tc : Thread Cert.RetQRefIdeal.nD Cert.RetQRefIdeal.τ).loc Cert.RetQRefIdeal.main_arg1)
      ∧ r.2.mem ((c.tc : Thread Cert.RetQRefIdeal.nD Cert.RetQRefIdeal.τ).loc Cert.RetQRefIdeal.main_arg2) = m ((c.tc : Thread Cert.RetQRefIdeal.nD Cert.RetQRefIdeal.τ).loc Cert.RetQRefIdeal.main_arg2)
      ∧ r.2.mem ((c.tc : Thread Cert.RetQRefIdeal.nD Cert.RetQRefIdeal.τ).loc Cert.RetQRefIdeal.main_arg3) = m ((c.tc : Thread Cert.RetQRefIdeal.nD Cert.RetQRefIdeal.τ).loc Cert.RetQRefIdeal.main_arg3))
      ∧ r.2.sem = fun _ => 0)

def quiescent_RetKV [hRetKV : Cert.RetKV.Facts] : Prop :=
  ∀ (m : (ℓ : Loc Cert.RetKV.nD Cert.RetKV.τ Cert.RetKV.sig) → Buf (Elt Bits) ℓ) (g : Dev Cert.RetKV.nD → PrngReg), Pre_RetKV m →
    θ_run (Cert.RetKV.defs (F := Bits)) (onTc (τ := Cert.RetKV.τ) (Cert.RetKV.main (F := Bits))) ⟨m, fun _ => 0, g⟩ (fun r => (∀ c : Dev Cert.RetKV.nD,
      r.2.mem ((c.tc : Thread Cert.RetKV.nD Cert.RetKV.τ).loc Cert.RetKV.main_arg0) = m ((c.tc : Thread Cert.RetKV.nD Cert.RetKV.τ).loc Cert.RetKV.main_arg0)
      ∧ r.2.mem ((c.tc : Thread Cert.RetKV.nD Cert.RetKV.τ).loc Cert.RetKV.main_arg1) = m ((c.tc : Thread Cert.RetKV.nD Cert.RetKV.τ).loc Cert.RetKV.main_arg1)
      ∧ r.2.mem ((c.tc : Thread Cert.RetKV.nD Cert.RetKV.τ).loc Cert.RetKV.main_arg2) = m ((c.tc : Thread Cert.RetKV.nD Cert.RetKV.τ).loc Cert.RetKV.main_arg2)
      ∧ r.2.mem ((c.tc : Thread Cert.RetKV.nD Cert.RetKV.τ).loc Cert.RetKV.main_arg3) = m ((c.tc : Thread Cert.RetKV.nD Cert.RetKV.τ).loc Cert.RetKV.main_arg3))
      ∧ r.2.sem = fun _ => 0)

def quiescent_RetKVIdeal [hRetKVIdeal : Cert.RetKVIdeal.Facts] : Prop :=
  ∀ (m : (ℓ : Loc Cert.RetKVIdeal.nD Cert.RetKVIdeal.τ Cert.RetKVIdeal.sig) → Buf (Elt Ideal) ℓ) (g : Dev Cert.RetKVIdeal.nD → PrngReg), Pre_RetKVIdeal m →
    θ_run (Cert.RetKVIdeal.defs (F := Ideal)) (onTc (τ := Cert.RetKVIdeal.τ) (Cert.RetKVIdeal.main (F := Ideal))) ⟨m, fun _ => 0, g⟩ (fun r => (∀ c : Dev Cert.RetKVIdeal.nD,
      r.2.mem ((c.tc : Thread Cert.RetKVIdeal.nD Cert.RetKVIdeal.τ).loc Cert.RetKVIdeal.main_arg0) = m ((c.tc : Thread Cert.RetKVIdeal.nD Cert.RetKVIdeal.τ).loc Cert.RetKVIdeal.main_arg0)
      ∧ r.2.mem ((c.tc : Thread Cert.RetKVIdeal.nD Cert.RetKVIdeal.τ).loc Cert.RetKVIdeal.main_arg1) = m ((c.tc : Thread Cert.RetKVIdeal.nD Cert.RetKVIdeal.τ).loc Cert.RetKVIdeal.main_arg1)
      ∧ r.2.mem ((c.tc : Thread Cert.RetKVIdeal.nD Cert.RetKVIdeal.τ).loc Cert.RetKVIdeal.main_arg2) = m ((c.tc : Thread Cert.RetKVIdeal.nD Cert.RetKVIdeal.τ).loc Cert.RetKVIdeal.main_arg2)
      ∧ r.2.mem ((c.tc : Thread Cert.RetKVIdeal.nD Cert.RetKVIdeal.τ).loc Cert.RetKVIdeal.main_arg3) = m ((c.tc : Thread Cert.RetKVIdeal.nD Cert.RetKVIdeal.τ).loc Cert.RetKVIdeal.main_arg3))
      ∧ r.2.sem = fun _ => 0)

def quiescent_RetKVIdeal_pre_ret_finite [hRetKVIdeal : Cert.RetKVIdeal.Facts] [hPre_ret_finite : Cert.Pre_ret_finite.Facts] : Prop :=
  ∀ (m : (ℓ : Loc Cert.RetKVIdeal.nD Cert.RetKVIdeal.τ Cert.RetKVIdeal.sig) → Buf (Elt Ideal) ℓ) (g : Dev Cert.RetKVIdeal.nD → PrngReg), Pre_RetKVIdeal_ret_finite m →
    θ_run (Cert.RetKVIdeal.defs (F := Ideal)) (onTc (τ := Cert.RetKVIdeal.τ) (Cert.RetKVIdeal.main (F := Ideal))) ⟨m, fun _ => 0, g⟩ (fun r => (∀ c : Dev Cert.RetKVIdeal.nD,
      r.2.mem ((c.tc : Thread Cert.RetKVIdeal.nD Cert.RetKVIdeal.τ).loc Cert.RetKVIdeal.main_arg0) = m ((c.tc : Thread Cert.RetKVIdeal.nD Cert.RetKVIdeal.τ).loc Cert.RetKVIdeal.main_arg0)
      ∧ r.2.mem ((c.tc : Thread Cert.RetKVIdeal.nD Cert.RetKVIdeal.τ).loc Cert.RetKVIdeal.main_arg1) = m ((c.tc : Thread Cert.RetKVIdeal.nD Cert.RetKVIdeal.τ).loc Cert.RetKVIdeal.main_arg1)
      ∧ r.2.mem ((c.tc : Thread Cert.RetKVIdeal.nD Cert.RetKVIdeal.τ).loc Cert.RetKVIdeal.main_arg2) = m ((c.tc : Thread Cert.RetKVIdeal.nD Cert.RetKVIdeal.τ).loc Cert.RetKVIdeal.main_arg2)
      ∧ r.2.mem ((c.tc : Thread Cert.RetKVIdeal.nD Cert.RetKVIdeal.τ).loc Cert.RetKVIdeal.main_arg3) = m ((c.tc : Thread Cert.RetKVIdeal.nD Cert.RetKVIdeal.τ).loc Cert.RetKVIdeal.main_arg3))
      ∧ r.2.sem = fun _ => 0)

def quiescent_RetKVRefIdeal [hRetKVRefIdeal : Cert.RetKVRefIdeal.Facts] : Prop :=
  ∀ (m : (ℓ : Loc Cert.RetKVRefIdeal.nD Cert.RetKVRefIdeal.τ Cert.RetKVRefIdeal.sig) → Buf (Elt Ideal) ℓ) (g : Dev Cert.RetKVRefIdeal.nD → PrngReg), Pre_RetKVRefIdeal m →
    θ_run (Cert.RetKVRefIdeal.defs (F := Ideal)) (onTc (τ := Cert.RetKVRefIdeal.τ) (Cert.RetKVRefIdeal.main (F := Ideal))) ⟨m, fun _ => 0, g⟩ (fun r => (∀ c : Dev Cert.RetKVRefIdeal.nD,
      r.2.mem ((c.tc : Thread Cert.RetKVRefIdeal.nD Cert.RetKVRefIdeal.τ).loc Cert.RetKVRefIdeal.main_arg0) = m ((c.tc : Thread Cert.RetKVRefIdeal.nD Cert.RetKVRefIdeal.τ).loc Cert.RetKVRefIdeal.main_arg0)
      ∧ r.2.mem ((c.tc : Thread Cert.RetKVRefIdeal.nD Cert.RetKVRefIdeal.τ).loc Cert.RetKVRefIdeal.main_arg1) = m ((c.tc : Thread Cert.RetKVRefIdeal.nD Cert.RetKVRefIdeal.τ).loc Cert.RetKVRefIdeal.main_arg1)
      ∧ r.2.mem ((c.tc : Thread Cert.RetKVRefIdeal.nD Cert.RetKVRefIdeal.τ).loc Cert.RetKVRefIdeal.main_arg2) = m ((c.tc : Thread Cert.RetKVRefIdeal.nD Cert.RetKVRefIdeal.τ).loc Cert.RetKVRefIdeal.main_arg2)
      ∧ r.2.mem ((c.tc : Thread Cert.RetKVRefIdeal.nD Cert.RetKVRefIdeal.τ).loc Cert.RetKVRefIdeal.main_arg3) = m ((c.tc : Thread Cert.RetKVRefIdeal.nD Cert.RetKVRefIdeal.τ).loc Cert.RetKVRefIdeal.main_arg3))
      ∧ r.2.sem = fun _ => 0)

def quiescent_RetKVRefIdeal_pre_ret_finite [hRetKVRefIdeal : Cert.RetKVRefIdeal.Facts] [hPre_ret_finite : Cert.Pre_ret_finite.Facts] : Prop :=
  ∀ (m : (ℓ : Loc Cert.RetKVRefIdeal.nD Cert.RetKVRefIdeal.τ Cert.RetKVRefIdeal.sig) → Buf (Elt Ideal) ℓ) (g : Dev Cert.RetKVRefIdeal.nD → PrngReg), Pre_RetKVRefIdeal_ret_finite m →
    θ_run (Cert.RetKVRefIdeal.defs (F := Ideal)) (onTc (τ := Cert.RetKVRefIdeal.τ) (Cert.RetKVRefIdeal.main (F := Ideal))) ⟨m, fun _ => 0, g⟩ (fun r => (∀ c : Dev Cert.RetKVRefIdeal.nD,
      r.2.mem ((c.tc : Thread Cert.RetKVRefIdeal.nD Cert.RetKVRefIdeal.τ).loc Cert.RetKVRefIdeal.main_arg0) = m ((c.tc : Thread Cert.RetKVRefIdeal.nD Cert.RetKVRefIdeal.τ).loc Cert.RetKVRefIdeal.main_arg0)
      ∧ r.2.mem ((c.tc : Thread Cert.RetKVRefIdeal.nD Cert.RetKVRefIdeal.τ).loc Cert.RetKVRefIdeal.main_arg1) = m ((c.tc : Thread Cert.RetKVRefIdeal.nD Cert.RetKVRefIdeal.τ).loc Cert.RetKVRefIdeal.main_arg1)
      ∧ r.2.mem ((c.tc : Thread Cert.RetKVRefIdeal.nD Cert.RetKVRefIdeal.τ).loc Cert.RetKVRefIdeal.main_arg2) = m ((c.tc : Thread Cert.RetKVRefIdeal.nD Cert.RetKVRefIdeal.τ).loc Cert.RetKVRefIdeal.main_arg2)
      ∧ r.2.mem ((c.tc : Thread Cert.RetKVRefIdeal.nD Cert.RetKVRefIdeal.τ).loc Cert.RetKVRefIdeal.main_arg3) = m ((c.tc : Thread Cert.RetKVRefIdeal.nD Cert.RetKVRefIdeal.τ).loc Cert.RetKVRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_InBwdRefIdeal_pre_in_finite [hInBwdRefIdeal : Cert.InBwdRefIdeal.Facts] [hPre_in_finite : Cert.Pre_in_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_Ff1Bwd [hFf1Bwd : Cert.Ff1Bwd.Facts] : Prop :=
  ∀ (m : (ℓ : Loc Cert.Ff1Bwd.nD Cert.Ff1Bwd.τ Cert.Ff1Bwd.sig) → Buf (Elt Bits) ℓ) (g : Dev Cert.Ff1Bwd.nD → PrngReg), Pre_Ff1Bwd m →
    θ_run (Cert.Ff1Bwd.defs (F := Bits)) (onTc (τ := Cert.Ff1Bwd.τ) (Cert.Ff1Bwd.main (F := Bits))) ⟨m, fun _ => 0, g⟩ (fun r => (∀ c : Dev Cert.Ff1Bwd.nD,
      r.2.mem ((c.tc : Thread Cert.Ff1Bwd.nD Cert.Ff1Bwd.τ).loc Cert.Ff1Bwd.main_arg0) = m ((c.tc : Thread Cert.Ff1Bwd.nD Cert.Ff1Bwd.τ).loc Cert.Ff1Bwd.main_arg0)
      ∧ r.2.mem ((c.tc : Thread Cert.Ff1Bwd.nD Cert.Ff1Bwd.τ).loc Cert.Ff1Bwd.main_arg1) = m ((c.tc : Thread Cert.Ff1Bwd.nD Cert.Ff1Bwd.τ).loc Cert.Ff1Bwd.main_arg1)
      ∧ r.2.mem ((c.tc : Thread Cert.Ff1Bwd.nD Cert.Ff1Bwd.τ).loc Cert.Ff1Bwd.main_arg2) = m ((c.tc : Thread Cert.Ff1Bwd.nD Cert.Ff1Bwd.τ).loc Cert.Ff1Bwd.main_arg2)
      ∧ r.2.mem ((c.tc : Thread Cert.Ff1Bwd.nD Cert.Ff1Bwd.τ).loc Cert.Ff1Bwd.main_arg3) = m ((c.tc : Thread Cert.Ff1Bwd.nD Cert.Ff1Bwd.τ).loc Cert.Ff1Bwd.main_arg3)
      ∧ r.2.mem ((c.tc : Thread Cert.Ff1Bwd.nD Cert.Ff1Bwd.τ).loc Cert.Ff1Bwd.main_arg4) = m ((c.tc : Thread Cert.Ff1Bwd.nD Cert.Ff1Bwd.τ).loc Cert.Ff1Bwd.main_arg4)
      ∧ r.2.mem ((c.tc : Thread Cert.Ff1Bwd.nD Cert.Ff1Bwd.τ).loc Cert.Ff1Bwd.main_arg5) = m ((c.tc : Thread Cert.Ff1Bwd.nD Cert.Ff1Bwd.τ).loc Cert.Ff1Bwd.main_arg5)
      ∧ r.2.mem ((c.tc : Thread Cert.Ff1Bwd.nD Cert.Ff1Bwd.τ).loc Cert.Ff1Bwd.main_arg6) = m ((c.tc : Thread Cert.Ff1Bwd.nD Cert.Ff1Bwd.τ).loc Cert.Ff1Bwd.main_arg6)
      ∧ r.2.mem ((c.tc : Thread Cert.Ff1Bwd.nD Cert.Ff1Bwd.τ).loc Cert.Ff1Bwd.main_arg7) = m ((c.tc : Thread Cert.Ff1Bwd.nD Cert.Ff1Bwd.τ).loc Cert.Ff1Bwd.main_arg7)
      ∧ r.2.mem ((c.tc : Thread Cert.Ff1Bwd.nD Cert.Ff1Bwd.τ).loc Cert.Ff1Bwd.main_arg8) = m ((c.tc : Thread Cert.Ff1Bwd.nD Cert.Ff1Bwd.τ).loc Cert.Ff1Bwd.main_arg8))
      ∧ r.2.sem = fun _ => 0)

def quiescent_Ff1BwdIdeal [hFf1BwdIdeal : Cert.Ff1BwdIdeal.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg), Pre_Ff1BwdIdeal m →
    θ_run (Cert.Ff1BwdIdeal.defs (F := Ideal)) (onTc (τ := Cert.Ff1BwdIdeal.τ) (Cert.Ff1BwdIdeal.main (F := Ideal))) ⟨m, fun _ => 0, g⟩ (fun r => (∀ c : Dev Cert.Ff1BwdIdeal.nD,
      r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
      ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
      ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2)
      ∧ r.2.mem ((c.tc : Thread Cert.Ff1BwdIdeal.nD Cert.Ff1BwdIdeal.τ).loc Cert.Ff1BwdIdeal.main_arg3) = m ((c.tc : Thread Cert.Ff1BwdIdeal.nD Cert.Ff1BwdIdeal.τ).loc Cert.Ff1BwdIdeal.main_arg3)
      ∧ r.2.mem ((c.tc : Thread Cert.Ff1BwdIdeal.nD Cert.Ff1BwdIdeal.τ).loc Cert.Ff1BwdIdeal.main_arg4) = m ((c.tc : Thread Cert.Ff1BwdIdeal.nD Cert.Ff1BwdIdeal.τ).loc Cert.Ff1BwdIdeal.main_arg4)
      ∧ r.2.mem ((c.tc : Thread Cert.Ff1BwdIdeal.nD Cert.Ff1BwdIdeal.τ).loc Cert.Ff1BwdIdeal.main_arg5) = m ((c.tc : Thread Cert.Ff1BwdIdeal.nD Cert.Ff1BwdIdeal.τ).loc Cert.Ff1BwdIdeal.main_arg5)
      ∧ r.2.mem ((c.tc : Thread Cert.Ff1BwdIdeal.nD Cert.Ff1BwdIdeal.τ).loc Cert.Ff1BwdIdeal.main_arg6) = m ((c.tc : Thread Cert.Ff1BwdIdeal.nD Cert.Ff1BwdIdeal.τ).loc Cert.Ff1BwdIdeal.main_arg6)
      ∧ r.2.mem ((c.tc : Thread Cert.Ff1BwdIdeal.nD Cert.Ff1BwdIdeal.τ).loc Cert.Ff1BwdIdeal.main_arg7) = m ((c.tc : Thread Cert.Ff1BwdIdeal.nD Cert.Ff1BwdIdeal.τ).loc Cert.Ff1BwdIdeal.main_arg7)
      ∧ r.2.mem ((c.tc : Thread Cert.Ff1BwdIdeal.nD Cert.Ff1BwdIdeal.τ).loc Cert.Ff1BwdIdeal.main_arg8) = m ((c.tc : Thread Cert.Ff1BwdIdeal.nD Cert.Ff1BwdIdeal.τ).loc Cert.Ff1BwdIdeal.main_arg8))
      ∧ r.2.sem = fun _ => 0)

def quiescent_Ff1BwdIdeal_pre_ff1_finite [hFf1BwdIdeal : Cert.Ff1BwdIdeal.Facts] [hPre_ff1_finite : Cert.Pre_ff1_finite.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg), Pre_Ff1BwdIdeal_ff1_finite m →
    θ_run (Cert.Ff1BwdIdeal.defs (F := Ideal)) (onTc (τ := Cert.Ff1BwdIdeal.τ) (Cert.Ff1BwdIdeal.main (F := Ideal))) ⟨m, fun _ => 0, g⟩ (fun r => (∀ c : Dev Cert.Ff1BwdIdeal.nD,
      r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
      ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
      ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2)
      ∧ r.2.mem ((c.tc : Thread Cert.Ff1BwdIdeal.nD Cert.Ff1BwdIdeal.τ).loc Cert.Ff1BwdIdeal.main_arg3) = m ((c.tc : Thread Cert.Ff1BwdIdeal.nD Cert.Ff1BwdIdeal.τ).loc Cert.Ff1BwdIdeal.main_arg3)
      ∧ r.2.mem ((c.tc : Thread Cert.Ff1BwdIdeal.nD Cert.Ff1BwdIdeal.τ).loc Cert.Ff1BwdIdeal.main_arg4) = m ((c.tc : Thread Cert.Ff1BwdIdeal.nD Cert.Ff1BwdIdeal.τ).loc Cert.Ff1BwdIdeal.main_arg4)
      ∧ r.2.mem ((c.tc : Thread Cert.Ff1BwdIdeal.nD Cert.Ff1BwdIdeal.τ).loc Cert.Ff1BwdIdeal.main_arg5) = m ((c.tc : Thread Cert.Ff1BwdIdeal.nD Cert.Ff1BwdIdeal.τ).loc Cert.Ff1BwdIdeal.main_arg5)
      ∧ r.2.mem ((c.tc : Thread Cert.Ff1BwdIdeal.nD Cert.Ff1BwdIdeal.τ).loc Cert.Ff1BwdIdeal.main_arg6) = m ((c.tc : Thread Cert.Ff1BwdIdeal.nD Cert.Ff1BwdIdeal.τ).loc Cert.Ff1BwdIdeal.main_arg6)
      ∧ r.2.mem ((c.tc : Thread Cert.Ff1BwdIdeal.nD Cert.Ff1BwdIdeal.τ).loc Cert.Ff1BwdIdeal.main_arg7) = m ((c.tc : Thread Cert.Ff1BwdIdeal.nD Cert.Ff1BwdIdeal.τ).loc Cert.Ff1BwdIdeal.main_arg7)
      ∧ r.2.mem ((c.tc : Thread Cert.Ff1BwdIdeal.nD Cert.Ff1BwdIdeal.τ).loc Cert.Ff1BwdIdeal.main_arg8) = m ((c.tc : Thread Cert.Ff1BwdIdeal.nD Cert.Ff1BwdIdeal.τ).loc Cert.Ff1BwdIdeal.main_arg8))
      ∧ r.2.sem = fun _ => 0)

def quiescent_Ff1BwdRefIdeal [hFf1BwdRefIdeal : Cert.Ff1BwdRefIdeal.Facts] : Prop :=
  ∀ (m : (ℓ : Loc Cert.Ff1BwdRefIdeal.nD Cert.Ff1BwdRefIdeal.τ Cert.Ff1BwdRefIdeal.sig) → Buf (Elt Ideal) ℓ) (g : Dev Cert.Ff1BwdRefIdeal.nD → PrngReg), Pre_Ff1BwdRefIdeal m →
    θ_run (Cert.Ff1BwdRefIdeal.defs (F := Ideal)) (onTc (τ := Cert.Ff1BwdRefIdeal.τ) (Cert.Ff1BwdRefIdeal.main (F := Ideal))) ⟨m, fun _ => 0, g⟩ (fun r => (∀ c : Dev Cert.Ff1BwdRefIdeal.nD,
      r.2.mem ((c.tc : Thread Cert.Ff1BwdRefIdeal.nD Cert.Ff1BwdRefIdeal.τ).loc Cert.Ff1BwdRefIdeal.main_arg0) = m ((c.tc : Thread Cert.Ff1BwdRefIdeal.nD Cert.Ff1BwdRefIdeal.τ).loc Cert.Ff1BwdRefIdeal.main_arg0)
      ∧ r.2.mem ((c.tc : Thread Cert.Ff1BwdRefIdeal.nD Cert.Ff1BwdRefIdeal.τ).loc Cert.Ff1BwdRefIdeal.main_arg1) = m ((c.tc : Thread Cert.Ff1BwdRefIdeal.nD Cert.Ff1BwdRefIdeal.τ).loc Cert.Ff1BwdRefIdeal.main_arg1)
      ∧ r.2.mem ((c.tc : Thread Cert.Ff1BwdRefIdeal.nD Cert.Ff1BwdRefIdeal.τ).loc Cert.Ff1BwdRefIdeal.main_arg2) = m ((c.tc : Thread Cert.Ff1BwdRefIdeal.nD Cert.Ff1BwdRefIdeal.τ).loc Cert.Ff1BwdRefIdeal.main_arg2)
      ∧ r.2.mem ((c.tc : Thread Cert.Ff1BwdRefIdeal.nD Cert.Ff1BwdRefIdeal.τ).loc Cert.Ff1BwdRefIdeal.main_arg3) = m ((c.tc : Thread Cert.Ff1BwdRefIdeal.nD Cert.Ff1BwdRefIdeal.τ).loc Cert.Ff1BwdRefIdeal.main_arg3)
      ∧ r.2.mem ((c.tc : Thread Cert.Ff1BwdRefIdeal.nD Cert.Ff1BwdRefIdeal.τ).loc Cert.Ff1BwdRefIdeal.main_arg4) = m ((c.tc : Thread Cert.Ff1BwdRefIdeal.nD Cert.Ff1BwdRefIdeal.τ).loc Cert.Ff1BwdRefIdeal.main_arg4)
      ∧ r.2.mem ((c.tc : Thread Cert.Ff1BwdRefIdeal.nD Cert.Ff1BwdRefIdeal.τ).loc Cert.Ff1BwdRefIdeal.main_arg5) = m ((c.tc : Thread Cert.Ff1BwdRefIdeal.nD Cert.Ff1BwdRefIdeal.τ).loc Cert.Ff1BwdRefIdeal.main_arg5)
      ∧ r.2.mem ((c.tc : Thread Cert.Ff1BwdRefIdeal.nD Cert.Ff1BwdRefIdeal.τ).loc Cert.Ff1BwdRefIdeal.main_arg6) = m ((c.tc : Thread Cert.Ff1BwdRefIdeal.nD Cert.Ff1BwdRefIdeal.τ).loc Cert.Ff1BwdRefIdeal.main_arg6)
      ∧ r.2.mem ((c.tc : Thread Cert.Ff1BwdRefIdeal.nD Cert.Ff1BwdRefIdeal.τ).loc Cert.Ff1BwdRefIdeal.main_arg7) = m ((c.tc : Thread Cert.Ff1BwdRefIdeal.nD Cert.Ff1BwdRefIdeal.τ).loc Cert.Ff1BwdRefIdeal.main_arg7)
      ∧ r.2.mem ((c.tc : Thread Cert.Ff1BwdRefIdeal.nD Cert.Ff1BwdRefIdeal.τ).loc Cert.Ff1BwdRefIdeal.main_arg8) = m ((c.tc : Thread Cert.Ff1BwdRefIdeal.nD Cert.Ff1BwdRefIdeal.τ).loc Cert.Ff1BwdRefIdeal.main_arg8))
      ∧ r.2.sem = fun _ => 0)

def quiescent_Ff1BwdRefIdeal_pre_ff1_finite [hFf1BwdRefIdeal : Cert.Ff1BwdRefIdeal.Facts] [hPre_ff1_finite : Cert.Pre_ff1_finite.Facts] : Prop :=
  ∀ (m : (ℓ : Loc Cert.Ff1BwdRefIdeal.nD Cert.Ff1BwdRefIdeal.τ Cert.Ff1BwdRefIdeal.sig) → Buf (Elt Ideal) ℓ) (g : Dev Cert.Ff1BwdRefIdeal.nD → PrngReg), Pre_Ff1BwdRefIdeal_ff1_finite m →
    θ_run (Cert.Ff1BwdRefIdeal.defs (F := Ideal)) (onTc (τ := Cert.Ff1BwdRefIdeal.τ) (Cert.Ff1BwdRefIdeal.main (F := Ideal))) ⟨m, fun _ => 0, g⟩ (fun r => (∀ c : Dev Cert.Ff1BwdRefIdeal.nD,
      r.2.mem ((c.tc : Thread Cert.Ff1BwdRefIdeal.nD Cert.Ff1BwdRefIdeal.τ).loc Cert.Ff1BwdRefIdeal.main_arg0) = m ((c.tc : Thread Cert.Ff1BwdRefIdeal.nD Cert.Ff1BwdRefIdeal.τ).loc Cert.Ff1BwdRefIdeal.main_arg0)
      ∧ r.2.mem ((c.tc : Thread Cert.Ff1BwdRefIdeal.nD Cert.Ff1BwdRefIdeal.τ).loc Cert.Ff1BwdRefIdeal.main_arg1) = m ((c.tc : Thread Cert.Ff1BwdRefIdeal.nD Cert.Ff1BwdRefIdeal.τ).loc Cert.Ff1BwdRefIdeal.main_arg1)
      ∧ r.2.mem ((c.tc : Thread Cert.Ff1BwdRefIdeal.nD Cert.Ff1BwdRefIdeal.τ).loc Cert.Ff1BwdRefIdeal.main_arg2) = m ((c.tc : Thread Cert.Ff1BwdRefIdeal.nD Cert.Ff1BwdRefIdeal.τ).loc Cert.Ff1BwdRefIdeal.main_arg2)
      ∧ r.2.mem ((c.tc : Thread Cert.Ff1BwdRefIdeal.nD Cert.Ff1BwdRefIdeal.τ).loc Cert.Ff1BwdRefIdeal.main_arg3) = m ((c.tc : Thread Cert.Ff1BwdRefIdeal.nD Cert.Ff1BwdRefIdeal.τ).loc Cert.Ff1BwdRefIdeal.main_arg3)
      ∧ r.2.mem ((c.tc : Thread Cert.Ff1BwdRefIdeal.nD Cert.Ff1BwdRefIdeal.τ).loc Cert.Ff1BwdRefIdeal.main_arg4) = m ((c.tc : Thread Cert.Ff1BwdRefIdeal.nD Cert.Ff1BwdRefIdeal.τ).loc Cert.Ff1BwdRefIdeal.main_arg4)
      ∧ r.2.mem ((c.tc : Thread Cert.Ff1BwdRefIdeal.nD Cert.Ff1BwdRefIdeal.τ).loc Cert.Ff1BwdRefIdeal.main_arg5) = m ((c.tc : Thread Cert.Ff1BwdRefIdeal.nD Cert.Ff1BwdRefIdeal.τ).loc Cert.Ff1BwdRefIdeal.main_arg5)
      ∧ r.2.mem ((c.tc : Thread Cert.Ff1BwdRefIdeal.nD Cert.Ff1BwdRefIdeal.τ).loc Cert.Ff1BwdRefIdeal.main_arg6) = m ((c.tc : Thread Cert.Ff1BwdRefIdeal.nD Cert.Ff1BwdRefIdeal.τ).loc Cert.Ff1BwdRefIdeal.main_arg6)
      ∧ r.2.mem ((c.tc : Thread Cert.Ff1BwdRefIdeal.nD Cert.Ff1BwdRefIdeal.τ).loc Cert.Ff1BwdRefIdeal.main_arg7) = m ((c.tc : Thread Cert.Ff1BwdRefIdeal.nD Cert.Ff1BwdRefIdeal.τ).loc Cert.Ff1BwdRefIdeal.main_arg7)
      ∧ r.2.mem ((c.tc : Thread Cert.Ff1BwdRefIdeal.nD Cert.Ff1BwdRefIdeal.τ).loc Cert.Ff1BwdRefIdeal.main_arg8) = m ((c.tc : Thread Cert.Ff1BwdRefIdeal.nD Cert.Ff1BwdRefIdeal.τ).loc Cert.Ff1BwdRefIdeal.main_arg8))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6)
      ∧ r.2.mem ((c.tc : Thread Cert.Branch.nD Cert.Branch.τ).loc Cert.Branch.main_arg7) = m ((c.tc : Thread Cert.Branch.nD Cert.Branch.τ).loc Cert.Branch.main_arg7))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6)
      ∧ r.2.mem ((c.tc : Thread Cert.BranchIdeal.nD Cert.BranchIdeal.τ).loc Cert.BranchIdeal.main_arg7) = m ((c.tc : Thread Cert.BranchIdeal.nD Cert.BranchIdeal.τ).loc Cert.BranchIdeal.main_arg7))
      ∧ r.2.sem = fun _ => 0)

def quiescent_BranchIdeal_pre_branch_finite [hBranchIdeal : Cert.BranchIdeal.Facts] [hPre_branch_finite : Cert.Pre_branch_finite.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal_branch_finite m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6)
      ∧ r.2.mem ((c.tc : Thread Cert.BranchIdeal.nD Cert.BranchIdeal.τ).loc Cert.BranchIdeal.main_arg7) = m ((c.tc : Thread Cert.BranchIdeal.nD Cert.BranchIdeal.τ).loc Cert.BranchIdeal.main_arg7))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6)
      ∧ r.2.mem ((c.tc : Thread Cert.BranchRefIdeal.nD Cert.BranchRefIdeal.τ).loc Cert.BranchRefIdeal.main_arg7) = m ((c.tc : Thread Cert.BranchRefIdeal.nD Cert.BranchRefIdeal.τ).loc Cert.BranchRefIdeal.main_arg7))
      ∧ r.2.sem = fun _ => 0)

def quiescent_BranchRefIdeal_pre_branch_finite [hBranchRefIdeal : Cert.BranchRefIdeal.Facts] [hPre_branch_finite : Cert.Pre_branch_finite.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal_branch_finite m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6)
      ∧ r.2.mem ((c.tc : Thread Cert.BranchRefIdeal.nD Cert.BranchRefIdeal.τ).loc Cert.BranchRefIdeal.main_arg7) = m ((c.tc : Thread Cert.BranchRefIdeal.nD Cert.BranchRefIdeal.τ).loc Cert.BranchRefIdeal.main_arg7))
      ∧ r.2.sem = fun _ => 0)

def quiescent_Assemble [hAssemble : Cert.Assemble.Facts] : Prop :=
  ∀ (m : (ℓ : Loc Cert.Assemble.nD Cert.Assemble.τ Cert.Assemble.sig) → Buf (Elt Bits) ℓ) (g : Dev Cert.Assemble.nD → PrngReg), Pre_Assemble m →
    θ_run (Cert.Assemble.defs (F := Bits)) (onTc (τ := Cert.Assemble.τ) (Cert.Assemble.main (F := Bits))) ⟨m, fun _ => 0, g⟩ (fun r => (∀ c : Dev Cert.Assemble.nD,
      r.2.mem ((c.tc : Thread Cert.Assemble.nD Cert.Assemble.τ).loc Cert.Assemble.main_arg0) = m ((c.tc : Thread Cert.Assemble.nD Cert.Assemble.τ).loc Cert.Assemble.main_arg0)
      ∧ r.2.mem ((c.tc : Thread Cert.Assemble.nD Cert.Assemble.τ).loc Cert.Assemble.main_arg1) = m ((c.tc : Thread Cert.Assemble.nD Cert.Assemble.τ).loc Cert.Assemble.main_arg1)
      ∧ r.2.mem ((c.tc : Thread Cert.Assemble.nD Cert.Assemble.τ).loc Cert.Assemble.main_arg2) = m ((c.tc : Thread Cert.Assemble.nD Cert.Assemble.τ).loc Cert.Assemble.main_arg2)
      ∧ r.2.mem ((c.tc : Thread Cert.Assemble.nD Cert.Assemble.τ).loc Cert.Assemble.main_arg3) = m ((c.tc : Thread Cert.Assemble.nD Cert.Assemble.τ).loc Cert.Assemble.main_arg3)
      ∧ r.2.mem ((c.tc : Thread Cert.Assemble.nD Cert.Assemble.τ).loc Cert.Assemble.main_arg4) = m ((c.tc : Thread Cert.Assemble.nD Cert.Assemble.τ).loc Cert.Assemble.main_arg4)
      ∧ r.2.mem ((c.tc : Thread Cert.Assemble.nD Cert.Assemble.τ).loc Cert.Assemble.main_arg5) = m ((c.tc : Thread Cert.Assemble.nD Cert.Assemble.τ).loc Cert.Assemble.main_arg5)
      ∧ r.2.mem ((c.tc : Thread Cert.Assemble.nD Cert.Assemble.τ).loc Cert.Assemble.main_arg6) = m ((c.tc : Thread Cert.Assemble.nD Cert.Assemble.τ).loc Cert.Assemble.main_arg6)
      ∧ r.2.mem ((c.tc : Thread Cert.Assemble.nD Cert.Assemble.τ).loc Cert.Assemble.main_arg7) = m ((c.tc : Thread Cert.Assemble.nD Cert.Assemble.τ).loc Cert.Assemble.main_arg7)
      ∧ r.2.mem ((c.tc : Thread Cert.Assemble.nD Cert.Assemble.τ).loc Cert.Assemble.main_arg8) = m ((c.tc : Thread Cert.Assemble.nD Cert.Assemble.τ).loc Cert.Assemble.main_arg8)
      ∧ r.2.mem ((c.tc : Thread Cert.Assemble.nD Cert.Assemble.τ).loc Cert.Assemble.main_arg9) = m ((c.tc : Thread Cert.Assemble.nD Cert.Assemble.τ).loc Cert.Assemble.main_arg9))
      ∧ r.2.sem = fun _ => 0)

def quiescent_AssembleIdeal [hAssembleIdeal : Cert.AssembleIdeal.Facts] : Prop :=
  ∀ (m : (ℓ : Loc Cert.AssembleIdeal.nD Cert.AssembleIdeal.τ Cert.AssembleIdeal.sig) → Buf (Elt Ideal) ℓ) (g : Dev Cert.AssembleIdeal.nD → PrngReg), Pre_AssembleIdeal m →
    θ_run (Cert.AssembleIdeal.defs (F := Ideal)) (onTc (τ := Cert.AssembleIdeal.τ) (Cert.AssembleIdeal.main (F := Ideal))) ⟨m, fun _ => 0, g⟩ (fun r => (∀ c : Dev Cert.AssembleIdeal.nD,
      r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
      ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1)
      ∧ r.2.mem ((c.tc : Thread Cert.AssembleIdeal.nD Cert.AssembleIdeal.τ).loc Cert.AssembleIdeal.main_arg2) = m ((c.tc : Thread Cert.AssembleIdeal.nD Cert.AssembleIdeal.τ).loc Cert.AssembleIdeal.main_arg2)
      ∧ r.2.mem ((c.tc : Thread Cert.AssembleIdeal.nD Cert.AssembleIdeal.τ).loc Cert.AssembleIdeal.main_arg3) = m ((c.tc : Thread Cert.AssembleIdeal.nD Cert.AssembleIdeal.τ).loc Cert.AssembleIdeal.main_arg3)
      ∧ r.2.mem ((c.tc : Thread Cert.AssembleIdeal.nD Cert.AssembleIdeal.τ).loc Cert.AssembleIdeal.main_arg4) = m ((c.tc : Thread Cert.AssembleIdeal.nD Cert.AssembleIdeal.τ).loc Cert.AssembleIdeal.main_arg4)
      ∧ r.2.mem ((c.tc : Thread Cert.AssembleIdeal.nD Cert.AssembleIdeal.τ).loc Cert.AssembleIdeal.main_arg5) = m ((c.tc : Thread Cert.AssembleIdeal.nD Cert.AssembleIdeal.τ).loc Cert.AssembleIdeal.main_arg5)
      ∧ r.2.mem ((c.tc : Thread Cert.AssembleIdeal.nD Cert.AssembleIdeal.τ).loc Cert.AssembleIdeal.main_arg6) = m ((c.tc : Thread Cert.AssembleIdeal.nD Cert.AssembleIdeal.τ).loc Cert.AssembleIdeal.main_arg6)
      ∧ r.2.mem ((c.tc : Thread Cert.AssembleIdeal.nD Cert.AssembleIdeal.τ).loc Cert.AssembleIdeal.main_arg7) = m ((c.tc : Thread Cert.AssembleIdeal.nD Cert.AssembleIdeal.τ).loc Cert.AssembleIdeal.main_arg7)
      ∧ r.2.mem ((c.tc : Thread Cert.AssembleIdeal.nD Cert.AssembleIdeal.τ).loc Cert.AssembleIdeal.main_arg8) = m ((c.tc : Thread Cert.AssembleIdeal.nD Cert.AssembleIdeal.τ).loc Cert.AssembleIdeal.main_arg8)
      ∧ r.2.mem ((c.tc : Thread Cert.AssembleIdeal.nD Cert.AssembleIdeal.τ).loc Cert.AssembleIdeal.main_arg9) = m ((c.tc : Thread Cert.AssembleIdeal.nD Cert.AssembleIdeal.τ).loc Cert.AssembleIdeal.main_arg9))
      ∧ r.2.sem = fun _ => 0)

def quiescent_AssembleRefIdeal [hAssembleRefIdeal : Cert.AssembleRefIdeal.Facts] : Prop :=
  ∀ (m : (ℓ : Loc Cert.AssembleRefIdeal.nD Cert.AssembleRefIdeal.τ Cert.AssembleRefIdeal.sig) → Buf (Elt Ideal) ℓ) (g : Dev Cert.AssembleRefIdeal.nD → PrngReg), Pre_AssembleRefIdeal m →
    θ_run (Cert.AssembleRefIdeal.defs (F := Ideal)) (onTc (τ := Cert.AssembleRefIdeal.τ) (Cert.AssembleRefIdeal.main (F := Ideal))) ⟨m, fun _ => 0, g⟩ (fun r => (∀ c : Dev Cert.AssembleRefIdeal.nD,
      r.2.mem ((c.tc : Thread Cert.AssembleRefIdeal.nD Cert.AssembleRefIdeal.τ).loc Cert.AssembleRefIdeal.main_arg0) = m ((c.tc : Thread Cert.AssembleRefIdeal.nD Cert.AssembleRefIdeal.τ).loc Cert.AssembleRefIdeal.main_arg0)
      ∧ r.2.mem ((c.tc : Thread Cert.AssembleRefIdeal.nD Cert.AssembleRefIdeal.τ).loc Cert.AssembleRefIdeal.main_arg1) = m ((c.tc : Thread Cert.AssembleRefIdeal.nD Cert.AssembleRefIdeal.τ).loc Cert.AssembleRefIdeal.main_arg1)
      ∧ r.2.mem ((c.tc : Thread Cert.AssembleRefIdeal.nD Cert.AssembleRefIdeal.τ).loc Cert.AssembleRefIdeal.main_arg2) = m ((c.tc : Thread Cert.AssembleRefIdeal.nD Cert.AssembleRefIdeal.τ).loc Cert.AssembleRefIdeal.main_arg2)
      ∧ r.2.mem ((c.tc : Thread Cert.AssembleRefIdeal.nD Cert.AssembleRefIdeal.τ).loc Cert.AssembleRefIdeal.main_arg3) = m ((c.tc : Thread Cert.AssembleRefIdeal.nD Cert.AssembleRefIdeal.τ).loc Cert.AssembleRefIdeal.main_arg3)
      ∧ r.2.mem ((c.tc : Thread Cert.AssembleRefIdeal.nD Cert.AssembleRefIdeal.τ).loc Cert.AssembleRefIdeal.main_arg4) = m ((c.tc : Thread Cert.AssembleRefIdeal.nD Cert.AssembleRefIdeal.τ).loc Cert.AssembleRefIdeal.main_arg4)
      ∧ r.2.mem ((c.tc : Thread Cert.AssembleRefIdeal.nD Cert.AssembleRefIdeal.τ).loc Cert.AssembleRefIdeal.main_arg5) = m ((c.tc : Thread Cert.AssembleRefIdeal.nD Cert.AssembleRefIdeal.τ).loc Cert.AssembleRefIdeal.main_arg5)
      ∧ r.2.mem ((c.tc : Thread Cert.AssembleRefIdeal.nD Cert.AssembleRefIdeal.τ).loc Cert.AssembleRefIdeal.main_arg6) = m ((c.tc : Thread Cert.AssembleRefIdeal.nD Cert.AssembleRefIdeal.τ).loc Cert.AssembleRefIdeal.main_arg6)
      ∧ r.2.mem ((c.tc : Thread Cert.AssembleRefIdeal.nD Cert.AssembleRefIdeal.τ).loc Cert.AssembleRefIdeal.main_arg7) = m ((c.tc : Thread Cert.AssembleRefIdeal.nD Cert.AssembleRefIdeal.τ).loc Cert.AssembleRefIdeal.main_arg7)
      ∧ r.2.mem ((c.tc : Thread Cert.AssembleRefIdeal.nD Cert.AssembleRefIdeal.τ).loc Cert.AssembleRefIdeal.main_arg8) = m ((c.tc : Thread Cert.AssembleRefIdeal.nD Cert.AssembleRefIdeal.τ).loc Cert.AssembleRefIdeal.main_arg8)
      ∧ r.2.mem ((c.tc : Thread Cert.AssembleRefIdeal.nD Cert.AssembleRefIdeal.τ).loc Cert.AssembleRefIdeal.main_arg9) = m ((c.tc : Thread Cert.AssembleRefIdeal.nD Cert.AssembleRefIdeal.τ).loc Cert.AssembleRefIdeal.main_arg9))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v5_0)) (v1 : (c : Dev Cert.GateIdeal.nD) → Buf (Elt Ideal) ((c.tc : Thread Cert.GateIdeal.nD Cert.GateIdeal.τ).loc Cert.GateIdeal.main_v5_1)) (v2 : (c : Dev Cert.GateIdeal.nD) → Buf (Elt Ideal) ((c.tc : Thread Cert.GateIdeal.nD Cert.GateIdeal.τ).loc Cert.GateIdeal.main_v5_2)) (v3 : (c : Dev Cert.GateIdeal.nD) → Buf (Elt Ideal) ((c.tc : Thread Cert.GateIdeal.nD Cert.GateIdeal.τ).loc Cert.GateIdeal.main_v5_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5_0) = v0 c
          ∧ r.2.mem ((c.tc : Thread Cert.GateIdeal.nD Cert.GateIdeal.τ).loc Cert.GateIdeal.main_v5_1) = v1 c
          ∧ r.2.mem ((c.tc : Thread Cert.GateIdeal.nD Cert.GateIdeal.τ).loc Cert.GateIdeal.main_v5_2) = v2 c
          ∧ r.2.mem ((c.tc : Thread Cert.GateIdeal.nD Cert.GateIdeal.τ).loc Cert.GateIdeal.main_v5_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v31) = v0 c
          ∧ r.2.mem ((c.tc : Thread Cert.GateRefIdeal.nD Cert.GateRefIdeal.τ).loc Cert.GateRefIdeal.main_v32) = v1 c
          ∧ r.2.mem ((c.tc : Thread Cert.GateRefIdeal.nD Cert.GateRefIdeal.τ).loc Cert.GateRefIdeal.main_v33) = v2 c
          ∧ r.2.mem ((c.tc : Thread Cert.GateRefIdeal.nD Cert.GateRefIdeal.τ).loc Cert.GateRefIdeal.main_v34) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_StickGrad_StickGradIdeal : Prop :=
  True

def algebraic_StickGradIdeal_StickGradRefIdeal_pre_stick_finite [hStickGradIdeal : Cert.StickGradIdeal.Facts] [hStickGradRefIdeal : Cert.StickGradRefIdeal.Facts] [hPre_stick_finite : Cert.Pre_stick_finite.Facts] : Prop :=
  ∀ (m : (ℓ : Loc Cert.StickGradIdeal.nD Cert.StickGradIdeal.τ Cert.StickGradIdeal.sig) → Buf (Elt Ideal) ℓ) (g : Dev Cert.StickGradIdeal.nD → PrngReg)
    (m' : (ℓ : Loc Cert.StickGradRefIdeal.nD Cert.StickGradRefIdeal.τ Cert.StickGradRefIdeal.sig) → Buf (Elt Ideal) ℓ) (g' : Dev Cert.StickGradRefIdeal.nD → PrngReg), Pre_StickGradIdeal_stick_finite m →
    (∀ c : Dev Cert.StickGradIdeal.nD,
      m' ((c.tc : Thread Cert.StickGradRefIdeal.nD Cert.StickGradRefIdeal.τ).loc Cert.StickGradRefIdeal.main_arg0) = m ((c.tc : Thread Cert.StickGradIdeal.nD Cert.StickGradIdeal.τ).loc Cert.StickGradIdeal.main_arg0)
      ∧ m' ((c.tc : Thread Cert.StickGradRefIdeal.nD Cert.StickGradRefIdeal.τ).loc Cert.StickGradRefIdeal.main_arg1) = m ((c.tc : Thread Cert.StickGradIdeal.nD Cert.StickGradIdeal.τ).loc Cert.StickGradIdeal.main_arg1)) →
    ∃ (v0 : (c : Dev Cert.StickGradIdeal.nD) → Buf (Elt Ideal) ((c.tc : Thread Cert.StickGradIdeal.nD Cert.StickGradIdeal.τ).loc Cert.StickGradIdeal.main_v35_0)) (v1 : (c : Dev Cert.StickGradIdeal.nD) → Buf (Elt Ideal) ((c.tc : Thread Cert.StickGradIdeal.nD Cert.StickGradIdeal.τ).loc Cert.StickGradIdeal.main_v35_1)) (v2 : (c : Dev Cert.StickGradIdeal.nD) → Buf (Elt Ideal) ((c.tc : Thread Cert.StickGradIdeal.nD Cert.StickGradIdeal.τ).loc Cert.StickGradIdeal.main_v35_2)),
      θ_run (Cert.StickGradIdeal.defs (F := Ideal)) (onTc (τ := Cert.StickGradIdeal.τ) (Cert.StickGradIdeal.main (F := Ideal))) ⟨m, fun _ => 0, g⟩ (fun r => ∀ c : Dev Cert.StickGradIdeal.nD,
          r.2.mem ((c.tc : Thread Cert.StickGradIdeal.nD Cert.StickGradIdeal.τ).loc Cert.StickGradIdeal.main_v35_0) = v0 c
          ∧ r.2.mem ((c.tc : Thread Cert.StickGradIdeal.nD Cert.StickGradIdeal.τ).loc Cert.StickGradIdeal.main_v35_1) = v1 c
          ∧ r.2.mem ((c.tc : Thread Cert.StickGradIdeal.nD Cert.StickGradIdeal.τ).loc Cert.StickGradIdeal.main_v35_2) = v2 c
          ∧ r.2.mem ((c.tc : Thread Cert.StickGradIdeal.nD Cert.StickGradIdeal.τ).loc Cert.StickGradIdeal.main_arg0) = m ((c.tc : Thread Cert.StickGradIdeal.nD Cert.StickGradIdeal.τ).loc Cert.StickGradIdeal.main_arg0)
          ∧ r.2.mem ((c.tc : Thread Cert.StickGradIdeal.nD Cert.StickGradIdeal.τ).loc Cert.StickGradIdeal.main_arg1) = m ((c.tc : Thread Cert.StickGradIdeal.nD Cert.StickGradIdeal.τ).loc Cert.StickGradIdeal.main_arg1))
      ∧ θ_run (Cert.StickGradRefIdeal.defs (F := Ideal)) (onTc (τ := Cert.StickGradRefIdeal.τ) (Cert.StickGradRefIdeal.main (F := Ideal))) ⟨m', fun _ => 0, g'⟩ (fun r => ∀ c : Dev Cert.StickGradRefIdeal.nD,
          r.2.mem ((c.tc : Thread Cert.StickGradRefIdeal.nD Cert.StickGradRefIdeal.τ).loc Cert.StickGradRefIdeal.main_v50) = v0 c
          ∧ r.2.mem ((c.tc : Thread Cert.StickGradRefIdeal.nD Cert.StickGradRefIdeal.τ).loc Cert.StickGradRefIdeal.main_v54) = v1 c
          ∧ r.2.mem ((c.tc : Thread Cert.StickGradRefIdeal.nD Cert.StickGradRefIdeal.τ).loc Cert.StickGradRefIdeal.main_v55) = v2 c
          ∧ r.2.mem ((c.tc : Thread Cert.StickGradRefIdeal.nD Cert.StickGradRefIdeal.τ).loc Cert.StickGradRefIdeal.main_arg0) = m' ((c.tc : Thread Cert.StickGradRefIdeal.nD Cert.StickGradRefIdeal.τ).loc Cert.StickGradRefIdeal.main_arg0)
          ∧ r.2.mem ((c.tc : Thread Cert.StickGradRefIdeal.nD Cert.StickGradRefIdeal.τ).loc Cert.StickGradRefIdeal.main_arg1) = m' ((c.tc : Thread Cert.StickGradRefIdeal.nD Cert.StickGradRefIdeal.τ).loc Cert.StickGradRefIdeal.main_arg1))

def preserves_RetQ_RetQIdeal : Prop :=
  True

def algebraic_RetQIdeal_RetQRefIdeal_pre_ret_finite [hRetQIdeal : Cert.RetQIdeal.Facts] [hRetQRefIdeal : Cert.RetQRefIdeal.Facts] [hPre_ret_finite : Cert.Pre_ret_finite.Facts] : Prop :=
  ∀ (m : (ℓ : Loc Cert.RetQIdeal.nD Cert.RetQIdeal.τ Cert.RetQIdeal.sig) → Buf (Elt Ideal) ℓ) (g : Dev Cert.RetQIdeal.nD → PrngReg)
    (m' : (ℓ : Loc Cert.RetQRefIdeal.nD Cert.RetQRefIdeal.τ Cert.RetQRefIdeal.sig) → Buf (Elt Ideal) ℓ) (g' : Dev Cert.RetQRefIdeal.nD → PrngReg), Pre_RetQIdeal_ret_finite m →
    (∀ c : Dev Cert.RetQIdeal.nD,
      m' ((c.tc : Thread Cert.RetQRefIdeal.nD Cert.RetQRefIdeal.τ).loc Cert.RetQRefIdeal.main_arg0) = m ((c.tc : Thread Cert.RetQIdeal.nD Cert.RetQIdeal.τ).loc Cert.RetQIdeal.main_arg0)
      ∧ m' ((c.tc : Thread Cert.RetQRefIdeal.nD Cert.RetQRefIdeal.τ).loc Cert.RetQRefIdeal.main_arg1) = m ((c.tc : Thread Cert.RetQIdeal.nD Cert.RetQIdeal.τ).loc Cert.RetQIdeal.main_arg1)
      ∧ m' ((c.tc : Thread Cert.RetQRefIdeal.nD Cert.RetQRefIdeal.τ).loc Cert.RetQRefIdeal.main_arg2) = m ((c.tc : Thread Cert.RetQIdeal.nD Cert.RetQIdeal.τ).loc Cert.RetQIdeal.main_arg2)
      ∧ m' ((c.tc : Thread Cert.RetQRefIdeal.nD Cert.RetQRefIdeal.τ).loc Cert.RetQRefIdeal.main_arg3) = m ((c.tc : Thread Cert.RetQIdeal.nD Cert.RetQIdeal.τ).loc Cert.RetQIdeal.main_arg3)) →
    ∃ (v0 : (c : Dev Cert.RetQIdeal.nD) → Buf (Elt Ideal) ((c.tc : Thread Cert.RetQIdeal.nD Cert.RetQIdeal.τ).loc Cert.RetQIdeal.main_v59)),
      θ_run (Cert.RetQIdeal.defs (F := Ideal)) (onTc (τ := Cert.RetQIdeal.τ) (Cert.RetQIdeal.main (F := Ideal))) ⟨m, fun _ => 0, g⟩ (fun r => ∀ c : Dev Cert.RetQIdeal.nD,
          r.2.mem ((c.tc : Thread Cert.RetQIdeal.nD Cert.RetQIdeal.τ).loc Cert.RetQIdeal.main_v59) = v0 c
          ∧ r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
          ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1)
          ∧ r.2.mem ((c.tc : Thread Cert.RetQIdeal.nD Cert.RetQIdeal.τ).loc Cert.RetQIdeal.main_arg2) = m ((c.tc : Thread Cert.RetQIdeal.nD Cert.RetQIdeal.τ).loc Cert.RetQIdeal.main_arg2)
          ∧ r.2.mem ((c.tc : Thread Cert.RetQIdeal.nD Cert.RetQIdeal.τ).loc Cert.RetQIdeal.main_arg3) = m ((c.tc : Thread Cert.RetQIdeal.nD Cert.RetQIdeal.τ).loc Cert.RetQIdeal.main_arg3))
      ∧ θ_run (Cert.RetQRefIdeal.defs (F := Ideal)) (onTc (τ := Cert.RetQRefIdeal.τ) (Cert.RetQRefIdeal.main (F := Ideal))) ⟨m', fun _ => 0, g'⟩ (fun r => ∀ c : Dev Cert.RetQRefIdeal.nD,
          r.2.mem ((c.tc : Thread Cert.RetQRefIdeal.nD Cert.RetQRefIdeal.τ).loc Cert.RetQRefIdeal.main_v70) = v0 c
          ∧ r.2.mem ((c.tc : Thread Cert.RetQRefIdeal.nD Cert.RetQRefIdeal.τ).loc Cert.RetQRefIdeal.main_arg0) = m' ((c.tc : Thread Cert.RetQRefIdeal.nD Cert.RetQRefIdeal.τ).loc Cert.RetQRefIdeal.main_arg0)
          ∧ r.2.mem ((c.tc : Thread Cert.RetQRefIdeal.nD Cert.RetQRefIdeal.τ).loc Cert.RetQRefIdeal.main_arg1) = m' ((c.tc : Thread Cert.RetQRefIdeal.nD Cert.RetQRefIdeal.τ).loc Cert.RetQRefIdeal.main_arg1)
          ∧ r.2.mem ((c.tc : Thread Cert.RetQRefIdeal.nD Cert.RetQRefIdeal.τ).loc Cert.RetQRefIdeal.main_arg2) = m' ((c.tc : Thread Cert.RetQRefIdeal.nD Cert.RetQRefIdeal.τ).loc Cert.RetQRefIdeal.main_arg2)
          ∧ r.2.mem ((c.tc : Thread Cert.RetQRefIdeal.nD Cert.RetQRefIdeal.τ).loc Cert.RetQRefIdeal.main_arg3) = m' ((c.tc : Thread Cert.RetQRefIdeal.nD Cert.RetQRefIdeal.τ).loc Cert.RetQRefIdeal.main_arg3))

def preserves_RetKV_RetKVIdeal : Prop :=
  True

def algebraic_RetKVIdeal_RetKVRefIdeal_pre_ret_finite [hRetKVIdeal : Cert.RetKVIdeal.Facts] [hRetKVRefIdeal : Cert.RetKVRefIdeal.Facts] [hPre_ret_finite : Cert.Pre_ret_finite.Facts] : Prop :=
  ∀ (m : (ℓ : Loc Cert.RetKVIdeal.nD Cert.RetKVIdeal.τ Cert.RetKVIdeal.sig) → Buf (Elt Ideal) ℓ) (g : Dev Cert.RetKVIdeal.nD → PrngReg)
    (m' : (ℓ : Loc Cert.RetKVRefIdeal.nD Cert.RetKVRefIdeal.τ Cert.RetKVRefIdeal.sig) → Buf (Elt Ideal) ℓ) (g' : Dev Cert.RetKVRefIdeal.nD → PrngReg), Pre_RetKVIdeal_ret_finite m →
    (∀ c : Dev Cert.RetKVIdeal.nD,
      m' ((c.tc : Thread Cert.RetKVRefIdeal.nD Cert.RetKVRefIdeal.τ).loc Cert.RetKVRefIdeal.main_arg0) = m ((c.tc : Thread Cert.RetKVIdeal.nD Cert.RetKVIdeal.τ).loc Cert.RetKVIdeal.main_arg0)
      ∧ m' ((c.tc : Thread Cert.RetKVRefIdeal.nD Cert.RetKVRefIdeal.τ).loc Cert.RetKVRefIdeal.main_arg1) = m ((c.tc : Thread Cert.RetKVIdeal.nD Cert.RetKVIdeal.τ).loc Cert.RetKVIdeal.main_arg1)
      ∧ m' ((c.tc : Thread Cert.RetKVRefIdeal.nD Cert.RetKVRefIdeal.τ).loc Cert.RetKVRefIdeal.main_arg2) = m ((c.tc : Thread Cert.RetKVIdeal.nD Cert.RetKVIdeal.τ).loc Cert.RetKVIdeal.main_arg2)
      ∧ m' ((c.tc : Thread Cert.RetKVRefIdeal.nD Cert.RetKVRefIdeal.τ).loc Cert.RetKVRefIdeal.main_arg3) = m ((c.tc : Thread Cert.RetKVIdeal.nD Cert.RetKVIdeal.τ).loc Cert.RetKVIdeal.main_arg3)) →
    ∃ (v0 : (c : Dev Cert.RetKVIdeal.nD) → Buf (Elt Ideal) ((c.tc : Thread Cert.RetKVIdeal.nD Cert.RetKVIdeal.τ).loc Cert.RetKVIdeal.main_v59_0)) (v1 : (c : Dev Cert.RetKVIdeal.nD) → Buf (Elt Ideal) ((c.tc : Thread Cert.RetKVIdeal.nD Cert.RetKVIdeal.τ).loc Cert.RetKVIdeal.main_v59_1)),
      θ_run (Cert.RetKVIdeal.defs (F := Ideal)) (onTc (τ := Cert.RetKVIdeal.τ) (Cert.RetKVIdeal.main (F := Ideal))) ⟨m, fun _ => 0, g⟩ (fun r => ∀ c : Dev Cert.RetKVIdeal.nD,
          r.2.mem ((c.tc : Thread Cert.RetKVIdeal.nD Cert.RetKVIdeal.τ).loc Cert.RetKVIdeal.main_v59_0) = v0 c
          ∧ r.2.mem ((c.tc : Thread Cert.RetKVIdeal.nD Cert.RetKVIdeal.τ).loc Cert.RetKVIdeal.main_v59_1) = v1 c
          ∧ r.2.mem ((c.tc : Thread Cert.RetKVIdeal.nD Cert.RetKVIdeal.τ).loc Cert.RetKVIdeal.main_arg0) = m ((c.tc : Thread Cert.RetKVIdeal.nD Cert.RetKVIdeal.τ).loc Cert.RetKVIdeal.main_arg0)
          ∧ r.2.mem ((c.tc : Thread Cert.RetKVIdeal.nD Cert.RetKVIdeal.τ).loc Cert.RetKVIdeal.main_arg1) = m ((c.tc : Thread Cert.RetKVIdeal.nD Cert.RetKVIdeal.τ).loc Cert.RetKVIdeal.main_arg1)
          ∧ r.2.mem ((c.tc : Thread Cert.RetKVIdeal.nD Cert.RetKVIdeal.τ).loc Cert.RetKVIdeal.main_arg2) = m ((c.tc : Thread Cert.RetKVIdeal.nD Cert.RetKVIdeal.τ).loc Cert.RetKVIdeal.main_arg2)
          ∧ r.2.mem ((c.tc : Thread Cert.RetKVIdeal.nD Cert.RetKVIdeal.τ).loc Cert.RetKVIdeal.main_arg3) = m ((c.tc : Thread Cert.RetKVIdeal.nD Cert.RetKVIdeal.τ).loc Cert.RetKVIdeal.main_arg3))
      ∧ θ_run (Cert.RetKVRefIdeal.defs (F := Ideal)) (onTc (τ := Cert.RetKVRefIdeal.τ) (Cert.RetKVRefIdeal.main (F := Ideal))) ⟨m', fun _ => 0, g'⟩ (fun r => ∀ c : Dev Cert.RetKVRefIdeal.nD,
          r.2.mem ((c.tc : Thread Cert.RetKVRefIdeal.nD Cert.RetKVRefIdeal.τ).loc Cert.RetKVRefIdeal.main_v76) = v0 c
          ∧ r.2.mem ((c.tc : Thread Cert.RetKVRefIdeal.nD Cert.RetKVRefIdeal.τ).loc Cert.RetKVRefIdeal.main_v78) = v1 c
          ∧ r.2.mem ((c.tc : Thread Cert.RetKVRefIdeal.nD Cert.RetKVRefIdeal.τ).loc Cert.RetKVRefIdeal.main_arg0) = m' ((c.tc : Thread Cert.RetKVRefIdeal.nD Cert.RetKVRefIdeal.τ).loc Cert.RetKVRefIdeal.main_arg0)
          ∧ r.2.mem ((c.tc : Thread Cert.RetKVRefIdeal.nD Cert.RetKVRefIdeal.τ).loc Cert.RetKVRefIdeal.main_arg1) = m' ((c.tc : Thread Cert.RetKVRefIdeal.nD Cert.RetKVRefIdeal.τ).loc Cert.RetKVRefIdeal.main_arg1)
          ∧ r.2.mem ((c.tc : Thread Cert.RetKVRefIdeal.nD Cert.RetKVRefIdeal.τ).loc Cert.RetKVRefIdeal.main_arg2) = m' ((c.tc : Thread Cert.RetKVRefIdeal.nD Cert.RetKVRefIdeal.τ).loc Cert.RetKVRefIdeal.main_arg2)
          ∧ r.2.mem ((c.tc : Thread Cert.RetKVRefIdeal.nD Cert.RetKVRefIdeal.τ).loc Cert.RetKVRefIdeal.main_arg3) = m' ((c.tc : Thread Cert.RetKVRefIdeal.nD Cert.RetKVRefIdeal.τ).loc Cert.RetKVRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)) (v2 : (c : Dev Cert.FfnIdeal.nD) → Buf (Elt Ideal) ((c.tc : Thread Cert.FfnIdeal.nD Cert.FfnIdeal.τ).loc Cert.FfnIdeal.main_v8_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_v8_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_v20) = v1 c
          ∧ r.2.mem ((c.tc : Thread Cert.FfnRefIdeal.nD Cert.FfnRefIdeal.τ).loc Cert.FfnRefIdeal.main_v21) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_InBwd_InBwdIdeal : Prop :=
  True

def algebraic_InBwdIdeal_InBwdRefIdeal_pre_in_finite [hInBwdIdeal : Cert.InBwdIdeal.Facts] [hInBwdRefIdeal : Cert.InBwdRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v3_0)) (v1 : (c : Dev Cert.InBwdIdeal.nD) → Buf (Elt Ideal) ((c.tc : Thread Cert.InBwdIdeal.nD Cert.InBwdIdeal.τ).loc Cert.InBwdIdeal.main_v3_1)) (v2 : (c : Dev Cert.InBwdIdeal.nD) → Buf (Elt Ideal) ((c.tc : Thread Cert.InBwdIdeal.nD Cert.InBwdIdeal.τ).loc Cert.InBwdIdeal.main_v3_2)) (v3 : (c : Dev Cert.InBwdIdeal.nD) → Buf (Elt Ideal) ((c.tc : Thread Cert.InBwdIdeal.nD Cert.InBwdIdeal.τ).loc Cert.InBwdIdeal.main_v3_3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v3_0) = v0 c
          ∧ r.2.mem ((c.tc : Thread Cert.InBwdIdeal.nD Cert.InBwdIdeal.τ).loc Cert.InBwdIdeal.main_v3_1) = v1 c
          ∧ r.2.mem ((c.tc : Thread Cert.InBwdIdeal.nD Cert.InBwdIdeal.τ).loc Cert.InBwdIdeal.main_v3_2) = v2 c
          ∧ r.2.mem ((c.tc : Thread Cert.InBwdIdeal.nD Cert.InBwdIdeal.τ).loc Cert.InBwdIdeal.main_v3_3) = v3 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v51) = v0 c
          ∧ r.2.mem ((c.tc : Thread Cert.InBwdRefIdeal.nD Cert.InBwdRefIdeal.τ).loc Cert.InBwdRefIdeal.main_v26) = v1 c
          ∧ r.2.mem ((c.tc : Thread Cert.InBwdRefIdeal.nD Cert.InBwdRefIdeal.τ).loc Cert.InBwdRefIdeal.main_v29) = v2 c
          ∧ r.2.mem ((c.tc : Thread Cert.InBwdRefIdeal.nD Cert.InBwdRefIdeal.τ).loc Cert.InBwdRefIdeal.main_v34) = v3 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)) (v4 : (c : Dev Cert.LossIdeal.nD) → Buf (Elt Ideal) ((c.tc : Thread Cert.LossIdeal.nD Cert.LossIdeal.τ).loc Cert.LossIdeal.main_v2_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_v2_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v34) = v0 c
          ∧ r.2.mem ((c.tc : Thread Cert.LossRefIdeal.nD Cert.LossRefIdeal.τ).loc Cert.LossRefIdeal.main_v59) = v1 c
          ∧ r.2.mem ((c.tc : Thread Cert.LossRefIdeal.nD Cert.LossRefIdeal.τ).loc Cert.LossRefIdeal.main_v61) = v2 c
          ∧ r.2.mem ((c.tc : Thread Cert.LossRefIdeal.nD Cert.LossRefIdeal.τ).loc Cert.LossRefIdeal.main_v39) = v3 c
          ∧ r.2.mem ((c.tc : Thread Cert.LossRefIdeal.nD Cert.LossRefIdeal.τ).loc Cert.LossRefIdeal.main_v42) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_Ff1Bwd_Ff1BwdIdeal : Prop :=
  True

def algebraic_Ff1BwdIdeal_Ff1BwdRefIdeal_pre_ff1_finite [hFf1BwdIdeal : Cert.Ff1BwdIdeal.Facts] [hFf1BwdRefIdeal : Cert.Ff1BwdRefIdeal.Facts] [hPre_ff1_finite : Cert.Pre_ff1_finite.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg)
    (m' : (ℓ : Loc Cert.Ff1BwdRefIdeal.nD Cert.Ff1BwdRefIdeal.τ Cert.Ff1BwdRefIdeal.sig) → Buf (Elt Ideal) ℓ) (g' : Dev Cert.Ff1BwdRefIdeal.nD → PrngReg), Pre_Ff1BwdIdeal_ff1_finite m →
    (∀ c : Dev Cert.Ff1BwdIdeal.nD,
      m' ((c.tc : Thread Cert.Ff1BwdRefIdeal.nD Cert.Ff1BwdRefIdeal.τ).loc Cert.Ff1BwdRefIdeal.main_arg0) = m ((c.tc : Thread Cert.Ff1BwdIdeal.nD Cert.Ff1BwdIdeal.τ).loc Cert.Ff1BwdIdeal.main_arg0)
      ∧ m' ((c.tc : Thread Cert.Ff1BwdRefIdeal.nD Cert.Ff1BwdRefIdeal.τ).loc Cert.Ff1BwdRefIdeal.main_arg1) = m ((c.tc : Thread Cert.Ff1BwdIdeal.nD Cert.Ff1BwdIdeal.τ).loc Cert.Ff1BwdIdeal.main_arg1)
      ∧ m' ((c.tc : Thread Cert.Ff1BwdRefIdeal.nD Cert.Ff1BwdRefIdeal.τ).loc Cert.Ff1BwdRefIdeal.main_arg2) = m ((c.tc : Thread Cert.Ff1BwdIdeal.nD Cert.Ff1BwdIdeal.τ).loc Cert.Ff1BwdIdeal.main_arg2)
      ∧ m' ((c.tc : Thread Cert.Ff1BwdRefIdeal.nD Cert.Ff1BwdRefIdeal.τ).loc Cert.Ff1BwdRefIdeal.main_arg3) = m ((c.tc : Thread Cert.Ff1BwdIdeal.nD Cert.Ff1BwdIdeal.τ).loc Cert.Ff1BwdIdeal.main_arg3)
      ∧ m' ((c.tc : Thread Cert.Ff1BwdRefIdeal.nD Cert.Ff1BwdRefIdeal.τ).loc Cert.Ff1BwdRefIdeal.main_arg4) = m ((c.tc : Thread Cert.Ff1BwdIdeal.nD Cert.Ff1BwdIdeal.τ).loc Cert.Ff1BwdIdeal.main_arg4)
      ∧ m' ((c.tc : Thread Cert.Ff1BwdRefIdeal.nD Cert.Ff1BwdRefIdeal.τ).loc Cert.Ff1BwdRefIdeal.main_arg5) = m ((c.tc : Thread Cert.Ff1BwdIdeal.nD Cert.Ff1BwdIdeal.τ).loc Cert.Ff1BwdIdeal.main_arg5)
      ∧ m' ((c.tc : Thread Cert.Ff1BwdRefIdeal.nD Cert.Ff1BwdRefIdeal.τ).loc Cert.Ff1BwdRefIdeal.main_arg6) = m ((c.tc : Thread Cert.Ff1BwdIdeal.nD Cert.Ff1BwdIdeal.τ).loc Cert.Ff1BwdIdeal.main_arg6)
      ∧ m' ((c.tc : Thread Cert.Ff1BwdRefIdeal.nD Cert.Ff1BwdRefIdeal.τ).loc Cert.Ff1BwdRefIdeal.main_arg7) = m ((c.tc : Thread Cert.Ff1BwdIdeal.nD Cert.Ff1BwdIdeal.τ).loc Cert.Ff1BwdIdeal.main_arg7)
      ∧ m' ((c.tc : Thread Cert.Ff1BwdRefIdeal.nD Cert.Ff1BwdRefIdeal.τ).loc Cert.Ff1BwdRefIdeal.main_arg8) = m ((c.tc : Thread Cert.Ff1BwdIdeal.nD Cert.Ff1BwdIdeal.τ).loc Cert.Ff1BwdIdeal.main_arg8)) →
    ∃ (v0 : (c : Dev Cert.Ff1BwdIdeal.nD) → Buf (Elt Ideal) ((c.tc : Thread Cert.Ff1BwdIdeal.nD Cert.Ff1BwdIdeal.τ).loc Cert.Ff1BwdIdeal.main_v21_0)) (v1 : (c : Dev Cert.Ff1BwdIdeal.nD) → Buf (Elt Ideal) ((c.tc : Thread Cert.Ff1BwdIdeal.nD Cert.Ff1BwdIdeal.τ).loc Cert.Ff1BwdIdeal.main_v21_1)) (v2 : (c : Dev Cert.Ff1BwdIdeal.nD) → Buf (Elt Ideal) ((c.tc : Thread Cert.Ff1BwdIdeal.nD Cert.Ff1BwdIdeal.τ).loc Cert.Ff1BwdIdeal.main_v21_2)) (v3 : (c : Dev Cert.Ff1BwdIdeal.nD) → Buf (Elt Ideal) ((c.tc : Thread Cert.Ff1BwdIdeal.nD Cert.Ff1BwdIdeal.τ).loc Cert.Ff1BwdIdeal.main_v21_3)) (v4 : (c : Dev Cert.Ff1BwdIdeal.nD) → Buf (Elt Ideal) ((c.tc : Thread Cert.Ff1BwdIdeal.nD Cert.Ff1BwdIdeal.τ).loc Cert.Ff1BwdIdeal.main_v21_4)) (v5 : (c : Dev Cert.Ff1BwdIdeal.nD) → Buf (Elt Ideal) ((c.tc : Thread Cert.Ff1BwdIdeal.nD Cert.Ff1BwdIdeal.τ).loc Cert.Ff1BwdIdeal.main_v21_5)) (v6 : (c : Dev Cert.Ff1BwdIdeal.nD) → Buf (Elt Ideal) ((c.tc : Thread Cert.Ff1BwdIdeal.nD Cert.Ff1BwdIdeal.τ).loc Cert.Ff1BwdIdeal.main_v21_6)) (v7 : (c : Dev Cert.Ff1BwdIdeal.nD) → Buf (Elt Ideal) ((c.tc : Thread Cert.Ff1BwdIdeal.nD Cert.Ff1BwdIdeal.τ).loc Cert.Ff1BwdIdeal.main_v21_7)),
      θ_run (Cert.Ff1BwdIdeal.defs (F := Ideal)) (onTc (τ := Cert.Ff1BwdIdeal.τ) (Cert.Ff1BwdIdeal.main (F := Ideal))) ⟨m, fun _ => 0, g⟩ (fun r => ∀ c : Dev Cert.Ff1BwdIdeal.nD,
          r.2.mem ((c.tc : Thread Cert.Ff1BwdIdeal.nD Cert.Ff1BwdIdeal.τ).loc Cert.Ff1BwdIdeal.main_v21_0) = v0 c
          ∧ r.2.mem ((c.tc : Thread Cert.Ff1BwdIdeal.nD Cert.Ff1BwdIdeal.τ).loc Cert.Ff1BwdIdeal.main_v21_1) = v1 c
          ∧ r.2.mem ((c.tc : Thread Cert.Ff1BwdIdeal.nD Cert.Ff1BwdIdeal.τ).loc Cert.Ff1BwdIdeal.main_v21_2) = v2 c
          ∧ r.2.mem ((c.tc : Thread Cert.Ff1BwdIdeal.nD Cert.Ff1BwdIdeal.τ).loc Cert.Ff1BwdIdeal.main_v21_3) = v3 c
          ∧ r.2.mem ((c.tc : Thread Cert.Ff1BwdIdeal.nD Cert.Ff1BwdIdeal.τ).loc Cert.Ff1BwdIdeal.main_v21_4) = v4 c
          ∧ r.2.mem ((c.tc : Thread Cert.Ff1BwdIdeal.nD Cert.Ff1BwdIdeal.τ).loc Cert.Ff1BwdIdeal.main_v21_5) = v5 c
          ∧ r.2.mem ((c.tc : Thread Cert.Ff1BwdIdeal.nD Cert.Ff1BwdIdeal.τ).loc Cert.Ff1BwdIdeal.main_v21_6) = v6 c
          ∧ r.2.mem ((c.tc : Thread Cert.Ff1BwdIdeal.nD Cert.Ff1BwdIdeal.τ).loc Cert.Ff1BwdIdeal.main_v21_7) = v7 c
          ∧ r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
          ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
          ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2)
          ∧ r.2.mem ((c.tc : Thread Cert.Ff1BwdIdeal.nD Cert.Ff1BwdIdeal.τ).loc Cert.Ff1BwdIdeal.main_arg3) = m ((c.tc : Thread Cert.Ff1BwdIdeal.nD Cert.Ff1BwdIdeal.τ).loc Cert.Ff1BwdIdeal.main_arg3)
          ∧ r.2.mem ((c.tc : Thread Cert.Ff1BwdIdeal.nD Cert.Ff1BwdIdeal.τ).loc Cert.Ff1BwdIdeal.main_arg4) = m ((c.tc : Thread Cert.Ff1BwdIdeal.nD Cert.Ff1BwdIdeal.τ).loc Cert.Ff1BwdIdeal.main_arg4)
          ∧ r.2.mem ((c.tc : Thread Cert.Ff1BwdIdeal.nD Cert.Ff1BwdIdeal.τ).loc Cert.Ff1BwdIdeal.main_arg5) = m ((c.tc : Thread Cert.Ff1BwdIdeal.nD Cert.Ff1BwdIdeal.τ).loc Cert.Ff1BwdIdeal.main_arg5)
          ∧ r.2.mem ((c.tc : Thread Cert.Ff1BwdIdeal.nD Cert.Ff1BwdIdeal.τ).loc Cert.Ff1BwdIdeal.main_arg6) = m ((c.tc : Thread Cert.Ff1BwdIdeal.nD Cert.Ff1BwdIdeal.τ).loc Cert.Ff1BwdIdeal.main_arg6)
          ∧ r.2.mem ((c.tc : Thread Cert.Ff1BwdIdeal.nD Cert.Ff1BwdIdeal.τ).loc Cert.Ff1BwdIdeal.main_arg7) = m ((c.tc : Thread Cert.Ff1BwdIdeal.nD Cert.Ff1BwdIdeal.τ).loc Cert.Ff1BwdIdeal.main_arg7)
          ∧ r.2.mem ((c.tc : Thread Cert.Ff1BwdIdeal.nD Cert.Ff1BwdIdeal.τ).loc Cert.Ff1BwdIdeal.main_arg8) = m ((c.tc : Thread Cert.Ff1BwdIdeal.nD Cert.Ff1BwdIdeal.τ).loc Cert.Ff1BwdIdeal.main_arg8))
      ∧ θ_run (Cert.Ff1BwdRefIdeal.defs (F := Ideal)) (onTc (τ := Cert.Ff1BwdRefIdeal.τ) (Cert.Ff1BwdRefIdeal.main (F := Ideal))) ⟨m', fun _ => 0, g'⟩ (fun r => ∀ c : Dev Cert.Ff1BwdRefIdeal.nD,
          r.2.mem ((c.tc : Thread Cert.Ff1BwdRefIdeal.nD Cert.Ff1BwdRefIdeal.τ).loc Cert.Ff1BwdRefIdeal.main_v71) = v0 c
          ∧ r.2.mem ((c.tc : Thread Cert.Ff1BwdRefIdeal.nD Cert.Ff1BwdRefIdeal.τ).loc Cert.Ff1BwdRefIdeal.main_v97) = v1 c
          ∧ r.2.mem ((c.tc : Thread Cert.Ff1BwdRefIdeal.nD Cert.Ff1BwdRefIdeal.τ).loc Cert.Ff1BwdRefIdeal.main_v46) = v2 c
          ∧ r.2.mem ((c.tc : Thread Cert.Ff1BwdRefIdeal.nD Cert.Ff1BwdRefIdeal.τ).loc Cert.Ff1BwdRefIdeal.main_v49) = v3 c
          ∧ r.2.mem ((c.tc : Thread Cert.Ff1BwdRefIdeal.nD Cert.Ff1BwdRefIdeal.τ).loc Cert.Ff1BwdRefIdeal.main_v54) = v4 c
          ∧ r.2.mem ((c.tc : Thread Cert.Ff1BwdRefIdeal.nD Cert.Ff1BwdRefIdeal.τ).loc Cert.Ff1BwdRefIdeal.main_v77) = v5 c
          ∧ r.2.mem ((c.tc : Thread Cert.Ff1BwdRefIdeal.nD Cert.Ff1BwdRefIdeal.τ).loc Cert.Ff1BwdRefIdeal.main_v80) = v6 c
          ∧ r.2.mem ((c.tc : Thread Cert.Ff1BwdRefIdeal.nD Cert.Ff1BwdRefIdeal.τ).loc Cert.Ff1BwdRefIdeal.main_v100) = v7 c
          ∧ r.2.mem ((c.tc : Thread Cert.Ff1BwdRefIdeal.nD Cert.Ff1BwdRefIdeal.τ).loc Cert.Ff1BwdRefIdeal.main_arg0) = m' ((c.tc : Thread Cert.Ff1BwdRefIdeal.nD Cert.Ff1BwdRefIdeal.τ).loc Cert.Ff1BwdRefIdeal.main_arg0)
          ∧ r.2.mem ((c.tc : Thread Cert.Ff1BwdRefIdeal.nD Cert.Ff1BwdRefIdeal.τ).loc Cert.Ff1BwdRefIdeal.main_arg1) = m' ((c.tc : Thread Cert.Ff1BwdRefIdeal.nD Cert.Ff1BwdRefIdeal.τ).loc Cert.Ff1BwdRefIdeal.main_arg1)
          ∧ r.2.mem ((c.tc : Thread Cert.Ff1BwdRefIdeal.nD Cert.Ff1BwdRefIdeal.τ).loc Cert.Ff1BwdRefIdeal.main_arg2) = m' ((c.tc : Thread Cert.Ff1BwdRefIdeal.nD Cert.Ff1BwdRefIdeal.τ).loc Cert.Ff1BwdRefIdeal.main_arg2)
          ∧ r.2.mem ((c.tc : Thread Cert.Ff1BwdRefIdeal.nD Cert.Ff1BwdRefIdeal.τ).loc Cert.Ff1BwdRefIdeal.main_arg3) = m' ((c.tc : Thread Cert.Ff1BwdRefIdeal.nD Cert.Ff1BwdRefIdeal.τ).loc Cert.Ff1BwdRefIdeal.main_arg3)
          ∧ r.2.mem ((c.tc : Thread Cert.Ff1BwdRefIdeal.nD Cert.Ff1BwdRefIdeal.τ).loc Cert.Ff1BwdRefIdeal.main_arg4) = m' ((c.tc : Thread Cert.Ff1BwdRefIdeal.nD Cert.Ff1BwdRefIdeal.τ).loc Cert.Ff1BwdRefIdeal.main_arg4)
          ∧ r.2.mem ((c.tc : Thread Cert.Ff1BwdRefIdeal.nD Cert.Ff1BwdRefIdeal.τ).loc Cert.Ff1BwdRefIdeal.main_arg5) = m' ((c.tc : Thread Cert.Ff1BwdRefIdeal.nD Cert.Ff1BwdRefIdeal.τ).loc Cert.Ff1BwdRefIdeal.main_arg5)
          ∧ r.2.mem ((c.tc : Thread Cert.Ff1BwdRefIdeal.nD Cert.Ff1BwdRefIdeal.τ).loc Cert.Ff1BwdRefIdeal.main_arg6) = m' ((c.tc : Thread Cert.Ff1BwdRefIdeal.nD Cert.Ff1BwdRefIdeal.τ).loc Cert.Ff1BwdRefIdeal.main_arg6)
          ∧ r.2.mem ((c.tc : Thread Cert.Ff1BwdRefIdeal.nD Cert.Ff1BwdRefIdeal.τ).loc Cert.Ff1BwdRefIdeal.main_arg7) = m' ((c.tc : Thread Cert.Ff1BwdRefIdeal.nD Cert.Ff1BwdRefIdeal.τ).loc Cert.Ff1BwdRefIdeal.main_arg7)
          ∧ r.2.mem ((c.tc : Thread Cert.Ff1BwdRefIdeal.nD Cert.Ff1BwdRefIdeal.τ).loc Cert.Ff1BwdRefIdeal.main_arg8) = m' ((c.tc : Thread Cert.Ff1BwdRefIdeal.nD Cert.Ff1BwdRefIdeal.τ).loc Cert.Ff1BwdRefIdeal.main_arg8))

def preserves_Branch_BranchIdeal : Prop :=
  True

def algebraic_BranchIdeal_BranchRefIdeal_pre_branch_finite [hBranchIdeal : Cert.BranchIdeal.Facts] [hBranchRefIdeal : Cert.BranchRefIdeal.Facts] [hPre_branch_finite : Cert.Pre_branch_finite.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal_branch_finite m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)
      ∧ m' ((c.tc : Thread Cert.BranchRefIdeal.nD Cert.BranchRefIdeal.τ).loc Cert.BranchRefIdeal.main_arg7) = m ((c.tc : Thread Cert.BranchIdeal.nD Cert.BranchIdeal.τ).loc Cert.BranchIdeal.main_arg7)) →
    ∃ (v0 : (c : Dev Cert.BranchIdeal.nD) → Buf (Elt Ideal) ((c.tc : Thread Cert.BranchIdeal.nD Cert.BranchIdeal.τ).loc Cert.BranchIdeal.main_v35_0)) (v1 : (c : Dev Cert.BranchIdeal.nD) → Buf (Elt Ideal) ((c.tc : Thread Cert.BranchIdeal.nD Cert.BranchIdeal.τ).loc Cert.BranchIdeal.main_v35_1)) (v2 : (c : Dev Cert.BranchIdeal.nD) → Buf (Elt Ideal) ((c.tc : Thread Cert.BranchIdeal.nD Cert.BranchIdeal.τ).loc Cert.BranchIdeal.main_v35_2)) (v3 : (c : Dev Cert.BranchIdeal.nD) → Buf (Elt Ideal) ((c.tc : Thread Cert.BranchIdeal.nD Cert.BranchIdeal.τ).loc Cert.BranchIdeal.main_v35_3)) (v4 : (c : Dev Cert.BranchIdeal.nD) → Buf (Elt Ideal) ((c.tc : Thread Cert.BranchIdeal.nD Cert.BranchIdeal.τ).loc Cert.BranchIdeal.main_v35_4)) (v5 : (c : Dev Cert.BranchIdeal.nD) → Buf (Elt Ideal) ((c.tc : Thread Cert.BranchIdeal.nD Cert.BranchIdeal.τ).loc Cert.BranchIdeal.main_v35_5)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v35_0) = v0 c
          ∧ r.2.mem ((c.tc : Thread Cert.BranchIdeal.nD Cert.BranchIdeal.τ).loc Cert.BranchIdeal.main_v35_1) = v1 c
          ∧ r.2.mem ((c.tc : Thread Cert.BranchIdeal.nD Cert.BranchIdeal.τ).loc Cert.BranchIdeal.main_v35_2) = v2 c
          ∧ r.2.mem ((c.tc : Thread Cert.BranchIdeal.nD Cert.BranchIdeal.τ).loc Cert.BranchIdeal.main_v35_3) = v3 c
          ∧ r.2.mem ((c.tc : Thread Cert.BranchIdeal.nD Cert.BranchIdeal.τ).loc Cert.BranchIdeal.main_v35_4) = v4 c
          ∧ r.2.mem ((c.tc : Thread Cert.BranchIdeal.nD Cert.BranchIdeal.τ).loc Cert.BranchIdeal.main_v35_5) = v5 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6)
          ∧ r.2.mem ((c.tc : Thread Cert.BranchIdeal.nD Cert.BranchIdeal.τ).loc Cert.BranchIdeal.main_arg7) = m ((c.tc : Thread Cert.BranchIdeal.nD Cert.BranchIdeal.τ).loc Cert.BranchIdeal.main_arg7))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v78) = v0 c
          ∧ r.2.mem ((c.tc : Thread Cert.BranchRefIdeal.nD Cert.BranchRefIdeal.τ).loc Cert.BranchRefIdeal.main_v79) = v1 c
          ∧ r.2.mem ((c.tc : Thread Cert.BranchRefIdeal.nD Cert.BranchRefIdeal.τ).loc Cert.BranchRefIdeal.main_v80) = v2 c
          ∧ r.2.mem ((c.tc : Thread Cert.BranchRefIdeal.nD Cert.BranchRefIdeal.τ).loc Cert.BranchRefIdeal.main_v81) = v3 c
          ∧ r.2.mem ((c.tc : Thread Cert.BranchRefIdeal.nD Cert.BranchRefIdeal.τ).loc Cert.BranchRefIdeal.main_v82) = v4 c
          ∧ r.2.mem ((c.tc : Thread Cert.BranchRefIdeal.nD Cert.BranchRefIdeal.τ).loc Cert.BranchRefIdeal.main_v50) = v5 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6)
          ∧ r.2.mem ((c.tc : Thread Cert.BranchRefIdeal.nD Cert.BranchRefIdeal.τ).loc Cert.BranchRefIdeal.main_arg7) = m' ((c.tc : Thread Cert.BranchRefIdeal.nD Cert.BranchRefIdeal.τ).loc Cert.BranchRefIdeal.main_arg7))

def preserves_Assemble_AssembleIdeal : Prop :=
  IdealRules.named_const.Statement Cert.AssembleIdeal.κ "ln2" .f32 0x3F317218#32 ((Real.log 2 : ℝ) : EReal)

def Claim : Prop :=
  ∃ (hGate : Cert.Gate.Facts) (hGateIdeal : Cert.GateIdeal.Facts) (hGateRefIdeal : Cert.GateRefIdeal.Facts) (hStickGrad : Cert.StickGrad.Facts) (hStickGradIdeal : Cert.StickGradIdeal.Facts) (hStickGradRefIdeal : Cert.StickGradRefIdeal.Facts) (hRetQ : Cert.RetQ.Facts) (hRetQIdeal : Cert.RetQIdeal.Facts) (hRetQRefIdeal : Cert.RetQRefIdeal.Facts) (hRetKV : Cert.RetKV.Facts) (hRetKVIdeal : Cert.RetKVIdeal.Facts) (hRetKVRefIdeal : Cert.RetKVRefIdeal.Facts) (hFfn : Cert.Ffn.Facts) (hFfnIdeal : Cert.FfnIdeal.Facts) (hFfnRefIdeal : Cert.FfnRefIdeal.Facts) (hInBwd : Cert.InBwd.Facts) (hInBwdIdeal : Cert.InBwdIdeal.Facts) (hInBwdRefIdeal : Cert.InBwdRefIdeal.Facts) (hLoss : Cert.Loss.Facts) (hLossIdeal : Cert.LossIdeal.Facts) (hLossRefIdeal : Cert.LossRefIdeal.Facts) (hFf1Bwd : Cert.Ff1Bwd.Facts) (hFf1BwdIdeal : Cert.Ff1BwdIdeal.Facts) (hFf1BwdRefIdeal : Cert.Ff1BwdRefIdeal.Facts) (hBranch : Cert.Branch.Facts) (hBranchIdeal : Cert.BranchIdeal.Facts) (hBranchRefIdeal : Cert.BranchRefIdeal.Facts) (hAssemble : Cert.Assemble.Facts) (hAssembleIdeal : Cert.AssembleIdeal.Facts) (hAssembleRefIdeal : Cert.AssembleRefIdeal.Facts) (hPre_stick_finite : Cert.Pre_stick_finite.Facts) (hPre_ret_finite : Cert.Pre_ret_finite.Facts) (hPre_in_finite : Cert.Pre_in_finite.Facts) (hPre_loss_finite : Cert.Pre_loss_finite.Facts) (hPre_ff1_finite : Cert.Pre_ff1_finite.Facts) (hPre_branch_finite : Cert.Pre_branch_finite.Facts),
    quiescent_Gate (hGate := hGate)
    ∧ quiescent_GateIdeal (hGateIdeal := hGateIdeal)
    ∧ quiescent_GateRefIdeal (hGateRefIdeal := hGateRefIdeal)
    ∧ quiescent_StickGrad (hStickGrad := hStickGrad)
    ∧ quiescent_StickGradIdeal (hStickGradIdeal := hStickGradIdeal)
    ∧ quiescent_StickGradIdeal_pre_stick_finite (hStickGradIdeal := hStickGradIdeal) (hPre_stick_finite := hPre_stick_finite)
    ∧ quiescent_StickGradRefIdeal (hStickGradRefIdeal := hStickGradRefIdeal)
    ∧ quiescent_StickGradRefIdeal_pre_stick_finite (hStickGradRefIdeal := hStickGradRefIdeal) (hPre_stick_finite := hPre_stick_finite)
    ∧ quiescent_RetQ (hRetQ := hRetQ)
    ∧ quiescent_RetQIdeal (hRetQIdeal := hRetQIdeal)
    ∧ quiescent_RetQIdeal_pre_ret_finite (hRetQIdeal := hRetQIdeal) (hPre_ret_finite := hPre_ret_finite)
    ∧ quiescent_RetQRefIdeal (hRetQRefIdeal := hRetQRefIdeal)
    ∧ quiescent_RetQRefIdeal_pre_ret_finite (hRetQRefIdeal := hRetQRefIdeal) (hPre_ret_finite := hPre_ret_finite)
    ∧ quiescent_RetKV (hRetKV := hRetKV)
    ∧ quiescent_RetKVIdeal (hRetKVIdeal := hRetKVIdeal)
    ∧ quiescent_RetKVIdeal_pre_ret_finite (hRetKVIdeal := hRetKVIdeal) (hPre_ret_finite := hPre_ret_finite)
    ∧ quiescent_RetKVRefIdeal (hRetKVRefIdeal := hRetKVRefIdeal)
    ∧ quiescent_RetKVRefIdeal_pre_ret_finite (hRetKVRefIdeal := hRetKVRefIdeal) (hPre_ret_finite := hPre_ret_finite)
    ∧ quiescent_Ffn (hFfn := hFfn)
    ∧ quiescent_FfnIdeal (hFfnIdeal := hFfnIdeal)
    ∧ quiescent_FfnRefIdeal (hFfnRefIdeal := hFfnRefIdeal)
    ∧ quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InBwdRefIdeal (hInBwdRefIdeal := hInBwdRefIdeal)
    ∧ quiescent_InBwdRefIdeal_pre_in_finite (hInBwdRefIdeal := hInBwdRefIdeal) (hPre_in_finite := hPre_in_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Ff1Bwd (hFf1Bwd := hFf1Bwd)
    ∧ quiescent_Ff1BwdIdeal (hFf1BwdIdeal := hFf1BwdIdeal)
    ∧ quiescent_Ff1BwdIdeal_pre_ff1_finite (hFf1BwdIdeal := hFf1BwdIdeal) (hPre_ff1_finite := hPre_ff1_finite)
    ∧ quiescent_Ff1BwdRefIdeal (hFf1BwdRefIdeal := hFf1BwdRefIdeal)
    ∧ quiescent_Ff1BwdRefIdeal_pre_ff1_finite (hFf1BwdRefIdeal := hFf1BwdRefIdeal) (hPre_ff1_finite := hPre_ff1_finite)
    ∧ quiescent_Branch (hBranch := hBranch)
    ∧ quiescent_BranchIdeal (hBranchIdeal := hBranchIdeal)
    ∧ quiescent_BranchIdeal_pre_branch_finite (hBranchIdeal := hBranchIdeal) (hPre_branch_finite := hPre_branch_finite)
    ∧ quiescent_BranchRefIdeal (hBranchRefIdeal := hBranchRefIdeal)
    ∧ quiescent_BranchRefIdeal_pre_branch_finite (hBranchRefIdeal := hBranchRefIdeal) (hPre_branch_finite := hPre_branch_finite)
    ∧ quiescent_Assemble (hAssemble := hAssemble)
    ∧ quiescent_AssembleIdeal (hAssembleIdeal := hAssembleIdeal)
    ∧ quiescent_AssembleRefIdeal (hAssembleRefIdeal := hAssembleRefIdeal)
    ∧ preserves_Gate_GateIdeal
    ∧ algebraic_GateIdeal_GateRefIdeal (hGateIdeal := hGateIdeal) (hGateRefIdeal := hGateRefIdeal)
    ∧ preserves_StickGrad_StickGradIdeal
    ∧ algebraic_StickGradIdeal_StickGradRefIdeal_pre_stick_finite (hStickGradIdeal := hStickGradIdeal) (hStickGradRefIdeal := hStickGradRefIdeal) (hPre_stick_finite := hPre_stick_finite)
    ∧ preserves_RetQ_RetQIdeal
    ∧ algebraic_RetQIdeal_RetQRefIdeal_pre_ret_finite (hRetQIdeal := hRetQIdeal) (hRetQRefIdeal := hRetQRefIdeal) (hPre_ret_finite := hPre_ret_finite)
    ∧ preserves_RetKV_RetKVIdeal
    ∧ algebraic_RetKVIdeal_RetKVRefIdeal_pre_ret_finite (hRetKVIdeal := hRetKVIdeal) (hRetKVRefIdeal := hRetKVRefIdeal) (hPre_ret_finite := hPre_ret_finite)
    ∧ preserves_Ffn_FfnIdeal
    ∧ algebraic_FfnIdeal_FfnRefIdeal (hFfnIdeal := hFfnIdeal) (hFfnRefIdeal := hFfnRefIdeal)
    ∧ preserves_InBwd_InBwdIdeal
    ∧ algebraic_InBwdIdeal_InBwdRefIdeal_pre_in_finite (hInBwdIdeal := hInBwdIdeal) (hInBwdRefIdeal := hInBwdRefIdeal) (hPre_in_finite := hPre_in_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Ff1Bwd_Ff1BwdIdeal
    ∧ algebraic_Ff1BwdIdeal_Ff1BwdRefIdeal_pre_ff1_finite (hFf1BwdIdeal := hFf1BwdIdeal) (hFf1BwdRefIdeal := hFf1BwdRefIdeal) (hPre_ff1_finite := hPre_ff1_finite)
    ∧ preserves_Branch_BranchIdeal
    ∧ algebraic_BranchIdeal_BranchRefIdeal_pre_branch_finite (hBranchIdeal := hBranchIdeal) (hBranchRefIdeal := hBranchRefIdeal) (hPre_branch_finite := hPre_branch_finite)
    ∧ preserves_Assemble_AssembleIdeal
-- ==== Pre_branch_finite.lean ====
abbrev S2048x1024 : Shape := ⟨2, ![2048, 1024]⟩
abbrev S2048x6656 : Shape := ⟨2, ![2048, 6656]⟩
abbrev S1x1024 : Shape := ⟨2, ![1, 1024]⟩
abbrev S1024x1024 : Shape := ⟨2, ![1024, 1024]⟩
abbrev S2048x512 : Shape := ⟨2, ![2048, 512]⟩
abbrev S512x1024 : Shape := ⟨2, ![512, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S2048x6656_S2048x1024_0_2048 : S2048x6656.Slices ![0, 2048] S2048x1024
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg6 : FVec F S2048x1024 .f32) (main_v14 : IVec S_ 1) (main_v15 : FVec F S1024x1024 .f32) (main_v16 : FVec F S1024x1024 .f32) : IVec S_ 1 :=
  let main_v17 : IVec S1024x1024 1 := cmpf .olt main_v15 main_v16
  let main_c_5 : IVec S_ 1 := constantI S_ 1 1#1
  let main_v18 : IVec S_ 1 := (fun x v => Host.reduce IntOp.andi x v reducesTo_S1024x1024_S_d0_1 h_S_) main_v17 main_c_5
  let main_v19 : IVec S_ 1 := andi main_v14 main_v18
  let main_v20 : FVec F S2048x1024 .f32 := Host.absf main_arg6
  let main_cst_6 : FVec F S_ .f32 := constant S_ .f32 0x7F800000#32
  let main_v21 : FVec F S2048x1024 .f32 := broadcastInDim S2048x1024 ![] bcast_S_S2048x1024 main_cst_6
  let main_v22 : IVec S2048x1024 1 := cmpf .olt main_v20 main_v21
  let main_c_7 : IVec S_ 1 := constantI S_ 1 1#1
  let main_v23 : IVec S_ 1 := (fun x v => Host.reduce IntOp.andi x v reducesTo_S2048x1024_S_d0_1 h_S_) main_v22 main_c_7
  let main_v24 : IVec S_ 1 := andi main_v19 main_v23
  main_v24

def fn {F : FTy → Type} [FloatOps F] (main_arg0 : FVec F S2048x1024 .f32) (main_arg1 : FVec F S2048x6656 .f32) (main_arg2 : FVec F S1x1024 .f32) (main_arg3 : FVec F S1024x1024 .f32) (main_arg4 : FVec F S2048x512 .f32) (main_arg5 : FVec F S512x1024 .f32) (main_arg6 : FVec F S2048x1024 .f32) (main_arg7 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := (extractStridedSlice S2048x1024 ![0, 2048] · slices_S2048x6656_S2048x1024_0_2048) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1024x1024 .f32 := Host.absf main_arg3
  let main_cst_4 : FVec F S_ .f32 := constant S_ .f32 0x7F800000#32
  let main_v16 : FVec F S1024x1024 .f32 := broadcastInDim S1024x1024 ![] bcast_S_S1024x1024 main_cst_4
  fn_part1 (F := F) main_arg6 main_v14 main_v15 main_v16
-- ==== Pre_ff1_finite.lean ====
abbrev S2048x1024 : Shape := ⟨2, ![2048, 1024]⟩
abbrev S1024x1024 : Shape := ⟨2, ![1024, 1024]⟩
abbrev S1x6144 : Shape := ⟨2, ![1, 6144]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  slices_S1x6144_S1x1024_0_2048 : S1x6144.Slices ![0, 2048] S1x1024
  bcast_S_S1x1024 : S_.BroadcastsInDim S1x1024 (![] : Fin 0 → Fin S1x1024.rank)
  reducesTo_S1x1024_S_d0_1 : S1x1024.ReducesTo [0, 1] S_
  slices_S1x6144_S1x1024_0_4096 : S1x6144.Slices ![0, 4096] S1x1024
  bcast_S_S1024x4096 : S_.BroadcastsInDim S1024x4096 (![] : Fin 0 → Fin S1024x4096.rank)
  reducesTo_S1024x4096_S_d0_1 : S1024x4096.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part2 {F : FTy → Type} [FloatOps F] (main_arg6 : FVec F S1024x4096 .f32) (main_arg7 : FVec F S2048x4096 .f32) (main_arg8 : FVec F S2048x1024 .f32) (main_v30 : IVec S_ 1) (main_v33 : IVec S1x1024 1) (main_c_11 : IVec S_ 1) : IVec S_ 1 :=
  let main_v34 : IVec S_ 1 := (fun x v => Host.reduce IntOp.andi x v reducesTo_S1x1024_S_d0_1 h_S_) main_v33 main_c_11
  let main_v35 : IVec S_ 1 := andi main_v30 main_v34
  let main_v36 : FVec F S1024x4096 .f32 := Host.absf main_arg6
  let main_cst_12 : FVec F S_ .f32 := constant S_ .f32 0x7F800000#32
  let main_v37 : FVec F S1024x4096 .f32 := broadcastInDim S1024x4096 ![] bcast_S_S1024x4096 main_cst_12
  let main_v38 : IVec S1024x4096 1 := cmpf .olt main_v36 main_v37
  let main_c_13 : IVec S_ 1 := constantI S_ 1 1#1
  let main_v39 : IVec S_ 1 := (fun x v => Host.reduce IntOp.andi x v reducesTo_S1024x4096_S_d0_1 h_S_) main_v38 main_c_13
  let main_v40 : IVec S_ 1 := andi main_v35 main_v39
  let main_v41 : FVec F S2048x4096 .f32 := Host.absf main_arg7
  let main_cst_14 : FVec F S_ .f32 := constant S_ .f32 0x7F800000#32
  let main_v42 : FVec F S2048x4096 .f32 := broadcastInDim S2048x4096 ![] bcast_S_S2048x4096 main_cst_14
  let main_v43 : IVec S2048x4096 1 := cmpf .olt main_v41 main_v42
  let main_c_15 : IVec S_ 1 := constantI S_ 1 1#1
  let main_v44 : IVec S_ 1 := (fun x v => Host.reduce IntOp.andi x v reducesTo_S2048x4096_S_d0_1 h_S_) main_v43 main_c_15
  let main_v45 : IVec S_ 1 := andi main_v40 main_v44
  let main_v46 : FVec F S2048x1024 .f32 := Host.absf main_arg8
  let main_cst_16 : FVec F S_ .f32 := constant S_ .f32 0x7F800000#32
  let main_v47 : FVec F S2048x1024 .f32 := broadcastInDim S2048x1024 ![] bcast_S_S2048x1024 main_cst_16
  let main_v48 : IVec S2048x1024 1 := cmpf .olt main_v46 main_v47
  let main_c_17 : IVec S_ 1 := constantI S_ 1 1#1
  let main_v49 : IVec S_ 1 := (fun x v => Host.reduce IntOp.andi x v reducesTo_S2048x1024_S_d0_1 h_S_) main_v48 main_c_17
  let main_v50 : IVec S_ 1 := andi main_v45 main_v49
  main_v50

def fn_part1 {F : FTy → Type} [FloatOps F] (main_arg3 : FVec F S1x6144 .f32) (main_arg4 : FVec F S1x1024 .f32) (main_arg5 : FVec F S1x1024 .f32) (main_arg6 : FVec F S1024x4096 .f32) (main_arg7 : FVec F S2048x4096 .f32) (main_arg8 : FVec F S2048x1024 .f32) (main_v13 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v13 main_v18
  let main_v20 : FVec F S1x1024 .f32 := (extractStridedSlice S1x1024 ![0, 4096] · slices_S1x6144_S1x1024_0_4096) main_arg3
  let main_v21 : FVec F S1x1024 .f32 := Host.absf main_v20
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v19 main_v24
  let main_v26 : FVec F S1x1024 .f32 := Host.absf main_arg4
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  let main_v31 : FVec F S1x1024 .f32 := Host.absf main_arg5
  let main_cst_10 : FVec F S_ .f32 := constant S_ .f32 0x7F800000#32
  let main_v32 : FVec F S1x1024 .f32 := broadcastInDim S1x1024 ![] bcast_S_S1x1024 main_cst_10
  let main_v33 : IVec S1x1024 1 := cmpf .olt main_v31 main_v32
  let main_c_11 : IVec S_ 1 := constantI S_ 1 1#1
  fn_part2 (F := F) main_arg6 main_arg7 main_arg8 main_v30 main_v33 main_c_11

def fn {F : FTy → Type} [FloatOps F] (main_arg0 : FVec F S2048x1024 .f32) (main_arg1 : FVec F S2048x1024 .f32) (main_arg2 : FVec F S1024x1024 .f32) (main_arg3 : FVec F S1x6144 .f32) (main_arg4 : FVec F S1x1024 .f32) (main_arg5 : FVec F S1x1024 .f32) (main_arg6 : FVec F S1024x4096 .f32) (main_arg7 : FVec F S2048x4096 .f32) (main_arg8 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x1024 .f32 := (extractStridedSlice S1x1024 ![0, 2048] · slices_S1x6144_S1x1024_0_2048) main_arg3
  let main_v15 : FVec F S1x1024 .f32 := Host.absf main_v14
  let main_cst_4 : FVec F S_ .f32 := constant S_ .f32 0x7F800000#32
  let main_v16 : FVec F S1x1024 .f32 := broadcastInDim S1x1024 ![] bcast_S_S1x1024 main_cst_4
  fn_part1 (F := F) main_arg3 main_arg4 main_arg5 main_arg6 main_arg7 main_arg8 main_v13 main_v15 main_v16
-- ==== Pre_in_finite.lean ====
abbrev S2048x1024 : Shape := ⟨2, ![2048, 1024]⟩
abbrev S1x1024 : Shape := ⟨2, ![1, 1024]⟩
abbrev S1x6144 : Shape := ⟨2, ![1, 6144]⟩
abbrev S1024x6656 : Shape := ⟨2, ![1024, 6656]⟩
abbrev S2048x6656 : Shape := ⟨2, ![2048, 6656]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  slices_S1x6144_S1x1024_0_1024 : S1x6144.Slices ![0, 1024] S1x1024
  bcast_S_S1024x6656 : S_.BroadcastsInDim S1024x6656 (![] : Fin 0 → Fin S1024x6656.rank)
  reducesTo_S1024x6656_S_d0_1 : S1024x6656.ReducesTo [0, 1] S_
  bcast_S_S2048x6656 : S_.BroadcastsInDim S2048x6656 (![] : Fin 0 → Fin S2048x6656.rank)
  reducesTo_S2048x6656_S_d0_1 : S2048x6656.ReducesTo [0, 1] S_

variable [Facts]

def fn_part1 {F : FTy → Type} [FloatOps F] (main_arg4 : FVec F S2048x6656 .f32) (main_v14 : IVec S_ 1) (main_v15 : FVec F S1024x6656 .f32) (main_v16 : FVec F S1024x6656 .f32) : IVec S_ 1 :=
  let main_v17 : IVec S1024x6656 1 := cmpf .olt main_v15 main_v16
  let main_c_5 : IVec S_ 1 := constantI S_ 1 1#1
  let main_v18 : IVec S_ 1 := (fun x v => Host.reduce IntOp.andi x v reducesTo_S1024x6656_S_d0_1 h_S_) main_v17 main_c_5
  let main_v19 : IVec S_ 1 := andi main_v14 main_v18
  let main_v20 : FVec F S2048x6656 .f32 := Host.absf main_arg4
  let main_cst_6 : FVec F S_ .f32 := constant S_ .f32 0x7F800000#32
  let main_v21 : FVec F S2048x6656 .f32 := broadcastInDim S2048x6656 ![] bcast_S_S2048x6656 main_cst_6
  let main_v22 : IVec S2048x6656 1 := cmpf .olt main_v20 main_v21
  let main_c_7 : IVec S_ 1 := constantI S_ 1 1#1
  let main_v23 : IVec S_ 1 := (fun x v => Host.reduce IntOp.andi x v reducesTo_S2048x6656_S_d0_1 h_S_) main_v22 main_c_7
  let main_v24 : IVec S_ 1 := andi main_v19 main_v23
  main_v24

def fn {F : FTy → Type} [FloatOps F] (main_arg0 : FVec F S2048x1024 .f32) (main_arg1 : FVec F S1x1024 .f32) (main_arg2 : FVec F S1x6144 .f32) (main_arg3 : FVec F S1024x6656 .f32) (main_arg4 : FVec F S2048x6656 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := (extractStridedSlice S1x1024 ![0, 1024] · slices_S1x6144_S1x1024_0_1024) main_arg2
  let main_v10 : FVec F S1x1024 .f32 := Host.absf main_v9
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v8 main_v13
  let main_v15 : FVec F S1024x6656 .f32 := Host.absf main_arg3
  let main_cst_4 : FVec F S_ .f32 := constant S_ .f32 0x7F800000#32
  let main_v16 : FVec F S1024x6656 .f32 := broadcastInDim S1024x6656 ![] bcast_S_S1024x6656 main_cst_4
  fn_part1 (F := F) main_arg4 main_v14 main_v15 main_v16
-- ==== Pre_loss_finite.lean ====
abbrev S2048x4096 : Shape := ⟨2, ![2048, 4096]⟩
abbrev S4096x1024 : Shape := ⟨2, ![4096, 1024]⟩
abbrev S2048x1024 : Shape := ⟨2, ![2048, 1024]⟩
abbrev S1x6144 : Shape := ⟨2, ![1, 6144]⟩
abbrev S1x1024 : Shape := ⟨2, ![1, 1024]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2048x1024 : S_.BroadcastsInDim S2048x1024 (![] : Fin 0 → Fin S2048x1024.rank)
  reducesTo_S2048x1024_S_d0_1 : S2048x1024.ReducesTo [0, 1] S_
  slices_S1x6144_S1x1024_0_5120 : S1x6144.Slices ![0, 5120] S1x1024
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x6144 .f32) (main_arg5 : FVec F S1x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1x1024 .f32 := (extractStridedSlice S1x1024 ![0, 5120] · slices_S1x6144_S1x1024_0_5120) main_arg4
  let main_v20 : FVec F S1x1024 .f32 := Host.absf main_v19
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v18 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  main_v29

def fn {F : FTy → Type} [FloatOps F] (main_arg0 : FVec F S2048x4096 .f32) (main_arg1 : FVec F S4096x1024 .f32) (main_arg2 : FVec F S2048x1024 .f32) (main_arg3 : FVec F S2048x1024 .f32) (main_arg4 : FVec F S1x6144 .f32) (main_arg5 : FVec F S1x1024 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Pre_ret_finite.lean ====
abbrev S2048x512 : Shape := ⟨2, ![2048, 512]⟩
abbrev S2048x6656 : Shape := ⟨2, ![2048, 6656]⟩
abbrev S2048x1024 : Shape := ⟨2, ![2048, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x6656 : S_.BroadcastsInDim S2048x6656 (![] : Fin 0 → Fin S2048x6656.rank)
  reducesTo_S2048x6656_S_d0_1 : S2048x6656.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x512 .f32) (main_arg1 : FVec F S2048x512 .f32) (main_arg2 : FVec F S2048x6656 .f32) (main_arg3 : FVec F S2048x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x6656 .f32 := Host.absf main_arg2
  let main_cst_2 : FVec F S_ .f32 := constant S_ .f32 0x7F800000#32
  let main_v10 : FVec F S2048x6656 .f32 := broadcastInDim S2048x6656 ![] bcast_S_S2048x6656 main_cst_2
  let main_v11 : IVec S2048x6656 1 := cmpf .olt main_v9 main_v10
  let main_c_3 : IVec S_ 1 := constantI S_ 1 1#1
  let main_v12 : IVec S_ 1 := (fun x v => Host.reduce IntOp.andi x v reducesTo_S2048x6656_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_stick_finite.lean ====
abbrev S2048x6656 : Shape := ⟨2, ![2048, 6656]⟩
abbrev S2048x512 : Shape := ⟨2, ![2048, 512]⟩
abbrev S_ : Shape := ⟨0, ![]⟩

class Facts : Prop where
  bcast_S_S2048x6656 : S_.BroadcastsInDim S2048x6656 (![] : Fin 0 → Fin S2048x6656.rank)
  reducesTo_S2048x6656_S_d0_1 : S2048x6656.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x6656 .f32) (main_arg1 : FVec F S2048x512 .f32) : IVec S_ 1 :=
  let main_v0 : FVec F S2048x6656 .f32 := Host.absf main_arg0
  let main_cst : FVec F S_ .f32 := constant S_ .f32 0x7F800000#32
  let main_v1 : FVec F S2048x6656 .f32 := broadcastInDim S2048x6656 ![] bcast_S_S2048x6656 main_cst
  let main_v2 : IVec S2048x6656 1 := cmpf .olt main_v0 main_v1
  let main_c : IVec S_ 1 := constantI S_ 1 1#1
  let main_v3 : IVec S_ 1 := (fun x v => Host.reduce IntOp.andi x v reducesTo_S2048x6656_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Gate.lean ====
abbrev S2048x1024 : Shape := ⟨2, ![2048, 1024]⟩
abbrev S1024x1024 : Shape := ⟨2, ![1024, 1024]⟩
abbrev S2048x6656 : Shape := ⟨2, ![2048, 6656]⟩
abbrev S512x1024 : Shape := ⟨2, ![512, 1024]⟩
abbrev S512x512 : Shape := ⟨2, ![512, 512]⟩

abbrev nBuf : Space → Nat
  | .hbm => 14
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x6656, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1024x1024, .bf16⟩
  | .hbm, ⟨7, _⟩ => ⟨S2048x6656, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GateRefIdeal.lean ====
abbrev S2048x1024 : Shape := ⟨2, ![2048, 1024]⟩
abbrev S1024x1024 : Shape := ⟨2, ![1024, 1024]⟩
abbrev S2048x6656 : Shape := ⟨2, ![2048, 6656]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x6656, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .bf16⟩
  | .hbm, ⟨43, _⟩ => ⟨S2048x1024, .bf16⟩
  | .hbm, ⟨44, _⟩ => ⟨S2048x1024, .bf16⟩
  | .hbm, ⟨45, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== StickGrad.lean ====
abbrev S2048x6656 : Shape := ⟨2, ![2048, 6656]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x2x4x512x16x128 : Shape := ⟨6, ![4, 2, 4, 512, 16, 128]⟩
abbrev S4x4x16x2x512x128 : Shape := ⟨6, ![4, 4, 16, 2, 512, 128]⟩
abbrev S4x4x16x1024x128 : Shape := ⟨5, ![4, 4, 16, 1024, 128]⟩
abbrev S512x128 : Shape := ⟨2, ![512, 128]⟩
abbrev S2048x128 : Shape := ⟨2, ![2048, 128]⟩
abbrev S1x1x16x1024x128 : Shape := ⟨5, ![1, 1, 16, 1024, 128]⟩
abbrev S128x128 : Shape := ⟨2, ![128, 128]⟩
abbrev S1x128 : Shape := ⟨2, ![1, 128]⟩
abbrev S1024x128 : Shape := ⟨2, ![1024, 128]⟩
abbrev S1024x1 : Shape := ⟨2, ![1024, 1]⟩
abbrev S1x1x1x1024x128 : Shape := ⟨5, ![1, 1, 1, 1024, 128]⟩
abbrev S512x256 : Shape := ⟨2, ![512, 256]⟩
abbrev S256x128 : Shape := ⟨2, ![256, 128]⟩
abbrev S1024 : Shape := ⟨1, ![1024]⟩

abbrev nBuf : Space → Nat
  | .hbm => 81
  | .vmem => 16
  | .smem => 0
  | _ => 0

abbrev bufTy : (tb : Table) → Fin (tcTables nBuf tb) → BufTy
  | .hbm, ⟨0, _⟩ => ⟨S2048x6656, .f32⟩
  | .hbm, ⟨1, _⟩ => ⟨S2048x512, .f32⟩
  | .hbm, ⟨2, _⟩ => ⟨S2048x512, .f32⟩
  | .hbm, ⟨3, _⟩ => ⟨S2048x8x64, .f32⟩
  | .hbm, ⟨4, _⟩ => ⟨S2048x512, .f32⟩
  | .hbm, ⟨5, _⟩ => ⟨S2048x8x64, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S1x2048, .i32⟩
  | .hbm, ⟨12, _⟩ => ⟨S2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .i1⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S_, .f32⟩
  | .hbm, ⟨34, _⟩ => ⟨S8x2048x2048, .i1⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .i1⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S_, .f32⟩
  | .hbm, ⟨60, _⟩ => ⟨S_, .f32⟩
  | .hbm, ⟨61, _⟩ => ⟨S8x2048x2048, .i1⟩
  | .hbm, ⟨62, _⟩ => ⟨S8x2048x2048, .f32⟩
  | .hbm, ⟨63, _⟩ => ⟨S8x2048x2048, .f32⟩
  | .hbm, ⟨64, _⟩ => ⟨S4x2x4x512x16x128, .f32⟩
  | .hbm, ⟨65, _⟩ => ⟨S4x4x16x2x512x128, .f32⟩
  | .hbm, ⟨66, _⟩ => ⟨S4x4x16x1024x128, .f32⟩
  | .hbm, ⟨67, _⟩ => ⟨S2048x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2048x512, .f32⟩
  | .hbm, ⟨73, _⟩ => ⟨S2048x512, .f32⟩
  | .hbm, ⟨74, _⟩ => ⟨S2048x512, .bf16⟩
  | .hbm, ⟨75, _⟩ => ⟨S2048x6656, .bf16⟩
  | .hbm, ⟨76, _⟩ => ⟨S4x4x16x1024x128, .bf16⟩
  | .hbm, ⟨77, _⟩ => ⟨S2048x512, .bf16⟩
  | .hbm, ⟨78, _⟩ => ⟨S2048x512, .f32⟩
  | .hbm, ⟨79, _⟩ => ⟨S2048x512, .f32⟩
  | .hbm, ⟨80, _⟩ => ⟨S2048x512, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x16x1024x128, .bf16⟩
  | .local _ .vmem, ⟨7, _⟩ => ⟨S1x1x16x1024x128, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_call2_cst : Ref sig .tc := ⟨.hbm, 37, rfl⟩
abbrev main_call2_v0 : Ref sig .tc := ⟨.hbm, 38, rfl⟩
abbrev main_v17 : Ref sig .tc := ⟨.hbm, 39, rfl⟩
abbrev main_v18 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_1 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_2 : Ref sig .tc := ⟨.hbm, 68, rfl⟩
abbrev main_v27 : Ref sig .tc := ⟨.hbm, 69, rfl⟩
abbrev main_cst_3 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35_0 : Ref sig .tc := ⟨.hbm, 78, rfl⟩
abbrev main_v35_1 : Ref sig .tc := ⟨.hbm, 79, rfl⟩
abbrev main_v35_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_18 : BitVec 32 := 0#32
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let v63 : BitVec 32 := Scalar.subi v60 c0_i32_18
  let c1_i32_19 : BitVec 32 := 1#32
  let v65 : BitVec 32 := Scalar.divsi v63 c1_i32_19
  let v66 : BitVec 32 := Scalar.muli v65 c1_i32_19
  let v67 : BitVec 32 := Scalar.addi c0_i32_18 v66
  let c1_i32_20 : BitVec 32 := 1#32
  ⟨c0_i32_18, v67, c1_i32_20⟩
def k0_mult1 (i : grid0.Coords) (k0_t1 : Fin (k0_t1_loop i).trips) : BitVec 32 :=
  let c0_i32_18 : BitVec 32 := 0#32
  let c1_i32_20 : BitVec 32 := 1#32
  let arg10 : BitVec 32 := Scf.iv c0_i32_18 c1_i32_20 k0_t1
  let c4_i32_146 : BitVec 32 := 4#32
  let v408 : BitVec 32 := Scalar.muli arg10 c4_i32_146
  let c0_i32_147 : BitVec 32 := 0#32
  let v409 : BitVec 32 := Scalar.addi v408 c0_i32_147
  let c128_i32_154 : BitVec 32 := 128#32
  let v416 : BitVec 32 := Scalar.muli v409 c128_i32_154
  v416
def k0_mult2 (i : grid0.Coords) (k0_t1 : Fin (k0_t1_loop i).trips) : BitVec 32 :=
  let c0_i32_18 : BitVec 32 := 0#32
  let c1_i32_20 : BitVec 32 := 1#32
  let arg10 : BitVec 32 := Scf.iv c0_i32_18 c1_i32_20 k0_t1
  let c4_i32_148 : BitVec 32 := 4#32
  let v410 : BitVec 32 := Scalar.muli arg10 c4_i32_148
  let c1_i32_149 : BitVec 32 := 1#32
  let v411 : BitVec 32 := Scalar.addi v410 c1_i32_149
  let c128_i32_155 : BitVec 32 := 128#32
  let v418 : BitVec 32 := Scalar.muli v411 c128_i32_155
  v418
def k0_mult3 (i : grid0.Coords) (k0_t1 : Fin (k0_t1_loop i).trips) : BitVec 32 :=
  let c0_i32_18 : BitVec 32 := 0#32
  let c1_i32_20 : BitVec 32 := 1#32
  let arg10 : BitVec 32 := Scf.iv c0_i32_18 c1_i32_20 k0_t1
  let c4_i32_150 : BitVec 32 := 4#32
  let v412 : BitVec 32 := Scalar.muli arg10 c4_i32_150
  let c2_i32_151 : BitVec 32 := 2#32
  let v413 : BitVec 32 := Scalar.addi v412 c2_i32_151
  let c128_i32_156 : BitVec 32 := 128#32
  let v420 : BitVec 32 := Scalar.muli v413 c128_i32_156
  v420
def k0_mult4 (i : grid0.Coords) (k0_t1 : Fin (k0_t1_loop i).trips) : BitVec 32 :=
  let c0_i32_18 : BitVec 32 := 0#32
  let c1_i32_20 : BitVec 32 := 1#32
  let arg10 : BitVec 32 := Scf.iv c0_i32_18 c1_i32_20 k0_t1
  let c4_i32_152 : BitVec 32 := 4#32
  let v414 : BitVec 32 := Scalar.muli arg10 c4_i32_152
  let c3_i32_153 : BitVec 32 := 3#32
  let v415 : BitVec 32 := Scalar.addi v414 c3_i32_153
  let c128_i32_157 : BitVec 32 := 128#32
  let v422 : BitVec 32 := Scalar.muli v415 c128_i32_157
  v422
def k0_off1 (i : grid0.Coords) (k0_t1 : Fin (k0_t1_loop i).trips) (c0_i32_147 : BitVec 32) : Fin 2 → Nat :=
  let c0_i32_18 : BitVec 32 := 0#32
  let c1_i32_20 : BitVec 32 := 1#32
  let arg10 : BitVec 32 := Scf.iv c0_i32_18 c1_i32_20 k0_t1
  let c4_i32_146 : BitVec 32 := 4#32
  let v408 : BitVec 32 := Scalar.muli arg10 c4_i32_146
  let v409 : BitVec 32 := Scalar.addi v408 c0_i32_147
  let c128_i32_154 : BitVec 32 := 128#32
  let v416 : BitVec 32 := Scalar.muli v409 c128_i32_154
  let v417 : BitVec 32 := v416
  let v424 : Index := Scalar.indexCast v417
  let c0_158 : Index := 0#32
  ![v424.toNat, 0]
def k0_off2 (i : grid0.Coords) (k0_t1 : Fin (k0_t1_loop i).trips) (c0_i32_147 : BitVec 32) : Fin 5 → Nat :=
  let c0_174 : Index := 0#32
  let c0_175 : Index := 0#32
  let c0_i32_18 : BitVec 32 := 0#32
  let c1_i32_20 : BitVec 32 := 1#32
  let arg10 : BitVec 32 := Scf.iv c0_i32_18 c1_i32_20 k0_t1
  let c4_i32_146 : BitVec 32 := 4#32
  let v408 : BitVec 32 := Scalar.muli arg10 c4_i32_146
  let v409 : BitVec 32 := Scalar.addi v408 c0_i32_147
  let v456 : Index := Scalar.indexCast v409
  let c0_176 : Index := 0#32
  let c0_177 : Index := 0#32
  ![0, 0, v456.toNat, 0, 0]
@[reducible] def k0_t2_loop (i : grid0.Coords) : Scf.Loop 32 :=
  let c0_i32_18 : BitVec 32 := 0#32
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let v63 : BitVec 32 := Scalar.subi v60 c0_i32_18
  let c1_i32_19 : BitVec 32 := 1#32
  let v65 : BitVec 32 := Scalar.divsi v63 c1_i32_19
  let v66 : BitVec 32 := Scalar.muli v65 c1_i32_19
  let v67 : BitVec 32 := Scalar.addi c0_i32_18 v66
  let v64 : BitVec 32 := Scalar.addi c0_i32_18 v63
  let c1_i32_21 : BitVec 32 := 1#32
  ⟨v67, v64, c1_i32_21⟩
def k0_mult5 (i : grid0.Coords) (k0_t2 : Fin (k0_t2_loop i).trips) : BitVec 32 :=
  let c0_i32_18 : BitVec 32 := 0#32
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let v63 : BitVec 32 := Scalar.subi v60 c0_i32_18
  let c1_i32_19 : BitVec 32 := 1#32
  let v65 : BitVec 32 := Scalar.divsi v63 c1_i32_19
  let v66 : BitVec 32 := Scalar.muli v65 c1_i32_19
  let v67 : BitVec 32 := Scalar.addi c0_i32_18 v66
  let c1_i32_21 : BitVec 32 := 1#32
  let arg10 : BitVec 32 := Scf.iv v67 c1_i32_21 k0_t2
  let c4_i32_146 : BitVec 32 := 4#32
  let v408 : BitVec 32 := Scalar.muli arg10 c4_i32_146
  let c0_i32_147 : BitVec 32 := 0#32
  let v409 : BitVec 32 := Scalar.addi v408 c0_i32_147
  let c128_i32_154 : BitVec 32 := 128#32
  let v416 : BitVec 32 := Scalar.muli v409 c128_i32_154
  v416
def k0_mult6 (i : grid0.Coords) (k0_t2 : Fin (k0_t2_loop i).trips) : BitVec 32 :=
  let c0_i32_18 : BitVec 32 := 0#32
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let v63 : BitVec 32 := Scalar.subi v60 c0_i32_18
  let c1_i32_19 : BitVec 32 := 1#32
  let v65 : BitVec 32 := Scalar.divsi v63 c1_i32_19
  let v66 : BitVec 32 := Scalar.muli v65 c1_i32_19
  let v67 : BitVec 32 := Scalar.addi c0_i32_18 v66
  let c1_i32_21 : BitVec 32 := 1#32
  let arg10 : BitVec 32 := Scf.iv v67 c1_i32_21 k0_t2
  let c4_i32_148 : BitVec 32 := 4#32
  let v410 : BitVec 32 := Scalar.muli arg10 c4_i32_148
  let c1_i32_149 : BitVec 32 := 1#32
  let v411 : BitVec 32 := Scalar.addi v410 c1_i32_149
  let c128_i32_155 : BitVec 32 := 128#32
  let v418 : BitVec 32 := Scalar.muli v411 c128_i32_155
  v418
def k0_mult7 (i : grid0.Coords) (k0_t2 : Fin (k0_t2_loop i).trips) : BitVec 32 :=
  let c0_i32_18 : BitVec 32 := 0#32
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let v63 : BitVec 32 := Scalar.subi v60 c0_i32_18
  let c1_i32_19 : BitVec 32 := 1#32
  let v65 : BitVec 32 := Scalar.divsi v63 c1_i32_19
  let v66 : BitVec 32 := Scalar.muli v65 c1_i32_19
  let v67 : BitVec 32 := Scalar.addi c0_i32_18 v66
  let c1_i32_21 : BitVec 32 := 1#32
  let arg10 : BitVec 32 := Scf.iv v67 c1_i32_21 k0_t2
  let c4_i32_150 : BitVec 32 := 4#32
  let v412 : BitVec 32 := Scalar.muli arg10 c4_i32_150
  let c2_i32_151 : BitVec 32 := 2#32
  let v413 : BitVec 32 := Scalar.addi v412 c2_i32_151
  let c128_i32_156 : BitVec 32 := 128#32
  let v420 : BitVec 32 := Scalar.muli v413 c128_i32_156
  v420
def k0_mult8 (i : grid0.Coords) (k0_t2 : Fin (k0_t2_loop i).trips) : BitVec 32 :=
  let c0_i32_18 : BitVec 32 := 0#32
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let v63 : BitVec 32 := Scalar.subi v60 c0_i32_18
  let c1_i32_19 : BitVec 32 := 1#32
  let v65 : BitVec 32 := Scalar.divsi v63 c1_i32_19
  let v66 : BitVec 32 := Scalar.muli v65 c1_i32_19
  let v67 : BitVec 32 := Scalar.addi c0_i32_18 v66
  let c1_i32_21 : BitVec 32 := 1#32
  let arg10 : BitVec 32 := Scf.iv v67 c1_i32_21 k0_t2
  let c4_i32_152 : BitVec 32 := 4#32
  let v414 : BitVec 32 := Scalar.muli arg10 c4_i32_152
  let c3_i32_153 : BitVec 32 := 3#32
  let v415 : BitVec 32 := Scalar.addi v414 c3_i32_153
  let c128_i32_157 : BitVec 32 := 128#32
  let v422 : BitVec 32 := Scalar.muli v415 c128_i32_157
  v422
def k0_off3 (i : grid0.Coords) (k0_t2 : Fin (k0_t2_loop i).trips) (c0_i32_147 : BitVec 32) : Fin 2 → Nat :=
  let c0_i32_18 : BitVec 32 := 0#32
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let v63 : BitVec 32 := Scalar.subi v60 c0_i32_18
  let c1_i32_19 : BitVec 32 := 1#32
  let v65 : BitVec 32 := Scalar.divsi v63 c1_i32_19
  let v66 : BitVec 32 := Scalar.muli v65 c1_i32_19
  let v67 : BitVec 32 := Scalar.addi c0_i32_18 v66
  let c1_i32_21 : BitVec 32 := 1#32
  let arg10 : BitVec 32 := Scf.iv v67 c1_i32_21 k0_t2
  let c4_i32_146 : BitVec 32 := 4#32
  let v408 : BitVec 32 := Scalar.muli arg10 c4_i32_146
  let v409 : BitVec 32 := Scalar.addi v408 c0_i32_147
  let c128_i32_154 : BitVec 32 := 128#32
  let v416 : BitVec 32 := Scalar.muli v409 c128_i32_154
  let v417 : BitVec 32 := v416
  let v424 : Index := Scalar.indexCast v417
  let c0_158 : Index := 0#32
  ![v424.toNat, 0]
def k0_off4 (i : grid0.Coords) (k0_t2 : Fin (k0_t2_loop i).trips) (c0_i32_147 : BitVec 32) : Fin 5 → Nat :=
  let c0_174 : Index := 0#32
  let c0_175 : Index := 0#32
  let c0_i32_18 : BitVec 32 := 0#32
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let v63 : BitVec 32 := Scalar.subi v60 c0_i32_18
  let c1_i32_19 : BitVec 32 := 1#32
  let v65 : BitVec 32 := Scalar.divsi v63 c1_i32_19
  let v66 : BitVec 32 := Scalar.muli v65 c1_i32_19
  let v67 : BitVec 32 := Scalar.addi c0_i32_18 v66
  let c1_i32_21 : BitVec 32 := 1#32
  let arg10 : BitVec 32 := Scf.iv v67 c1_i32_21 k0_t2
  let c4_i32_146 : BitVec 32 := 4#32
  let v408 : BitVec 32 := Scalar.muli arg10 c4_i32_146
  let v409 : BitVec 32 := Scalar.addi v408 c0_i32_147
  let v456 : Index := Scalar.indexCast v409
  let c0_176 : Index := 0#32
  let c0_177 : Index := 0#32
  ![0, 0, v456.toNat, 0, 0]
def k0_mult9 (i : grid0.Coords) : BitVec 32 :=
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let c4_i32_22 : BitVec 32 := 4#32
  let v70 : BitVec 32 := Scalar.muli v60 c4_i32_22
  let c0_i32_23 : BitVec 32 := 0#32
  let v71 : BitVec 32 := Scalar.addi v70 c0_i32_23
  let c128_i32 : BitVec 32 := 128#32
  let v78 : BitVec 32 := Scalar.muli v71 c128_i32
  v78
def k0_mult10 (i : grid0.Coords) : BitVec 32 :=
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let c4_i32_24 : BitVec 32 := 4#32
  let v72 : BitVec 32 := Scalar.muli v60 c4_i32_24
  let c1_i32_25 : BitVec 32 := 1#32
  let v73 : BitVec 32 := Scalar.addi v72 c1_i32_25
  let c128_i32_28 : BitVec 32 := 128#32
  let v80 : BitVec 32 := Scalar.muli v73 c128_i32_28
  v80
def k0_mult11 (i : grid0.Coords) : BitVec 32 :=
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let c4_i32_26 : BitVec 32 := 4#32
  let v74 : BitVec 32 := Scalar.muli v60 c4_i32_26
  let c2_i32 : BitVec 32 := 2#32
  let v75 : BitVec 32 := Scalar.addi v74 c2_i32
  let c128_i32_29 : BitVec 32 := 128#32
  let v82 : BitVec 32 := Scalar.muli v75 c128_i32_29
  v82
def k0_mult12 (i : grid0.Coords) : BitVec 32 :=
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let c4_i32_27 : BitVec 32 := 4#32
  let v76 : BitVec 32 := Scalar.muli v60 c4_i32_27
  let c3_i32 : BitVec 32 := 3#32
  let v77 : BitVec 32 := Scalar.addi v76 c3_i32
  let c128_i32_30 : BitVec 32 := 128#32
  let v84 : BitVec 32 := Scalar.muli v77 c128_i32_30
  v84
def k0_off5 (i : grid0.Coords) (c0_i32_23 : BitVec 32) : Fin 2 → Nat :=
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let c4_i32_22 : BitVec 32 := 4#32
  let v70 : BitVec 32 := Scalar.muli v60 c4_i32_22
  let v71 : BitVec 32 := Scalar.addi v70 c0_i32_23
  let c128_i32 : BitVec 32 := 128#32
  let v78 : BitVec 32 := Scalar.muli v71 c128_i32
  let v79 : BitVec 32 := v78
  let v86 : Index := Scalar.indexCast v79
  let c0_31 : Index := 0#32
  ![v86.toNat, 0]
def k0_off6 (i : grid0.Coords) (c0_i32_23 : BitVec 32) : Fin 5 → Nat :=
  let c0_47 : Index := 0#32
  let c0_48 : Index := 0#32
  let arg1 : BitVec 32 := BitVec.ofNat 32 (i 1).val
  let c4_i32 : BitVec 32 := 4#32
  let v43 : BitVec 32 := Scalar.muli arg1 c4_i32
  let c0_i32_11 : BitVec 32 := 0#32
  let v45 : BitVec 1 := Scalar.cmpi .sgt v43 c0_i32_11
  let v46 : BitVec 32 := Scalar.extui v45
  let c0_i32_12 : BitVec 32 := 0#32
  let v47 : BitVec 1 := Scalar.cmpi .slt v43 c0_i32_12
  let v48 : BitVec 32 := Scalar.extui v47
  let v49 : BitVec 32 := Scalar.subi v46 v48
  let c4_i32_10 : BitVec 32 := 4#32
  let c0_i32_13 : BitVec 32 := 0#32
  let v50 : BitVec 1 := Scalar.cmpi .sgt c4_i32_10 c0_i32_13
  let v51 : BitVec 32 := Scalar.extui v50
  let c0_i32_14 : BitVec 32 := 0#32
  let v52 : BitVec 1 := Scalar.cmpi .slt c4_i32_10 c0_i32_14
  let v53 : BitVec 32 := Scalar.extui v52
  let v54 : BitVec 32 := Scalar.subi v51 v53
  let v55 : BitVec 1 := Scalar.cmpi .ne v49 v54
  let v56 : BitVec 32 := Scalar.remsi v43 c4_i32_10
  let c0_i32_15 : BitVec 32 := 0#32
  let v57 : BitVec 1 := Scalar.cmpi .ne v56 c0_i32_15
  let v58 : BitVec 1 := Scalar.andi v55 v57
  let v44 : BitVec 32 := Scalar.divsi v43 c4_i32_10
  let c1_i32 : BitVec 32 := 1#32
  let v59 : BitVec 32 := Scalar.subi v44 c1_i32
  let v60 : BitVec 32 := Scalar.select v58 v59 v44
  let c4_i32_22 : BitVec 32 := 4#32
  let v70 : BitVec 32 := Scalar.muli v60 c4_i32_22
  let v71 : BitVec 32 := Scalar.addi v70 c0_i32_23
  let v118 : Index := Scalar.indexCast v71
  let c0_49 : Index := 0#32
  let c0_50 : Index := 0#32
  ![0, 0, v118.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== StickGradRefIdeal.lean ====
abbrev S2048x6656 : Shape := ⟨2, ![2048, 6656]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩

abbrev nBuf : Space → Nat
  | .hbm => 176
  | .vmem => 0
  | .smem => 0
  | _ => 0

abbrev hbmTy0_0 (i : Nat) : BufTy := match i % 128 with
  | 0 => ⟨S2048x6656, .f32⟩
  | 1 => ⟨S2048x512, .f32⟩
  | 2 => ⟨S2048x512, .f32⟩
  | 3 => ⟨S2048x8x64, .f32⟩
  | 4 => ⟨S2048x512, .f32⟩
  | 5 => ⟨S2048x8x64, .f32⟩
  | 6 => ⟨S2048x512, .f32⟩
  | 7 => ⟨S2048x8x64, .f32⟩
  | 8 => ⟨S8x2048x2048, .f32⟩
  | 9 => ⟨S_, .f32⟩
  | 10 => ⟨S8x2048x2048, .f32⟩
  | 11 => ⟨S8x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S_, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .i1⟩
  | 25 => ⟨S8x2048x2048, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S_, .f32⟩
  | 34 => ⟨S8x2048x2048, .f32⟩
  | 35 => ⟨S8x2048x2048, .i1⟩
  | 36 => ⟨S_, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .i1⟩
  | 42 => ⟨S_, .f32⟩
  | 43 => ⟨S8x2048x2048, .f32⟩
  | 44 => ⟨S8x2048x2048, .f32⟩
  | 45 => ⟨S8x2048x2048, .f32⟩
  | 46 => ⟨S8x2048x2048, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8x2048x2048, .f32⟩
  | 55 => ⟨S8x2048x2048, .i1⟩
  | 56 => ⟨S_, .f32⟩
  | 57 => ⟨S8x2048x2048, .f32⟩
  | 58 => ⟨S8x2048x2048, .f32⟩
  | 59 => ⟨S8x2048x2048, .f32⟩
  | 60 => ⟨S8x2048x2048, .f32⟩
  | 61 => ⟨S8x2048x2048, .f32⟩
  | 62 => ⟨S_, .f32⟩
  | 63 => ⟨S8x2048x2048, .f32⟩
  | 64 => ⟨S8x2048x2048, .f32⟩
  | 65 => ⟨S8x2048x2048, .f32⟩
  | 66 => ⟨S_, .f32⟩
  | 67 => ⟨S_, .f32⟩
  | 68 => ⟨S8x2048x2048, .i1⟩
  | 69 => ⟨S8x2048x2048, .f32⟩
  | 70 => ⟨S8x2048x2048, .f32⟩
  | 71 => ⟨S_, .f32⟩
  | 72 => ⟨S8x2048x2048, .f32⟩
  | 73 => ⟨S_, .f32⟩
  | 74 => ⟨S_, .f32⟩
  | 75 => ⟨S8x2048x2048, .f32⟩
  | 76 => ⟨S8x2048x2048, .f32⟩
  | 77 => ⟨S8x2048x2048, .f32⟩
  | 78 => ⟨S_, .f32⟩
  | 79 => ⟨S8x2048x2048, .f32⟩
  | 80 => ⟨S8x2048x2048, .f32⟩
  | 81 => ⟨S8x2048x2048, .f32⟩
  | 82 => ⟨S8x2048x2048, .f32⟩
  | 83 => ⟨S8x2048x2048, .i1⟩
  | 84 => ⟨S8x2048x2048, .f32⟩
  | 85 => ⟨S8x2048x2048, .f32⟩
  | 86 => ⟨S8x2048x2048, .f32⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S_, .f32⟩
  | 93 => ⟨S8x2048x2048, .f32⟩
  | 94 => ⟨S8x2048x2048, .i1⟩
  | 95 => ⟨S_, .f32⟩
  | 96 => ⟨S8x2048x2048, .f32⟩
  | 97 => ⟨S8x2048x2048, .f32⟩
  | 98 => ⟨S_, .f32⟩
  | 99 => ⟨S8x2048x2048, .f32⟩
  | 100 => ⟨S8x2048x2048, .i1⟩
  | 101 => ⟨S_, .f32⟩
  | 102 => ⟨S8x2048x2048, .f32⟩
  | 103 => ⟨S8x2048x2048, .f32⟩
  | 104 => ⟨S8x2048x2048, .f32⟩
  | 105 => ⟨S8x2048x2048, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S8x2048x2048, .f32⟩
  | 114 => ⟨S8x2048x2048, .i1⟩
  | 115 => ⟨S_, .f32⟩
  | 116 => ⟨S8x2048x2048, .f32⟩
  | 117 => ⟨S8x2048x2048, .f32⟩
  | 118 => ⟨S8x2048x2048, .f32⟩
  | 119 => ⟨S8x2048x2048, .f32⟩
  | 120 => ⟨S8x2048x2048, .f32⟩
  | 121 => ⟨S_, .f32⟩
  | 122 => ⟨S8x2048x2048, .f32⟩
  | 123 => ⟨S8x2048x2048, .f32⟩
  | 124 => ⟨S8x2048x2048, .f32⟩
  | 125 => ⟨S8x2048x2048, .f32⟩
  | 126 => ⟨S8x2048x2048, .f32⟩
  | 127 => ⟨S_, .f32⟩
  | _ => ⟨S2048x6656, .f32⟩

abbrev hbmTy0_1 (i : Nat) : BufTy := match i % 128 with
  | 0 => ⟨S_, .f32⟩
  | 1 => ⟨S8x2048x2048, .i1⟩
  | 2 => ⟨S8x2048x2048, .f32⟩
  | 3 => ⟨S8x2048x2048, .f32⟩
  | 4 => ⟨S_, .f32⟩
  | 5 => ⟨S8x2048x2048, .f32⟩
  | 6 => ⟨S8x64x2048, .f32⟩
  | 7 => ⟨S2048x8x64, .f32⟩
  | 8 => ⟨S2048x8x64, .f32⟩
  | 9 => ⟨S8x64x2048, .f32⟩
  | 10 => ⟨S8x2048x2048, .f32⟩
  | 11 => ⟨S8x64x2048, .f32⟩
  | 12 => ⟨S2048x8x64, .f32⟩
  | 13 => ⟨S_, .f32⟩
  | 14 => ⟨S8x2048x2048, .f32⟩
  | 15 => ⟨S8x2048x2048, .f32⟩
  | 16 => ⟨S8x2048x2048, .f32⟩
  | 17 => ⟨S8x2048x2048, .f32⟩
  | 18 => ⟨S8x2048x2048, .f32⟩
  | 19 => ⟨S8x2048x2048, .f32⟩
  | 20 => ⟨S8x2048x2048, .f32⟩
  | 21 => ⟨S_, .f32⟩
  | 22 => ⟨S_, .f32⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .f32⟩
  | 31 => ⟨S_, .f32⟩
  | 32 => ⟨S8x2048x2048, .f32⟩
  | 33 => ⟨S8x2048x2048, .f32⟩
  | 34 => ⟨S8x2048x64, .f32⟩
  | 35 => ⟨S2048x8x64, .f32⟩
  | 36 => ⟨S8x2048x64, .f32⟩
  | 37 => ⟨S2048x8x64, .f32⟩
  | 38 => ⟨S2048x512, .f32⟩
  | 39 => ⟨S_, .f32⟩
  | 40 => ⟨S2048x512, .f32⟩
  | 41 => ⟨S2048x512, .f32⟩
  | 42 => ⟨S2048x512, .f32⟩
  | 43 => ⟨S_, .f32⟩
  | 44 => ⟨S_, .f32⟩
  | 45 => ⟨S2048x512, .f32⟩
  | 46 => ⟨S2048x512, .f32⟩
  | 47 => ⟨S2048x512, .f32⟩
  | _ => ⟨S2048x6656, .f32⟩

abbrev hbmTy (i : Nat) : BufTy := match i / 128 with
  | 0 => hbmTy0_0 i
  | 1 => hbmTy0_1 i
  | _ => ⟨S2048x6656, .f32⟩

abbrev bufTy : (tb : Table) → Fin (tcTables nBuf tb) → BufTy
  | .hbm, ⟨i, _⟩ => hbmTy i
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v16_0 : Ref sig .tc := ⟨.hbm, 32, rfl⟩
abbrev main_call0_cst_0 : Ref sig .tc := ⟨.hbm, 33, rfl⟩
abbrev main_call0_v13 : Ref sig .tc := ⟨.hbm, 34, rfl⟩
abbrev main_call0_v14 : Ref sig .tc := ⟨.hbm, 35, rfl⟩
abbrev main_call0_cst_1 : Ref sig .tc := ⟨.hbm, 36, rfl⟩
abbrev main_call0_v15 : Ref sig .tc := ⟨.hbm, 37, rfl⟩
abbrev main_call0_v16 : Ref sig .tc := ⟨.hbm, 38, rfl⟩
abbrev main_call0_cst_2 : Ref sig .tc := ⟨.hbm, 39, rfl⟩
abbrev main_call0_v17 : Ref sig .tc := ⟨.hbm, 40, rfl⟩
abbrev main_call0_v18 : Ref sig .tc := ⟨.hbm, 41, rfl⟩
abbrev main_call0_cst_3 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_v16_1 : Ref sig .tc := ⟨.hbm, 46, rfl⟩
abbrev main_call0_cst_4 : Ref sig .tc := ⟨.hbm, 47, rfl⟩
abbrev main_call0_cst_5 : Ref sig .tc := ⟨.hbm, 48, rfl⟩
abbrev main_call0_v23 : Ref sig .tc := ⟨.hbm, 49, rfl⟩
abbrev main_call0_cst_6 : Ref sig .tc := ⟨.hbm, 50, rfl⟩
abbrev main_call0_cst_7 : Ref sig .tc := ⟨.hbm, 51, rfl⟩
abbrev main_call0_v24 : Ref sig .tc := ⟨.hbm, 52, rfl⟩
abbrev main_call0_cst_8 : Ref sig .tc := ⟨.hbm, 53, rfl⟩
abbrev main_call0_v25 : Ref sig .tc := ⟨.hbm, 54, rfl⟩
abbrev main_call0_v26 : Ref sig .tc := ⟨.hbm, 55, rfl⟩
abbrev main_call0_cst_9 : Ref sig .tc := ⟨.hbm, 56, rfl⟩
abbrev main_call0_v27 : Ref sig .tc := ⟨.hbm, 57, rfl⟩
abbrev main_call0_v28 : Ref sig .tc := ⟨.hbm, 58, rfl⟩
abbrev main_call0_v29 : Ref sig .tc := ⟨.hbm, 59, rfl⟩
abbrev main_call0_v30 : Ref sig .tc := ⟨.hbm, 60, rfl⟩
abbrev main_call0_v31 : Ref sig .tc := ⟨.hbm, 61, rfl⟩
abbrev main_call0_cst_10 : Ref sig .tc := ⟨.hbm, 62, rfl⟩
abbrev main_call0_v32 : Ref sig .tc := ⟨.hbm, 63, rfl⟩
abbrev main_v16_2 : Ref sig .tc := ⟨.hbm, 64, rfl⟩
abbrev main_v17 : Ref sig .tc := ⟨.hbm, 65, rfl⟩
abbrev main_cst_0 : Ref sig .tc := ⟨.hbm, 66, rfl⟩
abbrev main_call1_v0 : Ref sig .tc := ⟨.hbm, 67, rfl⟩
abbrev main_v18_1 : Ref sig .tc := ⟨.hbm, 68, rfl⟩
abbrev main_call1_v2 : Ref sig .tc := ⟨.hbm, 69, rfl⟩
abbrev main_v18_0 : Ref sig .tc := ⟨.hbm, 70, rfl⟩
abbrev main_call1_cst : Ref sig .tc := ⟨.hbm, 71, rfl⟩
abbrev main_v18_2 : Ref sig .tc := ⟨.hbm, 72, rfl⟩
abbrev main_call2_cst : Ref sig .tc := ⟨.hbm, 73, rfl⟩
abbrev main_call2_v0 : Ref sig .tc := ⟨.hbm, 74, rfl⟩
abbrev main_v19 : Ref sig .tc := ⟨.hbm, 75, rfl⟩
abbrev main_v20 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v21_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v21_2 : Ref sig .tc := ⟨.hbm, 123, rfl⟩
abbrev main_v21_0 : Ref sig .tc := ⟨.hbm, 124, rfl⟩
abbrev main_v22 : Ref sig .tc := ⟨.hbm, 125, rfl⟩
abbrev main_v23 : Ref sig .tc := ⟨.hbm, 126, rfl⟩
abbrev main_cst_1 : Ref sig .tc := ⟨.hbm, 127, rfl⟩
abbrev main_call4_v0 : Ref sig .tc := ⟨.hbm, 128, rfl⟩
abbrev main_v24_1 : Ref sig .tc := ⟨.hbm, 129, rfl⟩
abbrev main_call4_v2 : Ref sig .tc := ⟨.hbm, 130, rfl⟩
abbrev main_v24_0 : Ref sig .tc := ⟨.hbm, 131, rfl⟩
abbrev main_call4_cst : Ref sig .tc := ⟨.hbm, 132, rfl⟩
abbrev main_v24_2 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_call5_cst : Ref sig .tc := ⟨.hbm, 141, rfl⟩
abbrev main_call5_v0 : Ref sig .tc := ⟨.hbm, 142, rfl⟩
abbrev main_v32 : Ref sig .tc := ⟨.hbm, 143, rfl⟩
abbrev main_v33 : Ref sig .tc := ⟨.hbm, 144, rfl⟩
abbrev main_call6_v0 : Ref sig .tc := ⟨.hbm, 145, rfl⟩
abbrev main_call6_v1 : Ref sig .tc := ⟨.hbm, 146, rfl⟩
abbrev main_v34 : Ref sig .tc := ⟨.hbm, 147, rfl⟩
abbrev main_v35 : Ref sig .tc := ⟨.hbm, 148, rfl⟩
abbrev main_call7_cst : Ref sig .tc := ⟨.hbm, 149, rfl⟩
abbrev main_call7_v0 : Ref sig .tc := ⟨.hbm, 150, rfl⟩
abbrev main_v36 : Ref sig .tc := ⟨.hbm, 151, rfl⟩
abbrev main_v37 : Ref sig .tc := ⟨.hbm, 152, rfl⟩
abbrev main_call8_cst : Ref sig .tc := ⟨.hbm, 153, rfl⟩
abbrev main_call8_v0 : Ref sig .tc := ⟨.hbm, 154, rfl⟩
abbrev main_v38 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_cst_2 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_cst_3 : Ref sig .tc := ⟨.hbm, 167, rfl⟩
abbrev main_v49 : Ref sig .tc := ⟨.hbm, 168, rfl⟩
abbrev main_v50 : Ref sig .tc := ⟨.hbm, 169, rfl⟩
abbrev main_v51 : Ref sig .tc := ⟨.hbm, 170, rfl⟩
abbrev main_cst_4 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩

abbrev nD : Nat := 1
abbrev τ : Topo := Topo.v7x

variable {F : FTy → Type} [FloatOps F]
-- ==== RetQ.lean ====
abbrev S2048x512 : Shape := ⟨2, ![2048, 512]⟩
abbrev S2048x6656 : Shape := ⟨2, ![2048, 6656]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S8 : Shape := ⟨1, ![8]⟩
abbrev S1x8 : Shape := ⟨2, ![1, 8]⟩
abbrev S2048x8 : Shape := ⟨2, ![2048, 8]⟩
abbrev S2048x8x64 : Shape := ⟨3, ![2048, 8, 64]⟩
abbrev S2048x8x1 : Shape := ⟨3, ![2048, 8, 1]⟩
abbrev S256x512 : Shape := ⟨2, ![256, 512]⟩
abbrev S256x1024 : Shape := ⟨2, ![256, 1024]⟩
abbrev S4x128x256 : Shape := ⟨3, ![4, 128, 256]⟩
abbrev S256x128 : Shape := ⟨2, ![256, 128]⟩
abbrev S256x256 : Shape := ⟨2, ![256, 256]⟩
abbrev S512x1 : Shape := ⟨2, ![512, 1]⟩
abbrev S1 : Shape := ⟨1, ![1]⟩
abbrev S512x256 : Shape := ⟨2, ![512, 256]⟩
abbrev S1x128 : Shape := ⟨2, ![1, 128]⟩
abbrev S512x128 : Shape := ⟨2, ![512, 128]⟩
abbrev S1x128x256 : Shape := ⟨3, ![1, 128, 256]⟩
abbrev S128x256 : Shape := ⟨2, ![128, 256]⟩

abbrev nBuf : Space → Nat
  | .hbm => 75
  | .vmem => 11
  | .smem => 1
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x6656, .f32⟩
  | .hbm, ⟨3, _⟩ => ⟨S2048x1024, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8x64, .f32⟩
  | .hbm, ⟨27, _⟩ => ⟨S2048x8x1, .f32⟩
  | .hbm, ⟨28, _⟩ => ⟨S2048x8x64, .f32⟩
  | .hbm, ⟨29, _⟩ => ⟨S2048x8x64, .f32⟩
  | .hbm, ⟨30, _⟩ => ⟨S2048x512, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048x1, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S8, .f32⟩
  | .hbm, ⟨48, _⟩ => ⟨S1x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S_, .f32⟩
  | .hbm, ⟨54, _⟩ => ⟨S2048x8, .f32⟩
  | .hbm, ⟨55, _⟩ => ⟨S2048x8, .f32⟩
  | .hbm, ⟨56, _⟩ => ⟨S2048x8x64, .f32⟩
  | .hbm, ⟨57, _⟩ => ⟨S2048x8x1, .f32⟩
  | .hbm, ⟨58, _⟩ => ⟨S2048x8x64, .f32⟩
  | .hbm, ⟨59, _⟩ => ⟨S2048x8x64, .f32⟩
  | .hbm, ⟨60, _⟩ => ⟨S2048x512, .f32⟩
  | .hbm, ⟨61, _⟩ => ⟨S2048x1024, .f32⟩
  | .hbm, ⟨62, _⟩ => ⟨S2048x1024, .bf16⟩
  | .hbm, ⟨63, _⟩ => ⟨S2048x6656, .bf16⟩
  | .hbm, ⟨64, _⟩ => ⟨S2048x1024, .bf16⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S2048x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S4x128x256, .f32⟩
  | .local _ .smem, ⟨0, _⟩ => ⟨S8, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 8], ![false, false]⟩

def k0_off1 (i : grid0.Coords) (c0_i32_19 : BitVec 32) : Fin 1 → Nat :=
  let c2_i32 : BitVec 32 := 2#32
  let arg0 : BitVec 32 := BitVec.ofNat 32 (i 0).val
  let c4_i32 : BitVec 32 := 4#32
  let v27 : BitVec 32 := Scalar.muli arg0 c4_i32
  let v28 : BitVec 32 := Scalar.addi v27 c0_i32_19
  let v32 : BitVec 32 := Scalar.muli c2_i32 v28
  let v33 : Index := Scalar.indexCast v32
  ![v33.toNat]
def k0_off2 (i : grid0.Coords) (c0_i32_19 : BitVec 32) : Fin 1 → Nat :=
  let c2_i32_20 : BitVec 32 := 2#32
  let arg0 : BitVec 32 := BitVec.ofNat 32 (i 0).val
  let c4_i32 : BitVec 32 := 4#32
  let v27 : BitVec 32 := Scalar.muli arg0 c4_i32
  let v28 : BitVec 32 := Scalar.addi v27 c0_i32_19
  let v35 : BitVec 32 := Scalar.muli c2_i32_20 v28
  let c1_i32 : BitVec 32 := 1#32
  let v36 : BitVec 32 := Scalar.addi v35 c1_i32
  let v37 : Index := Scalar.indexCast v36
  ![v37.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetQRefIdeal.lean ====
abbrev S2048x512 : Shape := ⟨2, ![2048, 512]⟩
abbrev S2048x6656 : Shape := ⟨2, ![2048, 6656]⟩
abbrev S2048x1024 : Shape := ⟨2, ![2048, 1024]⟩
abbrev S2048x8x64 : Shape := ⟨3, ![2048, 8, 64]⟩
abbrev S2048x8x128 : Shape := ⟨3, ![2048, 8, 128]⟩
abbrev S2048 : Shape := ⟨1, ![2048]⟩
abbrev S32 : Shape := ⟨1, ![32]⟩
abbrev S32x1 : Shape := ⟨2, ![32, 1]⟩
abbrev S32x64 : Shape := ⟨2, ![32, 64]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8 : Shape := ⟨1, ![8]⟩
abbrev S_ : Shape := ⟨0, ![]⟩
abbrev S8x1x1 : Shape := ⟨3, ![8, 1, 1]⟩
abbrev S8x2048x2048 : Shape := ⟨3, ![8, 2048, 2048]⟩
abbrev S8x128x2048 : Shape := ⟨3, ![8, 128, 2048]⟩
abbrev S8x2048x64 : Shape := ⟨3, ![8, 2048, 64]⟩
abbrev S1x8 : Shape := ⟨2, ![1, 8]⟩
abbrev S2048x8 : Shape := ⟨2, ![2048, 8]⟩
abbrev S2048x8x1 : Shape := ⟨3, ![2048, 8, 1]⟩

abbrev nBuf : Space → Nat
  | .hbm => 86
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x6656, .f32⟩
  | .hbm, ⟨3, _⟩ => ⟨S2048x1024, .f32⟩
  | .hbm, ⟨4, _⟩ => ⟨S2048x8x64, .f32⟩
  | .hbm, ⟨5, _⟩ => ⟨S2048x8x64, .f32⟩
  | .hbm, ⟨6, _⟩ => ⟨S2048x1024, .f32⟩
  | .hbm, ⟨7, _⟩ => ⟨S2048x8x128, .f32⟩
  | .hbm, ⟨8, _⟩ => ⟨S2048, .f32⟩
  | .hbm, ⟨9, _⟩ => ⟨S32, .i32⟩
  | .hbm, ⟨10, _⟩ => ⟨S32x1, .i32⟩
  | .hbm, ⟨11, _⟩ => ⟨S32x64, .i32⟩
  | .hbm, ⟨12, _⟩ => ⟨S2048, .i32⟩
  | .hbm, ⟨13, _⟩ => ⟨S2048x1, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S1x2048x2048, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S8x1x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S1x2048, .i32⟩
  | .hbm, ⟨35, _⟩ => ⟨S2048x1, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .f32⟩
  | .hbm, ⟨40, _⟩ => ⟨S2048x8x64, .f32⟩
  | .hbm, ⟨41, _⟩ => ⟨S2048x8x64, .f32⟩
  | .hbm, ⟨42, _⟩ => ⟨S8x2048x2048, .f32⟩
  | .hbm, ⟨43, _⟩ => ⟨S_, .f32⟩
  | .hbm, ⟨44, _⟩ => ⟨S_, .f32⟩
  | .hbm, ⟨45, _⟩ => ⟨S8x2048x2048, .i1⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x128x2048, .f32⟩
  | .hbm, ⟨50, _⟩ => ⟨S2048x8x128, .f32⟩
  | .hbm, ⟨51, _⟩ => ⟨S2048x8x128, .f32⟩
  | .hbm, ⟨52, _⟩ => ⟨S8x128x2048, .f32⟩
  | .hbm, ⟨53, _⟩ => ⟨S8x2048x2048, .f32⟩
  | .hbm, ⟨54, _⟩ => ⟨S8x2048x2048, .f32⟩
  | .hbm, ⟨55, _⟩ => ⟨S8x2048x64, .f32⟩
  | .hbm, ⟨56, _⟩ => ⟨S2048x8x64, .f32⟩
  | .hbm, ⟨57, _⟩ => ⟨S2048x512, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S2048x1, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S1x8, .f32⟩
  | .hbm, ⟨76, _⟩ => ⟨S2048x8, .f32⟩
  | .hbm, ⟨77, _⟩ => ⟨S2048x8, .f32⟩
  | .hbm, ⟨78, _⟩ => ⟨S2048x8, .f32⟩
  | .hbm, ⟨79, _⟩ => ⟨S2048x8, .f32⟩
  | .hbm, ⟨80, _⟩ => ⟨S2048x8x64, .f32⟩
  | .hbm, ⟨81, _⟩ => ⟨S2048x8x1, .f32⟩
  | .hbm, ⟨82, _⟩ => ⟨S2048x8x64, .f32⟩
  | .hbm, ⟨83, _⟩ => ⟨S2048x8x64, .f32⟩
  | .hbm, ⟨84, _⟩ => ⟨S2048x512, .f32⟩
  | .hbm, ⟨85, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== RetKV.lean ====
abbrev S2048x512 : Shape := ⟨2, ![2048, 512]⟩
abbrev S2048x6656 : Shape := ⟨2, ![2048, 6656]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S8 : Shape := ⟨1, ![8]⟩
abbrev S1x8 : Shape := ⟨2, ![1, 8]⟩
abbrev S2048x8 : Shape := ⟨2, ![2048, 8]⟩
abbrev S2048x8x64 : Shape := ⟨3, ![2048, 8, 64]⟩
abbrev S2048x8x1 : Shape := ⟨3, ![2048, 8, 1]⟩
abbrev S256x512 : Shape := ⟨2, ![256, 512]⟩
abbrev S256x1024 : Shape := ⟨2, ![256, 1024]⟩
abbrev S4x128x256 : Shape := ⟨3, ![4, 128, 256]⟩
abbrev S256x128 : Shape := ⟨2, ![256, 128]⟩
abbrev S256x256 : Shape := ⟨2, ![256, 256]⟩
abbrev S512x1 : Shape := ⟨2, ![512, 1]⟩
abbrev S1 : Shape := ⟨1, ![1]⟩
abbrev S512x256 : Shape := ⟨2, ![512, 256]⟩
abbrev S1x128 : Shape := ⟨2, ![1, 128]⟩
abbrev S512x128 : Shape := ⟨2, ![512, 128]⟩
abbrev S1x128x256 : Shape := ⟨3, ![1, 128, 256]⟩
abbrev S128x256 : Shape := ⟨2, ![128, 256]⟩

abbrev nBuf : Space → Nat
  | .hbm => 76
  | .vmem => 13
  | .smem => 1
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x6656, .f32⟩
  | .hbm, ⟨3, _⟩ => ⟨S2048x1024, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8x64, .f32⟩
  | .hbm, ⟨27, _⟩ => ⟨S2048x8x1, .f32⟩
  | .hbm, ⟨28, _⟩ => ⟨S2048x8x64, .f32⟩
  | .hbm, ⟨29, _⟩ => ⟨S2048x8x64, .f32⟩
  | .hbm, ⟨30, _⟩ => ⟨S2048x512, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048x1, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S8, .f32⟩
  | .hbm, ⟨48, _⟩ => ⟨S1x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S_, .f32⟩
  | .hbm, ⟨54, _⟩ => ⟨S2048x8, .f32⟩
  | .hbm, ⟨55, _⟩ => ⟨S2048x8, .f32⟩
  | .hbm, ⟨56, _⟩ => ⟨S2048x8x64, .f32⟩
  | .hbm, ⟨57, _⟩ => ⟨S2048x8x1, .f32⟩
  | .hbm, ⟨58, _⟩ => ⟨S2048x8x64, .f32⟩
  | .hbm, ⟨59, _⟩ => ⟨S2048x8x64, .f32⟩
  | .hbm, ⟨60, _⟩ => ⟨S2048x512, .f32⟩
  | .hbm, ⟨61, _⟩ => ⟨S2048x1024, .f32⟩
  | .hbm, ⟨62, _⟩ => ⟨S2048x1024, .bf16⟩
  | .hbm, ⟨63, _⟩ => ⟨S2048x6656, .bf16⟩
  | .hbm, ⟨64, _⟩ => ⟨S2048x1024, .bf16⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S2048x512, .bf16⟩
  | .hbm, ⟨75, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S4x128x256, .f32⟩
  | .local _ .smem, ⟨0, _⟩ => ⟨S8, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59_0 : Ref sig .tc := ⟨.hbm, 74, rfl⟩
abbrev main_v59_1 : Ref sig .tc := ⟨.hbm, 75, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 8], ![false, false]⟩

def k0_off1 (i : grid0.Coords) (c0_i32_27 : BitVec 32) : Fin 1 → Nat :=
  let c2_i32 : BitVec 32 := 2#32
  let arg0 : BitVec 32 := BitVec.ofNat 32 (i 0).val
  let c4_i32 : BitVec 32 := 4#32
  let v36 : BitVec 32 := Scalar.muli arg0 c4_i32
  let v37 : BitVec 32 := Scalar.addi v36 c0_i32_27
  let v41 : BitVec 32 := Scalar.muli c2_i32 v37
  let v42 : Index := Scalar.indexCast v41
  ![v42.toNat]
def k0_off2 (i : grid0.Coords) (c0_i32_27 : BitVec 32) : Fin 1 → Nat :=
  let c2_i32_28 : BitVec 32 := 2#32
  let arg0 : BitVec 32 := BitVec.ofNat 32 (i 0).val
  let c4_i32 : BitVec 32 := 4#32
  let v36 : BitVec 32 := Scalar.muli arg0 c4_i32
  let v37 : BitVec 32 := Scalar.addi v36 c0_i32_27
  let v44 : BitVec 32 := Scalar.muli c2_i32_28 v37
  let c1_i32 : BitVec 32 := 1#32
  let v45 : BitVec 32 := Scalar.addi v44 c1_i32
  let v46 : Index := Scalar.indexCast v45
  ![v46.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let v1 : BitVec 32 := Scalar.addi c1_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let v1 : BitVec 32 := Scalar.addi c1_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RetKVRefIdeal.lean ====
abbrev S2048x512 : Shape := ⟨2, ![2048, 512]⟩
abbrev S2048x6656 : Shape := ⟨2, ![2048, 6656]⟩
abbrev S2048x1024 : Shape := ⟨2, ![2048, 1024]⟩
abbrev S2048x8x64 : Shape := ⟨3, ![2048, 8, 64]⟩
abbrev S2048x8x128 : Shape := ⟨3, ![2048, 8, 128]⟩
abbrev S2048 : Shape := ⟨1, ![2048]⟩
abbrev S32 : Shape := ⟨1, ![32]⟩
abbrev S32x1 : Shape := ⟨2, ![32, 1]⟩
abbrev S32x64 : Shape := ⟨2, ![32, 64]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8 : Shape := ⟨1, ![8]⟩
abbrev S_ : Shape := ⟨0, ![]⟩
abbrev S8x1x1 : Shape := ⟨3, ![8, 1, 1]⟩
abbrev S8x2048x2048 : Shape := ⟨3, ![8, 2048, 2048]⟩
abbrev S8x128x2048 : Shape := ⟨3, ![8, 128, 2048]⟩
abbrev S8x2048x64 : Shape := ⟨3, ![8, 2048, 64]⟩
abbrev S1x8 : Shape := ⟨2, ![1, 8]⟩
abbrev S2048x8 : Shape := ⟨2, ![2048, 8]⟩
abbrev S2048x8x1 : Shape := ⟨3, ![2048, 8, 1]⟩

abbrev nBuf : Space → Nat
  | .hbm => 96
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x6656, .f32⟩
  | .hbm, ⟨3, _⟩ => ⟨S2048x1024, .f32⟩
  | .hbm, ⟨4, _⟩ => ⟨S2048x8x64, .f32⟩
  | .hbm, ⟨5, _⟩ => ⟨S2048x8x64, .f32⟩
  | .hbm, ⟨6, _⟩ => ⟨S2048x1024, .f32⟩
  | .hbm, ⟨7, _⟩ => ⟨S2048x8x128, .f32⟩
  | .hbm, ⟨8, _⟩ => ⟨S2048, .f32⟩
  | .hbm, ⟨9, _⟩ => ⟨S32, .i32⟩
  | .hbm, ⟨10, _⟩ => ⟨S32x1, .i32⟩
  | .hbm, ⟨11, _⟩ => ⟨S32x64, .i32⟩
  | .hbm, ⟨12, _⟩ => ⟨S2048, .i32⟩
  | .hbm, ⟨13, _⟩ => ⟨S2048x1, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S1x2048x2048, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S8x1x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S1x2048, .i32⟩
  | .hbm, ⟨35, _⟩ => ⟨S2048x1, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .f32⟩
  | .hbm, ⟨40, _⟩ => ⟨S2048x8x64, .f32⟩
  | .hbm, ⟨41, _⟩ => ⟨S2048x8x64, .f32⟩
  | .hbm, ⟨42, _⟩ => ⟨S8x2048x2048, .f32⟩
  | .hbm, ⟨43, _⟩ => ⟨S_, .f32⟩
  | .hbm, ⟨44, _⟩ => ⟨S_, .f32⟩
  | .hbm, ⟨45, _⟩ => ⟨S8x2048x2048, .i1⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x128x2048, .f32⟩
  | .hbm, ⟨50, _⟩ => ⟨S2048x8x128, .f32⟩
  | .hbm, ⟨51, _⟩ => ⟨S2048x8x128, .f32⟩
  | .hbm, ⟨52, _⟩ => ⟨S8x128x2048, .f32⟩
  | .hbm, ⟨53, _⟩ => ⟨S8x2048x2048, .f32⟩
  | .hbm, ⟨54, _⟩ => ⟨S8x128x2048, .f32⟩
  | .hbm, ⟨55, _⟩ => ⟨S2048x8x128, .f32⟩
  | .hbm, ⟨56, _⟩ => ⟨S8x2048x2048, .f32⟩
  | .hbm, ⟨57, _⟩ => ⟨S8x2048x64, .f32⟩
  | .hbm, ⟨58, _⟩ => ⟨S2048x8x64, .f32⟩
  | .hbm, ⟨59, _⟩ => ⟨S_, .f32⟩
  | .hbm, ⟨60, _⟩ => ⟨S2048x8x64, .f32⟩
  | .hbm, ⟨61, _⟩ => ⟨S2048x8x64, .f32⟩
  | .hbm, ⟨62, _⟩ => ⟨S2048x512, .f32⟩
  | .hbm, ⟨63, _⟩ => ⟨S2048, .f32⟩
  | .hbm, ⟨64, _⟩ => ⟨S_, .f32⟩
  | .hbm, ⟨65, _⟩ => ⟨S2048, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S2048x1, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S8, .f32⟩
  | .hbm, ⟨79, _⟩ => ⟨S8, .f32⟩
  | .hbm, ⟨80, _⟩ => ⟨S1x8, .f32⟩
  | .hbm, ⟨81, _⟩ => ⟨S2048x8, .f32⟩
  | .hbm, ⟨82, _⟩ => ⟨S2048x8, .f32⟩
  | .hbm, ⟨83, _⟩ => ⟨S2048x8, .f32⟩
  | .hbm, ⟨84, _⟩ => ⟨S2048x8, .f32⟩
  | .hbm, ⟨85, _⟩ => ⟨S2048x8x64, .f32⟩
  | .hbm, ⟨86, _⟩ => ⟨S2048x8x1, .f32⟩
  | .hbm, ⟨87, _⟩ => ⟨S2048x8x64, .f32⟩
  | .hbm, ⟨88, _⟩ => ⟨S2048x8x64, .f32⟩
  | .hbm, ⟨89, _⟩ => ⟨S2048x512, .f32⟩
  | .hbm, ⟨90, _⟩ => ⟨S_, .f32⟩
  | .hbm, ⟨91, _⟩ => ⟨S2048x512, .f32⟩
  | .hbm, ⟨92, _⟩ => ⟨S2048x512, .f32⟩
  | .hbm, ⟨93, _⟩ => ⟨S2048x512, .bf16⟩
  | .hbm, ⟨94, _⟩ => ⟨S2048x1024, .f32⟩
  | .hbm, ⟨95, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_8 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩

abbrev nD : Nat := 1
abbrev τ : Topo := Topo.v7x

variable {F : FTy → Type} [FloatOps F]
-- ==== Ffn.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S8x1024x512 : Shape := ⟨3, ![8, 1024, 512]⟩
abbrev S512x1024 : Shape := ⟨2, ![512, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 17
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S2048x1024, .bf16⟩
  | .hbm, ⟨6, _⟩ => ⟨S4096x1024, .bf16⟩
  | .hbm, ⟨7, _⟩ => ⟨S2048x4096, .bf16⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .bf16⟩
  | .hbm, ⟨13, _⟩ => ⟨S2048x1024, .bf16⟩
  | .hbm, ⟨14, _⟩ => ⟨S2048x4096, .bf16⟩
  | .hbm, ⟨15, _⟩ => ⟨S4096x1024, .bf16⟩
  | .hbm, ⟨16, _⟩ => ⟨S8x1024x512, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x1024, .bf16⟩
  | .local _ .vmem, ⟨8, _⟩ => ⟨S2048x512, .bf16⟩
  | .local _ .vmem, ⟨9, _⟩ => ⟨S2048x512, .bf16⟩
  | .local _ .vmem, ⟨10, _⟩ => ⟨S512x1024, .bf16⟩
  | .local _ .vmem, ⟨11, _⟩ => ⟨S512x1024, .bf16⟩
  | .local _ .vmem, ⟨12, _⟩ => ⟨S1x1024x512, .bf16⟩
  | .local _ .vmem, ⟨13, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S1024x4096, .f32⟩
  | .hbm, ⟨19, _⟩ => ⟨S4096x1024, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S4096x1024, .f32⟩
  | .hbm, ⟨26, _⟩ => ⟨S1024x4096, .f32⟩
  | .hbm, ⟨27, _⟩ => ⟨S1024x8x512, .f32⟩
  | .hbm, ⟨28, _⟩ => ⟨S8x1024x512, .f32⟩
  | .hbm, ⟨29, _⟩ => ⟨S2048x4096, .bf16⟩
  | .hbm, ⟨30, _⟩ => ⟨S4096x1024, .bf16⟩
  | .hbm, ⟨31, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== InBwd.lean ====
abbrev S2048x1024 : Shape := ⟨2, ![2048, 1024]⟩
abbrev S1x1024 : Shape := ⟨2, ![1, 1024]⟩
abbrev S1x6144 : Shape := ⟨2, ![1, 6144]⟩
abbrev S1024x6656 : Shape := ⟨2, ![1024, 6656]⟩
abbrev S2048x6656 : Shape := ⟨2, ![2048, 6656]⟩
abbrev S6656x1024 : Shape := ⟨2, ![6656, 1024]⟩
abbrev S256x6656 : Shape := ⟨2, ![256, 6656]⟩
abbrev S256x1024 : Shape := ⟨2, ![256, 1024]⟩
abbrev S_ : Shape := ⟨0, ![]⟩
abbrev S128x6656 : Shape := ⟨2, ![128, 6656]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x6144, .f32⟩
  | .hbm, ⟨3, _⟩ => ⟨S1024x6656, .f32⟩
  | .hbm, ⟨4, _⟩ => ⟨S2048x6656, .f32⟩
  | .hbm, ⟨5, _⟩ => ⟨S2048x1024, .f32⟩
  | .hbm, ⟨6, _⟩ => ⟨S2048x6656, .bf16⟩
  | .hbm, ⟨7, _⟩ => ⟨S6656x1024, .f32⟩
  | .hbm, ⟨8, _⟩ => ⟨S6656x1024, .bf16⟩
  | .hbm, ⟨9, _⟩ => ⟨S2048x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S256x6656, .bf16⟩
  | .local _ .vmem, ⟨1, _⟩ => ⟨S256x6656, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x6144, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S6656x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBwdRefIdeal.lean ====
abbrev S2048x1024 : Shape := ⟨2, ![2048, 1024]⟩
abbrev S1x1024 : Shape := ⟨2, ![1, 1024]⟩
abbrev S1x6144 : Shape := ⟨2, ![1, 6144]⟩
abbrev S1024x6656 : Shape := ⟨2, ![1024, 6656]⟩
abbrev S2048x6656 : Shape := ⟨2, ![2048, 6656]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x6144, .f32⟩
  | .hbm, ⟨3, _⟩ => ⟨S1024x6656, .f32⟩
  | .hbm, ⟨4, _⟩ => ⟨S2048x6656, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x6656, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Loss.lean ====
abbrev S2048x4096 : Shape := ⟨2, ![2048, 4096]⟩
abbrev S4096x1024 : Shape := ⟨2, ![4096, 1024]⟩
abbrev S2048x1024 : Shape := ⟨2, ![2048, 1024]⟩
abbrev S1x6144 : Shape := ⟨2, ![1, 6144]⟩
abbrev S1x1024 : Shape := ⟨2, ![1, 1024]⟩
abbrev S1x1 : Shape := ⟨2, ![1, 1]⟩
abbrev S256x4096 : Shape := ⟨2, ![256, 4096]⟩
abbrev S256x1024 : Shape := ⟨2, ![256, 1024]⟩
abbrev S128x4096 : Shape := ⟨2, ![128, 4096]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1024 : Shape := ⟨1, ![1024]⟩

abbrev nBuf : Space → Nat
  | .hbm => 13
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x1024, .f32⟩
  | .hbm, ⟨4, _⟩ => ⟨S1x6144, .f32⟩
  | .hbm, ⟨5, _⟩ => ⟨S1x1024, .f32⟩
  | .hbm, ⟨6, _⟩ => ⟨S2048x4096, .bf16⟩
  | .hbm, ⟨7, _⟩ => ⟨S4096x1024, .bf16⟩
  | .hbm, ⟨8, _⟩ => ⟨S2048x1024, .f32⟩
  | .hbm, ⟨9, _⟩ => ⟨S2048x1024, .bf16⟩
  | .hbm, ⟨10, _⟩ => ⟨S1x1, .f32⟩
  | .hbm, ⟨11, _⟩ => ⟨S1x1024, .f32⟩
  | .hbm, ⟨12, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x6144, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1, .f32⟩
  | .local _ .vmem, ⟨14, _⟩ => ⟨S1x1024, .f32⟩
  | .local _ .vmem, ⟨15, _⟩ => ⟨S1x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossRefIdeal.lean ====
abbrev S2048x4096 : Shape := ⟨2, ![2048, 4096]⟩
abbrev S4096x1024 : Shape := ⟨2, ![4096, 1024]⟩
abbrev S2048x1024 : Shape := ⟨2, ![2048, 1024]⟩
abbrev S1x6144 : Shape := ⟨2, ![1, 6144]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x1024, .f32⟩
  | .hbm, ⟨4, _⟩ => ⟨S1x6144, .f32⟩
  | .hbm, ⟨5, _⟩ => ⟨S1x1024, .f32⟩
  | .hbm, ⟨6, _⟩ => ⟨S2048x1024, .f32⟩
  | .hbm, ⟨7, _⟩ => ⟨S1x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .bf16⟩
  | .hbm, ⟨83, _⟩ => ⟨S_, .f32⟩
  | .hbm, ⟨84, _⟩ => ⟨S_, .f32⟩
  | .hbm, ⟨85, _⟩ => ⟨S1x1, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Ff1Bwd.lean ====
abbrev S2048x1024 : Shape := ⟨2, ![2048, 1024]⟩
abbrev S1024x1024 : Shape := ⟨2, ![1024, 1024]⟩
abbrev S1x6144 : Shape := ⟨2, ![1, 6144]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S4096x1024 : Shape := ⟨2, ![4096, 1024]⟩
abbrev S256x4096 : Shape := ⟨2, ![256, 4096]⟩
abbrev S256x1024 : Shape := ⟨2, ![256, 1024]⟩
abbrev S128x4096 : Shape := ⟨2, ![128, 4096]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 41
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S1x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x4096, .bf16⟩
  | .hbm, ⟨30, _⟩ => ⟨S4096x1024, .f32⟩
  | .hbm, ⟨31, _⟩ => ⟨S4096x1024, .bf16⟩
  | .hbm, ⟨32, _⟩ => ⟨S2048x1024, .bf16⟩
  | .hbm, ⟨33, _⟩ => ⟨S2048x1024, .f32⟩
  | .hbm, ⟨34, _⟩ => ⟨S2048x1024, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1024x1024, .bf16⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x6144, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1024x1024, .bf16⟩
  | .local _ .vmem, ⟨24, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev main_v21_5 : Ref sig .tc := ⟨.hbm, 38, rfl⟩
abbrev main_v21_6 : Ref sig .tc := ⟨.hbm, 39, rfl⟩
abbrev main_v21_7 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v233 : BitVec 1 := Scalar.cmpi .eq arg0 c7_i32
  let v234 : BitVec 32 := Scalar.extui v233
  let c0_i32_117 : BitVec 32 := 0#32
  let v235 : BitVec 1 := Scalar.cmpi .ne v234 c0_i32_117
  v235

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Ff1BwdRefIdeal.lean ====
abbrev S2048x1024 : Shape := ⟨2, ![2048, 1024]⟩
abbrev S1024x1024 : Shape := ⟨2, ![1024, 1024]⟩
abbrev S1x6144 : Shape := ⟨2, ![1, 6144]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 130
  | .vmem => 0
  | .smem => 0
  | _ => 0

abbrev hbmTy0_0 (i : Nat) : BufTy := match i % 128 with
  | 0 => ⟨S2048x1024, .f32⟩
  | 1 => ⟨S2048x1024, .f32⟩
  | 2 => ⟨S1024x1024, .f32⟩
  | 3 => ⟨S1x6144, .f32⟩
  | 4 => ⟨S1x1024, .f32⟩
  | 5 => ⟨S1x1024, .f32⟩
  | 6 => ⟨S1024x4096, .f32⟩
  | 7 => ⟨S2048x4096, .f32⟩
  | 8 => ⟨S2048x1024, .f32⟩
  | 9 => ⟨S2048x1024, .f32⟩
  | 10 => ⟨S1x1024, .f32⟩
  | 11 => ⟨S1x1024, .f32⟩
  | 12 => ⟨S1x1024, .f32⟩
  | 13 => ⟨S2048x1024, .f32⟩
  | 14 => ⟨S_, .f32⟩
  | 15 => ⟨S2048, .f32⟩
  | 16 => ⟨S2048x1, .f32⟩
  | 17 => ⟨S_, .f32⟩
  | 18 => ⟨S2048x1, .f32⟩
  | 19 => ⟨S2048x1, .f32⟩
  | 20 => ⟨S_, .f32⟩
  | 21 => ⟨S2048x1, .f32⟩
  | 22 => ⟨S2048x1, .f32⟩
  | 23 => ⟨S2048x1, .f32⟩
  | 24 => ⟨S2048x1, .f32⟩
  | 25 => ⟨S_, .f32⟩
  | 26 => ⟨S2048x1, .f32⟩
  | 27 => ⟨S2048x1, .f32⟩
  | 28 => ⟨S2048x1024, .f32⟩
  | 29 => ⟨S2048x1024, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S_, .f32⟩
  | 37 => ⟨S2048, .f32⟩
  | 38 => ⟨S2048x1, .f32⟩
  | 39 => ⟨S_, .f32⟩
  | 40 => ⟨S2048x1, .f32⟩
  | 41 => ⟨S2048x1, .f32⟩
  | 42 => ⟨S_, .f32⟩
  | 43 => ⟨S2048x1, .f32⟩
  | 44 => ⟨S2048x1, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S2048x1024, .f32⟩
  | 51 => ⟨S2048x1024, .f32⟩
  | 52 => ⟨S2048x1024, .f32⟩
  | 53 => ⟨S2048x1024, .f32⟩
  | 54 => ⟨S_, .f32⟩
  | 55 => ⟨S1x1024, .f32⟩
  | 56 => ⟨S1x1024, .f32⟩
  | 57 => ⟨S2048x1024, .f32⟩
  | 58 => ⟨S2048x1024, .f32⟩
  | 59 => ⟨S2048x1024, .f32⟩
  | 60 => ⟨S2048x1024, .f32⟩
  | 61 => ⟨S2048x4096, .f32⟩
  | 62 => ⟨S2048x1024, .f32⟩
  | 63 => ⟨S_, .f32⟩
  | 64 => ⟨S1024, .f32⟩
  | 65 => ⟨S1x1024, .f32⟩
  | 66 => ⟨S2048x1024, .f32⟩
  | 67 => ⟨S_, .f32⟩
  | 68 => ⟨S1024, .f32⟩
  | 69 => ⟨S1x1024, .f32⟩
  | 70 => ⟨S2048x1024, .f32⟩
  | 71 => ⟨S2048x1024, .f32⟩
  | 72 => ⟨S2048x1024, .f32⟩
  | 73 => ⟨S_, .f32⟩
  | 74 => ⟨S1024, .f32⟩
  | 75 => ⟨S1x1024, .f32⟩
  | 76 => ⟨S2048x1024, .f32⟩
  | 77 => ⟨S2048x1024, .f32⟩
  | 78 => ⟨S2048x1024, .f32⟩
  | 79 => ⟨S_, .f32⟩
  | 80 => ⟨S2048, .f32⟩
  | 81 => ⟨S2048x1, .f32⟩
  | 82 => ⟨S2048x1024, .f32⟩
  | 83 => ⟨S2048x1024, .f32⟩
  | 84 => ⟨S2048x1024, .f32⟩
  | 85 => ⟨S2048x1, .f32⟩
  | 86 => ⟨S_, .f32⟩
  | 87 => ⟨S2048x1, .f32⟩
  | 88 => ⟨S2048x1, .f32⟩
  | 89 => ⟨S_, .f32⟩
  | 90 => ⟨S2048, .f32⟩
  | 91 => ⟨S2048x1024, .f32⟩
  | 92 => ⟨S2048x1024, .f32⟩
  | 93 => ⟨S2048x1024, .f32⟩
  | 94 => ⟨S2048x1024, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S_, .f32⟩
  | 101 => ⟨S1024, .f32⟩
  | 102 => ⟨S1x1024, .f32⟩
  | 103 => ⟨S2048x1024, .f32⟩
  | 104 => ⟨S_, .f32⟩
  | 105 => ⟨S1024, .f32⟩
  | 106 => ⟨S1x1024, .f32⟩
  | 107 => ⟨S2048x1024, .f32⟩
  | 108 => ⟨S2048x1024, .f32⟩
  | 109 => ⟨S2048x1024, .f32⟩
  | 110 => ⟨S_, .f32⟩
  | 111 => ⟨S2048, .f32⟩
  | 112 => ⟨S2048x1, .f32⟩
  | 113 => ⟨S2048x1024, .f32⟩
  | 114 => ⟨S2048x1024, .f32⟩
  | 115 => ⟨S2048x1, .f32⟩
  | 116 => ⟨S_, .f32⟩
  | 117 => ⟨S2048x1, .f32⟩
  | 118 => ⟨S2048x1, .f32⟩
  | 119 => ⟨S_, .f32⟩
  | 120 => ⟨S2048, .f32⟩
  | 121 => ⟨S2048x1024, .f32⟩
  | 122 => ⟨S2048x1024, .f32⟩
  | 123 => ⟨S2048x1024, .f32⟩
  | 124 => ⟨S2048x1024, .f32⟩
  | 125 => ⟨S2048x1024, .f32⟩
  | 126 => ⟨S2048x1024, .bf16⟩
  | 127 => ⟨S1024x1024, .f32⟩
  | _ => ⟨S2048x1024, .f32⟩

abbrev hbmTy0_1 (i : Nat) : BufTy := match i % 128 with
  | 0 => ⟨S1024x1024, .f32⟩
  | 1 => ⟨S1024x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_16 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_v90 : Ref sig .tc := ⟨.hbm, 118, rfl⟩
abbrev main_cst_18 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]
-- ==== Branch.lean ====
abbrev S2048x1024 : Shape := ⟨2, ![2048, 1024]⟩
abbrev S2048x6656 : Shape := ⟨2, ![2048, 6656]⟩
abbrev S1x1024 : Shape := ⟨2, ![1, 1024]⟩
abbrev S1024x1024 : Shape := ⟨2, ![1024, 1024]⟩
abbrev S2048x512 : Shape := ⟨2, ![2048, 512]⟩
abbrev S512x1024 : Shape := ⟨2, ![512, 1024]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S8x128 : Shape := ⟨2, ![8, 128]⟩
abbrev S1x8x128 : Shape := ⟨3, ![1, 8, 128]⟩
abbrev S1024x512 : Shape := ⟨2, ![1024, 512]⟩
abbrev S8x512x128 : Shape := ⟨3, ![8, 512, 128]⟩
abbrev S2048x256 : Shape := ⟨2, ![2048, 256]⟩
abbrev S256x1024 : Shape := ⟨2, ![256, 1024]⟩
abbrev S1024x128 : Shape := ⟨2, ![1024, 128]⟩
abbrev S1x256 : Shape := ⟨2, ![1, 256]⟩
abbrev S2048x128 : Shape := ⟨2, ![2048, 128]⟩
abbrev S2x512x128 : Shape := ⟨3, ![2, 512, 128]⟩
abbrev S512x256 : Shape := ⟨2, ![512, 256]⟩
abbrev S512x128 : Shape := ⟨2, ![512, 128]⟩
abbrev S1x512x128 : Shape := ⟨3, ![1, 512, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 62
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1x1024, .f32⟩
  | .hbm, ⟨3, _⟩ => ⟨S1024x1024, .f32⟩
  | .hbm, ⟨4, _⟩ => ⟨S2048x512, .f32⟩
  | .hbm, ⟨5, _⟩ => ⟨S512x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x8x128, .f32⟩
  | .hbm, ⟨10, _⟩ => ⟨S_, .f32⟩
  | .hbm, ⟨11, _⟩ => ⟨S2048x8, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S2048x8x128, .f32⟩
  | .hbm, ⟨17, _⟩ => ⟨S2048x8x128, .f32⟩
  | .hbm, ⟨18, _⟩ => ⟨S2048x8x128, .f32⟩
  | .hbm, ⟨19, _⟩ => ⟨S_, .f32⟩
  | .hbm, ⟨20, _⟩ => ⟨S2048x8, .f32⟩
  | .hbm, ⟨21, _⟩ => ⟨S2048x8x1, .f32⟩
  | .hbm, ⟨22, _⟩ => ⟨S_, .f32⟩
  | .hbm, ⟨23, _⟩ => ⟨S2048x8x1, .f32⟩
  | .hbm, ⟨24, _⟩ => ⟨S2048x8x1, .f32⟩
  | .hbm, ⟨25, _⟩ => ⟨S2048x8x128, .f32⟩
  | .hbm, ⟨26, _⟩ => ⟨S2048x8x128, .f32⟩
  | .hbm, ⟨27, _⟩ => ⟨S_, .f32⟩
  | .hbm, ⟨28, _⟩ => ⟨S2048x8x1, .f32⟩
  | .hbm, ⟨29, _⟩ => ⟨S2048x8x1, .f32⟩
  | .hbm, ⟨30, _⟩ => ⟨S2048x8x1, .f32⟩
  | .hbm, ⟨31, _⟩ => ⟨S2048x8x128, .f32⟩
  | .hbm, ⟨32, _⟩ => ⟨S2048x8x128, .f32⟩
  | .hbm, ⟨33, _⟩ => ⟨S8x128, .f32⟩
  | .hbm, ⟨34, _⟩ => ⟨S1x8x128, .f32⟩
  | .hbm, ⟨35, _⟩ => ⟨S2048x8x128, .f32⟩
  | .hbm, ⟨36, _⟩ => ⟨S2048x8x128, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | .hbm, ⟨49, _⟩ => ⟨S2048x1024, .bf16⟩
  | .hbm, ⟨50, _⟩ => ⟨S2048x1024, .bf16⟩
  | .hbm, ⟨51, _⟩ => ⟨S2048x512, .bf16⟩
  | .hbm, ⟨52, _⟩ => ⟨S1024x1024, .bf16⟩
  | .hbm, ⟨53, _⟩ => ⟨S1024x512, .f32⟩
  | .hbm, ⟨54, _⟩ => ⟨S1024x512, .bf16⟩
  | .hbm, ⟨55, _⟩ => ⟨S2048x6656, .bf16⟩
  | .hbm, ⟨56, _⟩ => ⟨S2048x512, .bf16⟩
  | .hbm, ⟨57, _⟩ => ⟨S1024x1024, .bf16⟩
  | .hbm, ⟨58, _⟩ => ⟨S8x512x128, .bf16⟩
  | .hbm, ⟨59, _⟩ => ⟨S2048x1024, .bf16⟩
  | .hbm, ⟨60, _⟩ => ⟨S2048x1024, .bf16⟩
  | .hbm, ⟨61, _⟩ => ⟨S1x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S256x1024, .bf16⟩
  | .local _ .vmem, ⟨6, _⟩ => ⟨S256x1024, .bf16⟩
  | .local _ .vmem, ⟨7, _⟩ => ⟨S1024x128, .bf16⟩
  | .local _ .vmem, ⟨8, _⟩ => ⟨S1024x128, .bf16⟩
  | .local _ .vmem, ⟨9, _⟩ => ⟨S2048x256, .f32⟩
  | .local _ .vmem, ⟨10, _⟩ => ⟨S2048x256, .f32⟩
  | .local _ .vmem, ⟨11, _⟩ => ⟨S2048x256, .bf16⟩
  | .local _ .vmem, ⟨12, _⟩ => ⟨S2048x256, .bf16⟩
  | .local _ .vmem, ⟨13, _⟩ => ⟨S1x256, .f32⟩
  | .local _ .vmem, ⟨14, _⟩ => ⟨S1x256, .f32⟩
  | .local _ .vmem, ⟨15, _⟩ => ⟨S2048x128, .bf16⟩
  | .local _ .vmem, ⟨16, _⟩ => ⟨S2048x128, .bf16⟩
  | .local _ .vmem, ⟨17, _⟩ => ⟨S256x1024, .bf16⟩
  | .local _ .vmem, ⟨18, _⟩ => ⟨S256x1024, .bf16⟩
  | .local _ .vmem, ⟨19, _⟩ => ⟨S2x512x128, .bf16⟩
  | .local _ .vmem, ⟨20, _⟩ => ⟨S2x512x128, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S1x256, .f32⟩
  | .local _ .vmem, ⟨26, _⟩ => ⟨S1x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_v35_2 : Ref sig .tc := ⟨.hbm, 58, rfl⟩
abbrev main_v35_3 : Ref sig .tc := ⟨.hbm, 59, rfl⟩
abbrev main_v35_4 : Ref sig .tc := ⟨.hbm, 60, rfl⟩
abbrev main_v35_5 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c256_i32 : BitVec 32 := 256#32
  let v14 : BitVec 32 := Scalar.muli arg0 c256_i32
  v14
def k0_off1 (i : grid0.Coords) : Fin 2 → Nat :=
  let c0_14 : Index := 0#32
  let arg0 : BitVec 32 := BitVec.ofNat 32 (i 0).val
  let c256_i32 : BitVec 32 := 256#32
  let v14 : BitVec 32 := Scalar.muli arg0 c256_i32
  let v15 : BitVec 32 := v14
  let v18 : Index := Scalar.indexCast v15
  ![0, v18.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== BranchRefIdeal.lean ====
abbrev S2048x1024 : Shape := ⟨2, ![2048, 1024]⟩
abbrev S2048x6656 : Shape := ⟨2, ![2048, 6656]⟩
abbrev S1x1024 : Shape := ⟨2, ![1, 1024]⟩
abbrev S1024x1024 : Shape := ⟨2, ![1024, 1024]⟩
abbrev S2048x512 : Shape := ⟨2, ![2048, 512]⟩
abbrev S512x1024 : Shape := ⟨2, ![512, 1024]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S8x128 : Shape := ⟨2, ![8, 128]⟩
abbrev S1x8x128 : Shape := ⟨3, ![1, 8, 128]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 122
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1x1024, .f32⟩
  | .hbm, ⟨3, _⟩ => ⟨S1024x1024, .f32⟩
  | .hbm, ⟨4, _⟩ => ⟨S2048x512, .f32⟩
  | .hbm, ⟨5, _⟩ => ⟨S512x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x8x128, .f32⟩
  | .hbm, ⟨10, _⟩ => ⟨S_, .f32⟩
  | .hbm, ⟨11, _⟩ => ⟨S2048x8, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S2048x8x128, .f32⟩
  | .hbm, ⟨17, _⟩ => ⟨S2048x8x128, .f32⟩
  | .hbm, ⟨18, _⟩ => ⟨S2048x8x128, .f32⟩
  | .hbm, ⟨19, _⟩ => ⟨S_, .f32⟩
  | .hbm, ⟨20, _⟩ => ⟨S2048x8x128, .f32⟩
  | .hbm, ⟨21, _⟩ => ⟨S2048x8x128, .f32⟩
  | .hbm, ⟨22, _⟩ => ⟨S_, .f32⟩
  | .hbm, ⟨23, _⟩ => ⟨S2048x8, .f32⟩
  | .hbm, ⟨24, _⟩ => ⟨S2048x8x1, .f32⟩
  | .hbm, ⟨25, _⟩ => ⟨S_, .f32⟩
  | .hbm, ⟨26, _⟩ => ⟨S2048x8x1, .f32⟩
  | .hbm, ⟨27, _⟩ => ⟨S2048x8x1, .f32⟩
  | .hbm, ⟨28, _⟩ => ⟨S2048x8x128, .f32⟩
  | .hbm, ⟨29, _⟩ => ⟨S2048x8x128, .f32⟩
  | .hbm, ⟨30, _⟩ => ⟨S_, .f32⟩
  | .hbm, ⟨31, _⟩ => ⟨S2048x8x1, .f32⟩
  | .hbm, ⟨32, _⟩ => ⟨S2048x8x1, .f32⟩
  | .hbm, ⟨33, _⟩ => ⟨S2048x8x1, .f32⟩
  | .hbm, ⟨34, _⟩ => ⟨S2048x8x1, .f32⟩
  | .hbm, ⟨35, _⟩ => ⟨S_, .f32⟩
  | .hbm, ⟨36, _⟩ => ⟨S2048x8x1, .f32⟩
  | .hbm, ⟨37, _⟩ => ⟨S2048x8x1, .f32⟩
  | .hbm, ⟨38, _⟩ => ⟨S2048x8x128, .f32⟩
  | .hbm, ⟨39, _⟩ => ⟨S2048x8x128, .f32⟩
  | .hbm, ⟨40, _⟩ => ⟨S8x128, .f32⟩
  | .hbm, ⟨41, _⟩ => ⟨S1x8x128, .f32⟩
  | .hbm, ⟨42, _⟩ => ⟨S2048x8x128, .f32⟩
  | .hbm, ⟨43, _⟩ => ⟨S2048x8x128, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S1024x512, .f32⟩
  | .hbm, ⟨62, _⟩ => ⟨S512x1024, .f32⟩
  | .hbm, ⟨63, _⟩ => ⟨S2048x512, .f32⟩
  | .hbm, ⟨64, _⟩ => ⟨S1024x1024, .f32⟩
  | .hbm, ⟨65, _⟩ => ⟨S1024x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x8x128, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x8x128, .f32⟩
  | .hbm, ⟨75, _⟩ => ⟨S_, .f32⟩
  | .hbm, ⟨76, _⟩ => ⟨S8x128, .f32⟩
  | .hbm, ⟨77, _⟩ => ⟨S1x8x128, .f32⟩
  | .hbm, ⟨78, _⟩ => ⟨S2048x8x128, .f32⟩
  | .hbm, ⟨79, _⟩ => ⟨S2048x8x128, .f32⟩
  | .hbm, ⟨80, _⟩ => ⟨S_, .f32⟩
  | .hbm, ⟨81, _⟩ => ⟨S8x128, .f32⟩
  | .hbm, ⟨82, _⟩ => ⟨S1x1024, .f32⟩
  | .hbm, ⟨83, _⟩ => ⟨S2048x8x128, .f32⟩
  | .hbm, ⟨84, _⟩ => ⟨S_, .f32⟩
  | .hbm, ⟨85, _⟩ => ⟨S2048x8, .f32⟩
  | .hbm, ⟨86, _⟩ => ⟨S2048x8x1, .f32⟩
  | .hbm, ⟨87, _⟩ => ⟨S2048x8x128, .f32⟩
  | .hbm, ⟨88, _⟩ => ⟨S2048x8x128, .f32⟩
  | .hbm, ⟨89, _⟩ => ⟨S2048x8x1, .f32⟩
  | .hbm, ⟨90, _⟩ => ⟨S2048x8x128, .f32⟩
  | .hbm, ⟨91, _⟩ => ⟨S_, .f32⟩
  | .hbm, ⟨92, _⟩ => ⟨S2048x8, .f32⟩
  | .hbm, ⟨93, _⟩ => ⟨S2048x8x1, .f32⟩
  | .hbm, ⟨94, _⟩ => ⟨S_, .f32⟩
  | .hbm, ⟨95, _⟩ => ⟨S2048x8x1, .f32⟩
  | .hbm, ⟨96, _⟩ => ⟨S2048x8x1, .f32⟩
  | .hbm, ⟨97, _⟩ => ⟨S_, .f32⟩
  | .hbm, ⟨98, _⟩ => ⟨S2048x8, .f32⟩
  | .hbm, ⟨99, _⟩ => ⟨S2048x8x128, .f32⟩
  | .hbm, ⟨100, _⟩ => ⟨S2048x8x128, .f32⟩
  | .hbm, ⟨101, _⟩ => ⟨S2048x8x128, .f32⟩
  | .hbm, ⟨102, _⟩ => ⟨S_, .f32⟩
  | .hbm, ⟨103, _⟩ => ⟨S2048x8, .f32⟩
  | .hbm, ⟨104, _⟩ => ⟨S2048x8x1, .f32⟩
  | .hbm, ⟨105, _⟩ => ⟨S2048x8x128, .f32⟩
  | .hbm, ⟨106, _⟩ => ⟨S2048x8x1, .f32⟩
  | .hbm, ⟨107, _⟩ => ⟨S_, .f32⟩
  | .hbm, ⟨108, _⟩ => ⟨S2048x8x1, .f32⟩
  | .hbm, ⟨109, _⟩ => ⟨S2048x8x1, .f32⟩
  | .hbm, ⟨110, _⟩ => ⟨S_, .f32⟩
  | .hbm, ⟨111, _⟩ => ⟨S2048x8, .f32⟩
  | .hbm, ⟨112, _⟩ => ⟨S2048x8x128, .f32⟩
  | .hbm, ⟨113, _⟩ => ⟨S2048x8x128, .f32⟩
  | .hbm, ⟨114, _⟩ => ⟨S2048x1024, .f32⟩
  | .hbm, ⟨115, _⟩ => ⟨S512x8x128, .f32⟩
  | .hbm, ⟨116, _⟩ => ⟨S8x512x128, .f32⟩
  | .hbm, ⟨117, _⟩ => ⟨S2048x512, .bf16⟩
  | .hbm, ⟨118, _⟩ => ⟨S1024x1024, .bf16⟩
  | .hbm, ⟨119, _⟩ => ⟨S8x512x128, .bf16⟩
  | .hbm, ⟨120, _⟩ => ⟨S2048x1024, .bf16⟩
  | .hbm, ⟨121, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v29_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v29_1 : Ref sig .tc := ⟨.hbm, 55, rfl⟩
abbrev main_v29_0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v43 : Ref sig .tc := ⟨.hbm, 73, rfl⟩
abbrev main_v44 : Ref sig .tc := ⟨.hbm, 74, rfl⟩
abbrev main_cst_6 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_8 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_cst_10 : Ref sig .tc := ⟨.hbm, 94, rfl⟩
abbrev main_v60 : Ref sig .tc := ⟨.hbm, 95, rfl⟩
abbrev main_v61 : Ref sig .tc := ⟨.hbm, 96, rfl⟩
abbrev main_cst_11 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_12 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_13 : Ref sig .tc := ⟨.hbm, 107, rfl⟩
abbrev main_v70 : Ref sig .tc := ⟨.hbm, 108, rfl⟩
abbrev main_v71 : Ref sig .tc := ⟨.hbm, 109, rfl⟩
abbrev main_cst_14 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩

abbrev nD : Nat := 1
abbrev τ : Topo := Topo.v7x

variable {F : FTy → Type} [FloatOps F]
-- ==== Assemble.lean ====
abbrev S2048x512 : Shape := ⟨2, ![2048, 512]⟩
abbrev S2048x1024 : Shape := ⟨2, ![2048, 1024]⟩
abbrev S2048 : Shape := ⟨1, ![2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S1x128 : Shape := ⟨2, ![1, 128]⟩
abbrev S2048x1 : Shape := ⟨2, ![2048, 1]⟩
abbrev S2048x128 : Shape := ⟨2, ![2048, 128]⟩
abbrev S8 : Shape := ⟨1, ![8]⟩
abbrev S8x1 : Shape := ⟨2, ![8, 1]⟩
abbrev S8x64 : Shape := ⟨2, ![8, 64]⟩
abbrev S1x512 : Shape := ⟨2, ![1, 512]⟩
abbrev S2048x6656 : Shape := ⟨2, ![2048, 6656]⟩
abbrev S256x512 : Shape := ⟨2, ![256, 512]⟩
abbrev S256x1024 : Shape := ⟨2, ![256, 1024]⟩
abbrev S256x128 : Shape := ⟨2, ![256, 128]⟩
abbrev S256x1 : Shape := ⟨2, ![256, 1]⟩
abbrev S256x6656 : Shape := ⟨2, ![256, 6656]⟩

abbrev nBuf : Space → Nat
  | .hbm => 73
  | .vmem => 27
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x1024, .f32⟩
  | .hbm, ⟨8, _⟩ => ⟨S2048x1024, .f32⟩
  | .hbm, ⟨9, _⟩ => ⟨S2048, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S1x32, .f32⟩
  | .hbm, ⟨25, _⟩ => ⟨S4x32, .f32⟩
  | .hbm, ⟨26, _⟩ => ⟨S1x128, .f32⟩
  | .hbm, ⟨27, _⟩ => ⟨S2048x1, .i32⟩
  | .hbm, ⟨28, _⟩ => ⟨S2048x1, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S1x128, .i32⟩
  | .hbm, ⟨33, _⟩ => ⟨S_, .i32⟩
  | .hbm, ⟨34, _⟩ => ⟨S1x128, .i32⟩
  | .hbm, ⟨35, _⟩ => ⟨S1x128, .i32⟩
  | .hbm, ⟨36, _⟩ => ⟨S_, .i32⟩
  | .hbm, ⟨37, _⟩ => ⟨S1x128, .i32⟩
  | .hbm, ⟨38, _⟩ => ⟨S1x128, .i1⟩
  | .hbm, ⟨39, _⟩ => ⟨S_, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S2048x128, .f32⟩
  | .hbm, ⟨45, _⟩ => ⟨S1x128, .f32⟩
  | .hbm, ⟨46, _⟩ => ⟨S2048x128, .f32⟩
  | .hbm, ⟨47, _⟩ => ⟨S2048x128, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048x1, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S8, .f32⟩
  | .hbm, ⟨62, _⟩ => ⟨S8x1, .f32⟩
  | .hbm, ⟨63, _⟩ => ⟨S8x64, .f32⟩
  | .hbm, ⟨64, _⟩ => ⟨S1x512, .f32⟩
  | .hbm, ⟨65, _⟩ => ⟨S2048x512, .bf16⟩
  | .hbm, ⟨66, _⟩ => ⟨S2048x512, .bf16⟩
  | .hbm, ⟨67, _⟩ => ⟨S2048x1024, .bf16⟩
  | .hbm, ⟨68, _⟩ => ⟨S2048x1024, .bf16⟩
  | .hbm, ⟨69, _⟩ => ⟨S2048x1024, .bf16⟩
  | .hbm, ⟨70, _⟩ => ⟨S2048x1024, .bf16⟩
  | .hbm, ⟨71, _⟩ => ⟨S2048x128, .f32⟩
  | .hbm, ⟨72, _⟩ => ⟨S2048x6656, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x1, .f32⟩
  | .local _ .vmem, ⟨23, _⟩ => ⟨S256x1, .f32⟩
  | .local _ .vmem, ⟨24, _⟩ => ⟨S1x512, .f32⟩
  | .local _ .vmem, ⟨25, _⟩ => ⟨S256x6656, .bf16⟩
  | .local _ .vmem, ⟨26, _⟩ => ⟨S256x6656, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x6656 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AssembleIdeal.lean ====
variable {F : FTy → Type} [FloatOps F] [Named F]
def κ : String → Option EReal := fun
  | "ln2" => some ((Real.log 2 : ℝ) : EReal)
  | _ => none
-- ==== AssembleRefIdeal.lean ====
abbrev S2048x512 : Shape := ⟨2, ![2048, 512]⟩
abbrev S2048x1024 : Shape := ⟨2, ![2048, 1024]⟩
abbrev S2048 : Shape := ⟨1, ![2048]⟩
abbrev S_ : Shape := ⟨0, ![]⟩
abbrev S2048x8x64 : Shape := ⟨3, ![2048, 8, 64]⟩
abbrev S2048x1 : Shape := ⟨2, ![2048, 1]⟩
abbrev S32 : Shape := ⟨1, ![32]⟩
abbrev S1x32 : Shape := ⟨2, ![1, 32]⟩
abbrev S2048x32 : Shape := ⟨2, ![2048, 32]⟩
abbrev S2048x1x32 : Shape := ⟨3, ![2048, 1, 32]⟩
abbrev S2048x8x32 : Shape := ⟨3, ![2048, 8, 32]⟩
abbrev S8 : Shape := ⟨1, ![8]⟩
abbrev S1x8 : Shape := ⟨2, ![1, 8]⟩
abbrev S2048x8 : Shape := ⟨2, ![2048, 8]⟩
abbrev S2048x8x1 : Shape := ⟨3, ![2048, 8, 1]⟩
abbrev S2048x6656 : Shape := ⟨2, ![2048, 6656]⟩

abbrev nBuf : Space → Nat
  | .hbm => 196
  | .vmem => 0
  | .smem => 0
  | _ => 0

abbrev hbmTy0_0 (i : Nat) : BufTy := match i % 128 with
  | 0 => ⟨S2048x512, .f32⟩
  | 1 => ⟨S2048x512, .f32⟩
  | 2 => ⟨S2048x1024, .f32⟩
  | 3 => ⟨S2048x1024, .f32⟩
  | 4 => ⟨S2048x512, .f32⟩
  | 5 => ⟨S2048x512, .f32⟩
  | 6 => ⟨S2048x512, .f32⟩
  | 7 => ⟨S2048x1024, .f32⟩
  | 8 => ⟨S2048x1024, .f32⟩
  | 9 => ⟨S2048, .i32⟩
  | 10 => ⟨S_, .f32⟩
  | 11 => ⟨S2048x512, .f32⟩
  | 12 => ⟨S2048x8x64, .f32⟩
  | 13 => ⟨S2048, .f32⟩
  | 14 => ⟨S2048x1, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S1x32, .f32⟩
  | 30 => ⟨S2048x32, .f32⟩
  | 31 => ⟨S2048x32, .f32⟩
  | 32 => ⟨S2048x32, .f32⟩
  | 33 => ⟨S2048x32, .f32⟩
  | 34 => ⟨S2048x1x32, .f32⟩
  | 35 => ⟨S2048x32, .f32⟩
  | 36 => ⟨S2048x1x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x32, .f32⟩
  | 42 => ⟨S2048x8x32, .f32⟩
  | 43 => ⟨S2048x8x32, .f32⟩
  | 44 => ⟨S2048x8x32, .f32⟩
  | 45 => ⟨S2048x8x32, .f32⟩
  | 46 => ⟨S2048x8x32, .f32⟩
  | 47 => ⟨S2048x8x32, .f32⟩
  | 48 => ⟨S2048x8x32, .f32⟩
  | 49 => ⟨S2048x8x64, .f32⟩
  | 50 => ⟨S2048, .f32⟩
  | 51 => ⟨S_, .f32⟩
  | 52 => ⟨S2048, .f32⟩
  | 53 => ⟨S2048, .f32⟩
  | 54 => ⟨S_, .f32⟩
  | 55 => ⟨S2048, .f32⟩
  | 56 => ⟨S2048, .f32⟩
  | 57 => ⟨S2048x1, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S8, .f32⟩
  | 66 => ⟨S8, .f32⟩
  | 67 => ⟨S1x8, .f32⟩
  | 68 => ⟨S2048x8, .f32⟩
  | 69 => ⟨S2048x8, .f32⟩
  | 70 => ⟨S2048x8, .f32⟩
  | 71 => ⟨S2048x8, .f32⟩
  | 72 => ⟨S2048x8x1, .f32⟩
  | 73 => ⟨S2048x8x64, .f32⟩
  | 74 => ⟨S2048x8x64, .f32⟩
  | 75 => ⟨S2048x8x64, .f32⟩
  | 76 => ⟨S2048, .f32⟩
  | 77 => ⟨S2048x1, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S1x32, .f32⟩
  | 93 => ⟨S2048x32, .f32⟩
  | 94 => ⟨S2048x32, .f32⟩
  | 95 => ⟨S2048x32, .f32⟩
  | 96 => ⟨S2048x32, .f32⟩
  | 97 => ⟨S2048x1x32, .f32⟩
  | 98 => ⟨S2048x32, .f32⟩
  | 99 => ⟨S2048x1x32, .f32⟩
  | 100 => ⟨S2048x8x32, .f32⟩
  | 101 => ⟨S2048x8x32, .f32⟩
  | 102 => ⟨S2048x8x32, .f32⟩
  | 103 => ⟨S2048x8x32, .f32⟩
  | 104 => ⟨S2048x8x32, .f32⟩
  | 105 => ⟨S2048x8x32, .f32⟩
  | 106 => ⟨S2048x8x32, .f32⟩
  | 107 => ⟨S2048x8x32, .f32⟩
  | 108 => ⟨S2048x8x32, .f32⟩
  | 109 => ⟨S2048x8x32, .f32⟩
  | 110 => ⟨S2048x8x32, .f32⟩
  | 111 => ⟨S2048x8x32, .f32⟩
  | 112 => ⟨S2048x8x64, .f32⟩
  | 113 => ⟨S_, .f32⟩
  | 114 => ⟨S2048x8x64, .f32⟩
  | 115 => ⟨S2048x8x64, .f32⟩
  | 116 => ⟨S2048, .f32⟩
  | 117 => ⟨S_, .f32⟩
  | 118 => ⟨S2048, .f32⟩
  | 119 => ⟨S2048, .f32⟩
  | 120 => ⟨S_, .f32⟩
  | 121 => ⟨S2048, .f32⟩
  | 122 => ⟨S2048, .f32⟩
  | 123 => ⟨S2048x1, .f32⟩
  | 124 => ⟨S8, .f32⟩
  | 125 => ⟨S_, .f32⟩
  | 126 => ⟨S8, .f32⟩
  | 127 => ⟨S8, .f32⟩
  | _ => ⟨S2048x512, .f32⟩

abbrev hbmTy0_1 (i : Nat) : BufTy := match i % 128 with
  | 0 => ⟨S_, .f32⟩
  | 1 => ⟨S8, .f32⟩
  | 2 => ⟨S8, .f32⟩
  | 3 => ⟨S8, .f32⟩
  | 4 => ⟨S8, .f32⟩
  | 5 => ⟨S1x8, .f32⟩
  | 6 => ⟨S2048x8, .f32⟩
  | 7 => ⟨S2048x8, .f32⟩
  | 8 => ⟨S2048x8, .f32⟩
  | 9 => ⟨S2048x8, .f32⟩
  | 10 => ⟨S2048x8x1, .f32⟩
  | 11 => ⟨S2048x8x64, .f32⟩
  | 12 => ⟨S2048x8x64, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S_, .f32⟩
  | 19 => ⟨S_, .f32⟩
  | 20 => ⟨S2048x512, .f32⟩
  | 21 => ⟨S2048x512, .f32⟩
  | 22 => ⟨S2048x512, .f32⟩
  | 23 => ⟨S2048x512, .f32⟩
  | 24 => ⟨S_, .f32⟩
  | 25 => ⟨S2048x512, .f32⟩
  | 26 => ⟨S2048x512, .f32⟩
  | 27 => ⟨S2048x8x64, .f32⟩
  | 28 => ⟨S2048x8x64, .f32⟩
  | 29 => ⟨S2048x8x64, .f32⟩
  | 30 => ⟨S2048x8x64, .f32⟩
  | 31 => ⟨S_, .f32⟩
  | 32 => ⟨S2048x8x64, .f32⟩
  | 33 => ⟨S2048x8x64, .f32⟩
  | 34 => ⟨S2048x8x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x32, .f32⟩
  | 42 => ⟨S2048x8x32, .f32⟩
  | 43 => ⟨S2048x8x32, .f32⟩
  | 44 => ⟨S2048x8x32, .f32⟩
  | 45 => ⟨S2048x8x32, .f32⟩
  | 46 => ⟨S2048x8x32, .f32⟩
  | 47 => ⟨S2048x8x64, .f32⟩
  | 48 => ⟨S2048x512, .f32⟩
  | 49 => ⟨S2048x8x64, .f32⟩
  | 50 => ⟨S2048x8x64, .f32⟩
  | 51 => ⟨S2048x8x32, .f32⟩
  | 52 => ⟨S2048x8x32, .f32⟩
  | 53 => ⟨S2048x8x32, .f32⟩
  | 54 => ⟨S2048x8x32, .f32⟩
  | 55 => ⟨S2048x8x32, .f32⟩
  | 56 => ⟨S2048x8x32, .f32⟩
  | 57 => ⟨S2048x8x32, .f32⟩
  | 58 => ⟨S2048x8x32, .f32⟩
  | 59 => ⟨S2048x8x32, .f32⟩
  | 60 => ⟨S2048x8x32, .f32⟩
  | 61 => ⟨S2048x8x32, .f32⟩
  | 62 => ⟨S2048x8x32, .f32⟩
  | 63 => ⟨S2048x8x32, .f32⟩
  | 64 => ⟨S2048x8x64, .f32⟩
  | 65 => ⟨S2048x512, .f32⟩
  | 66 => ⟨S2048x6656, .f32⟩
  | 67 => ⟨S2048x6656, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_12 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_13 : Ref sig .tc := ⟨.hbm, 117, rfl⟩
abbrev main_v93 : Ref sig .tc := ⟨.hbm, 118, rfl⟩
abbrev main_v94 : Ref sig .tc := ⟨.hbm, 119, rfl⟩
abbrev main_cst_14 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_15 : Ref sig .tc := ⟨.hbm, 125, rfl⟩
abbrev main_v99 : Ref sig .tc := ⟨.hbm, 126, rfl⟩
abbrev main_v100 : Ref sig .tc := ⟨.hbm, 127, rfl⟩
abbrev main_cst_16 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_17 : Ref sig .tc := ⟨.hbm, 143, rfl⟩
abbrev main_v115 : Ref sig .tc := ⟨.hbm, 144, rfl⟩
abbrev main_v116 : Ref sig .tc := ⟨.hbm, 145, rfl⟩
abbrev main_cst_18 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_19 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_20 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩

abbrev nD : Nat := 1
abbrev τ : Topo := Topo.v7x

variable {F : FTy → Type} [FloatOps F]
-- ==== Proof.Gate.lean ====
/- The merge gate's gradient: each result array of the kernel `Gate` is the reference's result, element by element. -/
module

public import proofs.«01_k».proof.Proof.Gen.GateIdeal.Frame
public import proofs.«01_k».proof.Proof.Gen.GateRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateIdeal.Hand

open Cert.GateIdeal Cert.GateIdeal.Gen

variable (m : (ℓ : Loc nD τ sig) → Buf (Elt Ideal) ℓ)

/-- Where each window's block lies at a grid point: the point's row tile is its number modulo 4, its column tile the quotient. -/
theorem idx : ∀ t : Fin cfg0.N,
    win0_0.index t = ![t.val % 4, 0] ∧ win0_1.index t = ![t.val / 4, 0]
    ∧ win0_2.index t = ![t.val % 4, 9 + t.val / 4] ∧ win0_3.index t = ![t.val % 4, 11 + t.val / 4]
    ∧ win0_4.index t = ![t.val % 4, t.val / 4] ∧ win0_5.index t = ![t.val % 4, t.val / 4]
    ∧ win0_6.index t = ![t.val % 4, t.val / 4] ∧ win0_7.index t = ![t.val % 4, t.val / 4]
    ∧ win0_8.index t = ![t.val % 4, t.val / 4] ∧ win0_9.index t = ![t.val % 4, t.val / 4] :=
  (by decide +kernel : ∀ t : Fin grid0.N, _)

/-- The host's change of float width leaves the projections as they are. -/
theorem entry2 (c : Dev nD) : V m c main_v2 = m (c.tc.loc main_arg2) := by
  unfold V
  after_results
  rfl

/-- The retention branch's output, its float width changed on the host. -/
theorem entry4 (c : Dev nD) : V m c main_v3 = m (c.tc.loc main_arg3) := by
  unfold V
  after_results
  rfl

/-- The stick-breaking branch's output, its float width changed on the host. -/
theorem entry5 (c : Dev nD) : V m c main_v4 = m (c.tc.loc main_arg4) := by
  unfold V
  after_results
  rfl

open Cert.GateRefIdeal.Read in
/-- A block of the product of the output's gradient with the transposed weight is that block of the reference's product. -/
theorem dot_at (c : Dev nD) (t : Fin cfg0.N) (y : S512x512.Idx) (z : S2048x1024.Idx)
    (h0 : (z 0 : ℕ) = t.val % 4 * 512 + y 0) (h1 : (z 1 : ℕ) = t.val / 4 * 512 + y 1) :
    k0_pay3 (F := Ideal) (iblk m c 0 t) (iblk m c 1 t) y
      = val_main_v24 (F := Ideal) (m (c.tc.loc main_arg0)) (m (c.tc.loc main_arg1)) z := by
  pointwise [k0_pay3, val_main_v24]
  refine Finset.sum_congr rfl fun k _ => ?_
  blk_point [iblk, V, idx t]

open Cert.GateRefIdeal.Read in
/-- A block of the retention branch's gate is that block of the reference's gate. -/
theorem gateR_at (c : Dev nD) (t : Fin cfg0.N) (y : S512x512.Idx) (z : S2048x1024.Idx)
    (h0 : (z 0 : ℕ) = t.val % 4 * 512 + y 0) (h1 : (z 1 : ℕ) = t.val / 4 * 512 + y 1) :
    k0_pay4 (F := Ideal) (iblk m c 2 t) y = val_main_v7 (F := Ideal) (m (c.tc.loc main_arg2)) z := by
  pointwise [k0_pay4, val_main_v7, val_main_v6, val_main_v5, val_main_v4, val_main_v3, val_main_v2, val_main_v0,
    val_main_cst, val_main_cst_0]
  rw [zero_sub]
  blk_point [iblk, entry2, idx t]

open Cert.GateRefIdeal.Read in
/-- A block of the stick-breaking branch's gate is that block of the reference's gate. -/
theorem gateS_at (c : Dev nD) (t : Fin cfg0.N) (y : S512x512.Idx) (z : S2048x1024.Idx)
    (h0 : (z 0 : ℕ) = t.val % 4 * 512 + y 0) (h1 : (z 1 : ℕ) = t.val / 4 * 512 + y 1) :
    k0_pay5 (F := Ideal) (iblk m c 3 t) y = val_main_v17 (F := Ideal) (m (c.tc.loc main_arg2)) z := by
  pointwise [k0_pay5, val_main_v17, val_main_v16, val_main_v15, val_main_v14, val_main_v13, val_main_v12, val_main_v1,
    val_main_cst_2, val_main_cst_3]
  rw [zero_sub]
  blk_point [iblk, entry2, idx t]

open Cert.GateRefIdeal.Read in
/-- The gradient of the retention branch's output. -/
theorem final6 (c : Dev nD) : (dats m 0 c).arrAt 6 (cfgs 0).N
    = val_main_v31 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  have h0 : ((((View.whole main_v5_0).slice (win0_6.rect t)).emb y) 0 : ℕ) = t.val % 4 * 512 + y 0 := by blk_simp [idx t]
  have h1 : ((((View.whole main_v5_0).slice (win0_6.rect t)).emb y) 1 : ℕ) = t.val / 4 * 512 + y 1 := by blk_simp [idx t]
  blk_simp
  rw [after0_6]
  frame_out
  refine Eq.trans (congrArg₂ (· * ·) (dot_at m c t y _ h0 h1) (gateR_at m c t y _ h0 h1)) ?_
  exact mul_comm (_ : EReal) _

open Cert.GateRefIdeal.Read in
/-- The gradient of the stick-breaking branch's output. -/
theorem final7 (c : Dev nD) : (dats m 0 c).arrAt 7 (cfgs 0).N
    = val_main_v32 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  have h0 : ((((View.whole main_v5_1).slice (win0_7.rect t)).emb y) 0 : ℕ) = t.val % 4 * 512 + y 0 := by blk_simp [idx t]
  have h1 : ((((View.whole main_v5_1).slice (win0_7.rect t)).emb y) 1 : ℕ) = t.val / 4 * 512 + y 1 := by blk_simp [idx t]
  blk_simp
  rw [after0_7]
  frame_out
  refine Eq.trans (congrArg₂ (· * ·) (dot_at m c t y _ h0 h1) (gateS_at m c t y _ h0 h1)) ?_
  exact mul_comm (_ : EReal) _

open Cert.GateRefIdeal.Read in
/-- The gradient of the retention gate's argument. -/
theorem final8 (c : Dev nD) : (dats m 0 c).arrAt 8 (cfgs 0).N
    = val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  have h0 : ((((View.whole main_v5_2).slice (win0_8.rect t)).emb y) 0 : ℕ) = t.val % 4 * 512 + y 0 := by blk_simp [idx t]
  have h1 : ((((View.whole main_v5_2).slice (win0_8.rect t)).emb y) 1 : ℕ) = t.val / 4 * 512 + y 1 := by blk_simp [idx t]
  blk_simp
  rw [after0_8]
  frame_out
  pointwise [k0_pay1, k0_pay8, val_main_v33, val_main_v30, val_main_v29, val_main_v11, val_main_v10, val_main_v9, val_main_v8, val_main_cst_1]
  rw [dot_at m c t y _ h0 h1, gateR_at m c t y _ h0 h1]
  have hx : iblk m c 4 t y = m (c.tc.loc main_arg3) (((View.whole main_v5_2).slice (win0_8.rect t)).emb y) := by
    blk_point [iblk, entry4, idx t]
  rw [hx, mul_assoc]

open Cert.GateRefIdeal.Read in
/-- The gradient of the stick-breaking gate's argument. -/
theorem final9 (c : Dev nD) : (dats m 0 c).arrAt 9 (cfgs 0).N
    = val_main_v34 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t _ y => ?_
  have h0 : ((((View.whole main_v5_3).slice (win0_9.rect t)).emb y) 0 : ℕ) = t.val % 4 * 512 + y 0 := by blk_simp [idx t]
  have h1 : ((((View.whole main_v5_3).slice (win0_9.rect t)).emb y) 1 : ℕ) = t.val / 4 * 512 + y 1 := by blk_simp [idx t]
  blk_simp
  rw [after0_9]
  frame_out
  pointwise [k0_pay2, val_main_v34, val_main_v27, val_main_v26, val_main_v20, val_main_v19, val_main_v18, val_main_cst_4]
  rw [dot_at m c t y _ h0 h1, gateS_at m c t y _ h0 h1]
  have hx : iblk m c 5 t y = m (c.tc.loc main_arg4) (((View.whole main_v5_3).slice (win0_9.rect t)).emb y) := by
    blk_point [iblk, entry5, idx t]
  rw [hx, mul_assoc]

end Cert.GateIdeal.Hand

end
-- ==== Proof.Ffn.lean ====
/- The feed-forward's gradient: each result array of the kernel `Ffn` is the reference's result, element by element. -/
module

public import proofs.«01_k».proof.Proof.Gen.FfnIdeal.Frame
public import proofs.«01_k».proof.Proof.Gen.FfnRefIdeal.Read
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ)

/-- Where each window's block lies at a grid point: the point is the number of the block of hidden columns. -/
theorem idx : ∀ t : Fin cfg0.N,
    win0_0.index t = ![0, 0] ∧ win0_1.index t = ![t.val, 0] ∧ win0_2.index t = ![0, t.val]
    ∧ win0_3.index t = ![0, t.val] ∧ win0_4.index t = ![0, 0]
    ∧ win0_5.index t = ![0, t.val] ∧ win0_6.index t = ![t.val, 0] ∧ win0_7.index t = ![t.val, 0, 0] :=
  (by decide +kernel : ∀ t : Fin grid0.N, _)

/-- The cotangent, its float width changed on the host. -/
theorem entry0 (c : Dev nD) : V m c main_v1 = m (c.tc.loc main_arg3) := by
  unfold_abbrev_sides
  after_reads_simp
  rfl

/-- The second weight, its float width changed on the host. -/
theorem entry1 (c : Dev nD) : V m c main_v2 = m (c.tc.loc main_arg2) := by
  unfold_abbrev_sides
  after_reads_simp
  rfl

/-- The layer's input, its float width changed on the host. -/
theorem entry4 (c : Dev nD) : V m c main_v7 = m (c.tc.loc main_arg0) := by
  unfold_abbrev_sides
  after_reads_simp
  rfl

open Cert.FfnRefIdeal.Read in
/-- The hidden values before the activation, which the host computes. -/
theorem entry2 (c : Dev nD) : V m c main_v3 = val_main_v0 (F := Ideal) (m ((c : Thread nD τ).loc main_arg0)) (m ((c : Thread nD τ).loc main_arg1)) := by
  unfold_abbrev_sides
  after_reads_simp
  rfl

open Cert.FfnRefIdeal.Read in
/-- The hidden values after the activation, which the host computes. -/
theorem entry3 (c : Dev nD) : V m c main_v6 = val_main_v5 (F := Ideal) (m ((c : Thread nD τ).loc main_arg0)) (m ((c : Thread nD τ).loc main_arg1)) := by
  unfold_abbrev_sides
  after_reads_simp
  rfl

/-- The gradient of the squared positive part, for any number: a factor zero makes the product zero. -/
theorem square_relu (g w u : EReal) :
    g * (w * max u 0) = if 0 < u then g * (w * max u 0) else 0 := by
  split
  · rfl
  · rw [max_eq_right (not_lt.1 ‹_›), mul_zero, mul_zero]

open Cert.FfnRefIdeal.Read in
/-- A block of the gradient of the hidden values is that block of the reference's. -/
theorem du_at (c : Dev nD) (t : Fin cfg0.N) (y : S2048x512.Idx) (z : S2048x4096.Idx)
    (h0 : (z 0 : ℕ) = y 0) (h1 : (z 1 : ℕ) = t.val * 512 + y 1) :
    k0_pay2 (F := Ideal) (iblk m c 0 t) (iblk m c 1 t) (iblk m c 2 t) y
      = val_main_v14 (F := Ideal) (m ((c : Thread nD τ).loc main_arg0)) (m ((c : Thread nD τ).loc main_arg1)) (m ((c : Thread nD τ).loc main_arg2)) (m ((c : Thread nD τ).loc main_arg3)) z := by
  have hu : iblk m c 2 t y = val_main_v0 (F := Ideal) (m ((c : Thread nD τ).loc main_arg0)) (m ((c : Thread nD τ).loc main_arg1)) z := by
    blk_point [iblk, entry2, idx t]
  pointwise [k0_pay2, k0_pay1, val_main_v14, val_main_v13, val_main_v12, val_main_v11, val_main_v7, val_main_v6,
    val_main_v3, val_main_v2, val_main_v1, val_main_call0_v0, val_main_call0_cst, val_main_cst, val_main_cst_0, val_main_cst_1, val_main_cst_2]
  rw [hu]
  refine (square_relu _ _ _).trans ?_
  congr 2
  refine Finset.sum_congr rfl fun k _ => congrArg₂ (fun a b : EReal => a * b) ?_ ?_
  · blk_point [iblk, entry0, idx t]
  · blk_point [iblk, entry1, idx t]

open Cert.FfnRefIdeal.Read in
/-- The gradient of the hidden values. -/
theorem final5 (c : Dev nD) : (dats m 0 c).arrAt 5 (cfgs 0).N = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have h0 : ((((View.whole main_v8_0).slice (win0_5.rect t)).emb y) 0 : ℕ) = y 0 := by blk_simp [idx t]
  have h1 : ((((View.whole main_v8_0).slice (win0_5.rect t)).emb y) 1 : ℕ) = t.val * 512 + y 1 := by blk_simp [idx t]
  blk_simp
  rw [after0_5]
  frame_out
  exact du_at m c t y _ h0 h1

open Cert.FfnRefIdeal.Read in
/-- A block of the gradient of the second weight is that block of the reference's. -/
theorem gw2_at (c : Dev nD) (t : Fin cfg0.N) (y : S512x1024.Idx) (z : S4096x1024.Idx)
    (h0 : (z 0 : ℕ) = t.val * 512 + y 0) (h1 : (z 1 : ℕ) = y 1) :
    k0_pay3 (F := Ideal) (iblk m c 0 t) (iblk m c 3 t) y = val_main_v20 (F := Ideal) (m ((c : Thread nD τ).loc main_arg0)) (m ((c : Thread nD τ).loc main_arg1)) (m ((c : Thread nD τ).loc main_arg3)) z := by
  pointwise [k0_pay3, k0_pay1, val_main_v20, val_main_v10, val_main_v9]
  refine Finset.sum_congr rfl fun k _ => ?_
  refine (mul_comm (_ : EReal) _).trans (congrArg₂ (fun a b : EReal => a * b) ?_ ?_)
  · blk_point [iblk, entry0, idx t]
  · blk_point [iblk, entry3, idx t]

open Cert.FfnRefIdeal.Read in
/-- A block of the gradient of the first weight is that block of the reference's. -/
theorem gw1_at (c : Dev nD) (t : Fin cfg0.N) (y : S1x1024x512.Idx) (z : S8x1024x512.Idx)
    (h0 : (z 0 : ℕ) = t.val) (h1 : (z 1 : ℕ) = y 1) (h2 : (z 2 : ℕ) = y 2) :
    k0_pay4 (F := Ideal) (iblk m c 0 t) (iblk m c 1 t) (iblk m c 2 t) (iblk m c 4 t) y
      = val_main_v21 (F := Ideal) (m ((c : Thread nD τ).loc main_arg0)) (m ((c : Thread nD τ).loc main_arg1)) (m ((c : Thread nD τ).loc main_arg2)) (m ((c : Thread nD τ).loc main_arg3)) z := by
  pointwise [k0_pay4, val_main_v21, val_main_v18, val_main_v17, val_main_v16, val_main_v15]
  refine Finset.sum_congr rfl fun k _ => ?_
  refine (mul_comm (_ : EReal) _).trans (congrArg₂ (fun a b : EReal => a * b) ?_ ?_)
  · refine du_at m c t _ _ rfl ?_
    show (z 0 : ℕ) * 512 + z 2 = t.val * 512 + y 2
    rw [h0, h2]
  · blk_point [iblk, entry4, idx t]

open Cert.FfnRefIdeal.Read in
/-- The gradient of the second weight. -/
theorem final6 (c : Dev nD) : (dats m 0 c).arrAt 6 (cfgs 0).N = val_main_v20 (F := Ideal) (m ((c : Thread nD τ).loc main_arg0)) (m ((c : Thread nD τ).loc main_arg1)) (m ((c : Thread nD τ).loc main_arg3)) := by
  refine (dats m 0 c).arrAt_eq_of_covers 6 _ (by decide +kernel) fun t _ y => ?_
  have h0 : ((((View.whole main_v8_1).slice (win0_6.rect t)).emb y) 0 : ℕ) = t.val * 512 + y 0 := by blk_simp [idx t]
  have h1 : ((((View.whole main_v8_1).slice (win0_6.rect t)).emb y) 1 : ℕ) = y 1 := by blk_simp [idx t]
  blk_simp
  rw [after0_6]
  frame_out
  exact gw2_at m c t y _ h0 h1

open Cert.FfnRefIdeal.Read in
/-- The gradient of the first weight, a block of its columns at a time. -/
theorem final7 (c : Dev nD) : (dats m 0 c).arrAt 7 (cfgs 0).N = val_main_v21 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  have h0 : ((((View.whole main_v8_2).slice (win0_7.rect t)).emb y) 0 : ℕ) = t.val := by blk_simp [idx t]
  have h1 : ((((View.whole main_v8_2).slice (win0_7.rect t)).emb y) 1 : ℕ) = y 1 := by blk_simp [idx t]
  have h2 : ((((View.whole main_v8_2).slice (win0_7.rect t)).emb y) 2 : ℕ) = y 2 := by blk_simp [idx t]
  blk_simp
  rw [after0_7]
  frame_out
  exact gw1_at m c t y _ h0 h1 h2

end Cert.FfnIdeal.Hand

end
-- ==== Proof.StickTile.lean ====
/-
  One key tile of the stick-breaking backward pass, as a function of what the kernel holds when it comes to the tile.

  A grid point of the kernel (a pair of heads, a block of 512 queries) goes through the key tiles of 128 keys from the
  left: the tiles before the diagonal in groups of four by a counted loop, the four tiles on the diagonal after it. It
  carries the row sums of the weighted logit gradients so far and the query gradient so far, and adds each tile's part
  to the key and value gradients in place. `step` is one tile before the diagonal, `stepM` one on it; this module shows
  that a trip of the loop is four `step`s and the diagonal part four `stepM`s. It says nothing of numbers: everything
  holds over any reading of the floats.
-/
module

public import proofs.«01_k».proof.Proof.Gen.StickGradIdeal.Frame
public import Idealize.ShloMosaic.Lib.Pipeline.ValueKit.Acc
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.StickGradIdeal.Hand

open Cert.StickGradIdeal Cert.StickGradIdeal.Gen

variable {F : FTy → Type} [FloatOps F]

/-! ## Where the tiles are -/

/-- The loop before the diagonal makes as many trips as the query block's number. -/
theorem trips1 (i : grid0.Coords) : (k0_t1_loop i).trips = (i 1).val := by
  show Scf.trips (k0_t1_loop i).lb (k0_t1_loop i).ub (k0_t1_loop i).st = _
  unfold k0_t1_loop
  generalize (i 1) = b
  revert b
  decide

/-- The second loop, for the trips left over by the first, makes none. -/
theorem trips2 (i : grid0.Coords) : (k0_t2_loop i).trips = 0 := by
  show Scf.trips (k0_t2_loop i).lb (k0_t2_loop i).ub (k0_t2_loop i).st = _
  unfold k0_t2_loop
  generalize (i 1) = b
  revert b
  decide

/-- Where tile `s` of group `k` starts in the key arrays. -/
theorem off1_eq (i : grid0.Coords) (k : Fin (k0_t1_loop i).trips) :
    k0_off1 i k 0#32 = ![128 * (4 * k.val + 0), 0] ∧ k0_off1 i k 1#32 = ![128 * (4 * k.val + 1), 0]
    ∧ k0_off1 i k 2#32 = ![128 * (4 * k.val + 2), 0] ∧ k0_off1 i k 3#32 = ![128 * (4 * k.val + 3), 0] := by
  have hk : k.val < 4 := by
    exact (k.isLt.trans_eq (trips1 i)).trans (i 1).isLt
  unfold k0_off1
  generalize k.val = n at hk ⊢
  obtain ⟨n', rfl⟩ : ∃ n' : Fin 4, n'.val = n := ⟨⟨n, hk⟩, rfl⟩
  clear hk
  revert n'
  decide

/-- Which tile of the saved weights tile `s` of group `k` reads. -/
theorem off2_eq (i : grid0.Coords) (k : Fin (k0_t1_loop i).trips) :
    k0_off2 i k 0#32 = ![0, 0, 4 * k.val + 0, 0, 0] ∧ k0_off2 i k 1#32 = ![0, 0, 4 * k.val + 1, 0, 0]
    ∧ k0_off2 i k 2#32 = ![0, 0, 4 * k.val + 2, 0, 0] ∧ k0_off2 i k 3#32 = ![0, 0, 4 * k.val + 3, 0, 0] := by
  have hk : k.val < 4 := by
    exact (k.isLt.trans_eq (trips1 i)).trans (i 1).isLt
  unfold k0_off2
  generalize k.val = n at hk ⊢
  obtain ⟨n', rfl⟩ : ∃ n' : Fin 4, n'.val = n := ⟨⟨n, hk⟩, rfl⟩
  clear hk
  revert n'
  decide

/-- Where tile `s` of the diagonal starts in the key arrays. -/
theorem off5_eq (i : grid0.Coords) :
    k0_off5 i 0#32 = ![128 * (4 * (i 1).val + 0), 0] ∧ k0_off5 i 1#32 = ![128 * (4 * (i 1).val + 1), 0]
    ∧ k0_off5 i 2#32 = ![128 * (4 * (i 1).val + 2), 0] ∧ k0_off5 i 3#32 = ![128 * (4 * (i 1).val + 3), 0] := by
  unfold k0_off5
  generalize (i 1) = b
  revert b
  decide

/-- Which tile of the saved weights tile `s` of the diagonal reads. -/
theorem off6_eq (i : grid0.Coords) :
    k0_off6 i 0#32 = ![0, 0, 4 * (i 1).val + 0, 0, 0] ∧ k0_off6 i 1#32 = ![0, 0, 4 * (i 1).val + 1, 0, 0]
    ∧ k0_off6 i 2#32 = ![0, 0, 4 * (i 1).val + 2, 0, 0] ∧ k0_off6 i 3#32 = ![0, 0, 4 * (i 1).val + 3, 0, 0] := by
  unfold k0_off6
  generalize (i 1) = b
  revert b
  decide

/-! ## Reading and writing a tile -/

/-- Tile `j` of a key array: its 128 rows from `128 j`. -/
def tileAt {e : EltTy} (X : Vec F S2048x128 e) (j : ℕ) : Vec F S128x128 e :=
  fun y => X (ix2 (⟨(128 * j + (y 0).val) % 2048, Nat.mod_lt _ (by decide)⟩ : Fin 2048) (y 1 : Fin 128))

/-- Tile `j` of the saved weights of the grid point. -/
def wTile (A : Vec F S1x1x16x1024x128 .bf16) (j : ℕ) : Vec F S1x1x1x1024x128 .bf16 :=
  fun y => A (ix5 (0 : Fin 1) (0 : Fin 1) (⟨j % 16, Nat.mod_lt _ (by decide)⟩ : Fin 16) (y 3 : Fin 1024) (y 4 : Fin 128))

/-- A key array with its tile `j` replaced. -/
def put (D : Vec F S2048x128 .f32) (j : ℕ) (w : Vec F S128x128 .f32) : Vec F S2048x128 .f32 :=
  fun y => if (y 0).val / 128 = j then w (ix2 (⟨(y 0).val % 128, Nat.mod_lt _ (by decide)⟩ : Fin 128) (y 1 : Fin 128)) else D y

/-- A tile other than the one replaced is as before. -/
theorem tileAt_put (D : Vec F S2048x128 .f32) {j j' : ℕ} (w : Vec F S128x128 .f32) (h : j' ≠ j) (hj : j' < 16) :
    tileAt (put D j w) j' = tileAt D j' := by
  funext y
  have hy : (y 0).val < 128 := (y 0).isLt
  unfold tileAt put
  refine if_neg fun hh => h ?_
  have hh : ((128 * j' + (y 0).val) % 2048) / 128 = j := hh
  omega

/-- A load through a tile's rectangle reads the tile. -/
theorem readAt_tile {e : EltTy} {sp : Space} (v : View sig .tc sp S2048x128 e) (f : v.ty.Contents (Elt F)) (j : ℕ) (hj : j < 16)
    (off : Fin 2 → ℕ) (h : off = ![128 * j, 0]) (inb) :
    View.readAt (Elt F) v (Rect.unit (s := S2048x128) off S128x128.size inb).toLoadRect f = tileAt (v.read (Elt F) f) j := by
  subst h
  funext y
  have hy : (y 0).val < 128 := (y 0).isLt
  refine congrArg (v.read (Elt F) f) (funext fun a => Fin.ext ?_)
  match a with
  | ⟨0, _⟩ => show 128 * j + 1 * (y 0).val = (128 * j + (y 0).val) % 2048; omega
  | ⟨1, _⟩ => show 0 + 1 * (y 1).val = (y 1).val; omega

/-- A load through a weight tile's rectangle reads the tile. -/
theorem readAt_wTile {sp : Space} (v : View sig .tc sp S1x1x16x1024x128 .bf16) (f : v.ty.Contents (Elt F)) (j : ℕ) (hj : j < 16)
    (off : Fin 5 → ℕ) (h : off = ![0, 0, j, 0, 0]) (inb) :
    View.readAt (Elt F) v (Rect.unit (s := S1x1x16x1024x128) off S1x1x1x1024x128.size inb).toLoadRect f = wTile (v.read (Elt F) f) j := by
  subst h
  funext y
  have h0 : (y 0).val < 1 := (y 0).isLt
  have h1 : (y 1).val < 1 := (y 1).isLt
  have h2 : (y 2).val < 1 := (y 2).isLt
  refine congrArg (v.read (Elt F) f) (funext fun a => Fin.ext ?_)
  match a with
  | ⟨0, _⟩ => show 0 + 1 * (y 0).val = 0; omega
  | ⟨1, _⟩ => show 0 + 1 * (y 1).val = 0; omega
  | ⟨2, _⟩ => show j + 1 * (y 2).val = j % 16; omega
  | ⟨3, _⟩ => show 0 + 1 * (y 3).val = (y 3).val; omega
  | ⟨4, _⟩ => show 0 + 1 * (y 4).val = (y 4).val; omega

/-- A tile's rectangle lies in the array. -/
theorem inb_tile (j : ℕ) (hj : j < 16) (off : Fin 2 → ℕ) (h : off = ![128 * j, 0]) : ∀ a : Fin 2, off a + S128x128.size a ≤ S2048x128.size a := by
  subst h
  refine Fin.forall_fin_two.mpr ⟨?_, ?_⟩
  · show 128 * j + 128 ≤ 2048
    omega
  · show 0 + 128 ≤ 128
    omega

/-- A weight tile's rectangle lies in the weights. -/
theorem inb_wTile (j : ℕ) (hj : j < 16) (off : Fin 5 → ℕ) (h : off = ![0, 0, j, 0, 0]) :
    ∀ a : Fin 5, off a + S1x1x1x1024x128.size a ≤ S1x1x16x1024x128.size a := by
  subst h
  intro a
  match a with
  | ⟨0, _⟩ => show 0 + 1 ≤ 1; omega
  | ⟨1, _⟩ => show 0 + 1 ≤ 1; omega
  | ⟨2, _⟩ => show j + 1 ≤ 16; omega
  | ⟨3, _⟩ => show 0 + 1024 ≤ 1024; omega
  | ⟨4, _⟩ => show 0 + 128 ≤ 128; omega

/-- A store through a tile's rectangle replaces the tile. -/
theorem read_writes_tile {sp : Space} (v : View sig .tc sp S2048x128 .f32) (f : v.ty.Contents (Elt F)) (j : ℕ) (hj : j < 16)
    (off : Fin 2 → ℕ) (h : off = ![128 * j, 0]) (inb) (w : Vec F S128x128 .f32) (L : List (View.Piece (Elt F) S2048x128 .f32)) :
    v.read (Elt F) (v.writes (Elt F) f (⟨Rect.unit (s := S2048x128) off S128x128.size inb, w⟩ :: L))
      = put (v.read (Elt F) (v.writes (Elt F) f L)) j w := by
  funext y
  unfold put
  by_cases hy : (y 0).val / 128 = j
  · rw [if_pos hy]
    exact View.read_writes_cons_rows_of_mem v f inb w L y _ h (by
      show (y 0).val = 128 * j + (y 0).val % 128
      omega) rfl
  · rw [if_neg hy]
    exact View.read_writes_cons_rows_of_not_mem v f (W := 128) inb w L y h rfl (by
      show (y 0).val < 128 * j ∨ 128 * j + 128 ≤ (y 0).val
      omega)

/-! ## One tile -/

/-- What the kernel holds between tiles: the row sums so far, the query gradient so far, the key and value gradients. -/
structure St (F : FTy → Type) where
  c : FVec F S1024x1 .f32
  dq : FVec F S512x128 .f32
  dk : Vec F S2048x128 .f32
  dv : Vec F S2048x128 .f32

/-- The weights of a tile times the gradient they meet. -/
def tE (dos : FVec F S1024x128 .bf16) (V : Vec F S2048x128 .bf16) (A : Vec F S1x1x16x1024x128 .bf16) (j : ℕ) : FVec F S1024x128 .f32 :=
  k0_pay19 (k0_pay6 dos (tileAt V j)) (k0_pay10 (wTile A j))

/-- Within a tile, the sums of those over the keys before. -/
def tPre (lo : FVec F S128x128 .bf16) (dos : FVec F S1024x128 .bf16) (V : Vec F S2048x128 .bf16) (A : Vec F S1x1x16x1024x128 .bf16) (j : ℕ) :
    FVec F S1024x128 .f32 :=
  k0_pay23 lo (k0_pay6 dos (tileAt V j)) (k0_pay10 (wTile A j))

/-- The break probabilities of a tile. -/
def tBeta (qs : FVec F S1024x128 .bf16) (K : Vec F S2048x128 .bf16) (j : ℕ) : FVec F S1024x128 .f32 :=
  k0_pay27 (k0_pay2 qs (tileAt K j))

/-- A tile's part of the key gradient added to what was there. -/
def tDk (qs : FVec F S1024x128 .bf16) (dz : FVec F S1024x128 .bf16) (old : Vec F S128x128 .f32) : FVec F S128x128 .f32 :=
  addf (shapeCast S128x128 old shapeCasts_S128x128_S128x128)
    (matmul dot_S1024x128_S1024x128_S128x128_0_0_1_1_n_n none dz qs (constant S128x128 .f32 0x00000000#32))

/-- The gradient of the logits of a tile before the diagonal. -/
def tDz (lo : FVec F S128x128 .bf16) (qs dos : FVec F S1024x128 .bf16) (K V : Vec F S2048x128 .bf16) (A : Vec F S1x1x16x1024x128 .bf16)
    (j : ℕ) (c : FVec F S1024x1 .f32) : FVec F S1024x128 .bf16 :=
  k0_pay31 c (tE dos V A j) (tPre lo dos V A j) (tBeta qs K j)

/-- The same for a tile on the diagonal, where the keys from the query on are masked. -/
def tDzM (b : BitVec 32) (lo : FVec F S128x128 .bf16) (qs dos : FVec F S1024x128 .bf16) (K V : Vec F S2048x128 .bf16)
    (A : Vec F S1x1x16x1024x128 .bf16) (j : ℕ) (c : FVec F S1024x1 .f32) : FVec F S1024x128 .bf16 :=
  k0_pay145 b c (BitVec.ofNat 32 j) (tE dos V A j) (tPre lo dos V A j) (tBeta qs K j)

/-- A tile, given its logits' gradient. -/
def stepWith (qs dos : FVec F S1024x128 .bf16) (K V : Vec F S2048x128 .bf16) (A : Vec F S1x1x16x1024x128 .bf16) (j : ℕ)
    (dz : FVec F S1024x128 .bf16) (s : St F) : St F where
  c := k0_pay38 s.c (tE dos V A j)
  dq := k0_pay1 s.dq dz (tileAt K j)
  dk := put s.dk j (tDk qs dz (tileAt s.dk j))
  dv := put s.dv j (k0_pay14 dos (wTile A j) (tileAt s.dv j))

/-- A tile before the diagonal. -/
def step (lo : FVec F S128x128 .bf16) (qs dos : FVec F S1024x128 .bf16) (K V : Vec F S2048x128 .bf16) (A : Vec F S1x1x16x1024x128 .bf16)
    (j : ℕ) (s : St F) : St F :=
  stepWith qs dos K V A j (tDz lo qs dos K V A j s.c) s

/-- A tile on the diagonal of query block `b`. -/
def stepM (b : BitVec 32) (lo : FVec F S128x128 .bf16) (qs dos : FVec F S1024x128 .bf16) (K V : Vec F S2048x128 .bf16)
    (A : Vec F S1x1x16x1024x128 .bf16) (j : ℕ) (s : St F) : St F :=
  stepWith qs dos K V A j (tDzM b lo qs dos K V A j s.c) s

/-- The tiles before tile `n`, one after the other. -/
def steps (lo : FVec F S128x128 .bf16) (qs dos : FVec F S1024x128 .bf16) (K V : Vec F S2048x128 .bf16) (A : Vec F S1x1x16x1024x128 .bf16)
    (s : St F) : ℕ → St F
  | 0 => s
  | n + 1 => step lo qs dos K V A n (steps lo qs dos K V A s n)

/-! ## A trip of the loop is four tiles -/

section trip

variable (𝒱 : Variants) (c : Dev nD) (bd : Option 𝒱.V) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S1x1x16x1024x128 .bf16) (harg5 : arg5.IsWhole)
  (arg6 : Memref sig .tc .vmem S512x128 .bf16) (harg6 : arg6.IsWhole) (arg7 : Memref sig .tc .vmem S512x128 .f32) (harg7 : arg7.IsWhole)
  (arg8 : Memref sig .tc .vmem S2048x128 .f32) (harg8 : arg8.IsWhole) (arg9 : Memref sig .tc .vmem S2048x128 .f32) (harg9 : arg9.IsWhole)
  (arg1 : BitVec 32) (v8 : FVec F S128x128 .bf16) (v25 v42 : FVec F S1024x128 .bf16)
  (X3 : BufTy.Contents (Elt F) arg3.view.ty) (X4 : BufTy.Contents (Elt F) arg4.view.ty) (X5 : BufTy.Contents (Elt F) arg5.view.ty)

/-- The state the loop carries: the two carried vectors and what the two gradient arrays hold. -/
def stOf (acc : FVec F S1024x1 .f32 × FVec F S512x128 .f32) (f8 : BufTy.Contents (Elt F) arg8.view.ty) (f9 : BufTy.Contents (Elt F) arg9.view.ty) : St F :=
  ⟨acc.1, acc.2, arg8.view.read (Elt F) f8, arg9.view.read (Elt F) f9⟩

set_option maxHeartbeats 2000000 in
/-- A trip's four tiles. -/
theorem trip_eq (k : Fin (k0_t1_loop i).trips) (acc : FVec F S1024x1 .f32 × FVec F S512x128 .f32)
    (f8 : BufTy.Contents (Elt F) arg8.view.ty) (f9 : BufTy.Contents (Elt F) arg9.view.ty) :
    stOf arg8 arg9 (tripR_k0_t1 𝒱 c bd i arg2 harg2 arg3 harg3 arg4 harg4 arg5 harg5 arg6 harg6 arg7 harg7 arg8 harg8 arg9 harg9 arg1 v8 v25 v42 X3 X4 X5 k acc f8 f9)
        (arg8.view.writes (Elt F) f8 (tripL_k0_t1 𝒱 c bd i arg2 harg2 arg3 harg3 arg4 harg4 arg5 harg5 arg6 harg6 arg7 harg7 arg8 harg8 arg9 harg9 arg1 v8 v25 v42 X3 X4 X5 k acc f8 f9).1)
        (arg9.view.writes (Elt F) f9 (tripL_k0_t1 𝒱 c bd i arg2 harg2 arg3 harg3 arg4 harg4 arg5 harg5 arg6 harg6 arg7 harg7 arg8 harg8 arg9 harg9 arg1 v8 v25 v42 X3 X4 X5 k acc f8 f9).2)
      = (fun st => fun s => st (4 * k.val + 3) (st (4 * k.val + 2) (st (4 * k.val + 1) (st (4 * k.val + 0) s))))
          (step v8 v25 v42 (arg3.view.read (Elt F) X3) (arg4.view.read (Elt F) X4) (arg5.view.read (Elt F) X5)) (stOf arg8 arg9 acc f8 f9) := by
  have hk : k.val < 4 := by
    exact (k.isLt.trans_eq (trips1 i)).trans (i 1).isLt
  obtain ⟨o0, o1, o2, o3⟩ := off1_eq i k
  obtain ⟨w0, w1, w2, w3⟩ := off2_eq i k
  have a30 := (readAt_tile (F := F) arg3.view X3 (4 * k.val + 0) (by omega) _ o0 (inb_tile _ (by omega) _ o0)).symm
  have a31 := (readAt_tile (F := F) arg3.view X3 (4 * k.val + 1) (by omega) _ o1 (inb_tile _ (by omega) _ o1)).symm
  have a32 := (readAt_tile (F := F) arg3.view X3 (4 * k.val + 2) (by omega) _ o2 (inb_tile _ (by omega) _ o2)).symm
  have a33 := (readAt_tile (F := F) arg3.view X3 (4 * k.val + 3) (by omega) _ o3 (inb_tile _ (by omega) _ o3)).symm
  have a40 := (readAt_tile (F := F) arg4.view X4 (4 * k.val + 0) (by omega) _ o0 (inb_tile _ (by omega) _ o0)).symm
  have a41 := (readAt_tile (F := F) arg4.view X4 (4 * k.val + 1) (by omega) _ o1 (inb_tile _ (by omega) _ o1)).symm
  have a42 := (readAt_tile (F := F) arg4.view X4 (4 * k.val + 2) (by omega) _ o2 (inb_tile _ (by omega) _ o2)).symm
  have a43 := (readAt_tile (F := F) arg4.view X4 (4 * k.val + 3) (by omega) _ o3 (inb_tile _ (by omega) _ o3)).symm
  have a80 := (readAt_tile (F := F) arg8.view f8 (4 * k.val + 0) (by omega) _ o0 (inb_tile _ (by omega) _ o0)).symm
  have a81 := (readAt_tile (F := F) arg8.view f8 (4 * k.val + 1) (by omega) _ o1 (inb_tile _ (by omega) _ o1)).symm
  have a82 := (readAt_tile (F := F) arg8.view f8 (4 * k.val + 2) (by omega) _ o2 (inb_tile _ (by omega) _ o2)).symm
  have a83 := (readAt_tile (F := F) arg8.view f8 (4 * k.val + 3) (by omega) _ o3 (inb_tile _ (by omega) _ o3)).symm
  have a90 := (readAt_tile (F := F) arg9.view f9 (4 * k.val + 0) (by omega) _ o0 (inb_tile _ (by omega) _ o0)).symm
  have a91 := (readAt_tile (F := F) arg9.view f9 (4 * k.val + 1) (by omega) _ o1 (inb_tile _ (by omega) _ o1)).symm
  have a92 := (readAt_tile (F := F) arg9.view f9 (4 * k.val + 2) (by omega) _ o2 (inb_tile _ (by omega) _ o2)).symm
  have a93 := (readAt_tile (F := F) arg9.view f9 (4 * k.val + 3) (by omega) _ o3 (inb_tile _ (by omega) _ o3)).symm
  have a50 := (readAt_wTile (F := F) arg5.view X5 (4 * k.val + 0) (by omega) _ w0 (inb_wTile _ (by omega) _ w0)).symm
  have a51 := (readAt_wTile (F := F) arg5.view X5 (4 * k.val + 1) (by omega) _ w1 (inb_wTile _ (by omega) _ w1)).symm
  have a52 := (readAt_wTile (F := F) arg5.view X5 (4 * k.val + 2) (by omega) _ w2 (inb_wTile _ (by omega) _ w2)).symm
  have a53 := (readAt_wTile (F := F) arg5.view X5 (4 * k.val + 3) (by omega) _ w3 (inb_wTile _ (by omega) _ w3)).symm
  unfold stOf tripR_k0_t1 tripL_k0_t1 trip_k0_t1
  dsimp only
  rw [read_writes_tile _ _ _ (by omega) _ o3, read_writes_tile _ _ _ (by omega) _ o2, read_writes_tile _ _ _ (by omega) _ o1,
    read_writes_tile _ _ _ (by omega) _ o0, read_writes_tile _ _ _ (by omega) _ o3, read_writes_tile _ _ _ (by omega) _ o2,
    read_writes_tile _ _ _ (by omega) _ o1, read_writes_tile _ _ _ (by omega) _ o0]
  simp (disch := omega) only [step, stepWith, tDz, tE, tPre, tBeta, tileAt_put, a30, a31, a32, a33, a40, a41, a42, a43,
    a50, a51, a52, a53, a80, a81, a82, a83, a90, a91, a92, a93]
  rfl

variable (G8 : BufTy.Contents (Elt F) arg8.view.ty) (G9 : BufTy.Contents (Elt F) arg9.view.ty) (init : FVec F S1024x1 .f32 × FVec F S512x128 .f32)

/-- After `n` trips of the loop the kernel has done the first `4 n` tiles. -/
theorem loop_eq (n : ℕ) (hn : n ≤ (i 1).val) :
    stOf arg8 arg9 (st_k0_t1 𝒱 c bd i arg2 harg2 arg3 harg3 arg4 harg4 arg5 harg5 arg6 harg6 arg7 harg7 arg8 harg8 arg9 harg9 arg1 v8 v25 v42 X3 X4 X5 G8 G9 init n).1
        (arg8.view.writes (Elt F) G8 (st_k0_t1 𝒱 c bd i arg2 harg2 arg3 harg3 arg4 harg4 arg5 harg5 arg6 harg6 arg7 harg7 arg8 harg8 arg9 harg9 arg1 v8 v25 v42 X3 X4 X5 G8 G9 init n).2.1)
        (arg9.view.writes (Elt F) G9 (st_k0_t1 𝒱 c bd i arg2 harg2 arg3 harg3 arg4 harg4 arg5 harg5 arg6 harg6 arg7 harg7 arg8 harg8 arg9 harg9 arg1 v8 v25 v42 X3 X4 X5 G8 G9 init n).2.2)
      = steps v8 v25 v42 (arg3.view.read (Elt F) X3) (arg4.view.read (Elt F) X4) (arg5.view.read (Elt F) X5) (stOf arg8 arg9 init G8 G9) (4 * n) := by
  induction n with
  | zero => rfl
  | succ n ih =>
    have hs := st_k0_t1_succ 𝒱 c bd i arg2 harg2 arg3 harg3 arg4 harg4 arg5 harg5 arg6 harg6 arg7 harg7 arg8 harg8 arg9 harg9 arg1 v8 v25 v42 X3 X4 X5 G8 G9 init ⟨n, (Nat.lt_of_succ_le hn).trans_eq (trips1 i).symm⟩
    dsimp only at hs
    rw [hs]
    dsimp only
    rw [View.writes_append, View.writes_append]
    refine (trip_eq 𝒱 c bd i arg2 harg2 arg3 harg3 arg4 harg4 arg5 harg5 arg6 harg6 arg7 harg7 arg8 harg8 arg9 harg9 arg1 v8 v25 v42 X3 X4 X5 _ _ _ _).trans ?_
    rw [ih (Nat.le_of_succ_le hn)]
    rfl

/-! ## A grid point -/

/-- Both loops: all the tiles before the diagonal. -/
theorem loops_eq (w : BitVec 32) :
    stOf arg8 arg9 (st_k0_t2 𝒱 c bd i arg2 harg2 arg3 harg3 arg4 harg4 arg5 harg5 arg6 harg6 arg7 harg7 arg8 harg8 arg9 harg9 arg1 v8 v25 v42 w X3 X4 X5 (arg8.view.writes (Elt F) G8 (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).2.1) (arg9.view.writes (Elt F) G9 (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).2.2) (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).1 (k0_t2_loop i).trips).1
        (arg8.view.writes (Elt F) G8 ((st_k0_t2 𝒱 c bd i arg2 harg2 arg3 harg3 arg4 harg4 arg5 harg5 arg6 harg6 arg7 harg7 arg8 harg8 arg9 harg9 arg1 v8 v25 v42 w X3 X4 X5 (arg8.view.writes (Elt F) G8 (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).2.1) (arg9.view.writes (Elt F) G9 (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).2.2) (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).1 (k0_t2_loop i).trips).2.1 ++ (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).2.1))
        (arg9.view.writes (Elt F) G9 ((st_k0_t2 𝒱 c bd i arg2 harg2 arg3 harg3 arg4 harg4 arg5 harg5 arg6 harg6 arg7 harg7 arg8 harg8 arg9 harg9 arg1 v8 v25 v42 w X3 X4 X5 (arg8.view.writes (Elt F) G8 (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).2.1) (arg9.view.writes (Elt F) G9 (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).2.2) (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).1 (k0_t2_loop i).trips).2.2 ++ (st_k0_t1 𝒱 c bd i arg2 harg2 arg3 harg3 arg4 harg4 arg5 harg5 arg6 harg6 arg7 harg7 arg8 harg8 arg9 harg9 arg1 v8 v25 v42 X3 X4 X5 G8 G9 init (k0_t1_loop i).trips).2.2))
      = steps v8 v25 v42 (arg3.view.read (Elt F) X3) (arg4.view.read (Elt F) X4) (arg5.view.read (Elt F) X5) (stOf arg8 arg9 init G8 G9) (4 * (i 1).val) := by
  rw [trips2, ← loop_eq 𝒱 c bd i arg2 harg2 arg3 harg3 arg4 harg4 arg5 harg5 arg6 harg6 arg7 harg7 arg8 harg8 arg9 harg9 arg1 v8 v25 v42 X3 X4 X5 G8 G9 init (i 1).val le_rfl, trips1]
  rfl

/-- The tiles of one grid point: those before the diagonal of query block `b`, then the four on it. -/
def point (b : ℕ) (lo : FVec F S128x128 .bf16) (qs dos : FVec F S1024x128 .bf16) (K V : Vec F S2048x128 .bf16)
    (A : Vec F S1x1x16x1024x128 .bf16) (s : St F) : St F :=
  (fun st => st (4 * b + 3) (st (4 * b + 2) (st (4 * b + 1) (st (4 * b + 0) (steps lo qs dos K V A s (4 * b))))))
    (stepM (BitVec.ofNat 32 b) lo qs dos K V A)

end trip

end Cert.StickGradIdeal.Hand

end
-- ==== Proof.StickPay.lean ====
/-
  The operations of one key tile of the stick-breaking backward pass, entry by entry, on arrays of extended reals.
-/
module

public import proofs.«01_k».proof.Proof.StickTile
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.StickGradIdeal.Hand

open Cert.StickGradIdeal Cert.StickGradIdeal.Gen

theorem sel {α : Type} (p : Prop) [Decidable p] (a b : α) : Scalar.select (BitVec.ofBool (decide p)) a b = if p then a else b := by
  by_cases h : p <;> simp [h, Scalar.select]

/-- The logits: rows of the queries against rows of the keys. -/
theorem pay2_at (x : FVec Ideal S1024x128 .bf16) (y : Vec Ideal S128x128 .bf16) (r : Fin 1024) (l : Fin 128) :
    k0_pay2 x y (ix2 r l) = ∑ k : Fin 128, x (ix2 r k) * y (ix2 l k) := by
  pointwise [k0_pay2]

theorem pay6_at (x : FVec Ideal S1024x128 .bf16) (y : Vec Ideal S128x128 .bf16) (r : Fin 1024) (l : Fin 128) :
    k0_pay6 x y (ix2 r l) = ∑ k : Fin 128, x (ix2 r k) * y (ix2 l k) := by
  pointwise [k0_pay6]

theorem pay10_at (a : Vec Ideal S1x1x1x1024x128 .bf16) (r : Fin 1024) (l : Fin 128) :
    k0_pay10 a (ix2 r l) = a (ix5 0 0 0 r l) := by
  pointwise [k0_pay10]

theorem pay14_at (x : FVec Ideal S1024x128 .bf16) (a : Vec Ideal S1x1x1x1024x128 .bf16) (old : Vec Ideal S128x128 .f32) (s l : Fin 128) :
    k0_pay14 x a old (ix2 s l) = old (ix2 s l) + ∑ r : Fin 1024, a (ix5 0 0 0 r s) * x (ix2 r l) := by
  pointwise [k0_pay14, k0_pay10]

theorem pay19_at (d : FVec Ideal S1024x128 .f32) (a : FVec Ideal S1024x128 .bf16) (r : Fin 1024) (l : Fin 128) :
    k0_pay19 d a (ix2 r l) = a (ix2 r l) * d (ix2 r l) := by
  pointwise [k0_pay19]

theorem pay104_at (s l : Fin 128) : (k0_pay104 : FVec Ideal S128x128 .bf16) (ix2 s l) = if s < l then 1 else 0 := by
  pointwise [k0_pay104]
  rw [WordCmp.cmpi_slt_ofNat (by omega) (by omega)]
  by_cases h : s < l
  · rw [if_pos h, decide_eq_true (by exact h)]
    show ((((BitVec.setWidth 32 (BitVec.ofBool true)).toInt : ℤ) : ℝ) : EReal) = 1
    simp
  · rw [if_neg h, decide_eq_false (by exact h)]
    show ((((BitVec.setWidth 32 (BitVec.ofBool false)).toInt : ℤ) : ℝ) : EReal) = 0
    simp

theorem pay23_at (lo : FVec Ideal S128x128 .bf16) (d : FVec Ideal S1024x128 .f32) (a : FVec Ideal S1024x128 .bf16) (r : Fin 1024) (l : Fin 128) :
    k0_pay23 lo d a (ix2 r l) = ∑ k : Fin 128, k0_pay19 d a (ix2 r k) * lo (ix2 k l) := by
  pointwise [k0_pay23]

theorem pay27_at (z : FVec Ideal S1024x128 .f32) (r : Fin 1024) (l : Fin 128) :
    k0_pay27 z (ix2 r l) = Ideal.div 1 (1 + Ideal.exp2 (0 - z (ix2 r l))) := by
  pointwise [k0_pay27]
  rfl

theorem pay31_at (c : FVec Ideal S1024x1 .f32) (e pre β : FVec Ideal S1024x128 .f32) (r : Fin 1024) (l : Fin 128) :
    k0_pay31 c e pre β (ix2 r l) = e (ix2 r l) - (e (ix2 r l) + pre (ix2 r l) + c (ix2 r 0)) * β (ix2 r l) := by
  pointwise [k0_pay31]

theorem pay38_at (c : FVec Ideal S1024x1 .f32) (e : FVec Ideal S1024x128 .f32) (r : Fin 1024) (l : Fin 1) :
    k0_pay38 c e (ix2 r l) = c (ix2 r l) + ∑ k : Fin 128, e (ix2 r k) := by
  pointwise [k0_pay38]

theorem tDk_at (x : FVec Ideal S1024x128 .bf16) (dz : FVec Ideal S1024x128 .bf16) (old : Vec Ideal S128x128 .f32) (s l : Fin 128) :
    tDk x dz old (ix2 s l) = old (ix2 s l) + ∑ r : Fin 1024, dz (ix2 r s) * x (ix2 r l) := by
  pointwise [tDk]

theorem pay105_at (x : Vec Ideal S512x128 .bf16) (r : Fin 1024) (l : Fin 128) :
    k0_pay105 x (ix2 r l) = if r.val / 512 = l.val / 64 then x (ix2 ⟨r.val % 512, Nat.mod_lt _ (by decide)⟩ l) else 0 := by
  pointwise [k0_pay105]
  have hl := l.isLt
  rw [WordCmp.cmpi_slt_ofNat (by omega) (by omega), WordCmp.cmpi_sge_ofNat (by omega) (by omega)]
  simp only [sel]
  by_cases h : r.val < 512
  · rw [dif_pos h]
    refine if_congr (by omega) ?_ rfl
    exact congrArg (fun a => x (ix2 a l)) (Fin.ext (Nat.mod_eq_of_lt h).symm)
  · rw [dif_neg h]
    refine if_congr (by omega) ?_ rfl
    exact congrArg (fun a => x (ix2 a l)) (Fin.ext (show r.val - 512 = r.val % 512 by omega))

theorem pay106_eq (x : Vec Ideal S512x128 .bf16) : k0_pay106 x = k0_pay105 x := rfl

theorem pay107_at (i) : (k0_pay107 : FVec Ideal S1024x1 .f32) i = 0 := by pointwise [k0_pay107]
theorem pay108_at (i) : (k0_pay108 : FVec Ideal S512x128 .f32) i = 0 := by pointwise [k0_pay108]
theorem pay102_at (i) : (k0_pay102 : FVec Ideal S2048x128 .f32) i = 0 := by pointwise [k0_pay102]
theorem pay103_at (i) : (k0_pay103 : FVec Ideal S2048x128 .f32) i = 0 := by pointwise [k0_pay103]

theorem pay1_at (acc : FVec Ideal S512x128 .f32) (dz : FVec Ideal S1024x128 .bf16) (k : Vec Ideal S128x128 .bf16) (q : Fin 512) (l : Fin 128) :
    k0_pay1 acc dz k (ix2 q l) = acc (ix2 q l)
      + ∑ s : Fin 128, dz (ix2 ⟨q.val + 512 * (l.val / 64), by omega⟩ s) * k (ix2 s l) := by
  pointwise [k0_pay1]
  have hl := l.isLt
  congr 1
  rw [WordCmp.cmpi_slt_ofNat (by omega) (by omega), WordCmp.cmpi_sge_ofNat (by omega) (by omega)]
  simp only [sel]
  by_cases h : l.val < 64
  · simp only [if_pos h, if_neg (show ¬ 64 ≤ l.val by omega), Finset.sum_const_zero, add_zero]
    refine Finset.sum_congr rfl fun s _ => ?_
    exact congrArg (fun a => dz (ix2 a s) * k (ix2 s l)) (Fin.ext (show q.val = q.val + 512 * (l.val / 64) by omega))
  · simp only [if_neg h, if_pos (show 64 ≤ l.val by omega), Finset.sum_const_zero, zero_add]
    refine Finset.sum_congr rfl fun s _ => ?_
    exact congrArg (fun a => dz (ix2 a s) * k (ix2 s l)) (Fin.ext (show 512 + q.val = q.val + 512 * (l.val / 64) by omega))

theorem pay145_at (b : Fin 4) (j : Fin 16) (c : FVec Ideal S1024x1 .f32) (e pre β : FVec Ideal S1024x128 .f32) (r : Fin 1024) (l : Fin 128) :
    k0_pay145 (BitVec.ofNat 32 b.val) c (BitVec.ofNat 32 j.val) e pre β (ix2 r l)
      = if l.val + 128 * j.val < r.val % 512 + 512 * b.val then k0_pay31 c e pre β (ix2 r l) else 0 := by
  pointwise [k0_pay145, k0_pay31]
  have hl := l.isLt
  have hr := r.isLt
  have hj := j.isLt
  have hb := b.isLt
  have e1 : IntOp.addi (BitVec.ofNat 32 l.val) (Scalar.muli (BitVec.ofNat 32 j.val) 128#32) = BitVec.ofNat 32 (l.val + 128 * j.val) := by
    refine BitVec.eq_of_toNat_eq ?_
    show (BitVec.ofNat 32 l.val + BitVec.ofNat 32 j.val * 128#32).toNat = _
    simp only [BitVec.toNat_add, BitVec.toNat_mul, BitVec.toNat_ofNat]
    omega
  have e2 : IntOp.addi (IntOp.andi (BitVec.ofNat 32 r.val) 511#32) (Scalar.muli (BitVec.ofNat 32 b.val) 512#32)
      = BitVec.ofNat 32 (r.val % 512 + 512 * b.val) := by
    refine BitVec.eq_of_toNat_eq ?_
    show ((BitVec.ofNat 32 r.val &&& 511#32) + BitVec.ofNat 32 b.val * 512#32).toNat = _
    have ha : r.val &&& 511 = r.val % 512 := Nat.and_two_pow_sub_one_eq_mod r.val 9
    have hr' : r.val % 2 ^ 32 = r.val := by omega
    simp only [BitVec.toNat_add, BitVec.toNat_mul, BitVec.toNat_and, BitVec.toNat_ofNat, hr', show 511 % 2 ^ 32 = 511 from rfl, ha]
    omega
  rw [e1, e2, WordCmp.cmpi_slt_ofNat (by omega) (by omega), sel]

end Cert.StickGradIdeal.Hand

end
-- ==== Proof.RealKit.lean ====
/-
  Finite sums, quotients and powers of finite extended reals are the real ones.
-/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RealKit

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem bits_inf : Ideal.ofBits .f32 0x7F800000#32 = ⊤ := by simp [Ideal.ofBits, Ideal.ieee]

theorem bits_two : Ideal.ofBits .f32 0x40000000#32 = ((2 : ℝ) : EReal) := by
  simp [Ideal.ofBits, Ideal.ieee, -EReal.coe_mul]; norm_num

theorem bits_eight : Ideal.ofBits .f32 0x41000000#32 = ((8 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

theorem exp_coe (x : ℝ) : Ideal.exp (x : EReal) = ((Real.exp x : ℝ) : EReal) := rfl

theorem log_coe (x : ℝ) (h : 0 < x) : Ideal.log (x : EReal) = ((Real.log x : ℝ) : EReal) := if_neg (not_le.mpr h)

theorem max_coe (x y : ℝ) : max (x : EReal) (y : EReal) = ((max x y : ℝ) : EReal) := (EReal.coe_strictMono.monotone.map_max).symm

theorem abs_coe (x : ℝ) : FloatOps.absf (F := Ideal) (φ := .f32) (x : EReal) = ((|x| : ℝ) : EReal) := by
  show max (x : EReal) (-(x : EReal)) = _
  rw [← EReal.coe_neg, max_coe]
  rfl

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem exp2_coe (x : ℝ) : Ideal.exp2 (x : EReal) = ((Real.rpow 2 x : ℝ) : EReal) := rfl

theorem ite_coe (p : Prop) [Decidable p] (x : ℝ) : (if p then (x : EReal) else 0) = ((if p then x else 0 : ℝ) : EReal) := by
  split <;> simp

/-- A sum over the first `n` numbers and over the `k` after them. -/
theorem range_add (f : ℕ → ℝ) (n k : ℕ) : ∑ i ∈ Finset.range (n + k), f i = ∑ i ∈ Finset.range n, f i + ∑ j : Fin k, f (n + j) := by
  rw [Finset.sum_range_add, Finset.sum_range (fun x => f (n + x))]

/-- A finite table as a function of numbers. -/
def grid2 {a b : ℕ} (f : Fin a → Fin b → ℝ) (i j : ℕ) : ℝ := if h : i < a ∧ j < b then f ⟨i, h.1⟩ ⟨j, h.2⟩ else 0

theorem grid2_at {a b : ℕ} (f : Fin a → Fin b → ℝ) (i : Fin a) (j : Fin b) : grid2 f i j = f i j := dif_pos ⟨i.isLt, j.isLt⟩

end Cert.RealKit

end
-- ==== Proof.StickReal.lean ====
/-
  One grid point of the stick-breaking backward pass over the reals.

  On finite blocks the walk over the key tiles keeps the sums of the textbook formula: before tile `j` the carried column
  holds the sums of the weighted gradients `e` over the first `128 j` keys, and each result holds its sum over those keys.
-/
module

public import proofs.«01_k».proof.Proof.StickPay
public import proofs.«01_k».proof.Proof.RealKit
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.StickGradIdeal.Hand

open Cert.StickGradIdeal Cert.StickGradIdeal.Gen Cert.RealKit

section formulas

variable (Q D K V A : ℕ → ℕ → ℝ)

/-- The gradient of a weight, times the weight. -/
def rE (r m : ℕ) : ℝ := A r m * ∑ l : Fin 128, D r l * V m l

/-- The break probability: the logistic function of the logit, which the scaled queries give in units of `log 2`. -/
def rB (r m : ℕ) : ℝ := 1 / (1 + Real.rpow 2 (0 - ∑ l : Fin 128, Q r l * K m l))

/-- The sums of `e` over the keys before `n`. -/
def rC (r n : ℕ) : ℝ := ∑ m ∈ Finset.range n, rE D V A r m

/-- The gradient of a logit; a query (row `r` of the two stacked heads of query block `b`) sees only the keys before it. -/
def rZ (b r m : ℕ) : ℝ :=
  if m < r % 512 + 512 * b then rE D V A r m - (rE D V A r m + rC D V A r m) * rB Q K r m else 0

end formulas

section walk

variable {Q D K V A : ℕ → ℕ → ℝ} {qs dos : FVec Ideal S1024x128 .bf16} {k v : Vec Ideal S2048x128 .bf16} {w : Vec Ideal S1x1x16x1024x128 .bf16}
  (hQ : ∀ (r : Fin 1024) (l : Fin 128), qs (ix2 r l) = (Q r l : EReal)) (hD : ∀ (r : Fin 1024) (l : Fin 128), dos (ix2 r l) = (D r l : EReal))
  (hK : ∀ (m : Fin 2048) (l : Fin 128), k (ix2 m l) = (K m l : EReal)) (hV : ∀ (m : Fin 2048) (l : Fin 128), v (ix2 m l) = (V m l : EReal))
  (hA : ∀ (j : Fin 16) (r : Fin 1024) (l : Fin 128), w (ix5 0 0 j r l) = (A r (128 * j + l) : EReal))

include hK in
theorem tile_at (j : Fin 16) (s l : Fin 128) : tileAt k j (ix2 s l) = (K (128 * j + s) l : EReal) := by
  have hj := j.isLt
  have hs := s.isLt
  refine (hK ⟨(128 * j.val + s.val) % 2048, Nat.mod_lt _ (by decide)⟩ l).trans ?_
  rw [show ((⟨(128 * j.val + s.val) % 2048, Nat.mod_lt _ (by decide)⟩ : Fin 2048) : ℕ) = 128 * j + s from Nat.mod_eq_of_lt (by omega)]

include hA in
theorem wTile_at (j : Fin 16) (r : Fin 1024) (l : Fin 128) : wTile w j (ix5 0 0 0 r l) = (A r (128 * j + l) : EReal) := by
  refine Eq.trans ?_ (hA j r l)
  exact congrArg (fun a => w (ix5 0 0 a r l)) (Fin.ext (Nat.mod_eq_of_lt j.isLt))

include hD hV hA in
theorem tE_at (j : Fin 16) (r : Fin 1024) (l : Fin 128) : tE dos v w j (ix2 r l) = (rE D V A r (128 * j + l) : EReal) := by
  unfold tE rE
  rw [pay19_at, pay10_at, pay6_at, wTile_at hA, EReal.coe_mul, coe_sum]
  refine congrArg _ (Finset.sum_congr rfl fun i _ => ?_)
  rw [hD, tile_at hV, EReal.coe_mul]

include hD hV hA in
theorem tPre_at (j : Fin 16) (r : Fin 1024) (l : Fin 128) :
    tPre k0_pay104 dos v w j (ix2 r l) = ((∑ s ∈ Finset.range l, rE D V A r (128 * j + s) : ℝ) : EReal) := by
  unfold tPre
  have hl := l.isLt
  have hs : ∀ s : Fin 128, tE dos v w j (ix2 r s) * (k0_pay104 : FVec Ideal S128x128 .bf16) (ix2 s l)
      = ((if s.val < l.val then rE D V A r (128 * j + s) else 0 : ℝ) : EReal) := by
    intro s
    rw [pay104_at, tE_at hD hV hA]
    by_cases h : s < l
    · rw [if_pos h, if_pos (by exact h), mul_one]
    · rw [if_neg h, if_neg (by exact h), mul_zero, EReal.coe_zero]
  refine (pay23_at _ _ _ r l).trans ((Finset.sum_congr rfl fun s _ => hs s).trans ?_)
  rw [← coe_sum, ← Finset.sum_range (fun s => if s < l.val then rE D V A r (128 * j + s) else 0)]
  rw [← Finset.sum_subset (Finset.range_subset_range.mpr hl.le) fun s _ h => if_neg (fun h' => h (Finset.mem_range.mpr h'))]
  exact congrArg _ (Finset.sum_congr rfl fun s h => if_pos (Finset.mem_range.mp h))

include hQ hK in
theorem tBeta_at (j : Fin 16) (r : Fin 1024) (l : Fin 128) : tBeta qs k j (ix2 r l) = (rB Q K r (128 * j + l) : EReal) := by
  unfold tBeta rB
  have hz : k0_pay2 qs (tileAt k j) (ix2 r l) = ((∑ i : Fin 128, Q r i * K (128 * j + l) i : ℝ) : EReal) := by
    rw [pay2_at, coe_sum]
    exact Finset.sum_congr rfl fun i _ => by rw [hQ, tile_at hK, EReal.coe_mul]
  rw [pay27_at, hz]
  generalize (∑ i : Fin 128, Q r i * K (128 * j + l) i : ℝ) = z
  have hp : (0 : ℝ) < Real.rpow 2 (0 - z) := Real.rpow_pos_of_pos (by norm_num) _
  rw [← EReal.coe_zero, ← EReal.coe_sub, exp2_coe, ← EReal.coe_one, ← EReal.coe_add, div_coe _ _ (by positivity)]

/-- What the walk has done before tile `j`, from key and value gradients `dk`, `dv` at its start. -/
structure Good (Q D K V A : ℕ → ℕ → ℝ) (b : ℕ) (dk dv : ℕ → ℕ → ℝ) (j : ℕ) (s : St Ideal) : Prop where
  c : ∀ r : Fin 1024, s.c (ix2 r 0) = (rC D V A r (128 * j) : EReal)
  dq : ∀ (q : Fin 512) (l : Fin 128), s.dq (ix2 q l)
    = ((∑ m ∈ Finset.range (128 * j), rZ Q D K V A b (q + 512 * (l / 64)) m * K m l : ℝ) : EReal)
  dk : ∀ (m : Fin 2048) (l : Fin 128), s.dk (ix2 m l)
    = ((dk m l + if m < 128 * j then ∑ r : Fin 1024, rZ Q D K V A b r m * Q r l else 0 : ℝ) : EReal)
  dv : ∀ (m : Fin 2048) (l : Fin 128), s.dv (ix2 m l)
    = ((dv m l + if m < 128 * j then ∑ r : Fin 1024, A r m * D r l else 0 : ℝ) : EReal)

variable {b : Fin 4} {dk dv : ℕ → ℕ → ℝ} {s : St Ideal}

theorem rC_add (r : ℕ) (n k : ℕ) : rC D V A r (n + k) = rC D V A r n + ∑ i ∈ Finset.range k, rE D V A r (n + i) := by
  unfold rC
  rw [Finset.sum_range_add]

include hQ hD hK hV hA in
/-- A logit's gradient before masking. -/
theorem pay31_real (j : Fin 16) (hs : Good Q D K V A b dk dv j s) (r : Fin 1024) (l : Fin 128) :
    k0_pay31 s.c (tE dos v w j) (tPre k0_pay104 dos v w j) (tBeta qs k j) (ix2 r l)
      = ((rE D V A r (128 * j + l) - (rE D V A r (128 * j + l) + rC D V A r (128 * j + l)) * rB Q K r (128 * j + l) : ℝ) : EReal) := by
  rw [pay31_at, tE_at hD hV hA, tPre_at hD hV hA, tBeta_at hQ hK, hs.c r, rC_add]
  rw [← EReal.coe_add, ← EReal.coe_add, ← EReal.coe_mul, ← EReal.coe_sub]
  refine congrArg (fun x : ℝ => (x : EReal)) ?_
  ring

include hQ hD hK hV hA in
theorem tDz_at (j : Fin 16) (hj : j.val < 4 * b.val) (hs : Good Q D K V A b dk dv j s) (r : Fin 1024) (l : Fin 128) :
    tDz k0_pay104 qs dos k v w j s.c (ix2 r l) = (rZ Q D K V A b r (128 * j + l) : EReal) := by
  unfold tDz rZ
  have hl := l.isLt
  rw [pay31_real hQ hD hK hV hA j hs, if_pos (by omega)]

include hQ hD hK hV hA in
theorem tDzM_at (j : Fin 16) (hs : Good Q D K V A b dk dv j s) (r : Fin 1024) (l : Fin 128) :
    tDzM (BitVec.ofNat 32 b) k0_pay104 qs dos k v w j s.c (ix2 r l) = (rZ Q D K V A b r (128 * j + l) : EReal) := by
  unfold tDzM rZ
  rw [pay145_at, pay31_real hQ hD hK hV hA j hs, ite_coe]
  exact congrArg _ (if_congr (by omega) rfl rfl)

/-- An array with a tile replaced by itself plus a sum over the queries. -/
theorem put_add (X : Vec Ideal S2048x128 .f32) (j : Fin 16) (w' : Vec Ideal S128x128 .f32) (x : ℕ → ℕ → ℝ) (y : ℕ → ℕ → ℝ)
    (hX : ∀ (m : Fin 2048) (l : Fin 128), X (ix2 m l) = ((x m l + if m < 128 * j.val then y m l else 0 : ℝ) : EReal))
    (hw : ∀ (i l : Fin 128), w' (ix2 i l) = tileAt X j (ix2 i l) + ((y (128 * j + i) l : ℝ) : EReal)) (m : Fin 2048) (l : Fin 128) :
    put X j w' (ix2 m l) = ((x m l + if m < 128 * (j.val + 1) then y m l else 0 : ℝ) : EReal) := by
  have hm := m.isLt
  show (if m.val / 128 = j.val then w' (ix2 ⟨m.val % 128, _⟩ l) else X (ix2 m l)) = _
  by_cases h : m.val / 128 = j.val
  · have e : 128 * j.val + m.val % 128 = m.val := by omega
    rw [if_pos h, hw]
    have ht : tileAt X j (ix2 (⟨m.val % 128, Nat.mod_lt _ (by decide)⟩ : Fin 128) l) = X (ix2 m l) :=
      congrArg (fun a => X (ix2 a l)) (Fin.ext (show (128 * j.val + m.val % 128) % 2048 = m.val by omega))
    rw [ht, hX, if_neg (by omega), if_pos (by omega), ← EReal.coe_add, add_zero]
    dsimp only
    rw [e]
  · rw [if_neg h, hX]
    exact congrArg _ (congrArg _ (if_congr (by omega) rfl rfl))

include hQ hD hK hV hA in
/-- A tile keeps the invariant, given its logits' gradients. -/
theorem stepWith_good (j : Fin 16) (dz : FVec Ideal S1024x128 .bf16)
    (hz : ∀ (r : Fin 1024) (l : Fin 128), dz (ix2 r l) = (rZ Q D K V A b r (128 * j + l) : EReal)) (hs : Good Q D K V A b dk dv j s) :
    Good Q D K V A b dk dv (j + 1) (stepWith qs dos k v w j dz s) where
  c r := by
    show k0_pay38 s.c (tE dos v w j) (ix2 r 0) = _
    rw [pay38_at, hs.c, mul_add, mul_one, rC_add, EReal.coe_add, Finset.sum_range, coe_sum]
    exact congrArg _ (Finset.sum_congr rfl fun i _ => tE_at hD hV hA j r i)
  dq q l := by
    show k0_pay1 s.dq dz (tileAt k j) (ix2 q l) = _
    rw [pay1_at, hs.dq, mul_add, mul_one, range_add, EReal.coe_add, coe_sum Finset.univ]
    exact congrArg _ (Finset.sum_congr rfl fun i _ => by rw [hz, tile_at hK, EReal.coe_mul])
  dk := by
    refine put_add s.dk j _ dk (fun m l => ∑ r : Fin 1024, rZ Q D K V A b r m * Q r l) hs.dk fun i l => ?_
    rw [tDk_at, coe_sum]
    exact congrArg _ (Finset.sum_congr rfl fun r _ => by rw [hz, hQ, EReal.coe_mul])
  dv := by
    refine put_add s.dv j _ dv (fun m l => ∑ r : Fin 1024, A r m * D r l) hs.dv fun i l => ?_
    rw [pay14_at, coe_sum]
    exact congrArg _ (Finset.sum_congr rfl fun r _ => by rw [wTile_at hA, hD, EReal.coe_mul])

include hQ hD hK hV hA in
theorem steps_good (hs : Good Q D K V A b dk dv 0 s) : ∀ n : ℕ, n ≤ 4 * b.val →
    Good Q D K V A b dk dv n (steps k0_pay104 qs dos k v w s n)
  | 0, _ => hs
  | n + 1, h => by
    have hb := b.isLt
    have ih := steps_good hs n (by omega)
    exact stepWith_good hQ hD hK hV hA ⟨n, by omega⟩ _ (tDz_at hQ hD hK hV hA ⟨n, by omega⟩ (by show n < _; omega) ih) ih

include hQ hD hK hV hA in
/-- A grid point. -/
theorem point_good (hs : Good Q D K V A b dk dv 0 s) :
    Good Q D K V A b dk dv (4 * b + 4) (point b k0_pay104 qs dos k v w s) := by
  have hb := b.isLt
  have st : ∀ (j : ℕ) (hj : j < 16) (s : St Ideal), Good Q D K V A b dk dv j s →
      Good Q D K V A b dk dv (j + 1) (stepM (BitVec.ofNat 32 b) k0_pay104 qs dos k v w j s) := fun j hj s h =>
    stepWith_good hQ hD hK hV hA ⟨j, hj⟩ _ (tDzM_at hQ hD hK hV hA ⟨j, hj⟩ h) h
  unfold point
  exact st _ (by omega) _ (st _ (by omega) _ (st _ (by omega) _ (st _ (by omega) _ (steps_good hQ hD hK hV hA hs _ le_rfl))))

end walk

end Cert.StickGradIdeal.Hand

end
-- ==== Proof.StickCases.lean ====
/-
  A grid point of the stick-breaking backward pass leaves in its three results what going through its key tiles one after
  the other leaves: `point` of the tile module, from what the results hold before (zeros at the first point of a pair of
  heads).
-/
module

public import proofs.«01_k».proof.Proof.StickTile

@[expose] public section

set_option maxRecDepth 16384

noncomputable section

open Idealize.ShloMosaic Idealize.ShloMosaic.TcCoe Idealize.SL.Sem

namespace Cert.StickGradIdeal.Hand

open Cert.StickGradIdeal Cert.StickGradIdeal.Gen

variable {F : FTy → Type} [FloatOps F]

/-! ## The diagonal's operations, as the operations of one tile

The kernel forms the four tiles of the diagonal side by side; each of these says which operation of `step` one of them is. -/

section diagonal

variable (b w : BitVec 32) (qs : FVec F S1024x128 .bf16) (c : FVec F S1024x1 .f32) (e e' pre β : FVec F S1024x128 .f32) (old : Vec F S128x128 .f32)
  (acc : FVec F S512x128 .f32) (k : Vec F S128x128 .bf16) (a : Vec F S1x1x1x1024x128 .bf16)

theorem dk_0 : k0_pay146 b qs c w e pre β old = tDk qs (k0_pay145 b c w e pre β) old := rfl
theorem dk_1 : k0_pay153 b qs c w e e' pre β old = tDk qs (k0_pay145 b (k0_pay38 c e) w e' pre β) old := rfl
theorem dk_2 : k0_pay160 b qs w e e' pre β c old = tDk qs (k0_pay145 b (k0_pay38 c e) w e' pre β) old := rfl
theorem dk_3 : k0_pay164 b qs w e e' pre β c old = tDk qs (k0_pay145 b (k0_pay38 c e) w e' pre β) old := rfl
theorem dq_0 : k0_pay150 acc (k0_pay147 b c w e pre β) (k0_pay148 k) (k0_pay149 k) kernelRun0_B.sl.v241 = k0_pay1 acc (k0_pay145 b c w e pre β) k := rfl
theorem dq_1 : k0_pay157 acc (k0_pay154 b c w e e' pre β) (k0_pay155 k) kernelRun0_B.sl.v241 k0_pay156 = k0_pay1 acc (k0_pay145 b (k0_pay38 c e) w e' pre β) k := rfl
theorem dq_2 : k0_pay162 acc (k0_pay161 b w e e' pre β c) k = k0_pay1 acc (k0_pay145 b (k0_pay38 c e) w e' pre β) k := rfl
theorem q241 : kernelRun0_A.sl.v241 = kernelRun0_B.sl.v241 := rfl
theorem dz_3 : k0_pay163 b w e e' pre β c = k0_pay145 b (k0_pay38 c e) w e' pre β := rfl
theorem dv_0 : k0_pay129 qs a old = k0_pay14 qs a old := rfl
theorem dv_1 : k0_pay130 qs a old = k0_pay14 qs a old := rfl
theorem dv_2 : k0_pay131 qs a old = k0_pay14 qs a old := rfl
theorem dv_3 : k0_pay132 qs (k0_pay128 a) old = k0_pay14 qs a old := rfl
theorem c_1 : k0_pay151 c e = k0_pay38 c e := rfl
theorem c_2 : k0_pay158 e c = k0_pay38 c e := rfl

end diagonal

/-- A store of a whole block is what is read back. -/
theorem read_whole {sp : Space} (v : View sig .tc sp S512x128 .f32) (f : v.ty.Contents (Elt F)) (inb) (w : Vec F S512x128 .f32) :
    v.read (Elt F) (v.writes (Elt F) f [⟨Rect.unit (s := S512x128) ![0, 0] S512x128.size inb, w⟩]) = w := by
  funext y
  exact View.read_writes_cons_unit_of_mem v f inb w [] y y rfl fun a => by
    match a with
    | ⟨0, _⟩ => exact (Nat.zero_add _).symm
    | ⟨1, _⟩ => exact (Nat.zero_add _).symm

section cases

variable (c : Dev nD) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S1x1x16x1024x128 .bf16) (harg5 : arg5.IsWhole)
  (arg6 : Memref sig .tc .vmem S512x128 .bf16) (harg6 : arg6.IsWhole) (arg7 : Memref sig .tc .vmem S512x128 .f32) (harg7 : arg7.IsWhole)
  (arg8 : Memref sig .tc .vmem S2048x128 .f32) (harg8 : arg8.IsWhole) (arg9 : Memref sig .tc .vmem S2048x128 .f32) (harg9 : arg9.IsWhole)
  (x0 : Vec F S512x128 .bf16) (x1 : Vec F S2048x128 .bf16) (x2 : Vec F S2048x128 .bf16) (x3 : Vec F S1x1x16x1024x128 .bf16) (x4 : Vec F S512x128 .bf16)
  (xo6 : Vec F S2048x128 .f32) (xo7 : Vec F S2048x128 .f32)

/-- The kernel's words for the tiles of the diagonal are the tiles' numbers. -/
theorem word_B (i : grid0.Coords) : kernelRun0_B.sl.v71 i = BitVec.ofNat 32 (4 * (i 1).val + 0) ∧ kernelRun0_B.sl.v73 i = BitVec.ofNat 32 (4 * (i 1).val + 1)
    ∧ kernelRun0_B.sl.v75 i = BitVec.ofNat 32 (4 * (i 1).val + 2) ∧ kernelRun0_B.sl.v77 i = BitVec.ofNat 32 (4 * (i 1).val + 3) := by
  unfold kernelRun0_B.sl.v71 kernelRun0_B.sl.v73 kernelRun0_B.sl.v75 kernelRun0_B.sl.v77 kernelRun0_B.sl.v70 kernelRun0_B.sl.v60
  simp only [kernelRun0_B.sl.v0, kernelRun0_B.sl.v1, kernelRun0_B.sl.v2, kernelRun0_B.sl.v43, kernelRun0_B.sl.v44, kernelRun0_B.sl.v45, kernelRun0_B.sl.v46, kernelRun0_B.sl.v47, kernelRun0_B.sl.v48, kernelRun0_B.sl.v49, kernelRun0_B.sl.v55, kernelRun0_B.sl.v56, kernelRun0_B.sl.v57, kernelRun0_B.sl.v58, kernelRun0_B.sl.v59]
  generalize (i 1) = b
  revert b
  decide

set_option maxHeartbeats 2000000 in
/-- What a point after the first of its pair of heads leaves in the three results. -/
theorem out_B_raw (hc0) :
    (fun S : St F => out0_B_5 c i arg2 harg2 arg3 harg3 arg4 harg4 arg5 harg5 arg6 harg6 arg7 harg7 arg8 harg8 arg9 harg9 hc0 x0 x1 x2 x3 x4 xo6 xo7 = S.dq
      ∧ out0_B_6 c i arg2 harg2 arg3 harg3 arg4 harg4 arg5 harg5 arg6 harg6 arg7 harg7 arg8 harg8 arg9 harg9 hc0 x0 x1 x2 x3 x4 xo6 xo7 = S.dk
      ∧ out0_B_7 c i arg2 harg2 arg3 harg3 arg4 harg4 arg5 harg5 arg6 harg6 arg7 harg7 arg8 harg8 arg9 harg9 hc0 x0 x1 x2 x3 x4 xo6 xo7 = S.dv)
    (point (i 1).val k0_pay104 (kernelRun0_B.sl.r c arg2 harg2 x0) (kernelRun0_B.sl.r_1 c arg6 harg6 x4) (arg3.view.read (Elt F) (harg3.unread x1))
      (arg4.view.read (Elt F) (harg4.unread x2)) (arg5.view.read (Elt F) (harg5.unread x3))
      (stOf arg8 arg9 (k0_pay107, k0_pay108) (harg8.unread xo6) (harg9.unread xo7))) := by
  have hb : (i 1).val < 4 := (i 1).isLt
  obtain ⟨o0, o1, o2, o3⟩ := off5_eq i
  obtain ⟨w0, w1, w2, w3⟩ := off6_eq i
  obtain ⟨v0, v1, v2, v3⟩ := word_B i
  have hB := loops_eq Variants.none c none i arg2 harg2 arg3 harg3 arg4 harg4 arg5 harg5 arg6 harg6 arg7 harg7 arg8 harg8 arg9 harg9 (BitVec.ofNat 32 (i 1).val) k0_pay104 (kernelRun0_B.sl.r c arg2 harg2 x0) (kernelRun0_B.sl.r_1 c arg6 harg6 x4)
    (harg3.unread x1) (harg4.unread x2) (harg5.unread x3) (harg8.unread xo6) (harg9.unread xo7) (k0_pay107, k0_pay108) (kernelRun0_B.sl.v67 i)
  obtain ⟨Y1, y1⟩ : ∃ y, y = st_k0_t1 Variants.none c none i arg2 harg2 arg3 harg3 arg4 harg4 arg5 harg5 arg6 harg6 arg7 harg7 arg8 harg8 arg9 harg9 (BitVec.ofNat 32 (i 1).val) k0_pay104 (kernelRun0_B.sl.r c arg2 harg2 x0) (kernelRun0_B.sl.r_1 c arg6 harg6 x4) (harg3.unread x1) (harg4.unread x2) (harg5.unread x3) (harg8.unread xo6) (harg9.unread xo7) (k0_pay107, k0_pay108) (k0_t1_loop i).trips := ⟨_, rfl⟩
  rw [← y1] at hB
  obtain ⟨Y2, y2⟩ : ∃ y, y = st_k0_t2 Variants.none c none i arg2 harg2 arg3 harg3 arg4 harg4 arg5 harg5 arg6 harg6 arg7 harg7 arg8 harg8 arg9 harg9 (BitVec.ofNat 32 (i 1).val) k0_pay104 (kernelRun0_B.sl.r c arg2 harg2 x0) (kernelRun0_B.sl.r_1 c arg6 harg6 x4) (kernelRun0_B.sl.v67 i) (harg3.unread x1) (harg4.unread x2) (harg5.unread x3) (arg8.view.writes (Elt F) (harg8.unread xo6) Y1.2.1) (arg9.view.writes (Elt F) (harg9.unread xo7) Y1.2.2) Y1.1 (k0_t2_loop i).trips := ⟨_, rfl⟩
  rw [← y2] at hB
  have e2 : kernelRun0_B.sl.r_2 c i arg2 harg2 arg3 harg3 arg4 harg4 arg5 harg5 arg6 harg6 arg7 harg7 arg8 harg8 arg9 harg9 x0 x1 x2 x3 x4 xo6 xo7 = Y2.1.1 := by subst y2 y1; rfl
  have e3 : kernelRun0_B.sl.r_3 c i arg2 harg2 arg3 harg3 arg4 harg4 arg5 harg5 arg6 harg6 arg7 harg7 arg8 harg8 arg9 harg9 x0 x1 x2 x3 x4 xo6 xo7 = Y2.1.2 := by subst y2 y1; rfl
  have e6 : kernelRun0_B.sl.H6_1 c i arg2 harg2 arg3 harg3 arg4 harg4 arg5 harg5 arg6 harg6 arg7 harg7 arg8 harg8 arg9 harg9 x0 x1 x2 x3 x4 xo6 xo7 = ⟨Rect.unit (s := S2048x128) (k0_off5 i 0#32) S128x128.size (inb_tile _ (by omega) _ o0),
      k0_pay146 (BitVec.ofNat 32 (i 1).val) (kernelRun0_B.sl.r c arg2 harg2 x0) (kernelRun0_B.sl.r_2 c i arg2 harg2 arg3 harg3 arg4 harg4 arg5 harg5 arg6 harg6 arg7 harg7 arg8 harg8 arg9 harg9 x0 x1 x2 x3 x4 xo6 xo7) (kernelRun0_B.sl.v71 i)
        (kernelRun0_B.sl.r_16 c i arg4 harg4 arg5 harg5 arg6 harg6 x2 x3 x4) (kernelRun0_B.sl.r_20 c i arg4 harg4 arg5 harg5 arg6 harg6 x2 x3 x4)
        (kernelRun0_B.sl.r_24 c i arg2 harg2 arg3 harg3 x0 x1)
        (View.readAt (Elt F) arg8.view (Rect.unit (s := S2048x128) (k0_off5 i 0#32) S128x128.size (inb_tile _ (by omega) _ o0)).toLoadRect
          (arg8.view.writes (Elt F) (harg8.unread xo6) (Y2.2.1 ++ Y1.2.1)))⟩ :: (Y2.2.1 ++ Y1.2.1) := by subst y2 y1; rfl
  have e7 : kernelRun0_B.sl.H7_1 c i arg2 harg2 arg3 harg3 arg4 harg4 arg5 harg5 arg6 harg6 arg7 harg7 arg8 harg8 arg9 harg9 x0 x1 x2 x3 x4 xo6 xo7 = ⟨Rect.unit (s := S2048x128) (k0_off5 i 0#32) S128x128.size (inb_tile _ (by omega) _ o0),
      k0_pay14 (kernelRun0_B.sl.r_1 c arg6 harg6 x4)
        (View.readAt (Elt F) arg5.view (Rect.unit (s := S1x1x16x1024x128) (k0_off6 i 0#32) S1x1x1x1024x128.size (inb_wTile _ (by omega) _ w0)).toLoadRect (harg5.unread x3))
        (View.readAt (Elt F) arg9.view (Rect.unit (s := S2048x128) (k0_off5 i 0#32) S128x128.size (inb_tile _ (by omega) _ o0)).toLoadRect
          (arg9.view.writes (Elt F) (harg9.unread xo7) (Y2.2.2 ++ Y1.2.2)))⟩ :: (Y2.2.2 ++ Y1.2.2) := by subst y2 y1; rfl
  have f0 : kernelRun0_B.sl.r_16 c i arg4 harg4 arg5 harg5 arg6 harg6 x2 x3 x4 = k0_pay19 (k0_pay6 (kernelRun0_B.sl.r_1 c arg6 harg6 x4) (View.readAt (Elt F) arg4.view (Rect.unit (s := S2048x128) (k0_off5 i 0#32) S128x128.size (inb_tile _ (by omega) _ o0)).toLoadRect (harg4.unread x2))) (k0_pay10 (View.readAt (Elt F) arg5.view (Rect.unit (s := S1x1x16x1024x128) (k0_off6 i 0#32) S1x1x1x1024x128.size (inb_wTile _ (by omega) _ w0)).toLoadRect (harg5.unread x3))) := rfl
  have g0 : kernelRun0_B.sl.r_20 c i arg4 harg4 arg5 harg5 arg6 harg6 x2 x3 x4 = k0_pay23 k0_pay104 (k0_pay6 (kernelRun0_B.sl.r_1 c arg6 harg6 x4) (View.readAt (Elt F) arg4.view (Rect.unit (s := S2048x128) (k0_off5 i 0#32) S128x128.size (inb_tile _ (by omega) _ o0)).toLoadRect (harg4.unread x2))) (k0_pay10 (View.readAt (Elt F) arg5.view (Rect.unit (s := S1x1x16x1024x128) (k0_off6 i 0#32) S1x1x1x1024x128.size (inb_wTile _ (by omega) _ w0)).toLoadRect (harg5.unread x3))) := rfl
  have h0 : kernelRun0_B.sl.r_24 c i arg2 harg2 arg3 harg3 x0 x1 = k0_pay27 (k0_pay2 (kernelRun0_B.sl.r c arg2 harg2 x0) (View.readAt (Elt F) arg3.view (Rect.unit (s := S2048x128) (k0_off5 i 0#32) S128x128.size (inb_tile _ (by omega) _ o0)).toLoadRect (harg3.unread x1))) := rfl
  have f1 : kernelRun0_B.sl.r_17 c i arg4 harg4 arg5 harg5 arg6 harg6 x2 x3 x4 = k0_pay19 (k0_pay6 (kernelRun0_B.sl.r_1 c arg6 harg6 x4) (View.readAt (Elt F) arg4.view (Rect.unit (s := S2048x128) (k0_off5 i 1#32) S128x128.size (inb_tile _ (by omega) _ o1)).toLoadRect (harg4.unread x2))) (k0_pay10 (View.readAt (Elt F) arg5.view (Rect.unit (s := S1x1x16x1024x128) (k0_off6 i 1#32) S1x1x1x1024x128.size (inb_wTile _ (by omega) _ w1)).toLoadRect (harg5.unread x3))) := rfl
  have g1 : kernelRun0_B.sl.r_21 c i arg4 harg4 arg5 harg5 arg6 harg6 x2 x3 x4 = k0_pay23 k0_pay104 (k0_pay6 (kernelRun0_B.sl.r_1 c arg6 harg6 x4) (View.readAt (Elt F) arg4.view (Rect.unit (s := S2048x128) (k0_off5 i 1#32) S128x128.size (inb_tile _ (by omega) _ o1)).toLoadRect (harg4.unread x2))) (k0_pay10 (View.readAt (Elt F) arg5.view (Rect.unit (s := S1x1x16x1024x128) (k0_off6 i 1#32) S1x1x1x1024x128.size (inb_wTile _ (by omega) _ w1)).toLoadRect (harg5.unread x3))) := rfl
  have h1 : kernelRun0_B.sl.r_25 c i arg2 harg2 arg3 harg3 x0 x1 = k0_pay27 (k0_pay2 (kernelRun0_B.sl.r c arg2 harg2 x0) (View.readAt (Elt F) arg3.view (Rect.unit (s := S2048x128) (k0_off5 i 1#32) S128x128.size (inb_tile _ (by omega) _ o1)).toLoadRect (harg3.unread x1))) := rfl
  have f2 : kernelRun0_B.sl.r_18 c i arg4 harg4 arg5 harg5 arg6 harg6 x2 x3 x4 = k0_pay19 (k0_pay6 (kernelRun0_B.sl.r_1 c arg6 harg6 x4) (View.readAt (Elt F) arg4.view (Rect.unit (s := S2048x128) (k0_off5 i 2#32) S128x128.size (inb_tile _ (by omega) _ o2)).toLoadRect (harg4.unread x2))) (k0_pay10 (View.readAt (Elt F) arg5.view (Rect.unit (s := S1x1x16x1024x128) (k0_off6 i 2#32) S1x1x1x1024x128.size (inb_wTile _ (by omega) _ w2)).toLoadRect (harg5.unread x3))) := rfl
  have g2 : kernelRun0_B.sl.r_22 c i arg4 harg4 arg5 harg5 arg6 harg6 x2 x3 x4 = k0_pay23 k0_pay104 (k0_pay6 (kernelRun0_B.sl.r_1 c arg6 harg6 x4) (View.readAt (Elt F) arg4.view (Rect.unit (s := S2048x128) (k0_off5 i 2#32) S128x128.size (inb_tile _ (by omega) _ o2)).toLoadRect (harg4.unread x2))) (k0_pay10 (View.readAt (Elt F) arg5.view (Rect.unit (s := S1x1x16x1024x128) (k0_off6 i 2#32) S1x1x1x1024x128.size (inb_wTile _ (by omega) _ w2)).toLoadRect (harg5.unread x3))) := rfl
  have h2 : kernelRun0_B.sl.r_26 c i arg2 harg2 arg3 harg3 x0 x1 = k0_pay27 (k0_pay2 (kernelRun0_B.sl.r c arg2 harg2 x0) (View.readAt (Elt F) arg3.view (Rect.unit (s := S2048x128) (k0_off5 i 2#32) S128x128.size (inb_tile _ (by omega) _ o2)).toLoadRect (harg3.unread x1))) := rfl
  have f3 : kernelRun0_B.sl.r_19 c i arg4 harg4 arg5 harg5 arg6 harg6 x2 x3 x4 = k0_pay19 (k0_pay6 (kernelRun0_B.sl.r_1 c arg6 harg6 x4) (View.readAt (Elt F) arg4.view (Rect.unit (s := S2048x128) (k0_off5 i 3#32) S128x128.size (inb_tile _ (by omega) _ o3)).toLoadRect (harg4.unread x2))) (k0_pay10 (View.readAt (Elt F) arg5.view (Rect.unit (s := S1x1x16x1024x128) (k0_off6 i 3#32) S1x1x1x1024x128.size (inb_wTile _ (by omega) _ w3)).toLoadRect (harg5.unread x3))) := rfl
  have g3 : kernelRun0_B.sl.r_23 c i arg4 harg4 arg5 harg5 arg6 harg6 x2 x3 x4 = k0_pay23 k0_pay104 (k0_pay6 (kernelRun0_B.sl.r_1 c arg6 harg6 x4) (View.readAt (Elt F) arg4.view (Rect.unit (s := S2048x128) (k0_off5 i 3#32) S128x128.size (inb_tile _ (by omega) _ o3)).toLoadRect (harg4.unread x2))) (k0_pay10 (View.readAt (Elt F) arg5.view (Rect.unit (s := S1x1x16x1024x128) (k0_off6 i 3#32) S1x1x1x1024x128.size (inb_wTile _ (by omega) _ w3)).toLoadRect (harg5.unread x3))) := rfl
  have h3 : kernelRun0_B.sl.r_27 c i arg2 harg2 arg3 harg3 x0 x1 = k0_pay27 (k0_pay2 (kernelRun0_B.sl.r c arg2 harg2 x0) (View.readAt (Elt F) arg3.view (Rect.unit (s := S2048x128) (k0_off5 i 3#32) S128x128.size (inb_tile _ (by omega) _ o3)).toLoadRect (harg3.unread x1))) := rfl
  have a30 := (readAt_tile (F := F) arg3.view (harg3.unread x1) (4 * (i 1).val + 0) (by omega) _ o0 (inb_tile _ (by omega) _ o0)).symm
  have a31 := (readAt_tile (F := F) arg3.view (harg3.unread x1) (4 * (i 1).val + 1) (by omega) _ o1 (inb_tile _ (by omega) _ o1)).symm
  have a32 := (readAt_tile (F := F) arg3.view (harg3.unread x1) (4 * (i 1).val + 2) (by omega) _ o2 (inb_tile _ (by omega) _ o2)).symm
  have a33 := (readAt_tile (F := F) arg3.view (harg3.unread x1) (4 * (i 1).val + 3) (by omega) _ o3 (inb_tile _ (by omega) _ o3)).symm
  have a40 := (readAt_tile (F := F) arg4.view (harg4.unread x2) (4 * (i 1).val + 0) (by omega) _ o0 (inb_tile _ (by omega) _ o0)).symm
  have a41 := (readAt_tile (F := F) arg4.view (harg4.unread x2) (4 * (i 1).val + 1) (by omega) _ o1 (inb_tile _ (by omega) _ o1)).symm
  have a42 := (readAt_tile (F := F) arg4.view (harg4.unread x2) (4 * (i 1).val + 2) (by omega) _ o2 (inb_tile _ (by omega) _ o2)).symm
  have a43 := (readAt_tile (F := F) arg4.view (harg4.unread x2) (4 * (i 1).val + 3) (by omega) _ o3 (inb_tile _ (by omega) _ o3)).symm
  have a50 := (readAt_wTile (F := F) arg5.view (harg5.unread x3) (4 * (i 1).val + 0) (by omega) _ w0 (inb_wTile _ (by omega) _ w0)).symm
  have a51 := (readAt_wTile (F := F) arg5.view (harg5.unread x3) (4 * (i 1).val + 1) (by omega) _ w1 (inb_wTile _ (by omega) _ w1)).symm
  have a52 := (readAt_wTile (F := F) arg5.view (harg5.unread x3) (4 * (i 1).val + 2) (by omega) _ w2 (inb_wTile _ (by omega) _ w2)).symm
  have a53 := (readAt_wTile (F := F) arg5.view (harg5.unread x3) (4 * (i 1).val + 3) (by omega) _ w3 (inb_wTile _ (by omega) _ w3)).symm
  have a80 := fun f => (readAt_tile (F := F) arg8.view f (4 * (i 1).val + 0) (by omega) _ o0 (inb_tile _ (by omega) _ o0)).symm
  have p80 := fun w L => (read_writes_tile (F := F) arg8.view (harg8.unread xo6) (4 * (i 1).val + 0) (by omega) _ o0 (inb_tile _ (by omega) _ o0) w L).symm
  have a81 := fun f => (readAt_tile (F := F) arg8.view f (4 * (i 1).val + 1) (by omega) _ o1 (inb_tile _ (by omega) _ o1)).symm
  have p81 := fun w L => (read_writes_tile (F := F) arg8.view (harg8.unread xo6) (4 * (i 1).val + 1) (by omega) _ o1 (inb_tile _ (by omega) _ o1) w L).symm
  have a82 := fun f => (readAt_tile (F := F) arg8.view f (4 * (i 1).val + 2) (by omega) _ o2 (inb_tile _ (by omega) _ o2)).symm
  have p82 := fun w L => (read_writes_tile (F := F) arg8.view (harg8.unread xo6) (4 * (i 1).val + 2) (by omega) _ o2 (inb_tile _ (by omega) _ o2) w L).symm
  have a83 := fun f => (readAt_tile (F := F) arg8.view f (4 * (i 1).val + 3) (by omega) _ o3 (inb_tile _ (by omega) _ o3)).symm
  have p83 := fun w L => (read_writes_tile (F := F) arg8.view (harg8.unread xo6) (4 * (i 1).val + 3) (by omega) _ o3 (inb_tile _ (by omega) _ o3) w L).symm
  have a90 := fun f => (readAt_tile (F := F) arg9.view f (4 * (i 1).val + 0) (by omega) _ o0 (inb_tile _ (by omega) _ o0)).symm
  have p90 := fun w L => (read_writes_tile (F := F) arg9.view (harg9.unread xo7) (4 * (i 1).val + 0) (by omega) _ o0 (inb_tile _ (by omega) _ o0) w L).symm
  have a91 := fun f => (readAt_tile (F := F) arg9.view f (4 * (i 1).val + 1) (by omega) _ o1 (inb_tile _ (by omega) _ o1)).symm
  have p91 := fun w L => (read_writes_tile (F := F) arg9.view (harg9.unread xo7) (4 * (i 1).val + 1) (by omega) _ o1 (inb_tile _ (by omega) _ o1) w L).symm
  have a92 := fun f => (readAt_tile (F := F) arg9.view f (4 * (i 1).val + 2) (by omega) _ o2 (inb_tile _ (by omega) _ o2)).symm
  have p92 := fun w L => (read_writes_tile (F := F) arg9.view (harg9.unread xo7) (4 * (i 1).val + 2) (by omega) _ o2 (inb_tile _ (by omega) _ o2) w L).symm
  have a93 := fun f => (readAt_tile (F := F) arg9.view f (4 * (i 1).val + 3) (by omega) _ o3 (inb_tile _ (by omega) _ o3)).symm
  have p93 := fun w L => (read_writes_tile (F := F) arg9.view (harg9.unread xo7) (4 * (i 1).val + 3) (by omega) _ o3 (inb_tile _ (by omega) _ o3) w L).symm
  unfold point
  rw [← hB]
  simp only [stOf, stepM, stepWith, tDzM, tE, tPre, tBeta, a30, a31, a32, a33, a40, a41, a42, a43, a50, a51, a52, a53, a80, a81, a82, a83, a90, a91, a92, a93, p80, p81, p82, p83, p90, p91, p92, p93]
  simp only [← f0, ← f1, ← f2, ← f3, ← g0, ← g1, ← g2, ← g3, ← h0, ← h1, ← h2, ← h3]
  refine ⟨?_, ?_, ?_⟩
  · unfold out0_B_5 kernelRun0_B
    dsimp only
    rw [read_whole]
    simp only [kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.H6_2, kernelRun0_B.sl.H6_3, kernelRun0_B.sl.H7_2, kernelRun0_B.sl.H7_3, e2, e3, v0, v1, v2, v3, dk_0, dk_1, dk_2, dk_3, dq_0, dq_1, dq_2, dz_3, c_1, c_2]
  · unfold out0_B_6 kernelRun0_B
    dsimp only
    simp only [kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.H6_2, kernelRun0_B.sl.H6_3, kernelRun0_B.sl.H7_2, kernelRun0_B.sl.H7_3, e2, e3, e6, e7, v0, v1, v2, v3, dk_0, dk_1, dk_2, dk_3, dq_0, dq_1, dq_2, dz_3, c_1, c_2]
  · unfold out0_B_7 kernelRun0_B
    dsimp only
    simp only [kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.H6_2, kernelRun0_B.sl.H6_3, kernelRun0_B.sl.H7_2, kernelRun0_B.sl.H7_3, e2, e3, kernelRun0_B.sl.r_15, e7, dv_0, dv_1, dv_2, dv_3]

/-- The kernel's words for the tiles of the diagonal are the tiles' numbers. -/
theorem word_A (i : grid0.Coords) : kernelRun0_A.sl.v71 i = BitVec.ofNat 32 (4 * (i 1).val + 0) ∧ kernelRun0_A.sl.v73 i = BitVec.ofNat 32 (4 * (i 1).val + 1)
    ∧ kernelRun0_A.sl.v75 i = BitVec.ofNat 32 (4 * (i 1).val + 2) ∧ kernelRun0_A.sl.v77 i = BitVec.ofNat 32 (4 * (i 1).val + 3) := by
  unfold kernelRun0_A.sl.v71 kernelRun0_A.sl.v73 kernelRun0_A.sl.v75 kernelRun0_A.sl.v77 kernelRun0_A.sl.v70 kernelRun0_A.sl.v60
  simp only [kernelRun0_A.sl.v0, kernelRun0_A.sl.v1, kernelRun0_A.sl.v2, kernelRun0_A.sl.v43, kernelRun0_A.sl.v44, kernelRun0_A.sl.v45, kernelRun0_A.sl.v46, kernelRun0_A.sl.v47, kernelRun0_A.sl.v48, kernelRun0_A.sl.v49, kernelRun0_A.sl.v55, kernelRun0_A.sl.v56, kernelRun0_A.sl.v57, kernelRun0_A.sl.v58, kernelRun0_A.sl.v59]
  generalize (i 1) = b
  revert b
  decide

set_option maxHeartbeats 2000000 in
/-- What the first point of a pair of heads leaves in the three results. -/
theorem out_A_raw (hc0) :
    (fun S : St F => out0_A_5 c i arg2 harg2 arg3 harg3 arg4 harg4 arg5 harg5 arg6 harg6 arg7 harg7 arg8 harg8 arg9 harg9 hc0 x0 x1 x2 x3 x4 = S.dq
      ∧ out0_A_6 c i arg2 harg2 arg3 harg3 arg4 harg4 arg5 harg5 arg6 harg6 arg7 harg7 arg8 harg8 arg9 harg9 hc0 x0 x1 x2 x3 x4 = S.dk
      ∧ out0_A_7 c i arg2 harg2 arg3 harg3 arg4 harg4 arg5 harg5 arg6 harg6 arg7 harg7 arg8 harg8 arg9 harg9 hc0 x0 x1 x2 x3 x4 = S.dv)
    (point (i 1).val k0_pay104 (kernelRun0_A.sl.r c arg2 harg2 x0) (kernelRun0_A.sl.r_1 c arg6 harg6 x4) (arg3.view.read (Elt F) (harg3.unread x1))
      (arg4.view.read (Elt F) (harg4.unread x2)) (arg5.view.read (Elt F) (harg5.unread x3))
      (stOf arg8 arg9 (k0_pay107, k0_pay108) (arg8.view.writes (Elt F) arg8.view.junk kernelRun0_A.sl.H6_1) (arg9.view.writes (Elt F) arg9.view.junk kernelRun0_A.sl.H7_1))) := by
  have hb : (i 1).val < 4 := (i 1).isLt
  obtain ⟨o0, o1, o2, o3⟩ := off5_eq i
  obtain ⟨w0, w1, w2, w3⟩ := off6_eq i
  obtain ⟨v0, v1, v2, v3⟩ := word_A i
  have hB := loops_eq Variants.none c none i arg2 harg2 arg3 harg3 arg4 harg4 arg5 harg5 arg6 harg6 arg7 harg7 arg8 harg8 arg9 harg9 (BitVec.ofNat 32 (i 1).val) k0_pay104 (kernelRun0_A.sl.r c arg2 harg2 x0) (kernelRun0_A.sl.r_1 c arg6 harg6 x4)
    (harg3.unread x1) (harg4.unread x2) (harg5.unread x3) (arg8.view.writes (Elt F) arg8.view.junk kernelRun0_A.sl.H6_1) (arg9.view.writes (Elt F) arg9.view.junk kernelRun0_A.sl.H7_1) (k0_pay107, k0_pay108) (kernelRun0_A.sl.v67 i)
  simp only [← View.writes_append, List.append_assoc] at hB
  obtain ⟨Y1, y1⟩ : ∃ y, y = st_k0_t1 Variants.none c none i arg2 harg2 arg3 harg3 arg4 harg4 arg5 harg5 arg6 harg6 arg7 harg7 arg8 harg8 arg9 harg9 (BitVec.ofNat 32 (i 1).val) k0_pay104 (kernelRun0_A.sl.r c arg2 harg2 x0) (kernelRun0_A.sl.r_1 c arg6 harg6 x4) (harg3.unread x1) (harg4.unread x2) (harg5.unread x3) (arg8.view.writes (Elt F) arg8.view.junk kernelRun0_A.sl.H6_1) (arg9.view.writes (Elt F) arg9.view.junk kernelRun0_A.sl.H7_1) (k0_pay107, k0_pay108) (k0_t1_loop i).trips := ⟨_, rfl⟩
  rw [← y1] at hB
  obtain ⟨Y2, y2⟩ : ∃ y, y = st_k0_t2 Variants.none c none i arg2 harg2 arg3 harg3 arg4 harg4 arg5 harg5 arg6 harg6 arg7 harg7 arg8 harg8 arg9 harg9 (BitVec.ofNat 32 (i 1).val) k0_pay104 (kernelRun0_A.sl.r c arg2 harg2 x0) (kernelRun0_A.sl.r_1 c arg6 harg6 x4) (kernelRun0_A.sl.v67 i) (harg3.unread x1) (harg4.unread x2) (harg5.unread x3) (arg8.view.writes (Elt F) arg8.view.junk (Y1.2.1 ++ kernelRun0_A.sl.H6_1)) (arg9.view.writes (Elt F) arg9.view.junk (Y1.2.2 ++ kernelRun0_A.sl.H7_1)) Y1.1 (k0_t2_loop i).trips := ⟨_, rfl⟩
  rw [← y2] at hB
  have e2 : kernelRun0_A.sl.r_2 c i arg2 harg2 arg3 harg3 arg4 harg4 arg5 harg5 arg6 harg6 arg7 harg7 arg8 harg8 arg9 harg9 x0 x1 x2 x3 x4 = Y2.1.1 := by subst y2 y1; rfl
  have e3 : kernelRun0_A.sl.r_3 c i arg2 harg2 arg3 harg3 arg4 harg4 arg5 harg5 arg6 harg6 arg7 harg7 arg8 harg8 arg9 harg9 x0 x1 x2 x3 x4 = Y2.1.2 := by subst y2 y1; rfl
  have e6 : kernelRun0_A.sl.H6_1_1 c i arg2 harg2 arg3 harg3 arg4 harg4 arg5 harg5 arg6 harg6 arg7 harg7 arg8 harg8 arg9 harg9 x0 x1 x2 x3 x4 = ⟨Rect.unit (s := S2048x128) (k0_off5 i 0#32) S128x128.size (inb_tile _ (by omega) _ o0),
      k0_pay146 (BitVec.ofNat 32 (i 1).val) (kernelRun0_A.sl.r c arg2 harg2 x0) (kernelRun0_A.sl.r_2 c i arg2 harg2 arg3 harg3 arg4 harg4 arg5 harg5 arg6 harg6 arg7 harg7 arg8 harg8 arg9 harg9 x0 x1 x2 x3 x4) (kernelRun0_A.sl.v71 i)
        (kernelRun0_A.sl.r_16 c i arg4 harg4 arg5 harg5 arg6 harg6 x2 x3 x4) (kernelRun0_A.sl.r_20 c i arg4 harg4 arg5 harg5 arg6 harg6 x2 x3 x4)
        (kernelRun0_A.sl.r_24 c i arg2 harg2 arg3 harg3 x0 x1)
        (View.readAt (Elt F) arg8.view (Rect.unit (s := S2048x128) (k0_off5 i 0#32) S128x128.size (inb_tile _ (by omega) _ o0)).toLoadRect
          (arg8.view.writes (Elt F) arg8.view.junk (Y2.2.1 ++ (Y1.2.1 ++ kernelRun0_A.sl.H6_1))))⟩ :: (Y2.2.1 ++ (Y1.2.1 ++ kernelRun0_A.sl.H6_1)) := by subst y2 y1; rfl
  have e7 : kernelRun0_A.sl.H7_1_1 c i arg2 harg2 arg3 harg3 arg4 harg4 arg5 harg5 arg6 harg6 arg7 harg7 arg8 harg8 arg9 harg9 x0 x1 x2 x3 x4 = ⟨Rect.unit (s := S2048x128) (k0_off5 i 0#32) S128x128.size (inb_tile _ (by omega) _ o0),
      k0_pay14 (kernelRun0_A.sl.r_1 c arg6 harg6 x4)
        (View.readAt (Elt F) arg5.view (Rect.unit (s := S1x1x16x1024x128) (k0_off6 i 0#32) S1x1x1x1024x128.size (inb_wTile _ (by omega) _ w0)).toLoadRect (harg5.unread x3))
        (View.readAt (Elt F) arg9.view (Rect.unit (s := S2048x128) (k0_off5 i 0#32) S128x128.size (inb_tile _ (by omega) _ o0)).toLoadRect
          (arg9.view.writes (Elt F) arg9.view.junk (Y2.2.2 ++ (Y1.2.2 ++ kernelRun0_A.sl.H7_1))))⟩ :: (Y2.2.2 ++ (Y1.2.2 ++ kernelRun0_A.sl.H7_1)) := by subst y2 y1; rfl
  have f0 : kernelRun0_A.sl.r_16 c i arg4 harg4 arg5 harg5 arg6 harg6 x2 x3 x4 = k0_pay19 (k0_pay6 (kernelRun0_A.sl.r_1 c arg6 harg6 x4) (View.readAt (Elt F) arg4.view (Rect.unit (s := S2048x128) (k0_off5 i 0#32) S128x128.size (inb_tile _ (by omega) _ o0)).toLoadRect (harg4.unread x2))) (k0_pay10 (View.readAt (Elt F) arg5.view (Rect.unit (s := S1x1x16x1024x128) (k0_off6 i 0#32) S1x1x1x1024x128.size (inb_wTile _ (by omega) _ w0)).toLoadRect (harg5.unread x3))) := rfl
  have g0 : kernelRun0_A.sl.r_20 c i arg4 harg4 arg5 harg5 arg6 harg6 x2 x3 x4 = k0_pay23 k0_pay104 (k0_pay6 (kernelRun0_A.sl.r_1 c arg6 harg6 x4) (View.readAt (Elt F) arg4.view (Rect.unit (s := S2048x128) (k0_off5 i 0#32) S128x128.size (inb_tile _ (by omega) _ o0)).toLoadRect (harg4.unread x2))) (k0_pay10 (View.readAt (Elt F) arg5.view (Rect.unit (s := S1x1x16x1024x128) (k0_off6 i 0#32) S1x1x1x1024x128.size (inb_wTile _ (by omega) _ w0)).toLoadRect (harg5.unread x3))) := rfl
  have h0 : kernelRun0_A.sl.r_24 c i arg2 harg2 arg3 harg3 x0 x1 = k0_pay27 (k0_pay2 (kernelRun0_A.sl.r c arg2 harg2 x0) (View.readAt (Elt F) arg3.view (Rect.unit (s := S2048x128) (k0_off5 i 0#32) S128x128.size (inb_tile _ (by omega) _ o0)).toLoadRect (harg3.unread x1))) := rfl
  have f1 : kernelRun0_A.sl.r_17 c i arg4 harg4 arg5 harg5 arg6 harg6 x2 x3 x4 = k0_pay19 (k0_pay6 (kernelRun0_A.sl.r_1 c arg6 harg6 x4) (View.readAt (Elt F) arg4.view (Rect.unit (s := S2048x128) (k0_off5 i 1#32) S128x128.size (inb_tile _ (by omega) _ o1)).toLoadRect (harg4.unread x2))) (k0_pay10 (View.readAt (Elt F) arg5.view (Rect.unit (s := S1x1x16x1024x128) (k0_off6 i 1#32) S1x1x1x1024x128.size (inb_wTile _ (by omega) _ w1)).toLoadRect (harg5.unread x3))) := rfl
  have g1 : kernelRun0_A.sl.r_21 c i arg4 harg4 arg5 harg5 arg6 harg6 x2 x3 x4 = k0_pay23 k0_pay104 (k0_pay6 (kernelRun0_A.sl.r_1 c arg6 harg6 x4) (View.readAt (Elt F) arg4.view (Rect.unit (s := S2048x128) (k0_off5 i 1#32) S128x128.size (inb_tile _ (by omega) _ o1)).toLoadRect (harg4.unread x2))) (k0_pay10 (View.readAt (Elt F) arg5.view (Rect.unit (s := S1x1x16x1024x128) (k0_off6 i 1#32) S1x1x1x1024x128.size (inb_wTile _ (by omega) _ w1)).toLoadRect (harg5.unread x3))) := rfl
  have h1 : kernelRun0_A.sl.r_25 c i arg2 harg2 arg3 harg3 x0 x1 = k0_pay27 (k0_pay2 (kernelRun0_A.sl.r c arg2 harg2 x0) (View.readAt (Elt F) arg3.view (Rect.unit (s := S2048x128) (k0_off5 i 1#32) S128x128.size (inb_tile _ (by omega) _ o1)).toLoadRect (harg3.unread x1))) := rfl
  have f2 : kernelRun0_A.sl.r_18 c i arg4 harg4 arg5 harg5 arg6 harg6 x2 x3 x4 = k0_pay19 (k0_pay6 (kernelRun0_A.sl.r_1 c arg6 harg6 x4) (View.readAt (Elt F) arg4.view (Rect.unit (s := S2048x128) (k0_off5 i 2#32) S128x128.size (inb_tile _ (by omega) _ o2)).toLoadRect (harg4.unread x2))) (k0_pay10 (View.readAt (Elt F) arg5.view (Rect.unit (s := S1x1x16x1024x128) (k0_off6 i 2#32) S1x1x1x1024x128.size (inb_wTile _ (by omega) _ w2)).toLoadRect (harg5.unread x3))) := rfl
  have g2 : kernelRun0_A.sl.r_22 c i arg4 harg4 arg5 harg5 arg6 harg6 x2 x3 x4 = k0_pay23 k0_pay104 (k0_pay6 (kernelRun0_A.sl.r_1 c arg6 harg6 x4) (View.readAt (Elt F) arg4.view (Rect.unit (s := S2048x128) (k0_off5 i 2#32) S128x128.size (inb_tile _ (by omega) _ o2)).toLoadRect (harg4.unread x2))) (k0_pay10 (View.readAt (Elt F) arg5.view (Rect.unit (s := S1x1x16x1024x128) (k0_off6 i 2#32) S1x1x1x1024x128.size (inb_wTile _ (by omega) _ w2)).toLoadRect (harg5.unread x3))) := rfl
  have h2 : kernelRun0_A.sl.r_26 c i arg2 harg2 arg3 harg3 x0 x1 = k0_pay27 (k0_pay2 (kernelRun0_A.sl.r c arg2 harg2 x0) (View.readAt (Elt F) arg3.view (Rect.unit (s := S2048x128) (k0_off5 i 2#32) S128x128.size (inb_tile _ (by omega) _ o2)).toLoadRect (harg3.unread x1))) := rfl
  have f3 : kernelRun0_A.sl.r_19 c i arg4 harg4 arg5 harg5 arg6 harg6 x2 x3 x4 = k0_pay19 (k0_pay6 (kernelRun0_A.sl.r_1 c arg6 harg6 x4) (View.readAt (Elt F) arg4.view (Rect.unit (s := S2048x128) (k0_off5 i 3#32) S128x128.size (inb_tile _ (by omega) _ o3)).toLoadRect (harg4.unread x2))) (k0_pay10 (View.readAt (Elt F) arg5.view (Rect.unit (s := S1x1x16x1024x128) (k0_off6 i 3#32) S1x1x1x1024x128.size (inb_wTile _ (by omega) _ w3)).toLoadRect (harg5.unread x3))) := rfl
  have g3 : kernelRun0_A.sl.r_23 c i arg4 harg4 arg5 harg5 arg6 harg6 x2 x3 x4 = k0_pay23 k0_pay104 (k0_pay6 (kernelRun0_A.sl.r_1 c arg6 harg6 x4) (View.readAt (Elt F) arg4.view (Rect.unit (s := S2048x128) (k0_off5 i 3#32) S128x128.size (inb_tile _ (by omega) _ o3)).toLoadRect (harg4.unread x2))) (k0_pay10 (View.readAt (Elt F) arg5.view (Rect.unit (s := S1x1x16x1024x128) (k0_off6 i 3#32) S1x1x1x1024x128.size (inb_wTile _ (by omega) _ w3)).toLoadRect (harg5.unread x3))) := rfl
  have h3 : kernelRun0_A.sl.r_27 c i arg2 harg2 arg3 harg3 x0 x1 = k0_pay27 (k0_pay2 (kernelRun0_A.sl.r c arg2 harg2 x0) (View.readAt (Elt F) arg3.view (Rect.unit (s := S2048x128) (k0_off5 i 3#32) S128x128.size (inb_tile _ (by omega) _ o3)).toLoadRect (harg3.unread x1))) := rfl
  have a30 := (readAt_tile (F := F) arg3.view (harg3.unread x1) (4 * (i 1).val + 0) (by omega) _ o0 (inb_tile _ (by omega) _ o0)).symm
  have a31 := (readAt_tile (F := F) arg3.view (harg3.unread x1) (4 * (i 1).val + 1) (by omega) _ o1 (inb_tile _ (by omega) _ o1)).symm
  have a32 := (readAt_tile (F := F) arg3.view (harg3.unread x1) (4 * (i 1).val + 2) (by omega) _ o2 (inb_tile _ (by omega) _ o2)).symm
  have a33 := (readAt_tile (F := F) arg3.view (harg3.unread x1) (4 * (i 1).val + 3) (by omega) _ o3 (inb_tile _ (by omega) _ o3)).symm
  have a40 := (readAt_tile (F := F) arg4.view (harg4.unread x2) (4 * (i 1).val + 0) (by omega) _ o0 (inb_tile _ (by omega) _ o0)).symm
  have a41 := (readAt_tile (F := F) arg4.view (harg4.unread x2) (4 * (i 1).val + 1) (by omega) _ o1 (inb_tile _ (by omega) _ o1)).symm
  have a42 := (readAt_tile (F := F) arg4.view (harg4.unread x2) (4 * (i 1).val + 2) (by omega) _ o2 (inb_tile _ (by omega) _ o2)).symm
  have a43 := (readAt_tile (F := F) arg4.view (harg4.unread x2) (4 * (i 1).val + 3) (by omega) _ o3 (inb_tile _ (by omega) _ o3)).symm
  have a50 := (readAt_wTile (F := F) arg5.view (harg5.unread x3) (4 * (i 1).val + 0) (by omega) _ w0 (inb_wTile _ (by omega) _ w0)).symm
  have a51 := (readAt_wTile (F := F) arg5.view (harg5.unread x3) (4 * (i 1).val + 1) (by omega) _ w1 (inb_wTile _ (by omega) _ w1)).symm
  have a52 := (readAt_wTile (F := F) arg5.view (harg5.unread x3) (4 * (i 1).val + 2) (by omega) _ w2 (inb_wTile _ (by omega) _ w2)).symm
  have a53 := (readAt_wTile (F := F) arg5.view (harg5.unread x3) (4 * (i 1).val + 3) (by omega) _ w3 (inb_wTile _ (by omega) _ w3)).symm
  have a80 := fun f => (readAt_tile (F := F) arg8.view f (4 * (i 1).val + 0) (by omega) _ o0 (inb_tile _ (by omega) _ o0)).symm
  have p80 := fun w L => (read_writes_tile (F := F) arg8.view arg8.view.junk (4 * (i 1).val + 0) (by omega) _ o0 (inb_tile _ (by omega) _ o0) w L).symm
  have a81 := fun f => (readAt_tile (F := F) arg8.view f (4 * (i 1).val + 1) (by omega) _ o1 (inb_tile _ (by omega) _ o1)).symm
  have p81 := fun w L => (read_writes_tile (F := F) arg8.view arg8.view.junk (4 * (i 1).val + 1) (by omega) _ o1 (inb_tile _ (by omega) _ o1) w L).symm
  have a82 := fun f => (readAt_tile (F := F) arg8.view f (4 * (i 1).val + 2) (by omega) _ o2 (inb_tile _ (by omega) _ o2)).symm
  have p82 := fun w L => (read_writes_tile (F := F) arg8.view arg8.view.junk (4 * (i 1).val + 2) (by omega) _ o2 (inb_tile _ (by omega) _ o2) w L).symm
  have a83 := fun f => (readAt_tile (F := F) arg8.view f (4 * (i 1).val + 3) (by omega) _ o3 (inb_tile _ (by omega) _ o3)).symm
  have p83 := fun w L => (read_writes_tile (F := F) arg8.view arg8.view.junk (4 * (i 1).val + 3) (by omega) _ o3 (inb_tile _ (by omega) _ o3) w L).symm
  have a90 := fun f => (readAt_tile (F := F) arg9.view f (4 * (i 1).val + 0) (by omega) _ o0 (inb_tile _ (by omega) _ o0)).symm
  have p90 := fun w L => (read_writes_tile (F := F) arg9.view arg9.view.junk (4 * (i 1).val + 0) (by omega) _ o0 (inb_tile _ (by omega) _ o0) w L).symm
  have a91 := fun f => (readAt_tile (F := F) arg9.view f (4 * (i 1).val + 1) (by omega) _ o1 (inb_tile _ (by omega) _ o1)).symm
  have p91 := fun w L => (read_writes_tile (F := F) arg9.view arg9.view.junk (4 * (i 1).val + 1) (by omega) _ o1 (inb_tile _ (by omega) _ o1) w L).symm
  have a92 := fun f => (readAt_tile (F := F) arg9.view f (4 * (i 1).val + 2) (by omega) _ o2 (inb_tile _ (by omega) _ o2)).symm
  have p92 := fun w L => (read_writes_tile (F := F) arg9.view arg9.view.junk (4 * (i 1).val + 2) (by omega) _ o2 (inb_tile _ (by omega) _ o2) w L).symm
  have a93 := fun f => (readAt_tile (F := F) arg9.view f (4 * (i 1).val + 3) (by omega) _ o3 (inb_tile _ (by omega) _ o3)).symm
  have p93 := fun w L => (read_writes_tile (F := F) arg9.view arg9.view.junk (4 * (i 1).val + 3) (by omega) _ o3 (inb_tile _ (by omega) _ o3) w L).symm
  unfold point
  rw [← hB]
  simp only [stOf, stepM, stepWith, tDzM, tE, tPre, tBeta, a30, a31, a32, a33, a40, a41, a42, a43, a50, a51, a52, a53, a80, a81, a82, a83, a90, a91, a92, a93, p80, p81, p82, p83, p90, p91, p92, p93]
  simp only [← f0, ← f1, ← f2, ← f3, ← g0, ← g1, ← g2, ← g3, ← h0, ← h1, ← h2, ← h3]
  refine ⟨?_, ?_, ?_⟩
  · unfold out0_A_5 kernelRun0_A
    dsimp only
    rw [read_whole]
    simp only [q241, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.H6_2, kernelRun0_A.sl.H6_3, kernelRun0_A.sl.H7_2, kernelRun0_A.sl.H7_3, e2, e3, v0, v1, v2, v3, dk_0, dk_1, dk_2, dk_3, dq_0, dq_1, dq_2, dz_3, c_1, c_2]
  · unfold out0_A_6 kernelRun0_A
    dsimp only
    rw [View.read_writes_junk_eq_canon VO0_6, ← View.read_writes_junk_eq_canon arg8.view]
    simp only [q241, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.H6_2, kernelRun0_A.sl.H6_3, kernelRun0_A.sl.H7_2, kernelRun0_A.sl.H7_3, e2, e3, e6, e7, v0, v1, v2, v3, dk_0, dk_1, dk_2, dk_3, dq_0, dq_1, dq_2, dz_3, c_1, c_2]
  · unfold out0_A_7 kernelRun0_A
    dsimp only
    rw [View.read_writes_junk_eq_canon VO0_7, ← View.read_writes_junk_eq_canon arg9.view]
    simp only [q241, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.H6_2, kernelRun0_A.sl.H6_3, kernelRun0_A.sl.H7_2, kernelRun0_A.sl.H7_3, e2, e3, kernelRun0_A.sl.r_15, e7, dv_0, dv_1, dv_2, dv_3]

end cases

end Cert.StickGradIdeal.Hand

end
-- ==== Proof.StickBlock.lean ====
/-
  What a grid point of the stick-breaking backward pass leaves in its three results, from the blocks of its arguments: the
  tile walk `point`, started from zeros at the first point of a pair of heads and from what the point before left elsewhere.
-/
module

public import proofs.«01_k».proof.Proof.StickCases
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.StickGradIdeal.Hand

open Cert.StickGradIdeal Cert.StickGradIdeal.Gen

variable {F : FTy → Type} [FloatOps F] (m : (ℓ : Loc nD τ sig) → Buf (Elt F) ℓ) (c : Dev nD)

/-- Where each window's block lies: the point's query block is its number modulo 4, its pair of heads the quotient. -/
theorem idx : ∀ t : Fin cfg0.N,
    win0_0.index t = ![t.val % 4, t.val / 4] ∧ win0_1.index t = ![0, 28 + t.val / 4] ∧ win0_2.index t = ![0, 32 + t.val / 4]
    ∧ win0_3.index t = ![t.val / 4, t.val % 4, 0, 0, 0] ∧ win0_4.index t = ![t.val % 4, t.val / 4]
    ∧ win0_5.index t = ![t.val % 4, t.val / 4] ∧ win0_6.index t = ![0, t.val / 4] ∧ win0_7.index t = ![0, t.val / 4] :=
  (by decide +kernel : ∀ t : Fin grid0.N, _)

theorem coord1 : ∀ t : Fin cfg0.N, (grid0.coords t 1).val = t.val % 4 :=
  (by decide +kernel : ∀ t : Fin grid0.N, _)

/-- A load of a whole staging buffer reads back what it was filled with. -/
theorem whole_read (r : Memref sig .tc .vmem S512x128 .bf16) (h : r.IsWhole) (x : Vec F S512x128 .bf16) (inb) :
    r.view.readAt (Elt F) (Rect.unit (s := S512x128) ![0, 0] ![512, 128] inb).toLoadRect (h.unread x) = x := by
  simp (disch := decide) only [View.readAt_eq_ld, View.ld_unit_lit', Memref.IsWhole.read_unread]

/-- The walk of a grid point over its key tiles, from the state `s`. -/
def walk (t : Fin cfg0.N) (s : St F) : St F :=
  point (t.val % 4) k0_pay104 (k0_pay105 (iblk m c 0 t)) (k0_pay106 (iblk m c 4 t)) (iblk m c 1 t) (iblk m c 2 t) (iblk m c 3 t) s

/-- The first point of a pair of heads starts from zeros. -/
theorem outs_A (t : Fin cfg0.N) (h0 : t.val % 4 = 0) :
    outsAt0 m c t.val t.isLt
      = (fun S : St F => (S.dq, S.dk, S.dv)) (walk m c t ⟨k0_pay107, k0_pay108, k0_pay102, k0_pay103⟩) := by
  rw [outsAt0_A m c t h0]
  have h := out_A_raw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) ((hcond0_0 t).mpr h0)
  dsimp only at h ⊢
  rw [h.1, h.2.1, h.2.2]
  unfold walk stOf
  rw [coord1]
  simp only [Memref.IsWhole.read_unread, kernelRun0_A.sl.r, kernelRun0_A.sl.r_1, whole_read, kernelRun0_A.sl.H6_1, kernelRun0_A.sl.H7_1]
  simp (disch := decide) only [View.read_writes_junk_eq_canon, View.canon_cons_unit_lit']

/-- The others go on from what the point before left in the key and value gradients. -/
theorem outs_B (t : Fin cfg0.N) (h0 : ¬t.val % 4 = 0) :
    outsAt0 m c t.val t.isLt
      = (fun S : St F => (S.dq, S.dk, S.dv)) (walk m c t ⟨k0_pay107, k0_pay108,
          (outsAt0 m c (t.val - 1) (by omega)).2.1, (outsAt0 m c (t.val - 1) (by omega)).2.2⟩) := by
  rw [outsAt0_B m c t h0]
  have h := out_B_raw c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t)
    (outsAt0 m c (t.val - 1) (by omega)).2.1 (outsAt0 m c (t.val - 1) (by omega)).2.2 (fun h => h0 ((hcond0_0 t).mp h))
  dsimp only at h ⊢
  rw [h.1, h.2.1, h.2.2]
  unfold walk stOf
  rw [coord1]
  simp only [Memref.IsWhole.read_unread, kernelRun0_B.sl.r, kernelRun0_B.sl.r_1, whole_read]

end Cert.StickGradIdeal.Hand

end
-- ==== Proof.StickGrid.lean ====
/-
  The whole grid of the stick-breaking backward pass over the reals: the gradients of each head, summed over all queries
  and all keys.
-/
module

public import proofs.«01_k».proof.Proof.StickReal
public import proofs.«01_k».proof.Proof.StickBlock
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.StickGradIdeal.Hand

open Cert.StickGradIdeal Cert.StickGradIdeal.Gen Cert.RealKit

section heads

variable (q d k v : ℕ → ℕ → ℝ) (a : ℕ → ℕ → ℕ → ℝ)

/-- Head `h`: the gradient of the weight of query `n` and key `m`, times the weight. -/
def hE (h n m : ℕ) : ℝ := a h n m * ∑ x : Fin 64, d n (64 * h + x) * v m (64 * h + x)

/-- Its break probability. -/
def hB (h n m : ℕ) : ℝ := 1 / (1 + Real.rpow 2 (0 - ∑ x : Fin 64, q n (64 * h + x) * k m (64 * h + x)))

/-- Its logit's gradient. -/
def hZ (h n m : ℕ) : ℝ :=
  if m < n then hE d v a h n m - (hE d v a h n m + ∑ i ∈ Finset.range m, hE d v a h n i) * hB q k h n m else 0

/-- The rows of a pair's two heads stacked: each keeps its own lanes. -/
def stackQ (p b r l : ℕ) : ℝ := if r / 512 = l / 64 then q (512 * b + r % 512) (128 * p + l) else 0

def pairK (p m l : ℕ) : ℝ := k m (128 * p + l)

def stackA (p b r m : ℕ) : ℝ := a (2 * p + r / 512) (512 * b + r % 512) m

/-- A stacked row meets a row of keys in its own head's lanes alone. -/
theorem stack_sum (p b r m : ℕ) (hr : r < 1024) :
    ∑ l : Fin 128, stackQ q p b r l * pairK k p m l
      = ∑ x : Fin 64, q (512 * b + r % 512) (64 * (2 * p + r / 512) + x) * k m (64 * (2 * p + r / 512) + x) := by
  have hs : ∀ F : ℕ → ℝ, ∑ l : Fin 128, F l = ∑ x : Fin 64, F x + ∑ x : Fin 64, F (64 + x) := fun F =>
    Fin.sum_univ_add (a := 64) (b := 64) (fun l => F l.val)
  refine (hs fun l => stackQ q p b r l * pairK k p m l).trans ?_
  unfold stackQ pairK
  rcases (by omega : r / 512 = 0 ∨ r / 512 = 1) with h | h
  · simp only [h]
    refine (congrArg₂ (· + ·) (Finset.sum_congr rfl fun x _ => ?_) (Finset.sum_eq_zero fun x _ => ?_)).trans (add_zero _)
    · rw [if_pos (by omega), show 64 * (2 * p + 0) + x.val = 128 * p + x.val by omega]
    · rw [if_neg (by omega), zero_mul]
  · simp only [h]
    refine (congrArg₂ (· + ·) (Finset.sum_eq_zero fun x _ => ?_) (Finset.sum_congr rfl fun x _ => ?_)).trans (zero_add _)
    · rw [if_neg (by omega), zero_mul]
    · rw [if_pos (by omega), show 64 * (2 * p + 1) + x.val = 128 * p + (64 + x.val) by omega]

theorem rE_stack (p b r m : ℕ) (hr : r < 1024) :
    rE (stackQ d p b) (pairK v p) (stackA a p b) r m = hE d v a (2 * p + r / 512) (512 * b + r % 512) m := by
  unfold rE hE
  rw [stack_sum d v p b r m hr]
  rfl

theorem rZ_stack (p b r m : ℕ) (hr : r < 1024) :
    rZ (stackQ q p b) (stackQ d p b) (pairK k p) (pairK v p) (stackA a p b) b r m
      = hZ q d k v a (2 * p + r / 512) (512 * b + r % 512) m := by
  unfold rZ hZ rB hB rC
  rw [stack_sum q k p b r m hr]
  simp only [rE_stack d v a p b r _ hr]
  exact if_congr (by omega) rfl rfl

/-- Summing over the query blocks and the stacked rows of one head is summing over the queries. -/
theorem sum_queries (f : ℕ → ℝ) (h : ℕ) (hh : h < 2) :
    ∑ b ∈ Finset.range 4, ∑ r : Fin 1024, (if r.val / 512 = h then f (512 * b + r % 512) else 0) = ∑ n : Fin 2048, f n := by
  have hs : ∀ F : ℕ → ℝ, ∑ l : Fin 1024, F l = ∑ x : Fin 512, F x + ∑ x : Fin 512, F (512 + x) := fun F =>
    Fin.sum_univ_add (a := 512) (b := 512) (fun l => F l.val)
  have hb : ∀ b : ℕ, ∑ r : Fin 1024, (if r.val / 512 = h then f (512 * b + r % 512) else 0) = ∑ x ∈ Finset.range 512, f (b * 512 + x) := by
    intro b
    rw [Finset.sum_range]
    refine (hs fun r => if r / 512 = h then f (512 * b + r % 512) else 0).trans ?_
    rcases (by omega : h = 0 ∨ h = 1) with rfl | rfl
    · refine (congrArg₂ (· + ·) (Finset.sum_congr rfl fun x _ => ?_) (Finset.sum_eq_zero fun x _ => ?_)).trans (add_zero _)
      · rw [if_pos (by omega), show 512 * b + x.val % 512 = b * 512 + x.val by omega]
      · rw [if_neg (by omega)]
    · refine (congrArg₂ (· + ·) (Finset.sum_eq_zero fun x _ => ?_) (Finset.sum_congr rfl fun x _ => ?_)).trans (zero_add _)
      · rw [if_neg (by omega)]
      · rw [if_pos (by omega), show 512 * b + (512 + x.val) % 512 = b * 512 + x.val by omega]
  rw [Finset.sum_congr rfl fun b _ => hb b, ← Finset.sum_range]
  exact (Finset.sum_range_mul_split 4 512 f).symm

end heads

section grid

variable (m : (ℓ : Loc nD τ sig) → Buf (Elt Ideal) ℓ) (c : Dev nD)

/-- The argument blocks of every point are finite: blocks of the arrays `q`, `d`, `k`, `v` and `a`. -/
structure Blocks (q d k v : ℕ → ℕ → ℝ) (a : ℕ → ℕ → ℕ → ℝ) : Prop where
  q : ∀ (t : Fin cfg0.N) (i : Fin 512) (l : Fin 128), (iblk m c 0 t : Vec Ideal S512x128 .bf16) (ix2 i l) = (q (512 * (t.val % 4) + i) (128 * (t.val / 4) + l) : EReal)
  d : ∀ (t : Fin cfg0.N) (i : Fin 512) (l : Fin 128), (iblk m c 4 t : Vec Ideal S512x128 .bf16) (ix2 i l) = (d (512 * (t.val % 4) + i) (128 * (t.val / 4) + l) : EReal)
  k : ∀ (t : Fin cfg0.N) (i : Fin 2048) (l : Fin 128), (iblk m c 1 t : Vec Ideal S2048x128 .bf16) (ix2 i l) = (k i (128 * (t.val / 4) + l) : EReal)
  v : ∀ (t : Fin cfg0.N) (i : Fin 2048) (l : Fin 128), (iblk m c 2 t : Vec Ideal S2048x128 .bf16) (ix2 i l) = (v i (128 * (t.val / 4) + l) : EReal)
  a : ∀ (t : Fin cfg0.N) (j : Fin 16) (r : Fin 1024) (l : Fin 128), (iblk m c 3 t : Vec Ideal S1x1x16x1024x128 .bf16) (ix5 0 0 j r l)
    = (a (2 * (t.val / 4) + r / 512) (512 * (t.val % 4) + r % 512) (128 * j + l) : EReal)

variable {m c} {q d k v : ℕ → ℕ → ℝ} {a : ℕ → ℕ → ℕ → ℝ} (B : Blocks m c q d k v a)

theorem stack_at (x : ℕ → ℕ → ℝ) (y : Vec Ideal S512x128 .bf16) (p b : ℕ)
    (h : ∀ (i : Fin 512) (l : Fin 128), y (ix2 i l) = (x (512 * b + i) (128 * p + l) : EReal)) (r : Fin 1024) (l : Fin 128) :
    k0_pay105 y (ix2 r l) = (stackQ x p b r l : EReal) := by
  rw [pay105_at, h, ite_coe]
  rfl

include B in
/-- A point keeps the invariant of its walk. -/
theorem walk_good (t : Fin cfg0.N) (dk dv : ℕ → ℕ → ℝ) (s : St Ideal)
    (hs : Good (stackQ q (t.val / 4) (t.val % 4)) (stackQ d (t.val / 4) (t.val % 4)) (pairK k (t.val / 4)) (pairK v (t.val / 4)) (stackA a (t.val / 4) (t.val % 4)) (t.val % 4) dk dv 0 s) :
    Good (stackQ q (t.val / 4) (t.val % 4)) (stackQ d (t.val / 4) (t.val % 4)) (pairK k (t.val / 4)) (pairK v (t.val / 4)) (stackA a (t.val / 4) (t.val % 4)) (t.val % 4) dk dv (4 * (t.val % 4) + 4)
      (walk m c t s) := by
  refine point_good (b := ⟨t.val % 4, Nat.mod_lt _ (by decide)⟩) (stack_at q _ _ _ (B.q t)) ?_ (B.k t) (B.v t) (B.a t) hs
  exact stack_at d _ _ _ (B.d t)

theorem start_good {Q D K V A : ℕ → ℕ → ℝ} (b : ℕ) (dk dv : ℕ → ℕ → ℝ) (x y : Vec Ideal S2048x128 .f32)
    (hx : ∀ (m : Fin 2048) (l : Fin 128), x (ix2 m l) = (dk m l : EReal)) (hy : ∀ (m : Fin 2048) (l : Fin 128), y (ix2 m l) = (dv m l : EReal)) :
    Good Q D K V A b dk dv 0 ⟨k0_pay107, k0_pay108, x, y⟩ where
  c r := by simp [pay107_at, rC]
  dq q l := by simp [pay108_at]
  dk m l := by simp [hx]
  dv m l := by simp [hy]

/-- One query block's part of the key gradients. -/
def partK (q d k v : ℕ → ℕ → ℝ) (a : ℕ → ℕ → ℕ → ℝ) (p b m l : ℕ) : ℝ :=
  if m < 128 * (4 * b + 4) then ∑ r : Fin 1024, rZ (stackQ q p b) (stackQ d p b) (pairK k p) (pairK v p) (stackA a p b) b r m * stackQ q p b r l else 0

/-- One query block's part of the value gradients. -/
def partV (d : ℕ → ℕ → ℝ) (a : ℕ → ℕ → ℕ → ℝ) (p b m l : ℕ) : ℝ :=
  if m < 128 * (4 * b + 4) then ∑ r : Fin 1024, stackA a p b r m * stackQ d p b r l else 0

/-- What a point's results hold. -/
def Outs (m : (ℓ : Loc nD τ sig) → Buf (Elt Ideal) ℓ) (c : Dev nD) (q d k v : ℕ → ℕ → ℝ) (a : ℕ → ℕ → ℕ → ℝ) (p b : ℕ) (hN : 4 * p + b < cfg0.N) : Prop :=
    (∀ (i : Fin 512) (l : Fin 128), (outsAt0 m c (4 * p + b) hN).1 (ix2 i l)
      = ((∑ n ∈ Finset.range (128 * (4 * b + 4)), rZ (stackQ q p b) (stackQ d p b) (pairK k p) (pairK v p) (stackA a p b) b (i + 512 * (l / 64)) n * pairK k p n l : ℝ) : EReal))
    ∧ (∀ (i : Fin 2048) (l : Fin 128), (outsAt0 m c (4 * p + b) hN).2.1 (ix2 i l) = ((∑ b' ∈ Finset.range (b + 1), partK q d k v a p b' i l : ℝ) : EReal))
    ∧ (∀ (i : Fin 2048) (l : Fin 128), (outsAt0 m c (4 * p + b) hN).2.2 (ix2 i l) = ((∑ b' ∈ Finset.range (b + 1), partV d a p b' i l : ℝ) : EReal))

include B in
/-- After the points of the first query blocks of a pair of heads, its results hold those blocks' parts. -/
theorem outs_real (p : ℕ) : ∀ (b : ℕ) (hb : b < 4) (hN : 4 * p + b < cfg0.N), Outs m c q d k v a p b hN := by
  have fin : ∀ (b : ℕ) (hb : b < 4) (hN : 4 * p + b < cfg0.N) (x y : Vec Ideal S2048x128 .f32)
      (e : outsAt0 m c (4 * p + b) hN = (fun S : St Ideal => (S.dq, S.dk, S.dv)) (walk m c ⟨4 * p + b, hN⟩ ⟨k0_pay107, k0_pay108, x, y⟩))
      (hx : ∀ (i : Fin 2048) (l : Fin 128), x (ix2 i l) = ((∑ b' ∈ Finset.range b, partK q d k v a p b' i l : ℝ) : EReal))
      (hy : ∀ (i : Fin 2048) (l : Fin 128), y (ix2 i l) = ((∑ b' ∈ Finset.range b, partV d a p b' i l : ℝ) : EReal)), Outs m c q d k v a p b hN := by
    intro b hb hN x y e hx hy
    have e1 : (4 * p + b) / 4 = p := by omega
    have e2 : (4 * p + b) % 4 = b := by omega
    have g := walk_good B ⟨4 * p + b, hN⟩ _ _ _ (start_good _ (fun i l => ∑ b' ∈ Finset.range b, partK q d k v a p b' i l)
      (fun i l => ∑ b' ∈ Finset.range b, partV d a p b' i l) x y hx hy)
    dsimp only at g e
    rw [e1, e2] at g
    unfold Outs
    rw [e]
    refine And.intro g.dq (And.intro (fun i l => (g.dk i l).trans ?_) (fun i l => (g.dv i l).trans ?_))
    · rw [Finset.sum_range_succ]; rfl
    · rw [Finset.sum_range_succ]; rfl
  intro b
  induction b with
  | zero =>
    intro hb hN
    refine fin 0 hb hN _ _ (outs_A m c ⟨4 * p + 0, hN⟩ (by show (4 * p + 0) % 4 = 0; omega)) (fun i l => ?_) (fun i l => ?_)
    · rw [pay102_at]; simp
    · rw [pay103_at]; simp
  | succ b ih =>
    intro hb hN
    have h := ih (by omega) (by omega)
    exact fin (b + 1) hb hN _ _ (outs_B m c ⟨4 * p + (b + 1), hN⟩ (by show ¬(4 * p + (b + 1)) % 4 = 0; omega)) h.2.1 h.2.2

/-- A query sees no key from its own on. -/
theorem hZ_zero (h n m : ℕ) (hm : n ≤ m) : hZ q d k v a h n m = 0 := if_neg (by omega)

/-- The query gradient of an entry, from the formula of its block. -/
theorem dq_sum (p b : ℕ) (hb : b < 4) (i : Fin 512) (l : Fin 128) :
    ∑ n ∈ Finset.range (128 * (4 * b + 4)), rZ (stackQ q p b) (stackQ d p b) (pairK k p) (pairK v p) (stackA a p b) b (i + 512 * (l / 64)) n * pairK k p n l
      = ∑ n : Fin 2048, hZ q d k v a ((128 * p + l) / 64) (512 * b + i) n * k n (128 * p + l) := by
  have hi := i.isLt
  have hl := l.isLt
  rw [← Finset.sum_range (fun n => hZ q d k v a ((128 * p + l) / 64) (512 * b + i) n * k n (128 * p + l))]
  rw [← Finset.sum_subset (Finset.range_subset_range.mpr (show 128 * (4 * b + 4) ≤ 2048 by omega)) fun n _ h => ?_]
  · refine Finset.sum_congr rfl fun n _ => ?_
    rw [rZ_stack q d k v a p b _ n (by omega), show 2 * p + (i.val + 512 * (l.val / 64)) / 512 = (128 * p + l.val) / 64 by omega,
      show (i.val + 512 * (l.val / 64)) % 512 = i.val by omega]
    rfl
  · rw [hZ_zero _ _ _ (by have := Nat.not_lt.mp (fun h' => h (Finset.mem_range.mpr h')); omega), zero_mul]

/-- The key gradient of an entry. -/
theorem dk_sum (p m : ℕ) (l : Fin 128) :
    ∑ b ∈ Finset.range 4, partK q d k v a p b m l = ∑ n : Fin 2048, hZ q d k v a ((128 * p + l) / 64) n m * q n (128 * p + l) := by
  have hl := l.isLt
  rw [← sum_queries (fun n => hZ q d k v a ((128 * p + l) / 64) n m * q n (128 * p + l)) (l / 64) (by omega)]
  refine Finset.sum_congr rfl fun b _ => ?_
  have hf : ∀ r : Fin 1024, rZ (stackQ q p b) (stackQ d p b) (pairK k p) (pairK v p) (stackA a p b) b r m * stackQ q p b r l
      = if r.val / 512 = l / 64 then hZ q d k v a ((128 * p + l) / 64) (512 * b + r % 512) m * q (512 * b + r % 512) (128 * p + l) else 0 := by
    intro r
    rw [rZ_stack q d k v a p b _ m r.isLt]
    unfold stackQ
    by_cases h : r.val / 512 = l / 64
    · rw [if_pos h, if_pos h, show 2 * p + r.val / 512 = (128 * p + l.val) / 64 by omega]
    · rw [if_neg h, if_neg h, mul_zero]
  unfold partK
  simp only [hf]
  by_cases h : m < 128 * (4 * b + 4)
  · rw [if_pos h]
  · rw [if_neg h]
    refine (Finset.sum_eq_zero fun r _ => ?_).symm
    have hr := r.isLt
    rw [hZ_zero _ _ _ (by omega), zero_mul, ite_self]

/-- The value gradient of an entry. -/
theorem dv_sum (ha : ∀ h n m, n ≤ m → a h n m = 0) (p m : ℕ) (l : Fin 128) :
    ∑ b ∈ Finset.range 4, partV d a p b m l = ∑ n : Fin 2048, a ((128 * p + l) / 64) n m * d n (128 * p + l) := by
  have hl := l.isLt
  rw [← sum_queries (fun n => a ((128 * p + l) / 64) n m * d n (128 * p + l)) (l / 64) (by omega)]
  refine Finset.sum_congr rfl fun b _ => ?_
  have hf : ∀ r : Fin 1024, stackA a p b r m * stackQ d p b r l
      = if r.val / 512 = l / 64 then a ((128 * p + l) / 64) (512 * b + r % 512) m * d (512 * b + r % 512) (128 * p + l) else 0 := by
    intro r
    unfold stackQ stackA
    by_cases h : r.val / 512 = l / 64
    · rw [if_pos h, if_pos h, show 2 * p + r.val / 512 = (128 * p + l.val) / 64 by omega]
    · rw [if_neg h, if_neg h, mul_zero]
  unfold partV
  simp only [hf]
  by_cases h : m < 128 * (4 * b + 4)
  · rw [if_pos h]
  · rw [if_neg h]
    refine (Finset.sum_eq_zero fun r _ => ?_).symm
    have hr := r.isLt
    rw [ha _ _ _ (by omega), zero_mul, ite_self]

end grid

end Cert.StickGradIdeal.Hand

end
-- ==== Proof.StickRef.lean ====
/-
  What the derivative of the plain forward pass computes, at finite arguments, as formulas over the reals.
-/
module

public import proofs.«01_k».proof.Proof.StickGrid
public import proofs.«01_k».proof.Proof.Gen.StickGradRefIdeal.Read
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.StickGradRefIdeal.Hand

open Cert.StickGradRefIdeal Cert.StickGradRefIdeal.Facts Cert.StickGradRefIdeal.Gen Cert.StickGradRefIdeal.Read Cert.RealKit

/-- A fold of additions is its start and a sum. -/
theorem foldl_sum {n : ℕ} (f : Fin n → EReal) (v : EReal) : (List.finRange n).foldl (fun r i => r + f i) v = v + ∑ i, f i := by
  rw [Fin.sum_univ_def]
  generalize List.finRange n = l
  induction l generalizing v with
  | nil => simp
  | cons a l ih => rw [List.foldl_cons, ih, List.map_cons, List.sum_cons, add_assoc]

/-- The columns of a `1 × 1 × 2048` window. -/
def colEquiv : Fin 2048 ≃ (⟨3, ![1, 1, 2048]⟩ : Shape).Idx where
  toFun k := ix3 0 0 k
  invFun i := i 2
  left_inv k := rfl
  right_inv i := by
    funext a
    match a with
    | ⟨0, _⟩ => exact Subsingleton.elim (α := Fin 1) _ _
    | ⟨1, _⟩ => exact Subsingleton.elim (α := Fin 1) _ _
    | ⟨2, _⟩ => rfl

@[simp] theorem col_zero (k : Fin 2048) : (colEquiv k 0).val = 0 := rfl
@[simp] theorem col_one (k : Fin 2048) : (colEquiv k 1).val = 0 := rfl
@[simp] theorem col_two (k : Fin 2048) : (colEquiv k 2).val = k.val := rfl

abbrev A3 := (⟨S8x2048x2048, .f32⟩ : BufTy).Contents (Elt Ideal)

theorem sum_real {n : ℕ} (f : Fin n → EReal) (h : ∀ i, ∃ r : ℝ, f i = (r : EReal)) : ∃ r : ℝ, ∑ i, f i = (r : EReal) := by
  choose g hg using h
  exact ⟨∑ i, g i, by rw [coe_sum Finset.univ]; exact Finset.sum_congr rfl fun i _ => hg i⟩

/-- A window sum of finite terms is finite. -/
theorem window_real {lo hi : Fin 3 → ℕ} (x : A3) (h : S8x2048x2048.ReduceWindows ![1, 1, 2048] ![1, 1, 1] lo hi S8x2048x2048)
    (X : S8x2048x2048.Idx → ℝ) (hx : ∀ i, x i = (X i : EReal)) (i : S8x2048x2048.Idx) :
    ∃ r : ℝ, Ideal.hostReduceWindowAdd ![1, 1, 2048] ![1, 1, 1] lo hi h x 0 i = (r : EReal) := by
  unfold Ideal.hostReduceWindowAdd Host.reduceWindow
  simp only [hx]
  rw [foldl_sum]
  rw [zero_add]
  refine sum_real _ fun n => ?_
  split
  · exact ⟨_, rfl⟩
  · exact ⟨0, rfl⟩

/-- A running sum along the last axis. -/
theorem prefix_real (x : A3) (h : S8x2048x2048.ReduceWindows ![1, 1, 2048] ![1, 1, 1] ![0, 0, 2047] ![0, 0, 0] S8x2048x2048)
    (X : ℕ → ℝ) (a : Fin 8) (n m : Fin 2048) (hx : ∀ k : Fin 2048, x (ix3 a n k) = (X k : EReal)) :
    Ideal.hostReduceWindowAdd ![1, 1, 2048] ![1, 1, 1] ![0, 0, 2047] ![0, 0, 0] h x 0 (ix3 a n m) = ((∑ k ∈ Finset.range (m + 1), X k : ℝ) : EReal) := by
  unfold Ideal.hostReduceWindowAdd Host.reduceWindow
  dsimp only
  rw [foldl_sum, zero_add]
  rw [← Equiv.sum_comp ((⟨3, ![1, 1, 2048]⟩ : Shape).rowMajor), ← Equiv.sum_comp colEquiv]
  simp only [Equiv.symm_apply_apply]
  have hr : ((∑ k ∈ Finset.range (m + 1), X k : ℝ)) = ∑ w : Fin 2048, if 2047 ≤ m.val + w.val then X (m + w - 2047) else 0 := by
    rw [Fin.sum_univ_eq_sum_range (fun w => if 2047 ≤ m.val + w then X (m + w - 2047) else 0)]
    have e : Finset.range 2048 = Finset.range ((2047 - m.val) + (m.val + 1)) := congrArg _ (by omega)
    rw [e]
    conv_rhs => rw [Finset.sum_range_add]
    have hz : ∑ w ∈ Finset.range (2047 - m.val), (if 2047 ≤ m.val + w then X (m + w - 2047) else 0) = 0 :=
      Finset.sum_eq_zero (fun w hw => if_neg (by have := Finset.mem_range.mp hw; omega))
    rw [hz, zero_add]
    refine Finset.sum_congr rfl fun w hw => ?_
    rw [if_pos (by omega)]
    exact congrArg X (by omega)
  rw [hr, coe_sum Finset.univ]
  refine Finset.sum_congr rfl fun w _ => ?_
  by_cases hw : 2047 ≤ m.val + w.val
  · rw [dif_pos, if_pos hw]
    · rw [← hx ⟨m + w - 2047, by omega⟩]
      refine congrArg x ?_
      funext b
      match b with
      | ⟨0, _⟩ => exact Fin.ext (by simp)
      | ⟨1, _⟩ => exact Fin.ext (by simp)
      | ⟨2, _⟩ => exact Fin.ext (by simp)
    · intro b
      match b with
      | ⟨0, _⟩ => simp
      | ⟨1, _⟩ => simp
      | ⟨2, _⟩ => simp; omega
  · rw [dif_neg, if_neg hw]
    · rfl
    · intro hin
      have := (hin 2).1
      simp at this
      omega

/-- The logistic function. -/
def sig (z : ℝ) : ℝ := 1 / (1 + Real.exp (-z))

/-- `log (1 + e^z)`, as it is evaluated. -/
def sp (z : ℝ) : ℝ := max z 0 + Real.log (1 + Real.exp (-|z|))

theorem exp_sp (z : ℝ) : Real.exp (sp z) = 1 + Real.exp z := by
  have h : (0 : ℝ) < 1 + Real.exp (-|z|) := by positivity
  unfold sp
  rw [Real.exp_add, Real.exp_log h]
  rcases le_total z 0 with hz | hz
  · rw [max_eq_right hz, abs_of_nonpos hz, neg_neg, Real.exp_zero, one_mul]
  · rw [max_eq_left hz, abs_of_nonneg hz, mul_add, ← Real.exp_add]
    simp [add_comm]

theorem exp_sub_sp (z : ℝ) : Real.exp (z - sp z) = sig z := by
  have h : (0 : ℝ) < 1 + Real.exp z := by positivity
  rw [Real.exp_sub, exp_sp, sig, Real.exp_neg]
  have := Real.exp_pos z
  field_simp
  ring

theorem sig_neg (z : ℝ) : sig (-z) = 1 - sig z := by
  unfold sig
  have := Real.exp_pos z
  rw [neg_neg, Real.exp_neg]
  field_simp
  ring

variable (x0 : (⟨S2048x6656, .f32⟩ : BufTy).Contents (Elt Ideal)) (x1 : (⟨S2048x512, .f32⟩ : BufTy).Contents (Elt Ideal))

theorem t16_0 (i : S8x2048x2048.Idx) (z : ℝ) (h : val_main_v8 (F := Ideal) x0 i = (z : EReal)) : val_main_v16_0 (F := Ideal) x0 i = (sp z : EReal) := by
  pointwise [val_main_v16_0, val_main_call0_v4, val_main_call0_v11, val_main_call0_v1, val_main_call0_v10, val_main_call0_v9, val_main_call0_v8, val_main_call0_v7, val_main_call0_v3, val_main_call0_v0, val_main_call0_v2, val_main_call0_cst]
  have hz : FloatOps.absf (F := Ideal) (φ := .f32) (val_main_v8 (F := Ideal) x0 i) = ((|z| : ℝ) : EReal) := by rw [h, abs_coe]
  have hp : (0 : ℝ) < 1 + Real.exp (-|z|) := by positivity
  rw [if_neg (not_not.mpr rfl), hz, h, ← EReal.coe_neg, exp_coe, Ideal.log1p, ← EReal.coe_one, ← EReal.coe_add, log_coe _ hp, ← EReal.coe_zero, max_coe, ← EReal.coe_add]
  rfl

theorem t16_1 (i : S8x2048x2048.Idx) (z : ℝ) (h : val_main_v8 (F := Ideal) x0 i = (z : EReal)) : val_main_v16_1 (F := Ideal) x0 i = (sig z : EReal) := by
  have h0 := t16_0 x0 i z h
  pointwise [val_main_v16_1, val_main_call0_v21, val_main_call0_v16, val_main_call0_v20, val_main_call0_v14, val_main_call0_v18, val_main_call0_v13, val_main_call0_v17, val_main_call0_cst_0, val_main_call0_cst_2]
  rw [h0, h, bits_inf, if_neg (EReal.coe_ne_top _), if_neg (EReal.coe_ne_top _), ← EReal.coe_sub, exp_coe, exp_sub_sp]

theorem t21_in (i : S8x2048x2048.Idx) (z : ℝ) (h : val_main_v8 (F := Ideal) x0 i = (z : EReal)) : val_main_call3_v0 (F := Ideal) x0 i = ((-z : ℝ) : EReal) := by
  pointwise [val_main_call3_v0]
  rw [h, EReal.coe_neg]

theorem t21_s (i : S8x2048x2048.Idx) (z : ℝ) (h : val_main_call3_v0 (F := Ideal) x0 i = (z : EReal)) : val_main_call3_v1_0 (F := Ideal) x0 i = (sp z : EReal) := by
  pointwise [val_main_call3_v1_0, val_main_call3_call0_v4, val_main_call3_call0_v11, val_main_call3_call0_v1, val_main_call3_call0_v10, val_main_call3_call0_v9, val_main_call3_call0_v8, val_main_call3_call0_v7, val_main_call3_call0_v3, val_main_call3_call0_v0, val_main_call3_call0_v2, val_main_call3_call0_cst]
  have hz : FloatOps.absf (F := Ideal) (φ := .f32) (val_main_call3_v0 (F := Ideal) x0 i) = ((|z| : ℝ) : EReal) := by rw [h, abs_coe]
  have hp : (0 : ℝ) < 1 + Real.exp (-|z|) := by positivity
  rw [if_neg (not_not.mpr rfl), hz, h, ← EReal.coe_neg, exp_coe, Ideal.log1p, ← EReal.coe_one, ← EReal.coe_add, log_coe _ hp, ← EReal.coe_zero, max_coe, ← EReal.coe_add]
  rfl

theorem t21_0 (i : S8x2048x2048.Idx) (z : ℝ) (h : val_main_v8 (F := Ideal) x0 i = (z : EReal)) : val_main_v21_0 (F := Ideal) x0 i = ((-sp (-z) : ℝ) : EReal) := by
  pointwise [val_main_v21_0]
  rw [t21_s x0 i (-z) (t21_in x0 i z h), EReal.coe_neg]

theorem t21_1 (i : S8x2048x2048.Idx) (z : ℝ) (h : val_main_v8 (F := Ideal) x0 i = (z : EReal)) : val_main_v21_1 (F := Ideal) x0 i = ((1 - sig z : ℝ) : EReal) := by
  have h1 := t21_in x0 i z h
  have h0 := t21_s x0 i (-z) h1
  pointwise [val_main_v21_1, val_main_call3_call0_v21, val_main_call3_call0_v16, val_main_call3_call0_v20, val_main_call3_call0_v14, val_main_call3_call0_v18, val_main_call3_call0_v13, val_main_call3_call0_v17, val_main_call3_call0_cst_0, val_main_call3_call0_cst_2]
  rw [h0, h1, bits_inf, if_neg (EReal.coe_ne_top _), if_neg (EReal.coe_ne_top _), ← EReal.coe_sub, exp_coe, exp_sub_sp, sig_neg]

theorem sel {α : Type} (p : Prop) [Decidable p] (a b : α) : Scalar.select (BitVec.ofBool (decide p)) a b = if p then a else b := by
  by_cases h : p <;> simp [h, Scalar.select]

/-- The causal mask. -/
theorem mask_at (n m : Fin 2048) : val_main_v15 (F := Ideal) (ix2 n m) = BitVec.ofBool (decide (m.val < n.val)) := by
  pointwise [val_main_v15, val_main_v13, val_main_v14, val_main_v10, val_main_v12, val_main_v9, val_main_v11]
  exact WordCmp.cmpi_slt_ofNat (by omega) (by omega)

/-- The scaled queries, the keys and the values, of the projections. -/
def qF (P : ℕ → ℕ → ℝ) (n l : ℕ) : ℝ := P n (3072 + l) * (1 / 8 / Real.log 2)
def kF (P : ℕ → ℕ → ℝ) (n l : ℕ) : ℝ := P n (3584 + l)
def vF (P : ℕ → ℕ → ℝ) (n l : ℕ) : ℝ := P n (4096 + l)

/-- The products `q · k` and their scale. -/
def zR (P : ℕ → ℕ → ℝ) (h n m : ℕ) : ℝ := (∑ d : Fin 64, P n (3072 + (64 * h + d)) * P m (3584 + (64 * h + d))) * (1 / 8)

variable {x0 x1} {P C : ℕ → ℕ → ℝ}

section
variable (hP : ∀ (n : Fin 2048) (l : Fin 6656), x0 (ix2 n l) = (P n l : EReal)) (hC : ∀ (n : Fin 2048) (l : Fin 512), x1 (ix2 n l) = (C n l : EReal))

include hP in
theorem q_at (n : Fin 2048) (h : Fin 8) (d : Fin 64) : val_main_v1 (F := Ideal) x0 (ix3 n h d) = (P n (3072 + (64 * h + d)) : EReal) := by
  pointwise [val_main_v1, val_main_v0]
  exact (hP _ _).trans (congrArg (fun z => ((P n z : ℝ) : EReal)) (by dsimp only; omega))

include hP in
theorem k_at (n : Fin 2048) (h : Fin 8) (d : Fin 64) : val_main_v3 (F := Ideal) x0 (ix3 n h d) = (P n (3584 + (64 * h + d)) : EReal) := by
  pointwise [val_main_v3, val_main_v2]
  exact (hP _ _).trans (congrArg (fun z => ((P n z : ℝ) : EReal)) (by dsimp only; omega))

include hP in
theorem v_at (n : Fin 2048) (h : Fin 8) (d : Fin 64) : val_main_v5 (F := Ideal) x0 (ix3 n h d) = (P n (4096 + (64 * h + d)) : EReal) := by
  pointwise [val_main_v5, val_main_v4]
  exact (hP _ _).trans (congrArg (fun z => ((P n z : ℝ) : EReal)) (by dsimp only; omega))

include hC in
theorem d_at (n : Fin 2048) (h : Fin 8) (d : Fin 64) : val_main_v28 (F := Ideal) x1 (ix3 h d n) = (C n (64 * h + d) : EReal) := by
  pointwise [val_main_v28, val_main_v27]
  exact (hC _ _).trans (congrArg (fun z => ((C n z : ℝ) : EReal)) (by dsimp only; omega))

theorem ext3 {a b c : ℕ} (i : (⟨3, ![a, b, c]⟩ : Shape).Idx) (x : Fin a) (y : Fin b) (z : Fin c) (h0 : i 0 = x) (h1 : i 1 = y) (h2 : i 2 = z) : i = ix3 x y z := by
  rw [eq_ix3 i, h0, h1, h2]

include hP in
theorem z_at (h : Fin 8) (n m : Fin 2048) : val_main_v8 (F := Ideal) x0 (ix3 h n m) = (zR P h n m : EReal) := by
  rw [val_main_v8_apply, val_main_v6_apply]
  have e7 : val_main_v7 (F := Ideal) (ix3 h n m) = ((1 / 8 : ℝ) : EReal) := by
    pointwise [val_main_v7, val_main_cst]
    exact bits_eighth
  rw [e7, zR, EReal.coe_mul, coe_sum Finset.univ]
  refine congrArg (· * _) (Finset.sum_congr rfl fun d _ => ?_)
  rw [ext3 (lidx_main_v6 (ix3 h n m) d) n h d rfl rfl rfl, ext3 (ridx_main_v6 (ix3 h n m) d) m h d rfl rfl rfl, q_at hP, k_at hP, EReal.coe_mul]

include hP in
/-- Every weight is finite, before the mask. -/
theorem w_at : ∃ w : ℕ → ℕ → ℕ → ℝ, ∀ (h : Fin 8) (n m : Fin 2048), val_main_v23 (F := Ideal) x0 (ix3 h n m) = (w h n m : EReal) := by
  have h18 : ∀ i : S8x2048x2048.Idx, ∃ r : ℝ, val_main_v18_0 (F := Ideal) x0 i = (r : EReal) := by
    intro i
    rw [eq_ix3 i]
    generalize i 0 = h, i 1 = n, i 2 = m
    pointwise [val_main_v18_0, val_main_v17, val_main_call1_v2, val_main_call1_v0, val_main_cst_0]
    rw [t16_0 x0 _ _ (z_at hP h n m)]
    unfold Scalar.select
    split
    · exact ⟨_, (EReal.coe_neg _).symm⟩
    · exact ⟨0, Ideal.ofBits_zero_f32⟩
  choose X hX using h18
  have h23 : ∀ (h : Fin 8) (n m : Fin 2048), ∃ r : ℝ, val_main_v23 (F := Ideal) x0 (ix3 h n m) = (r : EReal) := by
    intro h n m
    obtain ⟨r, hr⟩ := window_real (val_main_v18_0 (F := Ideal) x0) reduceWindows_S8x2048x2048_S8x2048x2048_w1s1p0_0_w1s1p0_0_w2048s1p0_2047 X hX (ix3 h n m)
    have h19 : val_main_v19 (F := Ideal) x0 (ix3 h n m) = (r : EReal) := by
      rw [← hr]
      unfold val_main_v19 Host.reduceWindowAdd
      rw [Ideal.hostReduceWindowAdd_def]
      have e0 : val_main_call2_v0 (F := Ideal) (Shape.Idx.first h_S_) = 0 := by
        pointwise [val_main_call2_v0, val_main_call2_cst]
      rw [e0]
    pointwise [val_main_v23, val_main_v22, val_main_v20]
    rw [h19, hX, t21_0 x0 _ _ (z_at hP h n m), ← EReal.coe_sub, ← EReal.coe_add]
    exact ⟨_, rfl⟩
  choose w hw using h23
  refine ⟨fun h n m => if hh : h < 8 ∧ n < 2048 ∧ m < 2048 then w ⟨h, hh.1⟩ ⟨n, hh.2.1⟩ ⟨m, hh.2.2⟩ else 0, fun h n m => ?_⟩
  refine (hw h n m).trans (congrArg (fun x : ℝ => (x : EReal)) ?_)
  show w h n m = if hh : h.val < 8 ∧ n.val < 2048 ∧ m.val < 2048 then w ⟨h, hh.1⟩ ⟨n, hh.2.1⟩ ⟨m, hh.2.2⟩ else 0
  rw [dif_pos ⟨h.isLt, n.isLt, m.isLt⟩]

theorem at_mask (h : Fin 8) (n m : Fin 2048) : val_main_v24_1 (F := Ideal) (ix3 h n m) = BitVec.ofBool (decide (m.val < n.val)) := by
  rw [val_main_v24_1_apply, ← mask_at]
  exact congrArg _ (eq_ix2 _)

theorem at_mask' (h : Fin 8) (n m : Fin 2048) : val_main_v18_1 (F := Ideal) (ix3 h n m) = BitVec.ofBool (decide (m.val < n.val)) := by
  rw [val_main_v18_1_apply, ← mask_at]
  exact congrArg _ (eq_ix2 _)

variable {w : ℕ → ℕ → ℕ → ℝ} (hw : ∀ (h : Fin 8) (n m : Fin 2048), val_main_v23 (F := Ideal) x0 (ix3 h n m) = (w h n m : EReal))

/-- The weights: none on or after the diagonal. -/
def aR (w : ℕ → ℕ → ℕ → ℝ) (h n m : ℕ) : ℝ := if m < n then w h n m else 0

include hw in
theorem a_at (h : Fin 8) (n m : Fin 2048) : val_main_v24_0 (F := Ideal) x0 (ix3 h n m) = (aR w h n m : EReal) := by
  rw [val_main_v24_0_apply, at_mask, hw, sel, aR, ← ite_coe]
  refine congrArg (ite _ _) ?_
  pointwise [val_main_call4_v2, val_main_call4_v0, val_main_cst_1]
  exact Ideal.ofBits_zero_f32

open Cert.StickGradIdeal.Hand in
include hP hC hw in
/-- The gradient at a weight, times the weight. -/
theorem e_at (h : Fin 8) (n m : Fin 2048) : val_main_v33 (F := Ideal) x0 x1 (ix3 h n m) = (hE C (vF P) (aR w) h n m : EReal) := by
  rw [val_main_v33_apply, val_main_v32_apply, at_mask, hw, sel, val_main_v29_apply]
  have e5 : val_main_call5_v0 (F := Ideal) (ix3 h n m) = 0 := by pointwise [val_main_call5_v0, val_main_call5_cst]
  have es : ∑ k, val_main_v28 (F := Ideal) x1 (lidx_main_v29 (ix3 h n m) k) * val_main_v5 (F := Ideal) x0 (ridx_main_v29 (ix3 h n m) k)
      = ((∑ k : Fin 64, C n (64 * h + k) * P m (4096 + (64 * h + k)) : ℝ) : EReal) := by
    rw [coe_sum Finset.univ]
    refine Finset.sum_congr rfl fun d _ => ?_
    rw [ext3 (lidx_main_v29 (ix3 h n m) d) h d n rfl rfl rfl, ext3 (ridx_main_v29 (ix3 h n m) d) m h d rfl rfl rfl, d_at hC, v_at hP, EReal.coe_mul]
  rw [e5, es, ite_coe, hE, aR]
  refine (EReal.coe_mul _ _).symm.trans (congrArg (fun x : ℝ => (x : EReal)) ?_)
  by_cases hm : m.val < n.val
  · rw [if_pos hm, if_pos hm, mul_comm]
    rfl
  · rw [if_neg hm, if_neg hm, zero_mul, zero_mul]

/-- The base-two form of the logistic function. -/
theorem sig_two (P : ℕ → ℕ → ℝ) (h n m : ℕ) :
    Cert.StickGradIdeal.Hand.hB (qF P) (kF P) h n m = sig (zR P h n m) := by
  unfold Cert.StickGradIdeal.Hand.hB sig zR
  have hl : Real.log 2 ≠ 0 := (Real.log_pos (by norm_num)).ne'
  have e : ∑ x : Fin 64, qF P n (64 * h + x) * kF P m (64 * h + x) = (∑ d : Fin 64, P n (3072 + (64 * h + d)) * P m (3584 + (64 * h + d))) * (1 / 8) / Real.log 2 := by
    rw [Finset.sum_mul, Finset.sum_div]
    refine Finset.sum_congr rfl fun d _ => ?_
    rw [qF, kF]
    ring
  rw [e]
  refine congrArg (fun x => 1 / (1 + x)) ?_
  show (2 : ℝ) ^ (_ : ℝ) = _
  rw [Real.rpow_def_of_pos (by norm_num)]
  refine congrArg _ ?_
  field_simp
  ring

open Cert.StickGradIdeal.Hand in
include hP hC hw in
/-- The gradient at a score. -/
theorem dz_at (h : Fin 8) (n m : Fin 2048) : val_main_v43 (F := Ideal) x0 x1 (ix3 h n m)
    = ((hZ (qF P) C (kF P) (vF P) (aR w) h n m * (1 / 8) : ℝ) : EReal) := by
  have h36 : val_main_v36 (F := Ideal) x0 x1 (ix3 h n m) = ((∑ i ∈ Finset.range (m + 1), hE C (vF P) (aR w) h n i : ℝ) : EReal) := by
    rw [← prefix_real (val_main_v33 (F := Ideal) x0 x1) reduceWindows_S8x2048x2048_S8x2048x2048_w1s1p0_0_w1s1p0_0_w2048s1p2047_0 _ h n m (fun k => e_at hP hC hw h n k)]
    unfold val_main_v36 Host.reduceWindowAdd
    rw [Ideal.hostReduceWindowAdd_def]
    have e0 : val_main_call7_v0 (F := Ideal) (Shape.Idx.first h_S_) = 0 := by
      pointwise [val_main_call7_v0, val_main_call7_cst]
    rw [e0]
  have e8 : val_main_call8_v0 (F := Ideal) (ix3 h n m) = 0 := by pointwise [val_main_call8_v0, val_main_call8_cst]
  have e42 : val_main_v42 (F := Ideal) (ix3 h n m) = ((1 / 8 : ℝ) : EReal) := by
    pointwise [val_main_v42, val_main_cst_2]
    exact bits_eighth
  have hz := z_at hP h n m
  have h38 : val_main_v38 (F := Ideal) x0 x1 (ix3 h n m) = ((if m.val < n.val then ∑ i ∈ Finset.range m, hE C (vF P) (aR w) h n i else 0 : ℝ) : EReal) := by
    rw [val_main_v38_apply, at_mask', sel, e8, ← ite_coe]
    refine congrArg (fun x => ite _ x _) ?_
    pointwise [val_main_v37, val_main_v35]
    rw [h36, e_at hP hC hw, ← EReal.coe_neg, ← EReal.coe_add, Finset.sum_range_succ]
    refine congrArg (fun x : ℝ => (x : EReal)) ?_
    ring
  pointwise [val_main_v43, val_main_v41, val_main_v40, val_main_v39, val_main_v34, val_main_call6_v1, val_main_call6_v0]
  rw [h38, e42, e_at hP hC hw, t16_1 x0 _ _ hz, t21_1 x0 _ _ hz]
  simp only [← EReal.coe_neg, ← EReal.coe_mul, ← EReal.coe_add]
  refine congrArg (fun x : ℝ => (x : EReal)) ?_
  rw [hZ, sig_two]
  by_cases hm : m.val < n.val
  · rw [if_pos hm, if_pos hm]
    ring
  · have h0 : hE C (vF P) (aR w) h n m = 0 := by rw [hE, aR, if_neg hm, zero_mul]
    rw [if_neg hm, if_neg hm, h0]
    ring

theorem ln_two : val_main_v52 (F := Ideal) ix0 = ((Real.log 2 : ℝ) : EReal) := by
  pointwise [val_main_v52, val_main_cst_4]
  rw [bits_two, log_coe _ (by norm_num)]

open Cert.StickGradIdeal.Hand in
include hP hC hw in
/-- The queries' gradient. -/
theorem dq_at (n : Fin 2048) (l : Fin 512) : val_main_v50 (F := Ideal) x0 x1 (ix2 n l)
    = ((∑ m : Fin 2048, hZ (qF P) C (kF P) (vF P) (aR w) (l / 64) n m * kF P m l : ℝ) : EReal) := by
  have e8 : val_main_v49 (F := Ideal) (ix2 n l) = ((8 : ℝ) : EReal) := by
    pointwise [val_main_v49, val_main_cst_3]
    exact bits_eight
  rw [val_main_v50_apply, e8, val_main_v48_apply, val_main_v47_apply, val_main_v46_apply]
  have es : ∑ k, val_main_v43 (F := Ideal) x0 x1 (lidx_main_v46 (idx_main_v47 (idx_main_v48 (ix2 n l))) k) * val_main_v3 (F := Ideal) x0 (ridx_main_v46 (idx_main_v47 (idx_main_v48 (ix2 n l))) k)
      = ((∑ m : Fin 2048, hZ (qF P) C (kF P) (vF P) (aR w) (l / 64) n m * (1 / 8) * kF P m l : ℝ) : EReal) := by
    rw [coe_sum Finset.univ]
    refine Finset.sum_congr rfl fun m _ => ?_
    rw [ext3 (lidx_main_v46 _ m) ⟨l / 64, by omega⟩ n m (Fin.ext (by simp; omega)) (Fin.ext (by simp; omega)) rfl,
      ext3 (ridx_main_v46 _ m) m ⟨l / 64, by omega⟩ ⟨l % 64, by omega⟩ rfl (Fin.ext (by simp; omega)) (Fin.ext (by simp; omega)), dz_at hP hC hw, k_at hP, ← EReal.coe_mul]
    refine congrArg (fun x : ℝ => (x : EReal)) (congrArg₂ _ rfl ?_)
    exact congrArg (P m) (by dsimp only; omega)
  rw [es]
  refine (EReal.coe_mul _ _).symm.trans (congrArg (fun x : ℝ => (x : EReal)) ?_)
  rw [Finset.sum_mul]
  exact Finset.sum_congr rfl fun m _ => by ring

open Cert.StickGradIdeal.Hand in
include hP hC hw in
/-- The keys' gradient. -/
theorem dk_at (m : Fin 2048) (l : Fin 512) : val_main_v54 (F := Ideal) x0 x1 (ix2 m l)
    = ((∑ n : Fin 2048, hZ (qF P) C (kF P) (vF P) (aR w) (l / 64) n m * qF P n l : ℝ) : EReal) := by
  have e8 : val_main_v53 (F := Ideal) (ix2 m l) = ((Real.log 2 : ℝ) : EReal) := by
    rw [val_main_v53_apply, ← ln_two]
    exact congrArg _ (Subsingleton.elim _ _)
  rw [val_main_v54_apply, e8, val_main_v51_apply, val_main_v45_apply, val_main_v44_apply]
  have es : ∑ k, val_main_v43 (F := Ideal) x0 x1 (lidx_main_v44 (idx_main_v45 (idx_main_v51 (ix2 m l))) k) * val_main_v1 (F := Ideal) x0 (ridx_main_v44 (idx_main_v45 (idx_main_v51 (ix2 m l))) k)
      = ((∑ n : Fin 2048, hZ (qF P) C (kF P) (vF P) (aR w) (l / 64) n m * (1 / 8) * P n (3072 + l) : ℝ) : EReal) := by
    rw [coe_sum Finset.univ]
    refine Finset.sum_congr rfl fun n _ => ?_
    rw [ext3 (lidx_main_v44 _ n) ⟨l / 64, by omega⟩ n m (Fin.ext (by simp; omega)) rfl (Fin.ext (by simp; omega)),
      ext3 (ridx_main_v44 _ n) n ⟨l / 64, by omega⟩ ⟨l % 64, by omega⟩ rfl (Fin.ext (by simp; omega)) (Fin.ext (by simp; omega)), dz_at hP hC hw, q_at hP, ← EReal.coe_mul]
    refine congrArg (fun x : ℝ => (x : EReal)) (congrArg₂ _ rfl ?_)
    exact congrArg (P n) (by dsimp only; omega)
  rw [es]
  refine (div_coe _ _ (Real.log_pos (by norm_num)).ne').trans (congrArg (fun x : ℝ => (x : EReal)) ?_)
  rw [Finset.sum_div]
  refine Finset.sum_congr rfl fun n _ => ?_
  rw [qF]
  ring

open Cert.StickGradIdeal.Hand in
include hC hw in
/-- The values' gradient. -/
theorem dv_at (m : Fin 2048) (l : Fin 512) : val_main_v55 (F := Ideal) x0 x1 (ix2 m l)
    = ((∑ n : Fin 2048, aR w (l / 64) n m * C n l : ℝ) : EReal) := by
  rw [val_main_v55_apply, val_main_v31_apply, val_main_v30_apply, coe_sum Finset.univ]
  refine Finset.sum_congr rfl fun n _ => ?_
  rw [ext3 (lidx_main_v30 _ n) ⟨l / 64, by omega⟩ ⟨l % 64, by omega⟩ n (Fin.ext (by simp; omega)) (Fin.ext (by simp; omega)) rfl,
    ext3 (ridx_main_v30 _ n) ⟨l / 64, by omega⟩ n m (Fin.ext (by simp; omega)) rfl (Fin.ext (by simp; omega)), d_at hC, a_at hw, ← EReal.coe_mul]
  refine congrArg (fun x : ℝ => (x : EReal)) ((mul_comm _ _).trans (congrArg₂ _ rfl ?_))
  exact congrArg (C n) (by dsimp only; omega)

end

end Cert.StickGradRefIdeal.Hand

end
-- ==== Proof.StickHost.lean ====
/-
  The arrays the host prepares for the stick-breaking backward pass.
-/
module

public import proofs.«01_k».proof.Proof.StickRef
public import proofs.«01_k».proof.Proof.Gen.StickGradRefIdeal.Read
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.StickGradIdeal.Hand

open Cert.StickGradIdeal Cert.StickGradIdeal.Gen Cert.RealKit
open Cert.StickGradRefIdeal.Read

variable (m : (ℓ : Loc nD τ sig) → Buf (Elt Ideal) ℓ) (c : Dev nD)

set_option maxHeartbeats 2000000 in
/-- The cotangents are the second argument. -/
theorem entryC (n : Fin 2048) (l : Fin 512) : (V m c main_v34 : FVec Ideal S2048x512 .bf16) (ix2 n l) = (m (c.tc.loc main_arg1) : FVec Ideal S2048x512 .f32) (ix2 n l) := by
  unfold_abbrev_sides
  simp only [List.flatten_cons, List.flatten_nil, List.append_nil, StableHlo.after_append]
  after_reads_simp
  rfl

set_option maxHeartbeats 2000000 in
/-- Keys and values are read of the first argument. -/
theorem entryP (n : Fin 2048) (l : Fin 6656) : (V m c main_v32 : FVec Ideal S2048x6656 .bf16) (ix2 n l) = (m (c.tc.loc main_arg0) : FVec Ideal S2048x6656 .f32) (ix2 n l) := by
  unfold_abbrev_sides
  simp only [List.flatten_cons, List.flatten_nil, List.append_nil, StableHlo.after_append]
  after_reads_simp
  rfl

set_option maxHeartbeats 2000000 in
/-- The queries are scaled. -/
theorem entryQ (n : Fin 2048) (l : Fin 512) (p : ℝ) (hp : (m (c.tc.loc main_arg0) : FVec Ideal S2048x6656 .f32) (ix2 n ⟨3072 + l, by omega⟩) = (p : EReal)) :
    (V m c main_v31 : FVec Ideal S2048x512 .bf16) (ix2 n l) = ((p * (1 / 8 / Real.log 2) : ℝ) : EReal) := by
  unfold_abbrev_sides
  simp only [List.flatten_cons, List.flatten_nil, List.append_nil, StableHlo.after_append]
  after_reads_simp
  pointwise []
  rw [bits_two, log_coe _ (by norm_num), bits_eighth, div_coe _ _ (Real.log_pos (by norm_num)).ne']
  exact (congrArg (fun z : EReal => z * ((1 / 8 / Real.log 2 : ℝ) : EReal)) hp).trans (EReal.coe_mul _ _).symm

set_option maxHeartbeats 2000000 in
/-- The weights the host saves are the forward pass's. -/
theorem entryW : V m c main_v22 = val_main_v24_0 (F := Ideal) (m (c.tc.loc main_arg0)) := by
  unfold_abbrev_sides
  simp only [List.flatten_cons, List.flatten_nil, List.append_nil, StableHlo.after_append]
  after_reads_simp
  rfl

set_option maxHeartbeats 2000000 in
/-- The weights the host saves, tile by tile. -/
theorem entryT (p b : Fin 4) (j : Fin 16) (r : Fin 1024) (l : Fin 128) : (V m c main_v33 : FVec Ideal S4x4x16x1024x128 .bf16) (ix5 p b j r l) =
    (V m c main_v22 : FVec Ideal S8x2048x2048 .f32) (ix3 ⟨2 * p + r / 512, by omega⟩ ⟨512 * b + r % 512, by omega⟩ ⟨128 * j + l, by omega⟩) := by
  unfold_abbrev_sides
  simp only [List.flatten_cons, List.flatten_nil, List.append_nil, StableHlo.after_append]
  after_reads_simp
  generalize select _ _ _ = w
  pointwise []
  simp only [Nat.mul_comm]

end Cert.StickGradIdeal.Hand

end
-- ==== Proof.StickRead.lean ====
/-
  What one grid point of the stick-breaking backward pass reads of the arrays the host prepared.
-/
module

public import proofs.«01_k».proof.Proof.StickHost
public import proofs.«01_k».proof.Proof.Gen.StickGradRefIdeal.Read
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.StickGradIdeal.Hand

open Cert.StickGradIdeal Cert.StickGradIdeal.Gen Cert.RealKit
open Cert.StickGradRefIdeal.Read Cert.StickGradRefIdeal.Hand

variable (m : (ℓ : Loc nD τ sig) → Buf (Elt Ideal) ℓ) (c : Dev nD)

theorem pt {t : Fin cfg0.N} : t.val < 16 := lt_of_lt_of_eq t.isLt (show cfg0.N = 16 from N_0)

set_option maxHeartbeats 400000 in
theorem read_q (t : Fin cfg0.N) (i : Fin 512) (l : Fin 128) (hN : t.val < 16) : (iblk m c 0 t : Vec Ideal S512x128 .bf16) (ix2 i l)
    = (V m c main_v31 : FVec Ideal S2048x512 .bf16) (ix2 ⟨512 * (t.val % 4) + i, by omega⟩ ⟨128 * (t.val / 4) + l, by omega⟩) := by
  blk_point [iblk, idx t]

set_option maxHeartbeats 400000 in
theorem read_d (t : Fin cfg0.N) (i : Fin 512) (l : Fin 128) (hN : t.val < 16) : (iblk m c 4 t : Vec Ideal S512x128 .bf16) (ix2 i l)
    = (V m c main_v34 : FVec Ideal S2048x512 .bf16) (ix2 ⟨512 * (t.val % 4) + i, by omega⟩ ⟨128 * (t.val / 4) + l, by omega⟩) := by
  blk_point [iblk, idx t]

set_option maxHeartbeats 400000 in
theorem read_k (t : Fin cfg0.N) (i : Fin 2048) (l : Fin 128) (hN : t.val < 16) : (iblk m c 1 t : Vec Ideal S2048x128 .bf16) (ix2 i l)
    = (V m c main_v32 : FVec Ideal S2048x6656 .bf16) (ix2 i ⟨3584 + (128 * (t.val / 4) + l), by omega⟩) := by
  blk_point [iblk, idx t]

set_option maxHeartbeats 400000 in
theorem read_v (t : Fin cfg0.N) (i : Fin 2048) (l : Fin 128) (hN : t.val < 16) : (iblk m c 2 t : Vec Ideal S2048x128 .bf16) (ix2 i l)
    = (V m c main_v32 : FVec Ideal S2048x6656 .bf16) (ix2 i ⟨4096 + (128 * (t.val / 4) + l), by omega⟩) := by
  blk_point [iblk, idx t]

/-- Where a tile of the saved weights lies. -/
theorem emb_a (t : Fin cfg0.N) (y : S1x1x16x1024x128.Idx) (hN : t.val < 16) :
    (win0_3.blk t).view.emb y = (ix5 ⟨t.val / 4, by omega⟩ ⟨t.val % 4, by omega⟩ (y 2) (y 3) (y 4) : S4x4x16x1024x128.Idx) := by
  have h0 : ((win0_3.blk t).view.emb y 0 : ℕ) = t.val / 4 * 1 + y 0 := by blk_simp [idx t]
  have h1 : ((win0_3.blk t).view.emb y 1 : ℕ) = t.val % 4 * 1 + y 1 := by blk_simp [idx t]
  have h2 : ((win0_3.blk t).view.emb y 2 : ℕ) = y 2 := by blk_simp [idx t]
  have h3 : ((win0_3.blk t).view.emb y 3 : ℕ) = y 3 := by blk_simp [idx t]
  have h4 : ((win0_3.blk t).view.emb y 4 : ℕ) = y 4 := by blk_simp [idx t]
  have y0 : (y 0).val < 1 := (y 0).isLt
  have y1 : (y 1).val < 1 := (y 1).isLt
  funext k
  match k with
  | 0 => exact Fin.ext (h0.trans (by show _ = t.val / 4; omega))
  | 1 => exact Fin.ext (h1.trans (by show _ = t.val % 4; omega))
  | 2 => exact Fin.ext h2
  | 3 => exact Fin.ext h3
  | 4 => exact Fin.ext h4

theorem read_y (f : FVec Ideal S4x4x16x1024x128 .bf16) (t : Fin cfg0.N) (y : S1x1x16x1024x128.Idx) :
    ((cfg0.win 3).blk t).view.read (Elt Ideal) f y = f ((win0_3.blk t).view.emb y) := rfl

theorem read_a (t : Fin cfg0.N) (y : S1x1x16x1024x128.Idx) (hN : t.val < 16) : (iblk m c 3 t : Vec Ideal S1x1x16x1024x128 .bf16) y
    = (V m c main_v33 : FVec Ideal S4x4x16x1024x128 .bf16) (ix5 ⟨t.val / 4, by omega⟩ ⟨t.val % 4, by omega⟩ (y 2) (y 3) (y 4)) :=
  (read_y (V m c main_v33) t y).trans (congrArg (V m c main_v33 : FVec Ideal S4x4x16x1024x128 .bf16) (emb_a t y hN))

theorem read_tile {f : Fin 16 → Fin 1024 → Fin 128 → EReal} (t : Fin cfg0.N)
    (h : ∀ j r l, (V m c main_v33 : FVec Ideal S4x4x16x1024x128 .bf16) (ix5 ⟨t.val / 4, by have : t.val < 16 := pt; omega⟩ ⟨t.val % 4, by omega⟩ j r l) = f j r l)
    (y : S1x1x16x1024x128.Idx) : (iblk m c 3 t : Vec Ideal S1x1x16x1024x128 .bf16) y = f (y 2) (y 3) (y 4) :=
  (read_a m c t y pt).trans (h _ _ _)

variable {m c} {q d k v : ℕ → ℕ → ℝ} {a : ℕ → ℕ → ℕ → ℝ}

/-- What the grid points read, of what the host prepared. -/
theorem blocks_of (hq : ∀ (n : Fin 2048) (l : Fin 512), (V m c main_v31 : FVec Ideal S2048x512 .bf16) (ix2 n l) = (q n l : EReal))
    (hd : ∀ (n : Fin 2048) (l : Fin 512), (V m c main_v34 : FVec Ideal S2048x512 .bf16) (ix2 n l) = (d n l : EReal))
    (hk : ∀ (n : Fin 2048) (l : Fin 512), (V m c main_v32 : FVec Ideal S2048x6656 .bf16) (ix2 n ⟨3584 + l, by omega⟩) = (k n l : EReal))
    (hv : ∀ (n : Fin 2048) (l : Fin 512), (V m c main_v32 : FVec Ideal S2048x6656 .bf16) (ix2 n ⟨4096 + l, by omega⟩) = (v n l : EReal))
    (ha : ∀ (h : Fin 8) (n j : Fin 2048), (V m c main_v22 : FVec Ideal S8x2048x2048 .f32) (ix3 h n j) = (a h n j : EReal)) :
    Blocks m c q d k v a where
  q t i l := (read_q m c t i l pt).trans (hq _ _)
  d t i l := (read_d m c t i l pt).trans (hd _ _)
  k t i l := (read_k m c t i l pt).trans (hk i ⟨128 * (t.val / 4) + l, by have := @pt t; omega⟩)
  v t i l := (read_v m c t i l pt).trans (hv i ⟨128 * (t.val / 4) + l, by have := @pt t; omega⟩)
  a t j r l := read_tile m c (f := fun j r l => ((a (2 * (t.val / 4) + r / 512) (512 * (t.val % 4) + r % 512) (128 * j + l) : ℝ) : EReal)) t
    (fun j r l => (entryT _ _ _ _ _ _ _).trans (ha _ _ _)) (ix5 0 0 j r l)

end Cert.StickGradIdeal.Hand

end
-- ==== Proof.StickPre.lean ====
/-
  What the precondition says: the arguments are real numbers.
-/
module

public import proofs.«01_k».proof.Pre_stick_finite
public import proofs.«01_k».proof.Proof.RealKit
public import Idealize.ShloMosaic.Lib.Pointwise
public import Idealize.ShloMosaic.Lib.ReduceAll
public import Idealize.ShloMosaic.PureOps.Ideal

@[expose] public section

noncomputable section

open Idealize.ShloMosaic

namespace Cert.Pre_stick_finite

instance facts : Facts where
  bcast_S_S2048x6656 := by decide
  reducesTo_S2048x6656_S_d0_1 := by decide
  h_S_ := by decide
  bcast_S_S2048x512 := by decide
  reducesTo_S2048x512_S_d0_1 := by decide

/-- A number whose size is below infinity is real. -/
theorem real_of_lt (x : Ideal .f32) (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [RealKit.bits_inf] at h'
  have hlt : max (x : EReal) (-(x : EReal)) < ⊤ := by
    by_contra hn
    simp [Ideal.cmp, hn] at h'
  rw [max_lt_iff] at hlt
  induction x using EReal.rec with
  | bot => simp at hlt
  | top => simp at hlt
  | coe r => exact ⟨r, rfl⟩

theorem and_one : ∀ a b : BitVec 1, IntOp.andi a b = 1#1 → a = 1#1 ∧ b = 1#1 := by decide

/-- Under the precondition every element of both arguments is real. -/
theorem finite_of {x : FVec Ideal S2048x6656 .f32} {y : FVec Ideal S2048x512 .f32} (h : fn (F := Ideal) x y = fun _ => 1#1) :
    (∀ i, ∃ r : ℝ, x i = (r : EReal)) ∧ ∀ i, ∃ r : ℝ, y i = (r : EReal) := by
  have h0 := congrFun h (fun a => a.elim0)
  unfold fn at h0
  dsimp only at h0
  obtain ⟨h1, h2⟩ := and_one _ _ h0
  haveI : Subsingleton S_.Idx := ⟨fun a b => funext fun k => k.elim0⟩
  exact ⟨fun i => real_of_lt _ (Host.reduce_andi_all _ _ _ _ _ h1 i), fun i => real_of_lt _ (Host.reduce_andi_all _ _ _ _ _ h2 i)⟩

end Cert.Pre_stick_finite

end
-- ==== Proof.StickFinal.lean ====
/-
  The stick-breaking backward pass's result arrays are the reference's.
-/
module

public import proofs.«01_k».proof.Proof.StickRead
public import proofs.«01_k».proof.Proof.StickPre
public import proofs.«01_k».proof.Proof.Gen.StickGradRefIdeal.Read
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.StickGradIdeal.Hand

open Cert.StickGradIdeal Cert.StickGradIdeal.Gen Cert.RealKit
open Cert.StickGradRefIdeal.Read Cert.StickGradRefIdeal.Hand

variable (m : (ℓ : Loc nD τ sig) → Buf (Elt Ideal) ℓ) (c : Dev nD)

variable {m c} {q d k v : ℕ → ℕ → ℝ} {a : ℕ → ℕ → ℕ → ℝ}

theorem outsAt_eq (s s' : ℕ) (h : s < cfg0.N) (h' : s' < cfg0.N) (e : s = s') : outsAt0 m c s h = outsAt0 m c s' h' := by
  subst e; rfl

variable (B : Blocks m c q d k v a) {R : FVec Ideal S2048x512 .bf16}

set_option maxHeartbeats 1000000 in
include B in
/-- The queries' gradient. -/
theorem array5 (hR : ∀ (n : Fin 2048) (l : Fin 512), R (ix2 n l) = ((∑ j : Fin 2048, hZ q d k v a (l / 64) n j * k j l : ℝ) : EReal)) :
    (dats m 0 c).arrAt 5 (cfgs 0).N = R := by
  refine (dats m 0 c).arrAt_eq_of_covers 5 _ (by decide +kernel) fun t hf y => ?_
  have ht : t.val < 16 := lt_of_lt_of_eq t.isLt (show cfg0.N = 16 from N_0)
  have h0 : ((((View.whole main_v35_0).slice (win0_5.rect t)).emb y) 0 : ℕ) = t.val % 4 * 512 + y 0 := by blk_simp [idx t]
  have h1 : ((((View.whole main_v35_0).slice (win0_5.rect t)).emb y) 1 : ℕ) = t.val / 4 * 128 + y 1 := by blk_simp [idx t]
  blk_simp
  rw [after0_5]
  have hy0 : (y 0).val < 512 := (y 0).isLt
  have hy1 : (y 1).val < 128 := (y 1).isLt
  have hi : ((View.whole main_v35_0).slice (win0_5.rect t)).emb y = ix2 ⟨512 * (t.val % 4) + y 0, by omega⟩ ⟨128 * (t.val / 4) + y 1, by omega⟩ :=
    (eq_ix2 _).trans (congrArg₂ ix2 (Fin.ext (h0.trans (by dsimp only; omega))) (Fin.ext (h1.trans (by dsimp only; omega))))
  refine Eq.trans ?_ (congrArg R hi).symm
  have O := outs_real B (t.val / 4) (t.val % 4) (by omega) (by rw [show cfg0.N = 16 from N_0]; omega)
  rw [outsAt_eq t.val (4 * (t.val / 4) + (t.val % 4)) t.isLt (by rw [show cfg0.N = 16 from N_0]; omega) (by omega)]
  refine Eq.trans ((congrArg _ (eq_ix2 y)).trans (O.1 (y 0) (y 1))) ?_
  exact (congrArg (fun z : ℝ => (z : EReal)) (dq_sum (t.val / 4) (t.val % 4) (by omega) (y 0) (y 1))).trans (hR ⟨512 * (t.val % 4) + y 0, by omega⟩ ⟨128 * (t.val / 4) + y 1, by omega⟩).symm

set_option maxHeartbeats 1000000 in
include B in
/-- The keys' gradient. -/
theorem array6 (hR : ∀ (n : Fin 2048) (l : Fin 512), R (ix2 n l) = ((∑ j : Fin 2048, hZ q d k v a (l / 64) j n * q j l : ℝ) : EReal)) :
    (dats m 0 c).arrAt 6 (cfgs 0).N = R := by
  refine (dats m 0 c).arrAt_eq_of_covers 6 _ (by decide +kernel) fun t hf y => ?_
  have ht : t.val < 16 := lt_of_lt_of_eq t.isLt (show cfg0.N = 16 from N_0)
  have h0 : ((((View.whole main_v35_1).slice (win0_6.rect t)).emb y) 0 : ℕ) = y 0 := by blk_simp [idx t]
  have h1 : ((((View.whole main_v35_1).slice (win0_6.rect t)).emb y) 1 : ℕ) = t.val / 4 * 128 + y 1 := by blk_simp [idx t]
  blk_simp
  rw [after0_6]
  have hy0 : (y 0).val < 2048 := (y 0).isLt
  have hy1 : (y 1).val < 128 := (y 1).isLt
  have hi : ((View.whole main_v35_1).slice (win0_6.rect t)).emb y = ix2 ⟨y 0, by omega⟩ ⟨128 * (t.val / 4) + y 1, by omega⟩ :=
    (eq_ix2 _).trans (congrArg₂ ix2 (Fin.ext h0) (Fin.ext (h1.trans (by dsimp only; omega))))
  refine Eq.trans ?_ (congrArg R hi).symm
  have O := outs_real B (t.val / 4) 3 (by omega) (by rw [show cfg0.N = 16 from N_0]; omega)
  rw [outsAt_eq t.val (4 * (t.val / 4) + 3) t.isLt (by rw [show cfg0.N = 16 from N_0]; omega) (by have := (flush0_6 t).mp hf; omega)]
  refine Eq.trans ((congrArg _ (eq_ix2 y)).trans (O.2.1 (y 0) (y 1))) ?_
  exact (congrArg (fun z : ℝ => (z : EReal)) (dk_sum (t.val / 4) (y 0) (y 1))).trans (hR ⟨y 0, by omega⟩ ⟨128 * (t.val / 4) + y 1, by omega⟩).symm

set_option maxHeartbeats 1000000 in
include B in
/-- The values' gradient. -/
theorem array7 (ha : ∀ h n j, n ≤ j → a h n j = 0) (hR : ∀ (n : Fin 2048) (l : Fin 512), R (ix2 n l) = ((∑ j : Fin 2048, a (l / 64) j n * d j l : ℝ) : EReal)) :
    (dats m 0 c).arrAt 7 (cfgs 0).N = R := by
  refine (dats m 0 c).arrAt_eq_of_covers 7 _ (by decide +kernel) fun t hf y => ?_
  have ht : t.val < 16 := lt_of_lt_of_eq t.isLt (show cfg0.N = 16 from N_0)
  have h0 : ((((View.whole main_v35_2).slice (win0_7.rect t)).emb y) 0 : ℕ) = y 0 := by blk_simp [idx t]
  have h1 : ((((View.whole main_v35_2).slice (win0_7.rect t)).emb y) 1 : ℕ) = t.val / 4 * 128 + y 1 := by blk_simp [idx t]
  blk_simp
  rw [after0_7]
  have hy0 : (y 0).val < 2048 := (y 0).isLt
  have hy1 : (y 1).val < 128 := (y 1).isLt
  have hi : ((View.whole main_v35_2).slice (win0_7.rect t)).emb y = ix2 ⟨y 0, by omega⟩ ⟨128 * (t.val / 4) + y 1, by omega⟩ :=
    (eq_ix2 _).trans (congrArg₂ ix2 (Fin.ext h0) (Fin.ext (h1.trans (by dsimp only; omega))))
  refine Eq.trans ?_ (congrArg R hi).symm
  have O := outs_real B (t.val / 4) 3 (by omega) (by rw [show cfg0.N = 16 from N_0]; omega)
  rw [outsAt_eq t.val (4 * (t.val / 4) + 3) t.isLt (by rw [show cfg0.N = 16 from N_0]; omega) (by have := (flush0_7 t).mp hf; omega)]
  refine Eq.trans ((congrArg _ (eq_ix2 y)).trans (O.2.2 (y 0) (y 1))) ?_
  exact (congrArg (fun z : ℝ => (z : EReal)) (dv_sum ha (t.val / 4) (y 0) (y 1))).trans (hR ⟨y 0, by omega⟩ ⟨128 * (t.val / 4) + y 1, by omega⟩).symm

variable {P C : ℕ → ℕ → ℝ} {w : ℕ → ℕ → ℕ → ℝ}

/-- What the grid points read, of the arguments. -/
theorem blocks (hP : ∀ (n : Fin 2048) (l : Fin 6656), (m (c.tc.loc main_arg0) : FVec Ideal S2048x6656 .f32) (ix2 n l) = (P n l : EReal))
    (hC : ∀ (n : Fin 2048) (l : Fin 512), (m (c.tc.loc main_arg1) : FVec Ideal S2048x512 .f32) (ix2 n l) = (C n l : EReal))
    (hw : ∀ (h : Fin 8) (n j : Fin 2048), val_main_v23 (F := Ideal) (m (c.tc.loc main_arg0)) (ix3 h n j) = (w h n j : EReal)) :
    Blocks m c (qF P) C (kF P) (vF P) (aR w) :=
  blocks_of (fun n l => entryQ m c n l _ (hP _ _)) (fun n l => (entryC m c n l).trans (hC _ _))
    (fun n l => (entryP m c n _).trans (hP _ _)) (fun n l => (entryP m c n _).trans (hP _ _))
    (fun h n j => (congrFun (entryW m c) _).trans (a_at hw h n j))

theorem aR_zero (h n j : ℕ) (e : n ≤ j) : aR w h n j = 0 := if_neg (by omega)

/-- Of finite arguments, the three result arrays are the reference's. -/
theorem arrays (h : Cert.Pre_stick_finite.fn (F := Ideal) (m ((c : Thread nD τ).loc main_arg0)) (m ((c : Thread nD τ).loc main_arg1)) = fun _ => 1#1) :
    (dats m 0 c).arrAt 5 (cfgs 0).N = val_main_v50 (F := Ideal) (m ((c : Thread nD τ).loc main_arg0)) (m ((c : Thread nD τ).loc main_arg1)) ∧
    (dats m 0 c).arrAt 6 (cfgs 0).N = val_main_v54 (F := Ideal) (m ((c : Thread nD τ).loc main_arg0)) (m ((c : Thread nD τ).loc main_arg1)) ∧
    (dats m 0 c).arrAt 7 (cfgs 0).N = val_main_v55 (F := Ideal) (m ((c : Thread nD τ).loc main_arg0)) (m ((c : Thread nD τ).loc main_arg1)) := by
  obtain ⟨hx, hy⟩ := Cert.Pre_stick_finite.finite_of h
  choose X hX using hx
  choose Y hY using hy
  have hP : ∀ (n : Fin 2048) (l : Fin 6656), (m (c.tc.loc main_arg0) : FVec Ideal S2048x6656 .f32) (ix2 n l)
      = ((RealKit.grid2 (fun n l => X (ix2 n l)) n l : ℝ) : EReal) := fun n l => (hX _).trans (congrArg _ (RealKit.grid2_at (fun n l => X (ix2 n l)) n l).symm)
  have hC : ∀ (n : Fin 2048) (l : Fin 512), (m (c.tc.loc main_arg1) : FVec Ideal S2048x512 .f32) (ix2 n l)
      = ((RealKit.grid2 (fun n l => Y (ix2 n l)) n l : ℝ) : EReal) := fun n l => (hY _).trans (congrArg _ (RealKit.grid2_at (fun n l => Y (ix2 n l)) n l).symm)
  obtain ⟨w, hw⟩ := w_at hP
  exact ⟨array5 (blocks hP hC hw) (dq_at hP hC hw), array6 (blocks hP hC hw) (dk_at hP hC hw), array7 (blocks hP hC hw) aR_zero (dv_at hC hw)⟩

end Cert.StickGradIdeal.Hand

end
-- ==== Proof.RetReal.lean ====
/-
  Retention's gradients over the reals: what the blocks of a walk sum to, and how the decay splits between the scaled
  queries and keys and the weight of a pair of rows.
-/
module

public import proofs.«01_k».proof.Proof.RealKit

@[expose] public section

set_option maxRecDepth 16384

noncomputable section

open Idealize.ShloMosaic Idealize.ShloMosaic.TcCoe Idealize.SL.Sem

namespace Cert.Ret

open Cert.RealKit

/-- The decay between two rows, the part that the scaled queries and keys leave out. -/
def wR (g : ℝ) (r j : ℕ) : ℝ := if j ≤ r then 1 else if j / 64 = r / 64 then Real.exp (2 * g * ((j : ℝ) - r)) else 0

/-- It does not depend on where the block of the two rows lies. -/
theorem wR_shift (g : ℝ) (t r j : ℕ) : wR g (256 * t + r) (256 * t + j) = wR g r j := by
  unfold wR
  refine if_congr (by omega) rfl (if_congr (by omega) (congrArg Real.exp ?_) rfl)
  push_cast
  ring

theorem wR_past (g : ℝ) (t r j : ℕ) (h : j < 256 * t) : wR g (256 * t + r) j = 1 := if_pos (by omega)

theorem wR_later (g : ℝ) (t r j : ℕ) (hr : r < 256) (h : 256 * t + 256 ≤ j) : wR g (256 * t + r) j = 0 := by
  unfold wR
  rw [if_neg (by omega), if_neg (by omega)]

/-- The decay of reference.py: powers of the distance, between rows whose chunks see each other. -/
def decay (g : ℝ) (n m : ℕ) : ℝ := if m / 64 ≤ n / 64 then Real.exp (|(n : ℝ) - m| * g) else 0

/-- The scales of a row's query and of a row's key, and their inverses. -/
def scale (s g : ℝ) (n : ℕ) : ℝ := Real.exp (s * ((n : ℝ) - 1024) * g)

/-- The query's inverse scale turns the decay into the weight and the key's scale. -/
theorem decay_q (g : ℝ) (n m : ℕ) : decay g n m * scale (-1) g n = wR g n m * scale (-1) g m := by
  unfold decay scale wR
  by_cases h : m ≤ n
  · have hc : (m : ℝ) ≤ n := by exact_mod_cast h
    rw [if_pos (by omega), if_pos h, one_mul, abs_of_nonneg (by linarith), ← Real.exp_add]
    refine congrArg Real.exp ?_
    ring
  · have hc : (n : ℝ) < m := by exact_mod_cast Nat.not_le.mp h
    rw [if_neg h]
    by_cases h' : m / 64 = n / 64
    · rw [if_pos (by omega), if_pos h', abs_of_neg (by linarith), ← Real.exp_add, ← Real.exp_add]
      refine congrArg Real.exp ?_
      ring
    · rw [if_neg (by omega), if_neg h', zero_mul, zero_mul]

/-- The decay is the weight between a scaled query and a scaled key. -/
theorem decay_w (g : ℝ) (n m : ℕ) : decay g n m = scale 1 g n * scale (-1) g m * wR g n m := by
  have h1 : scale (-1) g n * scale 1 g n = 1 := by
    unfold scale
    rw [← Real.exp_add, ← Real.exp_zero]
    refine congrArg Real.exp ?_
    ring
  calc decay g n m = decay g n m * scale (-1) g n * scale 1 g n := by rw [mul_assoc, h1, mul_one]
    _ = _ := by rw [decay_q]; ring

/-- Half of a sum over two heads' lanes. -/
theorem half_sum (f : ℕ → ℝ) (k h : ℕ) (hk : 0 < k) (hh : h < 2) :
    ∑ e : Fin (k + k), (if h = e.val / k then f e else 0) = ∑ e : Fin k, f (k * h + e) := by
  rw [Fin.sum_univ_add]
  have e1 : ∀ x : Fin k, (Fin.castAdd k x).val / k = 0 := fun x => Nat.div_eq_of_lt x.isLt
  have e2 : ∀ x : Fin k, (Fin.natAdd k x).val / k = 1 := fun x => by
    show (k + x.val) / k = 1
    rw [Nat.add_div_left _ hk, Nat.div_eq_of_lt x.isLt]
  simp only [e1, e2]
  rcases (by omega : h = 0 ∨ h = 1) with rfl | rfl
  · simp
  · simp [Nat.add_comm]

/-- A sum over all rows, at a block that no later row reaches. -/
theorem sum_past (f : ℕ → ℝ) (t : ℕ) (ht : t < 8) (h : ∀ m, 256 * t + 256 ≤ m → f m = 0) :
    ∑ m : Fin 2048, f m = ∑ j : Fin 256, f (256 * t + j) + ∑ m ∈ Finset.range (256 * t), f m := by
  rw [← Finset.sum_range f, ← Finset.sum_subset (Finset.range_subset_range.mpr (show 256 * t + 256 ≤ 2048 by omega)) fun n _ hn =>
    h n (Nat.not_lt.mp fun h' => hn (Finset.mem_range.mpr h')), range_add, add_comm]

/-- A sum over all rows, at a block that no earlier row reaches. -/
theorem sum_later (f : ℕ → ℝ) (t : ℕ) (ht : t < 8) (h : ∀ n, n < 256 * t → f n = 0) :
    ∑ n : Fin 2048, f n = ∑ j : Fin 256, f (256 * t + j) + ∑ n ∈ Finset.Ico (256 * t + 256) 2048, f n := by
  rw [← Finset.sum_range f, ← Finset.sum_range_add_sum_Ico f (show 256 * t + 256 ≤ 2048 by omega), range_add,
    Finset.sum_eq_zero fun n hn => h n (Finset.mem_range.mp hn), zero_add]

section heads

variable (G : ℕ → ℝ) (Q K D V : ℕ → ℕ → ℝ)

/-- The gradient of a head's score of query row `n` and key row `m`, and the score itself, weighted. -/
def hD (h n m : ℕ) : ℝ := (∑ e : Fin 128, D n (128 * h + e) * V m (128 * h + e)) * wR (G h) n m
def hP (h n m : ℕ) : ℝ := (∑ e : Fin 64, Q n (64 * h + e) * K m (64 * h + e)) * wR (G h) n m

/-- A pair's state before block `t`. -/
def past (t p l e : ℕ) : ℝ := ∑ m ∈ Finset.range (256 * t), if l / 64 = e / 128 then K m (128 * p + l) * V m (256 * p + e) else 0

/-- A pair's state of the blocks after `t`. -/
def later (t p l e : ℕ) : ℝ := ∑ n ∈ Finset.Ico (256 * t + 256) 2048, if l / 64 = e / 128 then Q n (128 * p + l) * D n (256 * p + e) else 0

/-- The query gradient of an entry. -/
def dQ (n l : ℕ) : ℝ := ∑ m : Fin 2048, hD G D V (l / 64) n m * K m l
def dK (m l : ℕ) : ℝ := ∑ n : Fin 2048, hD G D V (l / 64) n m * Q n l
def dV (m e : ℕ) : ℝ := ∑ n : Fin 2048, hP G Q K (e / 128) n m * D n e

theorem past_succ (t p l e : ℕ) : past K V (t + 1) p l e
    = past K V t p l e + (if l / 64 = e / 128 then 1 else 0) * ∑ j : Fin 256, K (256 * t + j) (128 * p + l) * V (256 * t + j) (256 * p + e) := by
  unfold past
  rw [show 256 * (t + 1) = 256 * t + 256 by omega, range_add]
  refine congrArg _ ?_
  by_cases h : l / 64 = e / 128
  · simp only [if_pos h, one_mul]
  · simp only [if_neg h, zero_mul, Finset.sum_const_zero]

theorem later_succ (t p l e : ℕ) (ht : t + 1 < 8) : later Q D t p l e
    = later Q D (t + 1) p l e + (if l / 64 = e / 128 then 1 else 0) * ∑ j : Fin 256, Q (256 * (t + 1) + j) (128 * p + l) * D (256 * (t + 1) + j) (256 * p + e) := by
  unfold later
  rw [← Finset.sum_Ico_consecutive _ (show 256 * t + 256 ≤ 256 * (t + 1) + 256 by omega) (show 256 * (t + 1) + 256 ≤ 2048 by omega), add_comm]
  refine congrArg _ ?_
  rw [Finset.sum_Ico_eq_sum_range, show 256 * (t + 1) + 256 - (256 * t + 256) = 256 by omega, Finset.sum_range]
  by_cases h : l / 64 = e / 128
  · simp only [if_pos h, one_mul]
    exact Finset.sum_congr rfl fun j _ => by rw [show 256 * t + 256 + j.val = 256 * (t + 1) + j.val by omega]
  · simp only [if_neg h, zero_mul, Finset.sum_const_zero]

/-- A block's query gradient is the whole sum. -/
theorem dq_block (t p r l : ℕ) (ht : t < 8) (hr : r < 256) (hl : l < 128) :
    ∑ j : Fin 256, (∑ e : Fin 128, D (256 * t + r) (256 * p + (128 * (l / 64) + e)) * V (256 * t + j) (256 * p + (128 * (l / 64) + e))) * wR (G (2 * p + l / 64)) r j * K (256 * t + j) (128 * p + l)
      + ∑ e : Fin 256, D (256 * t + r) (256 * p + e) * past K V t p l e = dQ G K D V (256 * t + r) (128 * p + l) := by
  have eh : (128 * p + l) / 64 = 2 * p + l / 64 := by omega
  have ea : ∀ e : ℕ, 256 * p + (128 * (l / 64) + e) = 128 * (2 * p + l / 64) + e := by omega
  unfold dQ
  rw [sum_past (fun m => hD G D V ((128 * p + l) / 64) (256 * t + r) m * K m (128 * p + l)) t ht fun m hm => by
    unfold hD; rw [wR_later _ _ _ _ hr hm, mul_zero, zero_mul]]
  rw [eh]
  refine congrArg₂ (· + ·) (Finset.sum_congr rfl fun j _ => ?_) ?_
  · unfold hD
    rw [wR_shift]
    simp only [ea]
  · have e1 : ∀ e : Fin (128 + 128), D (256 * t + r) (256 * p + e) * past K V t p l e
        = if l / 64 = e.val / 128 then ∑ m ∈ Finset.range (256 * t), D (256 * t + r) (256 * p + e) * (K m (128 * p + l) * V m (256 * p + e)) else 0 := by
      intro e
      unfold past
      by_cases h : l / 64 = e.val / 128
      · simp only [if_pos h, Finset.mul_sum]
      · simp only [if_neg h, Finset.sum_const_zero, mul_zero]
    refine (Finset.sum_congr rfl fun e _ => e1 e).trans ?_
    rw [half_sum (fun e => ∑ m ∈ Finset.range (256 * t), D (256 * t + r) (256 * p + e) * (K m (128 * p + l) * V m (256 * p + e))) 128 (l / 64) (by decide) (by omega), Finset.sum_comm]
    refine Finset.sum_congr rfl fun m hm => ?_
    unfold hD
    rw [wR_past _ _ _ _ (Finset.mem_range.mp hm), mul_one, Finset.sum_mul]
    simp only [ea]
    exact Finset.sum_congr rfl fun e _ => by ring

/-- A block's key gradient is the whole sum. -/
theorem dk_block (t p r l : ℕ) (ht : t < 8) (hr : r < 256) (hl : l < 128) :
    ∑ j : Fin 256, (∑ e : Fin 128, D (256 * t + j) (256 * p + (128 * (l / 64) + e)) * V (256 * t + r) (256 * p + (128 * (l / 64) + e))) * wR (G (2 * p + l / 64)) j r * Q (256 * t + j) (128 * p + l)
      + ∑ e : Fin 256, V (256 * t + r) (256 * p + e) * later Q D t p l e = dK G Q D V (256 * t + r) (128 * p + l) := by
  have eh : (128 * p + l) / 64 = 2 * p + l / 64 := by omega
  have ea : ∀ e : ℕ, 256 * p + (128 * (l / 64) + e) = 128 * (2 * p + l / 64) + e := by omega
  unfold dK
  rw [sum_later (fun n => hD G D V ((128 * p + l) / 64) n (256 * t + r) * Q n (128 * p + l)) t ht fun n hn => by
    unfold hD wR; rw [if_neg (by omega), if_neg (by omega), mul_zero, zero_mul]]
  rw [eh]
  refine congrArg₂ (· + ·) (Finset.sum_congr rfl fun j _ => ?_) ?_
  · unfold hD
    rw [wR_shift]
    simp only [ea]
  · have e1 : ∀ e : Fin (128 + 128), V (256 * t + r) (256 * p + e) * later Q D t p l e
        = if l / 64 = e.val / 128 then ∑ n ∈ Finset.Ico (256 * t + 256) 2048, V (256 * t + r) (256 * p + e) * (Q n (128 * p + l) * D n (256 * p + e)) else 0 := by
      intro e
      unfold later
      by_cases h : l / 64 = e.val / 128
      · simp only [if_pos h, Finset.mul_sum]
      · simp only [if_neg h, Finset.sum_const_zero, mul_zero]
    refine (Finset.sum_congr rfl fun e _ => e1 e).trans ?_
    rw [half_sum (fun e => ∑ n ∈ Finset.Ico (256 * t + 256) 2048, V (256 * t + r) (256 * p + e) * (Q n (128 * p + l) * D n (256 * p + e))) 128 (l / 64) (by decide) (by omega), Finset.sum_comm]
    refine Finset.sum_congr rfl fun n hn => ?_
    have := (Finset.mem_Ico.mp hn).1
    unfold hD wR
    rw [if_pos (by omega), mul_one, Finset.sum_mul]
    simp only [ea]
    exact Finset.sum_congr rfl fun e _ => by ring

/-- A block's value gradient is the whole sum. -/
theorem dv_block (t p r e : ℕ) (ht : t < 8) (hr : r < 256) (he : e < 256) :
    ∑ j : Fin 256, (∑ x : Fin 64, Q (256 * t + j) (128 * p + (64 * (e / 128) + x)) * K (256 * t + r) (128 * p + (64 * (e / 128) + x))) * wR (G (2 * p + e / 128)) j r * D (256 * t + j) (256 * p + e)
      + ∑ l : Fin 128, K (256 * t + r) (128 * p + l) * later Q D t p l e = dV G Q K D (256 * t + r) (256 * p + e) := by
  have eh : (256 * p + e) / 128 = 2 * p + e / 128 := by omega
  have ea : ∀ x : ℕ, 128 * p + (64 * (e / 128) + x) = 64 * (2 * p + e / 128) + x := by omega
  unfold dV
  rw [sum_later (fun n => hP G Q K ((256 * p + e) / 128) n (256 * t + r) * D n (256 * p + e)) t ht fun n hn => by
    unfold hP wR; rw [if_neg (by omega), if_neg (by omega), mul_zero, zero_mul]]
  rw [eh]
  refine congrArg₂ (· + ·) (Finset.sum_congr rfl fun j _ => ?_) ?_
  · unfold hP
    rw [wR_shift]
    simp only [ea]
  · have e1 : ∀ l : Fin (64 + 64), K (256 * t + r) (128 * p + l) * later Q D t p l e
        = if e / 128 = l.val / 64 then ∑ n ∈ Finset.Ico (256 * t + 256) 2048, K (256 * t + r) (128 * p + l) * (Q n (128 * p + l) * D n (256 * p + e)) else 0 := by
      intro l
      unfold later
      by_cases h : e / 128 = l.val / 64
      · simp only [if_pos h, if_pos h.symm, Finset.mul_sum]
      · simp only [if_neg h, if_neg (Ne.symm h), Finset.sum_const_zero, mul_zero]
    refine (Finset.sum_congr rfl fun l _ => e1 l).trans ?_
    rw [half_sum (fun l => ∑ n ∈ Finset.Ico (256 * t + 256) 2048, K (256 * t + r) (128 * p + l) * (Q n (128 * p + l) * D n (256 * p + e))) 64 (e / 128) (by decide) (by omega), Finset.sum_comm]
    refine Finset.sum_congr rfl fun n hn => ?_
    have := (Finset.mem_Ico.mp hn).1
    unfold hP wR
    rw [if_pos (by omega), mul_one, Finset.sum_mul]
    simp only [ea]
    exact Finset.sum_congr rfl fun x _ => by ring

end heads

/-! What the host prepares, of the rotated queries and keys. -/

/-- Scaled queries and scaled keys. -/
def qS (G : ℕ → ℝ) (q : ℕ → ℕ → ℝ) (n l : ℕ) : ℝ := q n l * scale 1 (G (l / 64)) n
def kS (G : ℕ → ℝ) (k : ℕ → ℕ → ℝ) (n l : ℕ) : ℝ := k n l * (scale (-1) (G (l / 64)) n * (1 / 8))

section reference

variable (G : ℕ → ℝ) (q k d v : ℕ → ℕ → ℝ)

/-- The query gradient of reference.py's lines, in the units of the scaled queries. -/
theorem dq_ref (n l : ℕ) :
    (∑ m : Fin 2048, (∑ e : Fin 128, d n (128 * (l / 64) + e) * v m (128 * (l / 64) + e)) * decay (G (l / 64)) n m * (k m l * (1 / 8))) * scale (-1) (G (l / 64)) n
      = dQ G (kS G k) d v n l := by
  unfold dQ hD kS
  rw [Finset.sum_mul]
  refine Finset.sum_congr rfl fun m _ => ?_
  have h := decay_q (G (l / 64)) n m
  generalize (∑ e : Fin 128, d n (128 * (l / 64) + e) * v m (128 * (l / 64) + e)) = x
  calc x * decay (G (l / 64)) n m * (k m l * (1 / 8)) * scale (-1) (G (l / 64)) n
      = x * (decay (G (l / 64)) n m * scale (-1) (G (l / 64)) n) * (k m l * (1 / 8)) := by ring
    _ = _ := by rw [h]; ring

/-- The key gradient of reference.py's lines, in the units of the scaled keys. -/
theorem dk_ref (m l : ℕ) :
    (∑ n : Fin 2048, (∑ e : Fin 128, d n (128 * (l / 64) + e) * v m (128 * (l / 64) + e)) * decay (G (l / 64)) n m * q n l) * (1 / 8) * scale 1 (G (l / 64)) m * 8
      = dK G (qS G q) d v m l := by
  have h1 : scale (-1) (G (l / 64)) m * scale 1 (G (l / 64)) m = 1 := by
    unfold scale
    rw [← Real.exp_add, ← Real.exp_zero]
    refine congrArg Real.exp ?_
    ring
  unfold dK hD qS
  rw [show ∀ x y : ℝ, x * (1 / 8) * y * 8 = x * y from fun x y => by ring, Finset.sum_mul]
  refine Finset.sum_congr rfl fun n _ => ?_
  generalize (∑ e : Fin 128, d n (128 * (l / 64) + e) * v m (128 * (l / 64) + e)) = x
  rw [decay_w]
  calc x * (scale 1 (G (l / 64)) n * scale (-1) (G (l / 64)) m * wR (G (l / 64)) n m) * q n l * scale 1 (G (l / 64)) m
      = x * wR (G (l / 64)) n m * (q n l * scale 1 (G (l / 64)) n) * (scale (-1) (G (l / 64)) m * scale 1 (G (l / 64)) m) := by ring
    _ = _ := by rw [h1, mul_one]

/-- The value gradient of reference.py's lines. -/
theorem dv_ref (m e : ℕ) :
    ∑ n : Fin 2048, d n e * ((∑ x : Fin 64, q n (64 * (e / 128) + x) * (k m (64 * (e / 128) + x) * (1 / 8))) * decay (G (e / 128)) n m)
      = dV G (qS G q) (kS G k) d m e := by
  unfold dV hP qS kS
  refine Finset.sum_congr rfl fun n _ => ?_
  have eh : ∀ x : Fin 64, (64 * (e / 128) + x.val) / 64 = e / 128 := fun x => by omega
  simp only [eh]
  rw [decay_w, show ∑ x : Fin 64, q n (64 * (e / 128) + x) * scale 1 (G (e / 128)) n * (k m (64 * (e / 128) + x) * (scale (-1) (G (e / 128)) m * (1 / 8)))
      = (∑ x : Fin 64, q n (64 * (e / 128) + x) * (k m (64 * (e / 128) + x) * (1 / 8))) * (scale 1 (G (e / 128)) n * scale (-1) (G (e / 128)) m) from by
    rw [Finset.sum_mul]
    exact Finset.sum_congr rfl fun x _ => by ring]
  ring

end reference

end Cert.Ret

end
-- ==== Proof.RetQTile.lean ====
/-
  The operations of one pair of heads in a block of the retention's query gradient, entry by entry.
-/
module

public import proofs.«01_k».proof.Proof.RetReal
public import proofs.«01_k».proof.Proof.Gen.RetQIdeal.Skeleton
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.RetQIdeal.Hand

open Cert.RetQIdeal Cert.RetQIdeal.Gen Cert.RealKit Cert.Ret

variable {F : FTy → Type} [FloatOps F]

/-- The gradient of the scores of a pair of heads, stacked. -/
def pDs (b : BitVec 32) (g0 g1 : Elt F .f32) (v d : Vec F S256x256 .bf16) : FVec F S512x256 .bf16 :=
  k0_pay17 (k0_pay14 b g0 g1) (k0_pay15 (k0_pay6 v) (k0_pay10 d)) (k0_pay16 (k0_pay6 v) (k0_pay10 d))

/-- A pair's gradient of the queries. -/
def pDq (b : BitVec 32) (g0 g1 : Elt F .f32) (k : Vec F S256x128 .bf16) (v d : Vec F S256x256 .bf16) (s : Vec F S1x128x256 .f32) : FVec F S256x128 .bf16 :=
  k0_pay32 (k0_pay2 k) (k0_pay10 d) (pDs b g0 g1 v d) s

/-- A pair's state after the block. -/
def pSt (k : Vec F S256x128 .bf16) (v : Vec F S256x256 .bf16) (s : Vec F S1x128x256 .f32) : FVec F S1x128x256 .f32 :=
  k0_pay40 (k0_pay2 k) (k0_pay6 v) s

theorem sel {α : Type} (p : Prop) [Decidable p] (a b : α) : Scalar.select (BitVec.ofBool (decide p)) a b = if p then a else b := by
  by_cases h : p <;> simp [h, Scalar.select]

theorem row_word (b : Fin 8) (r : ℕ) (hr : r < 512) : IntOp.addi (IntOp.andi (BitVec.ofNat 32 r) 255#32) (Scalar.muli (BitVec.ofNat 32 b.val) 256#32)
    = BitVec.ofNat 32 (r % 256 + 256 * b.val) := by
  have hb := b.isLt
  refine BitVec.eq_of_toNat_eq ?_
  show ((BitVec.ofNat 32 r &&& 255#32) + BitVec.ofNat 32 b.val * 256#32).toNat = _
  have ha : r &&& 255 = r % 256 := Nat.and_two_pow_sub_one_eq_mod r 8
  have hr' : r % 2 ^ 32 = r := by omega
  simp only [BitVec.toNat_add, BitVec.toNat_mul, BitVec.toNat_and, BitVec.toNat_ofNat, hr', show 255 % 2 ^ 32 = 255 from rfl, ha]
  omega

theorem col_word (b : Fin 8) (j : ℕ) (hj : j < 256) : IntOp.addi (BitVec.ofNat 32 j) (Scalar.muli (BitVec.ofNat 32 b.val) 256#32)
    = BitVec.ofNat 32 (j + 256 * b.val) := by
  have hb := b.isLt
  refine BitVec.eq_of_toNat_eq ?_
  show (BitVec.ofNat 32 j + BitVec.ofNat 32 b.val * 256#32).toNat = _
  simp only [BitVec.toNat_add, BitVec.toNat_mul, BitVec.toNat_ofNat]
  omega

theorem chunk_word : ∀ n : Fin 2048, IntOp.shrsi .vector (BitVec.ofNat 32 n.val) 6#32 = BitVec.ofNat 32 (n.val / 64) := by decide +kernel

theorem diff_word (x y : ℕ) (hx : x < 2048) (hy : y < 2048) : (IntOp.subi (BitVec.ofNat 32 x) (BitVec.ofNat 32 y)).toInt = (x : ℤ) - y := by
  show (BitVec.ofNat 32 x - BitVec.ofNat 32 y).toInt = _
  have ex : (BitVec.ofNat 32 x).toInt = x := by rw [BitVec.toInt_eq_toNat_of_lt (by simp only [BitVec.toNat_ofNat]; omega), BitVec.toNat_ofNat, Nat.mod_eq_of_lt (by omega)]
  have ey : (BitVec.ofNat 32 y).toInt = y := by rw [BitVec.toInt_eq_toNat_of_lt (by simp only [BitVec.toNat_ofNat]; omega), BitVec.toNat_ofNat, Nat.mod_eq_of_lt (by omega)]
  rw [BitVec.toInt_sub, ex, ey]
  rw [Int.bmod_def]
  omega

theorem pay14_at (b : Fin 8) (g0 g1 : ℝ) (r : Fin 512) (j : Fin 256) :
    k0_pay14 (F := Ideal) (BitVec.ofNat 32 b.val) (g0 : EReal) (g1 : EReal) (ix2 r j)
      = (wR (if r.val < 256 then g0 else g1) (r.val % 256) j : EReal) := by
  pointwise [k0_pay14]
  have hj := j.isLt
  have hr := r.isLt
  have hb := b.isLt
  rw [row_word b _ hr, col_word b _ hj]
  rw [chunk_word ⟨j.val + 256 * b.val, by omega⟩, chunk_word ⟨r.val % 256 + 256 * b.val, by omega⟩]
  rw [WordCmp.cmpi_sle_ofNat (by omega) (by omega), WordCmp.cmpi_eq_ofNat (by omega) (by omega), WordCmp.cmpi_slt_ofNat (by omega) (by omega)]
  simp only [sel]
  rw [show FloatOps.sitofp (F := Ideal) FTy.f32 (IntOp.subi (BitVec.ofNat 32 (j.val + 256 * b.val)) (BitVec.ofNat 32 (r.val % 256 + 256 * b.val)))
      = (((j.val : ℝ) - ((r.val % 256 : ℕ) : ℝ) : ℝ) : EReal) from by
    show ((((IntOp.subi (BitVec.ofNat 32 (j.val + 256 * b.val)) (BitVec.ofNat 32 (r.val % 256 + 256 * b.val))).toInt : ℤ) : ℝ) : EReal) = _
    rw [diff_word _ _ (by omega) (by omega)]
    generalize r.val % 256 = u
    refine congrArg Real.toEReal ?_
    push_cast
    ring]
  rw [bits_two, ← apply_ite Real.toEReal]
  unfold wR
  by_cases h1 : j.val ≤ r.val % 256
  · rw [if_pos (by omega), if_pos h1]; rfl
  · rw [if_neg (by omega), if_neg h1]
    by_cases h2 : j.val / 64 = r.val % 256 / 64
    · rw [if_pos (by omega), if_pos h2, ← EReal.coe_mul, ← EReal.coe_mul, exp_coe]
    · rw [if_neg (by omega), if_neg h2]; rfl

theorem ds_at (b : BitVec 32) (g0 g1 : Elt Ideal .f32) (v d : Vec Ideal S256x256 .bf16) (r : Fin 512) (j : Fin 256) :
    pDs b g0 g1 v d (ix2 r j) = (∑ e : Fin 128, d (ix2 ⟨r.val % 256, by omega⟩ ⟨128 * (r.val / 256) + e, by omega⟩) * v (ix2 j ⟨128 * (r.val / 256) + e, by omega⟩))
      * k0_pay14 b g0 g1 (ix2 r j) := by
  pointwise [pDs, k0_pay17, k0_pay15, k0_pay16, k0_pay6, k0_pay10]
  congr 1
  have hr := r.isLt
  by_cases h : r.val < 256
  · rw [dif_pos h]
    refine Finset.sum_congr rfl fun e _ => ?_
    refine congrArg₂ _ (congrArg d (congrArg₂ ix2 (Fin.ext ?_) (Fin.ext ?_))) (congrArg v (congrArg (ix2 j) (Fin.ext ?_)))
    · show r.val = r.val % 256; omega
    · show e.val = 128 * (r.val / 256) + e.val; omega
    · show e.val = 128 * (r.val / 256) + e.val; omega
  · rw [dif_neg h]
    refine Finset.sum_congr rfl fun e _ => ?_
    refine congrArg₂ _ (congrArg d (congrArg₂ ix2 (Fin.ext ?_) (Fin.ext ?_))) (congrArg v (congrArg (ix2 j) (Fin.ext ?_)))
    · show r.val - 256 = r.val % 256; omega
    · show 128 + e.val = 128 * (r.val / 256) + e.val; omega
    · show 128 + e.val = 128 * (r.val / 256) + e.val; omega

theorem dq_at (b : BitVec 32) (g0 g1 : Elt Ideal .f32) (k : Vec Ideal S256x128 .bf16) (v d : Vec Ideal S256x256 .bf16) (s : Vec Ideal S1x128x256 .f32) (r : Fin 256) (l : Fin 128) :
    pDq b g0 g1 k v d s (ix2 r l) = (∑ j : Fin 256, pDs b g0 g1 v d (ix2 ⟨256 * (l.val / 64) + r, by omega⟩ j) * k (ix2 j l))
      + ∑ e : Fin 256, d (ix2 r e) * s (ix3 0 l e) := by
  pointwise [pDq, k0_pay32, k0_pay2, k0_pay10]
  congr 1
  have hl := l.isLt
  rw [WordCmp.cmpi_slt_ofNat (by omega) (by omega), WordCmp.cmpi_sge_ofNat (by omega) (by omega)]
  simp only [sel]
  by_cases h : l.val < 64
  · simp only [if_pos h, if_neg (show ¬ 64 ≤ l.val by omega), Finset.sum_const_zero, add_zero]
    refine Finset.sum_congr rfl fun j _ => ?_
    exact congrArg (fun a => pDs b g0 g1 v d (ix2 a j) * k (ix2 j l)) (Fin.ext (show r.val = 256 * (l.val / 64) + r.val by omega))
  · simp only [if_neg h, if_pos (show 64 ≤ l.val by omega), Finset.sum_const_zero, zero_add]
    refine Finset.sum_congr rfl fun j _ => ?_
    exact congrArg (fun a => pDs b g0 g1 v d (ix2 a j) * k (ix2 j l)) (Fin.ext (show 256 + r.val = 256 * (l.val / 64) + r.val by omega))

theorem st_at (k : Vec Ideal S256x128 .bf16) (v : Vec Ideal S256x256 .bf16) (s : Vec Ideal S1x128x256 .f32) (l : Fin 128) (e : Fin 256) :
    pSt k v s (ix3 0 l e) = s (ix3 0 l e) + (if l.val / 64 = e.val / 128 then 1 else 0) * ∑ j : Fin 256, k (ix2 j l) * v (ix2 j e) := by
  pointwise [pSt, k0_pay40, k0_pay2, k0_pay6]
  congr 2
  have hl := l.isLt
  have he := e.isLt
  rw [WordCmp.cmpi_sge_ofNat (by omega) (by omega), WordCmp.cmpi_sge_ofNat (by omega) (by omega)]
  by_cases h : 64 ≤ l.val <;> by_cases h' : 128 ≤ e.val
  all_goals
    simp only [h, h', decide_true, decide_false]
    first
      | rw [if_pos (by omega)]
        show ((((BitVec.setWidth 32 ((BitVec.ofBool _ ^^^ BitVec.ofBool _) ^^^ 1#1)).toInt : ℤ) : ℝ) : EReal) = 1
        simp
      | rw [if_neg (by omega)]
        show ((((BitVec.setWidth 32 ((BitVec.ofBool _ ^^^ BitVec.ofBool _) ^^^ 1#1)).toInt : ℤ) : ℝ) : EReal) = 0
        simp

end Cert.RetQIdeal.Hand

end
-- ==== Proof.RetQCases.lean ====
/-
  A block of the retention's query gradient, pair of heads by pair of heads: what it leaves in its result and in the
  state it carries are the operations of a pair on the pair's lanes.
-/
module

public import proofs.«01_k».proof.Proof.RetQTile
public import proofs.«01_k».proof.Proof.Gen.RetQIdeal.Frame
public import Idealize.ShloMosaic.Lib.WritesUnit

@[expose] public section

set_option maxRecDepth 16384

noncomputable section

open Idealize.ShloMosaic Idealize.ShloMosaic.TcCoe Idealize.SL.Sem

namespace Cert.RetQIdeal.Hand

open Cert.RetQIdeal Cert.RetQIdeal.Gen

variable {F : FTy → Type} [FloatOps F]

/-- A pair's lanes of the queries or keys. -/
def lanes (x : Vec F S256x512 .bf16) (p : Fin 4) : Vec F S256x128 .bf16 := fun y => x (ix2 (y 0) ⟨128 * p.val + (y 1).val, by have : (y 1).val < 128 := (y 1).isLt; omega⟩)

/-- A pair's lanes of the values or of the cotangent. -/
def wide (x : Vec F S256x1024 .bf16) (p : Fin 4) : Vec F S256x256 .bf16 := fun y => x (ix2 (y 0) ⟨256 * p.val + (y 1).val, by have : (y 1).val < 256 := (y 1).isLt; omega⟩)

/-- A pair's state. -/
def slab (x : Vec F S4x128x256 .f32) (p : Fin 4) : Vec F S1x128x256 .f32 := fun y => x (ix3 p (y 1) (y 2))

section slices

variable {sig : RefSig}

theorem read_lanes (r : Memref sig .tc .vmem S256x512 .bf16) (h : r.IsWhole) (x : Vec F S256x512 .bf16) (p : Fin 4) (off : Fin 2 → ℕ) (ho : off = ![0, 128 * p.val]) (inb) :
    r.view.readAt (Elt F) (Rect.unit (s := S256x512) off S256x128.size inb).toLoadRect (h.unread x) = lanes x p := by
  subst ho
  rw [View.readAt_eq_ld, Memref.IsWhole.read_unread]
  funext y
  refine View.ld_unit_apply_of _ _ _ _ y _ fun a => ?_
  match a with
  | ⟨0, _⟩ => exact (Nat.zero_add _).symm
  | ⟨1, _⟩ => rfl

theorem read_wide (r : Memref sig .tc .vmem S256x1024 .bf16) (h : r.IsWhole) (x : Vec F S256x1024 .bf16) (p : Fin 4) (off : Fin 2 → ℕ) (ho : off = ![0, 256 * p.val]) (inb) :
    r.view.readAt (Elt F) (Rect.unit (s := S256x1024) off S256x256.size inb).toLoadRect (h.unread x) = wide x p := by
  subst ho
  rw [View.readAt_eq_ld, Memref.IsWhole.read_unread]
  funext y
  refine View.ld_unit_apply_of _ _ _ _ y _ fun a => ?_
  match a with
  | ⟨0, _⟩ => exact (Nat.zero_add _).symm
  | ⟨1, _⟩ => rfl

theorem read_slab (r : Memref sig .tc .vmem S4x128x256 .f32) (h : r.IsWhole) (x : Vec F S4x128x256 .f32) (p : Fin 4) (off : Fin 3 → ℕ) (ho : off = ![p.val, 0, 0]) (inb) :
    r.view.readAt (Elt F) (Rect.unit (s := S4x128x256) off S1x128x256.size inb).toLoadRect (h.unread x) = slab x p := by
  subst ho
  rw [View.readAt_eq_ld, Memref.IsWhole.read_unread]
  funext y
  refine View.ld_unit_apply_of _ _ _ _ y _ fun a => ?_
  match a with
  | ⟨0, _⟩ => have h0 : (y 0).val < 1 := (y 0).isLt; show p.val = p.val + (y 0).val; omega
  | ⟨1, _⟩ => exact (Nat.zero_add _).symm
  | ⟨2, _⟩ => exact (Nat.zero_add _).symm

/-- A load of one number of the table of decays. -/
theorem read_gamma (r : Memref sig .tc .smem S8 .f32) (h : r.IsWhole) (x : Vec F S8 .f32) (n : Fin 8) (off : Fin 1 → ℕ) (ho : off = ![n.val]) (inb) (y) :
    r.view.readAt (Elt F) (Rect.unit (s := S8) off ![1] inb).toLoadRect (h.unread x) y = x (ix1 n) := by
  subst ho
  rw [View.readAt_eq_ld, Memref.IsWhole.read_unread]
  refine View.ld_unit_apply_of _ _ _ _ y _ fun a => ?_
  match a with
  | ⟨0, _⟩ => have h0 : (y 0).val < 1 := (y 0).isLt; show n.val = n.val + (y 0).val; omega

/-- Where the state is still the array `w` from a pair on, a load of that pair's state reads it. -/
theorem cov_slab (v : View sig .tc .vmem S4x128x256 .f32) (L : List (View.Piece (Elt F) S4x128x256 .f32)) (w : Vec F S4x128x256 .f32) (p : Fin 4)
    (hL : ∀ y : S4x128x256.Idx, y 0 = p → v.read (Elt F) (v.writes (Elt F) v.junk L) y = w y) (off : Fin 3 → ℕ) (ho : off = ![p.val, 0, 0]) (inb) :
    v.readCov L (Rect.unit (s := S4x128x256) off S1x128x256.size inb).toLoadRect = slab w p := by
  subst ho
  funext y
  have e : (Rect.unit (s := S4x128x256) ![p.val, 0, 0] S1x128x256.size inb).toLoadRect.idx y = ix3 p (y 1) (y 2) := by
    funext a
    refine Fin.ext ((Rect.idx_unit_val _ _ inb y a).trans ?_)
    match a with
    | ⟨0, _⟩ => have h0 : (y 0).val < 1 := (y 0).isLt; show p.val + (y 0).val = p.val; omega
    | ⟨1, _⟩ => exact Nat.zero_add _
    | ⟨2, _⟩ => exact Nat.zero_add _
  show v.read (Elt F) (v.writes (Elt F) v.junk L) ((Rect.unit (s := S4x128x256) ![p.val, 0, 0] S1x128x256.size inb).toLoadRect.idx y) = _
  rw [e]
  exact hL _ rfl

/-- A store of the whole state, then of states of other pairs. -/
theorem cov_whole (v : View sig .tc .vmem S4x128x256 .f32) (w : Vec F S4x128x256 .f32) (inb) (y : S4x128x256.Idx) (f) :
    v.read (Elt F) (v.writes (Elt F) f [⟨Rect.unit (s := S4x128x256) ![0, 0, 0] S4x128x256.size inb, w⟩]) y = w y :=
  View.read_writes_cons_unit_of_mem v f inb w [] y y rfl fun a => by
    match a with
    | ⟨0, _⟩ => exact (Nat.zero_add _).symm
    | ⟨1, _⟩ => exact (Nat.zero_add _).symm
    | ⟨2, _⟩ => exact (Nat.zero_add _).symm

theorem cov_cons (v : View sig .tc .vmem S4x128x256 .f32) (w : Vec F S1x128x256 .f32) (L) (q : ℕ) (inb) (y : S4x128x256.Idx) (f) (h : (y 0).val ≠ q) :
    v.read (Elt F) (v.writes (Elt F) f (⟨Rect.unit (s := S4x128x256) ![q, 0, 0] S1x128x256.size inb, w⟩ :: L)) y = v.read (Elt F) (v.writes (Elt F) f L) y :=
  View.read_writes_cons_unit_of_not_mem v f inb w L y rfl 0 (by show (y 0).val < q ∨ q + 1 ≤ (y 0).val; omega)

theorem cov_here (v : View sig .tc .vmem S4x128x256 .f32) (w : Vec F S1x128x256 .f32) (L) (p : Fin 4) (q : ℕ) (hq : q = p.val) (inb) (l : Fin 128) (e : Fin 256) (f) :
    v.read (Elt F) (v.writes (Elt F) f (⟨Rect.unit (s := S4x128x256) ![q, 0, 0] S1x128x256.size inb, w⟩ :: L)) (ix3 p l e) = w (ix3 0 l e) :=
  View.read_writes_cons_unit_of_mem v f inb w L _ (ix3 0 l e) rfl fun a => by
    subst hq
    match a with
    | ⟨0, _⟩ => rfl
    | ⟨1, _⟩ => exact (Nat.zero_add _).symm
    | ⟨2, _⟩ => exact (Nat.zero_add _).symm

/-- Stores of the pairs' lanes, read in the lanes of one pair. -/
theorem out_here (v : View sig .tc .vmem S256x512 .bf16) (w : Vec F S256x128 .bf16) (L) (p : Fin 4) (o : ℕ) (ho : o = 128 * p.val) (inb) (r : Fin 256) (l : Fin 128) (f) :
    v.read (Elt F) (v.writes (Elt F) f (⟨Rect.unit (s := S256x512) ![0, o] S256x128.size inb, w⟩ :: L)) (ix2 r ⟨128 * p.val + l.val, by omega⟩) = w (ix2 r l) :=
  View.read_writes_cons_unit_of_mem v f inb w L _ (ix2 r l) rfl fun a => by
    subst ho
    match a with
    | ⟨0, _⟩ => exact (Nat.zero_add _).symm
    | ⟨1, _⟩ => rfl

theorem out_cons (v : View sig .tc .vmem S256x512 .bf16) (w : Vec F S256x128 .bf16) (L) (o : ℕ) (inb) (y : S256x512.Idx) (f) (h : (y 1).val < o ∨ o + 128 ≤ (y 1).val) :
    v.read (Elt F) (v.writes (Elt F) f (⟨Rect.unit (s := S256x512) ![0, o] S256x128.size inb, w⟩ :: L)) y = v.read (Elt F) (v.writes (Elt F) f L) y :=
  View.read_writes_cons_unit_of_not_mem v f inb w L y rfl 1 h

end slices

theorem off1 (p : Fin 4) : ∀ i : grid0.Coords, k0_off1 i (BitVec.ofNat 32 p.val) = ![2 * p.val] := by
  intro i
  unfold k0_off1
  generalize (i 0) = a
  revert a p
  decide

theorem off2 (p : Fin 4) : ∀ i : grid0.Coords, k0_off2 i (BitVec.ofNat 32 p.val) = ![2 * p.val + 1] := by
  intro i
  unfold k0_off2
  generalize (i 0) = a
  revert a p
  decide

variable (c : Dev nD) (i : grid0.Coords)
  (arg2 : Memref sig .tc .smem S8 .f32) (harg2 : arg2.IsWhole) (arg3 : Memref sig .tc .vmem S256x512 .bf16) (harg3 : arg3.IsWhole)
  (arg4 : Memref sig .tc .vmem S256x512 .bf16) (harg4 : arg4.IsWhole) (arg5 : Memref sig .tc .vmem S256x1024 .bf16) (harg5 : arg5.IsWhole)
  (arg6 : Memref sig .tc .vmem S256x1024 .bf16) (harg6 : arg6.IsWhole) (arg7 : Memref sig .tc .vmem S256x512 .bf16) (harg7 : arg7.IsWhole)
  (arg8 : Memref sig .tc .vmem S4x128x256 .f32) (harg8 : arg8.IsWhole)
  (x0 : Vec F S8 .f32) (x1 : Vec F S256x512 .bf16) (x2 : Vec F S256x512 .bf16) (x3 : Vec F S256x1024 .bf16) (x4 : Vec F S256x1024 .bf16) (xs0 : Vec F S4x128x256 .f32)

/-- What a block leaves of a pair's query gradient, from the state before it. -/
def bDq (p : Fin 4) : FVec F S256x128 .bf16 :=
  pDq (BitVec.ofNat 32 (i 1).val) (x0 (ix1 ⟨2 * p.val, by omega⟩)) (x0 (ix1 ⟨2 * p.val + 1, by omega⟩)) (lanes x2 p) (wide x3 p) (wide x4 p) (slab xs0 p)

/-- What a block leaves of a pair's state. -/
def bSt (p : Fin 4) : FVec F S1x128x256 .f32 := pSt (lanes x2 p) (wide x3 p) (slab xs0 p)

/-- A pair's query gradient, over the loads that the body does. -/
theorem pDq_read (p : Fin 4) (hk hv) {s s' : Vec F S1x128x256 .f32} (h : s = s') : pDq (BitVec.ofNat 32 (i 1).val)
      (arg2.view.readAt (Elt F) (Rect.unit (s := S8) (k0_off1 i (BitVec.ofNat 32 p.val)) S1.size (k0_off1_inb i p)).toLoadRect (harg2.unread x0) (Shape.Idx.first (numel1_S1.symm ▸ Nat.one_pos)))
      (arg2.view.readAt (Elt F) (Rect.unit (s := S8) (k0_off2 i (BitVec.ofNat 32 p.val)) S1.size (k0_off2_inb i p)).toLoadRect (harg2.unread x0) (Shape.Idx.first (numel1_S1.symm ▸ Nat.one_pos)))
      (arg4.view.readAt (Elt F) (Rect.unit (s := S256x512) ![0, 128 * p.val] S256x128.size hk).toLoadRect (harg4.unread x2))
      (arg5.view.readAt (Elt F) (Rect.unit (s := S256x1024) ![0, 256 * p.val] S256x256.size hv).toLoadRect (harg5.unread x3))
      (arg6.view.readAt (Elt F) (Rect.unit (s := S256x1024) ![0, 256 * p.val] S256x256.size hv).toLoadRect (harg6.unread x4)) s
    = pDq (BitVec.ofNat 32 (i 1).val) (x0 (ix1 ⟨2 * p.val, by omega⟩)) (x0 (ix1 ⟨2 * p.val + 1, by omega⟩)) (lanes x2 p) (wide x3 p) (wide x4 p) s' := by
  subst h
  rw [read_lanes arg4 harg4 x2 p _ rfl, read_wide arg5 harg5 x3 p _ rfl, read_wide arg6 harg6 x4 p _ rfl,
    read_gamma arg2 harg2 x0 ⟨2 * p.val, by omega⟩ _ (off1 p i), read_gamma arg2 harg2 x0 ⟨2 * p.val + 1, by omega⟩ _ (off2 p i)]

/-- A pair's state, over the loads that the body does. -/
theorem pSt_read (p : Fin 4) (hk hv) {s s' : Vec F S1x128x256 .f32} (h : s = s') : pSt
      (arg4.view.readAt (Elt F) (Rect.unit (s := S256x512) ![0, 128 * p.val] S256x128.size hk).toLoadRect (harg4.unread x2))
      (arg5.view.readAt (Elt F) (Rect.unit (s := S256x1024) ![0, 256 * p.val] S256x256.size hv).toLoadRect (harg5.unread x3)) s
    = pSt (lanes x2 p) (wide x3 p) s' := by
  subst h
  rw [read_lanes arg4 harg4 x2 p _ rfl, read_wide arg5 harg5 x3 p _ rfl]

theorem out_B (hc0) (p : Fin 4) (r : Fin 256) (l : Fin 128) :
    out0_B_5 c i arg2 harg2 arg3 harg3 arg4 harg4 arg5 harg5 arg6 harg6 arg7 harg7 arg8 harg8 hc0 x0 x1 x2 x3 x4 xs0 (ix2 r ⟨128 * p.val + l.val, by omega⟩)
      = bDq i x0 x2 x3 x4 xs0 p (ix2 r l) := by
  unfold out0_B_5 kernelRun0_B
  dsimp only
  match p with
  | ⟨0, _⟩ =>
    refine (out_cons _ _ _ _ _ _ _ (Or.inl (by show 128 * 0 + l.val < 384; omega))).trans ?_
    refine (out_cons _ _ _ _ _ _ _ (Or.inl (by show 128 * 0 + l.val < 256; omega))).trans ?_
    refine (out_cons _ _ _ _ _ _ _ (Or.inl (by show 128 * 0 + l.val < 128; omega))).trans ?_
    refine (out_here _ _ _ 0 _ rfl _ r l _).trans (congrFun (Eq.trans ?_ (pDq_read i arg2 harg2 arg4 harg4 arg5 harg5 arg6 harg6 x0 x2 x3 x4 0 inb_S256x512_S256x128_0_0 inb_S256x1024_S256x256_0_0 (read_slab arg8 harg8 xs0 0 _ rfl inb_S4x128x256_S1x128x256_0_0_0))) _)
    rfl
  | ⟨1, _⟩ =>
    refine (out_cons _ _ _ _ _ _ _ (Or.inl (by show 128 * 1 + l.val < 384; omega))).trans ?_
    refine (out_cons _ _ _ _ _ _ _ (Or.inl (by show 128 * 1 + l.val < 256; omega))).trans ?_
    refine (out_here _ _ _ 1 _ rfl _ r l _).trans (congrFun (Eq.trans ?_ (pDq_read i arg2 harg2 arg4 harg4 arg5 harg5 arg6 harg6 x0 x2 x3 x4 1 inb_S256x512_S256x128_0_128 inb_S256x1024_S256x256_0_256 (read_slab arg8 harg8 xs0 1 _ rfl inb_S4x128x256_S1x128x256_1_0_0))) _)
    rfl
  | ⟨2, _⟩ =>
    refine (out_cons _ _ _ _ _ _ _ (Or.inl (by show 128 * 2 + l.val < 384; omega))).trans ?_
    refine (out_here _ _ _ 2 _ rfl _ r l _).trans (congrFun (Eq.trans ?_ (pDq_read i arg2 harg2 arg4 harg4 arg5 harg5 arg6 harg6 x0 x2 x3 x4 2 inb_S256x512_S256x128_0_256 inb_S256x1024_S256x256_0_512 (read_slab arg8 harg8 xs0 2 _ rfl inb_S4x128x256_S1x128x256_2_0_0))) _)
    rfl
  | ⟨3, _⟩ =>
    refine (out_here _ _ _ 3 _ rfl _ r l _).trans (congrFun (Eq.trans ?_ (pDq_read i arg2 harg2 arg4 harg4 arg5 harg5 arg6 harg6 x0 x2 x3 x4 3 inb_S256x512_S256x128_0_384 inb_S256x1024_S256x256_0_768 (read_slab arg8 harg8 xs0 3 _ rfl inb_S4x128x256_S1x128x256_3_0_0))) _)
    rfl

theorem sout_B (hc0) (p : Fin 4) (l : Fin 128) (e : Fin 256) :
    sout0_B_0 c i arg2 harg2 arg3 harg3 arg4 harg4 arg5 harg5 arg6 harg6 arg7 harg7 arg8 harg8 hc0 x0 x1 x2 x3 x4 xs0 (ix3 p l e)
      = bSt x2 x3 xs0 p (ix3 0 l e) := by
  unfold sout0_B_0 kernelRun0_B
  dsimp only
  match p with
  | ⟨0, _⟩ =>
    refine (cov_cons _ _ _ 3 _ _ _ (by show 0 ≠ 3; omega)).trans ?_
    refine (cov_cons _ _ _ 2 _ _ _ (by show 0 ≠ 2; omega)).trans ?_
    refine (cov_cons _ _ _ 1 _ _ _ (by show 0 ≠ 1; omega)).trans ?_
    refine (cov_here _ _ _ 0 _ rfl _ l e _).trans (congrFun (Eq.trans ?_ (pSt_read arg4 harg4 arg5 harg5 x2 x3 0 inb_S256x512_S256x128_0_0 inb_S256x1024_S256x256_0_0 (read_slab arg8 harg8 xs0 0 _ rfl inb_S4x128x256_S1x128x256_0_0_0))) _)
    rfl
  | ⟨1, _⟩ =>
    refine (cov_cons _ _ _ 3 _ _ _ (by show 1 ≠ 3; omega)).trans ?_
    refine (cov_cons _ _ _ 2 _ _ _ (by show 1 ≠ 2; omega)).trans ?_
    refine (cov_here _ _ _ 1 _ rfl _ l e _).trans (congrFun (Eq.trans ?_ (pSt_read arg4 harg4 arg5 harg5 x2 x3 1 inb_S256x512_S256x128_0_128 inb_S256x1024_S256x256_0_256 (read_slab arg8 harg8 xs0 1 _ rfl inb_S4x128x256_S1x128x256_1_0_0))) _)
    rfl
  | ⟨2, _⟩ =>
    refine (cov_cons _ _ _ 3 _ _ _ (by show 2 ≠ 3; omega)).trans ?_
    refine (cov_here _ _ _ 2 _ rfl _ l e _).trans (congrFun (Eq.trans ?_ (pSt_read arg4 harg4 arg5 harg5 x2 x3 2 inb_S256x512_S256x128_0_256 inb_S256x1024_S256x256_0_512 (read_slab arg8 harg8 xs0 2 _ rfl inb_S4x128x256_S1x128x256_2_0_0))) _)
    rfl
  | ⟨3, _⟩ =>
    refine (cov_here _ _ _ 3 _ rfl _ l e _).trans (congrFun (Eq.trans ?_ (pSt_read arg4 harg4 arg5 harg5 x2 x3 3 inb_S256x512_S256x128_0_384 inb_S256x1024_S256x256_0_768 (read_slab arg8 harg8 xs0 3 _ rfl inb_S4x128x256_S1x128x256_3_0_0))) _)
    rfl

theorem out_A (hc0) (p : Fin 4) (r : Fin 256) (l : Fin 128) :
    out0_A_5 c i arg2 harg2 arg3 harg3 arg4 harg4 arg5 harg5 arg6 harg6 arg7 harg7 arg8 harg8 hc0 x0 x1 x2 x3 x4 (ix2 r ⟨128 * p.val + l.val, by omega⟩)
      = bDq i x0 x2 x3 x4 k0_pay1 p (ix2 r l) := by
  unfold out0_A_5 kernelRun0_A
  dsimp only
  match p with
  | ⟨0, _⟩ =>
    refine (out_cons _ _ _ _ _ _ _ (Or.inl (by show 128 * 0 + l.val < 384; omega))).trans ?_
    refine (out_cons _ _ _ _ _ _ _ (Or.inl (by show 128 * 0 + l.val < 256; omega))).trans ?_
    refine (out_cons _ _ _ _ _ _ _ (Or.inl (by show 128 * 0 + l.val < 128; omega))).trans ?_
    refine (out_here _ _ _ 0 _ rfl _ r l _).trans (congrFun (Eq.trans ?_ (pDq_read i arg2 harg2 arg4 harg4 arg5 harg5 arg6 harg6 x0 x2 x3 x4 0 inb_S256x512_S256x128_0_0 inb_S256x1024_S256x256_0_0 (cov_slab arg8.view kernelRun0_A.sl.HS0_1 k0_pay1 0 (fun y _ => cov_whole _ _ _ y _) _ rfl inb_S4x128x256_S1x128x256_0_0_0))) _)
    rfl
  | ⟨1, _⟩ =>
    refine (out_cons _ _ _ _ _ _ _ (Or.inl (by show 128 * 1 + l.val < 384; omega))).trans ?_
    refine (out_cons _ _ _ _ _ _ _ (Or.inl (by show 128 * 1 + l.val < 256; omega))).trans ?_
    refine (out_here _ _ _ 1 _ rfl _ r l _).trans (congrFun (Eq.trans ?_ (pDq_read i arg2 harg2 arg4 harg4 arg5 harg5 arg6 harg6 x0 x2 x3 x4 1 inb_S256x512_S256x128_0_128 inb_S256x1024_S256x256_0_256 (cov_slab arg8.view kernelRun0_A.sl.HS0_1 k0_pay1 1 (fun y _ => cov_whole _ _ _ y _) _ rfl inb_S4x128x256_S1x128x256_1_0_0))) _)
    rfl
  | ⟨2, _⟩ =>
    refine (out_cons _ _ _ _ _ _ _ (Or.inl (by show 128 * 2 + l.val < 384; omega))).trans ?_
    refine (out_here _ _ _ 2 _ rfl _ r l _).trans (congrFun (Eq.trans ?_ (pDq_read i arg2 harg2 arg4 harg4 arg5 harg5 arg6 harg6 x0 x2 x3 x4 2 inb_S256x512_S256x128_0_256 inb_S256x1024_S256x256_0_512 (cov_slab arg8.view kernelRun0_A.sl.HS0_1 k0_pay1 2 (fun y _ => cov_whole _ _ _ y _) _ rfl inb_S4x128x256_S1x128x256_2_0_0))) _)
    rfl
  | ⟨3, _⟩ =>
    refine (out_here _ _ _ 3 _ rfl _ r l _).trans (congrFun (Eq.trans ?_ (pDq_read i arg2 harg2 arg4 harg4 arg5 harg5 arg6 harg6 x0 x2 x3 x4 3 inb_S256x512_S256x128_0_384 inb_S256x1024_S256x256_0_768 (cov_slab arg8.view kernelRun0_A.sl.HS0_1 k0_pay1 3 (fun y _ => cov_whole _ _ _ y _) _ rfl inb_S4x128x256_S1x128x256_3_0_0))) _)
    rfl

theorem sout_A (hc0) (p : Fin 4) (l : Fin 128) (e : Fin 256) :
    sout0_A_0 c i arg2 harg2 arg3 harg3 arg4 harg4 arg5 harg5 arg6 harg6 arg7 harg7 arg8 harg8 hc0 x0 x1 x2 x3 x4 (ix3 p l e)
      = bSt x2 x3 k0_pay1 p (ix3 0 l e) := by
  unfold sout0_A_0 kernelRun0_A
  dsimp only
  match p with
  | ⟨0, _⟩ =>
    unfold kernelRun0_A.sl.HS0_4 kernelRun0_A.sl.HS0_3 kernelRun0_A.sl.HS0_2 kernelRun0_A.sl.HS0_1
    refine (cov_cons _ _ _ 3 _ _ _ (by show 0 ≠ 3; omega)).trans ?_
    refine (cov_cons _ _ _ 2 _ _ _ (by show 0 ≠ 2; omega)).trans ?_
    refine (cov_cons _ _ _ 1 _ _ _ (by show 0 ≠ 1; omega)).trans ?_
    refine (cov_here _ _ _ 0 _ rfl _ l e _).trans (congrFun (Eq.trans ?_ (pSt_read arg4 harg4 arg5 harg5 x2 x3 0 inb_S256x512_S256x128_0_0 inb_S256x1024_S256x256_0_0 (cov_slab arg8.view kernelRun0_A.sl.HS0_1 k0_pay1 0 (fun y h => cov_whole _ _ _ y _) _ rfl inb_S4x128x256_S1x128x256_0_0_0))) _)
    rfl
  | ⟨1, _⟩ =>
    unfold kernelRun0_A.sl.HS0_4 kernelRun0_A.sl.HS0_3 kernelRun0_A.sl.HS0_2
    refine (cov_cons _ _ _ 3 _ _ _ (by show 1 ≠ 3; omega)).trans ?_
    refine (cov_cons _ _ _ 2 _ _ _ (by show 1 ≠ 2; omega)).trans ?_
    refine (cov_here _ _ _ 1 _ rfl _ l e _).trans (congrFun (Eq.trans ?_ (pSt_read arg4 harg4 arg5 harg5 x2 x3 1 inb_S256x512_S256x128_0_128 inb_S256x1024_S256x256_0_256 (cov_slab arg8.view (kernelRun0_A.sl.HS0_2 c arg4 harg4 arg5 harg5 arg8 x2 x3) k0_pay1 1 (fun y h => (cov_cons _ _ _ 0 _ y _ (by rw [h]; show 1 ≠ 0; omega)).trans (cov_whole _ _ _ y _)) _ rfl inb_S4x128x256_S1x128x256_1_0_0))) _)
    rfl
  | ⟨2, _⟩ =>
    unfold kernelRun0_A.sl.HS0_4 kernelRun0_A.sl.HS0_3
    refine (cov_cons _ _ _ 3 _ _ _ (by show 2 ≠ 3; omega)).trans ?_
    refine (cov_here _ _ _ 2 _ rfl _ l e _).trans (congrFun (Eq.trans ?_ (pSt_read arg4 harg4 arg5 harg5 x2 x3 2 inb_S256x512_S256x128_0_256 inb_S256x1024_S256x256_0_512 (cov_slab arg8.view (kernelRun0_A.sl.HS0_3 c arg4 harg4 arg5 harg5 arg8 x2 x3) k0_pay1 2 (fun y h => (cov_cons _ _ _ 1 _ y _ (by rw [h]; show 2 ≠ 1; omega)).trans ((cov_cons _ _ _ 0 _ y _ (by rw [h]; show 2 ≠ 0; omega)).trans (cov_whole _ _ _ y _))) _ rfl inb_S4x128x256_S1x128x256_2_0_0))) _)
    rfl
  | ⟨3, _⟩ =>
    refine (cov_here _ _ _ 3 _ rfl _ l e _).trans (congrFun (Eq.trans ?_ (pSt_read arg4 harg4 arg5 harg5 x2 x3 3 inb_S256x512_S256x128_0_384 inb_S256x1024_S256x256_0_768 (cov_slab arg8.view (kernelRun0_A.sl.HS0_4 c arg4 harg4 arg5 harg5 arg8 x2 x3) k0_pay1 3 (fun y h => (cov_cons _ _ _ 2 _ y _ (by rw [h]; show 3 ≠ 2; omega)).trans ((cov_cons _ _ _ 1 _ y _ (by rw [h]; show 3 ≠ 1; omega)).trans ((cov_cons _ _ _ 0 _ y _ (by rw [h]; show 3 ≠ 0; omega)).trans (cov_whole _ _ _ y _)))) _ rfl inb_S4x128x256_S1x128x256_3_0_0))) _)
    rfl

end Cert.RetQIdeal.Hand

end
-- ==== Proof.RetQRead.lean ====
/-
  What one grid point of the retention query pass reads of the arrays the host prepared.
-/
module

public import proofs.«01_k».proof.Proof.RetQCases
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RetQIdeal.Hand

open Cert.RetQIdeal Cert.RetQIdeal.Gen Cert.RealKit

theorem idx : ∀ t : Fin cfg0.N, win0_0.index t = ![0] ∧ win0_1.index t = ![t.val, 0] ∧ win0_2.index t = ![t.val, 1]
    ∧ win0_3.index t = ![t.val, 1] ∧ win0_4.index t = ![t.val, 0] ∧ win0_5.index t = ![t.val, 0] :=
  (by decide +kernel : ∀ t : Fin grid0.N, _)

theorem coord1 : ∀ t : Fin cfg0.N, (grid0.coords t 1).val = t.val :=
  (by decide +kernel : ∀ t : Fin grid0.N, _)

theorem pt {t : Fin cfg0.N} : t.val < 8 := lt_of_lt_of_eq t.isLt (show cfg0.N = 8 from N_0)

variable (m : (ℓ : Loc nD τ sig) → Buf (Elt Ideal) ℓ) (c : Dev nD)

set_option maxHeartbeats 400000 in
theorem read_g (t : Fin cfg0.N) (h : Fin 8) : (iblk m c 0 t : Vec Ideal S8 .f32) (ix1 h) = (V m c main_v58 : FVec Ideal S8 .f32) (ix1 h) := by
  blk_point [iblk, idx t]

set_option maxHeartbeats 400000 in
theorem read_k (t : Fin cfg0.N) (i : Fin 256) (l : Fin 512) (hN : t.val < 8) : (iblk m c 2 t : Vec Ideal S256x512 .bf16) (ix2 i l)
    = (V m c main_v49 : FVec Ideal S2048x1024 .bf16) (ix2 ⟨256 * t.val + i, by omega⟩ ⟨512 + l, by omega⟩) := by
  blk_point [iblk, idx t]

set_option maxHeartbeats 400000 in
theorem read_d (t : Fin cfg0.N) (i : Fin 256) (l : Fin 1024) (hN : t.val < 8) : (iblk m c 4 t : Vec Ideal S256x1024 .bf16) (ix2 i l)
    = (V m c main_v51 : FVec Ideal S2048x1024 .bf16) (ix2 ⟨256 * t.val + i, by omega⟩ l) := by
  blk_point [iblk, idx t]

/-- Where a block of the values lies. -/
theorem emb_v (t : Fin cfg0.N) (y : ((cfg0.win 3).xblock (cfg0.grid.coords t)).Idx) (hN : t.val < 8) (i : Fin 256) (l : Fin 1024)
    (e0 : (y 0).val = i.val) (e1 : (y 1).val = l.val) :
    (win0_3.blk t).view.emb y = (ix2 ⟨256 * t.val + i, by omega⟩ ⟨1024 + l, by omega⟩ : S2048x6656.Idx) := by
  have h0 : ((win0_3.blk t).view.emb y 0 : ℕ) = t.val * 256 + y 0 := by blk_simp [idx t]
  have h1 : ((win0_3.blk t).view.emb y 1 : ℕ) = 1024 + y 1 := by blk_simp [idx t]
  exact (eq_ix2 _).trans (congrArg₂ ix2 (Fin.ext (h0.trans (by dsimp only; omega))) (Fin.ext (h1.trans (by dsimp only; omega))))

theorem read_y (f : FVec Ideal S2048x6656 .bf16) (t : Fin cfg0.N) (y : ((cfg0.win 3).xblock (cfg0.grid.coords t)).Idx) :
    ((cfg0.win 3).blk t).view.read (Elt Ideal) f y = f ((win0_3.blk t).view.emb y) := rfl

theorem read_v (t : Fin cfg0.N) (i : Fin 256) (l : Fin 1024) (hN : t.val < 8) : (X0_3 m c t : Vec Ideal S256x1024 .bf16) (ix2 i l)
    = (V m c main_v50 : FVec Ideal S2048x6656 .bf16) (ix2 ⟨256 * t.val + i, by omega⟩ ⟨1024 + l, by omega⟩) := by
  unfold X0_3 Pipeline.Window.fill
  rw [dif_pos (moved0_3 t _)]
  exact (read_y (V m c main_v50) t _).trans (congrArg (V m c main_v50 : FVec Ideal S2048x6656 .bf16) (emb_v t _ hN i l rfl rfl))

end Cert.RetQIdeal.Hand

end
-- ==== Proof.RetQGrid.lean ====
/-
  The whole walk of the retention query pass over the reals.
-/
module

public import proofs.«01_k».proof.Proof.RetQRead
public import proofs.«01_k».proof.Proof.RetReal

@[expose] public section

set_option maxRecDepth 16384

noncomputable section

open Idealize.ShloMosaic Idealize.ShloMosaic.TcCoe Idealize.SL.Sem

namespace Cert.RetQIdeal.Hand

open Cert.RetQIdeal Cert.RetQIdeal.Gen Cert.RealKit Cert.Ret

variable (m : (ℓ : Loc nD τ sig) → Buf (Elt Ideal) ℓ) (c : Dev nD)

/-- The argument blocks of every point are finite. -/
structure Blocks (G : ℕ → ℝ) (K D V : ℕ → ℕ → ℝ) : Prop where
  g : ∀ (t : Fin cfg0.N) (h : Fin 8), (iblk m c 0 t : Vec Ideal S8 .f32) (ix1 h) = (G h : EReal)
  k : ∀ (t : Fin cfg0.N) (i : Fin 256) (l : Fin 512), (iblk m c 2 t : Vec Ideal S256x512 .bf16) (ix2 i l) = (K (256 * t.val + i) l : EReal)
  v : ∀ (t : Fin cfg0.N) (i : Fin 256) (l : Fin 1024), (X0_3 m c t : Vec Ideal S256x1024 .bf16) (ix2 i l) = (V (256 * t.val + i) l : EReal)
  d : ∀ (t : Fin cfg0.N) (i : Fin 256) (l : Fin 1024), (iblk m c 4 t : Vec Ideal S256x1024 .bf16) (ix2 i l) = (D (256 * t.val + i) l : EReal)

variable {m c} {G : ℕ → ℝ} {K D V : ℕ → ℕ → ℝ} (B : Blocks m c G K D V)

section point

variable (t : Fin cfg0.N) (s : Vec Ideal S4x128x256 .f32)
    (hs : ∀ (p : Fin 4) (l : Fin 128) (e : Fin 256), s (ix3 p l e) = (past K V t.val p l e : EReal))

include B hs in
/-- What a point writes of the result. -/
theorem dq_real (p : Fin 4) (r : Fin 256) (l : Fin 128) :
    bDq (grid0.coords t) (iblk m c 0 t : Vec Ideal S8 .f32) (iblk m c 2 t : Vec Ideal S256x512 .bf16) (X0_3 m c t : Vec Ideal S256x1024 .bf16) (iblk m c 4 t : Vec Ideal S256x1024 .bf16) s p (ix2 r l)
      = (dQ G K D V (256 * t.val + r) (128 * p.val + l) : EReal) := by
  have ht : t.val < 8 := pt
  have hr := r.isLt
  have hl := l.isLt
  have hp := p.isLt
  unfold bDq
  rw [coord1 t, B.g t, B.g t, dq_at]
  simp only [ds_at, pay14_at ⟨t.val, ht⟩]
  simp only [show ∀ j l, lanes (iblk m c 2 t : Vec Ideal S256x512 .bf16) p (ix2 j l) = ((K (256 * t.val + j) (128 * p.val + l) : ℝ) : EReal) from fun j l => B.k t j _,
    show ∀ j e, wide (X0_3 m c t : Vec Ideal S256x1024 .bf16) p (ix2 j e) = ((V (256 * t.val + j) (256 * p.val + e) : ℝ) : EReal) from fun j e => B.v t j _,
    show ∀ j e, wide (iblk m c 4 t : Vec Ideal S256x1024 .bf16) p (ix2 j e) = ((D (256 * t.val + j) (256 * p.val + e) : ℝ) : EReal) from fun j e => B.d t j _,
    show ∀ l e, slab s p (ix3 0 l e) = ((past K V t.val p l e : ℝ) : EReal) from fun l e => hs p l e]
  simp only [← EReal.coe_mul, ← coe_sum, ← EReal.coe_add]
  refine congrArg Real.toEReal ?_
  rw [← dq_block G K D V t.val p.val r.val l.val ht hr hl]
  have e1 : (256 * (l.val / 64) + r.val) % 256 = r.val := by omega
  have e2 : (256 * (l.val / 64) + r.val) / 256 = l.val / 64 := by omega
  have e3 : (if 256 * (l.val / 64) + r.val < 256 then G (2 * p.val) else G (2 * p.val + 1)) = G (2 * p.val + l.val / 64) := by
    by_cases h : l.val < 64
    · rw [if_pos (by omega), show l.val / 64 = 0 by omega]; rfl
    · rw [if_neg (by omega), show l.val / 64 = 1 by omega]
  simp only [e1, e2, e3]

include B hs in
/-- What a point leaves of the state. -/
theorem st_real (p : Fin 4) (l : Fin 128) (e : Fin 256) :
    bSt (iblk m c 2 t : Vec Ideal S256x512 .bf16) (X0_3 m c t : Vec Ideal S256x1024 .bf16) s p (ix3 0 l e) = (past K V (t.val + 1) p l e : EReal) := by
  unfold bSt
  rw [st_at]
  simp only [show ∀ j l, lanes (iblk m c 2 t : Vec Ideal S256x512 .bf16) p (ix2 j l) = ((K (256 * t.val + j) (128 * p.val + l) : ℝ) : EReal) from fun j l => B.k t j _,
    show ∀ j e, wide (X0_3 m c t : Vec Ideal S256x1024 .bf16) p (ix2 j e) = ((V (256 * t.val + j) (256 * p.val + e) : ℝ) : EReal) from fun j e => B.v t j _,
    show ∀ l e, slab s p (ix3 0 l e) = ((past K V t.val p l e : ℝ) : EReal) from fun l e => hs p l e]
  rw [past_succ, EReal.coe_add, EReal.coe_mul, coe_sum, ← ite_coe]
  simp only [EReal.coe_mul, EReal.coe_one]

end point

/-- The state that the first point begins with. -/
theorem zero_at (p : Fin 4) (l : Fin 128) (e : Fin 256) : (k0_pay1 (F := Ideal)) (ix3 p l e) = (past K V 0 p l e : EReal) := by
  pointwise [k0_pay1]
  simp [past]

/-- What a point leaves. -/
def Left (m : (ℓ : Loc nD τ sig) → Buf (Elt Ideal) ℓ) (c : Dev nD) (G : ℕ → ℝ) (K D V : ℕ → ℕ → ℝ) (n : ℕ) (hn : n < cfg0.N) : Prop :=
  (∀ (p : Fin 4) (r : Fin 256) (l : Fin 128), (outsAt0 m c n hn).1 (ix2 r ⟨128 * p.val + l.val, by omega⟩) = (dQ G K D V (256 * n + r) (128 * p.val + l) : EReal))
    ∧ (∀ (p : Fin 4) (l : Fin 128) (e : Fin 256), (outsAt0 m c n hn).2 (ix3 p l e) = (past K V (n + 1) p l e : EReal))

set_option maxHeartbeats 1000000 in
include B in
theorem left_A (t : Fin cfg0.N) (h : t.val = 0) : Left m c G K D V t.val t.isLt := by
  have z : ∀ (p : Fin 4) (l : Fin 128) (e : Fin 256), (k0_pay1 (F := Ideal)) (ix3 p l e) = (past K V t.val p l e : EReal) := fun p l e => by
    rw [h]; exact zero_at p l e
  unfold Left
  rw [outsAt0_A m c t (by rw [h])]
  dsimp only
  refine And.intro (fun p r l => ?_) (fun p l e => ?_)
  · rw [out_A]
    exact dq_real B t _ z p r l
  · rw [sout_A]
    exact st_real B t _ z p l e

set_option maxHeartbeats 1000000 in
include B in
theorem left_B (t : Fin cfg0.N) (h : ¬ t.val % 8 = 0)
    (hs : ∀ (p : Fin 4) (l : Fin 128) (e : Fin 256), (outsAt0 m c (t.val - 1) (Nat.lt_of_le_of_lt (Nat.sub_le _ _) t.isLt)).2 (ix3 p l e) = (past K V t.val p l e : EReal)) :
    Left m c G K D V t.val t.isLt := by
  unfold Left
  rw [outsAt0_B m c t h]
  dsimp only
  refine And.intro (fun p r l => ?_) (fun p l e => ?_)
  · rw [out_B]
    exact dq_real B t _ hs p r l
  · rw [sout_B]
    exact st_real B t _ hs p l e

include B in
theorem left_real : ∀ (n : ℕ) (hn : n < cfg0.N), Left m c G K D V n hn := by
  intro n
  induction n with
  | zero => exact fun hn => left_A B ⟨0, hn⟩ rfl
  | succ n ih =>
    intro hn
    have h8 : n + 1 < 8 := lt_of_lt_of_eq hn (show cfg0.N = 8 from N_0)
    exact left_B B ⟨n + 1, hn⟩ (by show ¬(n + 1) % 8 = 0; omega) (ih (Nat.lt_of_succ_lt hn)).2

variable {R : FVec Ideal S2048x512 .bf16}

set_option maxHeartbeats 1000000 in
include B in
/-- The result array. -/
theorem array5 (hR : ∀ (n : Fin 2048) (l : Fin 512), R (ix2 n l) = ((dQ G K D V n l : ℝ) : EReal)) :
    (dats m 0 c).arrAt 5 (cfgs 0).N = R := by
  refine (dats m 0 c).arrAt_eq_of_covers 5 _ (by decide +kernel) fun t hf y => ?_
  have ht : t.val < 8 := pt
  have h0 : ((((View.whole main_v59).slice (win0_5.rect t)).emb y) 0 : ℕ) = t.val * 256 + y 0 := by blk_simp [idx t]
  have h1 : ((((View.whole main_v59).slice (win0_5.rect t)).emb y) 1 : ℕ) = y 1 := by blk_simp [idx t]
  blk_simp
  rw [after0_5]
  have hy0 : (y 0).val < 256 := (y 0).isLt
  have hy1 : (y 1).val < 512 := (y 1).isLt
  have hi : ((View.whole main_v59).slice (win0_5.rect t)).emb y = ix2 ⟨256 * t.val + y 0, by omega⟩ ⟨y 1, by omega⟩ :=
    (eq_ix2 _).trans (congrArg₂ ix2 (Fin.ext (h0.trans (by dsimp only; omega))) (Fin.ext h1))
  refine Eq.trans ?_ (congrArg R hi).symm
  have O := (left_real B t.val t.isLt).1 ⟨(y 1).val / 128, by omega⟩ (y 0) ⟨(y 1).val % 128, by omega⟩
  have e : 128 * ((y 1).val / 128) + (y 1).val % 128 = (y 1).val := by omega
  have hy : y = ix2 (y 0) ⟨128 * ((y 1).val / 128) + (y 1).val % 128, by omega⟩ := (eq_ix2 _).trans (congrArg (ix2 (y 0)) (Fin.ext e.symm))
  refine (congrArg _ hy).trans (O.trans ?_)
  dsimp only
  rw [e]
  exact (hR ⟨256 * t.val + y 0, by omega⟩ ⟨y 1, by omega⟩).symm

end Cert.RetQIdeal.Hand

end
-- ==== Proof.RetGamma.lean ====
/-
  The decays of the heads of retention, over the reals.
-/
module

public import proofs.«01_k».proof.Proof.RetReal

@[expose] public section

set_option maxRecDepth 16384

noncomputable section

open Idealize.ShloMosaic Idealize.ShloMosaic.TcCoe Idealize.SL.Sem

namespace Cert.Ret

open Cert.RealKit

/-- The logarithm of a head's decay. -/
def gam (h : ℕ) : ℝ := Real.log (1 + -(Real.rpow 2 (-5 - h)))

theorem bits_minus_five : Ideal.ofBits .f32 0xC0A00000#32 = ((-5 : ℝ) : EReal) := by
  simp [Ideal.ofBits, Ideal.ieee, -EReal.coe_mul, -EReal.coe_neg]; norm_num

theorem bits_minus_one : Ideal.ofBits .f32 0xBF800000#32 = ((-1 : ℝ) : EReal) := by
  simp [Ideal.ofBits, Ideal.ieee, -EReal.coe_mul, -EReal.coe_neg]; norm_num

theorem bits_middle : Ideal.ofBits .f32 0x44800000#32 = ((1024 : ℝ) : EReal) := by
  simp [Ideal.ofBits, Ideal.ieee, -EReal.coe_mul]; norm_num

theorem sub_coe (x y : ℝ) : (x : EReal) - (y : EReal) = ((x - y : ℝ) : EReal) := (EReal.coe_sub x y).symm

theorem iota_coe (n : ℕ) (h : n < 2048) : FloatOps.sitofp (F := Ideal) FTy.f32 (BitVec.ofNat 32 n) = ((n : ℝ) : EReal) := by
  show ((((BitVec.ofNat 32 n).toInt : ℤ) : ℝ) : EReal) = _
  rw [BitVec.toInt_eq_toNat_of_lt (by simp only [BitVec.toNat_ofNat]; omega), BitVec.toNat_ofNat, Nat.mod_eq_of_lt (by omega)]
  rfl

/-- The decay, as it is computed. -/
theorem gam_coe (h : ℕ) : Ideal.log1p (-(Ideal.pow ((2 : ℝ) : EReal) (((-5 : ℝ) : EReal) - (((h : ℝ)) : EReal)))) = ((gam h : ℝ) : EReal) := by
  rw [sub_coe]
  show Ideal.log (1 + -((Real.rpow 2 (-5 - h) : ℝ) : EReal)) = _
  rw [← EReal.coe_neg, ← EReal.coe_one, ← EReal.coe_add]
  refine log_coe _ ?_
  have : Real.rpow 2 (-5 - h) < 1 := Real.rpow_lt_one_of_one_lt_of_neg (by norm_num) (by have : (0 : ℝ) ≤ h := Nat.cast_nonneg h; linarith)
  linarith

/-- A head's decay, of the head's number as a word. -/
theorem gam_word (h : ℕ) (hh : h < 2048) :
    Ideal.log1p (-(Ideal.pow ((2 : ℝ) : EReal) (((-5 : ℝ) : EReal) - FloatOps.sitofp (F := Ideal) FTy.f32 (BitVec.ofNat 32 h)))) = ((gam h : ℝ) : EReal) := by
  rw [iota_coe h hh]
  exact gam_coe h

/-- A row's scale, as it is computed. -/
theorem scale_coe (s : ℝ) (n h : ℕ) (hn : n < 2048) (hh : h < 2048) :
    Ideal.exp ((s : EReal) * (FloatOps.sitofp (F := Ideal) FTy.f32 (BitVec.ofNat 32 n) - ((1024 : ℝ) : EReal))
      * Ideal.log1p (-(Ideal.pow ((2 : ℝ) : EReal) (((-5 : ℝ) : EReal) - FloatOps.sitofp (F := Ideal) FTy.f32 (BitVec.ofNat 32 h))))) = ((scale s (gam h) n : ℝ) : EReal) := by
  rw [gam_word h hh, iota_coe n hn, sub_coe, ← EReal.coe_mul, ← EReal.coe_mul, exp_coe]
  rfl

/-- The query's scale, as it is computed. -/
theorem scale_one_coe (n h : ℕ) (hn : n < 2048) (hh : h < 2048) :
    Ideal.exp ((FloatOps.sitofp (F := Ideal) FTy.f32 (BitVec.ofNat 32 n) - ((1024 : ℝ) : EReal))
      * Ideal.log1p (-(Ideal.pow ((2 : ℝ) : EReal) (((-5 : ℝ) : EReal) - FloatOps.sitofp (F := Ideal) FTy.f32 (BitVec.ofNat 32 h))))) = ((scale 1 (gam h) n : ℝ) : EReal) := by
  rw [← scale_coe 1 n h hn hh, EReal.coe_one, one_mul]

end Cert.Ret

end
-- ==== Proof.RetQHost.lean ====
/-
  The arrays the host prepares for the retention query pass.
-/
module

public import proofs.«01_k».proof.Proof.RetQGrid
public import proofs.«01_k».proof.Proof.RetGamma
public import Idealize.ShloMosaic.Lib.StableHlo.RunRead

@[expose] public section

set_option maxRecDepth 16384

noncomputable section

open Idealize.ShloMosaic Idealize.ShloMosaic.TcCoe Idealize.SL.Sem

namespace Cert.RetQIdeal.Hand

open Cert.RetQIdeal Cert.RetQIdeal.Gen Cert.RealKit Cert.Ret

variable (m : (ℓ : Loc nD τ sig) → Buf (Elt Ideal) ℓ) (c : Dev nD)

set_option maxHeartbeats 2000000 in
/-- The decays. -/
theorem entryG (h : Fin 8) : (V m c main_v58 : FVec Ideal S8 .f32) (ix1 h) = (gam h : EReal) := by
  unfold_abbrev_sides
  after_reads_simp
  pointwise []
  rw [bits_minus_five, bits_two]
  exact gam_word h (by omega)

set_option maxHeartbeats 2000000 in
/-- The values are read of the third argument. -/
theorem entryV (n : Fin 2048) (l : Fin 6656) : (V m c main_v50 : FVec Ideal S2048x6656 .bf16) (ix2 n l) = (m (c.tc.loc main_arg2) : FVec Ideal S2048x6656 .f32) (ix2 n l) := by
  unfold_abbrev_sides
  after_reads_simp
  rfl

set_option maxHeartbeats 2000000 in
/-- The cotangents are the fourth argument. -/
theorem entryD (n : Fin 2048) (l : Fin 1024) : (V m c main_v51 : FVec Ideal S2048x1024 .bf16) (ix2 n l) = (m (c.tc.loc main_arg3) : FVec Ideal S2048x1024 .f32) (ix2 n l) := by
  unfold_abbrev_sides
  after_reads_simp
  rfl

set_option maxHeartbeats 2000000 in
/-- The keys are scaled. -/
theorem entryK (n : Fin 2048) (l : Fin 512) (p : ℝ) (hp : (m (c.tc.loc main_arg1) : FVec Ideal S2048x512 .f32) (ix2 n l) = (p : EReal)) :
    (V m c main_v49 : FVec Ideal S2048x1024 .bf16) (ix2 n ⟨512 + l, by omega⟩) = ((p * (scale (-1) (gam (l / 64)) n * (1 / 8)) : ℝ) : EReal) := by
  unfold_abbrev_sides
  after_reads_simp
  pointwise []
  after_reads_simp
  pointwise []
  rw [bits_minus_five, bits_two, bits_minus_one, bits_middle, bits_eighth]
  rw [scale_coe (-1) n (l / 64) (by omega) (by omega), ← EReal.coe_mul]
  have e : (⟨l.val / 64 * 64 + l.val % 64, by omega⟩ : Fin 512) = l := Fin.ext (by dsimp only; omega)
  refine (congrArg (fun z : EReal => z * ((scale (-1) (gam (l / 64)) n * (1 / 8) : ℝ) : EReal)) ((congrArg (fun x => (m (c.tc.loc main_arg1) : FVec Ideal S2048x512 .f32) (ix2 n x)) e).trans hp)).trans ?_
  exact (EReal.coe_mul _ _).symm

variable {m c} {k d v : ℕ → ℕ → ℝ}

/-- What the grid points read, of the arguments. -/
theorem blocks (hk : ∀ (n : Fin 2048) (l : Fin 512), (m (c.tc.loc main_arg1) : FVec Ideal S2048x512 .f32) (ix2 n l) = (k n l : EReal))
    (hv : ∀ (n : Fin 2048) (l : Fin 1024) (h : 1024 + l.val < 6656), (m (c.tc.loc main_arg2) : FVec Ideal S2048x6656 .f32) (ix2 n ⟨1024 + l, h⟩) = (v n l : EReal))
    (hd : ∀ (n : Fin 2048) (l : Fin 1024), (m (c.tc.loc main_arg3) : FVec Ideal S2048x1024 .f32) (ix2 n l) = (d n l : EReal)) :
    Blocks m c gam (kS gam k) d v where
  g t h := (read_g m c t h).trans (entryG m c h)
  k t i l := (read_k m c t i l pt).trans (entryK m c _ l _ (hk _ l))
  v t i l := (read_v m c t i l pt).trans ((entryV m c _ _).trans (hv _ l (by omega)))
  d t i l := (read_d m c t i l pt).trans ((entryD m c _ l).trans (hd _ l))

end Cert.RetQIdeal.Hand

end
-- ==== Proof.RetQRef.lean ====
/-
  The reference's query gradient of retention over the reals.
-/
module

public import proofs.«01_k».proof.Proof.RetGamma
public import proofs.«01_k».proof.Proof.Gen.RetQRefIdeal.Read
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.RetQRefIdeal.Hand

open Cert.RetQRefIdeal Cert.RetQRefIdeal.Read Cert.RealKit Cert.Ret

theorem decay_at (h : Fin 8) (n j : Fin 2048) : val_main_v36 (F := Ideal) (ix3 h n j) = ((decay (gam h) n j : ℝ) : EReal) := by
  pointwise [val_main_v36, val_main_call0_v1, val_main_call0_v2, val_main_call0_v0, val_main_cst_2, val_main_v32, val_main_v31, val_main_v30, val_main_v29, val_main_v28, val_main_v27, val_main_v26, val_main_v25, val_main_v24, val_main_v23, val_main_v22, val_main_v21, val_main_v20, val_main_v19, val_main_cst_0, val_main_v18, val_main_v17, val_main_cst, val_main_v16, val_main_v15, val_main_v14, val_main_v13, val_main_v12, val_main_v11, val_main_v10, val_main_v9, val_main_v8, val_main_v7, val_main_v6, val_main_v5, val_main_v4]
  have hn := n.isLt
  have hj := j.isLt
  rw [WordCmp.cmpi_sle_ofNat (by omega) (by omega), bits_two, bits_minus_five, gam_word h (by omega), iota_coe n hn, iota_coe j hj, sub_coe, abs_coe, ← EReal.coe_mul, exp_coe]
  rw [show (id (constant (F := Ideal) S_ FTy.f32 0#32) ix0) = ((0 : ℝ) : EReal) from by simp [constant, Ideal.ofBits, Ideal.ieee]]
  unfold decay Scalar.select
  by_cases h' : j.val / 64 ≤ n.val / 64 <;> simp [h']

section reals

variable {x1 : (⟨S2048x512, .f32⟩ : BufTy).Contents (Elt Ideal)} {x2 : (⟨S2048x6656, .f32⟩ : BufTy).Contents (Elt Ideal)} {x3 : (⟨S2048x1024, .f32⟩ : BufTy).Contents (Elt Ideal)}
  {k d v : ℕ → ℕ → ℝ} (hk : ∀ (n : Fin 2048) (l : Fin 512), x1 (ix2 n l) = (k n l : EReal))
  (hv : ∀ (n : Fin 2048) (l : Fin 1024) (h : 1024 + l.val < 6656), x2 (ix2 n ⟨1024 + l, h⟩) = (v n l : EReal))
  (hd : ∀ (n : Fin 2048) (l : Fin 1024), x3 (ix2 n l) = (d n l : EReal))

include hk in
theorem key_at (n : Fin 2048) (h : Fin 8) (l : Fin 64) : val_main_v34 (F := Ideal) x1 (ix3 n h l) = ((k n (64 * h + l) * (1 / 8) : ℝ) : EReal) := by
  pointwise [val_main_v34, val_main_v1, val_main_v33, val_main_cst_1]
  rw [bits_eighth, EReal.coe_mul]
  refine congrArg (fun z : EReal => z * ((1 / 8 : ℝ) : EReal)) ?_
  exact (hk n ⟨h.val * 64 + l.val, by omega⟩).trans (congrArg (fun z => ((k n z : ℝ) : EReal)) (show h.val * 64 + l.val = 64 * h.val + l.val by omega))

include hv hd in
theorem score_at (h : Fin 8) (n j : Fin 2048) :
    val_main_v43 (F := Ideal) x2 x3 (ix3 h n j) = (((∑ e : Fin 128, d n (128 * h + e) * v j (128 * h + e)) * decay (gam h) n j : ℝ) : EReal) := by
  pointwise [val_main_v43, val_main_v42, val_main_v41, val_main_v40, val_main_v3, val_main_v2]
  rw [decay_at, EReal.coe_mul, coe_sum]
  refine congrArg (fun z : EReal => z * ((decay (gam h) n j : ℝ) : EReal)) (Finset.sum_congr rfl fun e _ => ?_)
  rw [show 128 * h.val + e.val = h.val * 128 + e.val by omega, EReal.coe_mul]
  exact congrArg₂ (· * ·) (hd n ⟨h.val * 128 + e.val, by omega⟩) (hv j ⟨h.val * 128 + e.val, by omega⟩ (by dsimp only; omega))

include hk hv hd in
/-- The query gradient, entry by entry. -/
theorem dq_at (n : Fin 2048) (l : Fin 512) : val_main_v70 (F := Ideal) x1 x2 x3 (ix2 n l) = ((dQ gam (kS gam k) d v n l : ℝ) : EReal) := by
  pointwise [val_main_v70, val_main_v69, val_main_v68, val_main_v67, val_main_v66, val_main_v65, val_main_v64, val_main_v63, val_main_v62, val_main_v61, val_main_v60, val_main_v59, val_main_v58, val_main_v57, val_main_v56, val_main_cst_6, val_main_v55, val_main_v54, val_main_cst_5, val_main_v53, val_main_v52, val_main_v51, val_main_v50, val_main_cst_4, val_main_v49, val_main_v48, val_main_cst_3, val_main_v47, val_main_v46, val_main_v45, val_main_v44]
  rw [bits_two, bits_minus_five, bits_minus_one, bits_middle, scale_coe (-1) n (l / 64) (by omega) (by omega), ← dq_ref, EReal.coe_mul, coe_sum]
  refine congrArg (fun z : EReal => z * ((scale (-1) (gam (l / 64)) n : ℝ) : EReal)) (Finset.sum_congr rfl fun j _ => ?_)
  rw [score_at hv hd, key_at hk, ← EReal.coe_mul]
  have e : 64 * (l.val / 64) + l.val % 64 = l.val := by omega
  simp only [e]

end reals

end Cert.RetQRefIdeal.Hand

end
-- ==== Proof.RetPre.lean ====
/-
  The precondition of retention's gradients: all four arguments are finite.
-/
module

public import proofs.«01_k».proof.Proof.StickPre
public import proofs.«01_k».proof.Pre_ret_finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Pre_ret_finite

open Cert.Pre_stick_finite (real_of_lt and_one)
open Cert.RealKit

instance facts : Facts where
  bcast_S_S2048x512 := by decide
  reducesTo_S2048x512_S_d0_1 := by decide
  h_S_ := by decide
  bcast_S_S2048x6656 := by decide
  reducesTo_S2048x6656_S_d0_1 := by decide
  bcast_S_S2048x1024 := by decide
  reducesTo_S2048x1024_S_d0_1 := by decide

/-- Under the precondition the arguments are tables of reals. -/
theorem finite_of {x y : FVec Ideal S2048x512 .f32} {z : FVec Ideal S2048x6656 .f32} {w : FVec Ideal S2048x1024 .f32} (h : fn (F := Ideal) x y z w = fun _ => 1#1) :
    ∃ q k v d : ℕ → ℕ → ℝ, (∀ (n : Fin 2048) (l : Fin 512), x (ix2 n l) = (q n l : EReal)) ∧ (∀ (n : Fin 2048) (l : Fin 512), y (ix2 n l) = (k n l : EReal))
      ∧ (∀ (n : Fin 2048) (l : Fin 1024) (h : 1024 + l.val < 6656), z (ix2 n ⟨1024 + l, h⟩) = (v n l : EReal)) ∧ ∀ (n : Fin 2048) (l : Fin 1024), w (ix2 n l) = (d n l : EReal) := by
  have h0 := congrFun h (fun a => a.elim0)
  unfold fn fn_part1 at h0
  dsimp only at h0
  obtain ⟨h123, h4⟩ := and_one _ _ h0
  obtain ⟨h12, h3⟩ := and_one _ _ h123
  obtain ⟨h1, h2⟩ := and_one _ _ h12
  haveI : Subsingleton S_.Idx := ⟨fun a b => funext fun k => k.elim0⟩
  choose X hX using fun i => real_of_lt _ (Host.reduce_andi_all _ _ _ _ _ h1 i)
  choose Y hY using fun i => real_of_lt _ (Host.reduce_andi_all _ _ _ _ _ h2 i)
  choose Z hZ using fun i => real_of_lt _ (Host.reduce_andi_all _ _ _ _ _ h3 i)
  choose W hW using fun i => real_of_lt _ (Host.reduce_andi_all _ _ _ _ _ h4 i)
  exact ⟨grid2 fun n l => X (ix2 n l), grid2 fun n l => Y (ix2 n l), grid2 fun (n : Fin 2048) (l : Fin 1024) => Z (ix2 n ⟨1024 + l, by omega⟩), grid2 fun n l => W (ix2 n l),
    fun n l => (hX _).trans (congrArg _ (grid2_at (fun n l => X (ix2 n l)) n l).symm), fun n l => (hY _).trans (congrArg _ (grid2_at (fun n l => Y (ix2 n l)) n l).symm),
    fun n l _ => (hZ _).trans (congrArg _ (grid2_at (fun (n : Fin 2048) (l : Fin 1024) => Z (ix2 n ⟨1024 + l, by omega⟩)) n l).symm),
    fun n l => (hW _).trans (congrArg _ (grid2_at (fun n l => W (ix2 n l)) n l).symm)⟩

end Cert.Pre_ret_finite

end
-- ==== Proof.RetQFinal.lean ====
/-
  The retention query pass computes the reference's query gradient.
-/
module

public import proofs.«01_k».proof.Proof.RetQHost
public import proofs.«01_k».proof.Proof.RetQRef
public import proofs.«01_k».proof.Proof.RetPre

@[expose] public section

set_option maxRecDepth 16384

noncomputable section

open Idealize.ShloMosaic Idealize.ShloMosaic.TcCoe Idealize.SL.Sem

namespace Cert.RetQIdeal.Hand

open Cert.RetQIdeal Cert.RetQIdeal.Gen Cert.RealKit Cert.Ret

variable (m : (ℓ : Loc nD τ sig) → Buf (Elt Ideal) ℓ) (c : Dev nD)

/-- Of finite arguments, the result array is the reference's. -/
theorem arrays (h : Cert.Pre_ret_finite.fn (F := Ideal) (m ((c : Thread nD τ).loc main_arg0)) (m ((c : Thread nD τ).loc main_arg1)) (m ((c : Thread nD τ).loc main_arg2)) (m ((c : Thread nD τ).loc main_arg3)) = fun _ => 1#1) :
    (dats m 0 c).arrAt 5 (cfgs 0).N
      = Cert.RetQRefIdeal.Read.val_main_v70 (F := Ideal) (m ((c : Thread nD τ).loc main_arg1)) (m ((c : Thread nD τ).loc main_arg2)) (m ((c : Thread nD τ).loc main_arg3)) := by
  obtain ⟨q, k, v, d, hq, hk, hv, hd⟩ := Cert.Pre_ret_finite.finite_of h
  exact array5 (blocks hk hv hd) (Cert.RetQRefIdeal.Hand.dq_at hk hv hd)

end Cert.RetQIdeal.Hand

end
-- ==== Proof.RetKVTile.lean ====
/-
  The operations of one pair of heads in a block of the retention's key and value gradients, entry by entry.
-/
module

public import proofs.«01_k».proof.Proof.RetQTile
public import proofs.«01_k».proof.Proof.Gen.RetKVIdeal.Skeleton
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.RetKVIdeal.Hand

open Cert.RetKVIdeal Cert.RetKVIdeal.Gen Cert.RealKit Cert.Ret
open Cert.RetQIdeal.Hand (sel row_word col_word chunk_word diff_word)

variable {F : FTy → Type} [FloatOps F]

/-- The weights of a pair of heads, stacked: the queries' rows of both heads against the keys' rows. -/
def pW (b : BitVec 32) (g0 g1 : Elt F .f32) : FVec F S512x256 .f32 := k0_pay29 b k0_pay28 g0 g1

/-- The weighted scores of a pair of heads, stacked. -/
def pP (b : BitVec 32) (g0 g1 : Elt F .f32) (q k : Vec F S256x128 .bf16) : FVec F S512x256 .bf16 :=
  k0_pay31 (k0_pay9 k) (pW b g0 g1) (k0_pay30 (k0_pay5 q)) (constant S512x256 .f32 0x00000000#32)

/-- The gradient of the scores of a pair of heads, stacked. -/
def pDs (b : BitVec 32) (g0 g1 : Elt F .f32) (v d : Vec F S256x256 .bf16) : FVec F S512x256 .bf16 :=
  k0_pay32 (k0_pay13 v) (k0_pay17 d) (pW b g0 g1)

/-- A pair's gradient of the values. -/
def pDv (b : BitVec 32) (g0 g1 : Elt F .f32) (q k : Vec F S256x128 .bf16) (d : Vec F S256x256 .bf16) (s : Vec F S1x128x256 .f32) : FVec F S256x256 .bf16 :=
  k0_pay52 (k0_pay9 k) (k0_pay17 d) (pP b g0 g1 q k) s

/-- A pair's gradient of the keys. -/
def pDk (b : BitVec 32) (g0 g1 : Elt F .f32) (q : Vec F S256x128 .bf16) (v d : Vec F S256x256 .bf16) (s : Vec F S1x128x256 .f32) : FVec F S256x128 .bf16 :=
  k0_pay53 (k0_pay5 q) (k0_pay13 v) (pDs b g0 g1 v d) s

/-- A pair's state after the block. -/
def pSt (q : Vec F S256x128 .bf16) (d : Vec F S256x256 .bf16) (s : Vec F S1x128x256 .f32) : FVec F S1x128x256 .f32 :=
  k0_pay65 (k0_pay5 q) (k0_pay17 d) s

theorem w_at (b : Fin 8) (g0 g1 : ℝ) (r : Fin 512) (j : Fin 256) :
    pW (F := Ideal) (BitVec.ofNat 32 b.val) (g0 : EReal) (g1 : EReal) (ix2 r j)
      = (wR (if r.val < 256 then g0 else g1) (r.val % 256) j : EReal) := by
  pointwise [pW, k0_pay29, k0_pay28]
  have hj := j.isLt
  have hr := r.isLt
  have hb := b.isLt
  rw [row_word b _ hr, col_word b _ hj]
  rw [chunk_word ⟨j.val + 256 * b.val, by omega⟩, chunk_word ⟨r.val % 256 + 256 * b.val, by omega⟩]
  rw [WordCmp.cmpi_sle_ofNat (by omega) (by omega), WordCmp.cmpi_eq_ofNat (by omega) (by omega), WordCmp.cmpi_slt_ofNat (by omega) (by omega)]
  simp only [sel]
  rw [show FloatOps.sitofp (F := Ideal) FTy.f32 (IntOp.subi (BitVec.ofNat 32 (j.val + 256 * b.val)) (BitVec.ofNat 32 (r.val % 256 + 256 * b.val)))
      = (((j.val : ℝ) - ((r.val % 256 : ℕ) : ℝ) : ℝ) : EReal) from by
    show ((((IntOp.subi (BitVec.ofNat 32 (j.val + 256 * b.val)) (BitVec.ofNat 32 (r.val % 256 + 256 * b.val))).toInt : ℤ) : ℝ) : EReal) = _
    rw [diff_word _ _ (by omega) (by omega)]
    generalize r.val % 256 = u
    refine congrArg Real.toEReal ?_
    push_cast
    ring]
  rw [bits_two, ← apply_ite Real.toEReal]
  unfold wR
  by_cases h1 : j.val ≤ r.val % 256
  · rw [if_pos (by omega), if_pos h1]; rfl
  · rw [if_neg (by omega), if_neg h1]
    by_cases h2 : j.val / 64 = r.val % 256 / 64
    · rw [if_pos (by omega), if_pos h2, ← EReal.coe_mul, ← EReal.coe_mul, exp_coe]
    · rw [if_neg (by omega), if_neg h2]; rfl

theorem ds_at (b : BitVec 32) (g0 g1 : Elt Ideal .f32) (v d : Vec Ideal S256x256 .bf16) (r : Fin 512) (j : Fin 256) :
    pDs b g0 g1 v d (ix2 r j) = (∑ e : Fin 128, d (ix2 ⟨r.val % 256, by omega⟩ ⟨128 * (r.val / 256) + e, by omega⟩) * v (ix2 j ⟨128 * (r.val / 256) + e, by omega⟩))
      * pW b g0 g1 (ix2 r j) := by
  pointwise [pDs, k0_pay32, k0_pay13, k0_pay17]
  congr 1
  have hr := r.isLt
  by_cases h : r.val < 256
  · rw [dif_pos h]
    refine Finset.sum_congr rfl fun e _ => ?_
    refine congrArg₂ _ (congrArg d (congrArg₂ ix2 (Fin.ext ?_) (Fin.ext ?_))) (congrArg v (congrArg (ix2 j) (Fin.ext ?_)))
    · show r.val = r.val % 256; omega
    · show e.val = 128 * (r.val / 256) + e.val; omega
    · show e.val = 128 * (r.val / 256) + e.val; omega
  · rw [dif_neg h]
    refine Finset.sum_congr rfl fun e _ => ?_
    refine congrArg₂ _ (congrArg d (congrArg₂ ix2 (Fin.ext ?_) (Fin.ext ?_))) (congrArg v (congrArg (ix2 j) (Fin.ext ?_)))
    · show r.val - 256 = r.val % 256; omega
    · show 128 + e.val = 128 * (r.val / 256) + e.val; omega
    · show 128 + e.val = 128 * (r.val / 256) + e.val; omega

/-- The queries of both heads, stacked, each head's rows in its own lanes. -/
theorem stack_at (q : Vec Ideal S256x128 .bf16) (r : Fin 512) (l : Fin 128) :
    k0_pay30 (F := Ideal) (k0_pay5 q) (ix2 r l) = if r.val / 256 = l.val / 64 then q (ix2 ⟨r.val % 256, by omega⟩ l) else 0 := by
  pointwise [k0_pay30, k0_pay5]
  have hr := r.isLt
  have hl := l.isLt
  rw [WordCmp.cmpi_slt_ofNat (by omega) (by omega), WordCmp.cmpi_sge_ofNat (by omega) (by omega)]
  simp only [sel]
  by_cases h : r.val < 256
  · rw [dif_pos h]
    by_cases h' : l.val < 64
    · rw [if_pos h', if_pos (by omega)]
      exact congrArg (fun a => q (ix2 a l)) (Fin.ext (show r.val = r.val % 256 by omega))
    · rw [if_neg h', if_neg (by omega)]
  · rw [dif_neg h]
    by_cases h' : 64 ≤ l.val
    · rw [if_pos h']
      refine Eq.trans ?_ (if_pos (by omega)).symm
      exact congrArg (fun a => q (ix2 a l)) (Fin.ext (show r.val - 256 = r.val % 256 by omega))
    · rw [if_neg h', if_neg (by omega)]

theorem p_at (b : BitVec 32) (g0 g1 : Elt Ideal .f32) (q k : Vec Ideal S256x128 .bf16) (r : Fin 512) (j : Fin 256) :
    pP b g0 g1 q k (ix2 r j) = (∑ l : Fin 128, k0_pay30 (F := Ideal) (k0_pay5 q) (ix2 r l) * k (ix2 j l)) * pW b g0 g1 (ix2 r j) := by
  pointwise [pP, k0_pay31, k0_pay9]

theorem dv_at (b : BitVec 32) (g0 g1 : Elt Ideal .f32) (q k : Vec Ideal S256x128 .bf16) (d : Vec Ideal S256x256 .bf16) (s : Vec Ideal S1x128x256 .f32) (r e : Fin 256) :
    pDv b g0 g1 q k d s (ix2 r e) = (∑ j : Fin 256, pP b g0 g1 q k (ix2 ⟨256 * (e.val / 128) + j, by omega⟩ r) * d (ix2 j e))
      + ∑ l : Fin 128, k (ix2 r l) * s (ix3 0 l e) := by
  pointwise [pDv, k0_pay52, k0_pay51, k0_pay9, k0_pay17]
  congr 1
  have he := e.isLt
  by_cases h : e.val < 128
  · rw [dif_pos h]
    exact Finset.sum_congr rfl fun j _ => congrArg (fun a => pP b g0 g1 q k (ix2 a r) * d (ix2 j e)) (Fin.ext (show j.val = 256 * (e.val / 128) + j.val by omega))
  · rw [dif_neg h]
    exact Finset.sum_congr rfl fun j _ => congrArg₂ (fun a x => pP b g0 g1 q k (ix2 a r) * d (ix2 j x)) (Fin.ext (show 256 + j.val = 256 * (e.val / 128) + j.val by omega))
      (Fin.ext (show 128 + (e.val - 128) = e.val by omega))

theorem dk_at (b : BitVec 32) (g0 g1 : Elt Ideal .f32) (q : Vec Ideal S256x128 .bf16) (v d : Vec Ideal S256x256 .bf16) (s : Vec Ideal S1x128x256 .f32) (r : Fin 256) (l : Fin 128) :
    pDk b g0 g1 q v d s (ix2 r l) = (∑ j : Fin 256, pDs b g0 g1 v d (ix2 ⟨256 * (l.val / 64) + j, by omega⟩ r) * q (ix2 j l))
      + ∑ e : Fin 256, v (ix2 r e) * s (ix3 0 l e) := by
  pointwise [pDk, k0_pay53, k0_pay51, k0_pay13, k0_pay5]
  congr 1
  have hl := l.isLt
  rw [WordCmp.cmpi_slt_ofNat (by omega) (by omega), WordCmp.cmpi_sge_ofNat (by omega) (by omega)]
  simp only [sel]
  by_cases h : l.val < 64
  · simp only [if_pos h, if_neg (show ¬ 64 ≤ l.val by omega), Finset.sum_const_zero, add_zero]
    exact Finset.sum_congr rfl fun j _ => congrArg (fun a => pDs b g0 g1 v d (ix2 a r) * q (ix2 j l)) (Fin.ext (show j.val = 256 * (l.val / 64) + j.val by omega))
  · simp only [if_neg h, if_pos (show 64 ≤ l.val by omega), Finset.sum_const_zero, zero_add]
    exact Finset.sum_congr rfl fun j _ => congrArg (fun a => pDs b g0 g1 v d (ix2 a r) * q (ix2 j l)) (Fin.ext (show 256 + j.val = 256 * (l.val / 64) + j.val by omega))

theorem st_at (q : Vec Ideal S256x128 .bf16) (d : Vec Ideal S256x256 .bf16) (s : Vec Ideal S1x128x256 .f32) (l : Fin 128) (e : Fin 256) :
    pSt q d s (ix3 0 l e) = s (ix3 0 l e) + (if l.val / 64 = e.val / 128 then 1 else 0) * ∑ j : Fin 256, q (ix2 j l) * d (ix2 j e) := by
  pointwise [pSt, k0_pay65, k0_pay5, k0_pay17]
  congr 2
  have hl := l.isLt
  have he := e.isLt
  rw [WordCmp.cmpi_sge_ofNat (by omega) (by omega), WordCmp.cmpi_sge_ofNat (by omega) (by omega)]
  by_cases h : 64 ≤ l.val <;> by_cases h' : 128 ≤ e.val
  all_goals
    simp only [h, h', decide_true, decide_false]
    first
      | rw [if_pos (by omega)]
        show ((((BitVec.setWidth 32 ((BitVec.ofBool _ ^^^ BitVec.ofBool _) ^^^ 1#1)).toInt : ℤ) : ℝ) : EReal) = 1
        simp
      | rw [if_neg (by omega)]
        show ((((BitVec.setWidth 32 ((BitVec.ofBool _ ^^^ BitVec.ofBool _) ^^^ 1#1)).toInt : ℤ) : ℝ) : EReal) = 0
        simp

end Cert.RetKVIdeal.Hand

end
-- ==== Proof.RetKVCases.lean ====
/-
  A block of the retention's key and value gradients, pair of heads by pair of heads: what it leaves in its results and
  in the state it carries are the operations of a pair on the pair's lanes.
-/
module

public import proofs.«01_k».proof.Proof.RetKVTile
public import proofs.«01_k».proof.Proof.RetQCases
public import proofs.«01_k».proof.Proof.Gen.RetKVIdeal.Frame
public import Idealize.ShloMosaic.Lib.WritesUnit

@[expose] public section

set_option maxRecDepth 16384

noncomputable section

open Idealize.ShloMosaic Idealize.ShloMosaic.TcCoe Idealize.SL.Sem

namespace Cert.RetKVIdeal.Hand

open Cert.RetKVIdeal Cert.RetKVIdeal.Gen
open Cert.RetQIdeal.Hand (lanes wide slab read_lanes read_wide read_slab read_gamma cov_slab cov_whole cov_cons cov_here out_here out_cons)

variable {F : FTy → Type} [FloatOps F]

section slices

variable {sig : RefSig}

/-- Stores of the pairs' wide lanes, read in the lanes of one pair. -/
theorem outw_here (v : View sig .tc .vmem S256x1024 .bf16) (w : Vec F S256x256 .bf16) (L) (p : Fin 4) (o : ℕ) (ho : o = 256 * p.val) (inb) (r : Fin 256) (l : Fin 256) (f) :
    v.read (Elt F) (v.writes (Elt F) f (⟨Rect.unit (s := S256x1024) ![0, o] S256x256.size inb, w⟩ :: L)) (ix2 r ⟨256 * p.val + l.val, by omega⟩) = w (ix2 r l) :=
  View.read_writes_cons_unit_of_mem v f inb w L _ (ix2 r l) rfl fun a => by
    subst ho
    match a with
    | ⟨0, _⟩ => exact (Nat.zero_add _).symm
    | ⟨1, _⟩ => rfl

theorem outw_cons (v : View sig .tc .vmem S256x1024 .bf16) (w : Vec F S256x256 .bf16) (L) (o : ℕ) (inb) (y : S256x1024.Idx) (f) (h : (y 1).val < o ∨ o + 256 ≤ (y 1).val) :
    v.read (Elt F) (v.writes (Elt F) f (⟨Rect.unit (s := S256x1024) ![0, o] S256x256.size inb, w⟩ :: L)) y = v.read (Elt F) (v.writes (Elt F) f L) y :=
  View.read_writes_cons_unit_of_not_mem v f inb w L y rfl 1 h

end slices

theorem off1 (p : Fin 4) : ∀ i : grid0.Coords, k0_off1 i (BitVec.ofNat 32 p.val) = ![2 * p.val] := by
  intro i
  unfold k0_off1
  generalize (i 0) = a
  revert a p
  decide

theorem off2 (p : Fin 4) : ∀ i : grid0.Coords, k0_off2 i (BitVec.ofNat 32 p.val) = ![2 * p.val + 1] := by
  intro i
  unfold k0_off2
  generalize (i 0) = a
  revert a p
  decide

variable (c : Dev nD) (i : grid0.Coords)
  (arg2 : Memref sig .tc .smem S8 .f32) (harg2 : arg2.IsWhole) (arg3 : Memref sig .tc .vmem S256x512 .bf16) (harg3 : arg3.IsWhole)
  (arg4 : Memref sig .tc .vmem S256x512 .bf16) (harg4 : arg4.IsWhole) (arg5 : Memref sig .tc .vmem S256x1024 .bf16) (harg5 : arg5.IsWhole)
  (arg6 : Memref sig .tc .vmem S256x1024 .bf16) (harg6 : arg6.IsWhole) (arg7 : Memref sig .tc .vmem S256x512 .bf16) (harg7 : arg7.IsWhole)
  (arg8 : Memref sig .tc .vmem S256x1024 .bf16) (harg8 : arg8.IsWhole) (arg9 : Memref sig .tc .vmem S4x128x256 .f32) (harg9 : arg9.IsWhole)
  (x0 : Vec F S8 .f32) (x1 : Vec F S256x512 .bf16) (x2 : Vec F S256x512 .bf16) (x3 : Vec F S256x1024 .bf16) (x4 : Vec F S256x1024 .bf16) (xs0 : Vec F S4x128x256 .f32)

/-- The number of a block: the walk goes from the last one down. -/
def blockNo : BitVec 32 := Scalar.subi 7#32 (BitVec.ofNat 32 (i 1).val)

/-- What a block leaves of a pair's key gradient, from the state before it. -/
def bDk (p : Fin 4) : FVec F S256x128 .bf16 :=
  pDk (blockNo i) (x0 (ix1 ⟨2 * p.val, by omega⟩)) (x0 (ix1 ⟨2 * p.val + 1, by omega⟩)) (lanes x1 p) (wide x3 p) (wide x4 p) (slab xs0 p)

/-- What a block leaves of a pair's value gradient. -/
def bDv (p : Fin 4) : FVec F S256x256 .bf16 :=
  pDv (blockNo i) (x0 (ix1 ⟨2 * p.val, by omega⟩)) (x0 (ix1 ⟨2 * p.val + 1, by omega⟩)) (lanes x1 p) (lanes x2 p) (wide x4 p) (slab xs0 p)

/-- What a block leaves of a pair's state. -/
def bSt (p : Fin 4) : FVec F S1x128x256 .f32 := pSt (lanes x1 p) (wide x4 p) (slab xs0 p)

/-- A pair's key gradient, over the loads that the body does. -/
theorem pDk_read (p : Fin 4) (hk hv) {s s' : Vec F S1x128x256 .f32} (h : s = s') : pDk (blockNo i)
      (arg2.view.readAt (Elt F) (Rect.unit (s := S8) (k0_off1 i (BitVec.ofNat 32 p.val)) S1.size (k0_off1_inb i p)).toLoadRect (harg2.unread x0) (Shape.Idx.first (numel1_S1.symm ▸ Nat.one_pos)))
      (arg2.view.readAt (Elt F) (Rect.unit (s := S8) (k0_off2 i (BitVec.ofNat 32 p.val)) S1.size (k0_off2_inb i p)).toLoadRect (harg2.unread x0) (Shape.Idx.first (numel1_S1.symm ▸ Nat.one_pos)))
      (arg3.view.readAt (Elt F) (Rect.unit (s := S256x512) ![0, 128 * p.val] S256x128.size hk).toLoadRect (harg3.unread x1))
      (arg5.view.readAt (Elt F) (Rect.unit (s := S256x1024) ![0, 256 * p.val] S256x256.size hv).toLoadRect (harg5.unread x3))
      (arg6.view.readAt (Elt F) (Rect.unit (s := S256x1024) ![0, 256 * p.val] S256x256.size hv).toLoadRect (harg6.unread x4)) s
    = pDk (blockNo i) (x0 (ix1 ⟨2 * p.val, by omega⟩)) (x0 (ix1 ⟨2 * p.val + 1, by omega⟩)) (lanes x1 p) (wide x3 p) (wide x4 p) s' := by
  subst h
  rw [read_lanes arg3 harg3 x1 p _ rfl, read_wide arg5 harg5 x3 p _ rfl, read_wide arg6 harg6 x4 p _ rfl,
    read_gamma arg2 harg2 x0 ⟨2 * p.val, by omega⟩ _ (off1 p i), read_gamma arg2 harg2 x0 ⟨2 * p.val + 1, by omega⟩ _ (off2 p i)]

/-- A pair's value gradient, over the loads that the body does. -/
theorem pDv_read (p : Fin 4) (hk hv) {s s' : Vec F S1x128x256 .f32} (h : s = s') : pDv (blockNo i)
      (arg2.view.readAt (Elt F) (Rect.unit (s := S8) (k0_off1 i (BitVec.ofNat 32 p.val)) S1.size (k0_off1_inb i p)).toLoadRect (harg2.unread x0) (Shape.Idx.first (numel1_S1.symm ▸ Nat.one_pos)))
      (arg2.view.readAt (Elt F) (Rect.unit (s := S8) (k0_off2 i (BitVec.ofNat 32 p.val)) S1.size (k0_off2_inb i p)).toLoadRect (harg2.unread x0) (Shape.Idx.first (numel1_S1.symm ▸ Nat.one_pos)))
      (arg3.view.readAt (Elt F) (Rect.unit (s := S256x512) ![0, 128 * p.val] S256x128.size hk).toLoadRect (harg3.unread x1))
      (arg4.view.readAt (Elt F) (Rect.unit (s := S256x512) ![0, 128 * p.val] S256x128.size hk).toLoadRect (harg4.unread x2))
      (arg6.view.readAt (Elt F) (Rect.unit (s := S256x1024) ![0, 256 * p.val] S256x256.size hv).toLoadRect (harg6.unread x4)) s
    = pDv (blockNo i) (x0 (ix1 ⟨2 * p.val, by omega⟩)) (x0 (ix1 ⟨2 * p.val + 1, by omega⟩)) (lanes x1 p) (lanes x2 p) (wide x4 p) s' := by
  subst h
  rw [read_lanes arg3 harg3 x1 p _ rfl, read_lanes arg4 harg4 x2 p _ rfl, read_wide arg6 harg6 x4 p _ rfl,
    read_gamma arg2 harg2 x0 ⟨2 * p.val, by omega⟩ _ (off1 p i), read_gamma arg2 harg2 x0 ⟨2 * p.val + 1, by omega⟩ _ (off2 p i)]

/-- A pair's state, over the loads that the body does. -/
theorem pSt_read (p : Fin 4) (hk hv) {s s' : Vec F S1x128x256 .f32} (h : s = s') : pSt
      (arg3.view.readAt (Elt F) (Rect.unit (s := S256x512) ![0, 128 * p.val] S256x128.size hk).toLoadRect (harg3.unread x1))
      (arg6.view.readAt (Elt F) (Rect.unit (s := S256x1024) ![0, 256 * p.val] S256x256.size hv).toLoadRect (harg6.unread x4)) s
    = pSt (lanes x1 p) (wide x4 p) s' := by
  subst h
  rw [read_lanes arg3 harg3 x1 p _ rfl, read_wide arg6 harg6 x4 p _ rfl]

theorem dk_B (hc0) (p : Fin 4) (r : Fin 256) (l : Fin 128) :
    out0_B_5 c i arg2 harg2 arg3 harg3 arg4 harg4 arg5 harg5 arg6 harg6 arg7 harg7 arg8 harg8 arg9 harg9 hc0 x0 x1 x2 x3 x4 xs0 (ix2 r ⟨128 * p.val + l.val, by omega⟩)
      = bDk i x0 x1 x3 x4 xs0 p (ix2 r l) := by
  unfold out0_B_5 kernelRun0_B
  dsimp only
  match p with
  | ⟨0, _⟩ =>
    refine (out_cons _ _ _ _ _ _ _ (Or.inl (by show 128 * 0 + l.val < 384; omega))).trans ?_
    refine (out_cons _ _ _ _ _ _ _ (Or.inl (by show 128 * 0 + l.val < 256; omega))).trans ?_
    refine (out_cons _ _ _ _ _ _ _ (Or.inl (by show 128 * 0 + l.val < 128; omega))).trans ?_
    refine (out_here _ _ _ 0 _ rfl _ r l _).trans (congrFun (Eq.trans ?_ (pDk_read i arg2 harg2 arg3 harg3 arg5 harg5 arg6 harg6 x0 x1 x3 x4 0 inb_S256x512_S256x128_0_0 inb_S256x1024_S256x256_0_0 (read_slab arg9 harg9 xs0 0 _ rfl inb_S4x128x256_S1x128x256_0_0_0))) _)
    rfl
  | ⟨1, _⟩ =>
    refine (out_cons _ _ _ _ _ _ _ (Or.inl (by show 128 * 1 + l.val < 384; omega))).trans ?_
    refine (out_cons _ _ _ _ _ _ _ (Or.inl (by show 128 * 1 + l.val < 256; omega))).trans ?_
    refine (out_here _ _ _ 1 _ rfl _ r l _).trans (congrFun (Eq.trans ?_ (pDk_read i arg2 harg2 arg3 harg3 arg5 harg5 arg6 harg6 x0 x1 x3 x4 1 inb_S256x512_S256x128_0_128 inb_S256x1024_S256x256_0_256 (read_slab arg9 harg9 xs0 1 _ rfl inb_S4x128x256_S1x128x256_1_0_0))) _)
    rfl
  | ⟨2, _⟩ =>
    refine (out_cons _ _ _ _ _ _ _ (Or.inl (by show 128 * 2 + l.val < 384; omega))).trans ?_
    refine (out_here _ _ _ 2 _ rfl _ r l _).trans (congrFun (Eq.trans ?_ (pDk_read i arg2 harg2 arg3 harg3 arg5 harg5 arg6 harg6 x0 x1 x3 x4 2 inb_S256x512_S256x128_0_256 inb_S256x1024_S256x256_0_512 (read_slab arg9 harg9 xs0 2 _ rfl inb_S4x128x256_S1x128x256_2_0_0))) _)
    rfl
  | ⟨3, _⟩ =>
    refine (out_here _ _ _ 3 _ rfl _ r l _).trans (congrFun (Eq.trans ?_ (pDk_read i arg2 harg2 arg3 harg3 arg5 harg5 arg6 harg6 x0 x1 x3 x4 3 inb_S256x512_S256x128_0_384 inb_S256x1024_S256x256_0_768 (read_slab arg9 harg9 xs0 3 _ rfl inb_S4x128x256_S1x128x256_3_0_0))) _)
    rfl

theorem dv_B (hc0) (p : Fin 4) (r : Fin 256) (l : Fin 256) :
    out0_B_6 c i arg2 harg2 arg3 harg3 arg4 harg4 arg5 harg5 arg6 harg6 arg7 harg7 arg8 harg8 arg9 harg9 hc0 x0 x1 x2 x3 x4 xs0 (ix2 r ⟨256 * p.val + l.val, by omega⟩)
      = bDv i x0 x1 x2 x4 xs0 p (ix2 r l) := by
  unfold out0_B_6 kernelRun0_B
  dsimp only
  match p with
  | ⟨0, _⟩ =>
    refine (outw_cons _ _ _ _ _ _ _ (Or.inl (by show 256 * 0 + l.val < 768; omega))).trans ?_
    refine (outw_cons _ _ _ _ _ _ _ (Or.inl (by show 256 * 0 + l.val < 512; omega))).trans ?_
    refine (outw_cons _ _ _ _ _ _ _ (Or.inl (by show 256 * 0 + l.val < 256; omega))).trans ?_
    refine (outw_here _ _ _ 0 _ rfl _ r l _).trans (congrFun (Eq.trans ?_ (pDv_read i arg2 harg2 arg3 harg3 arg4 harg4 arg6 harg6 x0 x1 x2 x4 0 inb_S256x512_S256x128_0_0 inb_S256x1024_S256x256_0_0 (read_slab arg9 harg9 xs0 0 _ rfl inb_S4x128x256_S1x128x256_0_0_0))) _)
    rfl
  | ⟨1, _⟩ =>
    refine (outw_cons _ _ _ _ _ _ _ (Or.inl (by show 256 * 1 + l.val < 768; omega))).trans ?_
    refine (outw_cons _ _ _ _ _ _ _ (Or.inl (by show 256 * 1 + l.val < 512; omega))).trans ?_
    refine (outw_here _ _ _ 1 _ rfl _ r l _).trans (congrFun (Eq.trans ?_ (pDv_read i arg2 harg2 arg3 harg3 arg4 harg4 arg6 harg6 x0 x1 x2 x4 1 inb_S256x512_S256x128_0_128 inb_S256x1024_S256x256_0_256 (read_slab arg9 harg9 xs0 1 _ rfl inb_S4x128x256_S1x128x256_1_0_0))) _)
    rfl
  | ⟨2, _⟩ =>
    refine (outw_cons _ _ _ _ _ _ _ (Or.inl (by show 256 * 2 + l.val < 768; omega))).trans ?_
    refine (outw_here _ _ _ 2 _ rfl _ r l _).trans (congrFun (Eq.trans ?_ (pDv_read i arg2 harg2 arg3 harg3 arg4 harg4 arg6 harg6 x0 x1 x2 x4 2 inb_S256x512_S256x128_0_256 inb_S256x1024_S256x256_0_512 (read_slab arg9 harg9 xs0 2 _ rfl inb_S4x128x256_S1x128x256_2_0_0))) _)
    rfl
  | ⟨3, _⟩ =>
    refine (outw_here _ _ _ 3 _ rfl _ r l _).trans (congrFun (Eq.trans ?_ (pDv_read i arg2 harg2 arg3 harg3 arg4 harg4 arg6 harg6 x0 x1 x2 x4 3 inb_S256x512_S256x128_0_384 inb_S256x1024_S256x256_0_768 (read_slab arg9 harg9 xs0 3 _ rfl inb_S4x128x256_S1x128x256_3_0_0))) _)
    rfl

theorem st_B (hc0) (p : Fin 4) (l : Fin 128) (e : Fin 256) :
    sout0_B_0 c i arg2 harg2 arg3 harg3 arg4 harg4 arg5 harg5 arg6 harg6 arg7 harg7 arg8 harg8 arg9 harg9 hc0 x0 x1 x2 x3 x4 xs0 (ix3 p l e) = bSt x1 x4 xs0 p (ix3 0 l e) := by
  unfold sout0_B_0 kernelRun0_B
  dsimp only
  match p with
  | ⟨0, _⟩ =>
    refine (cov_cons _ _ _ 3 _ _ _ (by show 0 ≠ 3; omega)).trans ?_
    refine (cov_cons _ _ _ 2 _ _ _ (by show 0 ≠ 2; omega)).trans ?_
    refine (cov_cons _ _ _ 1 _ _ _ (by show 0 ≠ 1; omega)).trans ?_
    refine (cov_here _ _ _ 0 _ rfl _ l e _).trans (congrFun (Eq.trans ?_ (pSt_read arg3 harg3 arg6 harg6 x1 x4 0 inb_S256x512_S256x128_0_0 inb_S256x1024_S256x256_0_0 (read_slab arg9 harg9 xs0 0 _ rfl inb_S4x128x256_S1x128x256_0_0_0))) _)
    rfl
  | ⟨1, _⟩ =>
    refine (cov_cons _ _ _ 3 _ _ _ (by show 1 ≠ 3; omega)).trans ?_
    refine (cov_cons _ _ _ 2 _ _ _ (by show 1 ≠ 2; omega)).trans ?_
    refine (cov_here _ _ _ 1 _ rfl _ l e _).trans (congrFun (Eq.trans ?_ (pSt_read arg3 harg3 arg6 harg6 x1 x4 1 inb_S256x512_S256x128_0_128 inb_S256x1024_S256x256_0_256 (read_slab arg9 harg9 xs0 1 _ rfl inb_S4x128x256_S1x128x256_1_0_0))) _)
    rfl
  | ⟨2, _⟩ =>
    refine (cov_cons _ _ _ 3 _ _ _ (by show 2 ≠ 3; omega)).trans ?_
    refine (cov_here _ _ _ 2 _ rfl _ l e _).trans (congrFun (Eq.trans ?_ (pSt_read arg3 harg3 arg6 harg6 x1 x4 2 inb_S256x512_S256x128_0_256 inb_S256x1024_S256x256_0_512 (read_slab arg9 harg9 xs0 2 _ rfl inb_S4x128x256_S1x128x256_2_0_0))) _)
    rfl
  | ⟨3, _⟩ =>
    refine (cov_here _ _ _ 3 _ rfl _ l e _).trans (congrFun (Eq.trans ?_ (pSt_read arg3 harg3 arg6 harg6 x1 x4 3 inb_S256x512_S256x128_0_384 inb_S256x1024_S256x256_0_768 (read_slab arg9 harg9 xs0 3 _ rfl inb_S4x128x256_S1x128x256_3_0_0))) _)
    rfl

theorem dk_A (hc0) (p : Fin 4) (r : Fin 256) (l : Fin 128) :
    out0_A_5 c i arg2 harg2 arg3 harg3 arg4 harg4 arg5 harg5 arg6 harg6 arg7 harg7 arg8 harg8 arg9 harg9 hc0 x0 x1 x2 x3 x4 (ix2 r ⟨128 * p.val + l.val, by omega⟩)
      = bDk i x0 x1 x3 x4 k0_pay3 p (ix2 r l) := by
  unfold out0_A_5 kernelRun0_A
  dsimp only
  match p with
  | ⟨0, _⟩ =>
    refine (out_cons _ _ _ _ _ _ _ (Or.inl (by show 128 * 0 + l.val < 384; omega))).trans ?_
    refine (out_cons _ _ _ _ _ _ _ (Or.inl (by show 128 * 0 + l.val < 256; omega))).trans ?_
    refine (out_cons _ _ _ _ _ _ _ (Or.inl (by show 128 * 0 + l.val < 128; omega))).trans ?_
    refine (out_here _ _ _ 0 _ rfl _ r l _).trans (congrFun (Eq.trans ?_ (pDk_read i arg2 harg2 arg3 harg3 arg5 harg5 arg6 harg6 x0 x1 x3 x4 0 inb_S256x512_S256x128_0_0 inb_S256x1024_S256x256_0_0 (cov_slab arg9.view kernelRun0_A.sl.HS0_1 k0_pay3 0 (fun y _ => cov_whole _ _ _ y _) _ rfl inb_S4x128x256_S1x128x256_0_0_0))) _)
    rfl
  | ⟨1, _⟩ =>
    refine (out_cons _ _ _ _ _ _ _ (Or.inl (by show 128 * 1 + l.val < 384; omega))).trans ?_
    refine (out_cons _ _ _ _ _ _ _ (Or.inl (by show 128 * 1 + l.val < 256; omega))).trans ?_
    refine (out_here _ _ _ 1 _ rfl _ r l _).trans (congrFun (Eq.trans ?_ (pDk_read i arg2 harg2 arg3 harg3 arg5 harg5 arg6 harg6 x0 x1 x3 x4 1 inb_S256x512_S256x128_0_128 inb_S256x1024_S256x256_0_256 (cov_slab arg9.view kernelRun0_A.sl.HS0_1 k0_pay3 1 (fun y _ => cov_whole _ _ _ y _) _ rfl inb_S4x128x256_S1x128x256_1_0_0))) _)
    rfl
  | ⟨2, _⟩ =>
    refine (out_cons _ _ _ _ _ _ _ (Or.inl (by show 128 * 2 + l.val < 384; omega))).trans ?_
    refine (out_here _ _ _ 2 _ rfl _ r l _).trans (congrFun (Eq.trans ?_ (pDk_read i arg2 harg2 arg3 harg3 arg5 harg5 arg6 harg6 x0 x1 x3 x4 2 inb_S256x512_S256x128_0_256 inb_S256x1024_S256x256_0_512 (cov_slab arg9.view kernelRun0_A.sl.HS0_1 k0_pay3 2 (fun y _ => cov_whole _ _ _ y _) _ rfl inb_S4x128x256_S1x128x256_2_0_0))) _)
    rfl
  | ⟨3, _⟩ =>
    refine (out_here _ _ _ 3 _ rfl _ r l _).trans (congrFun (Eq.trans ?_ (pDk_read i arg2 harg2 arg3 harg3 arg5 harg5 arg6 harg6 x0 x1 x3 x4 3 inb_S256x512_S256x128_0_384 inb_S256x1024_S256x256_0_768 (cov_slab arg9.view kernelRun0_A.sl.HS0_1 k0_pay3 3 (fun y _ => cov_whole _ _ _ y _) _ rfl inb_S4x128x256_S1x128x256_3_0_0))) _)
    rfl

theorem dv_A (hc0) (p : Fin 4) (r : Fin 256) (l : Fin 256) :
    out0_A_6 c i arg2 harg2 arg3 harg3 arg4 harg4 arg5 harg5 arg6 harg6 arg7 harg7 arg8 harg8 arg9 harg9 hc0 x0 x1 x2 x3 x4 (ix2 r ⟨256 * p.val + l.val, by omega⟩)
      = bDv i x0 x1 x2 x4 k0_pay3 p (ix2 r l) := by
  unfold out0_A_6 kernelRun0_A
  dsimp only
  match p with
  | ⟨0, _⟩ =>
    refine (outw_cons _ _ _ _ _ _ _ (Or.inl (by show 256 * 0 + l.val < 768; omega))).trans ?_
    refine (outw_cons _ _ _ _ _ _ _ (Or.inl (by show 256 * 0 + l.val < 512; omega))).trans ?_
    refine (outw_cons _ _ _ _ _ _ _ (Or.inl (by show 256 * 0 + l.val < 256; omega))).trans ?_
    refine (outw_here _ _ _ 0 _ rfl _ r l _).trans (congrFun (Eq.trans ?_ (pDv_read i arg2 harg2 arg3 harg3 arg4 harg4 arg6 harg6 x0 x1 x2 x4 0 inb_S256x512_S256x128_0_0 inb_S256x1024_S256x256_0_0 (cov_slab arg9.view kernelRun0_A.sl.HS0_1 k0_pay3 0 (fun y _ => cov_whole _ _ _ y _) _ rfl inb_S4x128x256_S1x128x256_0_0_0))) _)
    rfl
  | ⟨1, _⟩ =>
    refine (outw_cons _ _ _ _ _ _ _ (Or.inl (by show 256 * 1 + l.val < 768; omega))).trans ?_
    refine (outw_cons _ _ _ _ _ _ _ (Or.inl (by show 256 * 1 + l.val < 512; omega))).trans ?_
    refine (outw_here _ _ _ 1 _ rfl _ r l _).trans (congrFun (Eq.trans ?_ (pDv_read i arg2 harg2 arg3 harg3 arg4 harg4 arg6 harg6 x0 x1 x2 x4 1 inb_S256x512_S256x128_0_128 inb_S256x1024_S256x256_0_256 (cov_slab arg9.view kernelRun0_A.sl.HS0_1 k0_pay3 1 (fun y _ => cov_whole _ _ _ y _) _ rfl inb_S4x128x256_S1x128x256_1_0_0))) _)
    rfl
  | ⟨2, _⟩ =>
    refine (outw_cons _ _ _ _ _ _ _ (Or.inl (by show 256 * 2 + l.val < 768; omega))).trans ?_
    refine (outw_here _ _ _ 2 _ rfl _ r l _).trans (congrFun (Eq.trans ?_ (pDv_read i arg2 harg2 arg3 harg3 arg4 harg4 arg6 harg6 x0 x1 x2 x4 2 inb_S256x512_S256x128_0_256 inb_S256x1024_S256x256_0_512 (cov_slab arg9.view kernelRun0_A.sl.HS0_1 k0_pay3 2 (fun y _ => cov_whole _ _ _ y _) _ rfl inb_S4x128x256_S1x128x256_2_0_0))) _)
    rfl
  | ⟨3, _⟩ =>
    refine (outw_here _ _ _ 3 _ rfl _ r l _).trans (congrFun (Eq.trans ?_ (pDv_read i arg2 harg2 arg3 harg3 arg4 harg4 arg6 harg6 x0 x1 x2 x4 3 inb_S256x512_S256x128_0_384 inb_S256x1024_S256x256_0_768 (cov_slab arg9.view kernelRun0_A.sl.HS0_1 k0_pay3 3 (fun y _ => cov_whole _ _ _ y _) _ rfl inb_S4x128x256_S1x128x256_3_0_0))) _)
    rfl

theorem st_A (hc0) (p : Fin 4) (l : Fin 128) (e : Fin 256) :
    sout0_A_0 c i arg2 harg2 arg3 harg3 arg4 harg4 arg5 harg5 arg6 harg6 arg7 harg7 arg8 harg8 arg9 harg9 hc0 x0 x1 x2 x3 x4 (ix3 p l e) = bSt x1 x4 k0_pay3 p (ix3 0 l e) := by
  unfold sout0_A_0 kernelRun0_A
  dsimp only
  match p with
  | ⟨0, _⟩ =>
    unfold kernelRun0_A.sl.HS0_4 kernelRun0_A.sl.HS0_3 kernelRun0_A.sl.HS0_2 kernelRun0_A.sl.HS0_1
    refine (cov_cons _ _ _ 3 _ _ _ (by show 0 ≠ 3; omega)).trans ?_
    refine (cov_cons _ _ _ 2 _ _ _ (by show 0 ≠ 2; omega)).trans ?_
    refine (cov_cons _ _ _ 1 _ _ _ (by show 0 ≠ 1; omega)).trans ?_
    refine (cov_here _ _ _ 0 _ rfl _ l e _).trans (congrFun (Eq.trans ?_ (pSt_read arg3 harg3 arg6 harg6 x1 x4 0 inb_S256x512_S256x128_0_0 inb_S256x1024_S256x256_0_0 (cov_slab arg9.view kernelRun0_A.sl.HS0_1 k0_pay3 0 (fun y _ => cov_whole _ _ _ y _) _ rfl inb_S4x128x256_S1x128x256_0_0_0))) _)
    rfl
  | ⟨1, _⟩ =>
    unfold kernelRun0_A.sl.HS0_4 kernelRun0_A.sl.HS0_3 kernelRun0_A.sl.HS0_2
    refine (cov_cons _ _ _ 3 _ _ _ (by show 1 ≠ 3; omega)).trans ?_
    refine (cov_cons _ _ _ 2 _ _ _ (by show 1 ≠ 2; omega)).trans ?_
    refine (cov_here _ _ _ 1 _ rfl _ l e _).trans (congrFun (Eq.trans ?_ (pSt_read arg3 harg3 arg6 harg6 x1 x4 1 inb_S256x512_S256x128_0_128 inb_S256x1024_S256x256_0_256 (cov_slab arg9.view (kernelRun0_A.sl.HS0_2 c arg3 harg3 arg6 harg6 arg9 x1 x4) k0_pay3 1 (fun y h => (cov_cons _ _ _ 0 _ y _ (by rw [h]; show 1 ≠ 0; omega)).trans (cov_whole _ _ _ y _)) _ rfl inb_S4x128x256_S1x128x256_1_0_0))) _)
    rfl
  | ⟨2, _⟩ =>
    unfold kernelRun0_A.sl.HS0_4 kernelRun0_A.sl.HS0_3
    refine (cov_cons _ _ _ 3 _ _ _ (by show 2 ≠ 3; omega)).trans ?_
    refine (cov_here _ _ _ 2 _ rfl _ l e _).trans (congrFun (Eq.trans ?_ (pSt_read arg3 harg3 arg6 harg6 x1 x4 2 inb_S256x512_S256x128_0_256 inb_S256x1024_S256x256_0_512 (cov_slab arg9.view (kernelRun0_A.sl.HS0_3 c arg3 harg3 arg6 harg6 arg9 x1 x4) k0_pay3 2 (fun y h => (cov_cons _ _ _ 1 _ y _ (by rw [h]; show 2 ≠ 1; omega)).trans ((cov_cons _ _ _ 0 _ y _ (by rw [h]; show 2 ≠ 0; omega)).trans (cov_whole _ _ _ y _))) _ rfl inb_S4x128x256_S1x128x256_2_0_0))) _)
    rfl
  | ⟨3, _⟩ =>
    refine (cov_here _ _ _ 3 _ rfl _ l e _).trans (congrFun (Eq.trans ?_ (pSt_read arg3 harg3 arg6 harg6 x1 x4 3 inb_S256x512_S256x128_0_384 inb_S256x1024_S256x256_0_768 (cov_slab arg9.view (kernelRun0_A.sl.HS0_4 c arg3 harg3 arg6 harg6 arg9 x1 x4) k0_pay3 3 (fun y h => (cov_cons _ _ _ 2 _ y _ (by rw [h]; show 3 ≠ 2; omega)).trans ((cov_cons _ _ _ 1 _ y _ (by rw [h]; show 3 ≠ 1; omega)).trans ((cov_cons _ _ _ 0 _ y _ (by rw [h]; show 3 ≠ 0; omega)).trans (cov_whole _ _ _ y _)))) _ rfl inb_S4x128x256_S1x128x256_3_0_0))) _)
    rfl

end Cert.RetKVIdeal.Hand

end
-- ==== Proof.RetKVRead.lean ====
/-
  What one grid point of the retention key and value pass reads of the arrays the host prepared.
-/
module

public import proofs.«01_k».proof.Proof.RetKVCases
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RetKVIdeal.Hand

open Cert.RetKVIdeal Cert.RetKVIdeal.Gen Cert.RealKit

theorem idx : ∀ t : Fin cfg0.N, win0_0.index t = ![0] ∧ win0_1.index t = ![7 - t.val, 0] ∧ win0_2.index t = ![7 - t.val, 1]
    ∧ win0_3.index t = ![7 - t.val, 1] ∧ win0_4.index t = ![7 - t.val, 0] ∧ win0_5.index t = ![7 - t.val, 0] ∧ win0_6.index t = ![7 - t.val, 0] :=
  (by decide +kernel : ∀ t : Fin grid0.N, _)

theorem block : ∀ t : Fin cfg0.N, blockNo (grid0.coords t) = BitVec.ofNat 32 (7 - t.val) :=
  (by decide +kernel : ∀ t : Fin grid0.N, _)

theorem pt {t : Fin cfg0.N} : t.val < 8 := lt_of_lt_of_eq t.isLt (show cfg0.N = 8 from N_0)

variable (m : (ℓ : Loc nD τ sig) → Buf (Elt Ideal) ℓ) (c : Dev nD)

set_option maxHeartbeats 400000 in
theorem read_g (t : Fin cfg0.N) (h : Fin 8) : (iblk m c 0 t : Vec Ideal S8 .f32) (ix1 h) = (V m c main_v58 : FVec Ideal S8 .f32) (ix1 h) := by
  blk_point [iblk, idx t]

set_option maxHeartbeats 400000 in
theorem read_q (t : Fin cfg0.N) (i : Fin 256) (l : Fin 512) (hN : t.val < 8) : (iblk m c 1 t : Vec Ideal S256x512 .bf16) (ix2 i l)
    = (V m c main_v49 : FVec Ideal S2048x1024 .bf16) (ix2 ⟨256 * (7 - t.val) + i, by omega⟩ ⟨l, by omega⟩) := by
  blk_point [iblk, idx t]

set_option maxHeartbeats 400000 in
theorem read_k (t : Fin cfg0.N) (i : Fin 256) (l : Fin 512) (hN : t.val < 8) : (iblk m c 2 t : Vec Ideal S256x512 .bf16) (ix2 i l)
    = (V m c main_v49 : FVec Ideal S2048x1024 .bf16) (ix2 ⟨256 * (7 - t.val) + i, by omega⟩ ⟨512 + l, by omega⟩) := by
  blk_point [iblk, idx t]

set_option maxHeartbeats 400000 in
theorem read_d (t : Fin cfg0.N) (i : Fin 256) (l : Fin 1024) (hN : t.val < 8) : (iblk m c 4 t : Vec Ideal S256x1024 .bf16) (ix2 i l)
    = (V m c main_v51 : FVec Ideal S2048x1024 .bf16) (ix2 ⟨256 * (7 - t.val) + i, by omega⟩ l) := by
  blk_point [iblk, idx t]

/-- Where a block of the values lies. -/
theorem emb_v (t : Fin cfg0.N) (y : ((cfg0.win 3).xblock (cfg0.grid.coords t)).Idx) (hN : t.val < 8) (i : Fin 256) (l : Fin 1024)
    (e0 : (y 0).val = i.val) (e1 : (y 1).val = l.val) :
    (win0_3.blk t).view.emb y = (ix2 ⟨256 * (7 - t.val) + i, by omega⟩ ⟨1024 + l, by omega⟩ : S2048x6656.Idx) := by
  have h0 : ((win0_3.blk t).view.emb y 0 : ℕ) = (7 - t.val) * 256 + y 0 := by blk_simp [idx t]
  have h1 : ((win0_3.blk t).view.emb y 1 : ℕ) = 1024 + y 1 := by blk_simp [idx t]
  exact (eq_ix2 _).trans (congrArg₂ ix2 (Fin.ext (h0.trans (by dsimp only; omega))) (Fin.ext (h1.trans (by dsimp only; omega))))

theorem read_y (f : FVec Ideal S2048x6656 .bf16) (t : Fin cfg0.N) (y : ((cfg0.win 3).xblock (cfg0.grid.coords t)).Idx) :
    ((cfg0.win 3).blk t).view.read (Elt Ideal) f y = f ((win0_3.blk t).view.emb y) := rfl

theorem read_v (t : Fin cfg0.N) (i : Fin 256) (l : Fin 1024) (hN : t.val < 8) : (X0_3 m c t : Vec Ideal S256x1024 .bf16) (ix2 i l)
    = (V m c main_v50 : FVec Ideal S2048x6656 .bf16) (ix2 ⟨256 * (7 - t.val) + i, by omega⟩ ⟨1024 + l, by omega⟩) := by
  unfold X0_3 Pipeline.Window.fill
  rw [dif_pos (moved0_3 t _)]
  exact (read_y (V m c main_v50) t _).trans (congrArg (V m c main_v50 : FVec Ideal S2048x6656 .bf16) (emb_v t _ hN i l rfl rfl))

end Cert.RetKVIdeal.Hand

end
-- ==== Proof.RetKVGrid.lean ====
/-
  The whole walk of the retention key and value pass over the reals.
-/
module

public import proofs.«01_k».proof.Proof.RetKVRead
public import proofs.«01_k».proof.Proof.RetReal

@[expose] public section

set_option maxRecDepth 16384

noncomputable section

open Idealize.ShloMosaic Idealize.ShloMosaic.TcCoe Idealize.SL.Sem

namespace Cert.RetKVIdeal.Hand

open Cert.RetKVIdeal Cert.RetKVIdeal.Gen Cert.RealKit Cert.Ret
open Cert.RetQIdeal.Hand (lanes wide slab)

variable (m : (ℓ : Loc nD τ sig) → Buf (Elt Ideal) ℓ) (c : Dev nD)

/-- The argument blocks of every point are finite. -/
structure Blocks (G : ℕ → ℝ) (Q K D V : ℕ → ℕ → ℝ) : Prop where
  g : ∀ (t : Fin cfg0.N) (h : Fin 8), (iblk m c 0 t : Vec Ideal S8 .f32) (ix1 h) = (G h : EReal)
  q : ∀ (t : Fin cfg0.N) (i : Fin 256) (l : Fin 512), (iblk m c 1 t : Vec Ideal S256x512 .bf16) (ix2 i l) = (Q (256 * (7 - t.val) + i) l : EReal)
  k : ∀ (t : Fin cfg0.N) (i : Fin 256) (l : Fin 512), (iblk m c 2 t : Vec Ideal S256x512 .bf16) (ix2 i l) = (K (256 * (7 - t.val) + i) l : EReal)
  v : ∀ (t : Fin cfg0.N) (i : Fin 256) (l : Fin 1024), (X0_3 m c t : Vec Ideal S256x1024 .bf16) (ix2 i l) = (V (256 * (7 - t.val) + i) l : EReal)
  d : ∀ (t : Fin cfg0.N) (i : Fin 256) (l : Fin 1024), (iblk m c 4 t : Vec Ideal S256x1024 .bf16) (ix2 i l) = (D (256 * (7 - t.val) + i) l : EReal)

variable {m c} {G : ℕ → ℝ} {Q K D V : ℕ → ℕ → ℝ} (B : Blocks m c G Q K D V)

section point

variable (t : Fin cfg0.N) (s : Vec Ideal S4x128x256 .f32)
    (hs : ∀ (p : Fin 4) (l : Fin 128) (e : Fin 256), s (ix3 p l e) = (later Q D (7 - t.val) p l e : EReal))

include B hs in
/-- What a point writes of the key gradient. -/
theorem dk_real (p : Fin 4) (r : Fin 256) (l : Fin 128) :
    bDk (grid0.coords t) (iblk m c 0 t : Vec Ideal S8 .f32) (iblk m c 1 t : Vec Ideal S256x512 .bf16) (X0_3 m c t : Vec Ideal S256x1024 .bf16) (iblk m c 4 t : Vec Ideal S256x1024 .bf16) s p (ix2 r l)
      = (dK G Q D V (256 * (7 - t.val) + r) (128 * p.val + l) : EReal) := by
  have ht : t.val < 8 := pt
  have hr := r.isLt
  have hl := l.isLt
  have hp := p.isLt
  unfold bDk
  rw [block t, B.g t, B.g t, dk_at]
  simp only [ds_at, w_at ⟨7 - t.val, by omega⟩]
  simp only [show ∀ j e, lanes (iblk m c 1 t : Vec Ideal S256x512 .bf16) p (ix2 j e) = ((Q (256 * (7 - t.val) + j) (128 * p.val + e) : ℝ) : EReal) from fun j e => B.q t j _,
    show ∀ j e, wide (X0_3 m c t : Vec Ideal S256x1024 .bf16) p (ix2 j e) = ((V (256 * (7 - t.val) + j) (256 * p.val + e) : ℝ) : EReal) from fun j e => B.v t j _,
    show ∀ j e, wide (iblk m c 4 t : Vec Ideal S256x1024 .bf16) p (ix2 j e) = ((D (256 * (7 - t.val) + j) (256 * p.val + e) : ℝ) : EReal) from fun j e => B.d t j _,
    show ∀ l e, slab s p (ix3 0 l e) = ((later Q D (7 - t.val) p l e : ℝ) : EReal) from fun l e => hs p l e]
  simp only [← EReal.coe_mul, ← coe_sum, ← EReal.coe_add]
  refine congrArg Real.toEReal ?_
  rw [← dk_block G Q D V (7 - t.val) p.val r.val l.val (by omega) hr hl]
  have e1 : ∀ j : Fin 256, (256 * (l.val / 64) + j.val) % 256 = j.val := fun j => by omega
  have e2 : ∀ j : Fin 256, (256 * (l.val / 64) + j.val) / 256 = l.val / 64 := fun j => by omega
  have e3 : ∀ j : Fin 256, (if 256 * (l.val / 64) + j.val < 256 then G (2 * p.val) else G (2 * p.val + 1)) = G (2 * p.val + l.val / 64) := fun j => by
    by_cases h : l.val < 64
    · rw [if_pos (by omega), show l.val / 64 = 0 by omega]; rfl
    · rw [if_neg (by omega), show l.val / 64 = 1 by omega]
  simp only [e1, e2, e3]

include B in
/-- The weighted scores of a point. -/
theorem p_real (p : Fin 4) (n : Fin 512) (r : Fin 256) :
    pP (BitVec.ofNat 32 (7 - t.val)) ((G (2 * p.val) : ℝ) : EReal) ((G (2 * p.val + 1) : ℝ) : EReal) (lanes (iblk m c 1 t : Vec Ideal S256x512 .bf16) p) (lanes (iblk m c 2 t : Vec Ideal S256x512 .bf16) p) (ix2 n r)
      = (((∑ x : Fin 64, Q (256 * (7 - t.val) + n.val % 256) (128 * p.val + (64 * (n.val / 256) + x)) * K (256 * (7 - t.val) + r) (128 * p.val + (64 * (n.val / 256) + x)))
        * wR (if n.val < 256 then G (2 * p.val) else G (2 * p.val + 1)) (n.val % 256) r : ℝ) : EReal) := by
  have ht : t.val < 8 := pt
  have hn := n.isLt
  rw [p_at, w_at ⟨7 - t.val, by omega⟩, EReal.coe_mul]
  refine congrArg (fun z : EReal => z * _) ?_
  simp only [stack_at]
  simp only [show ∀ j e, lanes (iblk m c 1 t : Vec Ideal S256x512 .bf16) p (ix2 j e) = ((Q (256 * (7 - t.val) + j) (128 * p.val + e) : ℝ) : EReal) from fun j e => B.q t j _,
    show ∀ j e, lanes (iblk m c 2 t : Vec Ideal S256x512 .bf16) p (ix2 j e) = ((K (256 * (7 - t.val) + j) (128 * p.val + e) : ℝ) : EReal) from fun j e => B.k t j _]
  rw [← half_sum (fun x => Q (256 * (7 - t.val) + n.val % 256) (128 * p.val + x) * K (256 * (7 - t.val) + r) (128 * p.val + x)) 64 (n.val / 256) (by decide) (by omega), coe_sum]
  refine Finset.sum_congr rfl fun l _ => ?_
  by_cases h : n.val / 256 = l.val / 64
  · rw [if_pos h, if_pos h, EReal.coe_mul]
  · rw [if_neg h, if_neg h, zero_mul, EReal.coe_zero]

include B hs in
/-- What a point writes of the value gradient. -/
theorem dv_real (p : Fin 4) (r e : Fin 256) :
    bDv (grid0.coords t) (iblk m c 0 t : Vec Ideal S8 .f32) (iblk m c 1 t : Vec Ideal S256x512 .bf16) (iblk m c 2 t : Vec Ideal S256x512 .bf16) (iblk m c 4 t : Vec Ideal S256x1024 .bf16) s p (ix2 r e)
      = (dV G Q K D (256 * (7 - t.val) + r) (256 * p.val + e) : EReal) := by
  have ht : t.val < 8 := pt
  have hr := r.isLt
  have he := e.isLt
  have hp := p.isLt
  unfold bDv
  rw [block t, B.g t, B.g t, dv_at]
  simp only [p_real B t]
  simp only [show ∀ j e, lanes (iblk m c 2 t : Vec Ideal S256x512 .bf16) p (ix2 j e) = ((K (256 * (7 - t.val) + j) (128 * p.val + e) : ℝ) : EReal) from fun j e => B.k t j _,
    show ∀ j e, wide (iblk m c 4 t : Vec Ideal S256x1024 .bf16) p (ix2 j e) = ((D (256 * (7 - t.val) + j) (256 * p.val + e) : ℝ) : EReal) from fun j e => B.d t j _,
    show ∀ l e, slab s p (ix3 0 l e) = ((later Q D (7 - t.val) p l e : ℝ) : EReal) from fun l e => hs p l e]
  simp only [← EReal.coe_mul, ← coe_sum, ← EReal.coe_add]
  refine congrArg Real.toEReal ?_
  rw [← dv_block G Q K D (7 - t.val) p.val r.val e.val (by omega) hr he]
  have e1 : ∀ j : Fin 256, (256 * (e.val / 128) + j.val) % 256 = j.val := fun j => by omega
  have e2 : ∀ j : Fin 256, (256 * (e.val / 128) + j.val) / 256 = e.val / 128 := fun j => by omega
  have e3 : ∀ j : Fin 256, (if 256 * (e.val / 128) + j.val < 256 then G (2 * p.val) else G (2 * p.val + 1)) = G (2 * p.val + e.val / 128) := fun j => by
    by_cases h : e.val < 128
    · rw [if_pos (by omega), show e.val / 128 = 0 by omega]; rfl
    · rw [if_neg (by omega), show e.val / 128 = 1 by omega]
  simp only [e1, e2, e3]

include B hs in
/-- What a point leaves of the state, where another point follows. -/
theorem st_real (h7 : t.val < 7) (p : Fin 4) (l : Fin 128) (e : Fin 256) :
    bSt (iblk m c 1 t : Vec Ideal S256x512 .bf16) (iblk m c 4 t : Vec Ideal S256x1024 .bf16) s p (ix3 0 l e) = (later Q D (6 - t.val) p l e : EReal) := by
  unfold bSt
  rw [st_at]
  simp only [show ∀ j e, lanes (iblk m c 1 t : Vec Ideal S256x512 .bf16) p (ix2 j e) = ((Q (256 * (7 - t.val) + j) (128 * p.val + e) : ℝ) : EReal) from fun j e => B.q t j _,
    show ∀ j e, wide (iblk m c 4 t : Vec Ideal S256x1024 .bf16) p (ix2 j e) = ((D (256 * (7 - t.val) + j) (256 * p.val + e) : ℝ) : EReal) from fun j e => B.d t j _,
    show ∀ l e, slab s p (ix3 0 l e) = ((later Q D (7 - t.val) p l e : ℝ) : EReal) from fun l e => hs p l e]
  rw [later_succ Q D (6 - t.val) p l e (by omega), show 6 - t.val + 1 = 7 - t.val by omega, EReal.coe_add, EReal.coe_mul, coe_sum, ← ite_coe]
  simp only [EReal.coe_mul, EReal.coe_one]

end point

/-- The state that the first point begins with. -/
theorem zero_at (p : Fin 4) (l : Fin 128) (e : Fin 256) : (k0_pay3 (F := Ideal)) (ix3 p l e) = (later Q D 7 p l e : EReal) := by
  pointwise [k0_pay3]
  simp [later]

/-- What a point leaves. -/
def Left (m : (ℓ : Loc nD τ sig) → Buf (Elt Ideal) ℓ) (c : Dev nD) (G : ℕ → ℝ) (Q K D V : ℕ → ℕ → ℝ) (n : ℕ) (hn : n < cfg0.N) : Prop :=
  (∀ (p : Fin 4) (r : Fin 256) (l : Fin 128), (outsAt0 m c n hn).1 (ix2 r ⟨128 * p.val + l.val, by omega⟩) = (dK G Q D V (256 * (7 - n) + r) (128 * p.val + l) : EReal))
    ∧ (∀ (p : Fin 4) (r e : Fin 256), (outsAt0 m c n hn).2.1 (ix2 r ⟨256 * p.val + e.val, by omega⟩) = (dV G Q K D (256 * (7 - n) + r) (256 * p.val + e) : EReal))
    ∧ (n < 7 → ∀ (p : Fin 4) (l : Fin 128) (e : Fin 256), (outsAt0 m c n hn).2.2 (ix3 p l e) = (later Q D (6 - n) p l e : EReal))

set_option maxHeartbeats 1000000 in
include B in
theorem left_A (t : Fin cfg0.N) (h : t.val = 0) : Left m c G Q K D V t.val t.isLt := by
  have z : ∀ (p : Fin 4) (l : Fin 128) (e : Fin 256), (k0_pay3 (F := Ideal)) (ix3 p l e) = (later Q D (7 - t.val) p l e : EReal) := fun p l e => by
    rw [h]; exact zero_at p l e
  unfold Left
  rw [outsAt0_A m c t (by rw [h])]
  dsimp only
  refine And.intro (fun p r l => ?_) (And.intro (fun p r l => ?_) (fun h7 p l e => ?_))
  · rw [dk_A]
    exact dk_real B t _ z p r l
  · rw [dv_A]
    exact dv_real B t _ z p r l
  · rw [st_A]
    exact st_real B t _ z h7 p l e

set_option maxHeartbeats 1000000 in
include B in
theorem left_B (t : Fin cfg0.N) (h : ¬ t.val % 8 = 0)
    (hs : ∀ (p : Fin 4) (l : Fin 128) (e : Fin 256), (outsAt0 m c (t.val - 1) (Nat.lt_of_le_of_lt (Nat.sub_le _ _) t.isLt)).2.2 (ix3 p l e) = (later Q D (7 - t.val) p l e : EReal)) :
    Left m c G Q K D V t.val t.isLt := by
  unfold Left
  rw [outsAt0_B m c t h]
  dsimp only
  refine And.intro (fun p r l => ?_) (And.intro (fun p r l => ?_) (fun h7 p l e => ?_))
  · rw [dk_B]
    exact dk_real B t _ hs p r l
  · rw [dv_B]
    exact dv_real B t _ hs p r l
  · rw [st_B]
    exact st_real B t _ hs h7 p l e

include B in
theorem left_real : ∀ (n : ℕ) (hn : n < cfg0.N), Left m c G Q K D V n hn := by
  intro n
  induction n with
  | zero => exact fun hn => left_A B ⟨0, hn⟩ rfl
  | succ n ih =>
    intro hn
    have h8 : n + 1 < 8 := lt_of_lt_of_eq hn (show cfg0.N = 8 from N_0)
    refine left_B B ⟨n + 1, hn⟩ (by show ¬(n + 1) % 8 = 0; omega) fun p l e => ?_
    refine ((ih (Nat.lt_of_succ_lt hn)).2.2 (by omega) p l e).trans ?_
    rw [show 6 - n = 7 - (n + 1) by omega]

set_option maxHeartbeats 1000000 in
include B in
/-- The array of the key gradient. -/
theorem array5 {R : FVec Ideal S2048x512 .bf16} (hR : ∀ (n : Fin 2048) (l : Fin 512), R (ix2 n l) = ((dK G Q D V n l : ℝ) : EReal)) :
    (dats m 0 c).arrAt 5 (cfgs 0).N = R := by
  refine (dats m 0 c).arrAt_eq_of_covers 5 _ (by decide +kernel) fun t hf y => ?_
  have ht : t.val < 8 := pt
  have h0 : ((((View.whole main_v59_0).slice (win0_5.rect t)).emb y) 0 : ℕ) = (7 - t.val) * 256 + y 0 := by blk_simp [idx t]
  have h1 : ((((View.whole main_v59_0).slice (win0_5.rect t)).emb y) 1 : ℕ) = y 1 := by blk_simp [idx t]
  blk_simp
  rw [after0_5]
  have hy0 : (y 0).val < 256 := (y 0).isLt
  have hy1 : (y 1).val < 512 := (y 1).isLt
  have hi : ((View.whole main_v59_0).slice (win0_5.rect t)).emb y = ix2 ⟨256 * (7 - t.val) + y 0, by omega⟩ ⟨y 1, by omega⟩ :=
    (eq_ix2 _).trans (congrArg₂ ix2 (Fin.ext (h0.trans (by dsimp only; omega))) (Fin.ext h1))
  refine Eq.trans ?_ (congrArg R hi).symm
  have O := (left_real B t.val t.isLt).1 ⟨(y 1).val / 128, by omega⟩ (y 0) ⟨(y 1).val % 128, by omega⟩
  have e : 128 * ((y 1).val / 128) + (y 1).val % 128 = (y 1).val := by omega
  have hy : y = ix2 (y 0) ⟨128 * ((y 1).val / 128) + (y 1).val % 128, by omega⟩ := (eq_ix2 _).trans (congrArg (ix2 (y 0)) (Fin.ext e.symm))
  refine (congrArg _ hy).trans (O.trans ?_)
  dsimp only
  rw [e]
  exact (hR ⟨256 * (7 - t.val) + y 0, by omega⟩ ⟨y 1, by omega⟩).symm

set_option maxHeartbeats 1000000 in
include B in
/-- The array of the value gradient. -/
theorem array6 {R : FVec Ideal S2048x1024 .bf16} (hR : ∀ (n : Fin 2048) (l : Fin 1024), R (ix2 n l) = ((dV G Q K D n l : ℝ) : EReal)) :
    (dats m 0 c).arrAt 6 (cfgs 0).N = R := by
  refine (dats m 0 c).arrAt_eq_of_covers 6 _ (by decide +kernel) fun t hf y => ?_
  have ht : t.val < 8 := pt
  have h0 : ((((View.whole main_v59_1).slice (win0_6.rect t)).emb y) 0 : ℕ) = (7 - t.val) * 256 + y 0 := by blk_simp [idx t]
  have h1 : ((((View.whole main_v59_1).slice (win0_6.rect t)).emb y) 1 : ℕ) = y 1 := by blk_simp [idx t]
  blk_simp
  rw [after0_6]
  have hy0 : (y 0).val < 256 := (y 0).isLt
  have hy1 : (y 1).val < 1024 := (y 1).isLt
  have hi : ((View.whole main_v59_1).slice (win0_6.rect t)).emb y = ix2 ⟨256 * (7 - t.val) + y 0, by omega⟩ ⟨y 1, by omega⟩ :=
    (eq_ix2 _).trans (congrArg₂ ix2 (Fin.ext (h0.trans (by dsimp only; omega))) (Fin.ext h1))
  refine Eq.trans ?_ (congrArg R hi).symm
  have O := (left_real B t.val t.isLt).2.1 ⟨(y 1).val / 256, by omega⟩ (y 0) ⟨(y 1).val % 256, by omega⟩
  have e : 256 * ((y 1).val / 256) + (y 1).val % 256 = (y 1).val := by omega
  have hy : y = ix2 (y 0) ⟨256 * ((y 1).val / 256) + (y 1).val % 256, by omega⟩ := (eq_ix2 _).trans (congrArg (ix2 (y 0)) (Fin.ext e.symm))
  refine (congrArg _ hy).trans (O.trans ?_)
  dsimp only
  rw [e]
  exact (hR ⟨256 * (7 - t.val) + y 0, by omega⟩ ⟨y 1, by omega⟩).symm

end Cert.RetKVIdeal.Hand

end
-- ==== Proof.RetKVHost.lean ====
/-
  The arrays the host prepares for the retention key and value pass.
-/
module

public import proofs.«01_k».proof.Proof.RetKVGrid
public import proofs.«01_k».proof.Proof.RetGamma
public import Idealize.ShloMosaic.Lib.StableHlo.RunRead

@[expose] public section

set_option maxRecDepth 16384

noncomputable section

open Idealize.ShloMosaic Idealize.ShloMosaic.TcCoe Idealize.SL.Sem

namespace Cert.RetKVIdeal.Hand

open Cert.RetKVIdeal Cert.RetKVIdeal.Gen Cert.RealKit Cert.Ret

variable (m : (ℓ : Loc nD τ sig) → Buf (Elt Ideal) ℓ) (c : Dev nD)

set_option maxHeartbeats 2000000 in
/-- The decays. -/
theorem entryG (h : Fin 8) : (V m c main_v58 : FVec Ideal S8 .f32) (ix1 h) = (gam h : EReal) := by
  unfold_abbrev_sides
  after_reads_simp
  pointwise []
  rw [bits_minus_five, bits_two]
  exact gam_word h (by omega)

set_option maxHeartbeats 2000000 in
/-- The values are read of the third argument. -/
theorem entryV (n : Fin 2048) (l : Fin 6656) : (V m c main_v50 : FVec Ideal S2048x6656 .bf16) (ix2 n l) = (m (c.tc.loc main_arg2) : FVec Ideal S2048x6656 .f32) (ix2 n l) := by
  unfold_abbrev_sides
  after_reads_simp
  rfl

set_option maxHeartbeats 2000000 in
/-- The cotangents are the fourth argument. -/
theorem entryD (n : Fin 2048) (l : Fin 1024) : (V m c main_v51 : FVec Ideal S2048x1024 .bf16) (ix2 n l) = (m (c.tc.loc main_arg3) : FVec Ideal S2048x1024 .f32) (ix2 n l) := by
  unfold_abbrev_sides
  after_reads_simp
  rfl

set_option maxHeartbeats 2000000 in
/-- The keys are scaled. -/
theorem entryK (n : Fin 2048) (l : Fin 512) (p : ℝ) (hp : (m (c.tc.loc main_arg1) : FVec Ideal S2048x512 .f32) (ix2 n l) = (p : EReal)) :
    (V m c main_v49 : FVec Ideal S2048x1024 .bf16) (ix2 n ⟨512 + l, by omega⟩) = ((p * (scale (-1) (gam (l / 64)) n * (1 / 8)) : ℝ) : EReal) := by
  unfold_abbrev_sides
  after_reads_simp
  pointwise []
  after_reads_simp
  pointwise []
  rw [bits_minus_five, bits_two, bits_minus_one, bits_middle, bits_eighth]
  rw [scale_coe (-1) n (l / 64) (by omega) (by omega), ← EReal.coe_mul]
  have e : (⟨l.val / 64 * 64 + l.val % 64, by omega⟩ : Fin 512) = l := Fin.ext (by dsimp only; omega)
  refine (congrArg (fun z : EReal => z * ((scale (-1) (gam (l / 64)) n * (1 / 8) : ℝ) : EReal)) ((congrArg (fun x => (m (c.tc.loc main_arg1) : FVec Ideal S2048x512 .f32) (ix2 n x)) e).trans hp)).trans ?_
  exact (EReal.coe_mul _ _).symm

set_option maxHeartbeats 2000000 in
/-- The queries are scaled. -/
theorem entryQ (n : Fin 2048) (l : Fin 512) (p : ℝ) (hp : (m (c.tc.loc main_arg0) : FVec Ideal S2048x512 .f32) (ix2 n l) = (p : EReal)) :
    (V m c main_v49 : FVec Ideal S2048x1024 .bf16) (ix2 n ⟨l, by omega⟩) = ((p * scale 1 (gam (l / 64)) n : ℝ) : EReal) := by
  unfold_abbrev_sides
  after_reads_simp
  pointwise []
  after_reads_simp
  pointwise []
  rw [bits_minus_five, bits_two, bits_middle]
  rw [scale_one_coe n (l / 64) (by omega) (by omega)]
  have e : (⟨l.val / 64 * 64 + l.val % 64, by omega⟩ : Fin 512) = l := Fin.ext (by dsimp only; omega)
  refine (congrArg (fun z : EReal => z * ((scale 1 (gam (l / 64)) n : ℝ) : EReal)) ((congrArg (fun x => (m (c.tc.loc main_arg0) : FVec Ideal S2048x512 .f32) (ix2 n x)) e).trans hp)).trans ?_
  exact (EReal.coe_mul _ _).symm

variable {m c} {q k d v : ℕ → ℕ → ℝ}

/-- What the grid points read, of the arguments. -/
theorem blocks (hq : ∀ (n : Fin 2048) (l : Fin 512), (m (c.tc.loc main_arg0) : FVec Ideal S2048x512 .f32) (ix2 n l) = (q n l : EReal))
    (hk : ∀ (n : Fin 2048) (l : Fin 512), (m (c.tc.loc main_arg1) : FVec Ideal S2048x512 .f32) (ix2 n l) = (k n l : EReal))
    (hv : ∀ (n : Fin 2048) (l : Fin 1024) (h : 1024 + l.val < 6656), (m (c.tc.loc main_arg2) : FVec Ideal S2048x6656 .f32) (ix2 n ⟨1024 + l, h⟩) = (v n l : EReal))
    (hd : ∀ (n : Fin 2048) (l : Fin 1024), (m (c.tc.loc main_arg3) : FVec Ideal S2048x1024 .f32) (ix2 n l) = (d n l : EReal)) :
    Blocks m c gam (qS gam q) (kS gam k) d v where
  g t h := (read_g m c t h).trans (entryG m c h)
  q t i l := (read_q m c t i l pt).trans (entryQ m c _ l _ (hq _ l))
  k t i l := (read_k m c t i l pt).trans (entryK m c _ l _ (hk _ l))
  v t i l := (read_v m c t i l pt).trans ((entryV m c _ _).trans (hv _ l (by omega)))
  d t i l := (read_d m c t i l pt).trans ((entryD m c _ l).trans (hd _ l))

end Cert.RetKVIdeal.Hand

end
-- ==== Proof.RetKVRef.lean ====
/-
  The reference's key and value gradients of retention over the reals.
-/
module

public import proofs.«01_k».proof.Proof.RetGamma
public import proofs.«01_k».proof.Proof.Gen.RetKVRefIdeal.Read
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.RetKVRefIdeal.Hand

open Cert.RetKVRefIdeal Cert.RetKVRefIdeal.Read Cert.RealKit Cert.Ret

theorem decay_at (h : Fin 8) (n j : Fin 2048) : val_main_v36 (F := Ideal) (ix3 h n j) = ((decay (gam h) n j : ℝ) : EReal) := by
  pointwise [val_main_v36, val_main_call0_v1, val_main_call0_v2, val_main_call0_v0, val_main_cst_2, val_main_v32, val_main_v31, val_main_v30, val_main_v29, val_main_v28, val_main_v27, val_main_v26, val_main_v25, val_main_v24, val_main_v23, val_main_v22, val_main_v21, val_main_v20, val_main_v19, val_main_cst_0, val_main_v18, val_main_v17, val_main_cst, val_main_v16, val_main_v15, val_main_v14, val_main_v13, val_main_v12, val_main_v11, val_main_v10, val_main_v9, val_main_v8, val_main_v7, val_main_v6, val_main_v5, val_main_v4]
  have hn := n.isLt
  have hj := j.isLt
  rw [WordCmp.cmpi_sle_ofNat (by omega) (by omega), bits_two, bits_minus_five, gam_word h (by omega), iota_coe n hn, iota_coe j hj, sub_coe, abs_coe, ← EReal.coe_mul, exp_coe]
  rw [show (id (constant (F := Ideal) S_ FTy.f32 0#32) ix0) = ((0 : ℝ) : EReal) from by simp [constant, Ideal.ofBits, Ideal.ieee]]
  unfold decay Scalar.select
  by_cases h' : j.val / 64 ≤ n.val / 64 <;> simp [h']

section reals

variable {x0 x1 : (⟨S2048x512, .f32⟩ : BufTy).Contents (Elt Ideal)} {x2 : (⟨S2048x6656, .f32⟩ : BufTy).Contents (Elt Ideal)} {x3 : (⟨S2048x1024, .f32⟩ : BufTy).Contents (Elt Ideal)}
  {q k d v : ℕ → ℕ → ℝ} (hq : ∀ (n : Fin 2048) (l : Fin 512), x0 (ix2 n l) = (q n l : EReal)) (hk : ∀ (n : Fin 2048) (l : Fin 512), x1 (ix2 n l) = (k n l : EReal))
  (hv : ∀ (n : Fin 2048) (l : Fin 1024) (h : 1024 + l.val < 6656), x2 (ix2 n ⟨1024 + l, h⟩) = (v n l : EReal))
  (hd : ∀ (n : Fin 2048) (l : Fin 1024), x3 (ix2 n l) = (d n l : EReal))

include hq in
theorem query_at (n : Fin 2048) (h : Fin 8) (l : Fin 64) : val_main_v0 (F := Ideal) x0 (ix3 n h l) = ((q n (64 * h + l) : ℝ) : EReal) := by
  pointwise [val_main_v0]
  exact (hq n ⟨h.val * 64 + l.val, by omega⟩).trans (congrArg (fun z => ((q n z : ℝ) : EReal)) (show h.val * 64 + l.val = 64 * h.val + l.val by omega))

include hk in
theorem key_at (n : Fin 2048) (h : Fin 8) (l : Fin 64) : val_main_v34 (F := Ideal) x1 (ix3 n h l) = ((k n (64 * h + l) * (1 / 8) : ℝ) : EReal) := by
  pointwise [val_main_v34, val_main_v1, val_main_v33, val_main_cst_1]
  rw [bits_eighth, EReal.coe_mul]
  refine congrArg (fun z : EReal => z * ((1 / 8 : ℝ) : EReal)) ?_
  exact (hk n ⟨h.val * 64 + l.val, by omega⟩).trans (congrArg (fun z => ((k n z : ℝ) : EReal)) (show h.val * 64 + l.val = 64 * h.val + l.val by omega))

include hv hd in
/-- The gradient of a score. -/
theorem score_at (h : Fin 8) (n j : Fin 2048) :
    val_main_v45 (F := Ideal) x2 x3 (ix3 h n j) = (((∑ e : Fin 128, d n (128 * h + e) * v j (128 * h + e)) * decay (gam h) n j : ℝ) : EReal) := by
  pointwise [val_main_v45, val_main_v42, val_main_v41, val_main_v40, val_main_v3, val_main_v2]
  rw [decay_at, EReal.coe_mul, coe_sum]
  refine congrArg (fun z : EReal => z * ((decay (gam h) n j : ℝ) : EReal)) (Finset.sum_congr rfl fun e _ => ?_)
  rw [show 128 * h.val + e.val = h.val * 128 + e.val by omega, EReal.coe_mul]
  exact congrArg₂ (· * ·) (hd n ⟨h.val * 128 + e.val, by omega⟩) (hv j ⟨h.val * 128 + e.val, by omega⟩ (by dsimp only; omega))

include hq hk in
/-- A score. -/
theorem weight_at (h : Fin 8) (n j : Fin 2048) :
    val_main_v37 (F := Ideal) x0 x1 (ix3 h n j) = (((∑ x : Fin 64, q n (64 * h + x) * (k j (64 * h + x) * (1 / 8))) * decay (gam h) n j : ℝ) : EReal) := by
  pointwise [val_main_v37, val_main_v35]
  rw [decay_at, EReal.coe_mul, coe_sum]
  refine congrArg (fun z : EReal => z * ((decay (gam h) n j : ℝ) : EReal)) (Finset.sum_congr rfl fun x _ => ?_)
  rw [query_at hq, key_at hk, ← EReal.coe_mul]

include hq hv hd in
/-- The key gradient, entry by entry. -/
theorem dk_at (n : Fin 2048) (l : Fin 512) : val_main_v76 (F := Ideal) x0 x2 x3 (ix2 n l) = ((dK gam (qS gam q) d v n l : ℝ) : EReal) := by
  pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_3, val_main_cst_4, val_main_cst_5, val_main_cst_6, val_main_cst_7, val_main_cst_8]
  rw [bits_two, bits_minus_five, bits_middle, bits_eighth, bits_eight, scale_one_coe n (l / 64) (by omega) (by omega), ← dk_ref, EReal.coe_mul, EReal.coe_mul, EReal.coe_mul, coe_sum]
  refine congrArg (fun z : EReal => z * ((1 / 8 : ℝ) : EReal) * ((scale 1 (gam (l / 64)) n : ℝ) : EReal) * ((8 : ℝ) : EReal)) (Finset.sum_congr rfl fun j _ => ?_)
  rw [score_at hv hd, query_at hq, ← EReal.coe_mul]
  have e : 64 * (l.val / 64) + l.val % 64 = l.val := by omega
  simp only [e]

include hq hk hd in
/-- The value gradient, entry by entry. -/
theorem dv_at (n : Fin 2048) (l : Fin 1024) : val_main_v78 (F := Ideal) x0 x1 x3 (ix2 n l) = ((dV gam (qS gam q) (kS gam k) d n l : ℝ) : EReal) := by
  pointwise [val_main_v78, val_main_v77, val_main_v44, val_main_v43, val_main_v41, val_main_v40]
  rw [← dv_ref, coe_sum]
  refine Finset.sum_congr rfl fun j _ => ?_
  rw [weight_at hq hk, hd, ← EReal.coe_mul]

end reals

end Cert.RetKVRefIdeal.Hand

end
-- ==== Proof.RetKVFinal.lean ====
/-
  The retention key and value pass computes the reference's key and value gradients.
-/
module

public import proofs.«01_k».proof.Proof.RetKVHost
public import proofs.«01_k».proof.Proof.RetKVRef
public import proofs.«01_k».proof.Proof.RetPre

@[expose] public section

set_option maxRecDepth 16384

noncomputable section

open Idealize.ShloMosaic Idealize.ShloMosaic.TcCoe Idealize.SL.Sem

namespace Cert.RetKVIdeal.Hand

open Cert.RetKVIdeal Cert.RetKVIdeal.Gen Cert.RealKit Cert.Ret

variable (m : (ℓ : Loc nD τ sig) → Buf (Elt Ideal) ℓ) (c : Dev nD)
  (h : Cert.Pre_ret_finite.fn (F := Ideal) (m ((c : Thread nD τ).loc main_arg0)) (m ((c : Thread nD τ).loc main_arg1)) (m ((c : Thread nD τ).loc main_arg2)) (m ((c : Thread nD τ).loc main_arg3)) = fun _ => 1#1)

include h

/-- Of finite arguments, the array of the key gradient is the reference's. -/
theorem arrayK : (dats m 0 c).arrAt 5 (cfgs 0).N
    = Cert.RetKVRefIdeal.Read.val_main_v76 (F := Ideal) (m ((c : Thread nD τ).loc main_arg0)) (m ((c : Thread nD τ).loc main_arg2)) (m ((c : Thread nD τ).loc main_arg3)) := by
  obtain ⟨q, k, v, d, hq, hk, hv, hd⟩ := Cert.Pre_ret_finite.finite_of h
  exact array5 (blocks hq hk hv hd) (Cert.RetKVRefIdeal.Hand.dk_at hq hv hd)

/-- Of finite arguments, the array of the value gradient is the reference's. -/
theorem arrayV : (dats m 0 c).arrAt 6 (cfgs 0).N
    = Cert.RetKVRefIdeal.Read.val_main_v78 (F := Ideal) (m ((c : Thread nD τ).loc main_arg0)) (m ((c : Thread nD τ).loc main_arg1)) (m ((c : Thread nD τ).loc main_arg3)) := by
  obtain ⟨q, k, v, d, hq, hk, hv, hd⟩ := Cert.Pre_ret_finite.finite_of h
  exact array6 (blocks hq hk hv hd) (Cert.RetKVRefIdeal.Hand.dv_at hq hk hd)

end Cert.RetKVIdeal.Hand

end
-- ==== Proof.NormKit.lean ====
/-
  The norm of rows and its gradient over the reals, and the halves of a block of rows.
-/
module

public import proofs.«01_k».proof.Proof.RealKit
public import Idealize.ShloMosaic.Lib.WritesUnit
public import Idealize.ShloMosaic.Lib.VecWindow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.NormKit

open Cert.RealKit

variable {F : FTy → Type} [FloatOps F]

/-! ## Halves of a block of 256 rows -/

/-- One half of a block of 256 rows. -/
def half {n : ℕ} {e : EltTy} (x : Vec F ⟨2, ![256, n]⟩ e) (p : Fin 2) : Vec F ⟨2, ![128, n]⟩ e :=
  fun y => x (ix2 ⟨128 * p.val + (y 0).val, by have : (y 0).val < 128 := (y 0).isLt; omega⟩ (y 1))

/-- One of the six rows of 1024 modulations. -/
def cols {e : EltTy} (x : Vec F ⟨2, ![1, 6144]⟩ e) (k : Fin 6) : Vec F ⟨2, ![1, 1024]⟩ e :=
  fun y => x (ix2 0 ⟨1024 * k.val + (y 1).val, by have : (y 1).val < 1024 := (y 1).isLt; omega⟩)

variable {sig : RefSig}

theorem read_half {n : ℕ} {e : EltTy} (r : Memref sig .tc .vmem ⟨2, ![256, n]⟩ e) (h : r.IsWhole) (x : Vec F ⟨2, ![256, n]⟩ e) (p : Fin 2)
    (off : Fin 2 → ℕ) (ho : off = ![128 * p.val, 0]) (inb) :
    r.view.readAt (Elt F) (Rect.unit (s := ⟨2, ![256, n]⟩) off ![128, n] inb).toLoadRect (h.unread x) = half x p := by
  subst ho
  rw [View.readAt_eq_ld, Memref.IsWhole.read_unread]
  funext y
  refine View.ld_unit_apply_of _ _ _ _ y _ fun a => ?_
  match a with
  | ⟨0, _⟩ => rfl
  | ⟨1, _⟩ => exact (Nat.zero_add _).symm

theorem read_cols {e : EltTy} (r : Memref sig .tc .vmem ⟨2, ![1, 6144]⟩ e) (h : r.IsWhole) (x : Vec F ⟨2, ![1, 6144]⟩ e) (k : Fin 6)
    (off : Fin 2 → ℕ) (ho : off = ![0, 1024 * k.val]) (inb) :
    r.view.readAt (Elt F) (Rect.unit (s := ⟨2, ![1, 6144]⟩) off ![1, 1024] inb).toLoadRect (h.unread x) = cols x k := by
  subst ho
  rw [View.readAt_eq_ld, Memref.IsWhole.read_unread]
  funext y
  refine View.ld_unit_apply_of _ _ _ _ y _ fun a => ?_
  match a with
  | ⟨0, _⟩ => have h0 : (y 0).val < 1 := (y 0).isLt; show (0 : ℕ) = 0 + (y 0).val; omega
  | ⟨1, _⟩ => rfl

/-- A load of everything. -/
theorem read_all {sp : Space} {s : Shape} {e : EltTy} (r : Memref sig .tc sp s e) (h : r.IsWhole) (x : Vec F s e) (off : Fin s.rank → ℕ) (inb) :
    r.view.readAt (Elt F) (Rect.unit (s := s) off s.size inb).toLoadRect (h.unread x) = x := by
  rw [View.readAt_full, Memref.IsWhole.read_unread]

/-- Both halves stored, read in one of them. -/
theorem out_half {n : ℕ} {e : EltTy} (v : View sig .tc .vmem ⟨2, ![256, n]⟩ e) (g : Fin 2 → Vec F ⟨2, ![128, n]⟩ e) {w1 w0 : Vec F ⟨2, ![128, n]⟩ e}
    (e1 : w1 = g 1) (e0 : w0 = g 0) (p : Fin 2) (i1 i0) (f) (r : Fin 128) (l : Fin n) (hb : 128 * p.val + r.val < 256) :
    v.read (Elt F) (v.writes (Elt F) f [⟨Rect.unit (s := ⟨2, ![256, n]⟩) ![128, 0] ![128, n] i1, w1⟩, ⟨Rect.unit (s := ⟨2, ![256, n]⟩) ![0, 0] ![128, n] i0, w0⟩])
      (ix2 ⟨128 * p.val + r.val, hb⟩ l) = g p (ix2 r l) := by
  subst e1 e0
  match p with
  | ⟨0, _⟩ =>
    refine (View.read_writes_cons_unit_of_not_mem v f i1 _ _ _ rfl 0 (Or.inl (by show 128 * 0 + r.val < 128; omega))).trans ?_
    refine View.read_writes_cons_unit_of_mem v f i0 _ [] _ (ix2 r l) rfl fun a => ?_
    match a with
    | ⟨0, _⟩ => show 128 * 0 + r.val = 0 + r.val; omega
    | ⟨1, _⟩ => exact (Nat.zero_add _).symm
  | ⟨1, _⟩ =>
    refine View.read_writes_cons_unit_of_mem v f i1 _ _ _ (ix2 r l) rfl fun a => ?_
    match a with
    | ⟨0, _⟩ => rfl
    | ⟨1, _⟩ => exact (Nat.zero_add _).symm

/-! ## The norm over the reals -/

theorem bits_thousandth : Ideal.ofBits .f32 0x3A800000#32 = ((1 / 1024 : ℝ) : EReal) := by
  simp [Ideal.ofBits, Ideal.ieee, -EReal.coe_mul]; norm_num

theorem bits_thousand : Ideal.ofBits .f32 0x44800000#32 = ((1024 : ℝ) : EReal) := by
  simp [Ideal.ofBits, Ideal.ieee, -EReal.coe_mul]; norm_num

theorem bits_2048 : Ideal.ofBits .f32 0x45000000#32 = ((2048 : ℝ) : EReal) := by
  simp [Ideal.ofBits, Ideal.ieee, -EReal.coe_mul]; norm_num

theorem bits_unit : Ideal.ofBits .f32 0x3F800000#32 = ((1 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

/-- The number added to the mean square. -/
def eps : ℝ := 8796093 / 8796093022208

theorem bits_eps : Ideal.ofBits .f32 0x358637BD#32 = ((eps : ℝ) : EReal) := by
  unfold eps
  simp [Ideal.ofBits, Ideal.ieee, -EReal.coe_mul]; norm_num

theorem rsqrt_coe (x : ℝ) (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.2 h.le), if_neg h.ne']

/-- The mean square of a row. -/
def ms (x : ℕ → ℝ) : ℝ := (∑ j : Fin 1024, x j * x j) / 1024 + eps

theorem ms_pos (x : ℕ → ℝ) : 0 < ms x := by
  have h : 0 ≤ ∑ j : Fin 1024, x j * x j := Finset.sum_nonneg fun j _ => mul_self_nonneg _
  have e : (0 : ℝ) < eps := by unfold eps; norm_num
  unfold ms
  positivity

/-- The factor of the norm of a row. -/
def rs (x : ℕ → ℝ) : ℝ := (Real.sqrt (ms x))⁻¹

/-- A row divided by its root mean square. -/
def nm (x : ℕ → ℝ) (l : ℕ) : ℝ := x l * rs x

/-- The gradient through the norm of a row, as the calls compute it. -/
def back (x d : ℕ → ℝ) (l : ℕ) : ℝ := rs x * (d l - nm x l * ((∑ j : Fin 1024, d j * nm x j) * (1 / 1024)))

/-- A row's share of the derivative of its mean square. -/
def share (x d : ℕ → ℝ) : ℝ := (∑ j : Fin 1024, x j * d j) * (-(1 / 2) * (rs x / ms x)) / 1024

theorem rs_sq (x : ℕ → ℝ) : rs x * rs x = 1 / ms x := by
  unfold rs
  rw [← mul_inv, Real.mul_self_sqrt (ms_pos x).le, one_div]

/-- The same gradient by the rules of differentiation. -/
theorem back_eq (x d : ℕ → ℝ) (l : ℕ) : back x d l = d l * rs x + x l * share x d + share x d * x l := by
  have e : ∑ j : Fin 1024, d j * nm x j = rs x * ∑ j : Fin 1024, x j * d j := by
    rw [Finset.mul_sum]
    refine Finset.sum_congr rfl fun j _ => ?_
    unfold nm
    ring
  have q : rs x / ms x = rs x * (rs x * rs x) := by rw [rs_sq]; ring
  unfold back share
  rw [e, q]
  unfold nm
  ring

/-- The factor of the norm, from the sum of the squares times the inverse of their number. -/
theorem rs_mul (x : ℕ → ℝ) : Ideal.rsqrt (((∑ j : Fin 1024, x j * x j : ℝ) : EReal) * ((1 / 1024 : ℝ) : EReal) + ((eps : ℝ) : EReal)) = ((rs x : ℝ) : EReal) := by
  rw [← EReal.coe_mul, ← EReal.coe_add, show (∑ j : Fin 1024, x j * x j) * (1 / 1024) + eps = ms x by unfold ms; ring, rsqrt_coe _ (ms_pos x)]
  rfl

/-- The mean square, from the sum of the squares divided by their number. -/
theorem ms_div (x : ℕ → ℝ) : Ideal.div ((∑ j : Fin 1024, x j * x j : ℝ) : EReal) ((1024 : ℝ) : EReal) + ((eps : ℝ) : EReal) = ((ms x : ℝ) : EReal) := by
  rw [div_coe _ _ (by norm_num), ← EReal.coe_add]
  rfl

/-- The factor of the norm, from the mean square. -/
theorem rs_ms (x : ℕ → ℝ) : Ideal.rsqrt ((ms x : ℝ) : EReal) = ((rs x : ℝ) : EReal) := rsqrt_coe _ (ms_pos x)

/-- Two halves of a block added to a sum over the rows before it. -/
theorem add_halves (f : ℕ → ℝ) (t : ℕ) :
    (∑ n ∈ Finset.range (256 * t), f n + ∑ i : Fin 128, f (256 * t + i)) + ∑ i : Fin 128, f (256 * t + 128 + i) = ∑ n ∈ Finset.range (256 * (t + 1)), f n := by
  rw [← range_add, ← range_add]
  congr 1

end Cert.NormKit

end
-- ==== Proof.BranchCases.lean ====
/-
  What a step of the retention branch's gradient leaves, head by head.
-/
module

public import proofs.«01_k».proof.Proof.NormKit
public import proofs.«01_k».proof.Proof.Gen.BranchIdeal.Frame

@[expose] public section

set_option maxRecDepth 16384

noncomputable section

open Idealize.ShloMosaic Idealize.ShloMosaic.TcCoe Idealize.SL.Sem

namespace Cert.BranchIdeal.Hand

open Cert.BranchIdeal Cert.BranchIdeal.Gen Cert.NormKit

variable {F : FTy → Type} [FloatOps F]

/-- One head's columns of two. -/
def lanes {n : ℕ} {e : EltTy} (x : Vec F ⟨2, ![n, 256]⟩ e) (p : Fin 2) : Vec F ⟨2, ![n, 128]⟩ e :=
  fun y => x (ix2 (y 0) ⟨128 * p.val + (y 1).val, by have : (y 1).val < 128 := (y 1).isLt; omega⟩)

/-- A step's columns. -/
def part {e : EltTy} (x : Vec F S2048x1024 e) (o : ℕ) (h : o + 256 ≤ 1024) : Vec F S2048x256 e :=
  fun y => x (ix2 (y 0) ⟨o + (y 1).val, by have : (y 1).val < 256 := (y 1).isLt; omega⟩)

section views

variable {sig : RefSig}

theorem read_lanes {n : ℕ} {e : EltTy} (r : Memref sig .tc .vmem ⟨2, ![n, 256]⟩ e) (h : r.IsWhole) (x : Vec F ⟨2, ![n, 256]⟩ e) (p : Fin 2)
    (off : Fin 2 → ℕ) (ho : off = ![0, 128 * p.val]) (inb) :
    r.view.readAt (Elt F) (Rect.unit (s := ⟨2, ![n, 256]⟩) off ![n, 128] inb).toLoadRect (h.unread x) = lanes x p := by
  subst ho
  rw [View.readAt_eq_ld, Memref.IsWhole.read_unread]
  funext y
  refine View.ld_unit_apply_of _ _ _ _ y _ fun a => ?_
  match a with
  | ⟨0, _⟩ => exact (Nat.zero_add _).symm
  | ⟨1, _⟩ => rfl

theorem read_part {e : EltTy} (r : Memref sig .tc .vmem S2048x1024 e) (h : r.IsWhole) (x : Vec F S2048x1024 e) (o : ℕ) (hb : o + 256 ≤ 1024)
    (off : Fin 2 → ℕ) (ho : off = ![0, o]) (inb) :
    r.view.readAt (Elt F) (Rect.unit (s := S2048x1024) off S2048x256.size inb).toLoadRect (h.unread x) = part x o hb := by
  subst ho
  rw [View.readAt_eq_ld, Memref.IsWhole.read_unread]
  funext y
  refine View.ld_unit_apply_of _ _ _ _ y _ fun a => ?_
  match a with
  | ⟨0, _⟩ => exact (Nat.zero_add _).symm
  | ⟨1, _⟩ => rfl

/-- Both heads stored, read in one of them. -/
theorem out_lanes {n : ℕ} {e : EltTy} (v : View sig .tc .vmem ⟨2, ![n, 256]⟩ e) (g : Fin 2 → Vec F ⟨2, ![n, 128]⟩ e) {w1 w0 : Vec F ⟨2, ![n, 128]⟩ e}
    (e1 : w1 = g 1) (e0 : w0 = g 0) (p : Fin 2) (i1 i0) (f) (r : Fin n) (l : Fin 128) (hb : 128 * p.val + l.val < 256) :
    v.read (Elt F) (v.writes (Elt F) f [⟨Rect.unit (s := ⟨2, ![n, 256]⟩) ![0, 128] ![n, 128] i1, w1⟩, ⟨Rect.unit (s := ⟨2, ![n, 256]⟩) ![0, 0] ![n, 128] i0, w0⟩])
      (ix2 r ⟨128 * p.val + l.val, hb⟩) = g p (ix2 r l) := by
  subst e1 e0
  match p with
  | ⟨0, _⟩ =>
    refine (View.read_writes_cons_unit_of_not_mem v f i1 _ _ _ rfl 1 (Or.inl (by show 128 * 0 + l.val < 128; omega))).trans ?_
    refine View.read_writes_cons_unit_of_mem v f i0 _ [] _ (ix2 r l) rfl fun a => ?_
    match a with
    | ⟨0, _⟩ => exact (Nat.zero_add _).symm
    | ⟨1, _⟩ => show 128 * 0 + l.val = 0 + l.val; omega
  | ⟨1, _⟩ =>
    refine View.read_writes_cons_unit_of_mem v f i1 _ _ _ (ix2 r l) rfl fun a => ?_
    match a with
    | ⟨0, _⟩ => exact (Nat.zero_add _).symm
    | ⟨1, _⟩ => rfl

/-- Two blocks of columns stored one after the other, read in one of them. -/
theorem out_blocks {e : EltTy} (v : View sig .tc .vmem S2x512x128 e) (g : Fin 2 → Vec F S1x512x128 e) {w1 w0 : Vec F S1x512x128 e}
    (e1 : w1 = g 1) (e0 : w0 = g 0) (p : Fin 2) (i1 i0) (f) (r : Fin 512) (l : Fin 128) :
    v.read (Elt F) (v.writes (Elt F) f [⟨Rect.unit (s := S2x512x128) ![1, 0, 0] S1x512x128.size i1, w1⟩, ⟨Rect.unit (s := S2x512x128) ![0, 0, 0] S1x512x128.size i0, w0⟩])
      (ix3 p r l) = g p (ix3 0 r l) := by
  subst e1 e0
  match p with
  | ⟨0, _⟩ =>
    refine (View.read_writes_cons_unit_of_not_mem v f i1 _ _ _ rfl 0 (Or.inl (by show 0 < 1; omega))).trans ?_
    refine View.read_writes_cons_unit_of_mem v f i0 _ [] _ (ix3 0 r l) rfl fun a => ?_
    match a with
    | ⟨0, _⟩ => rfl
    | ⟨1, _⟩ => exact (Nat.zero_add _).symm
    | ⟨2, _⟩ => exact (Nat.zero_add _).symm
  | ⟨1, _⟩ =>
    refine View.read_writes_cons_unit_of_mem v f i1 _ _ _ (ix3 0 r l) rfl fun a => ?_
    match a with
    | ⟨0, _⟩ => rfl
    | ⟨1, _⟩ => exact (Nat.zero_add _).symm
    | ⟨2, _⟩ => exact (Nat.zero_add _).symm

end views

/-- The gradient of one head's gated values. -/
def slopes (v0 : Vec F S2048x1024 .bf16) (v31 : Vec F S256x1024 .bf16) (p : Fin 2) : FVec F S2048x128 .f32 := ![k0_pay10 (k0_pay2 v0) v31, k0_pay23 (k0_pay8 (k0_pay2 v0) v31)] p

section head

variable (o : Vec F S2048x128 .f32) (g : Vec F S2048x128 .bf16) (w : Vec F S1x128 .f32) (d : FVec F S2048x128 .f32)

/-- The gradient of one head's gate. -/
def bDg : FVec F S2048x128 .bf16 := k0_pay30 o (k0_pay22 g) w d (k0_pay24 o)

/-- The gradient of one head's retention. -/
def bDret : FVec F S2048x128 .bf16 := k0_pay1 (k0_pay26 o (k0_pay24 o)) (k0_pay27 o (k0_pay24 o)) (k0_pay32 (k0_pay22 g) w d) (k0_pay33 (k0_pay22 g) w d)

/-- The gradient of one head's norm weight. -/
def bDw : FVec F S1x128 .f32 := k0_pay31 o (k0_pay22 g) d (k0_pay24 o)

end head

/-- The gradient of the stick-breaking output's weight in one block of columns. -/
def bGws (v16 : Vec F S2048x512 .bf16) (v19 : Vec F S2048x256 .bf16) (p : Fin 2) : FVec F S1x512x128 .bf16 := ![k0_pay6 v16 v19, k0_pay7 v16 v19] p

section congr

variable {v0 v0' : Vec F S2048x1024 .bf16} {v31 v31' : Vec F S256x1024 .bf16} {o o' : Vec F S2048x128 .f32} {g g' : Vec F S2048x128 .bf16} {w w' : Vec F S1x128 .f32}

theorem dg_congr0 (ho : o = o') (hg : g = g') (hw : w = w') (hv0 : v0 = v0') (hv31 : v31 = v31') : k0_pay19 (k0_pay14 g) (k0_pay16 (k0_pay2 v0) v31 o w) (k0_pay17 g) (k0_pay18 (F := F)) = bDg o' g' w' (slopes v0' v31' 0) := by
  subst ho hg hw hv0 hv31; rfl

theorem dg_congr1 (ho : o = o') (hg : g = g') (hw : w = w') (hv0 : v0 = v0') (hv31 : v31 = v31') : k0_pay30 o (k0_pay22 g) w (k0_pay23 (k0_pay8 (k0_pay2 v0) v31)) (k0_pay24 o) = bDg o' g' w' (slopes v0' v31' 1) := by
  subst ho hg hw hv0 hv31; rfl

theorem dret_congr0 (ho : o = o') (hg : g = g') (hw : w = w') (hv0 : v0 = v0') (hv31 : v31 = v31') : k0_pay21 w (k0_pay10 (k0_pay2 v0) v31) (k0_pay12 o) (k0_pay13 o) (k0_pay15 g) = bDret o' g' w' (slopes v0' v31' 0) := by
  subst ho hg hw hv0 hv31; rfl

theorem dret_congr1 (ho : o = o') (hg : g = g') (hw : w = w') (hv0 : v0 = v0') (hv31 : v31 = v31') : k0_pay1 (k0_pay26 o (k0_pay24 o)) (k0_pay27 o (k0_pay24 o)) (k0_pay32 (k0_pay22 g) w (k0_pay23 (k0_pay8 (k0_pay2 v0) v31))) (k0_pay33 (k0_pay22 g) w (k0_pay23 (k0_pay8 (k0_pay2 v0) v31))) = bDret o' g' w' (slopes v0' v31' 1) := by
  subst ho hg hw hv0 hv31; rfl

theorem dw_congr0 (ho : o = o') (hg : g = g') (hv0 : v0 = v0') (hv31 : v31 = v31') : k0_pay20 (k0_pay10 (k0_pay2 v0) v31) (k0_pay13 o) (k0_pay15 g) = bDw o' g' (slopes v0' v31' 0) := by
  subst ho hg hv0 hv31; rfl

theorem dw_congr1 (ho : o = o') (hg : g = g') (hv0 : v0 = v0') (hv31 : v31 = v31') : k0_pay31 o (k0_pay22 g) (k0_pay23 (k0_pay8 (k0_pay2 v0) v31)) (k0_pay24 o) = bDw o' g' (slopes v0' v31' 1) := by
  subst ho hg hv0 hv31; rfl

theorem gws_congr {v16 v16' : Vec F S2048x512 .bf16} {v19 v19' : Vec F S2048x256 .bf16} (p : Fin 2) (h16 : v16 = v16') (h19 : v19 = v19') : bGws v16 v19 p = bGws v16' v19' p := by
  subst h16 h19; rfl

end congr

variable (c : Dev nD) (i : grid0.Coords)
  (arg1 : Memref sig .tc .vmem S2048x1024 .bf16) (harg1 : arg1.IsWhole)
  (arg2 : Memref sig .tc .vmem S2048x1024 .bf16) (harg2 : arg2.IsWhole)
  (arg3 : Memref sig .tc .vmem S2048x256 .bf16) (harg3 : arg3.IsWhole)
  (arg4 : Memref sig .tc .vmem S2048x512 .bf16) (harg4 : arg4.IsWhole)
  (arg5 : Memref sig .tc .vmem S256x1024 .bf16) (harg5 : arg5.IsWhole)
  (arg6 : Memref sig .tc .vmem S1024x128 .bf16) (harg6 : arg6.IsWhole)
  (arg7 : Memref sig .tc .vmem S2048x256 .f32) (harg7 : arg7.IsWhole)
  (arg8 : Memref sig .tc .vmem S2048x256 .bf16) (harg8 : arg8.IsWhole)
  (arg9 : Memref sig .tc .vmem S1x256 .f32) (harg9 : arg9.IsWhole)
  (arg10 : Memref sig .tc .vmem S2048x128 .bf16) (harg10 : arg10.IsWhole)
  (arg11 : Memref sig .tc .vmem S256x1024 .bf16) (harg11 : arg11.IsWhole)
  (arg12 : Memref sig .tc .vmem S2x512x128 .bf16) (harg12 : arg12.IsWhole)
  (arg13 : Memref sig .tc .vmem S2048x256 .bf16) (harg13 : arg13.IsWhole)
  (arg14 : Memref sig .tc .vmem S2048x256 .bf16) (harg14 : arg14.IsWhole)
  (arg15 : Memref sig .tc .vmem S1x256 .f32) (harg15 : arg15.IsWhole)
  (x0 : Vec F S2048x1024 .bf16)
  (x1 : Vec F S2048x1024 .bf16)
  (x2 : Vec F S2048x256 .bf16)
  (x3 : Vec F S2048x512 .bf16)
  (x4 : Vec F S256x1024 .bf16)
  (x5 : Vec F S1024x128 .bf16)
  (x6 : Vec F S2048x256 .f32)
  (x7 : Vec F S2048x256 .bf16)
  (x8 : Vec F S1x256 .f32)

theorem dsb_A : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = k0_pay3 x1 x5 := by
  unfold out0_A_9 kernelRun0_A
  dsimp only
  refine (View.read_writes_full _ _ _ _ _).trans ?_
  exact congrArg₂ k0_pay3 (read_all arg2 harg2 x1 _ _) (read_all arg6 harg6 x5 _ _)

theorem gwr_A : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = k0_pay4 x0 x2 := by
  unfold out0_A_10 kernelRun0_A
  dsimp only
  refine (View.read_writes_full _ _ _ _ _).trans ?_
  exact congrArg₂ k0_pay4 (read_all arg1 harg1 x0 _ _) (read_all arg3 harg3 x2 _ _)

theorem gws_A (s : ℕ) (hs : s + 256 ≤ 1024) (ho : k0_off1 i = ![0, s]) (p : Fin 2) (r : Fin 512) (l : Fin 128) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 p r l) = bGws x3 (part x1 s hs) p (ix3 0 r l) := by
  unfold out0_A_11 kernelRun0_A
  dsimp only
  refine out_blocks (F := F) (e := .bf16) _ (bGws x3 (part x1 s hs)) ?_ ?_ p _ _ _ r l
  · exact gws_congr 1 (read_all arg4 harg4 x3 _ _) (read_part arg2 harg2 x1 s hs _ ho _)
  · exact gws_congr 0 (read_all arg4 harg4 x3 _ _) (read_part arg2 harg2 x1 s hs _ ho _)

theorem dg_A (p : Fin 2) (r : Fin 2048) (l : Fin 128) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 r ⟨128 * p.val + l.val, by omega⟩) = bDg (lanes x6 p) (lanes x7 p) (lanes x8 p) (slopes x0 x4 p) (ix2 r l) := by
  unfold out0_A_12 kernelRun0_A
  dsimp only
  refine out_lanes (F := F) (e := .bf16) _ (fun p => bDg (lanes x6 p) (lanes x7 p) (lanes x8 p) (slopes x0 x4 p)) ?_ ?_ p _ _ _ r l _
  · exact dg_congr1 (read_lanes arg7 harg7 x6 1 _ rfl _) (read_lanes arg8 harg8 x7 1 _ rfl _) (read_lanes arg9 harg9 x8 1 _ rfl _) (read_all arg1 harg1 x0 _ _) (read_all arg5 harg5 x4 _ _)
  · exact dg_congr0 (read_lanes arg7 harg7 x6 0 _ rfl _) (read_lanes arg8 harg8 x7 0 _ rfl _) (read_lanes arg9 harg9 x8 0 _ rfl _) (read_all arg1 harg1 x0 _ _) (read_all arg5 harg5 x4 _ _)

theorem dret_A (p : Fin 2) (r : Fin 2048) (l : Fin 128) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 r ⟨128 * p.val + l.val, by omega⟩) = bDret (lanes x6 p) (lanes x7 p) (lanes x8 p) (slopes x0 x4 p) (ix2 r l) := by
  unfold out0_A_13 kernelRun0_A
  dsimp only
  refine out_lanes (F := F) (e := .bf16) _ (fun p => bDret (lanes x6 p) (lanes x7 p) (lanes x8 p) (slopes x0 x4 p)) ?_ ?_ p _ _ _ r l _
  · exact dret_congr1 (read_lanes arg7 harg7 x6 1 _ rfl _) (read_lanes arg8 harg8 x7 1 _ rfl _) (read_lanes arg9 harg9 x8 1 _ rfl _) (read_all arg1 harg1 x0 _ _) (read_all arg5 harg5 x4 _ _)
  · exact dret_congr0 (read_lanes arg7 harg7 x6 0 _ rfl _) (read_lanes arg8 harg8 x7 0 _ rfl _) (read_lanes arg9 harg9 x8 0 _ rfl _) (read_all arg1 harg1 x0 _ _) (read_all arg5 harg5 x4 _ _)

theorem dw_A (p : Fin 2) (r : Fin 1) (l : Fin 128) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 r ⟨128 * p.val + l.val, by omega⟩) = bDw (lanes x6 p) (lanes x7 p) (slopes x0 x4 p) (ix2 r l) := by
  unfold out0_A_14 kernelRun0_A
  dsimp only
  refine out_lanes (F := F) (e := .f32) _ (fun p => bDw (lanes x6 p) (lanes x7 p) (slopes x0 x4 p)) ?_ ?_ p _ _ _ r l _
  · exact dw_congr1 (read_lanes arg7 harg7 x6 1 _ rfl _) (read_lanes arg8 harg8 x7 1 _ rfl _) (read_all arg1 harg1 x0 _ _) (read_all arg5 harg5 x4 _ _)
  · exact dw_congr0 (read_lanes arg7 harg7 x6 0 _ rfl _) (read_lanes arg8 harg8 x7 0 _ rfl _) (read_all arg1 harg1 x0 _ _) (read_all arg5 harg5 x4 _ _)

end Cert.BranchIdeal.Hand

end
-- ==== Proof.BranchReal.lean ====
/-
  The operations of one head of the retention's branch, element by element, and what a grid point reads.
-/
module

public import proofs.«01_k».proof.Proof.BranchCases
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.BranchIdeal.Hand

open Cert.BranchIdeal Cert.BranchIdeal.Gen Cert.NormKit Cert.RealKit

theorem bits_128th : Ideal.ofBits .f32 0x3C000000#32 = ((1 / 128 : ℝ) : EReal) := by
  simp [Ideal.ofBits, Ideal.ieee, -EReal.coe_mul]; norm_num

theorem bits_128 : Ideal.ofBits .f32 0x43000000#32 = ((128 : ℝ) : EReal) := by
  simp [Ideal.ofBits, Ideal.ieee, -EReal.coe_mul]; norm_num

theorem bits_zero : Ideal.ofBits .f32 0x00000000#32 = ((0 : ℝ) : EReal) := by
  simp [Ideal.ofBits, Ideal.ieee, -EReal.coe_mul]

/-! ## The operations of one head, element by element -/

section ops

variable (o : FVec Ideal S2048x128 .f32) (g : FVec Ideal S2048x128 .bf16) (w : FVec Ideal S1x128 .f32) (d : FVec Ideal S2048x128 .f32) (n : Fin 2048) (l : Fin 128)

/-- The norm's factor, of a head's retention. -/
def hr (o : FVec Ideal S2048x128 .f32) : FVec Ideal S2048x1 .f32 := k0_pay26 (F := Ideal) o (k0_pay24 (F := Ideal) o)

/-- The norm of a head's retention. -/
def hn (o : FVec Ideal S2048x128 .f32) : FVec Ideal S2048x128 .f32 := k0_pay27 (F := Ideal) o (k0_pay24 (F := Ideal) o)

/-- The logistic function of a head's gate. -/
def hs (g : FVec Ideal S2048x128 .bf16) : FVec Ideal S2048x128 .f32 := k0_pay28 (F := Ideal) (k0_pay22 (F := Ideal) g)

/-- The gradient of the norm. -/
def hd (g : FVec Ideal S2048x128 .bf16) (w : FVec Ideal S1x128 .f32) (d : FVec Ideal S2048x128 .f32) : FVec Ideal S2048x128 .f32 := k0_pay32 (F := Ideal) (k0_pay22 (F := Ideal) g) w d

theorem hr_at : hr o (ix2 n 0) = Ideal.rsqrt ((∑ i : Fin 128, (o (ix2 n i) - (∑ j : Fin 128, o (ix2 n j)) * Ideal.ofBits .f32 0x3C000000#32) * (o (ix2 n i) - (∑ j : Fin 128, o (ix2 n j)) * Ideal.ofBits .f32 0x3C000000#32)) * Ideal.ofBits .f32 0x3C000000#32 + Ideal.ofBits .f32 0x358637BD#32) := by
  pointwise [hr, k0_pay26, k0_pay25, k0_pay24]

theorem hn_at : hn o (ix2 n l) = (o (ix2 n l) - (∑ j : Fin 128, o (ix2 n j)) * Ideal.ofBits .f32 0x3C000000#32) * hr o (ix2 n 0) := by
  pointwise [hn, hr, k0_pay27, k0_pay25, k0_pay24]

theorem hs_at : hs g (ix2 n l) = Ideal.div (Ideal.ofBits .f32 0x3F800000#32) (Ideal.ofBits .f32 0x3F800000#32 + Ideal.exp ((0 : EReal) - g (ix2 n l))) := by
  pointwise [hs, k0_pay28, k0_pay22]

theorem hd_at : hd g w d (ix2 n l) = d (ix2 n l) * (g (ix2 n l) * hs g (ix2 n l)) * w (ix2 0 l) := by
  pointwise [hd, hs, k0_pay32, k0_pay29, k0_pay22]

theorem dg_at : bDg (F := Ideal) o g w d (ix2 n l) = d (ix2 n l) * hn o (ix2 n l) * w (ix2 0 l) * (hs g (ix2 n l) * (Ideal.ofBits .f32 0x3F800000#32 + g (ix2 n l) * (Ideal.ofBits .f32 0x3F800000#32 - hs g (ix2 n l)))) := by
  pointwise [bDg, hn, hs, k0_pay30, k0_pay22]

theorem dw_at : bDw (F := Ideal) o g d (ix2 0 l) = ∑ i : Fin 2048, d (ix2 i l) * (g (ix2 i l) * hs g (ix2 i l)) * hn o (ix2 i l) := by
  pointwise [bDw, hn, hs, k0_pay31, k0_pay29, k0_pay22]

theorem dret_at : bDret (F := Ideal) o g w d (ix2 n l) = hr o (ix2 n 0) * (hd g w d (ix2 n l) - (∑ j : Fin 128, hd g w d (ix2 n j)) * Ideal.ofBits .f32 0x3C000000#32 - hn o (ix2 n l) * ((∑ j : Fin 128, hd g w d (ix2 n j) * hn o (ix2 n j)) * Ideal.ofBits .f32 0x3C000000#32)) := by
  pointwise [bDret, hn, hr, hd, k0_pay1, k0_pay33]

theorem slopes_at (v0 : FVec Ideal S2048x1024 .bf16) (v31 : FVec Ideal S256x1024 .bf16) (p : Fin 2) (h : 128 * p.val + l.val < 256) :
    slopes (F := Ideal) v0 v31 p (ix2 n l) = ∑ k : Fin 1024, v0 (ix2 n k) * v31 (ix2 ⟨128 * p.val + l.val, h⟩ k) := by
  match p with
  | ⟨0, _⟩ =>
    show k0_pay10 (F := Ideal) (k0_pay2 v0) v31 (ix2 n l) = _
    pointwise [k0_pay10, k0_pay8, k0_pay2]
  | ⟨1, _⟩ =>
    show k0_pay23 (F := Ideal) (k0_pay8 (k0_pay2 v0) v31) (ix2 n l) = _
    pointwise [k0_pay23, k0_pay8, k0_pay2]

theorem dsb_at (a : FVec Ideal S2048x1024 .bf16) (b : FVec Ideal S1024x128 .bf16) : k0_pay3 (F := Ideal) a b (ix2 n l) = ∑ k : Fin 1024, a (ix2 n k) * b (ix2 k l) := by
  pointwise [k0_pay3]

theorem gwr_at (a : FVec Ideal S2048x1024 .bf16) (b : FVec Ideal S2048x256 .bf16) (i : Fin 256) (j : Fin 1024) : k0_pay4 (F := Ideal) a b (ix2 i j) = ∑ k : Fin 2048, b (ix2 k i) * a (ix2 k j) := by
  pointwise [k0_pay4, k0_pay2]

theorem gws_at (a : FVec Ideal S2048x512 .bf16) (b : FVec Ideal S2048x256 .bf16) (p : Fin 2) (i : Fin 512) (h : 128 * p.val + l.val < 256) :
    bGws (F := Ideal) a b p (ix3 0 i l) = ∑ k : Fin 2048, a (ix2 k i) * b (ix2 k ⟨128 * p.val + l.val, h⟩) := by
  match p with
  | ⟨0, _⟩ =>
    show k0_pay6 (F := Ideal) a b (ix3 0 i l) = _
    pointwise [k0_pay6, k0_pay5]
  | ⟨1, _⟩ =>
    show k0_pay7 (F := Ideal) a b (ix3 0 i l) = _
    pointwise [k0_pay7, k0_pay5]

end ops

/-! ## The reads of a grid point -/

theorem idx : ∀ t : Fin cfg0.N, win0_0.index t = ![0, 0] ∧ win0_1.index t = ![0, 0] ∧ win0_2.index t = ![0, t.val] ∧ win0_3.index t = ![0, 0] ∧ win0_4.index t = ![t.val, 0] ∧ win0_5.index t = ![0, t.val] ∧ win0_6.index t = ![0, t.val] ∧ win0_7.index t = ![0, 8 + t.val] ∧ win0_8.index t = ![0, t.val] ∧ win0_9.index t = ![0, t.val] ∧ win0_10.index t = ![t.val, 0] ∧ win0_11.index t = ![t.val, 0, 0] ∧ win0_12.index t = ![0, t.val] ∧ win0_13.index t = ![0, t.val] ∧ win0_14.index t = ![0, t.val] :=
  (by decide +kernel : ∀ t : Fin grid0.N, _)

theorem off : ∀ t : Fin cfg0.N, k0_off1 (grid0.coords t) = ![0, 256 * t.val] :=
  (by decide +kernel : ∀ t : Fin grid0.N, _)

theorem pt {t : Fin cfg0.N} : t.val < 4 := lt_of_lt_of_eq t.isLt (show cfg0.N = 4 from N_0)

section reads

variable (m : (ℓ : Loc nD τ sig) → Buf (Elt Ideal) ℓ) (c : Dev nD)

set_option maxHeartbeats 400000 in
theorem read0 (t : Fin cfg0.N) (n : Fin 2048) (k : Fin 1024) (hN : t.val < 4) : (iblk m c 0 t : Vec Ideal S2048x1024 .bf16) (ix2 n k) = (V m c main_v27 : FVec Ideal S2048x1024 .bf16) (ix2 n k) := by
  blk_point [iblk, idx t]

set_option maxHeartbeats 400000 in
theorem read1 (t : Fin cfg0.N) (n : Fin 2048) (k : Fin 1024) (hN : t.val < 4) : (iblk m c 1 t : Vec Ideal S2048x1024 .bf16) (ix2 n k) = (V m c main_v28 : FVec Ideal S2048x1024 .bf16) (ix2 n k) := by
  blk_point [iblk, idx t]

set_option maxHeartbeats 400000 in
theorem read2 (t : Fin cfg0.N) (n : Fin 2048) (l : Fin 256) (hN : t.val < 4) : (iblk m c 2 t : Vec Ideal S2048x256 .bf16) (ix2 n l) = (V m c main_v29 : FVec Ideal S2048x1024 .bf16) (ix2 n ⟨256 * t.val + l, by omega⟩) := by
  blk_point [iblk, idx t]

set_option maxHeartbeats 400000 in
theorem read3 (t : Fin cfg0.N) (n : Fin 2048) (k : Fin 512) (hN : t.val < 4) : (iblk m c 3 t : Vec Ideal S2048x512 .bf16) (ix2 n k) = (V m c main_v30 : FVec Ideal S2048x512 .bf16) (ix2 n k) := by
  blk_point [iblk, idx t]

set_option maxHeartbeats 400000 in
theorem read4 (t : Fin cfg0.N) (l : Fin 256) (k : Fin 1024) (hN : t.val < 4) : (iblk m c 4 t : Vec Ideal S256x1024 .bf16) (ix2 l k) = (V m c main_v31 : FVec Ideal S1024x1024 .bf16) (ix2 ⟨256 * t.val + l, by omega⟩ k) := by
  blk_point [iblk, idx t]

set_option maxHeartbeats 400000 in
theorem read5 (t : Fin cfg0.N) (k : Fin 1024) (l : Fin 128) (hN : t.val < 4) : (iblk m c 5 t : Vec Ideal S1024x128 .bf16) (ix2 k l) = (V m c main_v33 : FVec Ideal S1024x512 .bf16) (ix2 k ⟨128 * t.val + l, by omega⟩) := by
  blk_point [iblk, idx t]

set_option maxHeartbeats 400000 in
theorem read6 (t : Fin cfg0.N) (n : Fin 2048) (l : Fin 256) (hN : t.val < 4) : (iblk m c 6 t : Vec Ideal S2048x256 .f32) (ix2 n l) = (V m c main_arg0 : FVec Ideal S2048x1024 .f32) (ix2 n ⟨256 * t.val + l, by omega⟩) := by
  blk_point [iblk, idx t]

set_option maxHeartbeats 400000 in
theorem read7 (t : Fin cfg0.N) (n : Fin 2048) (l : Fin 256) (hN : t.val < 4) : (iblk m c 7 t : Vec Ideal S2048x256 .bf16) (ix2 n l) = (V m c main_v34 : FVec Ideal S2048x6656 .bf16) (ix2 n ⟨2048 + (256 * t.val + l), by omega⟩) := by
  blk_point [iblk, idx t]

set_option maxHeartbeats 400000 in
theorem read8 (t : Fin cfg0.N) (l : Fin 256) (hN : t.val < 4) : (iblk m c 8 t : Vec Ideal S1x256 .f32) (ix2 0 l) = (V m c main_arg2 : FVec Ideal S1x1024 .f32) (ix2 0 ⟨256 * t.val + l, by omega⟩) := by
  blk_point [iblk, idx t]

set_option maxHeartbeats 2000000 in
theorem entry0 (n : Fin 2048) (k : Fin 1024) : (V m c main_v27 : FVec Ideal S2048x1024 .bf16) (ix2 n k) = (m (c.tc.loc main_arg6) : FVec Ideal S2048x1024 .f32) (ix2 n k) := by
  unfold_abbrev_sides
  after_reads_simp
  rfl

set_option maxHeartbeats 2000000 in
theorem entry1 (n : Fin 2048) (k : Fin 1024) : (V m c main_v28 : FVec Ideal S2048x1024 .bf16) (ix2 n k) = (m (c.tc.loc main_arg7) : FVec Ideal S2048x1024 .f32) (ix2 n k) := by
  unfold_abbrev_sides
  after_reads_simp
  rfl

set_option maxHeartbeats 2000000 in
theorem entry3 (n : Fin 2048) (k : Fin 512) : (V m c main_v30 : FVec Ideal S2048x512 .bf16) (ix2 n k) = (m (c.tc.loc main_arg4) : FVec Ideal S2048x512 .f32) (ix2 n k) := by
  unfold_abbrev_sides
  after_reads_simp
  rfl

set_option maxHeartbeats 2000000 in
theorem entry4 (j k : Fin 1024) : (V m c main_v31 : FVec Ideal S1024x1024 .bf16) (ix2 j k) = (m (c.tc.loc main_arg3) : FVec Ideal S1024x1024 .f32) (ix2 j k) := by
  unfold_abbrev_sides
  after_reads_simp
  rfl

set_option maxHeartbeats 2000000 in
theorem entry5 (k : Fin 1024) (l : Fin 512) : (V m c main_v33 : FVec Ideal S1024x512 .bf16) (ix2 k l) = (m (c.tc.loc main_arg5) : FVec Ideal S512x1024 .f32) (ix2 l k) := by
  unfold_abbrev_sides
  after_reads_simp
  pointwise []

set_option maxHeartbeats 2000000 in
theorem entry7 (n : Fin 2048) (k : Fin 6656) : (V m c main_v34 : FVec Ideal S2048x6656 .bf16) (ix2 n k) = (m (c.tc.loc main_arg1) : FVec Ideal S2048x6656 .f32) (ix2 n k) := by
  unfold_abbrev_sides
  after_reads_simp
  rfl

end reads

end Cert.BranchIdeal.Hand

end
-- ==== Proof.BranchGrid.lean ====
/-
  The arrays of the retention's branch over the reals.
-/
module

public import proofs.«01_k».proof.Proof.BranchReal

@[expose] public section

set_option maxRecDepth 16384

noncomputable section

open Idealize.ShloMosaic Idealize.ShloMosaic.TcCoe Idealize.SL.Sem

namespace Cert.BranchIdeal.Hand

open Cert.BranchIdeal Cert.BranchIdeal.Gen Cert.NormKit Cert.RealKit

/-! ## The norm of a head over the reals -/

/-- A head's row without its mean. -/
def xc (x : ℕ → ℝ) (l : ℕ) : ℝ := x l - (∑ j : Fin 128, x j) * (1 / 128)

/-- The variance of a head's row. -/
def vr (x : ℕ → ℝ) : ℝ := (∑ j : Fin 128, xc x j * xc x j) * (1 / 128) + eps

/-- The factor of the norm of a head's row. -/
def gr (x : ℕ → ℝ) : ℝ := (Real.sqrt (vr x))⁻¹

/-- The norm of a head's row. -/
def gn (x : ℕ → ℝ) (l : ℕ) : ℝ := xc x l * gr x

/-- The logistic function. -/
def lg (u : ℝ) : ℝ := 1 / (1 + Real.exp (0 - u))

/-- The gradient through the norm of a head's row, as the call computes it. -/
def gb (x d : ℕ → ℝ) (l : ℕ) : ℝ := gr x * (d l - (∑ j : Fin 128, d j) * (1 / 128) - gn x l * ((∑ j : Fin 128, d j * gn x j) * (1 / 128)))

/-- A head's share of the derivative of its variance. -/
def sv (x d : ℕ → ℝ) : ℝ := (∑ j : Fin 128, xc x j * d j) * (-(1 / 2) * (gr x / vr x)) / 128

theorem vr_pos (x : ℕ → ℝ) : 0 < vr x := by
  have h : 0 ≤ ∑ j : Fin 128, xc x j * xc x j := Finset.sum_nonneg fun j _ => mul_self_nonneg _
  have e : (0 : ℝ) < eps := by unfold eps; norm_num
  unfold vr
  positivity

theorem gr_sq (x : ℕ → ℝ) : gr x * gr x = 1 / vr x := by
  unfold gr
  rw [← mul_inv, Real.mul_self_sqrt (vr_pos x).le, one_div]

theorem xc_sum (x : ℕ → ℝ) : ∑ j : Fin 128, xc x j = 0 := by
  unfold xc
  rw [Finset.sum_sub_distrib, Finset.sum_const, Finset.card_univ, Fintype.card_fin]
  simp only [nsmul_eq_mul]
  push_cast
  ring

/-- The same gradient by the rules of differentiation. -/
theorem gb_eq (x d : ℕ → ℝ) (l : ℕ) :
    gb x d l = d l * gr x + sv x d * (2 * xc x l) + ((∑ j : Fin 128, -(d j * gr x)) + ∑ j : Fin 128, -(sv x d * (2 * xc x j))) / 128 := by
  have e : ∑ j : Fin 128, d j * gn x j = gr x * ∑ j : Fin 128, xc x j * d j := by
    rw [Finset.mul_sum]
    refine Finset.sum_congr rfl fun j _ => ?_
    unfold gn
    ring
  have z : ∑ j : Fin 128, -(sv x d * (2 * xc x j)) = 0 := by
    rw [Finset.sum_neg_distrib, ← Finset.mul_sum, ← Finset.mul_sum, xc_sum, mul_zero, mul_zero, neg_zero]
  have q : gr x / vr x = gr x * (gr x * gr x) := by rw [gr_sq]; ring
  rw [z, Finset.sum_neg_distrib, ← Finset.sum_mul]
  unfold gb sv
  rw [e, q]
  unfold gn
  ring

theorem lg_coe (u : ℝ) : Ideal.div ((1 : ℝ) : EReal) (((1 : ℝ) : EReal) + ((Real.exp (0 - u) : ℝ) : EReal)) = (lg u : EReal) := by
  rw [← EReal.coe_add, div_coe _ _ (by positivity)]
  rfl

/-! ## The tables: columns from `b` on are one head's -/

/-- The gradient of the gated values. -/
def sl (D W : ℕ → ℕ → ℝ) (n j : ℕ) : ℝ := ∑ k : Fin 1024, D n k * W j k

/-- The gradient of the norm. -/
def dm (R U D W : ℕ → ℕ → ℝ) (G : ℕ → ℝ) (n b l : ℕ) : ℝ := sl D W n (b + l) * (U n (b + l) * lg (U n (b + l))) * G (b + l)

/-- The gradient of the gate. -/
def dgate (R U D W : ℕ → ℕ → ℝ) (G : ℕ → ℝ) (n b l : ℕ) : ℝ := sl D W n (b + l) * gn (fun j => R n (b + j)) l * G (b + l) * (lg (U n (b + l)) * (1 + U n (b + l) * (1 - lg (U n (b + l)))))

/-- The gradient of the retention. -/
def dret (R U D W : ℕ → ℕ → ℝ) (G : ℕ → ℝ) (n b l : ℕ) : ℝ := gb (fun j => R n (b + j)) (dm R U D W G n b) l

/-- The gradient of the norm's weight. -/
def dwt (R U D W : ℕ → ℕ → ℝ) (G : ℕ → ℝ) (b l : ℕ) : ℝ := ∑ n : Fin 2048, sl D W n (b + l) * (U n (b + l) * lg (U n (b + l))) * gn (fun j => R n (b + j)) l

variable (m : (ℓ : Loc nD τ sig) → Buf (Elt Ideal) ℓ) (c : Dev nD)

/-- The argument blocks of every point are finite. -/
structure Blocks (R U D W : ℕ → ℕ → ℝ) (G : ℕ → ℝ) : Prop where
  d : ∀ (t : Fin cfg0.N) (n : Fin 2048) (k : Fin 1024), (iblk m c 0 t : Vec Ideal S2048x1024 .bf16) (ix2 n k) = (D n k : EReal)
  w : ∀ (t : Fin cfg0.N) (l : Fin 256) (k : Fin 1024), (iblk m c 4 t : Vec Ideal S256x1024 .bf16) (ix2 l k) = (W (256 * t.val + l) k : EReal)
  r : ∀ (t : Fin cfg0.N) (n : Fin 2048) (l : Fin 256), (iblk m c 6 t : Vec Ideal S2048x256 .f32) (ix2 n l) = (R n (256 * t.val + l) : EReal)
  u : ∀ (t : Fin cfg0.N) (n : Fin 2048) (l : Fin 256), (iblk m c 7 t : Vec Ideal S2048x256 .bf16) (ix2 n l) = (U n (256 * t.val + l) : EReal)
  g : ∀ (t : Fin cfg0.N) (l : Fin 256), (iblk m c 8 t : Vec Ideal S1x256 .f32) (ix2 0 l) = (G (256 * t.val + l) : EReal)

/-- The first column of a point's head. -/
def bs (t : ℕ) (p : Fin 2) : ℕ := 128 * (2 * t + p.val)

theorem bs_add (t : ℕ) (p : Fin 2) (l : ℕ) : 256 * t + (128 * p.val + l) = bs t p + l := by unfold bs; omega

variable {m c} {R U D W : ℕ → ℕ → ℝ} {G : ℕ → ℝ} (B : Blocks m c R U D W G) (t : Fin cfg0.N) (p : Fin 2)

section heads

include B

theorem o_real (n : Fin 2048) (l : Fin 128) : (lanes (F := Ideal) (e := .f32) (iblk m c 6 t : Vec Ideal S2048x256 .f32) p) (ix2 n l) = (R n (bs t.val p + l) : EReal) := by
  rw [← bs_add]
  exact B.r t n _

theorem u_real (n : Fin 2048) (l : Fin 128) : (lanes (F := Ideal) (e := .bf16) (iblk m c 7 t : Vec Ideal S2048x256 .bf16) p) (ix2 n l) = (U n (bs t.val p + l) : EReal) := by
  rw [← bs_add]
  exact B.u t n _

theorem g_real (l : Fin 128) : (lanes (F := Ideal) (e := .f32) (iblk m c 8 t : Vec Ideal S1x256 .f32) p) (ix2 0 l) = (G (bs t.val p + l) : EReal) := by
  rw [← bs_add]
  exact B.g t _

theorem d_real (n : Fin 2048) (l : Fin 128) : (slopes (F := Ideal) (iblk m c 0 t : Vec Ideal S2048x1024 .bf16) (iblk m c 4 t : Vec Ideal S256x1024 .bf16) p) (ix2 n l) = (sl D W n (bs t.val p + l) : EReal) := by
  rw [slopes_at n l _ _ p (by omega), ← bs_add]
  unfold sl
  rw [coe_sum]
  refine Finset.sum_congr rfl fun k _ => ?_
  rw [EReal.coe_mul]
  exact congrArg₂ (fun a b : EReal => a * b) (B.d t n k) (B.w t _ k)

theorem hr_real (n : Fin 2048) : hr (lanes (F := Ideal) (e := .f32) (iblk m c 6 t : Vec Ideal S2048x256 .f32) p) (ix2 n 0) = (gr (fun j => R n (bs t.val p + j)) : EReal) := by
  rw [hr_at, bits_128th, bits_eps]
  simp only [o_real B t p, ← EReal.coe_mul, ← EReal.coe_add, ← EReal.coe_sub, ← coe_sum]
  exact rsqrt_coe _ (vr_pos fun j => R n (bs t.val p + j))

theorem hn_real (n : Fin 2048) (l : Fin 128) : hn (lanes (F := Ideal) (e := .f32) (iblk m c 6 t : Vec Ideal S2048x256 .f32) p) (ix2 n l) = (gn (fun j => R n (bs t.val p + j)) l : EReal) := by
  rw [hn_at, hr_real B t p, bits_128th]
  simp only [o_real B t p, ← EReal.coe_mul, ← EReal.coe_sub, ← coe_sum]
  rfl

theorem hs_real (n : Fin 2048) (l : Fin 128) : hs (lanes (F := Ideal) (e := .bf16) (iblk m c 7 t : Vec Ideal S2048x256 .bf16) p) (ix2 n l) = (lg (U n (bs t.val p + l)) : EReal) := by
  rw [hs_at, u_real B t p, bits_unit, ← EReal.coe_zero, ← EReal.coe_sub, exp_coe]
  exact lg_coe _

theorem hd_real (n : Fin 2048) (l : Fin 128) : hd (lanes (F := Ideal) (e := .bf16) (iblk m c 7 t : Vec Ideal S2048x256 .bf16) p) (lanes (F := Ideal) (e := .f32) (iblk m c 8 t : Vec Ideal S1x256 .f32) p) (slopes (F := Ideal) (iblk m c 0 t : Vec Ideal S2048x1024 .bf16) (iblk m c 4 t : Vec Ideal S256x1024 .bf16) p) (ix2 n l) = (dm R U D W G n (bs t.val p) l : EReal) := by
  rw [hd_at, hs_real B t p, u_real B t p, g_real B t p, d_real B t p, ← EReal.coe_mul, ← EReal.coe_mul, ← EReal.coe_mul]
  rfl

theorem left12 (n : Fin 2048) (l : Fin 128) : (outsAt0 m c t).2.2.2.1 (ix2 n ⟨128 * p.val + l.val, by omega⟩) = (dgate R U D W G n (bs t.val p) l : EReal) := by
  unfold outsAt0
  dsimp only
  rw [dg_A, dg_at, hs_real B t p, hn_real B t p, u_real B t p, g_real B t p, d_real B t p, bits_unit]
  simp only [← EReal.coe_mul, ← EReal.coe_add, ← EReal.coe_sub]
  rfl

theorem left13 (n : Fin 2048) (l : Fin 128) : (outsAt0 m c t).2.2.2.2.1 (ix2 n ⟨128 * p.val + l.val, by omega⟩) = (dret R U D W G n (bs t.val p) l : EReal) := by
  unfold outsAt0
  dsimp only
  rw [dret_A, dret_at, bits_128th]
  simp only [hd_real B t p, hn_real B t p, hr_real B t p, ← EReal.coe_mul, ← EReal.coe_add, ← EReal.coe_sub, ← coe_sum]
  rfl

theorem left14 (l : Fin 128) : (outsAt0 m c t).2.2.2.2.2 (ix2 0 ⟨128 * p.val + l.val, by omega⟩) = (dwt R U D W G (bs t.val p) l : EReal) := by
  unfold outsAt0
  dsimp only
  rw [dw_A, dw_at]
  simp only [hs_real B t p, hn_real B t p, u_real B t p, d_real B t p, ← EReal.coe_mul, ← coe_sum]
  rfl

end heads

/-! ## The arrays -/

set_option maxHeartbeats 1000000 in
include B in
/-- The array of the gate's gradient. -/
theorem array12 {Z : FVec Ideal S2048x1024 .bf16} (hR : ∀ (n : Fin 2048) (q : Fin 8) (l : Fin 128) (h : 128 * q.val + l.val < 1024), Z (ix2 n ⟨128 * q.val + l.val, h⟩) = (dgate R U D W G n (128 * q) l : EReal)) :
    (dats m 0 c).arrAt 12 (cfgs 0).N = Z := by
  refine (dats m 0 c).arrAt_eq_of_covers 12 _ (by decide +kernel) fun t hf y => ?_
  have ht : t.val < 4 := pt
  have h0 : ((((View.whole main_v35_3).slice (win0_12.rect t)).emb y) 0 : ℕ) = y 0 := by blk_simp [idx t]
  have h1 : ((((View.whole main_v35_3).slice (win0_12.rect t)).emb y) 1 : ℕ) = t.val * 256 + y 1 := by blk_simp [idx t]
  blk_simp
  rw [after0_12]
  have hy0 : (y 0).val < 2048 := (y 0).isLt
  have hy1 : (y 1).val < 256 := (y 1).isLt
  have hi : ((View.whole main_v35_3).slice (win0_12.rect t)).emb y = ix2 (⟨y 0, by omega⟩ : Fin 2048) (⟨128 * (2 * t.val + (y 1).val / 128) + (y 1).val % 128, by omega⟩ : Fin 1024) :=
    (eq_ix2 _).trans (congrArg₂ ix2 (Fin.ext h0) (Fin.ext (h1.trans (by dsimp only; omega))))
  have e : 128 * ((y 1).val / 128) + (y 1).val % 128 = (y 1).val := by omega
  have hy : y = ix2 (y 0) ⟨128 * ((y 1).val / 128) + (y 1).val % 128, by omega⟩ := (eq_ix2 _).trans (congrArg (ix2 (y 0)) (Fin.ext e.symm))
  refine Eq.trans ?_ (congrArg Z hi).symm
  refine (congrArg _ hy).trans ((left12 B t ⟨(y 1).val / 128, by omega⟩ ⟨y 0, by omega⟩ ⟨(y 1).val % 128, by omega⟩).trans ?_)
  exact (hR ⟨y 0, by omega⟩ ⟨2 * t.val + (y 1).val / 128, by omega⟩ ⟨(y 1).val % 128, by omega⟩ (by dsimp only; omega)).symm

set_option maxHeartbeats 1000000 in
include B in
/-- The array of the retention's gradient. -/
theorem array13 {Z : FVec Ideal S2048x1024 .bf16} (hR : ∀ (n : Fin 2048) (q : Fin 8) (l : Fin 128) (h : 128 * q.val + l.val < 1024), Z (ix2 n ⟨128 * q.val + l.val, h⟩) = (dret R U D W G n (128 * q) l : EReal)) :
    (dats m 0 c).arrAt 13 (cfgs 0).N = Z := by
  refine (dats m 0 c).arrAt_eq_of_covers 13 _ (by decide +kernel) fun t hf y => ?_
  have ht : t.val < 4 := pt
  have h0 : ((((View.whole main_v35_4).slice (win0_13.rect t)).emb y) 0 : ℕ) = y 0 := by blk_simp [idx t]
  have h1 : ((((View.whole main_v35_4).slice (win0_13.rect t)).emb y) 1 : ℕ) = t.val * 256 + y 1 := by blk_simp [idx t]
  blk_simp
  rw [after0_13]
  have hy0 : (y 0).val < 2048 := (y 0).isLt
  have hy1 : (y 1).val < 256 := (y 1).isLt
  have hi : ((View.whole main_v35_4).slice (win0_13.rect t)).emb y = ix2 (⟨y 0, by omega⟩ : Fin 2048) (⟨128 * (2 * t.val + (y 1).val / 128) + (y 1).val % 128, by omega⟩ : Fin 1024) :=
    (eq_ix2 _).trans (congrArg₂ ix2 (Fin.ext h0) (Fin.ext (h1.trans (by dsimp only; omega))))
  have e : 128 * ((y 1).val / 128) + (y 1).val % 128 = (y 1).val := by omega
  have hy : y = ix2 (y 0) ⟨128 * ((y 1).val / 128) + (y 1).val % 128, by omega⟩ := (eq_ix2 _).trans (congrArg (ix2 (y 0)) (Fin.ext e.symm))
  refine Eq.trans ?_ (congrArg Z hi).symm
  refine (congrArg _ hy).trans ((left13 B t ⟨(y 1).val / 128, by omega⟩ ⟨y 0, by omega⟩ ⟨(y 1).val % 128, by omega⟩).trans ?_)
  exact (hR ⟨y 0, by omega⟩ ⟨2 * t.val + (y 1).val / 128, by omega⟩ ⟨(y 1).val % 128, by omega⟩ (by dsimp only; omega)).symm

set_option maxHeartbeats 1000000 in
include B in
/-- The array of the norm weight's gradient. -/
theorem array14 {Z : FVec Ideal S1x1024 .f32} (hR : ∀ (q : Fin 8) (l : Fin 128) (h : 128 * q.val + l.val < 1024), Z (ix2 0 ⟨128 * q.val + l.val, h⟩) = (dwt R U D W G (128 * q) l : EReal)) :
    (dats m 0 c).arrAt 14 (cfgs 0).N = Z := by
  refine (dats m 0 c).arrAt_eq_of_covers 14 _ (by decide +kernel) fun t hf y => ?_
  have ht : t.val < 4 := pt
  have h0 : ((((View.whole main_v35_5).slice (win0_14.rect t)).emb y) 0 : ℕ) = y 0 := by blk_simp [idx t]
  have h1 : ((((View.whole main_v35_5).slice (win0_14.rect t)).emb y) 1 : ℕ) = t.val * 256 + y 1 := by blk_simp [idx t]
  blk_simp
  rw [after0_14]
  have hy0 : (y 0).val < 1 := (y 0).isLt
  have hy1 : (y 1).val < 256 := (y 1).isLt
  have hi : ((View.whole main_v35_5).slice (win0_14.rect t)).emb y = ix2 (0 : Fin 1) (⟨128 * (2 * t.val + (y 1).val / 128) + (y 1).val % 128, by omega⟩ : Fin 1024) :=
    (eq_ix2 _).trans (congrArg₂ ix2 (Fin.ext (h0.trans (by show (y 0).val = 0; omega))) (Fin.ext (h1.trans (by dsimp only; omega))))
  have e : 128 * ((y 1).val / 128) + (y 1).val % 128 = (y 1).val := by omega
  have hy : y = ix2 (0 : Fin 1) ⟨128 * ((y 1).val / 128) + (y 1).val % 128, by omega⟩ := (eq_ix2 _).trans (congrArg₂ ix2 (Fin.ext (by show (y 0).val = 0; omega)) (Fin.ext e.symm))
  refine Eq.trans ?_ (congrArg Z hi).symm
  refine (congrArg _ hy).trans ((left14 B t ⟨(y 1).val / 128, by omega⟩ ⟨(y 1).val % 128, by omega⟩).trans ?_)
  exact (hR ⟨2 * t.val + (y 1).val / 128, by omega⟩ ⟨(y 1).val % 128, by omega⟩ (by dsimp only; omega)).symm

variable (m c)

set_option maxHeartbeats 1000000 in
/-- The array of the gradient of the stick-breaking output. -/
theorem array9 {a7 : FVec Ideal S2048x1024 .f32} (e7 : (m (c.tc.loc main_arg7)) = a7) {a5 : FVec Ideal S512x1024 .f32} (e5 : (m (c.tc.loc main_arg5)) = a5) {Z : FVec Ideal S2048x512 .bf16} (hR : ∀ (n : Fin 2048) (l : Fin 512), Z (ix2 n l) = ∑ k : Fin 1024, a7 (ix2 n k) * a5 (ix2 l k)) :
    (dats m 0 c).arrAt 9 (cfgs 0).N = Z := by
  subst e7 e5
  refine (dats m 0 c).arrAt_eq_of_covers 9 _ (by decide +kernel) fun t hf y => ?_
  have ht : t.val < 4 := pt
  have h0 : ((((View.whole main_v35_0).slice (win0_9.rect t)).emb y) 0 : ℕ) = y 0 := by blk_simp [idx t]
  have h1 : ((((View.whole main_v35_0).slice (win0_9.rect t)).emb y) 1 : ℕ) = t.val * 128 + y 1 := by blk_simp [idx t]
  blk_simp
  rw [after0_9]
  have hy0 : (y 0).val < 2048 := (y 0).isLt
  have hy1 : (y 1).val < 128 := (y 1).isLt
  have hi : ((View.whole main_v35_0).slice (win0_9.rect t)).emb y = ix2 (⟨y 0, by omega⟩ : Fin 2048) (⟨128 * t.val + y 1, by omega⟩ : Fin 512) :=
    (eq_ix2 _).trans (congrArg₂ ix2 (Fin.ext h0) (Fin.ext (h1.trans (by dsimp only; omega))))
  refine Eq.trans ?_ (congrArg Z hi).symm
  unfold outsAt0
  dsimp only
  rw [dsb_A, hR]
  refine (congrArg _ (eq_ix2 y)).trans ((dsb_at _ _ _ _).trans (Finset.sum_congr rfl fun k _ => ?_))
  exact congrArg₂ (fun a b : EReal => a * b) ((read1 m c t _ k pt).trans (entry1 m c _ k)) ((read5 m c t k _ pt).trans (entry5 m c k _))

set_option maxHeartbeats 1000000 in
/-- The array of the gradient of the retention's output weight. -/
theorem array10 {v29 : FVec Ideal S2048x1024 .bf16} (e29 : V m c main_v29 = v29) {a6 : FVec Ideal S2048x1024 .f32} (e6 : (m (c.tc.loc main_arg6)) = a6) {Z : FVec Ideal S1024x1024 .bf16} (hR : ∀ i j : Fin 1024, Z (ix2 i j) = ∑ k : Fin 2048, v29 (ix2 k i) * a6 (ix2 k j)) :
    (dats m 0 c).arrAt 10 (cfgs 0).N = Z := by
  subst e29 e6
  refine (dats m 0 c).arrAt_eq_of_covers 10 _ (by decide +kernel) fun t hf y => ?_
  have ht : t.val < 4 := pt
  have h0 : ((((View.whole main_v35_1).slice (win0_10.rect t)).emb y) 0 : ℕ) = t.val * 256 + y 0 := by blk_simp [idx t]
  have h1 : ((((View.whole main_v35_1).slice (win0_10.rect t)).emb y) 1 : ℕ) = y 1 := by blk_simp [idx t]
  blk_simp
  rw [after0_10]
  have hy0 : (y 0).val < 256 := (y 0).isLt
  have hy1 : (y 1).val < 1024 := (y 1).isLt
  have hi : ((View.whole main_v35_1).slice (win0_10.rect t)).emb y = ix2 (⟨256 * t.val + y 0, by omega⟩ : Fin 1024) (⟨y 1, by omega⟩ : Fin 1024) :=
    (eq_ix2 _).trans (congrArg₂ ix2 (Fin.ext (h0.trans (by dsimp only; omega))) (Fin.ext h1))
  refine Eq.trans ?_ (congrArg Z hi).symm
  unfold outsAt0
  dsimp only
  rw [gwr_A, hR]
  refine (congrArg _ (eq_ix2 y)).trans ((gwr_at _ _ _ _).trans (Finset.sum_congr rfl fun k _ => ?_))
  exact congrArg₂ (fun a b : EReal => a * b) (read2 m c t k _ pt) ((read0 m c t k _ pt).trans (entry0 m c k _))

set_option maxHeartbeats 1000000 in
/-- The array of the gradient of the stick-breaking output's weight. -/
theorem array11 {a4 : FVec Ideal S2048x512 .f32} (e4 : (m (c.tc.loc main_arg4)) = a4) {a7 : FVec Ideal S2048x1024 .f32} (e7 : (m (c.tc.loc main_arg7)) = a7) {Z : FVec Ideal S8x512x128 .bf16} (hR : ∀ (q : Fin 8) (i : Fin 512) (l : Fin 128) (h : 128 * q.val + l.val < 1024),
      Z (ix3 q i l) = ∑ k : Fin 2048, a4 (ix2 k i) * a7 (ix2 k ⟨128 * q.val + l.val, h⟩)) :
    (dats m 0 c).arrAt 11 (cfgs 0).N = Z := by
  subst e4 e7
  refine (dats m 0 c).arrAt_eq_of_covers 11 _ (by decide +kernel) fun t hf y => ?_
  have ht : t.val < 4 := pt
  have h0 : ((((View.whole main_v35_2).slice (win0_11.rect t)).emb y) 0 : ℕ) = t.val * 2 + y 0 := by blk_simp [idx t]
  have h1 : ((((View.whole main_v35_2).slice (win0_11.rect t)).emb y) 1 : ℕ) = y 1 := by blk_simp [idx t]
  have h2 : ((((View.whole main_v35_2).slice (win0_11.rect t)).emb y) 2 : ℕ) = y 2 := by blk_simp [idx t]
  blk_simp
  rw [after0_11]
  have hy0 : (y 0).val < 2 := (y 0).isLt
  have hy1 : (y 1).val < 512 := (y 1).isLt
  have hy2 : (y 2).val < 128 := (y 2).isLt
  have hi : ((View.whole main_v35_2).slice (win0_11.rect t)).emb y = ix3 (⟨2 * t.val + y 0, by omega⟩ : Fin 8) (⟨y 1, by omega⟩ : Fin 512) (⟨y 2, by omega⟩ : Fin 128) := by
    funext a
    match a with
    | ⟨0, _⟩ => exact Fin.ext (h0.trans (by show t.val * 2 + (y 0).val = 2 * t.val + (y 0).val; omega))
    | ⟨1, _⟩ => exact Fin.ext h1
    | ⟨2, _⟩ => exact Fin.ext h2
  have hy : y = ix3 (y 0) (y 1) (y 2) := by
    funext a
    match a with
    | ⟨0, _⟩ => rfl
    | ⟨1, _⟩ => rfl
    | ⟨2, _⟩ => rfl
  refine Eq.trans ?_ (congrArg Z hi).symm
  unfold outsAt0
  dsimp only
  rw [hR _ _ _ (by dsimp only; omega)]
  refine (congrArg _ hy).trans ((gws_A (F := Ideal) _ _ _ _ _ _ _ _ _ _ _ _ _ _ _ _ _ _ _ _ _ _ _ _ _ _ _ _ _ _ _ _ _ _ _ _ _ _ _ _ _ (256 * t.val) (by omega) (off t) ⟨y 0, by omega⟩ ⟨y 1, by omega⟩ ⟨y 2, by omega⟩).trans
    ((gws_at _ _ _ ⟨y 0, by omega⟩ _ (by dsimp only; omega)).trans (Finset.sum_congr rfl fun k _ => ?_)))
  refine congrArg₂ (fun a b : EReal => a * b) ((read3 m c t k _ pt).trans (entry3 m c k _)) (((read1 m c t k _ pt).trans (entry1 m c k _)).trans ?_)
  exact congrArg (fun j => ((m (c.tc.loc main_arg7)) : FVec Ideal S2048x1024 .f32) (ix2 k j)) (Fin.ext (by show 256 * t.val + (128 * (y 0).val + (y 2).val) = 128 * (2 * t.val + (y 0).val) + (y 2).val; omega))

end Cert.BranchIdeal.Hand

end
-- ==== Proof.BranchRef.lean ====
/-
  The reference of the retention's branch over the reals.
-/
module

public import proofs.«01_k».proof.Proof.BranchGrid
public import proofs.«01_k».proof.Proof.Gen.BranchRefIdeal.Read

@[expose] public section

set_option maxRecDepth 16384

noncomputable section

open Idealize.ShloMosaic Idealize.ShloMosaic.TcCoe Idealize.SL.Sem

namespace Cert.BranchRefIdeal.Hand

open Cert.BranchRefIdeal Cert.BranchRefIdeal.Read Cert.NormKit Cert.RealKit
open Cert.BranchIdeal.Hand (xc vr gr gn lg gb sv vr_pos gb_eq lg_coe sl dm dgate dret dwt bits_128)

/-- Arguments that are tables of reals. -/
structure Tables (x0 x6 : (⟨S2048x1024, .f32⟩ : BufTy).Contents (Elt Ideal)) (x1 : (⟨S2048x6656, .f32⟩ : BufTy).Contents (Elt Ideal)) (x2 : (⟨S1x1024, .f32⟩ : BufTy).Contents (Elt Ideal)) (x3 : (⟨S1024x1024, .f32⟩ : BufTy).Contents (Elt Ideal)) (R U D W : ℕ → ℕ → ℝ) (G : ℕ → ℝ) : Prop where
  r : ∀ (n : Fin 2048) (j : Fin 1024), x0 (ix2 n j) = (R n j : EReal)
  d : ∀ (n : Fin 2048) (k : Fin 1024), x6 (ix2 n k) = (D n k : EReal)
  u : ∀ (n : Fin 2048) (j : Fin 1024) (h : 2048 + j.val < 6656), x1 (ix2 n ⟨2048 + j.val, h⟩) = (U n j : EReal)
  g : ∀ j : Fin 1024, x2 (ix2 0 j) = (G j : EReal)
  w : ∀ j k : Fin 1024, x3 (ix2 j k) = (W j k : EReal)

section indices

theorem idx1 (n : Fin 2048) (q : Fin 8) (l : Fin 128) (h : 128 * q.val + l.val < 1024) : idx_main_v1 (ix3 n q l) = ix2 n ⟨128 * q.val + l.val, h⟩ := by
  funext a
  match a with
  | ⟨0, _⟩ => exact Fin.ext (by show ((n.val * 8 + q.val) * 128 + l.val) / 1024 = n.val; omega)
  | ⟨1, _⟩ => exact Fin.ext (by show ((n.val * 8 + q.val) * 128 + l.val) % 1024 = 128 * q.val + l.val; omega)

theorem idx42 (n : Fin 2048) (q : Fin 8) (l : Fin 128) (h : 128 * q.val + l.val < 1024) : idx_main_v42 (ix3 n q l) = ix2 n ⟨128 * q.val + l.val, h⟩ := by
  funext a
  match a with
  | ⟨0, _⟩ => exact Fin.ext (by show ((n.val * 8 + q.val) * 128 + l.val) / 1024 = n.val; omega)
  | ⟨1, _⟩ => exact Fin.ext (by show ((n.val * 8 + q.val) * 128 + l.val) % 1024 = 128 * q.val + l.val; omega)

theorem idx25 (q : Fin 8) (l : Fin 128) (h : 128 * q.val + l.val < 1024) : idx_main_v25 (ix2 q l) = ix2 0 ⟨128 * q.val + l.val, h⟩ := by
  funext a
  match a with
  | ⟨0, _⟩ => exact Fin.ext (by show (0 : ℕ) = 0; omega)
  | ⟨1, _⟩ => exact Fin.ext (by show (q.val * 128 + l.val) % 1024 = 128 * q.val + l.val; omega)

theorem idx30 (n : Fin 2048) (q : Fin 8) (l : Fin 128) (h : 128 * q.val + l.val < 1024) : idx_main_v30 (ix2 n ⟨128 * q.val + l.val, h⟩) = ix3 n q l := by
  funext a
  match a with
  | ⟨0, _⟩ => exact Fin.ext (by show (n.val * 1024 + (128 * q.val + l.val)) / 1024 = n.val; omega)
  | ⟨1, _⟩ => exact Fin.ext (by show (n.val * 1024 + (128 * q.val + l.val)) / 128 % 8 = q.val; omega)
  | ⟨2, _⟩ => exact Fin.ext (by show (n.val * 1024 + (128 * q.val + l.val)) % 128 = l.val; omega)

theorem idx75 (n : Fin 2048) (q : Fin 8) (l : Fin 128) (h : 128 * q.val + l.val < 1024) : idx_main_v75 (ix2 n ⟨128 * q.val + l.val, h⟩) = ix3 n q l := by
  funext a
  match a with
  | ⟨0, _⟩ => exact Fin.ext (by show (n.val * 1024 + (128 * q.val + l.val)) / 1024 = n.val; omega)
  | ⟨1, _⟩ => exact Fin.ext (by show (n.val * 1024 + (128 * q.val + l.val)) / 128 % 8 = q.val; omega)
  | ⟨2, _⟩ => exact Fin.ext (by show (n.val * 1024 + (128 * q.val + l.val)) % 128 = l.val; omega)

theorem idx50 (q : Fin 8) (l : Fin 128) (h : 128 * q.val + l.val < 1024) : idx_main_v50 (ix2 0 ⟨128 * q.val + l.val, h⟩) = ix2 q l := by
  funext a
  match a with
  | ⟨0, _⟩ => exact Fin.ext (by show (0 * 1024 + (128 * q.val + l.val)) / 128 = q.val; omega)
  | ⟨1, _⟩ => exact Fin.ext (by show (0 * 1024 + (128 * q.val + l.val)) % 128 = l.val; omega)

end indices

section reals

variable {x0 x6 : (⟨S2048x1024, .f32⟩ : BufTy).Contents (Elt Ideal)} {x1 : (⟨S2048x6656, .f32⟩ : BufTy).Contents (Elt Ideal)} {x2 : (⟨S1x1024, .f32⟩ : BufTy).Contents (Elt Ideal)} {x3 : (⟨S1024x1024, .f32⟩ : BufTy).Contents (Elt Ideal)} {R U D W : ℕ → ℕ → ℝ} {G : ℕ → ℝ} (T : Tables x0 x6 x1 x2 x3 R U D W G)

include T

theorem r_at (n : Fin 2048) (q : Fin 8) (l : Fin 128) : val_main_v1 (F := Ideal) x0 (ix3 n q l) = (R n (128 * q.val + l.val) : EReal) := by
  rw [val_main_v1_apply, idx1 n q l (by omega)]
  exact T.r n _

theorem xc_at (n : Fin 2048) (q : Fin 8) (l : Fin 128) : val_main_v16 (F := Ideal) x0 (ix3 n q l) = (xc (fun j => R n (128 * q.val + j)) l : EReal) := by
  refine Eq.trans (b := val_main_v1 (F := Ideal) x0 (ix3 n q l) - Ideal.div (∑ j : Fin 128, val_main_v1 (F := Ideal) x0 (ix3 n q j)) (Ideal.ofBits .f32 0x43000000#32))
    (by pointwise [val_main_v16, val_main_v15, val_main_v5, val_main_v4, val_main_cst_0, val_main_v3, val_main_v2, val_main_cst]) ?_
  simp only [r_at T, bits_128, ← coe_sum]
  rw [div_coe _ _ (by norm_num), ← EReal.coe_sub]
  refine congrArg Real.toEReal ?_
  unfold xc
  ring

theorem xc2_at (n : Fin 2048) (q : Fin 8) (l : Fin 128) : val_main_v7 (F := Ideal) x0 (ix3 n q l) = (xc (fun j => R n (128 * q.val + j)) l : EReal) :=
  Eq.trans (by pointwise [val_main_v7, val_main_v6, val_main_v16, val_main_v15]) (xc_at T n q l)

theorem vr_at (n : Fin 2048) (q : Fin 8) : val_main_v18 (F := Ideal) x0 (ix3 n q 0) = (vr (fun j => R n (128 * q.val + j)) : EReal) := by
  refine Eq.trans (b := Ideal.div (∑ j : Fin 128, val_main_v7 (F := Ideal) x0 (ix3 n q j) * val_main_v7 (F := Ideal) x0 (ix3 n q j)) (Ideal.ofBits .f32 0x43000000#32) + Ideal.ofBits .f32 0x358637BD#32)
    (by pointwise [val_main_v18, val_main_v17, val_main_cst_4, val_main_v14, val_main_v13, val_main_cst_3, val_main_v12, val_main_v11, val_main_cst_2, val_main_v8]) ?_
  simp only [xc2_at T, bits_128, bits_eps, ← EReal.coe_mul, ← coe_sum]
  rw [div_coe _ _ (by norm_num), ← EReal.coe_add]
  refine congrArg Real.toEReal ?_
  unfold vr
  ring

theorem gr_at (n : Fin 2048) (q : Fin 8) : val_main_v19 (F := Ideal) x0 (ix3 n q 0) = (gr (fun j => R n (128 * q.val + j)) : EReal) := by
  refine Eq.trans (b := Ideal.rsqrt (val_main_v18 (F := Ideal) x0 (ix3 n q 0))) (by pointwise [val_main_v19]) ?_
  rw [vr_at T]
  exact rsqrt_coe _ (vr_pos _)

theorem slope_at (n : Fin 2048) (q : Fin 8) : val_main_v22 (F := Ideal) x0 (ix3 n q 0) = ((-(1 / 2) * (gr (fun j => R n (128 * q.val + j)) / vr (fun j => R n (128 * q.val + j))) : ℝ) : EReal) := by
  refine Eq.trans (b := Ideal.ofBits .f32 0xBF000000#32 * Ideal.div (val_main_v19 (F := Ideal) x0 (ix3 n q 0)) (val_main_v18 (F := Ideal) x0 (ix3 n q 0))) (by pointwise [val_main_v22, val_main_v21, val_main_cst_5, val_main_v20]) ?_
  rw [gr_at T, vr_at T, bits_neg_half, div_coe _ _ (vr_pos _).ne', ← EReal.coe_mul]

theorem gn_at (n : Fin 2048) (q : Fin 8) (l : Fin 128) : val_main_v24 (F := Ideal) x0 (ix3 n q l) = (gn (fun j => R n (128 * q.val + j)) l : EReal) := by
  refine Eq.trans (b := val_main_v16 (F := Ideal) x0 (ix3 n q l) * val_main_v19 (F := Ideal) x0 (ix3 n q 0)) (by pointwise [val_main_v24, val_main_v23]) ?_
  rw [gr_at T, xc_at T, ← EReal.coe_mul]
  rfl

theorem w_at (q : Fin 8) (l : Fin 128) : val_main_v26 (F := Ideal) x2 (ix3 0 q l) = (G (128 * q.val + l.val) : EReal) := by
  refine Eq.trans (b := val_main_v25 (F := Ideal) x2 (ix2 q l)) (by pointwise [val_main_v26]) ?_
  rw [val_main_v25_apply, idx25 q l (by omega)]
  exact T.g _

theorem v30_at (n : Fin 2048) (q : Fin 8) (l : Fin 128) (h : 128 * q.val + l.val < 1024) : val_main_v30 (F := Ideal) x0 x2 (ix2 n ⟨128 * q.val + l.val, h⟩) = (gn (fun j => R n (128 * q.val + j)) l * G (128 * q.val + l.val) : ℝ) := by
  rw [val_main_v30_apply, idx30 n q l h]
  refine Eq.trans (b := val_main_v24 (F := Ideal) x0 (ix3 n q l) * val_main_v26 (F := Ideal) x2 (ix3 0 q l)) (by pointwise [val_main_v28, val_main_v27]) ?_
  rw [gn_at T, w_at T, ← EReal.coe_mul]

theorem u_at (n : Fin 2048) (j : Fin 1024) : val_main_v0 (F := Ideal) x1 (ix2 n j) = (U n j : EReal) := by
  refine Eq.trans ?_ (T.u n j (by omega))
  pointwise [val_main_v0]

theorem lg_at (n : Fin 2048) (j : Fin 1024) : val_main_v29_2 (F := Ideal) x1 (ix2 n j) = (lg (U n j) : EReal) := by
  refine Eq.trans (b := Ideal.div (Ideal.ofBits .f32 0x3F800000#32) (Ideal.ofBits .f32 0x3F800000#32 + Ideal.exp (-val_main_v0 (F := Ideal) x1 (ix2 n j))))
    (by pointwise [val_main_v29_2, val_main_call0_v4, val_main_call0_cst_0, val_main_call0_v3, val_main_call0_v2, val_main_call0_cst, val_main_call0_v1, val_main_call0_v0]) ?_
  rw [u_at T, bits_unit, ← EReal.coe_neg, exp_coe, ← zero_sub]
  exact lg_coe _

theorem sl_at (n : Fin 2048) (j : Fin 1024) : val_main_v39 (F := Ideal) x3 x6 (ix2 n j) = (sl D W n j : EReal) := by
  pointwise [val_main_v39]
  simp only [T.d, T.w, ← EReal.coe_mul, ← coe_sum]
  rfl

/-- The reference's gradient of the gate. -/
theorem dg_at (n : Fin 2048) (q : Fin 8) (l : Fin 128) (h : 128 * q.val + l.val < 1024) : val_main_v81 (F := Ideal) x0 x1 x2 x3 x6 (ix2 n ⟨128 * q.val + l.val, h⟩) = (dgate R U D W G n (128 * q) l : EReal) := by
  refine Eq.trans (b := val_main_v39 (F := Ideal) x3 x6 (ix2 n ⟨128 * q.val + l.val, h⟩) * val_main_v30 (F := Ideal) x0 x2 (ix2 n ⟨128 * q.val + l.val, h⟩) * val_main_v29_2 (F := Ideal) x1 (ix2 n ⟨128 * q.val + l.val, h⟩)
      + val_main_v0 (F := Ideal) x1 (ix2 n ⟨128 * q.val + l.val, h⟩) * (val_main_v39 (F := Ideal) x3 x6 (ix2 n ⟨128 * q.val + l.val, h⟩) * val_main_v30 (F := Ideal) x0 x2 (ix2 n ⟨128 * q.val + l.val, h⟩)) * (val_main_v29_2 (F := Ideal) x1 (ix2 n ⟨128 * q.val + l.val, h⟩) * (Ideal.ofBits .f32 0x3F800000#32 - val_main_v29_2 (F := Ideal) x1 (ix2 n ⟨128 * q.val + l.val, h⟩))))
    (by pointwise [val_main_v81, val_main_v43, val_main_call1_v1, val_main_call1_v2, val_main_call1_v0, val_main_v41, val_main_v29_1, val_main_call0_v7, val_main_call0_v6, val_main_call0_cst_1]) ?_
  rw [sl_at T, v30_at T, lg_at T, u_at T, bits_unit]
  simp only [← EReal.coe_mul, ← EReal.coe_add, ← EReal.coe_sub]
  refine congrArg Real.toEReal ?_
  unfold dgate
  ring

theorem v42_at (n : Fin 2048) (q : Fin 8) (l : Fin 128) : val_main_v42 (F := Ideal) x1 x3 x6 (ix3 n q l) = (sl D W n (128 * q.val + l.val) * (U n (128 * q.val + l.val) * lg (U n (128 * q.val + l.val))) : ℝ) := by
  rw [val_main_v42_apply, idx42 n q l (by omega)]
  refine Eq.trans (b := val_main_v0 (F := Ideal) x1 (ix2 n ⟨128 * q.val + l.val, by omega⟩) * val_main_v29_2 (F := Ideal) x1 (ix2 n ⟨128 * q.val + l.val, by omega⟩) * val_main_v39 (F := Ideal) x3 x6 (ix2 n ⟨128 * q.val + l.val, by omega⟩)) (by pointwise [val_main_v40, val_main_v29_0]) ?_
  rw [sl_at T, lg_at T, u_at T, ← EReal.coe_mul, ← EReal.coe_mul]
  exact congrArg Real.toEReal (mul_comm _ _)

theorem dm_at (n : Fin 2048) (q : Fin 8) (l : Fin 128) : val_main_v48 (F := Ideal) x1 x2 x3 x6 (ix3 n q l) = (dm R U D W G n (128 * q) l : EReal) := by
  refine Eq.trans (b := val_main_v42 (F := Ideal) x1 x3 x6 (ix3 n q l) * val_main_v26 (F := Ideal) x2 (ix3 0 q l)) (by pointwise [val_main_v48, val_main_v47]) ?_
  rw [v42_at T, w_at T, ← EReal.coe_mul]
  rfl

/-- The reference's gradient of the norm's weight. -/
theorem dw_at (q : Fin 8) (l : Fin 128) (h : 128 * q.val + l.val < 1024) : val_main_v50 (F := Ideal) x0 x1 x3 x6 (ix2 0 ⟨128 * q.val + l.val, h⟩) = (dwt R U D W G (128 * q) l : EReal) := by
  rw [val_main_v50_apply, idx50 q l h]
  refine Eq.trans (b := ∑ n : Fin 2048, val_main_v24 (F := Ideal) x0 (ix3 n q l) * val_main_v42 (F := Ideal) x1 x3 x6 (ix3 n q l))
    (by
      pointwise [val_main_v49, val_main_cst_7, val_main_v46, val_main_v45, val_main_cst_6, val_main_v44]
      exact Fin.sum_univ_one _) ?_
  simp only [gn_at T, v42_at T, ← EReal.coe_mul, ← coe_sum]
  refine congrArg Real.toEReal (Finset.sum_congr rfl fun n _ => ?_)
  exact mul_comm _ _

theorem v55_at (n : Fin 2048) (q : Fin 8) (l : Fin 128) : val_main_v55 (F := Ideal) x0 x1 x2 x3 x6 (ix3 n q l) = (dm R U D W G n (128 * q) l * gr (fun j => R n (128 * q.val + j)) : ℝ) := by
  refine Eq.trans (b := val_main_v48 (F := Ideal) x1 x2 x3 x6 (ix3 n q l) * val_main_v19 (F := Ideal) x0 (ix3 n q 0)) (by pointwise [val_main_v55, val_main_v54]) ?_
  rw [dm_at T, gr_at T, ← EReal.coe_mul]

theorem sv_at (n : Fin 2048) (q : Fin 8) (l : Fin 128) : val_main_v63 (F := Ideal) x0 x1 x2 x3 x6 (ix3 n q l) = (sv (fun j => R n (128 * q.val + j)) (dm R U D W G n (128 * q)) : EReal) := by
  refine Eq.trans (b := Ideal.div ((∑ j : Fin 128, val_main_v16 (F := Ideal) x0 (ix3 n q j) * val_main_v48 (F := Ideal) x1 x2 x3 x6 (ix3 n q j)) * val_main_v22 (F := Ideal) x0 (ix3 n q 0)) (Ideal.ofBits .f32 0x43000000#32))
    (by
      pointwise [val_main_v63, val_main_v62, val_main_cst_11, val_main_v61, val_main_v60, val_main_cst_10, val_main_v56, val_main_v53, val_main_v52, val_main_cst_8, val_main_v51]
      exact Fin.sum_univ_one _) ?_
  simp only [xc_at T, dm_at T, slope_at T, bits_128, ← EReal.coe_mul, ← coe_sum]
  rw [div_coe _ _ (by norm_num)]
  rfl

theorem v64_at (n : Fin 2048) (q : Fin 8) (l : Fin 128) : val_main_v64 (F := Ideal) x0 x1 x2 x3 x6 (ix3 n q l) = (sv (fun j => R n (128 * q.val + j)) (dm R U D W G n (128 * q)) * (2 * xc (fun j => R n (128 * q.val + j)) l) : ℝ) := by
  refine Eq.trans (b := val_main_v63 (F := Ideal) x0 x1 x2 x3 x6 (ix3 n q l) * (Ideal.ofBits .f32 0x40000000#32 * val_main_v7 (F := Ideal) x0 (ix3 n q l))) (by pointwise [val_main_v64, val_main_v10, val_main_v9, val_main_cst_1]) ?_
  rw [sv_at T, xc2_at T, bits_two, ← EReal.coe_mul, ← EReal.coe_mul]

/-- The reference's gradient of the retention. -/
theorem dret_at (n : Fin 2048) (q : Fin 8) (l : Fin 128) (h : 128 * q.val + l.val < 1024) : val_main_v82 (F := Ideal) x0 x1 x2 x3 x6 (ix2 n ⟨128 * q.val + l.val, h⟩) = (dret R U D W G n (128 * q) l : EReal) := by
  refine Eq.trans (b := val_main_v75 (F := Ideal) x0 x1 x2 x3 x6 (ix2 n ⟨128 * q.val + l.val, h⟩)) (by pointwise [val_main_v82]) ?_
  rw [val_main_v75_apply, idx75 n q l h]
  refine Eq.trans (b := val_main_v55 (F := Ideal) x0 x1 x2 x3 x6 (ix3 n q l) + val_main_v64 (F := Ideal) x0 x1 x2 x3 x6 (ix3 n q l)
      + Ideal.div ((∑ j : Fin 128, -val_main_v55 (F := Ideal) x0 x1 x2 x3 x6 (ix3 n q j)) + ∑ j : Fin 128, -val_main_v64 (F := Ideal) x0 x1 x2 x3 x6 (ix3 n q j)) (Ideal.ofBits .f32 0x43000000#32))
    (by
      pointwise [val_main_v74, val_main_v73, val_main_v72, val_main_cst_14, val_main_v71, val_main_v70, val_main_cst_13, val_main_v69, val_main_v68, val_main_v67, val_main_v66, val_main_cst_12, val_main_v65, val_main_v59, val_main_v58, val_main_cst_9, val_main_v57]
      exact congrArg (HAdd.hAdd (_ : EReal)) (Fin.sum_univ_one (M := EReal) _)) ?_
  simp only [v55_at T, v64_at T, bits_128, ← EReal.coe_neg, ← EReal.coe_add, ← coe_sum]
  rw [div_coe _ _ (by norm_num), ← EReal.coe_add]
  exact congrArg Real.toEReal (gb_eq _ _ _).symm

end reals

section products

variable (x0 x6 x7 : (⟨S2048x1024, .f32⟩ : BufTy).Contents (Elt Ideal)) (x1 : (⟨S2048x6656, .f32⟩ : BufTy).Contents (Elt Ideal)) (x2 : (⟨S1x1024, .f32⟩ : BufTy).Contents (Elt Ideal)) (x4 : (⟨S2048x512, .f32⟩ : BufTy).Contents (Elt Ideal)) (x5 : (⟨S512x1024, .f32⟩ : BufTy).Contents (Elt Ideal))

/-- The reference's gradient of the stick-breaking output. -/
theorem dsb_at (n : Fin 2048) (l : Fin 512) : val_main_v78 (F := Ideal) x5 x7 (ix2 n l) = ∑ k : Fin 1024, x7 (ix2 n k) * x5 (ix2 l k) := by
  pointwise [val_main_v78, val_main_v36]

/-- The reference's gradient of the retention's output weight. -/
theorem gwr_at (i j : Fin 1024) : val_main_v79 (F := Ideal) x0 x1 x2 x6 (ix2 i j) = ∑ k : Fin 2048, val_main_v31 (F := Ideal) x0 x1 x2 (ix2 k i) * x6 (ix2 k j) := by
  pointwise [val_main_v79, val_main_v38, val_main_v37]
  exact Finset.sum_congr rfl fun k _ => mul_comm _ _

theorem idx76 (q : Fin 8) (i : Fin 512) (l : Fin 128) (h : 128 * q.val + l.val < 1024) : idx_main_v76 (ix3 i q l) = ix2 i ⟨128 * q.val + l.val, h⟩ := by
  funext a
  match a with
  | ⟨0, _⟩ => exact Fin.ext (by show ((i.val * 8 + q.val) * 128 + l.val) / 1024 = i.val; omega)
  | ⟨1, _⟩ => exact Fin.ext (by show ((i.val * 8 + q.val) * 128 + l.val) % 1024 = 128 * q.val + l.val; omega)

/-- The reference's gradient of the stick-breaking output's weight. -/
theorem gws_at (q : Fin 8) (i : Fin 512) (l : Fin 128) (h : 128 * q.val + l.val < 1024) : val_main_v80 (F := Ideal) x4 x7 (ix3 q i l) = ∑ k : Fin 2048, x4 (ix2 k i) * x7 (ix2 k ⟨128 * q.val + l.val, h⟩) := by
  refine Eq.trans (b := val_main_v76 (F := Ideal) x4 x7 (ix3 i q l)) (by pointwise [val_main_v80, val_main_v77]) ?_
  rw [val_main_v76_apply, idx76 q i l h]
  pointwise [val_main_v35, val_main_v34]
  exact Finset.sum_congr rfl fun k _ => mul_comm _ _

end products

end Cert.BranchRefIdeal.Hand

end
-- ==== Proof.BranchPre.lean ====
/-
  The precondition of the retention's branch: what it names is finite.
-/
module

public import proofs.«01_k».proof.Proof.StickPre
public import proofs.«01_k».proof.Proof.BranchRef
public import proofs.«01_k».proof.Pre_branch_finite

@[expose] public section

set_option maxRecDepth 16384

noncomputable section

open Idealize.ShloMosaic Idealize.ShloMosaic.TcCoe Idealize.SL.Sem

namespace Cert.Pre_branch_finite

open Cert.Pre_stick_finite (real_of_lt and_one)
open Cert.RealKit

instance facts : Facts where
  bcast_S_S2048x1024 := by decide
  reducesTo_S2048x1024_S_d0_1 := by decide
  h_S_ := by decide
  slices_S2048x6656_S2048x1024_0_2048 := by decide
  bcast_S_S1x1024 := by decide
  reducesTo_S1x1024_S_d0_1 := by decide
  bcast_S_S1024x1024 := by decide
  reducesTo_S1024x1024_S_d0_1 := by decide

/-- Under the precondition the arguments are tables of reals. -/
theorem finite_of {x0 x6 x7 : FVec Ideal S2048x1024 .f32} {x1 : FVec Ideal S2048x6656 .f32} {x2 : FVec Ideal S1x1024 .f32} {x3 : FVec Ideal S1024x1024 .f32} {x4 : FVec Ideal S2048x512 .f32} {x5 : FVec Ideal S512x1024 .f32}
    (h : fn (F := Ideal) x0 x1 x2 x3 x4 x5 x6 x7 = fun _ => 1#1) : ∃ (R U D W : ℕ → ℕ → ℝ) (G : ℕ → ℝ), Cert.BranchRefIdeal.Hand.Tables x0 x6 x1 x2 x3 R U D W G := by
  have h0 := congrFun h (fun a => a.elim0)
  unfold fn fn_part1 at h0
  dsimp only at h0
  obtain ⟨s4, h5⟩ := and_one _ _ h0
  obtain ⟨s3, h4⟩ := and_one _ _ s4
  obtain ⟨s2, h3⟩ := and_one _ _ s3
  obtain ⟨h1, h2⟩ := and_one _ _ s2
  haveI : Subsingleton S_.Idx := ⟨fun a b => funext fun k => k.elim0⟩
  choose R hR using fun i => real_of_lt _ (Host.reduce_andi_all _ _ _ _ _ h1 i)
  choose U hU using fun i => real_of_lt _ (Host.reduce_andi_all _ _ _ _ _ h2 i)
  choose G hG using fun i => real_of_lt _ (Host.reduce_andi_all _ _ _ _ _ h3 i)
  choose W hW using fun i => real_of_lt _ (Host.reduce_andi_all _ _ _ _ _ h4 i)
  choose D hD using fun i => real_of_lt _ (Host.reduce_andi_all _ _ _ _ _ h5 i)
  refine ⟨grid2 (fun n k => R (ix2 n k)), grid2 (fun n k => U (ix2 n k)), grid2 (fun n k => D (ix2 n k)), grid2 (fun n k => W (ix2 n k)), grid2 (fun (n : Fin 1) l => G (ix2 n l)) 0,
    fun n k => (hR _).trans (congrArg _ (grid2_at (fun n k => R (ix2 n k)) n k).symm), fun n k => (hD _).trans (congrArg _ (grid2_at (fun n k => D (ix2 n k)) n k).symm),
    fun n j _ => Eq.trans ?_ ((hU (ix2 n j)).trans (congrArg _ (grid2_at (fun n k => U (ix2 n k)) n j).symm)),
    fun l => (hG _).trans (congrArg _ (grid2_at (fun (n : Fin 1) l => G (ix2 n l)) 0 l).symm), fun n k => (hW _).trans (congrArg _ (grid2_at (fun n k => W (ix2 n k)) n k).symm)⟩
  pointwise []

end Cert.Pre_branch_finite

end
-- ==== Proof.BranchFinal.lean ====
/-
  The arrays of the retention's branch are the reference's.
-/
module

public import proofs.«01_k».proof.Proof.BranchPre

@[expose] public section

set_option maxRecDepth 16384

noncomputable section

open Idealize.ShloMosaic Idealize.ShloMosaic.TcCoe Idealize.SL.Sem

namespace Cert.BranchIdeal.Hand

open Cert.BranchIdeal Cert.BranchIdeal.Gen Cert.RealKit

variable (m : (ℓ : Loc nD τ sig) → Buf (Elt Ideal) ℓ) (c : Dev nD)

set_option maxHeartbeats 2000000 in
open Cert.BranchRefIdeal.Read in
/-- The gated retention, which the host computes. -/
theorem entryG : V m c main_v29 = val_main_v31 (F := Ideal) (m ((c : Thread nD τ).loc main_arg0)) (m ((c : Thread nD τ).loc main_arg1)) (m ((c : Thread nD τ).loc main_arg2)) := by
  unfold_abbrev_sides
  after_reads_simp
  rfl

/-- The array of the gradient of the stick-breaking output is the reference's. -/
theorem final9 : (dats m 0 c).arrAt 9 (cfgs 0).N = Cert.BranchRefIdeal.Read.val_main_v78 (F := Ideal) (m ((c : Thread nD τ).loc main_arg5)) (m ((c : Thread nD τ).loc main_arg7)) :=
  array9 m c rfl rfl fun n l => Cert.BranchRefIdeal.Hand.dsb_at _ _ n l

/-- The array of the gradient of the retention's output weight is the reference's. -/
theorem final10 : (dats m 0 c).arrAt 10 (cfgs 0).N = Cert.BranchRefIdeal.Read.val_main_v79 (F := Ideal) (m ((c : Thread nD τ).loc main_arg0)) (m ((c : Thread nD τ).loc main_arg1)) (m ((c : Thread nD τ).loc main_arg2)) (m ((c : Thread nD τ).loc main_arg6)) :=
  array10 m c (entryG m c) rfl fun i j => Cert.BranchRefIdeal.Hand.gwr_at _ _ _ _ i j

/-- The array of the gradient of the stick-breaking output's weight is the reference's. -/
theorem final11 : (dats m 0 c).arrAt 11 (cfgs 0).N = Cert.BranchRefIdeal.Read.val_main_v80 (F := Ideal) (m ((c : Thread nD τ).loc main_arg4)) (m ((c : Thread nD τ).loc main_arg7)) :=
  array11 m c rfl rfl fun q i l h => Cert.BranchRefIdeal.Hand.gws_at _ _ q i l h

variable {m c}

/-- What the grid points read, of the arguments. -/
theorem blocks {R U D W : ℕ → ℕ → ℝ} {G : ℕ → ℝ} (T : Cert.BranchRefIdeal.Hand.Tables (m ((c : Thread nD τ).loc main_arg0)) (m ((c : Thread nD τ).loc main_arg6)) (m ((c : Thread nD τ).loc main_arg1)) (m ((c : Thread nD τ).loc main_arg2)) (m ((c : Thread nD τ).loc main_arg3)) R U D W G) : Blocks m c R U D W G where
  d t n k := (read0 m c t n k pt).trans ((entry0 m c n k).trans (T.d n k))
  w t l k := (read4 m c t l k pt).trans ((entry4 m c _ k).trans (T.w _ k))
  r t n l := (read6 m c t n l pt).trans ((congrFun (V_main_arg0 m c) _).trans (T.r n _))
  u t n l := (read7 m c t n l pt).trans ((entry7 m c n _).trans (T.u n ⟨256 * t.val + l.val, by have := pt (t := t); omega⟩ (by have := pt (t := t); dsimp only; omega)))
  g t l := (read8 m c t l pt).trans ((congrFun (V_main_arg2 m c) _).trans (T.g _))

variable (m c) (h : Cert.Pre_branch_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1)

include h

/-- Of finite arguments, the array of the gate's gradient is the reference's. -/
theorem final12 : (dats m 0 c).arrAt 12 (cfgs 0).N = Cert.BranchRefIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  obtain ⟨R, U, D, W, G, T⟩ := Cert.Pre_branch_finite.finite_of h
  exact array12 (blocks T) (Cert.BranchRefIdeal.Hand.dg_at T)

/-- Of finite arguments, the array of the retention's gradient is the reference's. -/
theorem final13 : (dats m 0 c).arrAt 13 (cfgs 0).N = Cert.BranchRefIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  obtain ⟨R, U, D, W, G, T⟩ := Cert.Pre_branch_finite.finite_of h
  exact array13 (blocks T) (Cert.BranchRefIdeal.Hand.dret_at T)

/-- Of finite arguments, the array of the norm weight's gradient is the reference's. -/
theorem final14 : (dats m 0 c).arrAt 14 (cfgs 0).N = Cert.BranchRefIdeal.Read.val_main_v50 (F := Ideal) (m ((c : Thread nD τ).loc main_arg0)) (m ((c : Thread nD τ).loc main_arg1)) (m ((c : Thread nD τ).loc main_arg3)) (m ((c : Thread nD τ).loc main_arg6)) := by
  obtain ⟨R, U, D, W, G, T⟩ := Cert.Pre_branch_finite.finite_of h
  exact array14 (blocks T) (Cert.BranchRefIdeal.Hand.dw_at T)

end Cert.BranchIdeal.Hand

end
-- ==== Proof.Ff1Cases.lean ====
/-
  A block of the feed-forward's input, half by half: what it leaves in its results, in the sums it carries and in the carried product.
-/
module

public import proofs.«01_k».proof.Proof.NormKit
public import proofs.«01_k».proof.Proof.Gen.Ff1BwdIdeal.Frame

@[expose] public section

set_option maxRecDepth 16384

noncomputable section

open Idealize.ShloMosaic Idealize.ShloMosaic.TcCoe Idealize.SL.Sem

namespace Cert.Ff1BwdIdeal.Hand

open Cert.Ff1BwdIdeal Cert.Ff1BwdIdeal.Gen Cert.NormKit

variable {F : FTy → Type} [FloatOps F]

/-- Two halves as one block. -/
def both {n : ℕ} {e : EltTy} (g : Fin 2 → Vec F ⟨2, ![128, n]⟩ e) : Vec F ⟨2, ![256, n]⟩ e :=
  fun y => g ⟨(y 0).val / 128, by have : (y 0).val < 256 := (y 0).isLt; omega⟩ (ix2 ⟨(y 0).val % 128, Nat.mod_lt _ (by norm_num)⟩ (y 1))

/-- Both halves stored, loaded together. -/
theorem cov_half {sig : RefSig} {n : ℕ} {e : EltTy} (v : View sig .tc .vmem ⟨2, ![256, n]⟩ e) (g : Fin 2 → Vec F ⟨2, ![128, n]⟩ e) {w1 w0 : Vec F ⟨2, ![128, n]⟩ e}
    (e1 : w1 = g 1) (e0 : w0 = g 0) (i1 i0 off inb) :
    v.readCov (Val := Elt F) [⟨Rect.unit (s := ⟨2, ![256, n]⟩) ![128, 0] ![128, n] i1, w1⟩, ⟨Rect.unit (s := ⟨2, ![256, n]⟩) ![0, 0] ![128, n] i0, w0⟩]
      (Rect.unit (s := ⟨2, ![256, n]⟩) off ![256, n] inb).toLoadRect = both g := by
  refine (View.readAt_full (s := ⟨2, ![256, n]⟩) v _ inb).trans ?_
  funext y
  have hy : (y 0).val < 256 := (y 0).isLt
  have h : y = ix2 ⟨128 * ((y 0).val / 128) + (y 0).val % 128, by omega⟩ (y 1) :=
    (eq_ix2 _).trans (congrArg (fun a => ix2 a (y 1)) (Fin.ext (show (y 0).val = 128 * ((y 0).val / 128) + (y 0).val % 128 by omega)))
  exact (congrArg _ h).trans (out_half (F := F) (e := e) v g e1 e0 ⟨(y 0).val / 128, by omega⟩ i1 i0 _ ⟨(y 0).val % 128, Nat.mod_lt _ (by norm_num)⟩ (y 1) _)

section

variable (x0 : Vec F S256x4096 .bf16) (x1 : Vec F S4096x1024 .bf16) (x2 x3 x4 : Vec F S256x1024 .f32) (x6 : Vec F S1x6144 .f32) (x7 x8 : Vec F S1x1024 .f32) (p : Fin 2)

/-- Half a block's share of the gradient of the shift, added to what was there. -/
def bSh (a : Vec F S1x1024 .f32) : FVec F S1x1024 .f32 := k0_pay13 (half x0 p) x1 a

/-- Half a block's share of the gradient of the scale, added to what was there. -/
def bSc (a : Vec F S1x1024 .f32) : FVec F S1x1024 .f32 := k0_pay14 x7 (k0_pay9 (half x0 p) x1) (k0_pay12 (half x2 p)) a

/-- Half a block's share of the gradient of the norm's weight, added to what was there. -/
def bG (a : Vec F S1x1024 .f32) : FVec F S1x1024 .f32 := k0_pay15 (cols x6 4) (k0_pay9 (half x0 p) x1) (k0_pay12 (half x2 p)) a

/-- What half a block leaves of the gradient of the hidden sum. -/
def bDh : FVec F S128x1024 .f32 := k0_pay16 x7 (cols x6 4) (k0_pay9 (half x0 p) x1) (k0_pay11 (half x2 p)) (k0_pay12 (half x2 p)) (half x3 p)

/-- Half a block's share of the gradient of the gate, added to what was there. -/
def bGt (a : Vec F S1x1024 .f32) : FVec F S1x1024 .f32 := k0_pay20 x8 (bDh x0 x1 x2 x3 x6 x7 p) (half x4 p) a

/-- Half a block's share of the gradient of the first norm's weight, added to what was there. -/
def bGp (a : Vec F S1x1024 .f32) : FVec F S1x1024 .f32 := k0_pay21 (cols x6 2) (bDh x0 x1 x2 x3 x6 x7 p) (half x4 p) a

/-- What half a block leaves of the gradient of the attentions' product. -/
def bDy : FVec F S128x1024 .bf16 := k0_pay24 (k0_pay22 (cols x6 2) x8 (bDh x0 x1 x2 x3 x6 x7 p) (half x4 p)) (k0_pay23 (half x4 p))

/-- What a block adds to the gradient of the attentions' output weight. -/
def bAcc (x5 : Vec F S256x1024 .bf16) (a : Vec F S1024x1024 .f32) : FVec F S1024x1024 .f32 := k0_pay1 a (k0_pay39 x5) (both (bDy x0 x1 x2 x3 x4 x6 x7 x8))

end

section congr

variable {v3 v3' v4 v4' v5 v5' v6 v6' a a' : Vec F S1x1024 .f32} {v7 v7' : Vec F S128x4096 .bf16} {v9 v9' : Vec F S4096x1024 .bf16} {v12 v12' v50 v50' v69 v69' : Vec F S128x1024 .f32}

theorem sh_congr0 (h7 : v7 = v7') (h9 : v9 = v9') (ha : a = a') : k0_pay13 v7 v9 a = k0_pay13 v7' v9' a' := by
  subst h7 h9 ha; rfl

theorem sh_congr1 (h7 : v7 = v7') (h9 : v9 = v9') (ha : a = a') : k0_pay29 v7 v9 a = k0_pay13 v7' v9' a' := by
  subst h7 h9 ha; rfl

theorem sc_congr0 (h3 : v3 = v3') (h7 : v7 = v7') (h9 : v9 = v9') (h12 : v12 = v12') (ha : a = a') : k0_pay14 v3 (k0_pay9 v7 v9) (k0_pay12 v12) a = k0_pay14 v3' (k0_pay9 v7' v9') (k0_pay12 v12') a' := by
  subst h3 h7 h9 h12 ha; rfl

theorem sc_congr1 (h3 : v3 = v3') (h7 : v7 = v7') (h9 : v9 = v9') (h12 : v12 = v12') (ha : a = a') : k0_pay30 v3 v7 v9 v12 a = k0_pay14 v3' (k0_pay9 v7' v9') (k0_pay12 v12') a' := by
  subst h3 h7 h9 h12 ha; rfl

theorem g_congr0 (h4 : v4 = v4') (h7 : v7 = v7') (h9 : v9 = v9') (h12 : v12 = v12') (ha : a = a') : k0_pay15 v4 (k0_pay9 v7 v9) (k0_pay12 v12) a = k0_pay15 v4' (k0_pay9 v7' v9') (k0_pay12 v12') a' := by
  subst h4 h7 h9 h12 ha; rfl

theorem g_congr1 (h4 : v4 = v4') (h7 : v7 = v7') (h9 : v9 = v9') (h12 : v12 = v12') (ha : a = a') : k0_pay31 v4 (k0_pay25 v7 v9) (k0_pay28 v12) a = k0_pay15 v4' (k0_pay9 v7' v9') (k0_pay12 v12') a' := by
  subst h4 h7 h9 h12 ha; rfl

theorem dh_congr0 (h3 : v3 = v3') (h4 : v4 = v4') (h7 : v7 = v7') (h9 : v9 = v9') (h12 : v12 = v12') (h50 : v50 = v50') : k0_pay16 v3 v4 (k0_pay9 v7 v9) (k0_pay11 v12) (k0_pay12 v12) v50 = k0_pay16 v3' v4' (k0_pay9 v7' v9') (k0_pay11 v12') (k0_pay12 v12') v50' := by
  subst h3 h4 h7 h9 h12 h50; rfl

theorem dh_congr1 (h3 : v3 = v3') (h4 : v4 = v4') (h7 : v7 = v7') (h9 : v9 = v9') (h12 : v12 = v12') (h50 : v50 = v50') : k0_pay32 v3 v4 (k0_pay25 v7 v9) (k0_pay27 v12) (k0_pay28 v12) v50 = k0_pay16 v3' v4' (k0_pay9 v7' v9') (k0_pay11 v12') (k0_pay12 v12') v50' := by
  subst h3 h4 h7 h9 h12 h50; rfl

theorem gt_congr0 (h3 : v3 = v3') (h4 : v4 = v4') (h6 : v6 = v6') (h7 : v7 = v7') (h9 : v9 = v9') (h12 : v12 = v12') (h50 : v50 = v50') (h69 : v69 = v69') (ha : a = a') : k0_pay20 v6 (k0_pay16 v3 v4 (k0_pay9 v7 v9) (k0_pay11 v12) (k0_pay12 v12) v50) v69 a = k0_pay20 v6' (k0_pay16 v3' v4' (k0_pay9 v7' v9') (k0_pay11 v12') (k0_pay12 v12') v50') v69' a' := by
  subst h3 h4 h6 h7 h9 h12 h50 h69 ha; rfl

theorem gt_congr1 (h3 : v3 = v3') (h4 : v4 = v4') (h6 : v6 = v6') (h7 : v7 = v7') (h9 : v9 = v9') (h12 : v12 = v12') (h50 : v50 = v50') (h69 : v69 = v69') (ha : a = a') : k0_pay36 v6 (k0_pay32 v3 v4 (k0_pay25 v7 v9) (k0_pay27 v12) (k0_pay28 v12) v50) (k0_pay33 v69) (k0_pay34 v69) a = k0_pay20 v6' (k0_pay16 v3' v4' (k0_pay9 v7' v9') (k0_pay11 v12') (k0_pay12 v12') v50') v69' a' := by
  subst h3 h4 h6 h7 h9 h12 h50 h69 ha; rfl

theorem gp_congr0 (h3 : v3 = v3') (h4 : v4 = v4') (h5 : v5 = v5') (h7 : v7 = v7') (h9 : v9 = v9') (h12 : v12 = v12') (h50 : v50 = v50') (h69 : v69 = v69') (ha : a = a') : k0_pay21 v5 (k0_pay16 v3 v4 (k0_pay9 v7 v9) (k0_pay11 v12) (k0_pay12 v12) v50) v69 a = k0_pay21 v5' (k0_pay16 v3' v4' (k0_pay9 v7' v9') (k0_pay11 v12') (k0_pay12 v12') v50') v69' a' := by
  subst h3 h4 h5 h7 h9 h12 h50 h69 ha; rfl

theorem gp_congr1 (h3 : v3 = v3') (h4 : v4 = v4') (h5 : v5 = v5') (h7 : v7 = v7') (h9 : v9 = v9') (h12 : v12 = v12') (h50 : v50 = v50') (h69 : v69 = v69') (ha : a = a') : k0_pay37 v5 (k0_pay32 v3 v4 (k0_pay25 v7 v9) (k0_pay27 v12) (k0_pay28 v12) v50) (k0_pay33 v69) (k0_pay34 v69) a = k0_pay21 v5' (k0_pay16 v3' v4' (k0_pay9 v7' v9') (k0_pay11 v12') (k0_pay12 v12') v50') v69' a' := by
  subst h3 h4 h5 h7 h9 h12 h50 h69 ha; rfl

theorem dy_congr0 (h3 : v3 = v3') (h4 : v4 = v4') (h5 : v5 = v5') (h6 : v6 = v6') (h7 : v7 = v7') (h9 : v9 = v9') (h12 : v12 = v12') (h50 : v50 = v50') (h69 : v69 = v69') : k0_pay24 (k0_pay22 v5 v6 (k0_pay16 v3 v4 (k0_pay9 v7 v9) (k0_pay11 v12) (k0_pay12 v12) v50) v69) (k0_pay23 v69) = k0_pay24 (k0_pay22 v5' v6' (k0_pay16 v3' v4' (k0_pay9 v7' v9') (k0_pay11 v12') (k0_pay12 v12') v50') v69') (k0_pay23 v69') := by
  subst h3 h4 h5 h6 h7 h9 h12 h50 h69; rfl

theorem dy_congr1 (h3 : v3 = v3') (h4 : v4 = v4') (h5 : v5 = v5') (h6 : v6 = v6') (h7 : v7 = v7') (h9 : v9 = v9') (h12 : v12 = v12') (h50 : v50 = v50') (h69 : v69 = v69') : k0_pay38 v5 v6 (k0_pay32 v3 v4 (k0_pay25 v7 v9) (k0_pay27 v12) (k0_pay28 v12) v50) (k0_pay33 v69) (k0_pay34 v69) = k0_pay24 (k0_pay22 v5' v6' (k0_pay16 v3' v4' (k0_pay9 v7' v9') (k0_pay11 v12') (k0_pay12 v12') v50') v69') (k0_pay23 v69') := by
  subst h3 h4 h5 h6 h7 h9 h12 h50 h69; rfl

theorem acc_congr {a a' : Vec F S1024x1024 .f32} {u u' v v' : Vec F S256x1024 .bf16} (ha : a = a') (hu : u = u') (hv : v = v') : k0_pay1 a (k0_pay39 u) v = k0_pay1 a' (k0_pay39 u') v' := by
  subst ha hu hv; rfl

end congr

variable (c : Dev nD) (i : grid0.Coords)
  (arg1 : Memref sig .tc .vmem S256x4096 .bf16) (harg1 : arg1.IsWhole)
  (arg2 : Memref sig .tc .vmem S4096x1024 .bf16) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x1024 .bf16) (harg6 : arg6.IsWhole)
  (arg7 : Memref sig .tc .vmem S1x6144 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x1024 .f32) (harg10 : arg10.IsWhole)
  (arg11 : Memref sig .tc .vmem S256x1024 .bf16) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S1x1024 .f32) (harg16 : arg16.IsWhole)
  (arg17 : Memref sig .tc .vmem S1024x1024 .bf16) (harg17 : arg17.IsWhole)
  (arg18 : Memref sig .tc .vmem S1024x1024 .f32) (harg18 : arg18.IsWhole)
  (x0 : Vec F S256x4096 .bf16) (x1 : Vec F S4096x1024 .bf16) (x2 x3 x4 : Vec F S256x1024 .f32) (x5 : Vec F S256x1024 .bf16) (x6 : Vec F S1x6144 .f32) (x7 x8 : Vec F S1x1024 .f32)

section first

variable (hc0 : cond0_0 i) (hc1 : ¬cond0_1 i)

theorem sh_A : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = bSh x0 x1 1 (bSh x0 x1 0 k0_pay3) := by
  unfold out0_A_11 kernelRun0_A
  dsimp only
  refine (View.read_writes_full _ _ _ _ _).trans ?_
  exact sh_congr1 (read_half arg1 harg1 x0 1 _ rfl _) (read_all arg2 harg2 x1 _ _) ((View.readCov_full _ _ _ _ _).trans (sh_congr0 (read_half arg1 harg1 x0 0 _ rfl _) (read_all arg2 harg2 x1 _ _) (View.readCov_full _ _ _ _ _)))

theorem sc_A : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = bSc x0 x1 x2 x7 1 (bSc x0 x1 x2 x7 0 k0_pay4) := by
  unfold out0_A_12 kernelRun0_A
  dsimp only
  refine (View.read_writes_full _ _ _ _ _).trans ?_
  exact sc_congr1 (read_all arg8 harg8 x7 _ _) (read_half arg1 harg1 x0 1 _ rfl _) (read_all arg2 harg2 x1 _ _) (read_half arg3 harg3 x2 1 _ rfl _) ((View.readCov_full _ _ _ _ _).trans (sc_congr0 (read_all arg8 harg8 x7 _ _) (read_half arg1 harg1 x0 0 _ rfl _) (read_all arg2 harg2 x1 _ _) (read_half arg3 harg3 x2 0 _ rfl _) (View.readCov_full _ _ _ _ _)))

theorem g_A : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = bG x0 x1 x2 x6 1 (bG x0 x1 x2 x6 0 k0_pay5) := by
  unfold out0_A_13 kernelRun0_A
  dsimp only
  refine (View.read_writes_full _ _ _ _ _).trans ?_
  exact g_congr1 (read_cols arg7 harg7 x6 4 _ rfl _) (read_half arg1 harg1 x0 1 _ rfl _) (read_all arg2 harg2 x1 _ _) (read_half arg3 harg3 x2 1 _ rfl _) ((View.readCov_full _ _ _ _ _).trans (g_congr0 (read_cols arg7 harg7 x6 4 _ rfl _) (read_half arg1 harg1 x0 0 _ rfl _) (read_all arg2 harg2 x1 _ _) (read_half arg3 harg3 x2 0 _ rfl _) (View.readCov_full _ _ _ _ _)))

theorem gt_A : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = bGt x0 x1 x2 x3 x4 x6 x7 x8 1 (bGt x0 x1 x2 x3 x4 x6 x7 x8 0 k0_pay6) := by
  unfold out0_A_14 kernelRun0_A
  dsimp only
  refine (View.read_writes_full _ _ _ _ _).trans ?_
  exact gt_congr1 (read_all arg8 harg8 x7 _ _) (read_cols arg7 harg7 x6 4 _ rfl _) (read_all arg9 harg9 x8 _ _) (read_half arg1 harg1 x0 1 _ rfl _) (read_all arg2 harg2 x1 _ _) (read_half arg3 harg3 x2 1 _ rfl _) (read_half arg4 harg4 x3 1 _ rfl _) (read_half arg5 harg5 x4 1 _ rfl _) ((View.readCov_full _ _ _ _ _).trans (gt_congr0 (read_all arg8 harg8 x7 _ _) (read_cols arg7 harg7 x6 4 _ rfl _) (read_all arg9 harg9 x8 _ _) (read_half arg1 harg1 x0 0 _ rfl _) (read_all arg2 harg2 x1 _ _) (read_half arg3 harg3 x2 0 _ rfl _) (read_half arg4 harg4 x3 0 _ rfl _) (read_half arg5 harg5 x4 0 _ rfl _) (View.readCov_full _ _ _ _ _)))

theorem gp_A : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = bGp x0 x1 x2 x3 x4 x6 x7 1 (bGp x0 x1 x2 x3 x4 x6 x7 0 k0_pay7) := by
  unfold out0_A_15 kernelRun0_A
  dsimp only
  refine (View.read_writes_full _ _ _ _ _).trans ?_
  exact gp_congr1 (read_all arg8 harg8 x7 _ _) (read_cols arg7 harg7 x6 4 _ rfl _) (read_cols arg7 harg7 x6 2 _ rfl _) (read_half arg1 harg1 x0 1 _ rfl _) (read_all arg2 harg2 x1 _ _) (read_half arg3 harg3 x2 1 _ rfl _) (read_half arg4 harg4 x3 1 _ rfl _) (read_half arg5 harg5 x4 1 _ rfl _) ((View.readCov_full _ _ _ _ _).trans (gp_congr0 (read_all arg8 harg8 x7 _ _) (read_cols arg7 harg7 x6 4 _ rfl _) (read_cols arg7 harg7 x6 2 _ rfl _) (read_half arg1 harg1 x0 0 _ rfl _) (read_all arg2 harg2 x1 _ _) (read_half arg3 harg3 x2 0 _ rfl _) (read_half arg4 harg4 x3 0 _ rfl _) (read_half arg5 harg5 x4 0 _ rfl _) (View.readCov_full _ _ _ _ _)))

theorem dh_A (p : Fin 2) (r : Fin 128) (l : Fin 1024) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 (ix2 ⟨128 * p.val + r.val, by omega⟩ l) = bDh x0 x1 x2 x3 x6 x7 p (ix2 r l) := by
  unfold out0_A_9 kernelRun0_A
  dsimp only
  refine out_half (F := F) (e := .f32) _ (bDh x0 x1 x2 x3 x6 x7) ?_ ?_ p _ _ _ r l _
  · exact dh_congr1 (read_all arg8 harg8 x7 _ _) (read_cols arg7 harg7 x6 4 _ rfl _) (read_half arg1 harg1 x0 1 _ rfl _) (read_all arg2 harg2 x1 _ _) (read_half arg3 harg3 x2 1 _ rfl _) (read_half arg4 harg4 x3 1 _ rfl _)
  · exact dh_congr0 (read_all arg8 harg8 x7 _ _) (read_cols arg7 harg7 x6 4 _ rfl _) (read_half arg1 harg1 x0 0 _ rfl _) (read_all arg2 harg2 x1 _ _) (read_half arg3 harg3 x2 0 _ rfl _) (read_half arg4 harg4 x3 0 _ rfl _)

theorem dy_A (p : Fin 2) (r : Fin 128) (l : Fin 1024) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 (ix2 ⟨128 * p.val + r.val, by omega⟩ l) = bDy x0 x1 x2 x3 x4 x6 x7 x8 p (ix2 r l) := by
  unfold out0_A_10 kernelRun0_A
  dsimp only
  refine out_half (F := F) (e := .bf16) _ (bDy x0 x1 x2 x3 x4 x6 x7 x8) ?_ ?_ p _ _ _ r l _
  · exact dy_congr1 (read_all arg8 harg8 x7 _ _) (read_cols arg7 harg7 x6 4 _ rfl _) (read_cols arg7 harg7 x6 2 _ rfl _) (read_all arg9 harg9 x8 _ _) (read_half arg1 harg1 x0 1 _ rfl _) (read_all arg2 harg2 x1 _ _) (read_half arg3 harg3 x2 1 _ rfl _) (read_half arg4 harg4 x3 1 _ rfl _) (read_half arg5 harg5 x4 1 _ rfl _)
  · exact dy_congr0 (read_all arg8 harg8 x7 _ _) (read_cols arg7 harg7 x6 4 _ rfl _) (read_cols arg7 harg7 x6 2 _ rfl _) (read_all arg9 harg9 x8 _ _) (read_half arg1 harg1 x0 0 _ rfl _) (read_all arg2 harg2 x1 _ _) (read_half arg3 harg3 x2 0 _ rfl _) (read_half arg4 harg4 x3 0 _ rfl _) (read_half arg5 harg5 x4 0 _ rfl _)

theorem acc_A : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 = bAcc x0 x1 x2 x3 x4 x6 x7 x8 x5 k0_pay8 := by
  unfold sout0_A_0 kernelRun0_A
  dsimp only
  refine (View.read_writes_full _ _ _ _ _).trans ?_
  exact acc_congr (View.readCov_full _ _ _ _ _) (read_all arg6 harg6 x5 _ _) (cov_half (F := F) (e := .bf16) _ (bDy x0 x1 x2 x3 x4 x6 x7 x8) (dy_congr1 (read_all arg8 harg8 x7 _ _) (read_cols arg7 harg7 x6 4 _ rfl _) (read_cols arg7 harg7 x6 2 _ rfl _) (read_all arg9 harg9 x8 _ _) (read_half arg1 harg1 x0 1 _ rfl _) (read_all arg2 harg2 x1 _ _) (read_half arg3 harg3 x2 1 _ rfl _) (read_half arg4 harg4 x3 1 _ rfl _) (read_half arg5 harg5 x4 1 _ rfl _)) (dy_congr0 (read_all arg8 harg8 x7 _ _) (read_cols arg7 harg7 x6 4 _ rfl _) (read_cols arg7 harg7 x6 2 _ rfl _) (read_all arg9 harg9 x8 _ _) (read_half arg1 harg1 x0 0 _ rfl _) (read_all arg2 harg2 x1 _ _) (read_half arg3 harg3 x2 0 _ rfl _) (read_half arg4 harg4 x3 0 _ rfl _) (read_half arg5 harg5 x4 0 _ rfl _)) _ _ _ _)

end first

section middle

variable (hc0 : ¬cond0_0 i) (hc1 : ¬cond0_1 i) (xo11 xo12 xo13 xo14 xo15 : Vec F S1x1024 .f32) (xs0 : Vec F S1024x1024 .f32)

theorem sh_B : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bSh x0 x1 1 (bSh x0 x1 0 xo11) := by
  unfold out0_B_11 kernelRun0_B
  dsimp only
  refine (View.read_writes_full _ _ _ _ _).trans ?_
  exact sh_congr1 (read_half arg1 harg1 x0 1 _ rfl _) (read_all arg2 harg2 x1 _ _) ((View.readCov_full _ _ _ _ _).trans (sh_congr0 (read_half arg1 harg1 x0 0 _ rfl _) (read_all arg2 harg2 x1 _ _) (read_all arg12 harg12 xo11 _ _)))

theorem sc_B : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bSc x0 x1 x2 x7 1 (bSc x0 x1 x2 x7 0 xo12) := by
  unfold out0_B_12 kernelRun0_B
  dsimp only
  refine (View.read_writes_full _ _ _ _ _).trans ?_
  exact sc_congr1 (read_all arg8 harg8 x7 _ _) (read_half arg1 harg1 x0 1 _ rfl _) (read_all arg2 harg2 x1 _ _) (read_half arg3 harg3 x2 1 _ rfl _) ((View.readCov_full _ _ _ _ _).trans (sc_congr0 (read_all arg8 harg8 x7 _ _) (read_half arg1 harg1 x0 0 _ rfl _) (read_all arg2 harg2 x1 _ _) (read_half arg3 harg3 x2 0 _ rfl _) (read_all arg13 harg13 xo12 _ _)))

theorem g_B : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bG x0 x1 x2 x6 1 (bG x0 x1 x2 x6 0 xo13) := by
  unfold out0_B_13 kernelRun0_B
  dsimp only
  refine (View.read_writes_full _ _ _ _ _).trans ?_
  exact g_congr1 (read_cols arg7 harg7 x6 4 _ rfl _) (read_half arg1 harg1 x0 1 _ rfl _) (read_all arg2 harg2 x1 _ _) (read_half arg3 harg3 x2 1 _ rfl _) ((View.readCov_full _ _ _ _ _).trans (g_congr0 (read_cols arg7 harg7 x6 4 _ rfl _) (read_half arg1 harg1 x0 0 _ rfl _) (read_all arg2 harg2 x1 _ _) (read_half arg3 harg3 x2 0 _ rfl _) (read_all arg14 harg14 xo13 _ _)))

theorem gt_B : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bGt x0 x1 x2 x3 x4 x6 x7 x8 1 (bGt x0 x1 x2 x3 x4 x6 x7 x8 0 xo14) := by
  unfold out0_B_14 kernelRun0_B
  dsimp only
  refine (View.read_writes_full _ _ _ _ _).trans ?_
  exact gt_congr1 (read_all arg8 harg8 x7 _ _) (read_cols arg7 harg7 x6 4 _ rfl _) (read_all arg9 harg9 x8 _ _) (read_half arg1 harg1 x0 1 _ rfl _) (read_all arg2 harg2 x1 _ _) (read_half arg3 harg3 x2 1 _ rfl _) (read_half arg4 harg4 x3 1 _ rfl _) (read_half arg5 harg5 x4 1 _ rfl _) ((View.readCov_full _ _ _ _ _).trans (gt_congr0 (read_all arg8 harg8 x7 _ _) (read_cols arg7 harg7 x6 4 _ rfl _) (read_all arg9 harg9 x8 _ _) (read_half arg1 harg1 x0 0 _ rfl _) (read_all arg2 harg2 x1 _ _) (read_half arg3 harg3 x2 0 _ rfl _) (read_half arg4 harg4 x3 0 _ rfl _) (read_half arg5 harg5 x4 0 _ rfl _) (read_all arg15 harg15 xo14 _ _)))

theorem gp_B : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bGp x0 x1 x2 x3 x4 x6 x7 1 (bGp x0 x1 x2 x3 x4 x6 x7 0 xo15) := by
  unfold out0_B_15 kernelRun0_B
  dsimp only
  refine (View.read_writes_full _ _ _ _ _).trans ?_
  exact gp_congr1 (read_all arg8 harg8 x7 _ _) (read_cols arg7 harg7 x6 4 _ rfl _) (read_cols arg7 harg7 x6 2 _ rfl _) (read_half arg1 harg1 x0 1 _ rfl _) (read_all arg2 harg2 x1 _ _) (read_half arg3 harg3 x2 1 _ rfl _) (read_half arg4 harg4 x3 1 _ rfl _) (read_half arg5 harg5 x4 1 _ rfl _) ((View.readCov_full _ _ _ _ _).trans (gp_congr0 (read_all arg8 harg8 x7 _ _) (read_cols arg7 harg7 x6 4 _ rfl _) (read_cols arg7 harg7 x6 2 _ rfl _) (read_half arg1 harg1 x0 0 _ rfl _) (read_all arg2 harg2 x1 _ _) (read_half arg3 harg3 x2 0 _ rfl _) (read_half arg4 harg4 x3 0 _ rfl _) (read_half arg5 harg5 x4 0 _ rfl _) (read_all arg16 harg16 xo15 _ _)))

theorem dh_B (p : Fin 2) (r : Fin 128) (l : Fin 1024) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 (ix2 ⟨128 * p.val + r.val, by omega⟩ l) = bDh x0 x1 x2 x3 x6 x7 p (ix2 r l) := by
  unfold out0_B_9 kernelRun0_B
  dsimp only
  refine out_half (F := F) (e := .f32) _ (bDh x0 x1 x2 x3 x6 x7) ?_ ?_ p _ _ _ r l _
  · exact dh_congr1 (read_all arg8 harg8 x7 _ _) (read_cols arg7 harg7 x6 4 _ rfl _) (read_half arg1 harg1 x0 1 _ rfl _) (read_all arg2 harg2 x1 _ _) (read_half arg3 harg3 x2 1 _ rfl _) (read_half arg4 harg4 x3 1 _ rfl _)
  · exact dh_congr0 (read_all arg8 harg8 x7 _ _) (read_cols arg7 harg7 x6 4 _ rfl _) (read_half arg1 harg1 x0 0 _ rfl _) (read_all arg2 harg2 x1 _ _) (read_half arg3 harg3 x2 0 _ rfl _) (read_half arg4 harg4 x3 0 _ rfl _)

theorem dy_B (p : Fin 2) (r : Fin 128) (l : Fin 1024) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 (ix2 ⟨128 * p.val + r.val, by omega⟩ l) = bDy x0 x1 x2 x3 x4 x6 x7 x8 p (ix2 r l) := by
  unfold out0_B_10 kernelRun0_B
  dsimp only
  refine out_half (F := F) (e := .bf16) _ (bDy x0 x1 x2 x3 x4 x6 x7 x8) ?_ ?_ p _ _ _ r l _
  · exact dy_congr1 (read_all arg8 harg8 x7 _ _) (read_cols arg7 harg7 x6 4 _ rfl _) (read_cols arg7 harg7 x6 2 _ rfl _) (read_all arg9 harg9 x8 _ _) (read_half arg1 harg1 x0 1 _ rfl _) (read_all arg2 harg2 x1 _ _) (read_half arg3 harg3 x2 1 _ rfl _) (read_half arg4 harg4 x3 1 _ rfl _) (read_half arg5 harg5 x4 1 _ rfl _)
  · exact dy_congr0 (read_all arg8 harg8 x7 _ _) (read_cols arg7 harg7 x6 4 _ rfl _) (read_cols arg7 harg7 x6 2 _ rfl _) (read_all arg9 harg9 x8 _ _) (read_half arg1 harg1 x0 0 _ rfl _) (read_all arg2 harg2 x1 _ _) (read_half arg3 harg3 x2 0 _ rfl _) (read_half arg4 harg4 x3 0 _ rfl _) (read_half arg5 harg5 x4 0 _ rfl _)

theorem acc_B : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bAcc x0 x1 x2 x3 x4 x6 x7 x8 x5 xs0 := by
  unfold sout0_B_0 kernelRun0_B
  dsimp only
  refine (View.read_writes_full _ _ _ _ _).trans ?_
  exact acc_congr (read_all arg18 harg18 xs0 _ _) (read_all arg6 harg6 x5 _ _) (cov_half (F := F) (e := .bf16) _ (bDy x0 x1 x2 x3 x4 x6 x7 x8) (dy_congr1 (read_all arg8 harg8 x7 _ _) (read_cols arg7 harg7 x6 4 _ rfl _) (read_cols arg7 harg7 x6 2 _ rfl _) (read_all arg9 harg9 x8 _ _) (read_half arg1 harg1 x0 1 _ rfl _) (read_all arg2 harg2 x1 _ _) (read_half arg3 harg3 x2 1 _ rfl _) (read_half arg4 harg4 x3 1 _ rfl _) (read_half arg5 harg5 x4 1 _ rfl _)) (dy_congr0 (read_all arg8 harg8 x7 _ _) (read_cols arg7 harg7 x6 4 _ rfl _) (read_cols arg7 harg7 x6 2 _ rfl _) (read_all arg9 harg9 x8 _ _) (read_half arg1 harg1 x0 0 _ rfl _) (read_all arg2 harg2 x1 _ _) (read_half arg3 harg3 x2 0 _ rfl _) (read_half arg4 harg4 x3 0 _ rfl _) (read_half arg5 harg5 x4 0 _ rfl _)) _ _ _ _)

end middle

section last

variable (hc0 : ¬cond0_0 i) (hc1 : cond0_1 i) (xo11 xo12 xo13 xo14 xo15 : Vec F S1x1024 .f32) (xs0 : Vec F S1024x1024 .f32)

theorem sh_C : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bSh x0 x1 1 (bSh x0 x1 0 xo11) := by
  unfold out0_C_11 kernelRun0_C
  dsimp only
  refine (View.read_writes_full _ _ _ _ _).trans ?_
  exact sh_congr1 (read_half arg1 harg1 x0 1 _ rfl _) (read_all arg2 harg2 x1 _ _) ((View.readCov_full _ _ _ _ _).trans (sh_congr0 (read_half arg1 harg1 x0 0 _ rfl _) (read_all arg2 harg2 x1 _ _) (read_all arg12 harg12 xo11 _ _)))

theorem sc_C : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bSc x0 x1 x2 x7 1 (bSc x0 x1 x2 x7 0 xo12) := by
  unfold out0_C_12 kernelRun0_C
  dsimp only
  refine (View.read_writes_full _ _ _ _ _).trans ?_
  exact sc_congr1 (read_all arg8 harg8 x7 _ _) (read_half arg1 harg1 x0 1 _ rfl _) (read_all arg2 harg2 x1 _ _) (read_half arg3 harg3 x2 1 _ rfl _) ((View.readCov_full _ _ _ _ _).trans (sc_congr0 (read_all arg8 harg8 x7 _ _) (read_half arg1 harg1 x0 0 _ rfl _) (read_all arg2 harg2 x1 _ _) (read_half arg3 harg3 x2 0 _ rfl _) (read_all arg13 harg13 xo12 _ _)))

theorem g_C : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bG x0 x1 x2 x6 1 (bG x0 x1 x2 x6 0 xo13) := by
  unfold out0_C_13 kernelRun0_C
  dsimp only
  refine (View.read_writes_full _ _ _ _ _).trans ?_
  exact g_congr1 (read_cols arg7 harg7 x6 4 _ rfl _) (read_half arg1 harg1 x0 1 _ rfl _) (read_all arg2 harg2 x1 _ _) (read_half arg3 harg3 x2 1 _ rfl _) ((View.readCov_full _ _ _ _ _).trans (g_congr0 (read_cols arg7 harg7 x6 4 _ rfl _) (read_half arg1 harg1 x0 0 _ rfl _) (read_all arg2 harg2 x1 _ _) (read_half arg3 harg3 x2 0 _ rfl _) (read_all arg14 harg14 xo13 _ _)))

theorem gt_C : out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bGt x0 x1 x2 x3 x4 x6 x7 x8 1 (bGt x0 x1 x2 x3 x4 x6 x7 x8 0 xo14) := by
  unfold out0_C_14 kernelRun0_C
  dsimp only
  refine (View.read_writes_full _ _ _ _ _).trans ?_
  exact gt_congr1 (read_all arg8 harg8 x7 _ _) (read_cols arg7 harg7 x6 4 _ rfl _) (read_all arg9 harg9 x8 _ _) (read_half arg1 harg1 x0 1 _ rfl _) (read_all arg2 harg2 x1 _ _) (read_half arg3 harg3 x2 1 _ rfl _) (read_half arg4 harg4 x3 1 _ rfl _) (read_half arg5 harg5 x4 1 _ rfl _) ((View.readCov_full _ _ _ _ _).trans (gt_congr0 (read_all arg8 harg8 x7 _ _) (read_cols arg7 harg7 x6 4 _ rfl _) (read_all arg9 harg9 x8 _ _) (read_half arg1 harg1 x0 0 _ rfl _) (read_all arg2 harg2 x1 _ _) (read_half arg3 harg3 x2 0 _ rfl _) (read_half arg4 harg4 x3 0 _ rfl _) (read_half arg5 harg5 x4 0 _ rfl _) (read_all arg15 harg15 xo14 _ _)))

theorem gp_C : out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bGp x0 x1 x2 x3 x4 x6 x7 1 (bGp x0 x1 x2 x3 x4 x6 x7 0 xo15) := by
  unfold out0_C_15 kernelRun0_C
  dsimp only
  refine (View.read_writes_full _ _ _ _ _).trans ?_
  exact gp_congr1 (read_all arg8 harg8 x7 _ _) (read_cols arg7 harg7 x6 4 _ rfl _) (read_cols arg7 harg7 x6 2 _ rfl _) (read_half arg1 harg1 x0 1 _ rfl _) (read_all arg2 harg2 x1 _ _) (read_half arg3 harg3 x2 1 _ rfl _) (read_half arg4 harg4 x3 1 _ rfl _) (read_half arg5 harg5 x4 1 _ rfl _) ((View.readCov_full _ _ _ _ _).trans (gp_congr0 (read_all arg8 harg8 x7 _ _) (read_cols arg7 harg7 x6 4 _ rfl _) (read_cols arg7 harg7 x6 2 _ rfl _) (read_half arg1 harg1 x0 0 _ rfl _) (read_all arg2 harg2 x1 _ _) (read_half arg3 harg3 x2 0 _ rfl _) (read_half arg4 harg4 x3 0 _ rfl _) (read_half arg5 harg5 x4 0 _ rfl _) (read_all arg16 harg16 xo15 _ _)))

theorem dh_C (p : Fin 2) (r : Fin 128) (l : Fin 1024) : out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 (ix2 ⟨128 * p.val + r.val, by omega⟩ l) = bDh x0 x1 x2 x3 x6 x7 p (ix2 r l) := by
  unfold out0_C_9 kernelRun0_C
  dsimp only
  refine out_half (F := F) (e := .f32) _ (bDh x0 x1 x2 x3 x6 x7) ?_ ?_ p _ _ _ r l _
  · exact dh_congr1 (read_all arg8 harg8 x7 _ _) (read_cols arg7 harg7 x6 4 _ rfl _) (read_half arg1 harg1 x0 1 _ rfl _) (read_all arg2 harg2 x1 _ _) (read_half arg3 harg3 x2 1 _ rfl _) (read_half arg4 harg4 x3 1 _ rfl _)
  · exact dh_congr0 (read_all arg8 harg8 x7 _ _) (read_cols arg7 harg7 x6 4 _ rfl _) (read_half arg1 harg1 x0 0 _ rfl _) (read_all arg2 harg2 x1 _ _) (read_half arg3 harg3 x2 0 _ rfl _) (read_half arg4 harg4 x3 0 _ rfl _)

theorem dy_C (p : Fin 2) (r : Fin 128) (l : Fin 1024) : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 (ix2 ⟨128 * p.val + r.val, by omega⟩ l) = bDy x0 x1 x2 x3 x4 x6 x7 x8 p (ix2 r l) := by
  unfold out0_C_10 kernelRun0_C
  dsimp only
  refine out_half (F := F) (e := .bf16) _ (bDy x0 x1 x2 x3 x4 x6 x7 x8) ?_ ?_ p _ _ _ r l _
  · exact dy_congr1 (read_all arg8 harg8 x7 _ _) (read_cols arg7 harg7 x6 4 _ rfl _) (read_cols arg7 harg7 x6 2 _ rfl _) (read_all arg9 harg9 x8 _ _) (read_half arg1 harg1 x0 1 _ rfl _) (read_all arg2 harg2 x1 _ _) (read_half arg3 harg3 x2 1 _ rfl _) (read_half arg4 harg4 x3 1 _ rfl _) (read_half arg5 harg5 x4 1 _ rfl _)
  · exact dy_congr0 (read_all arg8 harg8 x7 _ _) (read_cols arg7 harg7 x6 4 _ rfl _) (read_cols arg7 harg7 x6 2 _ rfl _) (read_all arg9 harg9 x8 _ _) (read_half arg1 harg1 x0 0 _ rfl _) (read_all arg2 harg2 x1 _ _) (read_half arg3 harg3 x2 0 _ rfl _) (read_half arg4 harg4 x3 0 _ rfl _) (read_half arg5 harg5 x4 0 _ rfl _)

theorem acc_C : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = bAcc x0 x1 x2 x3 x4 x6 x7 x8 x5 xs0 := by
  unfold sout0_C_0 kernelRun0_C
  dsimp only
  refine (View.read_writes_full _ _ _ _ _).trans ?_
  exact acc_congr (read_all arg18 harg18 xs0 _ _) (read_all arg6 harg6 x5 _ _) (cov_half (F := F) (e := .bf16) _ (bDy x0 x1 x2 x3 x4 x6 x7 x8) (dy_congr1 (read_all arg8 harg8 x7 _ _) (read_cols arg7 harg7 x6 4 _ rfl _) (read_cols arg7 harg7 x6 2 _ rfl _) (read_all arg9 harg9 x8 _ _) (read_half arg1 harg1 x0 1 _ rfl _) (read_all arg2 harg2 x1 _ _) (read_half arg3 harg3 x2 1 _ rfl _) (read_half arg4 harg4 x3 1 _ rfl _) (read_half arg5 harg5 x4 1 _ rfl _)) (dy_congr0 (read_all arg8 harg8 x7 _ _) (read_cols arg7 harg7 x6 4 _ rfl _) (read_cols arg7 harg7 x6 2 _ rfl _) (read_all arg9 harg9 x8 _ _) (read_half arg1 harg1 x0 0 _ rfl _) (read_all arg2 harg2 x1 _ _) (read_half arg3 harg3 x2 0 _ rfl _) (read_half arg4 harg4 x3 0 _ rfl _) (read_half arg5 harg5 x4 0 _ rfl _)) _ _ _ _)

theorem wo_C : out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 xo11 xo12 xo13 xo14 xo15 xs0 = k0_pay2 (bAcc x0 x1 x2 x3 x4 x6 x7 x8 x5 xs0) := by
  unfold out0_C_16 kernelRun0_C
  dsimp only
  refine (View.read_writes_full _ _ _ _ _).trans ?_
  refine congrArg k0_pay2 ((View.readCov_full _ _ _ _ _).trans ?_)
  exact acc_congr (read_all arg18 harg18 xs0 _ _) (read_all arg6 harg6 x5 _ _) (cov_half (F := F) (e := .bf16) _ (bDy x0 x1 x2 x3 x4 x6 x7 x8) (dy_congr1 (read_all arg8 harg8 x7 _ _) (read_cols arg7 harg7 x6 4 _ rfl _) (read_cols arg7 harg7 x6 2 _ rfl _) (read_all arg9 harg9 x8 _ _) (read_half arg1 harg1 x0 1 _ rfl _) (read_all arg2 harg2 x1 _ _) (read_half arg3 harg3 x2 1 _ rfl _) (read_half arg4 harg4 x3 1 _ rfl _) (read_half arg5 harg5 x4 1 _ rfl _)) (dy_congr0 (read_all arg8 harg8 x7 _ _) (read_cols arg7 harg7 x6 4 _ rfl _) (read_cols arg7 harg7 x6 2 _ rfl _) (read_all arg9 harg9 x8 _ _) (read_half arg1 harg1 x0 0 _ rfl _) (read_all arg2 harg2 x1 _ _) (read_half arg3 harg3 x2 0 _ rfl _) (read_half arg4 harg4 x3 0 _ rfl _) (read_half arg5 harg5 x4 0 _ rfl _)) _ _ _ _)

end last

end Cert.Ff1BwdIdeal.Hand

end
-- ==== Proof.Ff1Real.lean ====
/-
  The operations of half a block of the feed-forward's input, element by element, and what a grid point reads.
-/
module

public import proofs.«01_k».proof.Proof.Ff1Cases
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Ff1BwdIdeal.Hand

open Cert.Ff1BwdIdeal Cert.Ff1BwdIdeal.Gen Cert.NormKit Cert.RealKit

/-! ## The operations of half a block, element by element -/

section ops

variable (a : FVec Ideal S128x4096 .bf16) (w : FVec Ideal S4096x1024 .bf16) (u g s : FVec Ideal S1x1024 .f32) (f n h e : FVec Ideal S128x1024 .f32) (q : FVec Ideal S128x1 .f32) (r : Fin 128) (l : Fin 1024)

theorem f_at : k0_pay9 (F := Ideal) a w (ix2 r l) = ∑ k : Fin 4096, a (ix2 r k) * w (ix2 k l) := by
  pointwise [k0_pay9]

theorem rs_at : k0_pay11 (F := Ideal) h (ix2 r 0) = Ideal.rsqrt ((∑ j : Fin 1024, h (ix2 r j) * h (ix2 r j)) * Ideal.ofBits .f32 0x3A800000#32 + Ideal.ofBits .f32 0x358637BD#32) := by
  pointwise [k0_pay11, k0_pay10]

theorem nm_at : k0_pay12 (F := Ideal) h (ix2 r l) = h (ix2 r l) * k0_pay11 (F := Ideal) h (ix2 r 0) := by
  pointwise [k0_pay12, k0_pay10]

theorem sh_at : k0_pay13 (F := Ideal) a w s (ix2 0 l) = s (ix2 0 l) + ∑ i : Fin 128, k0_pay9 (F := Ideal) a w (ix2 i l) := by
  pointwise [k0_pay13]

theorem sc_at : k0_pay14 (F := Ideal) g f n s (ix2 0 l) = s (ix2 0 l) + ∑ i : Fin 128, f (ix2 i l) * n (ix2 i l) * g (ix2 0 l) := by
  pointwise [k0_pay14]

theorem g_at : k0_pay15 (F := Ideal) u f n s (ix2 0 l) = s (ix2 0 l) + ∑ i : Fin 128, f (ix2 i l) * n (ix2 i l) * (Ideal.ofBits .f32 0x3F800000#32 + u (ix2 0 l)) := by
  pointwise [k0_pay15]

theorem dh_at : k0_pay16 (F := Ideal) g u f q n e (ix2 r l) = e (ix2 r l) + q (ix2 r 0) * (f (ix2 r l) * g (ix2 0 l) * (Ideal.ofBits .f32 0x3F800000#32 + u (ix2 0 l))
      - n (ix2 r l) * ((∑ j : Fin 1024, f (ix2 r j) * g (ix2 0 j) * (Ideal.ofBits .f32 0x3F800000#32 + u (ix2 0 j)) * n (ix2 r j)) * Ideal.ofBits .f32 0x3A800000#32)) := by
  pointwise [k0_pay16]

theorem rs2_at : k0_pay18 (F := Ideal) h (ix2 r 0) = Ideal.rsqrt ((∑ j : Fin 1024, h (ix2 r j) * h (ix2 r j)) * Ideal.ofBits .f32 0x3A800000#32 + Ideal.ofBits .f32 0x358637BD#32) := by
  pointwise [k0_pay18, k0_pay17]

theorem nm2_at : k0_pay19 (F := Ideal) h (ix2 r l) = h (ix2 r l) * k0_pay18 (F := Ideal) h (ix2 r 0) := by
  pointwise [k0_pay19, k0_pay17]

theorem gt_at : k0_pay20 (F := Ideal) g e h s (ix2 0 l) = s (ix2 0 l) + ∑ i : Fin 128, e (ix2 i l) * (k0_pay19 (F := Ideal) h (ix2 i l) * g (ix2 0 l)) := by
  pointwise [k0_pay20]

theorem gp_at : k0_pay21 (F := Ideal) u e h s (ix2 0 l) = s (ix2 0 l) + ∑ i : Fin 128, e (ix2 i l) * u (ix2 0 l) * k0_pay19 (F := Ideal) h (ix2 i l) := by
  pointwise [k0_pay21]

theorem dy_at : k0_pay24 (F := Ideal) (k0_pay22 (F := Ideal) u g e h) (k0_pay23 (F := Ideal) h) (ix2 r l) = k0_pay18 (F := Ideal) h (ix2 r 0) * (e (ix2 r l) * u (ix2 0 l) * g (ix2 0 l)
      - k0_pay19 (F := Ideal) h (ix2 r l) * ((∑ j : Fin 1024, e (ix2 r j) * u (ix2 0 j) * g (ix2 0 j) * k0_pay19 (F := Ideal) h (ix2 r j)) * Ideal.ofBits .f32 0x3A800000#32)) := by
  pointwise [k0_pay24, k0_pay22, k0_pay23]

theorem acc_at (z : FVec Ideal S1024x1024 .f32) (x y : FVec Ideal S256x1024 .bf16) (i j : Fin 1024) :
    k0_pay1 (F := Ideal) z (k0_pay39 (F := Ideal) x) y (ix2 i j) = z (ix2 i j) + ∑ k : Fin 256, x (ix2 k i) * y (ix2 k j) := by
  pointwise [k0_pay1, k0_pay39]

theorem wo_at (z : FVec Ideal S1024x1024 .f32) (i j : Fin 1024) : k0_pay2 (F := Ideal) z (ix2 i j) = z (ix2 i j) := by
  pointwise [k0_pay2]

end ops

/-! ## The reads of a grid point -/

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0] ∧ win0_9.index t = ![t.val, 0] ∧ win0_10.index t = ![t.val, 0] ∧ win0_11.index t = ![0, 0] ∧ win0_12.index t = ![0, 0] ∧ win0_13.index t = ![0, 0] ∧ win0_14.index t = ![0, 0] ∧ win0_15.index t = ![0, 0] ∧ win0_16.index t = ![0, 0] :=
  (by decide +kernel : ∀ t : Fin grid0.N, _)

theorem pt {t : Fin cfg0.N} : t.val < 8 := lt_of_lt_of_eq t.isLt (show cfg0.N = 8 from N_0)

section reads

variable (m : (ℓ : Loc nD τ sig) → Buf (Elt Ideal) ℓ) (c : Dev nD)

set_option maxHeartbeats 400000 in
theorem read_d (t : Fin cfg0.N) (i : Fin 256) (l : Fin 4096) (hN : t.val < 8) : (iblk m c 0 t : Vec Ideal S256x4096 .bf16) (ix2 i l)
    = (V m c main_v17 : FVec Ideal S2048x4096 .bf16) (ix2 ⟨256 * t.val + i, by omega⟩ l) := by
  blk_point [iblk, idx t]

set_option maxHeartbeats 400000 in
theorem read_w (t : Fin cfg0.N) (k : Fin 4096) (l : Fin 1024) : (iblk m c 1 t : Vec Ideal S4096x1024 .bf16) (ix2 k l) = (V m c main_v19 : FVec Ideal S4096x1024 .bf16) (ix2 k l) := by
  blk_point [iblk, idx t]

set_option maxHeartbeats 400000 in
theorem read_r (t : Fin cfg0.N) (i : Fin 256) (l : Fin 1024) (hN : t.val < 8) : (iblk m c 2 t : Vec Ideal S256x1024 .f32) (ix2 i l)
    = (V m c main_v16 : FVec Ideal S2048x1024 .f32) (ix2 ⟨256 * t.val + i, by omega⟩ l) := by
  blk_point [iblk, idx t]

set_option maxHeartbeats 400000 in
theorem read_o (t : Fin cfg0.N) (i : Fin 256) (l : Fin 1024) (hN : t.val < 8) : (iblk m c 3 t : Vec Ideal S256x1024 .f32) (ix2 i l)
    = (V m c main_arg8 : FVec Ideal S2048x1024 .f32) (ix2 ⟨256 * t.val + i, by omega⟩ l) := by
  blk_point [iblk, idx t]

set_option maxHeartbeats 400000 in
theorem read_y (t : Fin cfg0.N) (i : Fin 256) (l : Fin 1024) (hN : t.val < 8) : (iblk m c 4 t : Vec Ideal S256x1024 .f32) (ix2 i l)
    = (V m c main_v0 : FVec Ideal S2048x1024 .f32) (ix2 ⟨256 * t.val + i, by omega⟩ l) := by
  blk_point [iblk, idx t]

set_option maxHeartbeats 400000 in
theorem read_m (t : Fin cfg0.N) (i : Fin 256) (l : Fin 1024) (hN : t.val < 8) : (iblk m c 5 t : Vec Ideal S256x1024 .bf16) (ix2 i l)
    = (V m c main_v20 : FVec Ideal S2048x1024 .bf16) (ix2 ⟨256 * t.val + i, by omega⟩ l) := by
  blk_point [iblk, idx t]

set_option maxHeartbeats 400000 in
theorem read_u (t : Fin cfg0.N) (l : Fin 6144) : (iblk m c 6 t : Vec Ideal S1x6144 .f32) (ix2 0 l) = (V m c main_arg3 : FVec Ideal S1x6144 .f32) (ix2 0 l) := by
  blk_point [iblk, idx t]

set_option maxHeartbeats 400000 in
theorem read_g (t : Fin cfg0.N) (l : Fin 1024) : (iblk m c 7 t : Vec Ideal S1x1024 .f32) (ix2 0 l) = (V m c main_arg5 : FVec Ideal S1x1024 .f32) (ix2 0 l) := by
  blk_point [iblk, idx t]

set_option maxHeartbeats 400000 in
theorem read_p (t : Fin cfg0.N) (l : Fin 1024) : (iblk m c 8 t : Vec Ideal S1x1024 .f32) (ix2 0 l) = (V m c main_arg4 : FVec Ideal S1x1024 .f32) (ix2 0 l) := by
  blk_point [iblk, idx t]

set_option maxHeartbeats 2000000 in
theorem entryD (n : Fin 2048) (k : Fin 4096) : (V m c main_v17 : FVec Ideal S2048x4096 .bf16) (ix2 n k) = (m (c.tc.loc main_arg7) : FVec Ideal S2048x4096 .f32) (ix2 n k) := by
  unfold_abbrev_sides
  after_reads_simp
  rfl

set_option maxHeartbeats 2000000 in
theorem entryW (k : Fin 4096) (l : Fin 1024) : (V m c main_v19 : FVec Ideal S4096x1024 .bf16) (ix2 k l) = (m (c.tc.loc main_arg6) : FVec Ideal S1024x4096 .f32) (ix2 l k) := by
  unfold_abbrev_sides
  after_reads_simp
  pointwise []

set_option maxHeartbeats 2000000 in
theorem entryM (n : Fin 2048) (k : Fin 1024) : (V m c main_v20 : FVec Ideal S2048x1024 .bf16) (ix2 n k) = (m (c.tc.loc main_arg1) : FVec Ideal S2048x1024 .f32) (ix2 n k) := by
  unfold_abbrev_sides
  after_reads_simp
  rfl

end reads

end Cert.Ff1BwdIdeal.Hand

end
-- ==== Proof.Ff1Grid.lean ====
/-
  The walk of the feed-forward's input over the reals.
-/
module

public import proofs.«01_k».proof.Proof.Ff1Real

@[expose] public section

set_option maxRecDepth 16384

noncomputable section

open Idealize.ShloMosaic Idealize.ShloMosaic.TcCoe Idealize.SL.Sem

namespace Cert.Ff1BwdIdeal.Hand

open Cert.Ff1BwdIdeal Cert.Ff1BwdIdeal.Gen Cert.NormKit Cert.RealKit

/-! ## The tables -/

/-- The gradient of the scaled norm: the product with the feed-forward's first weight. -/
def dd (D W : ℕ → ℕ → ℝ) (n l : ℕ) : ℝ := ∑ k : Fin 4096, D n k * W l k

/-- The gradient of the norm before the feed-forward. -/
def d2 (D W R O Y M : ℕ → ℕ → ℝ) (U S G P : ℕ → ℝ) (n l : ℕ) : ℝ := dd D W n l * G l * (1 + S l)

/-- The gradient of the hidden sum. -/
def dh (D W R O Y M : ℕ → ℕ → ℝ) (U S G P : ℕ → ℝ) (n l : ℕ) : ℝ := O n l + back (R n) (d2 D W R O Y M U S G P n) l

/-- The gradient of the norm after the attentions. -/
def dn (D W R O Y M : ℕ → ℕ → ℝ) (U S G P : ℕ → ℝ) (n l : ℕ) : ℝ := dh D W R O Y M U S G P n l * U l * P l

/-- The gradient of the attentions' product. -/
def dy (D W R O Y M : ℕ → ℕ → ℝ) (U S G P : ℕ → ℝ) (n l : ℕ) : ℝ := back (Y n) (dn D W R O Y M U S G P n) l

variable (m : (ℓ : Loc nD τ sig) → Buf (Elt Ideal) ℓ) (c : Dev nD)

/-- The argument blocks of every point are finite. -/
structure Blocks (D W R O Y M : ℕ → ℕ → ℝ) (U S G P : ℕ → ℝ) : Prop where
  d : ∀ (t : Fin cfg0.N) (i : Fin 256) (k : Fin 4096), (iblk m c 0 t : Vec Ideal S256x4096 .bf16) (ix2 i k) = (D (256 * t.val + i) k : EReal)
  w : ∀ (t : Fin cfg0.N) (k : Fin 4096) (l : Fin 1024), (iblk m c 1 t : Vec Ideal S4096x1024 .bf16) (ix2 k l) = (W l k : EReal)
  r : ∀ (t : Fin cfg0.N) (i : Fin 256) (l : Fin 1024), (iblk m c 2 t : Vec Ideal S256x1024 .f32) (ix2 i l) = (R (256 * t.val + i) l : EReal)
  o : ∀ (t : Fin cfg0.N) (i : Fin 256) (l : Fin 1024), (iblk m c 3 t : Vec Ideal S256x1024 .f32) (ix2 i l) = (O (256 * t.val + i) l : EReal)
  y : ∀ (t : Fin cfg0.N) (i : Fin 256) (l : Fin 1024), (iblk m c 4 t : Vec Ideal S256x1024 .f32) (ix2 i l) = (Y (256 * t.val + i) l : EReal)
  x : ∀ (t : Fin cfg0.N) (i : Fin 256) (l : Fin 1024), (iblk m c 5 t : Vec Ideal S256x1024 .bf16) (ix2 i l) = (M (256 * t.val + i) l : EReal)
  u : ∀ (t : Fin cfg0.N) (l : Fin 1024), cols (iblk m c 6 t : Vec Ideal S1x6144 .f32) 2 (ix2 0 l) = (U l : EReal)
  s : ∀ (t : Fin cfg0.N) (l : Fin 1024), cols (iblk m c 6 t : Vec Ideal S1x6144 .f32) 4 (ix2 0 l) = (S l : EReal)
  g : ∀ (t : Fin cfg0.N) (l : Fin 1024), (iblk m c 7 t : Vec Ideal S1x1024 .f32) (ix2 0 l) = (G l : EReal)
  p : ∀ (t : Fin cfg0.N) (l : Fin 1024), (iblk m c 8 t : Vec Ideal S1x1024 .f32) (ix2 0 l) = (P l : EReal)

variable {m c} {D W R O Y M : ℕ → ℕ → ℝ} {U S G P : ℕ → ℝ} (B : Blocks m c D W R O Y M U S G P) (t : Fin cfg0.N) (p : Fin 2)

/-- The row of an index within a half. -/
def row (t : ℕ) (p : Fin 2) (r : ℕ) : ℕ := 256 * t + (128 * p.val + r)

include B in
theorem r_half (r : Fin 128) (l : Fin 1024) : (half (iblk m c 2 t : Vec Ideal S256x1024 .f32) p) (ix2 r l) = (R (row t p r) l : EReal) := B.r t _ l

include B in
theorem y_half (r : Fin 128) (l : Fin 1024) : (half (iblk m c 4 t : Vec Ideal S256x1024 .f32) p) (ix2 r l) = (Y (row t p r) l : EReal) := B.y t _ l

include B in
theorem f_real (r : Fin 128) (l : Fin 1024) : k0_pay9 (F := Ideal) (half (iblk m c 0 t : Vec Ideal S256x4096 .bf16) p) (iblk m c 1 t : Vec Ideal S4096x1024 .bf16) (ix2 r l) = (dd D W (row t p r) l : EReal) := by
  rw [f_at]
  unfold dd
  rw [coe_sum]
  refine Finset.sum_congr rfl fun k _ => ?_
  rw [EReal.coe_mul]
  exact congrArg₂ (fun a b : EReal => a * b) (B.d t _ k) (B.w t k l)

include B in
theorem rs_real (r : Fin 128) : k0_pay11 (F := Ideal) (half (iblk m c 2 t : Vec Ideal S256x1024 .f32) p) (ix2 r 0) = (rs (R (row t p r)) : EReal) := by
  rw [rs_at, bits_thousandth, bits_eps]
  simp only [r_half B t p, ← EReal.coe_mul, ← coe_sum]
  rw [EReal.coe_mul]
  exact rs_mul _

include B in
theorem nm_real (r : Fin 128) (l : Fin 1024) : k0_pay12 (F := Ideal) (half (iblk m c 2 t : Vec Ideal S256x1024 .f32) p) (ix2 r l) = (nm (R (row t p r)) l : EReal) := by
  rw [nm_at, r_half B, rs_real B, ← EReal.coe_mul]
  rfl

include B in
theorem rs2_real (r : Fin 128) : k0_pay18 (F := Ideal) (half (iblk m c 4 t : Vec Ideal S256x1024 .f32) p) (ix2 r 0) = (rs (Y (row t p r)) : EReal) := by
  rw [rs2_at, bits_thousandth, bits_eps]
  simp only [y_half B t p, ← EReal.coe_mul, ← coe_sum]
  rw [EReal.coe_mul]
  exact rs_mul _

include B in
theorem nm2_real (r : Fin 128) (l : Fin 1024) : k0_pay19 (F := Ideal) (half (iblk m c 4 t : Vec Ideal S256x1024 .f32) p) (ix2 r l) = (nm (Y (row t p r)) l : EReal) := by
  rw [nm2_at, y_half B, rs2_real B, ← EReal.coe_mul]
  rfl

include B in
theorem dh_real (r : Fin 128) (l : Fin 1024) : bDh (iblk m c 0 t : Vec Ideal S256x4096 .bf16) (iblk m c 1 t : Vec Ideal S4096x1024 .bf16) (iblk m c 2 t : Vec Ideal S256x1024 .f32) (iblk m c 3 t : Vec Ideal S256x1024 .f32) (iblk m c 6 t : Vec Ideal S1x6144 .f32) (iblk m c 7 t : Vec Ideal S1x1024 .f32) p (ix2 r l) = (dh D W R O Y M U S G P (row t p r) l : EReal) := by
  unfold bDh
  rw [dh_at, bits_thousandth, bits_unit]
  simp only [f_real B t p, nm_real B t p, rs_real B t p, B.s t, B.g t, show half (iblk m c 3 t : Vec Ideal S256x1024 .f32) p (ix2 r l) = (O (row t p r) l : EReal) from B.o t _ l, ← EReal.coe_mul, ← EReal.coe_add, ← coe_sum, ← EReal.coe_sub]
  rfl

include B in
theorem dy_real (r : Fin 128) (l : Fin 1024) : bDy (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S256x1024 .f32) (iblk m c 6 t : Vec Ideal S1x6144 .f32) (iblk m c 7 t : Vec Ideal S1x1024 .f32) (iblk m c 8 t : Vec Ideal S1x1024 .f32) p (ix2 r l) = (dy D W R O Y M U S G P (row t p r) l : EReal) := by
  unfold bDy
  rw [dy_at, bits_thousandth]
  simp only [dh_real B t p, nm2_real B t p, rs2_real B t p, B.u t, B.p t, ← EReal.coe_mul, ← EReal.coe_add, ← coe_sum, ← EReal.coe_sub]
  rfl

include B in
theorem sh_real (a : Vec Ideal S1x1024 .f32) (l : Fin 1024) : bSh (iblk m c 0 t : Vec Ideal S256x4096 .bf16) (iblk m c 1 t : Vec Ideal S4096x1024 .bf16) p a (ix2 0 l) = a (ix2 0 l) + ((∑ i : Fin 128, dd D W (row t p i) l : ℝ) : EReal) := by
  unfold bSh
  rw [sh_at]
  simp only [f_real B t p, ← EReal.coe_mul, ← EReal.coe_add, ← coe_sum]

include B in
theorem sc_real (a : Vec Ideal S1x1024 .f32) (l : Fin 1024) : bSc (iblk m c 0 t : Vec Ideal S256x4096 .bf16) (iblk m c 1 t : Vec Ideal S4096x1024 .bf16) (iblk m c 2 t : Vec Ideal S256x1024 .f32) (iblk m c 7 t : Vec Ideal S1x1024 .f32) p a (ix2 0 l) = a (ix2 0 l) + ((∑ i : Fin 128, dd D W (row t p i) l * nm (R (row t p i)) l * G l : ℝ) : EReal) := by
  unfold bSc
  rw [sc_at]
  simp only [f_real B t p, nm_real B t p, B.g t, ← EReal.coe_mul, ← EReal.coe_add, ← coe_sum]

include B in
theorem g_real (a : Vec Ideal S1x1024 .f32) (l : Fin 1024) : bG (iblk m c 0 t : Vec Ideal S256x4096 .bf16) (iblk m c 1 t : Vec Ideal S4096x1024 .bf16) (iblk m c 2 t : Vec Ideal S256x1024 .f32) (iblk m c 6 t : Vec Ideal S1x6144 .f32) p a (ix2 0 l) = a (ix2 0 l) + ((∑ i : Fin 128, dd D W (row t p i) l * nm (R (row t p i)) l * (1 + S l) : ℝ) : EReal) := by
  unfold bG
  rw [g_at]
  simp only [f_real B t p, nm_real B t p, B.s t, bits_unit, ← EReal.coe_mul, ← EReal.coe_add, ← coe_sum]

include B in
theorem gt_real (a : Vec Ideal S1x1024 .f32) (l : Fin 1024) : bGt (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S256x1024 .f32) (iblk m c 6 t : Vec Ideal S1x6144 .f32) (iblk m c 7 t : Vec Ideal S1x1024 .f32) (iblk m c 8 t : Vec Ideal S1x1024 .f32) p a (ix2 0 l) = a (ix2 0 l) + ((∑ i : Fin 128, dh D W R O Y M U S G P (row t p i) l * (nm (Y (row t p i)) l * P l) : ℝ) : EReal) := by
  unfold bGt
  rw [gt_at]
  simp only [dh_real B t p, nm2_real B t p, B.p t, ← EReal.coe_mul, ← EReal.coe_add, ← coe_sum]

include B in
theorem gp_real (a : Vec Ideal S1x1024 .f32) (l : Fin 1024) : bGp (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S256x1024 .f32) (iblk m c 6 t : Vec Ideal S1x6144 .f32) (iblk m c 7 t : Vec Ideal S1x1024 .f32) p a (ix2 0 l) = a (ix2 0 l) + ((∑ i : Fin 128, dh D W R O Y M U S G P (row t p i) l * U l * nm (Y (row t p i)) l : ℝ) : EReal) := by
  unfold bGp
  rw [gp_at]
  simp only [dh_real B t p, nm2_real B t p, B.u t, ← EReal.coe_mul, ← EReal.coe_add, ← coe_sum]

include B in
theorem acc_real (a : Vec Ideal S1024x1024 .f32) (i j : Fin 1024) (h : a (ix2 i j) = ((∑ n ∈ Finset.range (256 * t.val), M n i * dy D W R O Y M U S G P n j : ℝ) : EReal)) :
    bAcc (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S256x1024 .f32) (iblk m c 6 t : Vec Ideal S1x6144 .f32) (iblk m c 7 t : Vec Ideal S1x1024 .f32) (iblk m c 8 t : Vec Ideal S1x1024 .f32) (iblk m c 5 t : Vec Ideal S256x1024 .bf16) a (ix2 i j) = ((∑ n ∈ Finset.range (256 * (t.val + 1)), M n i * dy D W R O Y M U S G P n j : ℝ) : EReal) := by
  have e : ∀ k : Fin 256, both (F := Ideal) (e := .bf16) (bDy (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S256x1024 .f32) (iblk m c 6 t : Vec Ideal S1x6144 .f32) (iblk m c 7 t : Vec Ideal S1x1024 .f32) (iblk m c 8 t : Vec Ideal S1x1024 .f32)) (ix2 k j) = (dy D W R O Y M U S G P (256 * t.val + k) j : EReal) := fun k => by
    have hk := k.isLt
    refine Eq.trans (dy_real B t ⟨k.val / 128, by omega⟩ ⟨k.val % 128, Nat.mod_lt _ (by norm_num)⟩ j) (congrArg (fun n => (dy D W R O Y M U S G P n j : EReal)) ?_)
    show 256 * t.val + (128 * (k.val / 128) + k.val % 128) = 256 * t.val + k.val
    omega
  unfold bAcc
  rw [acc_at, h, show 256 * (t.val + 1) = 256 * t.val + 256 by ring, range_add]
  simp only [e, B.x t, ← EReal.coe_mul, ← EReal.coe_add, ← coe_sum]

/-- Two halves added to the rows before them. -/
theorem halves (f : ℕ → ℝ) (t : ℕ) {z : EReal} (h : z = ((∑ n ∈ Finset.range (256 * t), f n : ℝ) : EReal)) :
    z + ((∑ i : Fin 128, f (row t 0 i) : ℝ) : EReal) + ((∑ i : Fin 128, f (row t 1 i) : ℝ) : EReal) = ((∑ n ∈ Finset.range (256 * (t + 1)), f n : ℝ) : EReal) := by
  rw [h, ← EReal.coe_add, ← EReal.coe_add, ← add_halves]
  simp only [row, Fin.val_zero, Fin.val_one, Nat.mul_zero, Nat.zero_add, Nat.mul_one, Nat.add_assoc]

/-! ## The walk -/

/-- What a point leaves. -/
def Left (m : (ℓ : Loc nD τ sig) → Buf (Elt Ideal) ℓ) (c : Dev nD) (D W R O Y M : ℕ → ℕ → ℝ) (U S G P : ℕ → ℝ) (n : ℕ) (hn : n < cfg0.N) : Prop :=
  (∀ (p : Fin 2) (r : Fin 128) (l : Fin 1024), (outsAt0 m c n hn).1 (ix2 ⟨128 * p.val + r.val, by omega⟩ l) = (dh D W R O Y M U S G P (row n p r) l : EReal))
    ∧ (∀ (p : Fin 2) (r : Fin 128) (l : Fin 1024), (outsAt0 m c n hn).2.1 (ix2 ⟨128 * p.val + r.val, by omega⟩ l) = (dy D W R O Y M U S G P (row n p r) l : EReal))
    ∧ (∀ l : Fin 1024, (outsAt0 m c n hn).2.2.1 (ix2 0 l) = ((∑ i ∈ Finset.range (256 * (n + 1)), dd D W i l : ℝ) : EReal))
    ∧ (∀ l : Fin 1024, (outsAt0 m c n hn).2.2.2.1 (ix2 0 l) = ((∑ i ∈ Finset.range (256 * (n + 1)), dd D W i l * nm (R i) l * G l : ℝ) : EReal))
    ∧ (∀ l : Fin 1024, (outsAt0 m c n hn).2.2.2.2.1 (ix2 0 l) = ((∑ i ∈ Finset.range (256 * (n + 1)), dd D W i l * nm (R i) l * (1 + S l) : ℝ) : EReal))
    ∧ (∀ l : Fin 1024, (outsAt0 m c n hn).2.2.2.2.2.1 (ix2 0 l) = ((∑ i ∈ Finset.range (256 * (n + 1)), dh D W R O Y M U S G P i l * (nm (Y i) l * P l) : ℝ) : EReal))
    ∧ (∀ l : Fin 1024, (outsAt0 m c n hn).2.2.2.2.2.2.1 (ix2 0 l) = ((∑ i ∈ Finset.range (256 * (n + 1)), dh D W R O Y M U S G P i l * U l * nm (Y i) l : ℝ) : EReal))
    ∧ (n = 7 → ∀ i j : Fin 1024, (outsAt0 m c n hn).2.2.2.2.2.2.2.1 (ix2 i j) = ((∑ n ∈ Finset.range (256 * (n + 1)), M n i * dy D W R O Y M U S G P n j : ℝ) : EReal))
    ∧ ∀ i j : Fin 1024, (outsAt0 m c n hn).2.2.2.2.2.2.2.2 (ix2 i j) = ((∑ n ∈ Finset.range (256 * (n + 1)), M n i * dy D W R O Y M U S G P n j : ℝ) : EReal)

theorem zero3 (l : Fin 1024) (f : ℕ → ℝ) (h : t.val = 0) : k0_pay3 (F := Ideal) (ix2 0 l) = ((∑ n ∈ Finset.range (256 * t.val), f n : ℝ) : EReal) := by
  rw [h]
  pointwise [k0_pay3]
  simp

theorem zero4 (l : Fin 1024) (f : ℕ → ℝ) (h : t.val = 0) : k0_pay4 (F := Ideal) (ix2 0 l) = ((∑ n ∈ Finset.range (256 * t.val), f n : ℝ) : EReal) := by
  rw [h]
  pointwise [k0_pay4]
  simp

theorem zero5 (l : Fin 1024) (f : ℕ → ℝ) (h : t.val = 0) : k0_pay5 (F := Ideal) (ix2 0 l) = ((∑ n ∈ Finset.range (256 * t.val), f n : ℝ) : EReal) := by
  rw [h]
  pointwise [k0_pay5]
  simp

theorem zero6 (l : Fin 1024) (f : ℕ → ℝ) (h : t.val = 0) : k0_pay6 (F := Ideal) (ix2 0 l) = ((∑ n ∈ Finset.range (256 * t.val), f n : ℝ) : EReal) := by
  rw [h]
  pointwise [k0_pay6]
  simp

theorem zero7 (l : Fin 1024) (f : ℕ → ℝ) (h : t.val = 0) : k0_pay7 (F := Ideal) (ix2 0 l) = ((∑ n ∈ Finset.range (256 * t.val), f n : ℝ) : EReal) := by
  rw [h]
  pointwise [k0_pay7]
  simp

theorem zero8 (i j : Fin 1024) (f : ℕ → ℝ) (h : t.val = 0) : k0_pay8 (F := Ideal) (ix2 i j) = ((∑ n ∈ Finset.range (256 * t.val), f n : ℝ) : EReal) := by
  rw [h]
  pointwise [k0_pay8]
  simp

set_option maxHeartbeats 1600000 in
include B in
theorem left_A (h : t.val = 0) : Left m c D W R O Y M U S G P t.val t.isLt := by
  unfold Left
  rw [outsAt0_A m c t (by rw [h]) (by rw [h]; norm_num)]
  dsimp only
  refine And.intro (fun p r l => ?_) (And.intro (fun p r l => ?_) (And.intro (fun l => ?_) (And.intro (fun l => ?_) (And.intro (fun l => ?_) (And.intro (fun l => ?_) (And.intro (fun l => ?_) (And.intro (fun h9 i j => ?_) (fun i j => ?_))))))))
  · rw [dh_A]
    exact dh_real B t p r l
  · rw [dy_A]
    exact dy_real B t p r l
  · rw [sh_A, sh_real B t, sh_real B t]
    exact halves (fun n => dd D W n l) t (zero3 t l _ h)
  · rw [sc_A, sc_real B t, sc_real B t]
    exact halves (fun n => dd D W n l * nm (R n) l * G l) t (zero4 t l _ h)
  · rw [g_A, g_real B t, g_real B t]
    exact halves (fun n => dd D W n l * nm (R n) l * (1 + S l)) t (zero5 t l _ h)
  · rw [gt_A, gt_real B t, gt_real B t]
    exact halves (fun n => dh D W R O Y M U S G P n l * (nm (Y n) l * P l)) t (zero6 t l _ h)
  · rw [gp_A, gp_real B t, gp_real B t]
    exact halves (fun n => dh D W R O Y M U S G P n l * U l * nm (Y n) l) t (zero7 t l _ h)
  · exact absurd h9 (by rw [h]; norm_num)
  · rw [acc_A]
    exact acc_real B t _ i j (zero8 t i j _ h)

set_option maxHeartbeats 1600000 in
include B in
theorem left_B (h : ¬ t.val % 8 = 0) (h8 : ¬ t.val % 8 = 7) (hs : Left m c D W R O Y M U S G P (t.val - 1) (Nat.lt_of_le_of_lt (Nat.sub_le _ _) t.isLt)) : Left m c D W R O Y M U S G P t.val t.isLt := by
  obtain ⟨-, -, h2, h3, h4, h5, h6, -, h7⟩ := hs
  have e : t.val - 1 + 1 = t.val := by omega
  rw [e] at h2 h3 h4 h5 h6 h7
  unfold Left
  rw [outsAt0_B m c t h h8]
  dsimp only
  refine And.intro (fun p r l => ?_) (And.intro (fun p r l => ?_) (And.intro (fun l => ?_) (And.intro (fun l => ?_) (And.intro (fun l => ?_) (And.intro (fun l => ?_) (And.intro (fun l => ?_) (And.intro (fun h9 i j => ?_) (fun i j => ?_))))))))
  · rw [dh_B]
    exact dh_real B t p r l
  · rw [dy_B]
    exact dy_real B t p r l
  · rw [sh_B, sh_real B t, sh_real B t]
    exact halves (fun n => dd D W n l) t (h2 l)
  · rw [sc_B, sc_real B t, sc_real B t]
    exact halves (fun n => dd D W n l * nm (R n) l * G l) t (h3 l)
  · rw [g_B, g_real B t, g_real B t]
    exact halves (fun n => dd D W n l * nm (R n) l * (1 + S l)) t (h4 l)
  · rw [gt_B, gt_real B t, gt_real B t]
    exact halves (fun n => dh D W R O Y M U S G P n l * (nm (Y n) l * P l)) t (h5 l)
  · rw [gp_B, gp_real B t, gp_real B t]
    exact halves (fun n => dh D W R O Y M U S G P n l * U l * nm (Y n) l) t (h6 l)
  · exact absurd (show t.val % 8 = 7 by rw [h9]) h8
  · rw [acc_B]
    exact acc_real B t _ i j (h7 i j)

set_option maxHeartbeats 1600000 in
include B in
theorem left_C (h : ¬ t.val % 8 = 0) (h8 : t.val % 8 = 7) (hs : Left m c D W R O Y M U S G P (t.val - 1) (Nat.lt_of_le_of_lt (Nat.sub_le _ _) t.isLt)) : Left m c D W R O Y M U S G P t.val t.isLt := by
  obtain ⟨-, -, h2, h3, h4, h5, h6, -, h7⟩ := hs
  have e : t.val - 1 + 1 = t.val := by omega
  rw [e] at h2 h3 h4 h5 h6 h7
  unfold Left
  rw [outsAt0_C m c t h h8]
  dsimp only
  refine And.intro (fun p r l => ?_) (And.intro (fun p r l => ?_) (And.intro (fun l => ?_) (And.intro (fun l => ?_) (And.intro (fun l => ?_) (And.intro (fun l => ?_) (And.intro (fun l => ?_) (And.intro (fun _ i j => ?_) (fun i j => ?_))))))))
  · rw [dh_C]
    exact dh_real B t p r l
  · rw [dy_C]
    exact dy_real B t p r l
  · rw [sh_C, sh_real B t, sh_real B t]
    exact halves (fun n => dd D W n l) t (h2 l)
  · rw [sc_C, sc_real B t, sc_real B t]
    exact halves (fun n => dd D W n l * nm (R n) l * G l) t (h3 l)
  · rw [g_C, g_real B t, g_real B t]
    exact halves (fun n => dd D W n l * nm (R n) l * (1 + S l)) t (h4 l)
  · rw [gt_C, gt_real B t, gt_real B t]
    exact halves (fun n => dh D W R O Y M U S G P n l * (nm (Y n) l * P l)) t (h5 l)
  · rw [gp_C, gp_real B t, gp_real B t]
    exact halves (fun n => dh D W R O Y M U S G P n l * U l * nm (Y n) l) t (h6 l)
  · rw [wo_C, wo_at]
    exact acc_real B t _ i j (h7 i j)
  · rw [acc_C]
    exact acc_real B t _ i j (h7 i j)

include B in
theorem left_real : ∀ (n : ℕ) (hn : n < cfg0.N), Left m c D W R O Y M U S G P n hn := by
  intro n
  induction n with
  | zero => exact fun hn => left_A B ⟨0, hn⟩ rfl
  | succ n ih =>
    intro hn
    have h8 : n + 1 < 8 := lt_of_lt_of_eq hn (show cfg0.N = 8 from N_0)
    by_cases h7 : (n + 1) % 8 = 7
    · exact left_C B ⟨n + 1, hn⟩ (by show ¬(n + 1) % 8 = 0; omega) h7 (ih (Nat.lt_of_succ_lt hn))
    · exact left_B B ⟨n + 1, hn⟩ (by show ¬(n + 1) % 8 = 0; omega) h7 (ih (Nat.lt_of_succ_lt hn))

/-! ## The arrays -/

set_option maxHeartbeats 1000000 in
include B in
/-- The array of the hidden sum's gradient. -/
theorem array9 {Z : FVec Ideal S2048x1024 .f32} (hR : ∀ (n : Fin 2048) (l : Fin 1024), Z (ix2 n l) = ((dh D W R O Y M U S G P n l : ℝ) : EReal)) :
    (dats m 0 c).arrAt 9 (cfgs 0).N = Z := by
  refine (dats m 0 c).arrAt_eq_of_covers 9 _ (by decide +kernel) fun t hf y => ?_
  have ht : t.val < 8 := pt
  have h0 : ((((View.whole main_v21_0).slice (win0_9.rect t)).emb y) 0 : ℕ) = t.val * 256 + y 0 := by blk_simp [idx t]
  have h1 : ((((View.whole main_v21_0).slice (win0_9.rect t)).emb y) 1 : ℕ) = y 1 := by blk_simp [idx t]
  blk_simp
  rw [after0_9]
  have hy0 : (y 0).val < 256 := (y 0).isLt
  have hy1 : (y 1).val < 1024 := (y 1).isLt
  have hi : ((View.whole main_v21_0).slice (win0_9.rect t)).emb y = ix2 ⟨256 * t.val + y 0, by omega⟩ ⟨y 1, by omega⟩ :=
    (eq_ix2 _).trans (congrArg₂ ix2 (Fin.ext (h0.trans (by dsimp only; omega))) (Fin.ext h1))
  refine Eq.trans ?_ (congrArg Z hi).symm
  have O := (left_real B t.val t.isLt).1 ⟨(y 0).val / 128, by omega⟩ ⟨(y 0).val % 128, by omega⟩ ⟨(y 1).val, by omega⟩
  have e : 128 * ((y 0).val / 128) + (y 0).val % 128 = (y 0).val := by omega
  have hy : y = ix2 ⟨128 * ((y 0).val / 128) + (y 0).val % 128, by omega⟩ (y 1) := (eq_ix2 _).trans (congrArg (fun a => ix2 a (y 1)) (Fin.ext e.symm))
  refine (congrArg _ hy).trans (O.trans ?_)
  unfold row
  dsimp only
  rw [e]
  exact (hR ⟨256 * t.val + y 0, by omega⟩ ⟨y 1, by omega⟩).symm

set_option maxHeartbeats 1000000 in
include B in
/-- The array of the gradient of the attentions' product. -/
theorem array10 {Z : FVec Ideal S2048x1024 .bf16} (hR : ∀ (n : Fin 2048) (l : Fin 1024), Z (ix2 n l) = ((dy D W R O Y M U S G P n l : ℝ) : EReal)) :
    (dats m 0 c).arrAt 10 (cfgs 0).N = Z := by
  refine (dats m 0 c).arrAt_eq_of_covers 10 _ (by decide +kernel) fun t hf y => ?_
  have ht : t.val < 8 := pt
  have h0 : ((((View.whole main_v21_1).slice (win0_10.rect t)).emb y) 0 : ℕ) = t.val * 256 + y 0 := by blk_simp [idx t]
  have h1 : ((((View.whole main_v21_1).slice (win0_10.rect t)).emb y) 1 : ℕ) = y 1 := by blk_simp [idx t]
  blk_simp
  rw [after0_10]
  have hy0 : (y 0).val < 256 := (y 0).isLt
  have hy1 : (y 1).val < 1024 := (y 1).isLt
  have hi : ((View.whole main_v21_1).slice (win0_10.rect t)).emb y = ix2 ⟨256 * t.val + y 0, by omega⟩ ⟨y 1, by omega⟩ :=
    (eq_ix2 _).trans (congrArg₂ ix2 (Fin.ext (h0.trans (by dsimp only; omega))) (Fin.ext h1))
  refine Eq.trans ?_ (congrArg Z hi).symm
  have O := (left_real B t.val t.isLt).2.1 ⟨(y 0).val / 128, by omega⟩ ⟨(y 0).val % 128, by omega⟩ ⟨(y 1).val, by omega⟩
  have e : 128 * ((y 0).val / 128) + (y 0).val % 128 = (y 0).val := by omega
  have hy : y = ix2 ⟨128 * ((y 0).val / 128) + (y 0).val % 128, by omega⟩ (y 1) := (eq_ix2 _).trans (congrArg (fun a => ix2 a (y 1)) (Fin.ext e.symm))
  refine (congrArg _ hy).trans (O.trans ?_)
  unfold row
  dsimp only
  rw [e]
  exact (hR ⟨256 * t.val + y 0, by omega⟩ ⟨y 1, by omega⟩).symm

set_option maxHeartbeats 1000000 in
include B in
/-- The array of the shift's gradient. -/
theorem array11 {Z : FVec Ideal S1x1024 .f32} (hR : ∀ l : Fin 1024, Z (ix2 0 l) = ((∑ i ∈ Finset.range 2048, dd D W i l : ℝ) : EReal)) :
    (dats m 0 c).arrAt 11 (cfgs 0).N = Z := by
  refine (dats m 0 c).arrAt_eq_of_covers 11 _ (by decide +kernel) fun t hf y => ?_
  have h0 : ((((View.whole main_v21_2).slice (win0_11.rect t)).emb y) 0 : ℕ) = y 0 := by blk_simp [idx t]
  have h1 : ((((View.whole main_v21_2).slice (win0_11.rect t)).emb y) 1 : ℕ) = y 1 := by blk_simp [idx t]
  have ht : t.val = 7 := ((by decide +kernel : ∀ t : Fin cfg0.N, win0_11.flush t = true → t.val = 7) t hf)
  blk_simp
  rw [after0_11]
  have hy0 : (y 0).val < 1 := (y 0).isLt
  have hy1 : (y 1).val < 1024 := (y 1).isLt
  have hi : ((View.whole main_v21_2).slice (win0_11.rect t)).emb y = ix2 0 ⟨y 1, by omega⟩ :=
    (eq_ix2 _).trans (congrArg₂ ix2 (Fin.ext (h0.trans (by show (y 0).val = 0; omega))) (Fin.ext h1))
  have hy : y = ix2 0 ⟨y 1, by omega⟩ := (eq_ix2 _).trans (congrArg (fun a => ix2 a (y 1)) (Fin.ext (by show (y 0).val = 0; omega)))
  refine Eq.trans ?_ (congrArg Z hi).symm
  refine (congrArg _ hy).trans (((left_real B t.val t.isLt).2.2.1 ⟨y 1, by omega⟩).trans ?_)
  rw [ht]
  exact (hR ⟨y 1, by omega⟩).symm

set_option maxHeartbeats 1000000 in
include B in
/-- The array of the scale's gradient. -/
theorem array12 {Z : FVec Ideal S1x1024 .f32} (hR : ∀ l : Fin 1024, Z (ix2 0 l) = ((∑ i ∈ Finset.range 2048, dd D W i l * nm (R i) l * G l : ℝ) : EReal)) :
    (dats m 0 c).arrAt 12 (cfgs 0).N = Z := by
  refine (dats m 0 c).arrAt_eq_of_covers 12 _ (by decide +kernel) fun t hf y => ?_
  have h0 : ((((View.whole main_v21_3).slice (win0_12.rect t)).emb y) 0 : ℕ) = y 0 := by blk_simp [idx t]
  have h1 : ((((View.whole main_v21_3).slice (win0_12.rect t)).emb y) 1 : ℕ) = y 1 := by blk_simp [idx t]
  have ht : t.val = 7 := ((by decide +kernel : ∀ t : Fin cfg0.N, win0_12.flush t = true → t.val = 7) t hf)
  blk_simp
  rw [after0_12]
  have hy0 : (y 0).val < 1 := (y 0).isLt
  have hy1 : (y 1).val < 1024 := (y 1).isLt
  have hi : ((View.whole main_v21_3).slice (win0_12.rect t)).emb y = ix2 0 ⟨y 1, by omega⟩ :=
    (eq_ix2 _).trans (congrArg₂ ix2 (Fin.ext (h0.trans (by show (y 0).val = 0; omega))) (Fin.ext h1))
  have hy : y = ix2 0 ⟨y 1, by omega⟩ := (eq_ix2 _).trans (congrArg (fun a => ix2 a (y 1)) (Fin.ext (by show (y 0).val = 0; omega)))
  refine Eq.trans ?_ (congrArg Z hi).symm
  refine (congrArg _ hy).trans (((left_real B t.val t.isLt).2.2.2.1 ⟨y 1, by omega⟩).trans ?_)
  rw [ht]
  exact (hR ⟨y 1, by omega⟩).symm

set_option maxHeartbeats 1000000 in
include B in
/-- The array of the norm weight's gradient. -/
theorem array13 {Z : FVec Ideal S1x1024 .f32} (hR : ∀ l : Fin 1024, Z (ix2 0 l) = ((∑ i ∈ Finset.range 2048, dd D W i l * nm (R i) l * (1 + S l) : ℝ) : EReal)) :
    (dats m 0 c).arrAt 13 (cfgs 0).N = Z := by
  refine (dats m 0 c).arrAt_eq_of_covers 13 _ (by decide +kernel) fun t hf y => ?_
  have h0 : ((((View.whole main_v21_4).slice (win0_13.rect t)).emb y) 0 : ℕ) = y 0 := by blk_simp [idx t]
  have h1 : ((((View.whole main_v21_4).slice (win0_13.rect t)).emb y) 1 : ℕ) = y 1 := by blk_simp [idx t]
  have ht : t.val = 7 := ((by decide +kernel : ∀ t : Fin cfg0.N, win0_13.flush t = true → t.val = 7) t hf)
  blk_simp
  rw [after0_13]
  have hy0 : (y 0).val < 1 := (y 0).isLt
  have hy1 : (y 1).val < 1024 := (y 1).isLt
  have hi : ((View.whole main_v21_4).slice (win0_13.rect t)).emb y = ix2 0 ⟨y 1, by omega⟩ :=
    (eq_ix2 _).trans (congrArg₂ ix2 (Fin.ext (h0.trans (by show (y 0).val = 0; omega))) (Fin.ext h1))
  have hy : y = ix2 0 ⟨y 1, by omega⟩ := (eq_ix2 _).trans (congrArg (fun a => ix2 a (y 1)) (Fin.ext (by show (y 0).val = 0; omega)))
  refine Eq.trans ?_ (congrArg Z hi).symm
  refine (congrArg _ hy).trans (((left_real B t.val t.isLt).2.2.2.2.1 ⟨y 1, by omega⟩).trans ?_)
  rw [ht]
  exact (hR ⟨y 1, by omega⟩).symm

set_option maxHeartbeats 1000000 in
include B in
/-- The array of the gate's gradient. -/
theorem array14 {Z : FVec Ideal S1x1024 .f32} (hR : ∀ l : Fin 1024, Z (ix2 0 l) = ((∑ i ∈ Finset.range 2048, dh D W R O Y M U S G P i l * (nm (Y i) l * P l) : ℝ) : EReal)) :
    (dats m 0 c).arrAt 14 (cfgs 0).N = Z := by
  refine (dats m 0 c).arrAt_eq_of_covers 14 _ (by decide +kernel) fun t hf y => ?_
  have h0 : ((((View.whole main_v21_5).slice (win0_14.rect t)).emb y) 0 : ℕ) = y 0 := by blk_simp [idx t]
  have h1 : ((((View.whole main_v21_5).slice (win0_14.rect t)).emb y) 1 : ℕ) = y 1 := by blk_simp [idx t]
  have ht : t.val = 7 := ((by decide +kernel : ∀ t : Fin cfg0.N, win0_14.flush t = true → t.val = 7) t hf)
  blk_simp
  rw [after0_14]
  have hy0 : (y 0).val < 1 := (y 0).isLt
  have hy1 : (y 1).val < 1024 := (y 1).isLt
  have hi : ((View.whole main_v21_5).slice (win0_14.rect t)).emb y = ix2 0 ⟨y 1, by omega⟩ :=
    (eq_ix2 _).trans (congrArg₂ ix2 (Fin.ext (h0.trans (by show (y 0).val = 0; omega))) (Fin.ext h1))
  have hy : y = ix2 0 ⟨y 1, by omega⟩ := (eq_ix2 _).trans (congrArg (fun a => ix2 a (y 1)) (Fin.ext (by show (y 0).val = 0; omega)))
  refine Eq.trans ?_ (congrArg Z hi).symm
  refine (congrArg _ hy).trans (((left_real B t.val t.isLt).2.2.2.2.2.1 ⟨y 1, by omega⟩).trans ?_)
  rw [ht]
  exact (hR ⟨y 1, by omega⟩).symm

set_option maxHeartbeats 1000000 in
include B in
/-- The array of the first norm weight's gradient. -/
theorem array15 {Z : FVec Ideal S1x1024 .f32} (hR : ∀ l : Fin 1024, Z (ix2 0 l) = ((∑ i ∈ Finset.range 2048, dh D W R O Y M U S G P i l * U l * nm (Y i) l : ℝ) : EReal)) :
    (dats m 0 c).arrAt 15 (cfgs 0).N = Z := by
  refine (dats m 0 c).arrAt_eq_of_covers 15 _ (by decide +kernel) fun t hf y => ?_
  have h0 : ((((View.whole main_v21_6).slice (win0_15.rect t)).emb y) 0 : ℕ) = y 0 := by blk_simp [idx t]
  have h1 : ((((View.whole main_v21_6).slice (win0_15.rect t)).emb y) 1 : ℕ) = y 1 := by blk_simp [idx t]
  have ht : t.val = 7 := ((by decide +kernel : ∀ t : Fin cfg0.N, win0_15.flush t = true → t.val = 7) t hf)
  blk_simp
  rw [after0_15]
  have hy0 : (y 0).val < 1 := (y 0).isLt
  have hy1 : (y 1).val < 1024 := (y 1).isLt
  have hi : ((View.whole main_v21_6).slice (win0_15.rect t)).emb y = ix2 0 ⟨y 1, by omega⟩ :=
    (eq_ix2 _).trans (congrArg₂ ix2 (Fin.ext (h0.trans (by show (y 0).val = 0; omega))) (Fin.ext h1))
  have hy : y = ix2 0 ⟨y 1, by omega⟩ := (eq_ix2 _).trans (congrArg (fun a => ix2 a (y 1)) (Fin.ext (by show (y 0).val = 0; omega)))
  refine Eq.trans ?_ (congrArg Z hi).symm
  refine (congrArg _ hy).trans (((left_real B t.val t.isLt).2.2.2.2.2.2.1 ⟨y 1, by omega⟩).trans ?_)
  rw [ht]
  exact (hR ⟨y 1, by omega⟩).symm

set_option maxHeartbeats 1000000 in
include B in
/-- The array of the output weight's gradient. -/
theorem array16 {Z : FVec Ideal S1024x1024 .bf16} (hR : ∀ i j : Fin 1024, Z (ix2 i j) = ((∑ n ∈ Finset.range (2048), M n i * dy D W R O Y M U S G P n j : ℝ) : EReal)) :
    (dats m 0 c).arrAt 16 (cfgs 0).N = Z := by
  refine (dats m 0 c).arrAt_eq_of_covers 16 _ (by decide +kernel) fun t hf y => ?_
  have h0 : ((((View.whole main_v21_7).slice (win0_16.rect t)).emb y) 0 : ℕ) = y 0 := by blk_simp [idx t]
  have h1 : ((((View.whole main_v21_7).slice (win0_16.rect t)).emb y) 1 : ℕ) = y 1 := by blk_simp [idx t]
  have ht : t.val = 7 := ((by decide +kernel : ∀ t : Fin cfg0.N, win0_16.flush t = true → t.val = 7) t hf)
  blk_simp
  rw [after0_16]
  have hy0 : (y 0).val < 1024 := (y 0).isLt
  have hy1 : (y 1).val < 1024 := (y 1).isLt
  have hi : ((View.whole main_v21_7).slice (win0_16.rect t)).emb y = ix2 ⟨y 0, by omega⟩ ⟨y 1, by omega⟩ :=
    (eq_ix2 _).trans (congrArg₂ ix2 (Fin.ext h0) (Fin.ext h1))
  have hy : y = ix2 ⟨y 0, by omega⟩ ⟨y 1, by omega⟩ := eq_ix2 _
  refine Eq.trans ?_ (congrArg Z hi).symm
  refine (congrArg _ hy).trans (((left_real B t.val t.isLt).2.2.2.2.2.2.2.1 ht ⟨y 0, by omega⟩ ⟨y 1, by omega⟩).trans ?_)
  rw [ht]
  exact (hR ⟨y 0, by omega⟩ ⟨y 1, by omega⟩).symm

end Cert.Ff1BwdIdeal.Hand

end
-- ==== Proof.Ff1Ref.lean ====
/-
  The reference of the feed-forward's input over the reals.
-/
module

public import proofs.«01_k».proof.Proof.Ff1Grid
public import proofs.«01_k».proof.Proof.Gen.Ff1BwdRefIdeal.Read

@[expose] public section

set_option maxRecDepth 16384

noncomputable section

open Idealize.ShloMosaic Idealize.ShloMosaic.TcCoe Idealize.SL.Sem

namespace Cert.Ff1BwdRefIdeal.Hand

open Cert.Ff1BwdRefIdeal Cert.Ff1BwdRefIdeal.Read Cert.NormKit Cert.RealKit
open Cert.Ff1BwdIdeal.Hand (dd d2 dh dn dy)

section norms

variable {x0 x1 x8 : (⟨S2048x1024, .f32⟩ : BufTy).Contents (Elt Ideal)} {x2 : (⟨S1024x1024, .f32⟩ : BufTy).Contents (Elt Ideal)} {x3 : (⟨S1x6144, .f32⟩ : BufTy).Contents (Elt Ideal)} {x4 x5 : (⟨S1x1024, .f32⟩ : BufTy).Contents (Elt Ideal)} {x6 : (⟨S1024x4096, .f32⟩ : BufTy).Contents (Elt Ideal)} {x7 : (⟨S2048x4096, .f32⟩ : BufTy).Contents (Elt Ideal)} {Y R : ℕ → ℕ → ℝ}

section first

variable (hY : ∀ (n : Fin 2048) (l : Fin 1024), val_main_v0 (F := Ideal) x1 x2 (ix2 n l) = ((Y n l : ℝ) : EReal))

include hY

theorem msY_at (n : Fin 2048) : val_main_v10 (F := Ideal) x1 x2 (ix2 n 0) = ((ms (Y n) : ℝ) : EReal) := by
  pointwise [val_main_v10, val_main_v9, val_main_cst_1, val_main_v8, val_main_v7, val_main_cst_0, val_main_v6, val_main_v5, val_main_cst, val_main_v4]
  simp only [hY, bits_thousand, bits_eps, ← EReal.coe_mul, ← coe_sum]
  exact ms_div _

theorem rsY_at (n : Fin 2048) : val_main_v11 (F := Ideal) x1 x2 (ix2 n 0) = ((rs (Y n) : ℝ) : EReal) := by
  refine Eq.trans (b := Ideal.rsqrt (val_main_v10 (F := Ideal) x1 x2 (ix2 n 0))) (by pointwise [val_main_v11]) ?_
  rw [msY_at hY, rs_ms]

theorem slopeY_at (n : Fin 2048) : val_main_v14 (F := Ideal) x1 x2 (ix2 n 0) = ((-(1 / 2) * (rs (Y n) / ms (Y n)) : ℝ) : EReal) := by
  refine Eq.trans (b := Ideal.ofBits .f32 0xBF000000#32 * Ideal.div (val_main_v11 (F := Ideal) x1 x2 (ix2 n 0)) (val_main_v10 (F := Ideal) x1 x2 (ix2 n 0))) (by pointwise [val_main_v14, val_main_v13, val_main_cst_2, val_main_v12]) ?_
  rw [rsY_at hY, msY_at hY, bits_neg_half, div_coe _ _ (ms_pos _).ne', ← EReal.coe_mul]

theorem nmY_at (n : Fin 2048) (l : Fin 1024) : val_main_v16 (F := Ideal) x1 x2 (ix2 n l) = ((nm (Y n) l : ℝ) : EReal) := by
  refine Eq.trans (b := val_main_v0 (F := Ideal) x1 x2 (ix2 n l) * val_main_v11 (F := Ideal) x1 x2 (ix2 n 0)) (by pointwise [val_main_v16, val_main_v15]) ?_
  rw [rsY_at hY, hY, ← EReal.coe_mul]
  rfl

end first

section second

variable (hR : ∀ (n : Fin 2048) (l : Fin 1024), val_main_v21 (F := Ideal) x0 x1 x2 x3 x4 (ix2 n l) = ((R n l : ℝ) : EReal))

include hR

theorem msR_at (n : Fin 2048) : val_main_v28 (F := Ideal) x0 x1 x2 x3 x4 (ix2 n 0) = ((ms (R n) : ℝ) : EReal) := by
  pointwise [val_main_v28, val_main_v27, val_main_cst_5, val_main_v26, val_main_v25, val_main_cst_4, val_main_v24, val_main_v23, val_main_cst_3, val_main_v22]
  simp only [hR, bits_thousand, bits_eps, ← EReal.coe_mul, ← coe_sum]
  exact ms_div _

theorem rsR_at (n : Fin 2048) : val_main_v29 (F := Ideal) x0 x1 x2 x3 x4 (ix2 n 0) = ((rs (R n) : ℝ) : EReal) := by
  refine Eq.trans (b := Ideal.rsqrt (val_main_v28 (F := Ideal) x0 x1 x2 x3 x4 (ix2 n 0))) (by pointwise [val_main_v29]) ?_
  rw [msR_at hR, rs_ms]

theorem slopeR_at (n : Fin 2048) : val_main_v32 (F := Ideal) x0 x1 x2 x3 x4 (ix2 n 0) = ((-(1 / 2) * (rs (R n) / ms (R n)) : ℝ) : EReal) := by
  refine Eq.trans (b := Ideal.ofBits .f32 0xBF000000#32 * Ideal.div (val_main_v29 (F := Ideal) x0 x1 x2 x3 x4 (ix2 n 0)) (val_main_v28 (F := Ideal) x0 x1 x2 x3 x4 (ix2 n 0))) (by pointwise [val_main_v32, val_main_v31, val_main_cst_6, val_main_v30]) ?_
  rw [rsR_at hR, msR_at hR, bits_neg_half, div_coe _ _ (ms_pos _).ne', ← EReal.coe_mul]

theorem nmR_at (n : Fin 2048) (l : Fin 1024) : val_main_v34 (F := Ideal) x0 x1 x2 x3 x4 (ix2 n l) = ((nm (R n) l : ℝ) : EReal) := by
  refine Eq.trans (b := val_main_v21 (F := Ideal) x0 x1 x2 x3 x4 (ix2 n l) * val_main_v29 (F := Ideal) x0 x1 x2 x3 x4 (ix2 n 0)) (by pointwise [val_main_v34, val_main_v33]) ?_
  rw [rsR_at hR, hR, ← EReal.coe_mul]
  rfl

end second

end norms

/-- Arguments that are tables of reals, the attentions' product and the hidden sum with them. -/
structure Tables (x0 x1 x8 : (⟨S2048x1024, .f32⟩ : BufTy).Contents (Elt Ideal)) (x2 : (⟨S1024x1024, .f32⟩ : BufTy).Contents (Elt Ideal)) (x3 : (⟨S1x6144, .f32⟩ : BufTy).Contents (Elt Ideal)) (x4 x5 : (⟨S1x1024, .f32⟩ : BufTy).Contents (Elt Ideal)) (x6 : (⟨S1024x4096, .f32⟩ : BufTy).Contents (Elt Ideal)) (x7 : (⟨S2048x4096, .f32⟩ : BufTy).Contents (Elt Ideal))
    (D W R O Y M : ℕ → ℕ → ℝ) (U S G P : ℕ → ℝ) : Prop where
  d : ∀ (n : Fin 2048) (k : Fin 4096), x7 (ix2 n k) = (D n k : EReal)
  w : ∀ (l : Fin 1024) (k : Fin 4096), x6 (ix2 l k) = (W l k : EReal)
  r : ∀ (n : Fin 2048) (l : Fin 1024), val_main_v21 (F := Ideal) x0 x1 x2 x3 x4 (ix2 n l) = ((R n l : ℝ) : EReal)
  o : ∀ (n : Fin 2048) (l : Fin 1024), x8 (ix2 n l) = (O n l : EReal)
  y : ∀ (n : Fin 2048) (l : Fin 1024), val_main_v0 (F := Ideal) x1 x2 (ix2 n l) = ((Y n l : ℝ) : EReal)
  x : ∀ (n : Fin 2048) (l : Fin 1024), x1 (ix2 n l) = (M n l : EReal)
  u : ∀ (l : Fin 1024) (h : 2048 + l.val < 6144), x3 (ix2 0 ⟨2048 + l, h⟩) = (U l : EReal)
  s : ∀ (l : Fin 1024) (h : 4096 + l.val < 6144), x3 (ix2 0 ⟨4096 + l, h⟩) = (S l : EReal)
  g : ∀ l : Fin 1024, x5 (ix2 0 l) = (G l : EReal)
  p : ∀ l : Fin 1024, x4 (ix2 0 l) = (P l : EReal)

/-- The attentions' product. -/
def yy (M V : ℕ → ℕ → ℝ) (n l : ℕ) : ℝ := ∑ k : Fin 1024, M n k * V k l

/-- The hidden sum. -/
def hr (X M V : ℕ → ℕ → ℝ) (U P : ℕ → ℝ) (n l : ℕ) : ℝ := X n l + U l * (nm (yy M V n) l * P l)

/-- Finite arguments are tables: the product and the hidden sum are finite too. -/
theorem tables_of {x0 x1 x8 : (⟨S2048x1024, .f32⟩ : BufTy).Contents (Elt Ideal)} {x2 : (⟨S1024x1024, .f32⟩ : BufTy).Contents (Elt Ideal)} {x3 : (⟨S1x6144, .f32⟩ : BufTy).Contents (Elt Ideal)} {x4 x5 : (⟨S1x1024, .f32⟩ : BufTy).Contents (Elt Ideal)} {x6 : (⟨S1024x4096, .f32⟩ : BufTy).Contents (Elt Ideal)} {x7 : (⟨S2048x4096, .f32⟩ : BufTy).Contents (Elt Ideal)} {X M V D W O : ℕ → ℕ → ℝ} {U S G P : ℕ → ℝ}
    (hX : ∀ (n : Fin 2048) (l : Fin 1024), x0 (ix2 n l) = (X n l : EReal)) (hM : ∀ (n : Fin 2048) (l : Fin 1024), x1 (ix2 n l) = (M n l : EReal))
    (hV : ∀ k l : Fin 1024, x2 (ix2 k l) = (V k l : EReal)) (hU : ∀ (l : Fin 1024) (h : 2048 + l.val < 6144), x3 (ix2 0 ⟨2048 + l, h⟩) = (U l : EReal))
    (hS : ∀ (l : Fin 1024) (h : 4096 + l.val < 6144), x3 (ix2 0 ⟨4096 + l, h⟩) = (S l : EReal)) (hP : ∀ l : Fin 1024, x4 (ix2 0 l) = (P l : EReal))
    (hG : ∀ l : Fin 1024, x5 (ix2 0 l) = (G l : EReal)) (hW : ∀ (l : Fin 1024) (k : Fin 4096), x6 (ix2 l k) = (W l k : EReal))
    (hD : ∀ (n : Fin 2048) (k : Fin 4096), x7 (ix2 n k) = (D n k : EReal)) (hO : ∀ (n : Fin 2048) (l : Fin 1024), x8 (ix2 n l) = (O n l : EReal)) :
    Tables x0 x1 x8 x2 x3 x4 x5 x6 x7 D W (hr X M V U P) O (yy M V) M U S G P := by
  have hY : ∀ (n : Fin 2048) (l : Fin 1024), val_main_v0 (F := Ideal) x1 x2 (ix2 n l) = ((yy M V n l : ℝ) : EReal) := fun n l => by
    pointwise [val_main_v0]
    simp only [hM, hV, ← EReal.coe_mul, ← coe_sum]
    rfl
  refine ⟨hD, hW, fun n l => ?_, hO, hY, hM, hU, hS, hG, hP⟩
  pointwise [val_main_v21, val_main_v20, val_main_v19, val_main_v18, val_main_v17, val_main_v1]
  simp only [nmY_at hY, hU, hX, hP, ← EReal.coe_mul, ← EReal.coe_add]
  rfl

section reals

variable {x0 x1 x8 : (⟨S2048x1024, .f32⟩ : BufTy).Contents (Elt Ideal)} {x2 : (⟨S1024x1024, .f32⟩ : BufTy).Contents (Elt Ideal)} {x3 : (⟨S1x6144, .f32⟩ : BufTy).Contents (Elt Ideal)} {x4 x5 : (⟨S1x1024, .f32⟩ : BufTy).Contents (Elt Ideal)} {x6 : (⟨S1024x4096, .f32⟩ : BufTy).Contents (Elt Ideal)} {x7 : (⟨S2048x4096, .f32⟩ : BufTy).Contents (Elt Ideal)} {D W R O Y M : ℕ → ℕ → ℝ} {U S G P : ℕ → ℝ} (T : Tables x0 x1 x8 x2 x3 x4 x5 x6 x7 D W R O Y M U S G P)

include T

theorem dd_at (n : Fin 2048) (l : Fin 1024) : val_main_v44 (F := Ideal) x6 x7 (ix2 n l) = ((dd D W n l : ℝ) : EReal) := by
  pointwise [val_main_v44]
  simp only [T.d, T.w, ← EReal.coe_mul, ← coe_sum]
  rfl

theorem unit_at (l : Fin 1024) : val_main_v38 (F := Ideal) x3 (ix2 0 l) = ((1 + S l : ℝ) : EReal) := by
  refine Eq.trans (b := Ideal.ofBits .f32 0x3F800000#32 + x3 (ix2 0 ⟨4096 + l.val, by omega⟩)) (by pointwise [val_main_v38, val_main_v37, val_main_cst_7, val_main_v3]) ?_
  rw [T.s, bits_unit, ← EReal.coe_add]

theorem by_scale_at (n : Fin 2048) (l : Fin 1024) : val_main_v51 (F := Ideal) x3 x6 x7 (ix2 n l) = ((dd D W n l * (1 + S l) : ℝ) : EReal) := by
  refine Eq.trans (b := val_main_v44 (F := Ideal) x6 x7 (ix2 n l) * val_main_v38 (F := Ideal) x3 (ix2 0 l)) (by pointwise [val_main_v51, val_main_v50]) ?_
  rw [dd_at T, unit_at T, ← EReal.coe_mul]

theorem d2_at (n : Fin 2048) (l : Fin 1024) : val_main_v56 (F := Ideal) x3 x5 x6 x7 (ix2 n l) = ((d2 D W R O Y M U S G P n l : ℝ) : EReal) := by
  pointwise [val_main_v56, val_main_v55]
  rw [by_scale_at T, T.g, ← EReal.coe_mul]
  refine congrArg Real.toEReal ?_
  unfold d2
  ring

/-- The reference's gradient of the shift. -/
theorem sh_at (l : Fin 1024) : val_main_v46 (F := Ideal) x6 x7 (ix2 0 l) = ((∑ i ∈ Finset.range 2048, dd D W i l : ℝ) : EReal) := by
  pointwise [val_main_v46, val_main_v45, val_main_cst_8]
  simp only [dd_at T, ← EReal.coe_mul, ← coe_sum]
  rw [Finset.sum_range]

/-- The reference's gradient of the scale. -/
theorem sc_at (l : Fin 1024) : val_main_v49 (F := Ideal) x0 x1 x2 x3 x4 x5 x6 x7 (ix2 0 l) = ((∑ i ∈ Finset.range 2048, dd D W i l * nm (R i) l * G l : ℝ) : EReal) := by
  pointwise [val_main_v49, val_main_v48, val_main_cst_9, val_main_v47, val_main_v36, val_main_v35]
  simp only [dd_at T, nmR_at T.r, T.g, ← EReal.coe_mul, ← coe_sum]
  rw [Finset.sum_range]
  refine congrArg Real.toEReal (Finset.sum_congr rfl fun i _ => ?_)
  ring

/-- The reference's gradient of the norm's weight. -/
theorem g_at (l : Fin 1024) : val_main_v54 (F := Ideal) x0 x1 x2 x3 x4 x6 x7 (ix2 0 l) = ((∑ i ∈ Finset.range 2048, dd D W i l * nm (R i) l * (1 + S l) : ℝ) : EReal) := by
  pointwise [val_main_v54, val_main_v53, val_main_cst_10, val_main_v52]
  simp only [by_scale_at T, nmR_at T.r, ← EReal.coe_mul, ← coe_sum]
  rw [Finset.sum_range]
  refine congrArg Real.toEReal (Finset.sum_congr rfl fun i _ => ?_)
  ring

theorem share_at (n : Fin 2048) (l : Fin 1024) : val_main_v67 (F := Ideal) x0 x1 x2 x3 x4 x5 x6 x7 (ix2 n l) = ((share (R n) (d2 D W R O Y M U S G P n) : ℝ) : EReal) := by
  refine Eq.trans (b := Ideal.div ((∑ j : Fin 1024, val_main_v21 (F := Ideal) x0 x1 x2 x3 x4 (ix2 n j) * val_main_v56 (F := Ideal) x3 x5 x6 x7 (ix2 n j)) * val_main_v32 (F := Ideal) x0 x1 x2 x3 x4 (ix2 n 0)) (Ideal.ofBits .f32 0x44800000#32))
    (by
      pointwise [val_main_v67, val_main_v66, val_main_cst_13, val_main_v65, val_main_v64, val_main_cst_12, val_main_v63, val_main_v59, val_main_v58, val_main_cst_11, val_main_v57]
      exact Fin.sum_univ_one _) ?_
  simp only [T.r, d2_at T, slopeR_at T.r, bits_thousand, ← EReal.coe_mul, ← coe_sum]
  rw [div_coe _ _ (by norm_num)]
  rfl

/-- The reference's gradient of the hidden sum. -/
theorem dh_at (n : Fin 2048) (l : Fin 1024) : val_main_v71 (F := Ideal) x0 x1 x2 x3 x4 x5 x6 x7 x8 (ix2 n l) = ((dh D W R O Y M U S G P n l : ℝ) : EReal) := by
  refine Eq.trans (b := x8 (ix2 n l) + val_main_v56 (F := Ideal) x3 x5 x6 x7 (ix2 n l) * val_main_v29 (F := Ideal) x0 x1 x2 x3 x4 (ix2 n 0) + val_main_v21 (F := Ideal) x0 x1 x2 x3 x4 (ix2 n l) * val_main_v67 (F := Ideal) x0 x1 x2 x3 x4 x5 x6 x7 (ix2 n l) + val_main_v67 (F := Ideal) x0 x1 x2 x3 x4 x5 x6 x7 (ix2 n l) * val_main_v21 (F := Ideal) x0 x1 x2 x3 x4 (ix2 n l))
    (by pointwise [val_main_v71, val_main_v70, val_main_v69, val_main_v68, val_main_v62, val_main_v61, val_main_v60]) ?_
  rw [T.r, T.o, d2_at T, rsR_at T.r, share_at T, ← EReal.coe_mul, ← EReal.coe_mul, ← EReal.coe_mul, ← EReal.coe_add, ← EReal.coe_add, ← EReal.coe_add]
  refine congrArg Real.toEReal ?_
  unfold dh
  rw [back_eq]
  ring

theorem dh_again (n : Fin 2048) (l : Fin 1024) : val_main_v72 (F := Ideal) x0 x1 x2 x3 x4 x5 x6 x7 x8 (ix2 n l) = ((dh D W R O Y M U S G P n l : ℝ) : EReal) :=
  Eq.trans (by pointwise [val_main_v72]) (dh_at T n l)

theorem by_gate_at (n : Fin 2048) (l : Fin 1024) : val_main_v74 (F := Ideal) x0 x1 x2 x3 x4 x5 x6 x7 x8 (ix2 n l) = ((dh D W R O Y M U S G P n l * U l : ℝ) : EReal) := by
  pointwise [val_main_v74, val_main_v73, val_main_v1]
  rw [dh_again T, T.u, ← EReal.coe_mul, mul_comm]

theorem dn_at (n : Fin 2048) (l : Fin 1024) : val_main_v82 (F := Ideal) x0 x1 x2 x3 x4 x5 x6 x7 x8 (ix2 n l) = ((dn D W R O Y M U S G P n l : ℝ) : EReal) := by
  pointwise [val_main_v82, val_main_v81]
  rw [by_gate_at T, T.p, ← EReal.coe_mul]
  rfl

theorem scaled_at (n : Fin 2048) (l : Fin 1024) : val_main_v18 (F := Ideal) x1 x2 x4 (ix2 n l) = ((nm (Y n) l * P l : ℝ) : EReal) := by
  pointwise [val_main_v18, val_main_v17]
  rw [nmY_at T.y, T.p, ← EReal.coe_mul]

/-- The reference's gradient of the gate. -/
theorem gt_at (l : Fin 1024) : val_main_v77 (F := Ideal) x0 x1 x2 x3 x4 x5 x6 x7 x8 (ix2 0 l) = ((∑ i ∈ Finset.range 2048, dh D W R O Y M U S G P i l * (nm (Y i) l * P l) : ℝ) : EReal) := by
  pointwise [val_main_v77, val_main_v76, val_main_cst_14, val_main_v75]
  simp only [dh_again T, scaled_at T, ← EReal.coe_mul, ← coe_sum]
  rw [Finset.sum_range]

/-- The reference's gradient of the first norm's weight. -/
theorem gp_at (l : Fin 1024) : val_main_v80 (F := Ideal) x0 x1 x2 x3 x4 x5 x6 x7 x8 (ix2 0 l) = ((∑ i ∈ Finset.range 2048, dh D W R O Y M U S G P i l * U l * nm (Y i) l : ℝ) : EReal) := by
  pointwise [val_main_v80, val_main_v79, val_main_cst_15, val_main_v78]
  simp only [by_gate_at T, nmY_at T.y, ← EReal.coe_mul, ← coe_sum]
  rw [Finset.sum_range]
  refine congrArg Real.toEReal (Finset.sum_congr rfl fun i _ => ?_)
  ring

theorem share2_at (n : Fin 2048) (l : Fin 1024) : val_main_v92 (F := Ideal) x0 x1 x2 x3 x4 x5 x6 x7 x8 (ix2 n l) = ((share (Y n) (dn D W R O Y M U S G P n) : ℝ) : EReal) := by
  refine Eq.trans (b := Ideal.div ((∑ j : Fin 1024, val_main_v0 (F := Ideal) x1 x2 (ix2 n j) * val_main_v82 (F := Ideal) x0 x1 x2 x3 x4 x5 x6 x7 x8 (ix2 n j)) * val_main_v14 (F := Ideal) x1 x2 (ix2 n 0)) (Ideal.ofBits .f32 0x44800000#32))
    (by
      pointwise [val_main_v92, val_main_v91, val_main_cst_18, val_main_v90, val_main_v89, val_main_cst_17, val_main_v88, val_main_v85, val_main_v84, val_main_cst_16, val_main_v83]
      exact Fin.sum_univ_one _) ?_
  simp only [T.y, dn_at T, slopeY_at T.y, bits_thousand, ← EReal.coe_mul, ← coe_sum]
  rw [div_coe _ _ (by norm_num)]
  rfl

theorem dy_at (n : Fin 2048) (l : Fin 1024) : val_main_v96 (F := Ideal) x0 x1 x2 x3 x4 x5 x6 x7 x8 (ix2 n l) = ((dy D W R O Y M U S G P n l : ℝ) : EReal) := by
  refine Eq.trans (b := val_main_v82 (F := Ideal) x0 x1 x2 x3 x4 x5 x6 x7 x8 (ix2 n l) * val_main_v11 (F := Ideal) x1 x2 (ix2 n 0) + val_main_v0 (F := Ideal) x1 x2 (ix2 n l) * val_main_v92 (F := Ideal) x0 x1 x2 x3 x4 x5 x6 x7 x8 (ix2 n l) + val_main_v92 (F := Ideal) x0 x1 x2 x3 x4 x5 x6 x7 x8 (ix2 n l) * val_main_v0 (F := Ideal) x1 x2 (ix2 n l))
    (by pointwise [val_main_v96, val_main_v95, val_main_v94, val_main_v93, val_main_v87, val_main_v86]) ?_
  rw [T.y, dn_at T, rsY_at T.y, share2_at T, ← EReal.coe_mul, ← EReal.coe_mul, ← EReal.coe_mul, ← EReal.coe_add, ← EReal.coe_add, ← back_eq]
  rfl

/-- The reference's gradient of the attentions' product. -/
theorem out_at (n : Fin 2048) (l : Fin 1024) : val_main_v97 (F := Ideal) x0 x1 x2 x3 x4 x5 x6 x7 x8 (ix2 n l) = ((dy D W R O Y M U S G P n l : ℝ) : EReal) :=
  Eq.trans (by pointwise [val_main_v97]) (dy_at T n l)

/-- The reference's gradient of the output weight. -/
theorem weight_at (i j : Fin 1024) : val_main_v100 (F := Ideal) x0 x1 x2 x3 x4 x5 x6 x7 x8 (ix2 i j) = ((∑ n ∈ Finset.range 2048, M n i * dy D W R O Y M U S G P n j : ℝ) : EReal) := by
  pointwise [val_main_v100, val_main_v99, val_main_v98]
  simp only [dy_at T, T.x, ← EReal.coe_mul, ← coe_sum]
  rw [Finset.sum_range]
  refine congrArg Real.toEReal (Finset.sum_congr rfl fun i _ => ?_)
  ring

end reals

end Cert.Ff1BwdRefIdeal.Hand

end
-- ==== Proof.Ff1Pre.lean ====
/-
  The precondition of the feed-forward's input: the arguments are finite.
-/
module

public import proofs.«01_k».proof.Proof.StickPre
public import proofs.«01_k».proof.Proof.Ff1Ref
public import proofs.«01_k».proof.Pre_ff1_finite

@[expose] public section

set_option maxRecDepth 16384

noncomputable section

open Idealize.ShloMosaic Idealize.ShloMosaic.TcCoe Idealize.SL.Sem

namespace Cert.Pre_ff1_finite

open Cert.Pre_stick_finite (real_of_lt and_one)
open Cert.RealKit

instance facts : Facts where
  bcast_S_S2048x1024 := by decide
  reducesTo_S2048x1024_S_d0_1 := by decide
  h_S_ := by decide
  bcast_S_S1024x1024 := by decide
  reducesTo_S1024x1024_S_d0_1 := by decide
  slices_S1x6144_S1x1024_0_2048 := by decide
  bcast_S_S1x1024 := by decide
  reducesTo_S1x1024_S_d0_1 := by decide
  slices_S1x6144_S1x1024_0_4096 := by decide
  bcast_S_S1024x4096 := by decide
  reducesTo_S1024x4096_S_d0_1 := by decide
  bcast_S_S2048x4096 := by decide
  reducesTo_S2048x4096_S_d0_1 := by decide

/-- Under the precondition the arguments are tables of reals. -/
theorem finite_of {x0 x1 x8 : FVec Ideal S2048x1024 .f32} {x2 : FVec Ideal S1024x1024 .f32} {x3 : FVec Ideal S1x6144 .f32} {x4 x5 : FVec Ideal S1x1024 .f32} {x6 : FVec Ideal S1024x4096 .f32} {x7 : FVec Ideal S2048x4096 .f32}
    (h : fn (F := Ideal) x0 x1 x2 x3 x4 x5 x6 x7 x8 = fun _ => 1#1) : ∃ (D W R O Y M : ℕ → ℕ → ℝ) (U S G P : ℕ → ℝ), Cert.Ff1BwdRefIdeal.Hand.Tables x0 x1 x8 x2 x3 x4 x5 x6 x7 D W R O Y M U S G P := by
  have h0 := congrFun h (fun a => a.elim0)
  unfold fn fn_part1 fn_part2 at h0
  dsimp only at h0
  obtain ⟨s9, h10⟩ := and_one _ _ h0
  obtain ⟨s8, h9⟩ := and_one _ _ s9
  obtain ⟨s7, h8⟩ := and_one _ _ s8
  obtain ⟨s6, h7⟩ := and_one _ _ s7
  obtain ⟨s5, h6⟩ := and_one _ _ s6
  obtain ⟨s4, h5⟩ := and_one _ _ s5
  obtain ⟨s3, h4⟩ := and_one _ _ s4
  obtain ⟨s2, h3⟩ := and_one _ _ s3
  obtain ⟨h1, h2⟩ := and_one _ _ s2
  haveI : Subsingleton S_.Idx := ⟨fun a b => funext fun k => k.elim0⟩
  choose X hX using fun i => real_of_lt _ (Host.reduce_andi_all _ _ _ _ _ h1 i)
  choose M hM using fun i => real_of_lt _ (Host.reduce_andi_all _ _ _ _ _ h2 i)
  choose V hV using fun i => real_of_lt _ (Host.reduce_andi_all _ _ _ _ _ h3 i)
  choose U hU using fun i => real_of_lt _ (Host.reduce_andi_all _ _ _ _ _ h4 i)
  choose S hS using fun i => real_of_lt _ (Host.reduce_andi_all _ _ _ _ _ h5 i)
  choose P hP using fun i => real_of_lt _ (Host.reduce_andi_all _ _ _ _ _ h6 i)
  choose G hG using fun i => real_of_lt _ (Host.reduce_andi_all _ _ _ _ _ h7 i)
  choose W hW using fun i => real_of_lt _ (Host.reduce_andi_all _ _ _ _ _ h8 i)
  choose D hD using fun i => real_of_lt _ (Host.reduce_andi_all _ _ _ _ _ h9 i)
  choose O hO using fun i => real_of_lt _ (Host.reduce_andi_all _ _ _ _ _ h10 i)
  exact ⟨_, _, _, _, _, _, _, _, _, _, Cert.Ff1BwdRefIdeal.Hand.tables_of (X := grid2 (fun n k => X (ix2 n k))) (V := grid2 (fun n k => V (ix2 n k))) (M := grid2 (fun n k => M (ix2 n k))) (U := grid2 (fun (n : Fin 1) l => U (ix2 n l)) 0) (S := grid2 (fun (n : Fin 1) l => S (ix2 n l)) 0) (P := grid2 (fun (n : Fin 1) l => P (ix2 n l)) 0) (G := grid2 (fun (n : Fin 1) l => G (ix2 n l)) 0)
    (W := grid2 (fun n k => W (ix2 n k))) (D := grid2 (fun n k => D (ix2 n k))) (O := grid2 (fun n k => O (ix2 n k)))
    (fun n l => (hX _).trans (congrArg _ (grid2_at (fun n k => X (ix2 n k)) n l).symm)) (fun n l => (hM _).trans (congrArg _ (grid2_at (fun n k => M (ix2 n k)) n l).symm)) (fun k l => (hV _).trans (congrArg _ (grid2_at (fun n k => V (ix2 n k)) k l).symm))
    (fun l _ => Eq.trans (by pointwise []) ((hU (ix2 0 l)).trans (congrArg _ (grid2_at (fun (n : Fin 1) l => U (ix2 n l)) 0 l).symm)))
    (fun l _ => Eq.trans (by pointwise []) ((hS (ix2 0 l)).trans (congrArg _ (grid2_at (fun (n : Fin 1) l => S (ix2 n l)) 0 l).symm)))
    (fun l => (hP _).trans (congrArg _ (grid2_at (fun (n : Fin 1) l => P (ix2 n l)) 0 l).symm)) (fun l => (hG _).trans (congrArg _ (grid2_at (fun (n : Fin 1) l => G (ix2 n l)) 0 l).symm)) (fun l k => (hW _).trans (congrArg _ (grid2_at (fun n k => W (ix2 n k)) l k).symm))
    (fun n k => (hD _).trans (congrArg _ (grid2_at (fun n k => D (ix2 n k)) n k).symm)) (fun n l => (hO _).trans (congrArg _ (grid2_at (fun n k => O (ix2 n k)) n l).symm))⟩

end Cert.Pre_ff1_finite

end
-- ==== Proof.Ff1Final.lean ====
/-
  The arrays of the feed-forward's input are the reference's.
-/
module

public import proofs.«01_k».proof.Proof.Ff1Pre

@[expose] public section

set_option maxRecDepth 16384

noncomputable section

open Idealize.ShloMosaic Idealize.ShloMosaic.TcCoe Idealize.SL.Sem

namespace Cert.Ff1BwdIdeal.Hand

open Cert.Ff1BwdIdeal Cert.Ff1BwdIdeal.Gen Cert.RealKit

variable (m : (ℓ : Loc nD τ sig) → Buf (Elt Ideal) ℓ) (c : Dev nD)

set_option maxHeartbeats 2000000 in
open Cert.Ff1BwdRefIdeal.Read in
/-- The attentions' product, which the host computes. -/
theorem entryY : V m c main_v0 = val_main_v0 (F := Ideal) (m ((c : Thread nD τ).loc main_arg1)) (m ((c : Thread nD τ).loc main_arg2)) := by
  unfold_abbrev_sides
  after_reads_simp
  rfl

set_option maxHeartbeats 2000000 in
open Cert.Ff1BwdRefIdeal.Read in
/-- The hidden sum, which the host computes. -/
theorem entryR : V m c main_v16 = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold_abbrev_sides
  after_reads_simp
  rfl

variable {m c}

/-- What the grid points read, of the arguments. -/
theorem blocks {D W R O Y M : ℕ → ℕ → ℝ} {U S G P : ℕ → ℝ} (T : Cert.Ff1BwdRefIdeal.Hand.Tables (m ((c : Thread nD τ).loc main_arg0)) (m ((c : Thread nD τ).loc main_arg1)) (m ((c : Thread nD τ).loc main_arg8)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) D W R O Y M U S G P) : Blocks m c D W R O Y M U S G P where
  d t i k := (read_d m c t i k pt).trans ((entryD m c _ k).trans (T.d _ k))
  w t k l := (read_w m c t k l).trans ((entryW m c k l).trans (T.w l k))
  r t i l := (read_r m c t i l pt).trans ((congrFun (entryR m c) _).trans (T.r _ l))
  o t i l := (read_o m c t i l pt).trans ((congrFun (V_main_arg8 m c) _).trans (T.o _ l))
  y t i l := (read_y m c t i l pt).trans ((congrFun (entryY m c) _).trans (T.y _ l))
  x t i l := (read_m m c t i l pt).trans ((entryM m c _ l).trans (T.x _ l))
  u t l := (read_u m c t ⟨1024 * 2 + l.val, by omega⟩).trans ((congrFun (V_main_arg3 m c) _).trans (T.u l (by omega)))
  s t l := (read_u m c t ⟨1024 * 4 + l.val, by omega⟩).trans ((congrFun (V_main_arg3 m c) _).trans (T.s l (by omega)))
  g t l := (read_g m c t l).trans ((congrFun (V_main_arg5 m c) _).trans (T.g l))
  p t l := (read_p m c t l).trans ((congrFun (V_main_arg4 m c) _).trans (T.p l))

variable (m c) (h : Cert.Pre_ff1_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1)

include h

/-- Of finite arguments, the array of the hidden sum's gradient is the reference's. -/
theorem final9 : (dats m 0 c).arrAt 9 (cfgs 0).N = Cert.Ff1BwdRefIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨D, W, R, O, Y, M, U, S, G, P, T⟩ := Cert.Pre_ff1_finite.finite_of h
  exact array9 (blocks T) (Cert.Ff1BwdRefIdeal.Hand.dh_at T)

/-- Of finite arguments, the array of the gradient of the attentions' product is the reference's. -/
theorem final10 : (dats m 0 c).arrAt 10 (cfgs 0).N = Cert.Ff1BwdRefIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨D, W, R, O, Y, M, U, S, G, P, T⟩ := Cert.Pre_ff1_finite.finite_of h
  exact array10 (blocks T) (Cert.Ff1BwdRefIdeal.Hand.out_at T)

/-- Of finite arguments, the array of the shift's gradient is the reference's. -/
theorem final11 : (dats m 0 c).arrAt 11 (cfgs 0).N = Cert.Ff1BwdRefIdeal.Read.val_main_v46 (F := Ideal) (m ((c : Thread nD τ).loc main_arg6)) (m ((c : Thread nD τ).loc main_arg7)) := by
  obtain ⟨D, W, R, O, Y, M, U, S, G, P, T⟩ := Cert.Pre_ff1_finite.finite_of h
  exact array11 (blocks T) (Cert.Ff1BwdRefIdeal.Hand.sh_at T)

/-- Of finite arguments, the array of the scale's gradient is the reference's. -/
theorem final12 : (dats m 0 c).arrAt 12 (cfgs 0).N = Cert.Ff1BwdRefIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨D, W, R, O, Y, M, U, S, G, P, T⟩ := Cert.Pre_ff1_finite.finite_of h
  exact array12 (blocks T) (Cert.Ff1BwdRefIdeal.Hand.sc_at T)

/-- Of finite arguments, the array of the norm weight's gradient is the reference's. -/
theorem final13 : (dats m 0 c).arrAt 13 (cfgs 0).N = Cert.Ff1BwdRefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  obtain ⟨D, W, R, O, Y, M, U, S, G, P, T⟩ := Cert.Pre_ff1_finite.finite_of h
  exact array13 (blocks T) (Cert.Ff1BwdRefIdeal.Hand.g_at T)

/-- Of finite arguments, the array of the gate's gradient is the reference's. -/
theorem final14 : (dats m 0 c).arrAt 14 (cfgs 0).N = Cert.Ff1BwdRefIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨D, W, R, O, Y, M, U, S, G, P, T⟩ := Cert.Pre_ff1_finite.finite_of h
  exact array14 (blocks T) (Cert.Ff1BwdRefIdeal.Hand.gt_at T)

/-- Of finite arguments, the array of the first norm weight's gradient is the reference's. -/
theorem final15 : (dats m 0 c).arrAt 15 (cfgs 0).N = Cert.Ff1BwdRefIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨D, W, R, O, Y, M, U, S, G, P, T⟩ := Cert.Pre_ff1_finite.finite_of h
  exact array15 (blocks T) (Cert.Ff1BwdRefIdeal.Hand.gp_at T)

/-- Of finite arguments, the array of the output weight's gradient is the reference's. -/
theorem final16 : (dats m 0 c).arrAt 16 (cfgs 0).N = Cert.Ff1BwdRefIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨D, W, R, O, Y, M, U, S, G, P, T⟩ := Cert.Pre_ff1_finite.finite_of h
  exact array16 (blocks T) (Cert.Ff1BwdRefIdeal.Hand.weight_at T)

end Cert.Ff1BwdIdeal.Hand

end
-- ==== Proof.LossCases.lean ====
/-
  A block of the loss, half by half: what it leaves in its two results and in the three sums it carries.
-/
module

public import proofs.«01_k».proof.Proof.NormKit
public import proofs.«01_k».proof.Proof.Gen.LossIdeal.Frame

@[expose] public section

set_option maxRecDepth 16384

noncomputable section

open Idealize.ShloMosaic Idealize.ShloMosaic.TcCoe Idealize.SL.Sem

namespace Cert.LossIdeal.Hand

open Cert.LossIdeal Cert.LossIdeal.Gen Cert.NormKit

variable {F : FTy → Type} [FloatOps F]

section

variable (x0 : Vec F S256x4096 .bf16) (x1 : Vec F S4096x1024 .bf16) (x2 x3 : Vec F S256x1024 .f32) (x4 : Vec F S1x6144 .f32) (x5 : Vec F S1x1024 .f32) (p : Fin 2)

/-- How far half a block's output lies from its target. -/
def bRes : FVec F S128x1024 .f32 := k0_pay10 (cols x4 5) x5 (half x0 p) x1 (half x2 p) (half x3 p)

/-- What half a block leaves of the gradient of the output. -/
def bOut : FVec F S128x1024 .f32 := k0_pay12 (bRes x0 x1 x2 x3 x4 x5 p)

/-- What half a block leaves of the gradient of the last product. -/
def bDf : FVec F S128x1024 .bf16 := k0_pay15 (cols x4 5) x5 (k0_pay8 (half x0 p) x1) (k0_pay9 (half x0 p) x1) (bRes x0 x1 x2 x3 x4 x5 p)

/-- Half a block's share of the loss, added to what was there. -/
def bLoss (a : Vec F S1x1 .f32) : FVec F S1x1 .f32 := k0_pay11 (cols x4 5) x5 (half x0 p) x1 (half x2 p) (half x3 p) a

/-- Half a block's share of the gradient of the gate, added to what was there. -/
def bGate (a : Vec F S1x1024 .f32) : FVec F S1x1024 .f32 := k0_pay13 x5 (k0_pay9 (half x0 p) x1) (bRes x0 x1 x2 x3 x4 x5 p) a

/-- Half a block's share of the gradient of the norm's weight, added to what was there. -/
def bDg (a : Vec F S1x1024 .f32) : FVec F S1x1024 .f32 := k0_pay14 (cols x4 5) (k0_pay9 (half x0 p) x1) (bRes x0 x1 x2 x3 x4 x5 p) a

end

section congr

variable {v3 v3' v4 v4' : Vec F S1x1024 .f32} {v5 v5' : Vec F S128x4096 .bf16} {v7 v7' : Vec F S4096x1024 .bf16} {v20 v20' v26 v26' : Vec F S128x1024 .f32}

theorem loss_congr0 {a a' : Vec F S1x1 .f32} (h3 : v3 = v3') (h4 : v4 = v4') (h5 : v5 = v5') (h7 : v7 = v7') (h20 : v20 = v20') (h26 : v26 = v26') (ha : a = a') : k0_pay11 v3 v4 v5 v7 v20 v26 a = k0_pay11 v3' v4' v5' v7' v20' v26' a' := by
  subst h3 h4 h5 h7 h20 h26 ha; rfl

theorem loss_congr1 {a a' : Vec F S1x1 .f32} (h3 : v3 = v3') (h4 : v4 = v4') (h5 : v5 = v5') (h7 : v7 = v7') (h20 : v20 = v20') (h26 : v26 = v26') (ha : a = a') : k0_pay20 v3 v4 v5 v7 v20 v26 a = k0_pay11 v3' v4' v5' v7' v20' v26' a' := by
  subst h3 h4 h5 h7 h20 h26 ha; rfl

theorem gate_congr0 {a a' : Vec F S1x1024 .f32} (h3 : v3 = v3') (h4 : v4 = v4') (h5 : v5 = v5') (h7 : v7 = v7') (h20 : v20 = v20') (h26 : v26 = v26') (ha : a = a') : k0_pay13 v4 (k0_pay9 v5 v7) (k0_pay10 v3 v4 v5 v7 v20 v26) a = k0_pay13 v4' (k0_pay9 v5' v7') (k0_pay10 v3' v4' v5' v7' v20' v26') a' := by
  subst h3 h4 h5 h7 h20 h26 ha; rfl

theorem gate_congr1 {a a' : Vec F S1x1024 .f32} (h3 : v3 = v3') (h4 : v4 = v4') (h5 : v5 = v5') (h7 : v7 = v7') (h20 : v20 = v20') (h26 : v26 = v26') (ha : a = a') : k0_pay1 v4 (k0_pay18 v5 v7) (k0_pay21 v3 v4 v5 v7 v20 v26) a = k0_pay13 v4' (k0_pay9 v5' v7') (k0_pay10 v3' v4' v5' v7' v20' v26') a' := by
  subst h3 h4 h5 h7 h20 h26 ha; rfl

theorem dg_congr0 {a a' : Vec F S1x1024 .f32} (h3 : v3 = v3') (h4 : v4 = v4') (h5 : v5 = v5') (h7 : v7 = v7') (h20 : v20 = v20') (h26 : v26 = v26') (ha : a = a') : k0_pay14 v3 (k0_pay9 v5 v7) (k0_pay10 v3 v4 v5 v7 v20 v26) a = k0_pay14 v3' (k0_pay9 v5' v7') (k0_pay10 v3' v4' v5' v7' v20' v26') a' := by
  subst h3 h4 h5 h7 h20 h26 ha; rfl

theorem dg_congr1 {a a' : Vec F S1x1024 .f32} (h3 : v3 = v3') (h4 : v4 = v4') (h5 : v5 = v5') (h7 : v7 = v7') (h20 : v20 = v20') (h26 : v26 = v26') (ha : a = a') : k0_pay2 v3 (k0_pay18 v5 v7) (k0_pay21 v3 v4 v5 v7 v20 v26) a = k0_pay14 v3' (k0_pay9 v5' v7') (k0_pay10 v3' v4' v5' v7' v20' v26') a' := by
  subst h3 h4 h5 h7 h20 h26 ha; rfl

theorem out_congr0 (h3 : v3 = v3') (h4 : v4 = v4') (h5 : v5 = v5') (h7 : v7 = v7') (h20 : v20 = v20') (h26 : v26 = v26') : k0_pay12 (k0_pay10 v3 v4 v5 v7 v20 v26) = k0_pay12 (k0_pay10 v3' v4' v5' v7' v20' v26') := by
  subst h3 h4 h5 h7 h20 h26; rfl

theorem out_congr1 (h3 : v3 = v3') (h4 : v4 = v4') (h5 : v5 = v5') (h7 : v7 = v7') (h20 : v20 = v20') (h26 : v26 = v26') : k0_pay21 v3 v4 v5 v7 v20 v26 = k0_pay12 (k0_pay10 v3' v4' v5' v7' v20' v26') := by
  subst h3 h4 h5 h7 h20 h26; rfl

theorem df_congr0 (h3 : v3 = v3') (h4 : v4 = v4') (h5 : v5 = v5') (h7 : v7 = v7') (h20 : v20 = v20') (h26 : v26 = v26') : k0_pay15 v3 v4 (k0_pay8 v5 v7) (k0_pay9 v5 v7) (k0_pay10 v3 v4 v5 v7 v20 v26) = k0_pay15 v3' v4' (k0_pay8 v5' v7') (k0_pay9 v5' v7') (k0_pay10 v3' v4' v5' v7' v20' v26') := by
  subst h3 h4 h5 h7 h20 h26; rfl

theorem df_congr1 (h3 : v3 = v3') (h4 : v4 = v4') (h5 : v5 = v5') (h7 : v7 = v7') (h20 : v20 = v20') (h26 : v26 = v26') : k0_pay3 v3 v4 (k0_pay17 v5 v7) (k0_pay18 v5 v7) (k0_pay21 v3 v4 v5 v7 v20 v26) = k0_pay15 v3' v4' (k0_pay8 v5' v7') (k0_pay9 v5' v7') (k0_pay10 v3' v4' v5' v7' v20' v26') := by
  subst h3 h4 h5 h7 h20 h26; rfl

end congr

variable (c : Dev nD) (i : grid0.Coords)
  (arg1 : Memref sig .tc .vmem S256x4096 .bf16) (harg1 : arg1.IsWhole) (arg2 : Memref sig .tc .vmem S4096x1024 .bf16) (harg2 : arg2.IsWhole) (arg3 : Memref sig .tc .vmem S256x1024 .f32) (harg3 : arg3.IsWhole)
   (arg4 : Memref sig .tc .vmem S256x1024 .f32) (harg4 : arg4.IsWhole) (arg5 : Memref sig .tc .vmem S1x6144 .f32) (harg5 : arg5.IsWhole) (arg6 : Memref sig .tc .vmem S1x1024 .f32) (harg6 : arg6.IsWhole)
   (arg7 : Memref sig .tc .vmem S256x1024 .f32) (harg7 : arg7.IsWhole) (arg8 : Memref sig .tc .vmem S256x1024 .bf16) (harg8 : arg8.IsWhole) (arg9 : Memref sig .tc .vmem S1x1 .f32) (harg9 : arg9.IsWhole)
   (arg10 : Memref sig .tc .vmem S1x1024 .f32) (harg10 : arg10.IsWhole) (arg11 : Memref sig .tc .vmem S1x1024 .f32) (harg11 : arg11.IsWhole)
  (x0 : Vec F S256x4096 .bf16) (x1 : Vec F S4096x1024 .bf16) (x2 x3 : Vec F S256x1024 .f32) (x4 : Vec F S1x6144 .f32) (x5 : Vec F S1x1024 .f32)

section first

variable (hc0 : cond0_0 i)

theorem loss_A : out0_A_8 c i arg1 harg1 arg2 harg2 arg3 harg3 arg4 harg4 arg5 harg5 arg6 harg6 arg7 harg7 arg8 harg8 arg9 harg9 arg10 harg10 arg11 harg11 hc0 x0 x1 x2 x3 x4 x5 = bLoss x0 x1 x2 x3 x4 x5 1 (bLoss x0 x1 x2 x3 x4 x5 0 k0_pay4) := by
  unfold out0_A_8 kernelRun0_A
  dsimp only
  refine (View.read_writes_full _ _ _ _ _).trans ?_
  exact loss_congr1 (read_cols arg5 harg5 x4 5 _ rfl _) (read_all arg6 harg6 x5 _ _) (read_half arg1 harg1 x0 1 _ rfl _) (read_all arg2 harg2 x1 _ _) (read_half arg3 harg3 x2 1 _ rfl _) (read_half arg4 harg4 x3 1 _ rfl _) ((View.readCov_full _ _ _ _ _).trans (loss_congr0 (read_cols arg5 harg5 x4 5 _ rfl _) (read_all arg6 harg6 x5 _ _) (read_half arg1 harg1 x0 0 _ rfl _) (read_all arg2 harg2 x1 _ _) (read_half arg3 harg3 x2 0 _ rfl _) (read_half arg4 harg4 x3 0 _ rfl _) (View.readCov_full _ _ _ _ _)))

theorem gate_A : out0_A_9 c i arg1 harg1 arg2 harg2 arg3 harg3 arg4 harg4 arg5 harg5 arg6 harg6 arg7 harg7 arg8 harg8 arg9 harg9 arg10 harg10 arg11 harg11 hc0 x0 x1 x2 x3 x4 x5 = bGate x0 x1 x2 x3 x4 x5 1 (bGate x0 x1 x2 x3 x4 x5 0 k0_pay5) := by
  unfold out0_A_9 kernelRun0_A
  dsimp only
  refine (View.read_writes_full _ _ _ _ _).trans ?_
  exact gate_congr1 (read_cols arg5 harg5 x4 5 _ rfl _) (read_all arg6 harg6 x5 _ _) (read_half arg1 harg1 x0 1 _ rfl _) (read_all arg2 harg2 x1 _ _) (read_half arg3 harg3 x2 1 _ rfl _) (read_half arg4 harg4 x3 1 _ rfl _) ((View.readCov_full _ _ _ _ _).trans (gate_congr0 (read_cols arg5 harg5 x4 5 _ rfl _) (read_all arg6 harg6 x5 _ _) (read_half arg1 harg1 x0 0 _ rfl _) (read_all arg2 harg2 x1 _ _) (read_half arg3 harg3 x2 0 _ rfl _) (read_half arg4 harg4 x3 0 _ rfl _) (View.readCov_full _ _ _ _ _)))

theorem dg_A : out0_A_10 c i arg1 harg1 arg2 harg2 arg3 harg3 arg4 harg4 arg5 harg5 arg6 harg6 arg7 harg7 arg8 harg8 arg9 harg9 arg10 harg10 arg11 harg11 hc0 x0 x1 x2 x3 x4 x5 = bDg x0 x1 x2 x3 x4 x5 1 (bDg x0 x1 x2 x3 x4 x5 0 k0_pay6) := by
  unfold out0_A_10 kernelRun0_A
  dsimp only
  refine (View.read_writes_full _ _ _ _ _).trans ?_
  exact dg_congr1 (read_cols arg5 harg5 x4 5 _ rfl _) (read_all arg6 harg6 x5 _ _) (read_half arg1 harg1 x0 1 _ rfl _) (read_all arg2 harg2 x1 _ _) (read_half arg3 harg3 x2 1 _ rfl _) (read_half arg4 harg4 x3 1 _ rfl _) ((View.readCov_full _ _ _ _ _).trans (dg_congr0 (read_cols arg5 harg5 x4 5 _ rfl _) (read_all arg6 harg6 x5 _ _) (read_half arg1 harg1 x0 0 _ rfl _) (read_all arg2 harg2 x1 _ _) (read_half arg3 harg3 x2 0 _ rfl _) (read_half arg4 harg4 x3 0 _ rfl _) (View.readCov_full _ _ _ _ _)))

theorem out_A (p : Fin 2) (r : Fin 128) (l : Fin 1024) : out0_A_6 c i arg1 harg1 arg2 harg2 arg3 harg3 arg4 harg4 arg5 harg5 arg6 harg6 arg7 harg7 arg8 harg8 arg9 harg9 arg10 harg10 arg11 harg11 hc0 x0 x1 x2 x3 x4 x5 (ix2 ⟨128 * p.val + r.val, by omega⟩ l) = bOut x0 x1 x2 x3 x4 x5 p (ix2 r l) := by
  unfold out0_A_6 kernelRun0_A
  dsimp only
  refine out_half (F := F) (e := .f32) _ (bOut x0 x1 x2 x3 x4 x5) ?_ ?_ p _ _ _ r l _
  · exact out_congr1 (read_cols arg5 harg5 x4 5 _ rfl _) (read_all arg6 harg6 x5 _ _) (read_half arg1 harg1 x0 1 _ rfl _) (read_all arg2 harg2 x1 _ _) (read_half arg3 harg3 x2 1 _ rfl _) (read_half arg4 harg4 x3 1 _ rfl _)
  · exact out_congr0 (read_cols arg5 harg5 x4 5 _ rfl _) (read_all arg6 harg6 x5 _ _) (read_half arg1 harg1 x0 0 _ rfl _) (read_all arg2 harg2 x1 _ _) (read_half arg3 harg3 x2 0 _ rfl _) (read_half arg4 harg4 x3 0 _ rfl _)

theorem df_A (p : Fin 2) (r : Fin 128) (l : Fin 1024) : out0_A_7 c i arg1 harg1 arg2 harg2 arg3 harg3 arg4 harg4 arg5 harg5 arg6 harg6 arg7 harg7 arg8 harg8 arg9 harg9 arg10 harg10 arg11 harg11 hc0 x0 x1 x2 x3 x4 x5 (ix2 ⟨128 * p.val + r.val, by omega⟩ l) = bDf x0 x1 x2 x3 x4 x5 p (ix2 r l) := by
  unfold out0_A_7 kernelRun0_A
  dsimp only
  refine out_half (F := F) (e := .bf16) _ (bDf x0 x1 x2 x3 x4 x5) ?_ ?_ p _ _ _ r l _
  · exact df_congr1 (read_cols arg5 harg5 x4 5 _ rfl _) (read_all arg6 harg6 x5 _ _) (read_half arg1 harg1 x0 1 _ rfl _) (read_all arg2 harg2 x1 _ _) (read_half arg3 harg3 x2 1 _ rfl _) (read_half arg4 harg4 x3 1 _ rfl _)
  · exact df_congr0 (read_cols arg5 harg5 x4 5 _ rfl _) (read_all arg6 harg6 x5 _ _) (read_half arg1 harg1 x0 0 _ rfl _) (read_all arg2 harg2 x1 _ _) (read_half arg3 harg3 x2 0 _ rfl _) (read_half arg4 harg4 x3 0 _ rfl _)

end first

section later

variable (hc0 : ¬cond0_0 i) (xo8 : Vec F S1x1 .f32) (xo9 xo10 : Vec F S1x1024 .f32)

theorem loss_B : out0_B_8 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = bLoss x0 x1 x2 x3 x4 x5 1 (bLoss x0 x1 x2 x3 x4 x5 0 xo8) := by
  unfold out0_B_8 kernelRun0_B
  dsimp only
  refine (View.read_writes_full _ _ _ _ _).trans ?_
  exact loss_congr1 (read_cols arg5 harg5 x4 5 _ rfl _) (read_all arg6 harg6 x5 _ _) (read_half arg1 harg1 x0 1 _ rfl _) (read_all arg2 harg2 x1 _ _) (read_half arg3 harg3 x2 1 _ rfl _) (read_half arg4 harg4 x3 1 _ rfl _) ((View.readCov_full _ _ _ _ _).trans (loss_congr0 (read_cols arg5 harg5 x4 5 _ rfl _) (read_all arg6 harg6 x5 _ _) (read_half arg1 harg1 x0 0 _ rfl _) (read_all arg2 harg2 x1 _ _) (read_half arg3 harg3 x2 0 _ rfl _) (read_half arg4 harg4 x3 0 _ rfl _) (read_all arg9 harg9 xo8 _ _)))

theorem gate_B : out0_B_9 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = bGate x0 x1 x2 x3 x4 x5 1 (bGate x0 x1 x2 x3 x4 x5 0 xo9) := by
  unfold out0_B_9 kernelRun0_B
  dsimp only
  refine (View.read_writes_full _ _ _ _ _).trans ?_
  exact gate_congr1 (read_cols arg5 harg5 x4 5 _ rfl _) (read_all arg6 harg6 x5 _ _) (read_half arg1 harg1 x0 1 _ rfl _) (read_all arg2 harg2 x1 _ _) (read_half arg3 harg3 x2 1 _ rfl _) (read_half arg4 harg4 x3 1 _ rfl _) ((View.readCov_full _ _ _ _ _).trans (gate_congr0 (read_cols arg5 harg5 x4 5 _ rfl _) (read_all arg6 harg6 x5 _ _) (read_half arg1 harg1 x0 0 _ rfl _) (read_all arg2 harg2 x1 _ _) (read_half arg3 harg3 x2 0 _ rfl _) (read_half arg4 harg4 x3 0 _ rfl _) (read_all arg10 harg10 xo9 _ _)))

theorem dg_B : out0_B_10 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 = bDg x0 x1 x2 x3 x4 x5 1 (bDg x0 x1 x2 x3 x4 x5 0 xo10) := by
  unfold out0_B_10 kernelRun0_B
  dsimp only
  refine (View.read_writes_full _ _ _ _ _).trans ?_
  exact dg_congr1 (read_cols arg5 harg5 x4 5 _ rfl _) (read_all arg6 harg6 x5 _ _) (read_half arg1 harg1 x0 1 _ rfl _) (read_all arg2 harg2 x1 _ _) (read_half arg3 harg3 x2 1 _ rfl _) (read_half arg4 harg4 x3 1 _ rfl _) ((View.readCov_full _ _ _ _ _).trans (dg_congr0 (read_cols arg5 harg5 x4 5 _ rfl _) (read_all arg6 harg6 x5 _ _) (read_half arg1 harg1 x0 0 _ rfl _) (read_all arg2 harg2 x1 _ _) (read_half arg3 harg3 x2 0 _ rfl _) (read_half arg4 harg4 x3 0 _ rfl _) (read_all arg11 harg11 xo10 _ _)))

theorem out_B (p : Fin 2) (r : Fin 128) (l : Fin 1024) : out0_B_6 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 (ix2 ⟨128 * p.val + r.val, by omega⟩ l) = bOut x0 x1 x2 x3 x4 x5 p (ix2 r l) := by
  unfold out0_B_6 kernelRun0_B
  dsimp only
  refine out_half (F := F) (e := .f32) _ (bOut x0 x1 x2 x3 x4 x5) ?_ ?_ p _ _ _ r l _
  · exact out_congr1 (read_cols arg5 harg5 x4 5 _ rfl _) (read_all arg6 harg6 x5 _ _) (read_half arg1 harg1 x0 1 _ rfl _) (read_all arg2 harg2 x1 _ _) (read_half arg3 harg3 x2 1 _ rfl _) (read_half arg4 harg4 x3 1 _ rfl _)
  · exact out_congr0 (read_cols arg5 harg5 x4 5 _ rfl _) (read_all arg6 harg6 x5 _ _) (read_half arg1 harg1 x0 0 _ rfl _) (read_all arg2 harg2 x1 _ _) (read_half arg3 harg3 x2 0 _ rfl _) (read_half arg4 harg4 x3 0 _ rfl _)

theorem df_B (p : Fin 2) (r : Fin 128) (l : Fin 1024) : out0_B_7 c i arg1 harg1 arg2 harg2 arg3 harg3 arg4 harg4 arg5 harg5 arg6 harg6 arg7 harg7 arg8 harg8 arg9 harg9 arg10 harg10 arg11 harg11 hc0 x0 x1 x2 x3 x4 x5 xo8 xo9 xo10 (ix2 ⟨128 * p.val + r.val, by omega⟩ l) = bDf x0 x1 x2 x3 x4 x5 p (ix2 r l) := by
  unfold out0_B_7 kernelRun0_B
  dsimp only
  refine out_half (F := F) (e := .bf16) _ (bDf x0 x1 x2 x3 x4 x5) ?_ ?_ p _ _ _ r l _
  · exact df_congr1 (read_cols arg5 harg5 x4 5 _ rfl _) (read_all arg6 harg6 x5 _ _) (read_half arg1 harg1 x0 1 _ rfl _) (read_all arg2 harg2 x1 _ _) (read_half arg3 harg3 x2 1 _ rfl _) (read_half arg4 harg4 x3 1 _ rfl _)
  · exact df_congr0 (read_cols arg5 harg5 x4 5 _ rfl _) (read_all arg6 harg6 x5 _ _) (read_half arg1 harg1 x0 0 _ rfl _) (read_all arg2 harg2 x1 _ _) (read_half arg3 harg3 x2 0 _ rfl _) (read_half arg4 harg4 x3 0 _ rfl _)

end later

end Cert.LossIdeal.Hand

end
-- ==== Proof.LossReal.lean ====
/-
  The operations of half a block of the loss, element by element, and what a grid point reads.
-/
module

public import proofs.«01_k».proof.Proof.LossCases
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.LossIdeal.Hand

open Cert.LossIdeal Cert.LossIdeal.Gen Cert.NormKit Cert.RealKit

/-! ## The operations of half a block, element by element -/

section ops

variable (a : FVec Ideal S128x4096 .bf16) (w : FVec Ideal S4096x1024 .bf16) (u g : FVec Ideal S1x1024 .f32) (h y n e : FVec Ideal S128x1024 .f32) (q : FVec Ideal S128x1 .f32) (s : FVec Ideal S1x1024 .f32) (z : FVec Ideal S1x1 .f32) (r : Fin 128) (l : Fin 1024)

theorem f_at : k0_pay7 (F := Ideal) a w (ix2 r l) = ∑ k : Fin 4096, a (ix2 r k) * w (ix2 k l) := by
  pointwise [k0_pay7]

theorem rs_at : k0_pay8 (F := Ideal) a w (ix2 r 0) = Ideal.rsqrt ((∑ j : Fin 1024, k0_pay7 (F := Ideal) a w (ix2 r j) * k0_pay7 (F := Ideal) a w (ix2 r j)) * Ideal.ofBits .f32 0x3A800000#32 + Ideal.ofBits .f32 0x358637BD#32) := by
  pointwise [k0_pay8]

theorem nm_at : k0_pay9 (F := Ideal) a w (ix2 r l) = k0_pay7 (F := Ideal) a w (ix2 r l) * k0_pay8 (F := Ideal) a w (ix2 r 0) := by
  pointwise [k0_pay9]

theorem res_at : k0_pay10 (F := Ideal) u g a w h y (ix2 r l) = h (ix2 r l) + u (ix2 0 l) * (k0_pay9 (F := Ideal) a w (ix2 r l) * g (ix2 0 l)) - y (ix2 r l) := by
  pointwise [k0_pay10]

theorem loss_at : k0_pay11 (F := Ideal) u g a w h y z (ix2 0 0) = z (ix2 0 0)
    + ∑ i : Fin 128, ∑ j : Fin 1024, k0_pay10 (F := Ideal) u g a w h y (ix2 i j) * k0_pay10 (F := Ideal) u g a w h y (ix2 i j) := by
  pointwise [k0_pay11]

theorem out_at : k0_pay12 (F := Ideal) e (ix2 r l) = e (ix2 r l) * Ideal.ofBits .f32 0x3A800000#32 := by
  pointwise [k0_pay12]

theorem gate_at : k0_pay13 (F := Ideal) g n e s (ix2 0 l) = s (ix2 0 l) + ∑ i : Fin 128, k0_pay12 (F := Ideal) e (ix2 i l) * (n (ix2 i l) * g (ix2 0 l)) := by
  pointwise [k0_pay13]

theorem dg_at : k0_pay14 (F := Ideal) u n e s (ix2 0 l) = s (ix2 0 l) + ∑ i : Fin 128, k0_pay12 (F := Ideal) e (ix2 i l) * u (ix2 0 l) * n (ix2 i l) := by
  pointwise [k0_pay14]

theorem df_at : k0_pay15 (F := Ideal) u g q n e (ix2 r l) = q (ix2 r 0) * (k0_pay12 (F := Ideal) e (ix2 r l) * u (ix2 0 l) * g (ix2 0 l)
      - n (ix2 r l) * ((∑ j : Fin 1024, k0_pay12 (F := Ideal) e (ix2 r j) * u (ix2 0 j) * g (ix2 0 j) * n (ix2 r j)) * Ideal.ofBits .f32 0x3A800000#32)) := by
  pointwise [k0_pay15]

end ops

/-! ## The reads of a grid point -/

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![0, 0] ∧ win0_9.index t = ![0, 0] ∧ win0_10.index t = ![0, 0] :=
  (by decide +kernel : ∀ t : Fin grid0.N, _)

theorem pt {t : Fin cfg0.N} : t.val < 8 := lt_of_lt_of_eq t.isLt (show cfg0.N = 8 from N_0)

section reads

variable (m : (ℓ : Loc nD τ sig) → Buf (Elt Ideal) ℓ) (c : Dev nD)

set_option maxHeartbeats 400000 in
theorem read_a (t : Fin cfg0.N) (i : Fin 256) (l : Fin 4096) (hN : t.val < 8) : (iblk m c 0 t : Vec Ideal S256x4096 .bf16) (ix2 i l)
    = (V m c main_v0 : FVec Ideal S2048x4096 .bf16) (ix2 ⟨256 * t.val + i, by omega⟩ l) := by
  blk_point [iblk, idx t]

set_option maxHeartbeats 400000 in
theorem read_w (t : Fin cfg0.N) (k : Fin 4096) (l : Fin 1024) : (iblk m c 1 t : Vec Ideal S4096x1024 .bf16) (ix2 k l) = (V m c main_v1 : FVec Ideal S4096x1024 .bf16) (ix2 k l) := by
  blk_point [iblk, idx t]

set_option maxHeartbeats 400000 in
theorem read_h (t : Fin cfg0.N) (i : Fin 256) (l : Fin 1024) (hN : t.val < 8) : (iblk m c 2 t : Vec Ideal S256x1024 .f32) (ix2 i l)
    = (V m c main_arg2 : FVec Ideal S2048x1024 .f32) (ix2 ⟨256 * t.val + i, by omega⟩ l) := by
  blk_point [iblk, idx t]

set_option maxHeartbeats 400000 in
theorem read_y (t : Fin cfg0.N) (i : Fin 256) (l : Fin 1024) (hN : t.val < 8) : (iblk m c 3 t : Vec Ideal S256x1024 .f32) (ix2 i l)
    = (V m c main_arg3 : FVec Ideal S2048x1024 .f32) (ix2 ⟨256 * t.val + i, by omega⟩ l) := by
  blk_point [iblk, idx t]

set_option maxHeartbeats 400000 in
theorem read_u (t : Fin cfg0.N) (l : Fin 6144) : (iblk m c 4 t : Vec Ideal S1x6144 .f32) (ix2 0 l) = (V m c main_arg4 : FVec Ideal S1x6144 .f32) (ix2 0 l) := by
  blk_point [iblk, idx t]

set_option maxHeartbeats 400000 in
theorem read_g (t : Fin cfg0.N) (l : Fin 1024) : (iblk m c 5 t : Vec Ideal S1x1024 .f32) (ix2 0 l) = (V m c main_arg5 : FVec Ideal S1x1024 .f32) (ix2 0 l) := by
  blk_point [iblk, idx t]

set_option maxHeartbeats 2000000 in
theorem entryA (n : Fin 2048) (k : Fin 4096) : (V m c main_v0 : FVec Ideal S2048x4096 .bf16) (ix2 n k) = (m (c.tc.loc main_arg0) : FVec Ideal S2048x4096 .f32) (ix2 n k) := by
  unfold_abbrev_sides
  after_reads_simp
  rfl

set_option maxHeartbeats 2000000 in
theorem entryW (k : Fin 4096) (l : Fin 1024) : (V m c main_v1 : FVec Ideal S4096x1024 .bf16) (ix2 k l) = (m (c.tc.loc main_arg1) : FVec Ideal S4096x1024 .f32) (ix2 k l) := by
  unfold_abbrev_sides
  after_reads_simp
  rfl

end reads

end Cert.LossIdeal.Hand

end
-- ==== Proof.LossGrid.lean ====
/-
  The walk of the loss over the reals.
-/
module

public import proofs.«01_k».proof.Proof.LossReal

@[expose] public section

set_option maxRecDepth 16384

noncomputable section

open Idealize.ShloMosaic Idealize.ShloMosaic.TcCoe Idealize.SL.Sem

namespace Cert.LossIdeal.Hand

open Cert.LossIdeal Cert.LossIdeal.Gen Cert.NormKit Cert.RealKit

/-! ## The tables -/

/-- The last product. -/
def ff (A W : ℕ → ℕ → ℝ) (n l : ℕ) : ℝ := ∑ k : Fin 4096, A n k * W l k

/-- How far the output lies from its target. -/
def res (A W H Y : ℕ → ℕ → ℝ) (G K : ℕ → ℝ) (n l : ℕ) : ℝ := H n l + G l * (nm (ff A W n) l * K l) - Y n l

/-- The gradient of the output. -/
def dout (A W H Y : ℕ → ℕ → ℝ) (G K : ℕ → ℝ) (n l : ℕ) : ℝ := res A W H Y G K n l * (1 / 1024)

/-- The gradient of the normalised product. -/
def dn (A W H Y : ℕ → ℕ → ℝ) (G K : ℕ → ℝ) (n l : ℕ) : ℝ := dout A W H Y G K n l * G l * K l

/-- The gradient of the product. -/
def dff (A W H Y : ℕ → ℕ → ℝ) (G K : ℕ → ℝ) (n l : ℕ) : ℝ := back (ff A W n) (dn A W H Y G K n) l

variable (m : (ℓ : Loc nD τ sig) → Buf (Elt Ideal) ℓ) (c : Dev nD)

/-- The argument blocks of every point are finite. -/
structure Blocks (A W H Y : ℕ → ℕ → ℝ) (G K : ℕ → ℝ) : Prop where
  a : ∀ (t : Fin cfg0.N) (i : Fin 256) (k : Fin 4096), (iblk m c 0 t : Vec Ideal S256x4096 .bf16) (ix2 i k) = (A (256 * t.val + i) k : EReal)
  w : ∀ (t : Fin cfg0.N) (k : Fin 4096) (l : Fin 1024), (iblk m c 1 t : Vec Ideal S4096x1024 .bf16) (ix2 k l) = (W l k : EReal)
  h : ∀ (t : Fin cfg0.N) (i : Fin 256) (l : Fin 1024), (iblk m c 2 t : Vec Ideal S256x1024 .f32) (ix2 i l) = (H (256 * t.val + i) l : EReal)
  y : ∀ (t : Fin cfg0.N) (i : Fin 256) (l : Fin 1024), (iblk m c 3 t : Vec Ideal S256x1024 .f32) (ix2 i l) = (Y (256 * t.val + i) l : EReal)
  u : ∀ (t : Fin cfg0.N) (l : Fin 1024), cols (iblk m c 4 t : Vec Ideal S1x6144 .f32) 5 (ix2 0 l) = (G l : EReal)
  g : ∀ (t : Fin cfg0.N) (l : Fin 1024), (iblk m c 5 t : Vec Ideal S1x1024 .f32) (ix2 0 l) = (K l : EReal)

variable {m c} {A W H Y : ℕ → ℕ → ℝ} {G K : ℕ → ℝ} (B : Blocks m c A W H Y G K) (t : Fin cfg0.N) (p : Fin 2)

/-- The row of an index within a half. -/
def row (t : ℕ) (p : Fin 2) (r : ℕ) : ℕ := 256 * t + (128 * p.val + r)

include B in
theorem f_real (r : Fin 128) (l : Fin 1024) : k0_pay7 (F := Ideal) (half (iblk m c 0 t : Vec Ideal S256x4096 .bf16) p) (iblk m c 1 t : Vec Ideal S4096x1024 .bf16) (ix2 r l) = (ff A W (row t p r) l : EReal) := by
  rw [f_at]
  unfold ff
  rw [coe_sum]
  refine Finset.sum_congr rfl fun k _ => ?_
  rw [EReal.coe_mul]
  exact congrArg₂ (fun a b : EReal => a * b) (B.a t _ k) (B.w t k l)

include B in
theorem rs_real (r : Fin 128) : k0_pay8 (F := Ideal) (half (iblk m c 0 t : Vec Ideal S256x4096 .bf16) p) (iblk m c 1 t : Vec Ideal S4096x1024 .bf16) (ix2 r 0) = (rs (ff A W (row t p r)) : EReal) := by
  rw [rs_at, bits_thousandth, bits_eps]
  simp only [f_real B t p, ← EReal.coe_mul, ← coe_sum]
  rw [EReal.coe_mul]
  exact rs_mul _

include B in
theorem nm_real (r : Fin 128) (l : Fin 1024) : k0_pay9 (F := Ideal) (half (iblk m c 0 t : Vec Ideal S256x4096 .bf16) p) (iblk m c 1 t : Vec Ideal S4096x1024 .bf16) (ix2 r l) = (nm (ff A W (row t p r)) l : EReal) := by
  rw [nm_at, f_real B, rs_real B, ← EReal.coe_mul]
  rfl

include B in
theorem res_real (r : Fin 128) (l : Fin 1024) : bRes (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S1x6144 .f32) (iblk m c 5 t : Vec Ideal S1x1024 .f32) p (ix2 r l) = (res A W H Y G K (row t p r) l : EReal) := by
  unfold bRes
  rw [res_at, nm_real B, B.u, B.g, show half (iblk m c 2 t : Vec Ideal S256x1024 .f32) p (ix2 r l) = (H (row t p r) l : EReal) from B.h t _ l, show half (iblk m c 3 t : Vec Ideal S256x1024 .f32) p (ix2 r l) = (Y (row t p r) l : EReal) from B.y t _ l,
    ← EReal.coe_mul, ← EReal.coe_mul, ← EReal.coe_add, ← EReal.coe_sub]
  rfl

include B in
theorem out_real (r : Fin 128) (l : Fin 1024) : bOut (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S1x6144 .f32) (iblk m c 5 t : Vec Ideal S1x1024 .f32) p (ix2 r l) = (dout A W H Y G K (row t p r) l : EReal) := by
  unfold bOut
  rw [out_at, res_real B, bits_thousandth, ← EReal.coe_mul]
  rfl

include B in
theorem loss_real (a : Vec Ideal S1x1 .f32) : bLoss (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S1x6144 .f32) (iblk m c 5 t : Vec Ideal S1x1024 .f32) p a (ix2 0 0) = a (ix2 0 0) + ((∑ i : Fin 128, ∑ j : Fin 1024, res A W H Y G K (row t p i) j * res A W H Y G K (row t p i) j : ℝ) : EReal) := by
  have e : ∀ (r : Fin 128) (l : Fin 1024), k0_pay10 (F := Ideal) (cols (iblk m c 4 t : Vec Ideal S1x6144 .f32) 5) (iblk m c 5 t : Vec Ideal S1x1024 .f32) (half (iblk m c 0 t : Vec Ideal S256x4096 .bf16) p) (iblk m c 1 t : Vec Ideal S4096x1024 .bf16) (half (iblk m c 2 t : Vec Ideal S256x1024 .f32) p) (half (iblk m c 3 t : Vec Ideal S256x1024 .f32) p) (ix2 r l) = (res A W H Y G K (row t p r) l : EReal) := fun r l => res_real B t p r l
  unfold bLoss
  rw [loss_at]
  simp only [e, ← EReal.coe_mul, ← coe_sum]

include B in
theorem gate_real (a : Vec Ideal S1x1024 .f32) (l : Fin 1024) : bGate (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S1x6144 .f32) (iblk m c 5 t : Vec Ideal S1x1024 .f32) p a (ix2 0 l) = a (ix2 0 l) + ((∑ i : Fin 128, dout A W H Y G K (row t p i) l * (nm (ff A W (row t p i)) l * K l) : ℝ) : EReal) := by
  have e : ∀ (r : Fin 128) (l : Fin 1024), k0_pay12 (F := Ideal) (bRes (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S1x6144 .f32) (iblk m c 5 t : Vec Ideal S1x1024 .f32) p) (ix2 r l) = (dout A W H Y G K (row t p r) l : EReal) := fun r l => out_real B t p r l
  unfold bGate
  rw [gate_at]
  simp only [e, nm_real B t p, B.g t, ← EReal.coe_mul, ← coe_sum]

include B in
theorem dg_real (a : Vec Ideal S1x1024 .f32) (l : Fin 1024) : bDg (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S1x6144 .f32) (iblk m c 5 t : Vec Ideal S1x1024 .f32) p a (ix2 0 l) = a (ix2 0 l) + ((∑ i : Fin 128, dout A W H Y G K (row t p i) l * G l * nm (ff A W (row t p i)) l : ℝ) : EReal) := by
  have e : ∀ (r : Fin 128) (l : Fin 1024), k0_pay12 (F := Ideal) (bRes (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S1x6144 .f32) (iblk m c 5 t : Vec Ideal S1x1024 .f32) p) (ix2 r l) = (dout A W H Y G K (row t p r) l : EReal) := fun r l => out_real B t p r l
  unfold bDg
  rw [dg_at]
  simp only [e, nm_real B t p, B.u t, ← EReal.coe_mul, ← coe_sum]

include B in
theorem df_real (r : Fin 128) (l : Fin 1024) : bDf (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S1x6144 .f32) (iblk m c 5 t : Vec Ideal S1x1024 .f32) p (ix2 r l) = (dff A W H Y G K (row t p r) l : EReal) := by
  have e : ∀ (r : Fin 128) (l : Fin 1024), k0_pay12 (F := Ideal) (bRes (iblk m c 0 t : Vec Ideal S256x4096 .bf16) (iblk m c 1 t : Vec Ideal S4096x1024 .bf16) (iblk m c 2 t : Vec Ideal S256x1024 .f32) (iblk m c 3 t : Vec Ideal S256x1024 .f32) (iblk m c 4 t : Vec Ideal S1x6144 .f32) (iblk m c 5 t : Vec Ideal S1x1024 .f32) p) (ix2 r l) = (dout A W H Y G K (row t p r) l : EReal) := fun r l => out_real B t p r l
  unfold bDf
  rw [df_at, bits_thousandth]
  simp only [e, nm_real B t p, rs_real B t p, B.u t, B.g t, ← EReal.coe_mul, ← coe_sum, ← EReal.coe_sub]
  rfl

/-- Two halves added to the rows before them. -/
theorem halves (f : ℕ → ℝ) (t : ℕ) {z : EReal} (h : z = ((∑ n ∈ Finset.range (256 * t), f n : ℝ) : EReal)) :
    z + ((∑ i : Fin 128, f (row t 0 i) : ℝ) : EReal) + ((∑ i : Fin 128, f (row t 1 i) : ℝ) : EReal) = ((∑ n ∈ Finset.range (256 * (t + 1)), f n : ℝ) : EReal) := by
  rw [h, ← EReal.coe_add, ← EReal.coe_add, ← add_halves]
  simp only [row, Fin.val_zero, Fin.val_one, Nat.mul_zero, Nat.zero_add, Nat.mul_one, Nat.add_assoc]

/-! ## The walk -/

/-- What a point leaves. -/
def Left (m : (ℓ : Loc nD τ sig) → Buf (Elt Ideal) ℓ) (c : Dev nD) (A W H Y : ℕ → ℕ → ℝ) (G K : ℕ → ℝ) (n : ℕ) (hn : n < cfg0.N) : Prop :=
  (∀ (p : Fin 2) (r : Fin 128) (l : Fin 1024), (outsAt0 m c n hn).1 (ix2 ⟨128 * p.val + r.val, by omega⟩ l) = (dout A W H Y G K (row n p r) l : EReal))
    ∧ (∀ (p : Fin 2) (r : Fin 128) (l : Fin 1024), (outsAt0 m c n hn).2.1 (ix2 ⟨128 * p.val + r.val, by omega⟩ l) = (dff A W H Y G K (row n p r) l : EReal))
    ∧ (outsAt0 m c n hn).2.2.1 (ix2 0 0) = ((∑ i ∈ Finset.range (256 * (n + 1)), ∑ j : Fin 1024, res A W H Y G K i j * res A W H Y G K i j : ℝ) : EReal)
    ∧ (∀ l : Fin 1024, (outsAt0 m c n hn).2.2.2.1 (ix2 0 l) = ((∑ i ∈ Finset.range (256 * (n + 1)), dout A W H Y G K i l * (nm (ff A W i) l * K l) : ℝ) : EReal))
    ∧ ∀ l : Fin 1024, (outsAt0 m c n hn).2.2.2.2 (ix2 0 l) = ((∑ i ∈ Finset.range (256 * (n + 1)), dout A W H Y G K i l * G l * nm (ff A W i) l : ℝ) : EReal)

theorem zero4 (f : ℕ → ℝ) (h : t.val = 0) : k0_pay4 (F := Ideal) (ix2 0 0) = ((∑ n ∈ Finset.range (256 * t.val), f n : ℝ) : EReal) := by
  rw [h]
  pointwise [k0_pay4]
  simp

theorem zero5 (l : Fin 1024) (f : ℕ → ℝ) (h : t.val = 0) : k0_pay5 (F := Ideal) (ix2 0 l) = ((∑ n ∈ Finset.range (256 * t.val), f n : ℝ) : EReal) := by
  rw [h]
  pointwise [k0_pay5]
  simp

theorem zero6 (l : Fin 1024) (f : ℕ → ℝ) (h : t.val = 0) : k0_pay6 (F := Ideal) (ix2 0 l) = ((∑ n ∈ Finset.range (256 * t.val), f n : ℝ) : EReal) := by
  rw [h]
  pointwise [k0_pay6]
  simp

set_option maxHeartbeats 1000000 in
include B in
theorem left_A (h : t.val = 0) : Left m c A W H Y G K t.val t.isLt := by
  unfold Left
  rw [outsAt0_A m c t (by rw [h])]
  dsimp only
  refine And.intro (fun p r l => ?_) (And.intro (fun p r l => ?_) (And.intro ?_ (And.intro (fun l => ?_) (fun l => ?_))))
  · rw [out_A]
    exact out_real B t p r l
  · rw [df_A]
    exact df_real B t p r l
  · rw [loss_A, loss_real B t, loss_real B t]
    exact halves (fun n => ∑ j : Fin 1024, res A W H Y G K n j * res A W H Y G K n j) t (zero4 t _ h)
  · rw [gate_A, gate_real B t, gate_real B t]
    exact halves (fun n => dout A W H Y G K n l * (nm (ff A W n) l * K l)) t (zero5 t l _ h)
  · rw [dg_A, dg_real B t, dg_real B t]
    exact halves (fun n => dout A W H Y G K n l * G l * nm (ff A W n) l) t (zero6 t l _ h)

set_option maxHeartbeats 1000000 in
include B in
theorem left_B (h : ¬ t.val % 8 = 0) (hs : Left m c A W H Y G K (t.val - 1) (Nat.lt_of_le_of_lt (Nat.sub_le _ _) t.isLt)) : Left m c A W H Y G K t.val t.isLt := by
  obtain ⟨-, -, h2, h3, h4⟩ := hs
  have e : t.val - 1 + 1 = t.val := by omega
  rw [e] at h2 h3 h4
  unfold Left
  rw [outsAt0_B m c t h]
  dsimp only
  refine And.intro (fun p r l => ?_) (And.intro (fun p r l => ?_) (And.intro ?_ (And.intro (fun l => ?_) (fun l => ?_))))
  · rw [out_B]
    exact out_real B t p r l
  · rw [df_B]
    exact df_real B t p r l
  · rw [loss_B, loss_real B t, loss_real B t]
    exact halves (fun n => ∑ j : Fin 1024, res A W H Y G K n j * res A W H Y G K n j) t h2
  · rw [gate_B, gate_real B t, gate_real B t]
    exact halves (fun n => dout A W H Y G K n l * (nm (ff A W n) l * K l)) t (h3 l)
  · rw [dg_B, dg_real B t, dg_real B t]
    exact halves (fun n => dout A W H Y G K n l * G l * nm (ff A W n) l) t (h4 l)

include B in
theorem left_real : ∀ (n : ℕ) (hn : n < cfg0.N), Left m c A W H Y G K n hn := by
  intro n
  induction n with
  | zero => exact fun hn => left_A B ⟨0, hn⟩ rfl
  | succ n ih =>
    intro hn
    have h8 : n + 1 < 8 := lt_of_lt_of_eq hn (show cfg0.N = 8 from N_0)
    exact left_B B ⟨n + 1, hn⟩ (by show ¬(n + 1) % 8 = 0; omega) (ih (Nat.lt_of_succ_lt hn))

/-! ## The arrays -/

set_option maxHeartbeats 1000000 in
include B in
/-- The array of the output's gradient. -/
theorem array6 {R : FVec Ideal S2048x1024 .f32} (hR : ∀ (n : Fin 2048) (l : Fin 1024), R (ix2 n l) = ((dout A W H Y G K n l : ℝ) : EReal)) :
    (dats m 0 c).arrAt 6 (cfgs 0).N = R := by
  refine (dats m 0 c).arrAt_eq_of_covers 6 _ (by decide +kernel) fun t hf y => ?_
  have ht : t.val < 8 := pt
  have h0 : ((((View.whole main_v2_0).slice (win0_6.rect t)).emb y) 0 : ℕ) = t.val * 256 + y 0 := by blk_simp [idx t]
  have h1 : ((((View.whole main_v2_0).slice (win0_6.rect t)).emb y) 1 : ℕ) = y 1 := by blk_simp [idx t]
  blk_simp
  rw [after0_6]
  have hy0 : (y 0).val < 256 := (y 0).isLt
  have hy1 : (y 1).val < 1024 := (y 1).isLt
  have hi : ((View.whole main_v2_0).slice (win0_6.rect t)).emb y = ix2 ⟨256 * t.val + y 0, by omega⟩ ⟨y 1, by omega⟩ :=
    (eq_ix2 _).trans (congrArg₂ ix2 (Fin.ext (h0.trans (by dsimp only; omega))) (Fin.ext h1))
  refine Eq.trans ?_ (congrArg R hi).symm
  have O := (left_real B t.val t.isLt).1 ⟨(y 0).val / 128, by omega⟩ ⟨(y 0).val % 128, by omega⟩ ⟨(y 1).val, by omega⟩
  have e : 128 * ((y 0).val / 128) + (y 0).val % 128 = (y 0).val := by omega
  have hy : y = ix2 ⟨128 * ((y 0).val / 128) + (y 0).val % 128, by omega⟩ (y 1) := (eq_ix2 _).trans (congrArg (fun a => ix2 a (y 1)) (Fin.ext e.symm))
  refine (congrArg _ hy).trans (O.trans ?_)
  unfold row
  dsimp only
  rw [e]
  exact (hR ⟨256 * t.val + y 0, by omega⟩ ⟨y 1, by omega⟩).symm

set_option maxHeartbeats 1000000 in
include B in
/-- The array of the product's gradient. -/
theorem array7 {R : FVec Ideal S2048x1024 .bf16} (hR : ∀ (n : Fin 2048) (l : Fin 1024), R (ix2 n l) = ((dff A W H Y G K n l : ℝ) : EReal)) :
    (dats m 0 c).arrAt 7 (cfgs 0).N = R := by
  refine (dats m 0 c).arrAt_eq_of_covers 7 _ (by decide +kernel) fun t hf y => ?_
  have ht : t.val < 8 := pt
  have h0 : ((((View.whole main_v2_1).slice (win0_7.rect t)).emb y) 0 : ℕ) = t.val * 256 + y 0 := by blk_simp [idx t]
  have h1 : ((((View.whole main_v2_1).slice (win0_7.rect t)).emb y) 1 : ℕ) = y 1 := by blk_simp [idx t]
  blk_simp
  rw [after0_7]
  have hy0 : (y 0).val < 256 := (y 0).isLt
  have hy1 : (y 1).val < 1024 := (y 1).isLt
  have hi : ((View.whole main_v2_1).slice (win0_7.rect t)).emb y = ix2 ⟨256 * t.val + y 0, by omega⟩ ⟨y 1, by omega⟩ :=
    (eq_ix2 _).trans (congrArg₂ ix2 (Fin.ext (h0.trans (by dsimp only; omega))) (Fin.ext h1))
  refine Eq.trans ?_ (congrArg R hi).symm
  have O := (left_real B t.val t.isLt).2.1 ⟨(y 0).val / 128, by omega⟩ ⟨(y 0).val % 128, by omega⟩ ⟨(y 1).val, by omega⟩
  have e : 128 * ((y 0).val / 128) + (y 0).val % 128 = (y 0).val := by omega
  have hy : y = ix2 ⟨128 * ((y 0).val / 128) + (y 0).val % 128, by omega⟩ (y 1) := (eq_ix2 _).trans (congrArg (fun a => ix2 a (y 1)) (Fin.ext e.symm))
  refine (congrArg _ hy).trans (O.trans ?_)
  unfold row
  dsimp only
  rw [e]
  exact (hR ⟨256 * t.val + y 0, by omega⟩ ⟨y 1, by omega⟩).symm

set_option maxHeartbeats 1000000 in
include B in
/-- The array of the loss. -/
theorem array8 {R : FVec Ideal S1x1 .f32} (hR : R (ix2 0 0) = ((∑ i ∈ Finset.range 2048, ∑ j : Fin 1024, res A W H Y G K i j * res A W H Y G K i j : ℝ) : EReal)) :
    (dats m 0 c).arrAt 8 (cfgs 0).N = R := by
  refine (dats m 0 c).arrAt_eq_of_covers 8 _ (by decide +kernel) fun t hf y => ?_
  have h0 : ((((View.whole main_v2_2).slice (win0_8.rect t)).emb y) 0 : ℕ) = y 0 := by blk_simp [idx t]
  have h1 : ((((View.whole main_v2_2).slice (win0_8.rect t)).emb y) 1 : ℕ) = y 1 := by blk_simp [idx t]
  have ht : t.val = 7 := ((by decide +kernel : ∀ t : Fin cfg0.N, win0_8.flush t = true → t.val = 7) t hf)
  blk_simp
  rw [after0_8]
  have hy0 : (y 0).val < 1 := (y 0).isLt
  have hy1 : (y 1).val < 1 := (y 1).isLt
  have hi : ((View.whole main_v2_2).slice (win0_8.rect t)).emb y = ix2 0 0 :=
    (eq_ix2 _).trans (congrArg₂ ix2 (Fin.ext (h0.trans (by show (y 0).val = 0; omega))) (Fin.ext (h1.trans (by show (y 1).val = 0; omega))))
  have hy : y = ix2 0 0 := (eq_ix2 _).trans (congrArg₂ ix2 (Fin.ext (by show (y 0).val = 0; omega)) (Fin.ext (by show (y 1).val = 0; omega)))
  refine Eq.trans ?_ (congrArg R hi).symm
  refine (congrArg _ hy).trans ((left_real B t.val t.isLt).2.2.1.trans ?_)
  rw [ht]
  exact hR.symm

set_option maxHeartbeats 1000000 in
include B in
/-- The array of the gate's gradient. -/
theorem array9 {R : FVec Ideal S1x1024 .f32} (hR : ∀ l : Fin 1024, R (ix2 0 l) = ((∑ i ∈ Finset.range 2048, dout A W H Y G K i l * (nm (ff A W i) l * K l) : ℝ) : EReal)) :
    (dats m 0 c).arrAt 9 (cfgs 0).N = R := by
  refine (dats m 0 c).arrAt_eq_of_covers 9 _ (by decide +kernel) fun t hf y => ?_
  have h0 : ((((View.whole main_v2_3).slice (win0_9.rect t)).emb y) 0 : ℕ) = y 0 := by blk_simp [idx t]
  have h1 : ((((View.whole main_v2_3).slice (win0_9.rect t)).emb y) 1 : ℕ) = y 1 := by blk_simp [idx t]
  have ht : t.val = 7 := ((by decide +kernel : ∀ t : Fin cfg0.N, win0_9.flush t = true → t.val = 7) t hf)
  blk_simp
  rw [after0_9]
  have hy0 : (y 0).val < 1 := (y 0).isLt
  have hy1 : (y 1).val < 1024 := (y 1).isLt
  have hi : ((View.whole main_v2_3).slice (win0_9.rect t)).emb y = ix2 0 ⟨y 1, by omega⟩ :=
    (eq_ix2 _).trans (congrArg₂ ix2 (Fin.ext (h0.trans (by show (y 0).val = 0; omega))) (Fin.ext h1))
  have hy : y = ix2 0 ⟨y 1, by omega⟩ := (eq_ix2 _).trans (congrArg (fun a => ix2 a (y 1)) (Fin.ext (by show (y 0).val = 0; omega)))
  refine Eq.trans ?_ (congrArg R hi).symm
  refine (congrArg _ hy).trans (((left_real B t.val t.isLt).2.2.2.1 ⟨y 1, by omega⟩).trans ?_)
  rw [ht]
  exact (hR ⟨y 1, by omega⟩).symm

set_option maxHeartbeats 1000000 in
include B in
/-- The array of the norm weight's gradient. -/
theorem array10 {R : FVec Ideal S1x1024 .f32} (hR : ∀ l : Fin 1024, R (ix2 0 l) = ((∑ i ∈ Finset.range 2048, dout A W H Y G K i l * G l * nm (ff A W i) l : ℝ) : EReal)) :
    (dats m 0 c).arrAt 10 (cfgs 0).N = R := by
  refine (dats m 0 c).arrAt_eq_of_covers 10 _ (by decide +kernel) fun t hf y => ?_
  have h0 : ((((View.whole main_v2_4).slice (win0_10.rect t)).emb y) 0 : ℕ) = y 0 := by blk_simp [idx t]
  have h1 : ((((View.whole main_v2_4).slice (win0_10.rect t)).emb y) 1 : ℕ) = y 1 := by blk_simp [idx t]
  have ht : t.val = 7 := ((by decide +kernel : ∀ t : Fin cfg0.N, win0_10.flush t = true → t.val = 7) t hf)
  blk_simp
  rw [after0_10]
  have hy0 : (y 0).val < 1 := (y 0).isLt
  have hy1 : (y 1).val < 1024 := (y 1).isLt
  have hi : ((View.whole main_v2_4).slice (win0_10.rect t)).emb y = ix2 0 ⟨y 1, by omega⟩ :=
    (eq_ix2 _).trans (congrArg₂ ix2 (Fin.ext (h0.trans (by show (y 0).val = 0; omega))) (Fin.ext h1))
  have hy : y = ix2 0 ⟨y 1, by omega⟩ := (eq_ix2 _).trans (congrArg (fun a => ix2 a (y 1)) (Fin.ext (by show (y 0).val = 0; omega)))
  refine Eq.trans ?_ (congrArg R hi).symm
  refine (congrArg _ hy).trans (((left_real B t.val t.isLt).2.2.2.2 ⟨y 1, by omega⟩).trans ?_)
  rw [ht]
  exact (hR ⟨y 1, by omega⟩).symm

end Cert.LossIdeal.Hand

end
-- ==== Proof.LossRef.lean ====
/-
  The reference of the loss over the reals.
-/
module

public import proofs.«01_k».proof.Proof.LossGrid
public import proofs.«01_k».proof.Proof.Gen.LossRefIdeal.Read

@[expose] public section

set_option maxRecDepth 16384

noncomputable section

open Idealize.ShloMosaic Idealize.ShloMosaic.TcCoe Idealize.SL.Sem

namespace Cert.LossRefIdeal.Hand

open Cert.LossRefIdeal Cert.LossRefIdeal.Read Cert.NormKit Cert.RealKit
open Cert.LossIdeal.Hand (ff res dout dn dff)

/-- Arguments that are tables of reals. -/
structure Tables (x0 : (⟨S2048x4096, .f32⟩ : BufTy).Contents (Elt Ideal)) (x1 : (⟨S4096x1024, .f32⟩ : BufTy).Contents (Elt Ideal)) (x2 x3 : (⟨S2048x1024, .f32⟩ : BufTy).Contents (Elt Ideal))
    (x4 : (⟨S1x6144, .f32⟩ : BufTy).Contents (Elt Ideal)) (x5 : (⟨S1x1024, .f32⟩ : BufTy).Contents (Elt Ideal)) (A W H Y : ℕ → ℕ → ℝ) (G K : ℕ → ℝ) : Prop where
  a : ∀ (n : Fin 2048) (k : Fin 4096), x0 (ix2 n k) = (A n k : EReal)
  w : ∀ (k : Fin 4096) (l : Fin 1024), x1 (ix2 k l) = (W l k : EReal)
  h : ∀ (n : Fin 2048) (l : Fin 1024), x2 (ix2 n l) = (H n l : EReal)
  y : ∀ (n : Fin 2048) (l : Fin 1024), x3 (ix2 n l) = (Y n l : EReal)
  u : ∀ (l : Fin 1024) (h : 5120 + l.val < 6144), x4 (ix2 0 ⟨5120 + l, h⟩) = (G l : EReal)
  g : ∀ l : Fin 1024, x5 (ix2 0 l) = (K l : EReal)

section reals

variable {x0 : (⟨S2048x4096, .f32⟩ : BufTy).Contents (Elt Ideal)} {x1 : (⟨S4096x1024, .f32⟩ : BufTy).Contents (Elt Ideal)} {x2 x3 : (⟨S2048x1024, .f32⟩ : BufTy).Contents (Elt Ideal)}
  {x4 : (⟨S1x6144, .f32⟩ : BufTy).Contents (Elt Ideal)} {x5 : (⟨S1x1024, .f32⟩ : BufTy).Contents (Elt Ideal)} {A W H Y : ℕ → ℕ → ℝ} {G K : ℕ → ℝ} (T : Tables x0 x1 x2 x3 x4 x5 A W H Y G K)

include T

theorem f_at (n : Fin 2048) (l : Fin 1024) : val_main_v0 (F := Ideal) x0 x1 (ix2 n l) = ((ff A W n l : ℝ) : EReal) := by
  pointwise [val_main_v0]
  simp only [T.a, T.w, ← EReal.coe_mul, ← coe_sum]
  rfl

theorem ms_at (n : Fin 2048) : val_main_v8 (F := Ideal) x0 x1 (ix2 n 0) = ((ms (ff A W n) : ℝ) : EReal) := by
  pointwise [val_main_v8, val_main_v7, val_main_cst_1, val_main_v6, val_main_v5, val_main_cst_0, val_main_v4, val_main_v3, val_main_cst, val_main_v2]
  simp only [f_at T, bits_thousand, bits_eps, ← EReal.coe_mul, ← coe_sum]
  exact ms_div _

theorem rs_at (n : Fin 2048) : val_main_v9 (F := Ideal) x0 x1 (ix2 n 0) = ((rs (ff A W n) : ℝ) : EReal) := by
  refine Eq.trans (b := Ideal.rsqrt (val_main_v8 (F := Ideal) x0 x1 (ix2 n 0))) (by pointwise [val_main_v9]) ?_
  rw [ms_at T, rs_ms]

theorem slope_at (n : Fin 2048) : val_main_v12 (F := Ideal) x0 x1 (ix2 n 0) = ((-(1 / 2) * (rs (ff A W n) / ms (ff A W n)) : ℝ) : EReal) := by
  refine Eq.trans (b := Ideal.ofBits .f32 0xBF000000#32 * Ideal.div (val_main_v9 (F := Ideal) x0 x1 (ix2 n 0)) (val_main_v8 (F := Ideal) x0 x1 (ix2 n 0))) (by pointwise [val_main_v12, val_main_v11, val_main_cst_2, val_main_v10]) ?_
  rw [rs_at T, ms_at T, bits_neg_half, div_coe _ _ (ms_pos _).ne', ← EReal.coe_mul]

theorem nm_at (n : Fin 2048) (l : Fin 1024) : val_main_v14 (F := Ideal) x0 x1 (ix2 n l) = ((nm (ff A W n) l : ℝ) : EReal) := by
  refine Eq.trans (b := val_main_v0 (F := Ideal) x0 x1 (ix2 n l) * val_main_v9 (F := Ideal) x0 x1 (ix2 n 0)) (by pointwise [val_main_v14, val_main_v13]) ?_
  rw [rs_at T, f_at T, ← EReal.coe_mul]
  rfl

theorem scaled_at (n : Fin 2048) (l : Fin 1024) : val_main_v16 (F := Ideal) x0 x1 x5 (ix2 n l) = ((nm (ff A W n) l * K l : ℝ) : EReal) := by
  pointwise [val_main_v16, val_main_v15]
  rw [nm_at T, T.g, ← EReal.coe_mul]

theorem res_at (n : Fin 2048) (l : Fin 1024) : val_main_v20 (F := Ideal) x0 x1 x2 x3 x4 x5 (ix2 n l) = ((res A W H Y G K n l : ℝ) : EReal) := by
  pointwise [val_main_v20, val_main_v19, val_main_v18, val_main_v17, val_main_v1]
  simp only [scaled_at T, T.u, T.h, T.y, ← EReal.coe_mul, ← EReal.coe_add, ← EReal.coe_sub]
  rfl

/-- The reference's gradient of the output. -/
theorem out_at (n : Fin 2048) (l : Fin 1024) : val_main_v34 (F := Ideal) x0 x1 x2 x3 x4 x5 (ix2 n l) = ((dout A W H Y G K n l : ℝ) : EReal) := by
  refine Eq.trans (b := Ideal.div (Ideal.ofBits .f32 0x3F000000#32 * Ideal.ofBits .f32 0x3F800000#32) (Ideal.ofBits .f32 0x44800000#32) * (Ideal.ofBits .f32 0x40000000#32 * val_main_v20 (F := Ideal) x0 x1 x2 x3 x4 x5 (ix2 n l)))
    (by pointwise [val_main_v34, val_main_v33, val_main_v32, val_main_v31, val_main_v30, val_main_v29, val_main_cst_8, val_main_cst_9, val_main_cst_10, val_main_v23, val_main_v22, val_main_cst_3]) ?_
  rw [res_at T, bits_half, bits_unit, bits_thousand, bits_two, ← EReal.coe_mul, div_coe _ _ (by norm_num), ← EReal.coe_mul, ← EReal.coe_mul]
  refine congrArg Real.toEReal ?_
  unfold dout
  ring

/-- The reference's loss. -/
theorem loss_at : val_main_v61 (F := Ideal) x0 x1 x2 x3 x4 x5 (ix2 0 0) = ((∑ i ∈ Finset.range 2048, ∑ j : Fin 1024, res A W H Y G K i j * res A W H Y G K i j : ℝ) : EReal) := by
  refine Eq.trans (b := Ideal.ofBits .f32 0x3F000000#32 * (∑ n : Fin 2048, Ideal.div (∑ j : Fin 1024, val_main_v20 (F := Ideal) x0 x1 x2 x3 x4 x5 (ix2 n j) * val_main_v20 (F := Ideal) x0 x1 x2 x3 x4 x5 (ix2 n j)) (Ideal.ofBits .f32 0x44800000#32)) * Ideal.ofBits .f32 0x45000000#32)
    (by pointwise [val_main_v61, val_main_v60, val_main_cst_16, val_main_v28, val_main_cst_7, val_main_v27, val_main_cst_6, val_main_v26, val_main_v25, val_main_cst_5, val_main_v24, val_main_cst_4, val_main_v21]) ?_
  simp only [res_at T, bits_half, bits_thousand, bits_2048, ← EReal.coe_mul, ← coe_sum, div_coe _ _ (show (1024 : ℝ) ≠ 0 by norm_num)]
  rw [Finset.sum_range, ← Finset.sum_div]
  refine congrArg Real.toEReal ?_
  ring

/-- The reference's gradient of the gate. -/
theorem gate_at (l : Fin 1024) : val_main_v39 (F := Ideal) x0 x1 x2 x3 x4 x5 (ix2 0 l) = ((∑ i ∈ Finset.range 2048, dout A W H Y G K i l * (nm (ff A W i) l * K l) : ℝ) : EReal) := by
  pointwise [val_main_v39, val_main_v38, val_main_cst_11, val_main_v37]
  simp only [out_at T, scaled_at T, ← EReal.coe_mul, ← coe_sum]
  rw [Finset.sum_range]

theorem back_at (n : Fin 2048) (l : Fin 1024) : val_main_v36 (F := Ideal) x0 x1 x2 x3 x4 x5 (ix2 n l) = ((G l * dout A W H Y G K n l : ℝ) : EReal) := by
  pointwise [val_main_v36, val_main_v35, val_main_v1]
  rw [out_at T, T.u, ← EReal.coe_mul]

/-- The reference's gradient of the norm's weight. -/
theorem weight_at (l : Fin 1024) : val_main_v42 (F := Ideal) x0 x1 x2 x3 x4 x5 (ix2 0 l) = ((∑ i ∈ Finset.range 2048, dout A W H Y G K i l * G l * nm (ff A W i) l : ℝ) : EReal) := by
  pointwise [val_main_v42, val_main_v41, val_main_cst_12, val_main_v40]
  simp only [back_at T, nm_at T, ← EReal.coe_mul, ← coe_sum]
  rw [Finset.sum_range]
  refine congrArg Real.toEReal (Finset.sum_congr rfl fun i _ => ?_)
  ring

theorem dn_at (n : Fin 2048) (l : Fin 1024) : val_main_v44 (F := Ideal) x0 x1 x2 x3 x4 x5 (ix2 n l) = ((dn A W H Y G K n l : ℝ) : EReal) := by
  pointwise [val_main_v44, val_main_v43]
  rw [back_at T, T.g, ← EReal.coe_mul]
  refine congrArg Real.toEReal ?_
  unfold dn
  ring

theorem share_at (n : Fin 2048) (l : Fin 1024) : val_main_v54 (F := Ideal) x0 x1 x2 x3 x4 x5 (ix2 n l) = ((share (ff A W n) (dn A W H Y G K n) : ℝ) : EReal) := by
  refine Eq.trans (b := Ideal.div ((∑ j : Fin 1024, val_main_v0 (F := Ideal) x0 x1 (ix2 n j) * val_main_v44 (F := Ideal) x0 x1 x2 x3 x4 x5 (ix2 n j)) * val_main_v12 (F := Ideal) x0 x1 (ix2 n 0)) (Ideal.ofBits .f32 0x44800000#32))
    (by
      pointwise [val_main_v54, val_main_v53, val_main_cst_15, val_main_v52, val_main_v51, val_main_cst_14, val_main_v50, val_main_v47, val_main_v46, val_main_cst_13, val_main_v45]
      exact Fin.sum_univ_one _) ?_
  simp only [f_at T, dn_at T, slope_at T, bits_thousand, ← EReal.coe_mul, ← coe_sum]
  rw [div_coe _ _ (by norm_num)]
  rfl

/-- The reference's gradient of the product. -/
theorem df_at (n : Fin 2048) (l : Fin 1024) : val_main_v59 (F := Ideal) x0 x1 x2 x3 x4 x5 (ix2 n l) = ((dff A W H Y G K n l : ℝ) : EReal) := by
  refine Eq.trans (b := val_main_v44 (F := Ideal) x0 x1 x2 x3 x4 x5 (ix2 n l) * val_main_v9 (F := Ideal) x0 x1 (ix2 n 0) + val_main_v0 (F := Ideal) x0 x1 (ix2 n l) * val_main_v54 (F := Ideal) x0 x1 x2 x3 x4 x5 (ix2 n l) + val_main_v54 (F := Ideal) x0 x1 x2 x3 x4 x5 (ix2 n l) * val_main_v0 (F := Ideal) x0 x1 (ix2 n l))
    (by pointwise [val_main_v59, val_main_v58, val_main_v57, val_main_v56, val_main_v55, val_main_v49, val_main_v48]) ?_
  rw [f_at T, dn_at T, rs_at T, share_at T, ← EReal.coe_mul, ← EReal.coe_mul, ← EReal.coe_mul, ← EReal.coe_add, ← EReal.coe_add, ← back_eq]
  rfl

end reals

end Cert.LossRefIdeal.Hand

end
-- ==== Proof.LossPre.lean ====
/-
  The precondition of the loss: the arguments are finite.
-/
module

public import proofs.«01_k».proof.Proof.StickPre
public import proofs.«01_k».proof.Proof.LossRef
public import proofs.«01_k».proof.Pre_loss_finite

@[expose] public section

set_option maxRecDepth 16384

noncomputable section

open Idealize.ShloMosaic Idealize.ShloMosaic.TcCoe Idealize.SL.Sem

namespace Cert.Pre_loss_finite

open Cert.Pre_stick_finite (real_of_lt and_one)
open Cert.RealKit

instance facts : Facts where
  bcast_S_S2048x4096 := by decide
  reducesTo_S2048x4096_S_d0_1 := by decide
  h_S_ := by decide
  bcast_S_S4096x1024 := by decide
  reducesTo_S4096x1024_S_d0_1 := by decide
  bcast_S_S2048x1024 := by decide
  reducesTo_S2048x1024_S_d0_1 := by decide
  slices_S1x6144_S1x1024_0_5120 := by decide
  bcast_S_S1x1024 := by decide
  reducesTo_S1x1024_S_d0_1 := by decide

/-- Under the precondition the arguments are tables of reals. -/
theorem finite_of {x0 : FVec Ideal S2048x4096 .f32} {x1 : FVec Ideal S4096x1024 .f32} {x2 x3 : FVec Ideal S2048x1024 .f32} {x4 : FVec Ideal S1x6144 .f32} {x5 : FVec Ideal S1x1024 .f32}
    (h : fn (F := Ideal) x0 x1 x2 x3 x4 x5 = fun _ => 1#1) : ∃ (A W H Y : ℕ → ℕ → ℝ) (G K : ℕ → ℝ), Cert.LossRefIdeal.Hand.Tables x0 x1 x2 x3 x4 x5 A W H Y G K := by
  have h0 := congrFun h (fun a => a.elim0)
  unfold fn fn_part1 at h0
  dsimp only at h0
  obtain ⟨h12345, h6⟩ := and_one _ _ h0
  obtain ⟨h1234, h5⟩ := and_one _ _ h12345
  obtain ⟨h123, h4⟩ := and_one _ _ h1234
  obtain ⟨h12, h3⟩ := and_one _ _ h123
  obtain ⟨h1, h2⟩ := and_one _ _ h12
  haveI : Subsingleton S_.Idx := ⟨fun a b => funext fun k => k.elim0⟩
  choose A hA using fun i => real_of_lt _ (Host.reduce_andi_all _ _ _ _ _ h1 i)
  choose W hW using fun i => real_of_lt _ (Host.reduce_andi_all _ _ _ _ _ h2 i)
  choose H hH using fun i => real_of_lt _ (Host.reduce_andi_all _ _ _ _ _ h3 i)
  choose Y hY using fun i => real_of_lt _ (Host.reduce_andi_all _ _ _ _ _ h4 i)
  choose G hG using fun i => real_of_lt _ (Host.reduce_andi_all _ _ _ _ _ h5 i)
  choose K hK using fun i => real_of_lt _ (Host.reduce_andi_all _ _ _ _ _ h6 i)
  refine ⟨grid2 fun n k => A (ix2 n k), grid2 fun (l : Fin 1024) (k : Fin 4096) => W (ix2 k l), grid2 fun n l => H (ix2 n l), grid2 fun n l => Y (ix2 n l), grid2 (fun (n : Fin 1) l => G (ix2 n l)) 0, grid2 (fun (n : Fin 1) l => K (ix2 n l)) 0,
    fun n k => (hA _).trans (congrArg _ (grid2_at (fun n k => A (ix2 n k)) n k).symm), fun k l => (hW _).trans (congrArg _ (grid2_at (fun (l : Fin 1024) (k : Fin 4096) => W (ix2 k l)) l k).symm),
    fun n l => (hH _).trans (congrArg _ (grid2_at (fun n l => H (ix2 n l)) n l).symm), fun n l => (hY _).trans (congrArg _ (grid2_at (fun n l => Y (ix2 n l)) n l).symm),
    fun l _ => Eq.trans ?_ ((hG (ix2 0 l)).trans (congrArg _ (grid2_at (fun (n : Fin 1) l => G (ix2 n l)) 0 l).symm)),
    fun l => (hK _).trans (congrArg _ (grid2_at (fun (n : Fin 1) l => K (ix2 n l)) 0 l).symm)⟩
  pointwise []

end Cert.Pre_loss_finite

end
-- ==== Proof.LossFinal.lean ====
/-
  The arrays of the loss are the reference's.
-/
module

public import proofs.«01_k».proof.Proof.LossPre

@[expose] public section

set_option maxRecDepth 16384

noncomputable section

open Idealize.ShloMosaic Idealize.ShloMosaic.TcCoe Idealize.SL.Sem

namespace Cert.LossIdeal.Hand

open Cert.LossIdeal Cert.LossIdeal.Gen Cert.RealKit

variable {m : (ℓ : Loc nD τ sig) → Buf (Elt Ideal) ℓ} {c : Dev nD}

/-- What the grid points read, of the arguments. -/
theorem blocks {A W H Y : ℕ → ℕ → ℝ} {G K : ℕ → ℝ} (T : Cert.LossRefIdeal.Hand.Tables (m (c.tc.loc main_arg0)) (m (c.tc.loc main_arg1)) (m (c.tc.loc main_arg2)) (m (c.tc.loc main_arg3)) (m (c.tc.loc main_arg4)) (m (c.tc.loc main_arg5)) A W H Y G K) : Blocks m c A W H Y G K where
  a t i k := (read_a m c t i k pt).trans ((entryA m c _ k).trans (T.a _ k))
  w t k l := (read_w m c t k l).trans ((entryW m c k l).trans (T.w k l))
  h t i l := (read_h m c t i l pt).trans ((congrFun (V_main_arg2 m c) _).trans (T.h _ l))
  y t i l := (read_y m c t i l pt).trans ((congrFun (V_main_arg3 m c) _).trans (T.y _ l))
  u t l := (read_u m c t ⟨1024 * 5 + l.val, by omega⟩).trans ((congrFun (V_main_arg4 m c) _).trans (T.u l (by omega)))
  g t l := (read_g m c t l).trans ((congrFun (V_main_arg5 m c) _).trans (T.g l))

variable (m c) (h : Cert.Pre_loss_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1)

include h

/-- Of finite arguments, the array of the output's gradient is the reference's. -/
theorem final6 : (dats m 0 c).arrAt 6 (cfgs 0).N = Cert.LossRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨A, W, H, Y, G, K, T⟩ := Cert.Pre_loss_finite.finite_of h
  exact array6 (blocks T) (Cert.LossRefIdeal.Hand.out_at T)

/-- Of finite arguments, the array of the product's gradient is the reference's. -/
theorem final7 : (dats m 0 c).arrAt 7 (cfgs 0).N = Cert.LossRefIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨A, W, H, Y, G, K, T⟩ := Cert.Pre_loss_finite.finite_of h
  exact array7 (blocks T) (Cert.LossRefIdeal.Hand.df_at T)

/-- Of finite arguments, the array of the loss is the reference's. -/
theorem final8 : (dats m 0 c).arrAt 8 (cfgs 0).N = Cert.LossRefIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨A, W, H, Y, G, K, T⟩ := Cert.Pre_loss_finite.finite_of h
  exact array8 (blocks T) (Cert.LossRefIdeal.Hand.loss_at T)

/-- Of finite arguments, the array of the gate's gradient is the reference's. -/
theorem final9 : (dats m 0 c).arrAt 9 (cfgs 0).N = Cert.LossRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨A, W, H, Y, G, K, T⟩ := Cert.Pre_loss_finite.finite_of h
  exact array9 (blocks T) (Cert.LossRefIdeal.Hand.gate_at T)

/-- Of finite arguments, the array of the norm weight's gradient is the reference's. -/
theorem final10 : (dats m 0 c).arrAt 10 (cfgs 0).N = Cert.LossRefIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨A, W, H, Y, G, K, T⟩ := Cert.Pre_loss_finite.finite_of h
  exact array10 (blocks T) (Cert.LossRefIdeal.Hand.weight_at T)

end Cert.LossIdeal.Hand

end
-- ==== Proof.InCases.lean ====
/-
  A block of the input's gradient, half by half: what it leaves in its result and in the three sums it carries.
-/
module

public import proofs.«01_k».proof.Proof.NormKit
public import proofs.«01_k».proof.Proof.Gen.InBwdIdeal.Frame

@[expose] public section

set_option maxRecDepth 16384

noncomputable section

open Idealize.ShloMosaic Idealize.ShloMosaic.TcCoe Idealize.SL.Sem

namespace Cert.InBwdIdeal.Hand

open Cert.InBwdIdeal Cert.InBwdIdeal.Gen Cert.NormKit

variable {F : FTy → Type} [FloatOps F]

section

variable (x0 : Vec F S256x6656 .bf16) (x1 : Vec F S256x1024 .f32) (x2 : Vec F S256x1024 .f32) (x3 : Vec F S1x6144 .f32) (x4 : Vec F S1x1024 .f32) (w : Vec F S6656x1024 .bf16) (p : Fin 2)

/-- What half a block leaves of the gradient of the input. -/
def bDx : FVec F S128x1024 .f32 := k0_pay13 x4 (cols x3 1) (k0_pay6 (half x0 p) w) (k0_pay7 (half x1 p)) (k0_pay8 (half x1 p)) (half x2 p)

/-- Half a block's share of the gradient of the shift, added to what was there. -/
def bSh (a : Vec F S1x1024 .f32) : FVec F S1x1024 .f32 := k0_pay9 (half x0 p) w a

/-- Half a block's share of the gradient of the scale, added to what was there. -/
def bSc (a : Vec F S1x1024 .f32) : FVec F S1x1024 .f32 := k0_pay11 x4 (k0_pay6 (half x0 p) w) (k0_pay8 (half x1 p)) (k0_pay10 a)

/-- Half a block's share of the gradient of the norm's weight, added to what was there. -/
def bDg (a : Vec F S1x1024 .f32) : FVec F S1x1024 .f32 := k0_pay12 (cols x3 1) (k0_pay6 (half x0 p) w) (k0_pay8 (half x1 p)) a

end

section congr

variable {v6 v6' v7 v7' a a' : Vec F S1x1024 .f32} {v8 v8' : Vec F S128x6656 .bf16} {w w' : Vec F S6656x1024 .bf16} {v12 v12' v49 v49' : Vec F S128x1024 .f32}

theorem sh_congr0 (h8 : v8 = v8') (hw : w = w') (ha : a = a') : k0_pay9 v8 w a = k0_pay9 v8' w' a' := by subst h8 hw ha; rfl

theorem sh_congr1 (h8 : v8 = v8') (hw : w = w') (ha : a = a') : k0_pay18 (k0_pay14 v8) w a = k0_pay9 v8' w' a' := by subst h8 hw ha; rfl

theorem sc_congr0 (h6 : v6 = v6') (h8 : v8 = v8') (hw : w = w') (h12 : v12 = v12') (ha : a = a') :
    k0_pay11 v6 (k0_pay6 v8 w) (k0_pay8 v12) (k0_pay10 a) = k0_pay11 v6' (k0_pay6 v8' w') (k0_pay8 v12') (k0_pay10 a') := by subst h6 h8 hw h12 ha; rfl

theorem sc_congr1 (h6 : v6 = v6') (h8 : v8 = v8') (hw : w = w') (h12 : v12 = v12') (ha : a = a') :
    k0_pay19 v6 (k0_pay14 v8) w v12 a = k0_pay11 v6' (k0_pay6 v8' w') (k0_pay8 v12') (k0_pay10 a') := by subst h6 h8 hw h12 ha; rfl

theorem dg_congr0 (h7 : v7 = v7') (h8 : v8 = v8') (hw : w = w') (h12 : v12 = v12') (ha : a = a') :
    k0_pay12 v7 (k0_pay6 v8 w) (k0_pay8 v12) a = k0_pay12 v7' (k0_pay6 v8' w') (k0_pay8 v12') a' := by subst h7 h8 hw h12 ha; rfl

theorem dg_congr1 (h7 : v7 = v7') (h8 : v8 = v8') (hw : w = w') (h12 : v12 = v12') (ha : a = a') :
    k0_pay1 (k0_pay20 a) (k0_pay21 v7 (k0_pay14 v8) w v12) = k0_pay12 v7' (k0_pay6 v8' w') (k0_pay8 v12') a' := by subst h7 h8 hw h12 ha; rfl

theorem dx_congr0 (h6 : v6 = v6') (h7 : v7 = v7') (h8 : v8 = v8') (hw : w = w') (h12 : v12 = v12') (h49 : v49 = v49') :
    k0_pay13 v6 v7 (k0_pay6 v8 w) (k0_pay7 v12) (k0_pay8 v12) v49 = k0_pay13 v6' v7' (k0_pay6 v8' w') (k0_pay7 v12') (k0_pay8 v12') v49' := by
  subst h6 h7 h8 hw h12 h49; rfl

theorem dx_congr1 (h6 : v6 = v6') (h7 : v7 = v7') (h8 : v8 = v8') (hw : w = w') (h12 : v12 = v12') (h49 : v49 = v49') :
    k0_pay2 v6 v7 (k0_pay15 (k0_pay14 v8) w) (k0_pay16 v12) (k0_pay17 v12) v49 = k0_pay13 v6' v7' (k0_pay6 v8' w') (k0_pay7 v12') (k0_pay8 v12') v49' := by
  subst h6 h7 h8 hw h12 h49; rfl

end congr

variable (c : Dev nD) (i : grid0.Coords)
  (arg1 : Memref sig .tc .vmem S256x6656 .bf16) (harg1 : arg1.IsWhole) (arg3 : Memref sig .tc .vmem S256x1024 .f32) (harg3 : arg3.IsWhole) (arg4 : Memref sig .tc .vmem S256x1024 .f32) (harg4 : arg4.IsWhole)
   (arg5 : Memref sig .tc .vmem S1x6144 .f32) (harg5 : arg5.IsWhole) (arg6 : Memref sig .tc .vmem S1x1024 .f32) (harg6 : arg6.IsWhole) (arg7 : Memref sig .tc .vmem S256x1024 .f32) (harg7 : arg7.IsWhole)
   (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole)
   (arg11 : Memref sig .tc .vmem S6656x1024 .bf16) (harg11 : arg11.IsWhole)
  (x0 : Vec F S256x6656 .bf16) (x1 : Vec F S256x1024 .f32) (x2 : Vec F S256x1024 .f32) (x3 : Vec F S1x6144 .f32) (x4 : Vec F S1x1024 .f32)
  (fh0 : HbBuf0 (F := F) c hbM0_0)

section first

variable (hc0 : cond0_0 i) (hc1 : cond0_1 i)

theorem sh_A : out0_A_6 c i arg1 harg1 arg3 harg3 arg4 harg4 arg5 harg5 arg6 harg6 arg7 harg7 arg8 harg8 arg9 harg9 arg10 harg10 arg11 harg11 hc0 hc1 x0 x1 x2 x3 x4 fh0 = bSh x0 fh0 1 (bSh x0 fh0 0 k0_pay3) := by
  unfold out0_A_6 kernelRun0_A
  dsimp only
  refine (View.read_writes_full _ _ _ _ _).trans ?_
  exact sh_congr1 (read_half arg1 harg1 x0 1 _ rfl _) (View.readCov_full _ _ _ _ _) ((View.readCov_full _ _ _ _ _).trans (sh_congr0 (read_half arg1 harg1 x0 0 _ rfl _) (View.readCov_full _ _ _ _ _) (View.readCov_full _ _ _ _ _)))

theorem sc_A : out0_A_7 c i arg1 harg1 arg3 harg3 arg4 harg4 arg5 harg5 arg6 harg6 arg7 harg7 arg8 harg8 arg9 harg9 arg10 harg10 arg11 harg11 hc0 hc1 x0 x1 x2 x3 x4 fh0 = bSc x0 x1 x4 fh0 1 (bSc x0 x1 x4 fh0 0 k0_pay4) := by
  unfold out0_A_7 kernelRun0_A
  dsimp only
  refine (View.read_writes_full _ _ _ _ _).trans ?_
  exact sc_congr1 (read_all arg6 harg6 x4 _ _) (read_half arg1 harg1 x0 1 _ rfl _) (View.readCov_full _ _ _ _ _) (read_half arg3 harg3 x1 1 _ rfl _) ((View.readCov_full _ _ _ _ _).trans (sc_congr0 (read_all arg6 harg6 x4 _ _) (read_half arg1 harg1 x0 0 _ rfl _) (View.readCov_full _ _ _ _ _) (read_half arg3 harg3 x1 0 _ rfl _) (View.readCov_full _ _ _ _ _)))

theorem dg_A : out0_A_8 c i arg1 harg1 arg3 harg3 arg4 harg4 arg5 harg5 arg6 harg6 arg7 harg7 arg8 harg8 arg9 harg9 arg10 harg10 arg11 harg11 hc0 hc1 x0 x1 x2 x3 x4 fh0 = bDg x0 x1 x3 fh0 1 (bDg x0 x1 x3 fh0 0 k0_pay5) := by
  unfold out0_A_8 kernelRun0_A
  dsimp only
  refine (View.read_writes_full _ _ _ _ _).trans ?_
  exact dg_congr1 (read_cols arg5 harg5 x3 1 _ rfl _) (read_half arg1 harg1 x0 1 _ rfl _) (View.readCov_full _ _ _ _ _) (read_half arg3 harg3 x1 1 _ rfl _) ((View.readCov_full _ _ _ _ _).trans (dg_congr0 (read_cols arg5 harg5 x3 1 _ rfl _) (read_half arg1 harg1 x0 0 _ rfl _) (View.readCov_full _ _ _ _ _) (read_half arg3 harg3 x1 0 _ rfl _) (View.readCov_full _ _ _ _ _)))

theorem dx_A (p : Fin 2) (r : Fin 128) (l : Fin 1024) : out0_A_5 c i arg1 harg1 arg3 harg3 arg4 harg4 arg5 harg5 arg6 harg6 arg7 harg7 arg8 harg8 arg9 harg9 arg10 harg10 arg11 harg11 hc0 hc1 x0 x1 x2 x3 x4 fh0 (ix2 ⟨128 * p.val + r.val, by omega⟩ l) = bDx x0 x1 x2 x3 x4 fh0 p (ix2 r l) := by
  unfold out0_A_5 kernelRun0_A
  dsimp only
  refine out_half (F := F) (e := .f32) _ (bDx x0 x1 x2 x3 x4 fh0) ?_ ?_ p _ _ _ r l _
  · exact dx_congr1 (read_all arg6 harg6 x4 _ _) (read_cols arg5 harg5 x3 1 _ rfl _) (read_half arg1 harg1 x0 1 _ rfl _) (View.readCov_full _ _ _ _ _) (read_half arg3 harg3 x1 1 _ rfl _) (read_half arg4 harg4 x2 1 _ rfl _)
  · exact dx_congr0 (read_all arg6 harg6 x4 _ _) (read_cols arg5 harg5 x3 1 _ rfl _) (read_half arg1 harg1 x0 0 _ rfl _) (View.readCov_full _ _ _ _ _) (read_half arg3 harg3 x1 0 _ rfl _) (read_half arg4 harg4 x2 0 _ rfl _)

theorem w_A : sout0_A_0 c i arg1 harg1 arg3 harg3 arg4 harg4 arg5 harg5 arg6 harg6 arg7 harg7 arg8 harg8 arg9 harg9 arg10 harg10 arg11 harg11 hc0 hc1 x0 x1 x2 x3 x4 fh0 = fh0 := by
  unfold sout0_A_0 kernelRun0_A
  exact View.read_writes_full _ _ _ _ _

end first

section later

variable (hc0 : ¬cond0_0 i) (hc1 : ¬cond0_1 i) (xo6 xo7 xo8 : Vec F S1x1024 .f32) (xs0 : Vec F S6656x1024 .bf16)

theorem sh_B : out0_B_6 c i arg1 harg1 arg3 harg3 arg4 harg4 arg5 harg5 arg6 harg6 arg7 harg7 arg8 harg8 arg9 harg9 arg10 harg10 arg11 harg11 hc0 hc1 x0 x1 x2 x3 x4 xo6 xo7 xo8 xs0 fh0 = bSh x0 xs0 1 (bSh x0 xs0 0 xo6) := by
  unfold out0_B_6 kernelRun0_B
  dsimp only
  refine (View.read_writes_full _ _ _ _ _).trans ?_
  exact sh_congr1 (read_half arg1 harg1 x0 1 _ rfl _) (read_all arg11 harg11 xs0 _ _) ((View.readCov_full _ _ _ _ _).trans (sh_congr0 (read_half arg1 harg1 x0 0 _ rfl _) (read_all arg11 harg11 xs0 _ _) (read_all arg8 harg8 xo6 _ _)))

theorem sc_B : out0_B_7 c i arg1 harg1 arg3 harg3 arg4 harg4 arg5 harg5 arg6 harg6 arg7 harg7 arg8 harg8 arg9 harg9 arg10 harg10 arg11 harg11 hc0 hc1 x0 x1 x2 x3 x4 xo6 xo7 xo8 xs0 fh0 = bSc x0 x1 x4 xs0 1 (bSc x0 x1 x4 xs0 0 xo7) := by
  unfold out0_B_7 kernelRun0_B
  dsimp only
  refine (View.read_writes_full _ _ _ _ _).trans ?_
  exact sc_congr1 (read_all arg6 harg6 x4 _ _) (read_half arg1 harg1 x0 1 _ rfl _) (read_all arg11 harg11 xs0 _ _) (read_half arg3 harg3 x1 1 _ rfl _) ((View.readCov_full _ _ _ _ _).trans (sc_congr0 (read_all arg6 harg6 x4 _ _) (read_half arg1 harg1 x0 0 _ rfl _) (read_all arg11 harg11 xs0 _ _) (read_half arg3 harg3 x1 0 _ rfl _) (read_all arg9 harg9 xo7 _ _)))

theorem dg_B : out0_B_8 c i arg1 harg1 arg3 harg3 arg4 harg4 arg5 harg5 arg6 harg6 arg7 harg7 arg8 harg8 arg9 harg9 arg10 harg10 arg11 harg11 hc0 hc1 x0 x1 x2 x3 x4 xo6 xo7 xo8 xs0 fh0 = bDg x0 x1 x3 xs0 1 (bDg x0 x1 x3 xs0 0 xo8) := by
  unfold out0_B_8 kernelRun0_B
  dsimp only
  refine (View.read_writes_full _ _ _ _ _).trans ?_
  exact dg_congr1 (read_cols arg5 harg5 x3 1 _ rfl _) (read_half arg1 harg1 x0 1 _ rfl _) (read_all arg11 harg11 xs0 _ _) (read_half arg3 harg3 x1 1 _ rfl _) ((View.readCov_full _ _ _ _ _).trans (dg_congr0 (read_cols arg5 harg5 x3 1 _ rfl _) (read_half arg1 harg1 x0 0 _ rfl _) (read_all arg11 harg11 xs0 _ _) (read_half arg3 harg3 x1 0 _ rfl _) (read_all arg10 harg10 xo8 _ _)))

theorem dx_B (p : Fin 2) (r : Fin 128) (l : Fin 1024) : out0_B_5 c i arg1 harg1 arg3 harg3 arg4 harg4 arg5 harg5 arg6 harg6 arg7 harg7 arg8 harg8 arg9 harg9 arg10 harg10 arg11 harg11 hc0 hc1 x0 x1 x2 x3 x4 xo6 xo7 xo8 xs0 fh0 (ix2 ⟨128 * p.val + r.val, by omega⟩ l) = bDx x0 x1 x2 x3 x4 xs0 p (ix2 r l) := by
  unfold out0_B_5 kernelRun0_B
  dsimp only
  refine out_half (F := F) (e := .f32) _ (bDx x0 x1 x2 x3 x4 xs0) ?_ ?_ p _ _ _ r l _
  · exact dx_congr1 (read_all arg6 harg6 x4 _ _) (read_cols arg5 harg5 x3 1 _ rfl _) (read_half arg1 harg1 x0 1 _ rfl _) (read_all arg11 harg11 xs0 _ _) (read_half arg3 harg3 x1 1 _ rfl _) (read_half arg4 harg4 x2 1 _ rfl _)
  · exact dx_congr0 (read_all arg6 harg6 x4 _ _) (read_cols arg5 harg5 x3 1 _ rfl _) (read_half arg1 harg1 x0 0 _ rfl _) (read_all arg11 harg11 xs0 _ _) (read_half arg3 harg3 x1 0 _ rfl _) (read_half arg4 harg4 x2 0 _ rfl _)

theorem w_B : sout0_B_0 c i arg1 harg1 arg3 harg3 arg4 harg4 arg5 harg5 arg6 harg6 arg7 harg7 arg8 harg8 arg9 harg9 arg10 harg10 arg11 harg11 hc0 hc1 x0 x1 x2 x3 x4 xo6 xo7 xo8 xs0 fh0 = xs0 := rfl

end later

end Cert.InBwdIdeal.Hand

end
-- ==== Proof.InReal.lean ====
/-
  The operations of half a block of the input's gradient, element by element, and what a grid point reads.
-/
module

public import proofs.«01_k».proof.Proof.InCases
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.InBwdIdeal.Hand

open Cert.InBwdIdeal Cert.InBwdIdeal.Gen Cert.NormKit Cert.RealKit

/-! ## The operations of half a block, element by element -/

theorem z_at (x : FVec Ideal S128x6656 .bf16) (w : FVec Ideal S6656x1024 .bf16) (r : Fin 128) (l : Fin 1024) :
    k0_pay6 (F := Ideal) x w (ix2 r l) = ∑ k : Fin 6656, x (ix2 r k) * w (ix2 k l) := by
  pointwise [k0_pay6]

theorem rs_at (x : FVec Ideal S128x1024 .f32) (r : Fin 128) :
    k0_pay7 (F := Ideal) x (ix2 r 0) = Ideal.rsqrt ((∑ j : Fin 1024, x (ix2 r j) * x (ix2 r j)) * Ideal.ofBits .f32 0x3A800000#32 + Ideal.ofBits .f32 0x358637BD#32) := by
  pointwise [k0_pay7]

theorem nm_at (x : FVec Ideal S128x1024 .f32) (r : Fin 128) (l : Fin 1024) :
    k0_pay8 (F := Ideal) x (ix2 r l) = x (ix2 r l) * k0_pay7 (F := Ideal) x (ix2 r 0) := by
  pointwise [k0_pay8]

theorem sh_at (x : FVec Ideal S128x6656 .bf16) (w : FVec Ideal S6656x1024 .bf16) (a : FVec Ideal S1x1024 .f32) (l : Fin 1024) :
    k0_pay9 (F := Ideal) x w a (ix2 0 l) = a (ix2 0 l) + ∑ i : Fin 128, k0_pay6 (F := Ideal) x w (ix2 i l) := by
  pointwise [k0_pay9]

theorem sc_at (g : FVec Ideal S1x1024 .f32) (z n : FVec Ideal S128x1024 .f32) (a : FVec Ideal S1x1024 .f32) (l : Fin 1024) :
    k0_pay11 (F := Ideal) g z n (k0_pay10 a) (ix2 0 l) = a (ix2 0 l) + ∑ i : Fin 128, z (ix2 i l) * n (ix2 i l) * g (ix2 0 l) := by
  pointwise [k0_pay11, k0_pay10]

theorem dg_at (s : FVec Ideal S1x1024 .f32) (z n : FVec Ideal S128x1024 .f32) (a : FVec Ideal S1x1024 .f32) (l : Fin 1024) :
    k0_pay12 (F := Ideal) s z n a (ix2 0 l) = a (ix2 0 l) + ∑ i : Fin 128, z (ix2 i l) * n (ix2 i l) * (Ideal.ofBits .f32 0x3F800000#32 + s (ix2 0 l)) := by
  pointwise [k0_pay12]

theorem dx_at (g s : FVec Ideal S1x1024 .f32) (z n : FVec Ideal S128x1024 .f32) (q : FVec Ideal S128x1 .f32) (h : FVec Ideal S128x1024 .f32) (r : Fin 128) (l : Fin 1024) :
    k0_pay13 (F := Ideal) g s z q n h (ix2 r l) = h (ix2 r l) + q (ix2 r 0) * (z (ix2 r l) * g (ix2 0 l) * (Ideal.ofBits .f32 0x3F800000#32 + s (ix2 0 l))
      - n (ix2 r l) * ((∑ j : Fin 1024, z (ix2 r j) * g (ix2 0 j) * (Ideal.ofBits .f32 0x3F800000#32 + s (ix2 0 j)) * n (ix2 r j)) * Ideal.ofBits .f32 0x3A800000#32)) := by
  pointwise [k0_pay13]

/-! ## The reads of a grid point -/

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] ∧ win0_7.index t = ![0, 0] ∧ win0_8.index t = ![0, 0] :=
  (by decide +kernel : ∀ t : Fin grid0.N, _)

theorem pt {t : Fin cfg0.N} : t.val < 8 := lt_of_lt_of_eq t.isLt (show cfg0.N = 8 from N_0)

section reads

variable (m : (ℓ : Loc nD τ sig) → Buf (Elt Ideal) ℓ) (c : Dev nD)

set_option maxHeartbeats 400000 in
theorem read_p (t : Fin cfg0.N) (i : Fin 256) (k : Fin 6656) (hN : t.val < 8) : (iblk m c 0 t : Vec Ideal S256x6656 .bf16) (ix2 i k)
    = (V m c main_v0 : FVec Ideal S2048x6656 .bf16) (ix2 ⟨256 * t.val + i, by omega⟩ k) := by
  blk_point [iblk, idx t]

set_option maxHeartbeats 400000 in
theorem read_x (t : Fin cfg0.N) (i : Fin 256) (l : Fin 1024) (hN : t.val < 8) : (iblk m c 1 t : Vec Ideal S256x1024 .f32) (ix2 i l)
    = (V m c main_arg0 : FVec Ideal S2048x1024 .f32) (ix2 ⟨256 * t.val + i, by omega⟩ l) := by
  blk_point [iblk, idx t]

set_option maxHeartbeats 400000 in
theorem read_h (t : Fin cfg0.N) (i : Fin 256) (l : Fin 1024) (hN : t.val < 8) : (iblk m c 2 t : Vec Ideal S256x1024 .f32) (ix2 i l)
    = (V m c main_arg5 : FVec Ideal S2048x1024 .f32) (ix2 ⟨256 * t.val + i, by omega⟩ l) := by
  blk_point [iblk, idx t]

set_option maxHeartbeats 400000 in
theorem read_s (t : Fin cfg0.N) (l : Fin 6144) : (iblk m c 3 t : Vec Ideal S1x6144 .f32) (ix2 0 l) = (V m c main_arg2 : FVec Ideal S1x6144 .f32) (ix2 0 l) := by
  blk_point [iblk, idx t]

set_option maxHeartbeats 400000 in
theorem read_g (t : Fin cfg0.N) (l : Fin 1024) : (iblk m c 4 t : Vec Ideal S1x1024 .f32) (ix2 0 l) = (V m c main_arg1 : FVec Ideal S1x1024 .f32) (ix2 0 l) := by
  blk_point [iblk, idx t]

set_option maxHeartbeats 2000000 in
theorem entryP (n : Fin 2048) (k : Fin 6656) : (V m c main_v0 : FVec Ideal S2048x6656 .bf16) (ix2 n k) = (m (c.tc.loc main_arg4) : FVec Ideal S2048x6656 .f32) (ix2 n k) := by
  unfold_abbrev_sides
  after_reads_simp
  rfl

set_option maxHeartbeats 2000000 in
theorem entryW (k : Fin 6656) (l : Fin 1024) : (V m c main_v2 : FVec Ideal S6656x1024 .bf16) (ix2 k l) = (m (c.tc.loc main_arg3) : FVec Ideal S1024x6656 .f32) (ix2 l k) := by
  unfold_abbrev_sides
  after_reads_simp
  pointwise []

end reads

end Cert.InBwdIdeal.Hand

end
-- ==== Proof.InGrid.lean ====
/-
  The walk of the input's gradient over the reals.
-/
module

public import proofs.«01_k».proof.Proof.InReal

@[expose] public section

set_option maxRecDepth 16384

noncomputable section

open Idealize.ShloMosaic Idealize.ShloMosaic.TcCoe Idealize.SL.Sem

namespace Cert.InBwdIdeal.Hand

open Cert.InBwdIdeal Cert.InBwdIdeal.Gen Cert.NormKit Cert.RealKit

/-! ## The tables -/

/-- The gradient of the norm's output. -/
def dz (P W : ℕ → ℕ → ℝ) (n l : ℕ) : ℝ := ∑ k : Fin 6656, P n k * W l k

/-- The gradient of the normalised rows. -/
def dn (P W : ℕ → ℕ → ℝ) (G S : ℕ → ℝ) (n l : ℕ) : ℝ := dz P W n l * G l * (1 + S l)

/-- The gradient of the input; what comes from behind is added as it is. -/
def dX (P W X : ℕ → ℕ → ℝ) (H : ℕ → ℕ → EReal) (G S : ℕ → ℝ) (n l : ℕ) : EReal := H n l + ((back (X n) (dn P W G S n) l : ℝ) : EReal)

variable (m : (ℓ : Loc nD τ sig) → Buf (Elt Ideal) ℓ) (c : Dev nD)

/-- The argument blocks of every point are finite, but for the one that is only added. -/
structure Blocks (P W X : ℕ → ℕ → ℝ) (H : ℕ → ℕ → EReal) (G S : ℕ → ℝ) : Prop where
  p : ∀ (t : Fin cfg0.N) (i : Fin 256) (k : Fin 6656), (iblk m c 0 t : Vec Ideal S256x6656 .bf16) (ix2 i k) = (P (256 * t.val + i) k : EReal)
  x : ∀ (t : Fin cfg0.N) (i : Fin 256) (l : Fin 1024), (iblk m c 1 t : Vec Ideal S256x1024 .f32) (ix2 i l) = (X (256 * t.val + i) l : EReal)
  h : ∀ (t : Fin cfg0.N) (i : Fin 256) (l : Fin 1024), (iblk m c 2 t : Vec Ideal S256x1024 .f32) (ix2 i l) = H (256 * t.val + i) l
  s : ∀ (t : Fin cfg0.N) (l : Fin 1024), cols (iblk m c 3 t : Vec Ideal S1x6144 .f32) 1 (ix2 0 l) = (S l : EReal)
  g : ∀ (t : Fin cfg0.N) (l : Fin 1024), (iblk m c 4 t : Vec Ideal S1x1024 .f32) (ix2 0 l) = (G l : EReal)
  w : ∀ (k : Fin 6656) (l : Fin 1024), (V m c main_v2 : FVec Ideal S6656x1024 .bf16) (ix2 k l) = (W l k : EReal)

variable {m c} {P W X : ℕ → ℕ → ℝ} {H : ℕ → ℕ → EReal} {G S : ℕ → ℝ} (B : Blocks m c P W X H G S) (t : Fin cfg0.N) (p : Fin 2)

/-- The row of an index within a half. -/
def row (t : ℕ) (p : Fin 2) (r : ℕ) : ℕ := 256 * t + (128 * p.val + r)

include B in
theorem z_real (r : Fin 128) (l : Fin 1024) : k0_pay6 (F := Ideal) (half (iblk m c 0 t : Vec Ideal S256x6656 .bf16) p) (V m c main_v2 : FVec Ideal S6656x1024 .bf16) (ix2 r l) = (dz P W (row t p r) l : EReal) := by
  rw [z_at]
  unfold dz
  rw [coe_sum]
  refine Finset.sum_congr rfl fun k _ => ?_
  rw [EReal.coe_mul]
  exact congrArg₂ (fun a b : EReal => a * b) (B.p t _ k) (B.w k l)

include B in
theorem half_x (r : Fin 128) (l : Fin 1024) : half (iblk m c 1 t : Vec Ideal S256x1024 .f32) p (ix2 r l) = (X (row t p r) l : EReal) := B.x t _ l

include B in
theorem rs_real (r : Fin 128) : k0_pay7 (F := Ideal) (half (iblk m c 1 t : Vec Ideal S256x1024 .f32) p) (ix2 r 0) = (rs (X (row t p r)) : EReal) := by
  rw [rs_at, bits_thousandth, bits_eps]
  simp only [half_x B t p, ← EReal.coe_mul, ← coe_sum]
  rw [EReal.coe_mul]
  exact rs_mul _

include B in
theorem nm_real (r : Fin 128) (l : Fin 1024) : k0_pay8 (F := Ideal) (half (iblk m c 1 t : Vec Ideal S256x1024 .f32) p) (ix2 r l) = (nm (X (row t p r)) l : EReal) := by
  rw [nm_at, half_x B, rs_real B, ← EReal.coe_mul]
  rfl

include B in
theorem sh_real (a : Vec Ideal S1x1024 .f32) (l : Fin 1024) : bSh (iblk m c 0 t : Vec Ideal S256x6656 .bf16) (V m c main_v2 : FVec Ideal S6656x1024 .bf16) p a (ix2 0 l) = a (ix2 0 l) + ((∑ i : Fin 128, dz P W (row t p i) l : ℝ) : EReal) := by
  unfold bSh
  rw [sh_at, coe_sum]
  simp only [z_real B t p]

include B in
theorem sc_real (a : Vec Ideal S1x1024 .f32) (l : Fin 1024) : bSc (iblk m c 0 t : Vec Ideal S256x6656 .bf16) (iblk m c 1 t : Vec Ideal S256x1024 .f32) (iblk m c 4 t : Vec Ideal S1x1024 .f32) (V m c main_v2 : FVec Ideal S6656x1024 .bf16) p a (ix2 0 l)
    = a (ix2 0 l) + ((∑ i : Fin 128, dz P W (row t p i) l * nm (X (row t p i)) l * G l : ℝ) : EReal) := by
  unfold bSc
  rw [sc_at, coe_sum]
  simp only [z_real B t p, nm_real B t p, B.g t, EReal.coe_mul]

include B in
theorem dg_real (a : Vec Ideal S1x1024 .f32) (l : Fin 1024) : bDg (iblk m c 0 t : Vec Ideal S256x6656 .bf16) (iblk m c 1 t : Vec Ideal S256x1024 .f32) (iblk m c 3 t : Vec Ideal S1x6144 .f32) (V m c main_v2 : FVec Ideal S6656x1024 .bf16) p a (ix2 0 l)
    = a (ix2 0 l) + ((∑ i : Fin 128, dz P W (row t p i) l * nm (X (row t p i)) l * (1 + S l) : ℝ) : EReal) := by
  unfold bDg
  rw [dg_at, coe_sum, bits_unit]
  simp only [z_real B t p, nm_real B t p, B.s t, ← EReal.coe_add, EReal.coe_mul]

include B in
theorem dx_real (r : Fin 128) (l : Fin 1024) : bDx (iblk m c 0 t : Vec Ideal S256x6656 .bf16) (iblk m c 1 t : Vec Ideal S256x1024 .f32) (iblk m c 2 t : Vec Ideal S256x1024 .f32) (iblk m c 3 t : Vec Ideal S1x6144 .f32) (iblk m c 4 t : Vec Ideal S1x1024 .f32) (V m c main_v2 : FVec Ideal S6656x1024 .bf16) p (ix2 r l) = dX P W X H G S (row t p r) l := by
  unfold bDx
  rw [dx_at, bits_unit, bits_thousandth]
  simp only [z_real B t p, nm_real B t p, rs_real B t p, B.s t, B.g t, ← EReal.coe_add, ← EReal.coe_mul, ← coe_sum, ← EReal.coe_sub]
  rw [show half (iblk m c 2 t : Vec Ideal S256x1024 .f32) p (ix2 r l) = H (row t p r) l from B.h t _ l]
  rfl

/-- Two halves added to the rows before them. -/
theorem halves (f : ℕ → ℝ) (t : ℕ) {z : EReal} (h : z = ((∑ n ∈ Finset.range (256 * t), f n : ℝ) : EReal)) :
    z + ((∑ i : Fin 128, f (row t 0 i) : ℝ) : EReal) + ((∑ i : Fin 128, f (row t 1 i) : ℝ) : EReal) = ((∑ n ∈ Finset.range (256 * (t + 1)), f n : ℝ) : EReal) := by
  rw [h, ← EReal.coe_add, ← EReal.coe_add, ← add_halves]
  simp only [row, Fin.val_zero, Fin.val_one, Nat.mul_zero, Nat.zero_add, Nat.mul_one, Nat.add_assoc]

/-! ## The walk -/

/-- What a point leaves. -/
def Left (m : (ℓ : Loc nD τ sig) → Buf (Elt Ideal) ℓ) (c : Dev nD) (P W X : ℕ → ℕ → ℝ) (H : ℕ → ℕ → EReal) (G S : ℕ → ℝ) (n : ℕ) (hn : n < cfg0.N) : Prop :=
  (∀ (p : Fin 2) (r : Fin 128) (l : Fin 1024), (outsAt0 m c n hn).1 (ix2 ⟨128 * p.val + r.val, by omega⟩ l) = dX P W X H G S (row n p r) l)
    ∧ (∀ l : Fin 1024, (outsAt0 m c n hn).2.1 (ix2 0 l) = ((∑ i ∈ Finset.range (256 * (n + 1)), dz P W i l : ℝ) : EReal))
    ∧ (∀ l : Fin 1024, (outsAt0 m c n hn).2.2.1 (ix2 0 l) = ((∑ i ∈ Finset.range (256 * (n + 1)), dz P W i l * nm (X i) l * G l : ℝ) : EReal))
    ∧ (∀ l : Fin 1024, (outsAt0 m c n hn).2.2.2.1 (ix2 0 l) = ((∑ i ∈ Finset.range (256 * (n + 1)), dz P W i l * nm (X i) l * (1 + S l) : ℝ) : EReal))
    ∧ (outsAt0 m c n hn).2.2.2.2 = (V m c main_v2 : FVec Ideal S6656x1024 .bf16)

theorem zero3 (l : Fin 1024) (f : ℕ → ℝ) (h : t.val = 0) : k0_pay3 (F := Ideal) (ix2 0 l) = ((∑ n ∈ Finset.range (256 * t.val), f n : ℝ) : EReal) := by
  rw [h]
  pointwise [k0_pay3]
  simp

theorem zero4 (l : Fin 1024) (f : ℕ → ℝ) (h : t.val = 0) : k0_pay4 (F := Ideal) (ix2 0 l) = ((∑ n ∈ Finset.range (256 * t.val), f n : ℝ) : EReal) := by
  rw [h]
  pointwise [k0_pay4]
  simp

theorem zero5 (l : Fin 1024) (f : ℕ → ℝ) (h : t.val = 0) : k0_pay5 (F := Ideal) (ix2 0 l) = ((∑ n ∈ Finset.range (256 * t.val), f n : ℝ) : EReal) := by
  rw [h]
  pointwise [k0_pay5]
  simp

set_option maxHeartbeats 1000000 in
include B in
theorem left_A (h : t.val = 0) : Left m c P W X H G S t.val t.isLt := by
  unfold Left
  rw [outsAt0_A m c t (by rw [h]) (by rw [h])]
  dsimp only
  refine And.intro (fun p r l => ?_) (And.intro (fun l => ?_) (And.intro (fun l => ?_) (And.intro (fun l => ?_) ?_)))
  · rw [dx_A]
    exact dx_real B t p r l
  · rw [sh_A, sh_real B t, sh_real B t]
    exact halves (fun n => dz P W n l) t (zero3 t l _ h)
  · rw [sc_A, sc_real B t, sc_real B t]
    exact halves (fun n => dz P W n l * nm (X n) l * G l) t (zero4 t l _ h)
  · rw [dg_A, dg_real B t, dg_real B t]
    exact halves (fun n => dz P W n l * nm (X n) l * (1 + S l)) t (zero5 t l _ h)
  · exact w_A (F := Ideal) ..

set_option maxHeartbeats 1000000 in
include B in
theorem left_B (h : ¬ t.val % 8 = 0) (hs : Left m c P W X H G S (t.val - 1) (Nat.lt_of_le_of_lt (Nat.sub_le _ _) t.isLt)) : Left m c P W X H G S t.val t.isLt := by
  obtain ⟨-, h1, h2, h3, h4⟩ := hs
  have e : t.val - 1 + 1 = t.val := by omega
  rw [e] at h1 h2 h3
  unfold Left
  rw [outsAt0_B m c t h h]
  dsimp only
  refine And.intro (fun p r l => ?_) (And.intro (fun l => ?_) (And.intro (fun l => ?_) (And.intro (fun l => ?_) ?_)))
  · rw [dx_B, h4]
    exact dx_real B t p r l
  · rw [sh_B, h4, sh_real B t, sh_real B t]
    exact halves (fun n => dz P W n l) t (h1 l)
  · rw [sc_B, h4, sc_real B t, sc_real B t]
    exact halves (fun n => dz P W n l * nm (X n) l * G l) t (h2 l)
  · rw [dg_B, h4, dg_real B t, dg_real B t]
    exact halves (fun n => dz P W n l * nm (X n) l * (1 + S l)) t (h3 l)
  · exact h4

include B in
theorem left_real : ∀ (n : ℕ) (hn : n < cfg0.N), Left m c P W X H G S n hn := by
  intro n
  induction n with
  | zero => exact fun hn => left_A B ⟨0, hn⟩ rfl
  | succ n ih =>
    intro hn
    have h8 : n + 1 < 8 := lt_of_lt_of_eq hn (show cfg0.N = 8 from N_0)
    exact left_B B ⟨n + 1, hn⟩ (by show ¬(n + 1) % 8 = 0; omega) (ih (Nat.lt_of_succ_lt hn))

/-! ## The arrays -/

set_option maxHeartbeats 1000000 in
include B in
/-- The array of the input's gradient. -/
theorem array5 {R : FVec Ideal S2048x1024 .f32} (hR : ∀ (n : Fin 2048) (l : Fin 1024), R (ix2 n l) = dX P W X H G S n l) :
    (dats m 0 c).arrAt 5 (cfgs 0).N = R := by
  refine (dats m 0 c).arrAt_eq_of_covers 5 _ (by decide +kernel) fun t hf y => ?_
  have ht : t.val < 8 := pt
  have h0 : ((((View.whole main_v3_0).slice (win0_5.rect t)).emb y) 0 : ℕ) = t.val * 256 + y 0 := by blk_simp [idx t]
  have h1 : ((((View.whole main_v3_0).slice (win0_5.rect t)).emb y) 1 : ℕ) = y 1 := by blk_simp [idx t]
  blk_simp
  rw [after0_5]
  have hy0 : (y 0).val < 256 := (y 0).isLt
  have hy1 : (y 1).val < 1024 := (y 1).isLt
  have hi : ((View.whole main_v3_0).slice (win0_5.rect t)).emb y = ix2 ⟨256 * t.val + y 0, by omega⟩ ⟨y 1, by omega⟩ :=
    (eq_ix2 _).trans (congrArg₂ ix2 (Fin.ext (h0.trans (by dsimp only; omega))) (Fin.ext h1))
  refine Eq.trans ?_ (congrArg R hi).symm
  have O := (left_real B t.val t.isLt).1 ⟨(y 0).val / 128, by omega⟩ ⟨(y 0).val % 128, by omega⟩ ⟨(y 1).val, by omega⟩
  have e : 128 * ((y 0).val / 128) + (y 0).val % 128 = (y 0).val := by omega
  have hy : y = ix2 ⟨128 * ((y 0).val / 128) + (y 0).val % 128, by omega⟩ (y 1) := (eq_ix2 _).trans (congrArg (fun a => ix2 a (y 1)) (Fin.ext e.symm))
  refine (congrArg _ hy).trans (O.trans ?_)
  unfold row
  dsimp only
  rw [e]
  exact (hR ⟨256 * t.val + y 0, by omega⟩ ⟨y 1, by omega⟩).symm

set_option maxHeartbeats 1000000 in
include B in
/-- The array of the shift's gradient. -/
theorem array6 {R : FVec Ideal S1x1024 .f32} (hR : ∀ l : Fin 1024, R (ix2 0 l) = ((∑ i ∈ Finset.range 2048, dz P W i l : ℝ) : EReal)) :
    (dats m 0 c).arrAt 6 (cfgs 0).N = R := by
  refine (dats m 0 c).arrAt_eq_of_covers 6 _ (by decide +kernel) fun t hf y => ?_
  have h0 : ((((View.whole main_v3_1).slice (win0_6.rect t)).emb y) 0 : ℕ) = y 0 := by blk_simp [idx t]
  have h1 : ((((View.whole main_v3_1).slice (win0_6.rect t)).emb y) 1 : ℕ) = y 1 := by blk_simp [idx t]
  have ht : t.val = 7 := ((by decide +kernel : ∀ t : Fin cfg0.N, win0_6.flush t = true → t.val = 7) t hf)
  blk_simp
  rw [after0_6]
  have hy0 : (y 0).val < 1 := (y 0).isLt
  have hy1 : (y 1).val < 1024 := (y 1).isLt
  have hi : ((View.whole main_v3_1).slice (win0_6.rect t)).emb y = ix2 0 ⟨y 1, by omega⟩ :=
    (eq_ix2 _).trans (congrArg₂ ix2 (Fin.ext (h0.trans (by show (y 0).val = 0; omega))) (Fin.ext h1))
  have hy : y = ix2 0 ⟨y 1, by omega⟩ := (eq_ix2 _).trans (congrArg (fun a => ix2 a (y 1)) (Fin.ext (by show (y 0).val = 0; omega)))
  refine Eq.trans ?_ (congrArg R hi).symm
  refine (congrArg _ hy).trans (((left_real B t.val t.isLt).2.1 ⟨y 1, by omega⟩).trans ?_)
  rw [ht]
  exact (hR ⟨y 1, by omega⟩).symm

set_option maxHeartbeats 1000000 in
include B in
/-- The array of the scale's gradient. -/
theorem array7 {R : FVec Ideal S1x1024 .f32} (hR : ∀ l : Fin 1024, R (ix2 0 l) = ((∑ i ∈ Finset.range 2048, dz P W i l * nm (X i) l * G l : ℝ) : EReal)) :
    (dats m 0 c).arrAt 7 (cfgs 0).N = R := by
  refine (dats m 0 c).arrAt_eq_of_covers 7 _ (by decide +kernel) fun t hf y => ?_
  have h0 : ((((View.whole main_v3_2).slice (win0_7.rect t)).emb y) 0 : ℕ) = y 0 := by blk_simp [idx t]
  have h1 : ((((View.whole main_v3_2).slice (win0_7.rect t)).emb y) 1 : ℕ) = y 1 := by blk_simp [idx t]
  have ht : t.val = 7 := ((by decide +kernel : ∀ t : Fin cfg0.N, win0_7.flush t = true → t.val = 7) t hf)
  blk_simp
  rw [after0_7]
  have hy0 : (y 0).val < 1 := (y 0).isLt
  have hy1 : (y 1).val < 1024 := (y 1).isLt
  have hi : ((View.whole main_v3_2).slice (win0_7.rect t)).emb y = ix2 0 ⟨y 1, by omega⟩ :=
    (eq_ix2 _).trans (congrArg₂ ix2 (Fin.ext (h0.trans (by show (y 0).val = 0; omega))) (Fin.ext h1))
  have hy : y = ix2 0 ⟨y 1, by omega⟩ := (eq_ix2 _).trans (congrArg (fun a => ix2 a (y 1)) (Fin.ext (by show (y 0).val = 0; omega)))
  refine Eq.trans ?_ (congrArg R hi).symm
  refine (congrArg _ hy).trans (((left_real B t.val t.isLt).2.2.1 ⟨y 1, by omega⟩).trans ?_)
  rw [ht]
  exact (hR ⟨y 1, by omega⟩).symm

set_option maxHeartbeats 1000000 in
include B in
/-- The array of the norm weight's gradient. -/
theorem array8 {R : FVec Ideal S1x1024 .f32} (hR : ∀ l : Fin 1024, R (ix2 0 l) = ((∑ i ∈ Finset.range 2048, dz P W i l * nm (X i) l * (1 + S l) : ℝ) : EReal)) :
    (dats m 0 c).arrAt 8 (cfgs 0).N = R := by
  refine (dats m 0 c).arrAt_eq_of_covers 8 _ (by decide +kernel) fun t hf y => ?_
  have h0 : ((((View.whole main_v3_3).slice (win0_8.rect t)).emb y) 0 : ℕ) = y 0 := by blk_simp [idx t]
  have h1 : ((((View.whole main_v3_3).slice (win0_8.rect t)).emb y) 1 : ℕ) = y 1 := by blk_simp [idx t]
  have ht : t.val = 7 := ((by decide +kernel : ∀ t : Fin cfg0.N, win0_8.flush t = true → t.val = 7) t hf)
  blk_simp
  rw [after0_8]
  have hy0 : (y 0).val < 1 := (y 0).isLt
  have hy1 : (y 1).val < 1024 := (y 1).isLt
  have hi : ((View.whole main_v3_3).slice (win0_8.rect t)).emb y = ix2 0 ⟨y 1, by omega⟩ :=
    (eq_ix2 _).trans (congrArg₂ ix2 (Fin.ext (h0.trans (by show (y 0).val = 0; omega))) (Fin.ext h1))
  have hy : y = ix2 0 ⟨y 1, by omega⟩ := (eq_ix2 _).trans (congrArg (fun a => ix2 a (y 1)) (Fin.ext (by show (y 0).val = 0; omega)))
  refine Eq.trans ?_ (congrArg R hi).symm
  refine (congrArg _ hy).trans (((left_real B t.val t.isLt).2.2.2.1 ⟨y 1, by omega⟩).trans ?_)
  rw [ht]
  exact (hR ⟨y 1, by omega⟩).symm

end Cert.InBwdIdeal.Hand

end
-- ==== Proof.InRef.lean ====
/-
  The reference's gradients of the block's input, its modulation and its norm, over the reals.
-/
module

public import proofs.«01_k».proof.Proof.InGrid
public import proofs.«01_k».proof.Proof.Gen.InBwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InBwdRefIdeal.Hand

open Cert.InBwdRefIdeal Cert.InBwdRefIdeal.Read Cert.NormKit Cert.RealKit
open Cert.InBwdIdeal.Hand (dz dn dX)

section reals

variable {x0 x5 : (⟨S2048x1024, .f32⟩ : BufTy).Contents (Elt Ideal)} {x1 : (⟨S1x1024, .f32⟩ : BufTy).Contents (Elt Ideal)} {x2 : (⟨S1x6144, .f32⟩ : BufTy).Contents (Elt Ideal)}
  {x3 : (⟨S1024x6656, .f32⟩ : BufTy).Contents (Elt Ideal)} {x4 : (⟨S2048x6656, .f32⟩ : BufTy).Contents (Elt Ideal)} {P W X : ℕ → ℕ → ℝ} {H : ℕ → ℕ → EReal} {G S : ℕ → ℝ}

theorem ms_at (hx : ∀ (n : Fin 2048) (l : Fin 1024), x0 (ix2 n l) = (X n l : EReal)) (n : Fin 2048) : val_main_v8 (F := Ideal) x0 (ix2 n 0) = ((ms (X n) : ℝ) : EReal) := by
  pointwise [val_main_v8, val_main_v7, val_main_cst_1, val_main_v6, val_main_v5, val_main_cst_0, val_main_v4, val_main_v3, val_main_cst, val_main_v2]
  simp only [hx, bits_thousand, bits_eps, ← EReal.coe_mul, ← coe_sum]
  exact ms_div _

theorem rs_at (hx : ∀ (n : Fin 2048) (l : Fin 1024), x0 (ix2 n l) = (X n l : EReal)) (n : Fin 2048) : val_main_v9 (F := Ideal) x0 (ix2 n 0) = ((rs (X n) : ℝ) : EReal) := by
  refine Eq.trans (b := Ideal.rsqrt (val_main_v8 (F := Ideal) x0 (ix2 n 0))) (by pointwise [val_main_v9]) ?_
  rw [ms_at hx, rs_ms]

theorem slope_at (hx : ∀ (n : Fin 2048) (l : Fin 1024), x0 (ix2 n l) = (X n l : EReal)) (n : Fin 2048) : val_main_v12 (F := Ideal) x0 (ix2 n 0) = ((-(1 / 2) * (rs (X n) / ms (X n)) : ℝ) : EReal) := by
  refine Eq.trans (b := Ideal.ofBits .f32 0xBF000000#32 * Ideal.div (val_main_v9 (F := Ideal) x0 (ix2 n 0)) (val_main_v8 (F := Ideal) x0 (ix2 n 0))) (by pointwise [val_main_v12, val_main_v11, val_main_cst_2, val_main_v10]) ?_
  rw [rs_at hx, ms_at hx, bits_neg_half, div_coe _ _ (ms_pos _).ne', ← EReal.coe_mul]

theorem nm_at (hx : ∀ (n : Fin 2048) (l : Fin 1024), x0 (ix2 n l) = (X n l : EReal)) (n : Fin 2048) (l : Fin 1024) : val_main_v14 (F := Ideal) x0 (ix2 n l) = ((nm (X n) l : ℝ) : EReal) := by
  refine Eq.trans (b := x0 (ix2 n l) * val_main_v9 (F := Ideal) x0 (ix2 n 0)) (by pointwise [val_main_v14, val_main_v13]) ?_
  rw [rs_at hx, hx, ← EReal.coe_mul]
  rfl

theorem dz_at (hp : ∀ (n : Fin 2048) (k : Fin 6656), x4 (ix2 n k) = (P n k : EReal)) (hw : ∀ (l : Fin 1024) (k : Fin 6656), x3 (ix2 l k) = (W l k : EReal)) (n : Fin 2048) (l : Fin 1024) :
    val_main_v24 (F := Ideal) x3 x4 (ix2 n l) = ((dz P W n l : ℝ) : EReal) := by
  pointwise [val_main_v24]
  simp only [hp, hw, ← EReal.coe_mul, ← coe_sum]
  rfl

/-- The reference's gradient of the shift. -/
theorem shift_at (hp : ∀ (n : Fin 2048) (k : Fin 6656), x4 (ix2 n k) = (P n k : EReal)) (hw : ∀ (l : Fin 1024) (k : Fin 6656), x3 (ix2 l k) = (W l k : EReal)) (l : Fin 1024) :
    val_main_v26 (F := Ideal) x3 x4 (ix2 0 l) = ((∑ i ∈ Finset.range 2048, dz P W i l : ℝ) : EReal) := by
  pointwise [val_main_v26, val_main_v25, val_main_cst_4]
  simp only [dz_at hp hw, ← coe_sum]
  rw [Finset.sum_range]

/-- The reference's gradient of the scale. -/
theorem scale_at (hx : ∀ (n : Fin 2048) (l : Fin 1024), x0 (ix2 n l) = (X n l : EReal)) (hg : ∀ l : Fin 1024, x1 (ix2 0 l) = (G l : EReal))
    (hp : ∀ (n : Fin 2048) (k : Fin 6656), x4 (ix2 n k) = (P n k : EReal)) (hw : ∀ (l : Fin 1024) (k : Fin 6656), x3 (ix2 l k) = (W l k : EReal)) (l : Fin 1024) :
    val_main_v29 (F := Ideal) x0 x1 x3 x4 (ix2 0 l) = ((∑ i ∈ Finset.range 2048, dz P W i l * nm (X i) l * G l : ℝ) : EReal) := by
  pointwise [val_main_v29, val_main_v28, val_main_cst_5, val_main_v27, val_main_v16, val_main_v15]
  simp only [dz_at hp hw, nm_at hx, hg, ← EReal.coe_mul, ← coe_sum]
  rw [Finset.sum_range]
  refine congrArg Real.toEReal (Finset.sum_congr rfl fun i _ => ?_)
  ring

/-- The reference's gradient of the norm's weight. -/
theorem weight_at (hx : ∀ (n : Fin 2048) (l : Fin 1024), x0 (ix2 n l) = (X n l : EReal)) (hs : ∀ (l : Fin 1024) (h : 1024 + l.val < 6144), x2 (ix2 0 ⟨1024 + l, h⟩) = (S l : EReal))
    (hp : ∀ (n : Fin 2048) (k : Fin 6656), x4 (ix2 n k) = (P n k : EReal)) (hw : ∀ (l : Fin 1024) (k : Fin 6656), x3 (ix2 l k) = (W l k : EReal)) (l : Fin 1024) :
    val_main_v34 (F := Ideal) x0 x2 x3 x4 (ix2 0 l) = ((∑ i ∈ Finset.range 2048, dz P W i l * nm (X i) l * (1 + S l) : ℝ) : EReal) := by
  pointwise [val_main_v34, val_main_v33, val_main_cst_6, val_main_v32, val_main_v31, val_main_v30, val_main_v18, val_main_v17, val_main_cst_3, val_main_v1]
  simp only [dz_at hp hw, nm_at hx, hs, bits_unit, ← EReal.coe_one, ← EReal.coe_add, ← EReal.coe_mul, ← coe_sum]
  rw [Finset.sum_range]
  refine congrArg Real.toEReal (Finset.sum_congr rfl fun i _ => ?_)
  ring

theorem dn_at (hg : ∀ l : Fin 1024, x1 (ix2 0 l) = (G l : EReal)) (hs : ∀ (l : Fin 1024) (h : 1024 + l.val < 6144), x2 (ix2 0 ⟨1024 + l, h⟩) = (S l : EReal))
    (hp : ∀ (n : Fin 2048) (k : Fin 6656), x4 (ix2 n k) = (P n k : EReal)) (hw : ∀ (l : Fin 1024) (k : Fin 6656), x3 (ix2 l k) = (W l k : EReal)) (n : Fin 2048) (l : Fin 1024) :
    val_main_v36 (F := Ideal) x1 x2 x3 x4 (ix2 n l) = ((dn P W G S n l : ℝ) : EReal) := by
  pointwise [val_main_v36, val_main_v35, val_main_v31, val_main_v30, val_main_v18, val_main_v17, val_main_cst_3, val_main_v1]
  simp only [dz_at hp hw, hs, hg, bits_unit, ← EReal.coe_one, ← EReal.coe_add, ← EReal.coe_mul]
  refine congrArg Real.toEReal ?_
  unfold dn
  ring

theorem share_at (hx : ∀ (n : Fin 2048) (l : Fin 1024), x0 (ix2 n l) = (X n l : EReal)) (hg : ∀ l : Fin 1024, x1 (ix2 0 l) = (G l : EReal)) (hs : ∀ (l : Fin 1024) (h : 1024 + l.val < 6144), x2 (ix2 0 ⟨1024 + l, h⟩) = (S l : EReal))
    (hp : ∀ (n : Fin 2048) (k : Fin 6656), x4 (ix2 n k) = (P n k : EReal)) (hw : ∀ (l : Fin 1024) (k : Fin 6656), x3 (ix2 l k) = (W l k : EReal)) (n : Fin 2048) (l : Fin 1024) :
    val_main_v47 (F := Ideal) x0 x1 x2 x3 x4 (ix2 n l) = ((share (X n) (dn P W G S n) : ℝ) : EReal) := by
  refine Eq.trans (b := Ideal.div ((∑ j : Fin 1024, x0 (ix2 n j) * val_main_v36 (F := Ideal) x1 x2 x3 x4 (ix2 n j)) * val_main_v12 (F := Ideal) x0 (ix2 n 0)) (Ideal.ofBits .f32 0x44800000#32))
    (by
      pointwise [val_main_v47, val_main_v46, val_main_cst_9, val_main_v45, val_main_v44, val_main_cst_8, val_main_v43, val_main_v39, val_main_v38, val_main_cst_7, val_main_v37]
      exact Fin.sum_univ_one _) ?_
  simp only [hx, dn_at hg hs hp hw, slope_at hx, bits_thousand, ← EReal.coe_mul, ← coe_sum]
  rw [div_coe _ _ (by norm_num)]
  rfl

/-- The reference's gradient of the input. -/
theorem input_at (hx : ∀ (n : Fin 2048) (l : Fin 1024), x0 (ix2 n l) = (X n l : EReal)) (hg : ∀ l : Fin 1024, x1 (ix2 0 l) = (G l : EReal)) (hs : ∀ (l : Fin 1024) (h : 1024 + l.val < 6144), x2 (ix2 0 ⟨1024 + l, h⟩) = (S l : EReal))
    (hp : ∀ (n : Fin 2048) (k : Fin 6656), x4 (ix2 n k) = (P n k : EReal)) (hw : ∀ (l : Fin 1024) (k : Fin 6656), x3 (ix2 l k) = (W l k : EReal))
    (hh : ∀ (n : Fin 2048) (l : Fin 1024), x5 (ix2 n l) = H n l) (n : Fin 2048) (l : Fin 1024) :
    val_main_v51 (F := Ideal) x0 x1 x2 x3 x4 x5 (ix2 n l) = dX P W X H G S n l := by
  refine Eq.trans (b := x5 (ix2 n l) + val_main_v36 (F := Ideal) x1 x2 x3 x4 (ix2 n l) * val_main_v9 (F := Ideal) x0 (ix2 n 0) + x0 (ix2 n l) * val_main_v47 (F := Ideal) x0 x1 x2 x3 x4 (ix2 n l) + val_main_v47 (F := Ideal) x0 x1 x2 x3 x4 (ix2 n l) * x0 (ix2 n l))
    (by pointwise [val_main_v51, val_main_v50, val_main_v49, val_main_v48, val_main_v42, val_main_v41, val_main_v40]) ?_
  rw [hx, hh, dn_at hg hs hp hw, rs_at hx, share_at hx hg hs hp hw, ← EReal.coe_mul, ← EReal.coe_mul, ← EReal.coe_mul, add_assoc, add_assoc, ← EReal.coe_add, ← EReal.coe_add]
  unfold dX
  rw [back_eq, add_assoc]

end reals

end Cert.InBwdRefIdeal.Hand

end
-- ==== Proof.InPre.lean ====
/-
  The precondition of the input's gradient: the arguments are finite.
-/
module

public import proofs.«01_k».proof.Proof.StickPre
public import proofs.«01_k».proof.Pre_in_finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Pre_in_finite

open Cert.Pre_stick_finite (real_of_lt and_one)
open Cert.RealKit

instance facts : Facts where
  bcast_S_S2048x1024 := by decide
  reducesTo_S2048x1024_S_d0_1 := by decide
  h_S_ := by decide
  bcast_S_S1x1024 := by decide
  reducesTo_S1x1024_S_d0_1 := by decide
  slices_S1x6144_S1x1024_0_1024 := by decide
  bcast_S_S1024x6656 := by decide
  reducesTo_S1024x6656_S_d0_1 := by decide
  bcast_S_S2048x6656 := by decide
  reducesTo_S2048x6656_S_d0_1 := by decide

/-- Under the precondition the arguments are tables of reals. -/
theorem finite_of {x : FVec Ideal S2048x1024 .f32} {g : FVec Ideal S1x1024 .f32} {s : FVec Ideal S1x6144 .f32} {w : FVec Ideal S1024x6656 .f32} {p : FVec Ideal S2048x6656 .f32}
    {d : FVec Ideal S2048x1024 .f32} (h : fn (F := Ideal) x g s w p d = fun _ => 1#1) :
    ∃ (X W P : ℕ → ℕ → ℝ) (G S : ℕ → ℝ), (∀ (n : Fin 2048) (l : Fin 1024), x (ix2 n l) = (X n l : EReal)) ∧ (∀ l : Fin 1024, g (ix2 0 l) = (G l : EReal))
      ∧ (∀ (l : Fin 1024) (h : 1024 + l.val < 6144), s (ix2 0 ⟨1024 + l, h⟩) = (S l : EReal)) ∧ (∀ (l : Fin 1024) (k : Fin 6656), w (ix2 l k) = (W l k : EReal))
      ∧ ∀ (n : Fin 2048) (k : Fin 6656), p (ix2 n k) = (P n k : EReal) := by
  have h0 := congrFun h (fun a => a.elim0)
  unfold fn fn_part1 at h0
  dsimp only at h0
  obtain ⟨h1234, h5⟩ := and_one _ _ h0
  obtain ⟨h123, h4⟩ := and_one _ _ h1234
  obtain ⟨h12, h3⟩ := and_one _ _ h123
  obtain ⟨h1, h2⟩ := and_one _ _ h12
  haveI : Subsingleton S_.Idx := ⟨fun a b => funext fun k => k.elim0⟩
  choose X hX using fun i => real_of_lt _ (Host.reduce_andi_all _ _ _ _ _ h1 i)
  choose G hG using fun i => real_of_lt _ (Host.reduce_andi_all _ _ _ _ _ h2 i)
  choose S hS using fun i => real_of_lt _ (Host.reduce_andi_all _ _ _ _ _ h3 i)
  choose W hW using fun i => real_of_lt _ (Host.reduce_andi_all _ _ _ _ _ h4 i)
  choose P hP using fun i => real_of_lt _ (Host.reduce_andi_all _ _ _ _ _ h5 i)
  refine ⟨grid2 fun n l => X (ix2 n l), grid2 fun l k => W (ix2 l k), grid2 fun n k => P (ix2 n k), grid2 (fun (n : Fin 1) l => G (ix2 n l)) 0, grid2 (fun (n : Fin 1) l => S (ix2 n l)) 0,
    fun n l => (hX _).trans (congrArg _ (grid2_at (fun n l => X (ix2 n l)) n l).symm), fun l => (hG _).trans (congrArg _ (grid2_at (fun (n : Fin 1) l => G (ix2 n l)) 0 l).symm),
    fun l _ => Eq.trans ?_ ((hS (ix2 0 l)).trans (congrArg _ (grid2_at (fun (n : Fin 1) l => S (ix2 n l)) 0 l).symm)),
    fun l k => (hW _).trans (congrArg _ (grid2_at (fun l k => W (ix2 l k)) l k).symm), fun n k => (hP _).trans (congrArg _ (grid2_at (fun n k => P (ix2 n k)) n k).symm)⟩
  pointwise []

end Cert.Pre_in_finite

end
-- ==== Proof.InFinal.lean ====
/-
  The input's gradient computes the reference's gradients.
-/
module

public import proofs.«01_k».proof.Proof.InRef
public import proofs.«01_k».proof.Proof.InPre

@[expose] public section

set_option maxRecDepth 16384

noncomputable section

open Idealize.ShloMosaic Idealize.ShloMosaic.TcCoe Idealize.SL.Sem

namespace Cert.InBwdIdeal.Hand

open Cert.InBwdIdeal Cert.InBwdIdeal.Gen Cert.RealKit

variable {m : (ℓ : Loc nD τ sig) → Buf (Elt Ideal) ℓ} {c : Dev nD}

/-- What the grid points read, of the arguments. -/
theorem blocks {P W X : ℕ → ℕ → ℝ} {H : ℕ → ℕ → EReal} {G S : ℕ → ℝ}
    (hx : ∀ (n : Fin 2048) (l : Fin 1024), (m (c.tc.loc main_arg0) : FVec Ideal S2048x1024 .f32) (ix2 n l) = (X n l : EReal))
    (hg : ∀ l : Fin 1024, (m (c.tc.loc main_arg1) : FVec Ideal S1x1024 .f32) (ix2 0 l) = (G l : EReal))
    (hs : ∀ (l : Fin 1024) (h : 1024 + l.val < 6144), (m (c.tc.loc main_arg2) : FVec Ideal S1x6144 .f32) (ix2 0 ⟨1024 + l, h⟩) = (S l : EReal))
    (hw : ∀ (l : Fin 1024) (k : Fin 6656), (m (c.tc.loc main_arg3) : FVec Ideal S1024x6656 .f32) (ix2 l k) = (W l k : EReal))
    (hp : ∀ (n : Fin 2048) (k : Fin 6656), (m (c.tc.loc main_arg4) : FVec Ideal S2048x6656 .f32) (ix2 n k) = (P n k : EReal))
    (hh : ∀ (n : Fin 2048) (l : Fin 1024), (m (c.tc.loc main_arg5) : FVec Ideal S2048x1024 .f32) (ix2 n l) = H n l) : Blocks m c P W X H G S where
  p t i k := (read_p m c t i k pt).trans ((entryP m c _ k).trans (hp _ k))
  x t i l := (read_x m c t i l pt).trans ((congrFun (V_main_arg0 m c) _).trans (hx _ l))
  h t i l := (read_h m c t i l pt).trans ((congrFun (V_main_arg5 m c) _).trans (hh _ l))
  s t l := (read_s m c t ⟨1024 * 1 + l.val, by omega⟩).trans ((congrFun (V_main_arg2 m c) _).trans (hs l (by omega)))
  g t l := (read_g m c t l).trans ((congrFun (V_main_arg1 m c) _).trans (hg l))
  w k l := (entryW m c k l).trans (hw l k)

/-- A table by numbers. -/
def table (x : FVec Ideal S2048x1024 .f32) (n l : ℕ) : EReal := if h : n < 2048 ∧ l < 1024 then x (ix2 ⟨n, h.1⟩ ⟨l, h.2⟩) else 0

theorem table_at (x : FVec Ideal S2048x1024 .f32) (n : Fin 2048) (l : Fin 1024) : x (ix2 n l) = table x n l := by
  unfold table
  rw [dif_pos ⟨n.isLt, l.isLt⟩]

variable (m c) (h : Cert.Pre_in_finite.fn (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) = fun _ => 1#1)

include h

/-- Of finite arguments, the array of the input's gradient is the reference's. -/
theorem final5 : (dats m 0 c).arrAt 5 (cfgs 0).N = Cert.InBwdRefIdeal.Read.val_main_v51 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  obtain ⟨X, W, P, G, S, hx, hg, hs, hw, hp⟩ := Cert.Pre_in_finite.finite_of h
  exact array5 (blocks hx hg hs hw hp (table_at _)) (Cert.InBwdRefIdeal.Hand.input_at hx hg hs hp hw (table_at _))

/-- Of finite arguments, the array of the shift's gradient is the reference's. -/
theorem final6 : (dats m 0 c).arrAt 6 (cfgs 0).N = Cert.InBwdRefIdeal.Read.val_main_v26 (F := Ideal) (m ((c : Thread nD τ).loc main_arg3)) (m ((c : Thread nD τ).loc main_arg4)) := by
  obtain ⟨X, W, P, G, S, hx, hg, hs, hw, hp⟩ := Cert.Pre_in_finite.finite_of h
  exact array6 (blocks hx hg hs hw hp (table_at _)) (Cert.InBwdRefIdeal.Hand.shift_at hp hw)

/-- Of finite arguments, the array of the scale's gradient is the reference's. -/
theorem final7 : (dats m 0 c).arrAt 7 (cfgs 0).N = Cert.InBwdRefIdeal.Read.val_main_v29 (F := Ideal) (m ((c : Thread nD τ).loc main_arg0)) (m ((c : Thread nD τ).loc main_arg1))
    (m ((c : Thread nD τ).loc main_arg3)) (m ((c : Thread nD τ).loc main_arg4)) := by
  obtain ⟨X, W, P, G, S, hx, hg, hs, hw, hp⟩ := Cert.Pre_in_finite.finite_of h
  exact array7 (blocks hx hg hs hw hp (table_at _)) (Cert.InBwdRefIdeal.Hand.scale_at hx hg hp hw)

/-- Of finite arguments, the array of the norm weight's gradient is the reference's. -/
theorem final8 : (dats m 0 c).arrAt 8 (cfgs 0).N = Cert.InBwdRefIdeal.Read.val_main_v34 (F := Ideal) (m ((c : Thread nD τ).loc main_arg0)) (m ((c : Thread nD τ).loc main_arg2))
    (m ((c : Thread nD τ).loc main_arg3)) (m ((c : Thread nD τ).loc main_arg4)) := by
  obtain ⟨X, W, P, G, S, hx, hg, hs, hw, hp⟩ := Cert.Pre_in_finite.finite_of h
  exact array8 (blocks hx hg hs hw hp (table_at _)) (Cert.InBwdRefIdeal.Hand.weight_at hx hs hp hw)

end Cert.InBwdIdeal.Hand

end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.GateRefIdeal.Read
public import proofs.«01_k».proof.Proof.Gate
public import proofs.«01_k».proof.Proof.Gen.StickGrad.Frame
public import proofs.«01_k».proof.Proof.Gen.StickGradIdeal.Frame
public import proofs.«01_k».proof.Proof.Gen.StickGradRefIdeal.Run
public import proofs.«01_k».proof.Proof.Gen.StickGradRefIdeal.Read
public import proofs.«01_k».proof.Proof.Gen.RetQ.Frame
public import proofs.«01_k».proof.Proof.Gen.RetQIdeal.Frame
public import proofs.«01_k».proof.Proof.Gen.RetQRefIdeal.Run
public import proofs.«01_k».proof.Proof.Gen.RetQRefIdeal.Read
public import proofs.«01_k».proof.Proof.Gen.RetKV.Frame
public import proofs.«01_k».proof.Proof.Gen.RetKVIdeal.Frame
public import proofs.«01_k».proof.Proof.Gen.RetKVRefIdeal.Run
public import proofs.«01_k».proof.Proof.Gen.RetKVRefIdeal.Read
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import proofs.«01_k».proof.Proof.Gen.InBwd.Frame
public import proofs.«01_k».proof.Proof.Gen.InBwdIdeal.Frame
public import proofs.«01_k».proof.Proof.Gen.InBwdRefIdeal.Run
public import proofs.«01_k».proof.Proof.Gen.InBwdRefIdeal.Read
public import proofs.«01_k».proof.Proof.Gen.Loss.Frame
public import proofs.«01_k».proof.Proof.Gen.LossIdeal.Frame
public import proofs.«01_k».proof.Proof.Gen.LossRefIdeal.Run
public import proofs.«01_k».proof.Proof.Gen.LossRefIdeal.Read
public import proofs.«01_k».proof.Proof.Ffn
public import proofs.«01_k».proof.Proof.StickFinal
public import proofs.«01_k».proof.Proof.RetQFinal
public import proofs.«01_k».proof.Proof.RetKVFinal
public import proofs.«01_k».proof.Proof.Gen.Ff1Bwd.Frame
public import proofs.«01_k».proof.Proof.Gen.Ff1BwdIdeal.Frame
public import proofs.«01_k».proof.Proof.Gen.Ff1BwdRefIdeal.Read
public import proofs.«01_k».proof.Proof.Gen.Ff1BwdRefIdeal.Run
public import proofs.«01_k».proof.Proof.Gen.Assemble.Frame
public import proofs.«01_k».proof.Proof.Gen.AssembleIdeal.Frame
public import proofs.«01_k».proof.Proof.Gen.AssembleRefIdeal.Read
public import proofs.«01_k».proof.Proof.Gen.AssembleRefIdeal.Run
public import proofs.«01_k».proof.Proof.Gen.Branch.Frame
public import proofs.«01_k».proof.Proof.Gen.BranchIdeal.Frame
public import proofs.«01_k».proof.Proof.Gen.BranchRefIdeal.Read
public import proofs.«01_k».proof.Proof.Gen.BranchRefIdeal.Run
public import proofs.«01_k».proof.Proof.BranchFinal
public import proofs.«01_k».proof.Proof.Ff1Final
public import proofs.«01_k».proof.Proof.LossFinal
public import proofs.«01_k».proof.Proof.InFinal
public import Idealize.ShloMosaic.Lib.Claim
public import Idealize.ShloMosaic.Adequacy
public import Idealize.ShloMosaic.Init

@[expose] public section

noncomputable section

namespace Cert.Proof

open Idealize.ShloMosaic Idealize.SL.Sem Cert.Gate

/-- The merge gate's gradient: the kernel's four arrays are the reference's. -/
theorem algebraic_gate : Cert.algebraic_GateIdeal_GateRefIdeal := by
  pair_intro
  · run_from Cert.GateIdeal.Gen.run_main m g
  · run_from Cert.GateRefIdeal.Value.run m' g'
    · exact (Cert.GateIdeal.Hand.final6 m c).symm
    · exact (Cert.GateIdeal.Hand.final7 m c).symm
    · exact (Cert.GateIdeal.Hand.final8 m c).symm
    · exact (Cert.GateIdeal.Hand.final9 m c).symm

/-- The gate's reference leaves its arguments as they are; it has no semaphores. -/
theorem frame_gateRef : Cert.quiescent_GateRefIdeal := fun m g _ =>
  (θ_run _ _ _).mono (fun r h => ⟨fun c => (h c).2.2.2.2, sem_eq_zero_of_no_sems rfl _⟩)
    (Cert.GateRefIdeal.Value.run m g)

/-- Of finite arguments, what the stick-breaking reference computes is what the kernel's windows leave. -/
theorem stick_results (m : (ℓ : Loc Cert.StickGradIdeal.nD Cert.StickGradIdeal.τ Cert.StickGradIdeal.sig) → Buf (Elt Ideal) ℓ)
    (m' : (ℓ : Loc Cert.StickGradRefIdeal.nD Cert.StickGradRefIdeal.τ Cert.StickGradRefIdeal.sig) → Buf (Elt Ideal) ℓ) (c : Dev 1)
    (h0 : m' ((c.tc : Thread Cert.StickGradRefIdeal.nD Cert.StickGradRefIdeal.τ).loc Cert.StickGradRefIdeal.main_arg0) = m ((c.tc : Thread Cert.StickGradIdeal.nD Cert.StickGradIdeal.τ).loc Cert.StickGradIdeal.main_arg0))
    (h1 : m' ((c.tc : Thread Cert.StickGradRefIdeal.nD Cert.StickGradRefIdeal.τ).loc Cert.StickGradRefIdeal.main_arg1) = m ((c.tc : Thread Cert.StickGradIdeal.nD Cert.StickGradIdeal.τ).loc Cert.StickGradIdeal.main_arg1))
    (h : Cert.Pre_StickGradIdeal_stick_finite m) :
    Cert.StickGradRefIdeal.Value.res_main_v50 m' c = (Cert.StickGradIdeal.Gen.dats m 0 c).arrAt 5 (Cert.StickGradIdeal.cfgs 0).N
    ∧ Cert.StickGradRefIdeal.Value.res_main_v54 m' c = (Cert.StickGradIdeal.Gen.dats m 0 c).arrAt 6 (Cert.StickGradIdeal.cfgs 0).N
    ∧ Cert.StickGradRefIdeal.Value.res_main_v55 m' c = (Cert.StickGradIdeal.Gen.dats m 0 c).arrAt 7 (Cert.StickGradIdeal.cfgs 0).N := by
  obtain ⟨a5, a6, a7⟩ := Cert.StickGradIdeal.Hand.arrays (h c)
  exact ⟨((Cert.StickGradRefIdeal.Read.val_main_v50_eq m' c).trans (congrArg₂ (Cert.StickGradRefIdeal.Read.val_main_v50 (F := Ideal)) h0 h1)).trans a5.symm,
    ((Cert.StickGradRefIdeal.Read.val_main_v54_eq m' c).trans (congrArg₂ (Cert.StickGradRefIdeal.Read.val_main_v54 (F := Ideal)) h0 h1)).trans a6.symm,
    ((Cert.StickGradRefIdeal.Read.val_main_v55_eq m' c).trans (congrArg₂ (Cert.StickGradRefIdeal.Read.val_main_v55 (F := Ideal)) h0 h1)).trans a7.symm⟩

/-- The stick-breaking backward pass: of finite arguments, the kernel's three arrays are the reference's. -/
theorem algebraic_stick : Cert.algebraic_StickGradIdeal_StickGradRefIdeal_pre_stick_finite := by
  intro m g m' g' hpre hagree
  refine ⟨fun c => (Cert.StickGradIdeal.Gen.dats m 0 c).arrAt 5 (Cert.StickGradIdeal.cfgs 0).N,
    fun c => (Cert.StickGradIdeal.Gen.dats m 0 c).arrAt 6 (Cert.StickGradIdeal.cfgs 0).N,
    fun c => (Cert.StickGradIdeal.Gen.dats m 0 c).arrAt 7 (Cert.StickGradIdeal.cfgs 0).N, ?_, ?_⟩
  rotate_left
  · refine (θ_run _ _ _).mono (fun r h c => ?_) (Cert.StickGradRefIdeal.Value.run m' g')
    obtain ⟨r0, r1, r2, r3⟩ := h c
    obtain ⟨e0, e1, e2⟩ := stick_results m m' c (hagree c).1 (hagree c).2 hpre
    exact ⟨r0.trans e0, r1.trans e1, r2.trans e2, r3⟩
  · refine (θ_run _ _ _).mono (fun r h c => ?_) (Cert.StickGradIdeal.Gen.run_main m g)
    exact ⟨(h c).1 5, (h c).1 6, (h c).1 7,
      ((h c).2 Cert.StickGradIdeal.main_arg0 (Pipeline.mem_restRefs_of Cert.StickGradIdeal.main_arg0 (by decide) (by decide))).trans (Cert.StickGradIdeal.Gen.V_main_arg0 m c),
      ((h c).2 Cert.StickGradIdeal.main_arg1 (Pipeline.mem_restRefs_of Cert.StickGradIdeal.main_arg1 (by decide) (by decide))).trans (Cert.StickGradIdeal.Gen.V_main_arg1 m c)⟩

/-- The reference of the stick-breaking backward pass leaves its arguments as they are; it has no semaphores. -/
theorem frame_stickRef : Cert.quiescent_StickGradRefIdeal := fun m g _ =>
  (θ_run _ _ _).mono (fun r h => ⟨fun c => (h c).2.2.2, sem_eq_zero_of_no_sems rfl _⟩)
    (Cert.StickGradRefIdeal.Value.run m g)

/-- The retention's query gradient: of finite arguments, the kernel's array is the reference's. -/
theorem algebraic_retQ : Cert.algebraic_RetQIdeal_RetQRefIdeal_pre_ret_finite := by
  intro m g m' g' hpre hagree
  refine ⟨fun c => (Cert.RetQIdeal.Gen.dats m 0 c).arrAt 5 (Cert.RetQIdeal.cfgs 0).N, ?_, ?_⟩
  rotate_left
  · refine (θ_run _ _ _).mono (fun r h c => ?_) (Cert.RetQRefIdeal.Value.run m' g')
    obtain ⟨r0, r1⟩ := h c
    obtain ⟨-, h1, h2, h3⟩ := hagree c
    refine ⟨(r0.trans (Cert.RetQRefIdeal.Read.val_main_v70_eq _ _ _)).trans (Eq.trans ?_ (Cert.RetQIdeal.Hand.arrays m c (hpre c)).symm), r1⟩
    rw [h1, h2, h3]
  · refine (θ_run _ _ _).mono (fun r h c => ?_) (Cert.RetQIdeal.Gen.run_main m g)
    exact ⟨(h c).1 5,
      ((h c).2 Cert.RetQIdeal.main_arg0 (Pipeline.mem_restRefs_of Cert.RetQIdeal.main_arg0 (by decide) (by decide))).trans (Cert.RetQIdeal.Gen.V_main_arg0 m c),
      ((h c).2 Cert.RetQIdeal.main_arg1 (Pipeline.mem_restRefs_of Cert.RetQIdeal.main_arg1 (by decide) (by decide))).trans (Cert.RetQIdeal.Gen.V_main_arg1 m c),
      ((h c).2 Cert.RetQIdeal.main_arg2 (Pipeline.mem_restRefs_of Cert.RetQIdeal.main_arg2 (by decide) (by decide))).trans (Cert.RetQIdeal.Gen.V_main_arg2 m c),
      ((h c).2 Cert.RetQIdeal.main_arg3 (Pipeline.mem_restRefs_of Cert.RetQIdeal.main_arg3 (by decide) (by decide))).trans (Cert.RetQIdeal.Gen.V_main_arg3 m c)⟩

/-- The reference of the query gradient leaves its arguments as they are; it has no semaphores. -/
theorem frame_retQRef : Cert.quiescent_RetQRefIdeal := fun m g _ =>
  (θ_run _ _ _).mono (fun r h => ⟨fun c => (h c).2, sem_eq_zero_of_no_sems rfl _⟩)
    (Cert.RetQRefIdeal.Value.run m g)

/-- The reference of the key and value gradients leaves its arguments as they are; it has no semaphores. -/
theorem frame_retKVRef : Cert.quiescent_RetKVRefIdeal := fun m g _ =>
  (θ_run _ _ _).mono (fun r h => ⟨fun c => (h c).2.2, sem_eq_zero_of_no_sems rfl _⟩)
    (Cert.RetKVRefIdeal.Value.run m g)

/-- The retention's key and value gradients: of finite arguments, the kernel's arrays are the reference's. -/
theorem algebraic_retKV : Cert.algebraic_RetKVIdeal_RetKVRefIdeal_pre_ret_finite := by
  intro m g m' g' hpre hagree
  refine ⟨fun c => (Cert.RetKVIdeal.Gen.dats m 0 c).arrAt 5 (Cert.RetKVIdeal.cfgs 0).N,
    fun c => (Cert.RetKVIdeal.Gen.dats m 0 c).arrAt 6 (Cert.RetKVIdeal.cfgs 0).N, ?_, ?_⟩
  rotate_left
  · refine (θ_run _ _ _).mono (fun r h c => ?_) (Cert.RetKVRefIdeal.Value.run m' g')
    obtain ⟨r0, r1, r2⟩ := h c
    obtain ⟨h0, h1, h2, h3⟩ := hagree c
    refine ⟨(r0.trans (Cert.RetKVRefIdeal.Read.val_main_v76_eq _ _ _)).trans (Eq.trans ?_ (Cert.RetKVIdeal.Hand.arrayK m c (hpre c)).symm),
      (r1.trans (Cert.RetKVRefIdeal.Read.val_main_v78_eq _ _ _)).trans (Eq.trans ?_ (Cert.RetKVIdeal.Hand.arrayV m c (hpre c)).symm), r2⟩
    · rw [h0, h2, h3]
    · rw [h0, h1, h3]
  · refine (θ_run _ _ _).mono (fun r h c => ?_) (Cert.RetKVIdeal.Gen.run_main m g)
    exact ⟨(h c).1 5, (h c).1 6,
      ((h c).2 Cert.RetKVIdeal.main_arg0 (Pipeline.mem_restRefs_of Cert.RetKVIdeal.main_arg0 (by decide) (by decide))).trans (Cert.RetKVIdeal.Gen.V_main_arg0 m c),
      ((h c).2 Cert.RetKVIdeal.main_arg1 (Pipeline.mem_restRefs_of Cert.RetKVIdeal.main_arg1 (by decide) (by decide))).trans (Cert.RetKVIdeal.Gen.V_main_arg1 m c),
      ((h c).2 Cert.RetKVIdeal.main_arg2 (Pipeline.mem_restRefs_of Cert.RetKVIdeal.main_arg2 (by decide) (by decide))).trans (Cert.RetKVIdeal.Gen.V_main_arg2 m c),
      ((h c).2 Cert.RetKVIdeal.main_arg3 (Pipeline.mem_restRefs_of Cert.RetKVIdeal.main_arg3 (by decide) (by decide))).trans (Cert.RetKVIdeal.Gen.V_main_arg3 m c)⟩

/-- The feed-forward's gradient: the kernel's three arrays are the reference's. -/
theorem algebraic_ffn : Cert.algebraic_FfnIdeal_FfnRefIdeal := by
  intro m g m' g' hpre hagree
  refine ⟨fun c => (Cert.FfnIdeal.Gen.dats m 0 c).arrAt 5 (Cert.FfnIdeal.cfgs 0).N, fun c => (Cert.FfnIdeal.Gen.dats m 0 c).arrAt 6 (Cert.FfnIdeal.cfgs 0).N,
    fun c => (Cert.FfnIdeal.Gen.dats m 0 c).arrAt 7 (Cert.FfnIdeal.cfgs 0).N, ?_, ?_⟩
  rotate_left
  · refine (θ_run _ _ _).mono (fun r h c => ?_) (Cert.FfnRefIdeal.Value.run m' g')
    obtain ⟨r0, r1, r2, r3⟩ := h c
    obtain ⟨h0, h1, h2, h3⟩ := hagree c
    refine ⟨r0.trans ((Cert.FfnRefIdeal.Read.val_main_v19_eq (F := Ideal) _ _ _ _).trans ?_), r1.trans ((Cert.FfnRefIdeal.Read.val_main_v20_eq (F := Ideal) _ _ _).trans ?_),
      r2.trans ((Cert.FfnRefIdeal.Read.val_main_v21_eq (F := Ideal) _ _ _ _).trans ?_), r3⟩
    · rw [h0, h1, h2, h3]; exact (Cert.FfnIdeal.Hand.final5 m c).symm
    · rw [h0, h1, h3]; exact (Cert.FfnIdeal.Hand.final6 m c).symm
    · rw [h0, h1, h2, h3]; exact (Cert.FfnIdeal.Hand.final7 m c).symm
  · refine (θ_run _ _ _).mono (fun r h c => ?_) (Cert.FfnIdeal.Gen.run_main m g)
    exact ⟨(h c).1 5, (h c).1 6, (h c).1 7,
      ((h c).2 Cert.FfnIdeal.main_arg0 (Pipeline.mem_restRefs_of Cert.FfnIdeal.main_arg0 (by decide) (by decide))).trans (Cert.FfnIdeal.Gen.V_main_arg0 m c),
      ((h c).2 Cert.FfnIdeal.main_arg1 (Pipeline.mem_restRefs_of Cert.FfnIdeal.main_arg1 (by decide) (by decide))).trans (Cert.FfnIdeal.Gen.V_main_arg1 m c),
      ((h c).2 Cert.FfnIdeal.main_arg2 (Pipeline.mem_restRefs_of Cert.FfnIdeal.main_arg2 (by decide) (by decide))).trans (Cert.FfnIdeal.Gen.V_main_arg2 m c),
      ((h c).2 Cert.FfnIdeal.main_arg3 (Pipeline.mem_restRefs_of Cert.FfnIdeal.main_arg3 (by decide) (by decide))).trans (Cert.FfnIdeal.Gen.V_main_arg3 m c)⟩

/-- The feed-forward's reference leaves its arguments as they are; it has no semaphores. -/
theorem frame_ffnRef : Cert.quiescent_FfnRefIdeal := fun m g _ =>
  (θ_run _ _ _).mono (fun r h => ⟨fun c => (h c).2.2.2, sem_eq_zero_of_no_sems rfl _⟩)
    (Cert.FfnRefIdeal.Value.run m g)

/-- The reference of the block's input leaves its arguments as they are; it has no semaphores. -/
theorem frame_inRef : Cert.quiescent_InBwdRefIdeal := fun m g _ =>
  (θ_run _ _ _).mono (fun r h => ⟨fun c => (h c).2.2.2.2, sem_eq_zero_of_no_sems rfl _⟩)
    (Cert.InBwdRefIdeal.Value.run m g)

/-- The gradients of the block's input: of finite arguments, the kernel's four arrays are the reference's. -/
theorem algebraic_in : Cert.algebraic_InBwdIdeal_InBwdRefIdeal_pre_in_finite := by
  intro m g m' g' hpre hagree
  refine ⟨fun c => (Cert.InBwdIdeal.Gen.dats m 0 c).arrAt 5 (Cert.InBwdIdeal.cfgs 0).N, fun c => (Cert.InBwdIdeal.Gen.dats m 0 c).arrAt 6 (Cert.InBwdIdeal.cfgs 0).N,
    fun c => (Cert.InBwdIdeal.Gen.dats m 0 c).arrAt 7 (Cert.InBwdIdeal.cfgs 0).N, fun c => (Cert.InBwdIdeal.Gen.dats m 0 c).arrAt 8 (Cert.InBwdIdeal.cfgs 0).N, ?_, ?_⟩
  rotate_left
  · refine (θ_run _ _ _).mono (fun r h c => ?_) (Cert.InBwdRefIdeal.Value.run m' g')
    obtain ⟨r0, r1, r2, r3, r4⟩ := h c
    obtain ⟨h0, h1, h2, h3, h4, h5⟩ := hagree c
    refine ⟨(r0.trans (Cert.InBwdRefIdeal.Read.val_main_v51_eq (F := Ideal) m' c)).trans ?_, r1.trans ((Cert.InBwdRefIdeal.Read.val_main_v26_eq (F := Ideal) _ _).trans ?_),
      r2.trans ((Cert.InBwdRefIdeal.Read.val_main_v29_eq (F := Ideal) _ _ _ _).trans ?_), r3.trans ((Cert.InBwdRefIdeal.Read.val_main_v34_eq (F := Ideal) _ _ _ _).trans ?_), r4⟩
    · rw [h0, h1, h2, h3, h4, h5]; exact (Cert.InBwdIdeal.Hand.final5 m c (hpre c)).symm
    · rw [h3, h4]; exact (Cert.InBwdIdeal.Hand.final6 m c (hpre c)).symm
    · rw [h0, h1, h3, h4]; exact (Cert.InBwdIdeal.Hand.final7 m c (hpre c)).symm
    · rw [h0, h2, h3, h4]; exact (Cert.InBwdIdeal.Hand.final8 m c (hpre c)).symm
  · exact (θ_run _ _ _).mono (fun r h c => ⟨(h.1 c).1 5, (h.1 c).1 6, (h.1 c).1 7, (h.1 c).1 8, h.2 c⟩)
      (θ_run_and (Cert.InBwdIdeal.Gen.run_main m g) (Cert.InBwdIdeal.Gen.unchanged m g))

/-- The reference of the loss leaves its arguments as they are; it has no semaphores. -/
theorem frame_lossRef : Cert.quiescent_LossRefIdeal := fun m g _ =>
  (θ_run _ _ _).mono (fun r h => ⟨fun c => (h c).2.2.2.2.2, sem_eq_zero_of_no_sems rfl _⟩)
    (Cert.LossRefIdeal.Value.run m g)

/-- The reference of the feed-forward's input leaves its arguments as they are. -/
theorem frame_ff1Ref : Cert.quiescent_Ff1BwdRefIdeal := fun m g _ =>
  (θ_run _ _ _).mono (fun r h => ⟨fun c => (h c).2.2.2.2.2.2.2.2, sem_eq_zero_of_no_sems rfl _⟩)
    (Cert.Ff1BwdRefIdeal.Value.run m g)

/-- The reference of the retention branch leaves its arguments as they are. -/
theorem frame_branchRef : Cert.quiescent_BranchRefIdeal := fun m g _ =>
  (θ_run _ _ _).mono (fun r h => ⟨fun c => (h c).2.2.2.2.2.2, sem_eq_zero_of_no_sems rfl _⟩)
    (Cert.BranchRefIdeal.Value.run m g)

/-- The reference of the projection's gradient leaves its arguments as they are. -/
theorem frame_assembleRef : Cert.quiescent_AssembleRefIdeal := fun m g _ =>
  (θ_run _ _ _).mono (fun r h => ⟨fun c => (h c).2, sem_eq_zero_of_no_sems rfl _⟩)
    (Cert.AssembleRefIdeal.Value.run m g)

/-- The loss, its gradient, the product's, the gate's and the norm weight's are the reference's. -/
theorem algebraic_loss : Cert.algebraic_LossIdeal_LossRefIdeal_pre_loss_finite := by
  intro m g m' g' hpre hagree
  refine ⟨fun c => (Cert.LossIdeal.Gen.dats m 0 c).arrAt 6 (Cert.LossIdeal.cfgs 0).N, fun c => (Cert.LossIdeal.Gen.dats m 0 c).arrAt 7 (Cert.LossIdeal.cfgs 0).N,
    fun c => (Cert.LossIdeal.Gen.dats m 0 c).arrAt 8 (Cert.LossIdeal.cfgs 0).N, fun c => (Cert.LossIdeal.Gen.dats m 0 c).arrAt 9 (Cert.LossIdeal.cfgs 0).N,
    fun c => (Cert.LossIdeal.Gen.dats m 0 c).arrAt 10 (Cert.LossIdeal.cfgs 0).N, ?_, ?_⟩
  rotate_left
  · refine (θ_run _ _ _).mono (fun r h c => ?_) (Cert.LossRefIdeal.Value.run m' g')
    obtain ⟨r0, r1, r2, r3, r4, r5⟩ := h c
    obtain ⟨h0, h1, h2, h3, h4, h5⟩ := hagree c
    refine ⟨(r0.trans (Cert.LossRefIdeal.Read.val_main_v34_eq (F := Ideal) _ _ _ _ _ _)).trans ?_, (r1.trans (Cert.LossRefIdeal.Read.val_main_v59_eq (F := Ideal) m' c)).trans ?_,
      (r2.trans (Cert.LossRefIdeal.Read.val_main_v61_eq (F := Ideal) _ _ _ _ _ _)).trans ?_, (r3.trans (Cert.LossRefIdeal.Read.val_main_v39_eq (F := Ideal) _ _ _ _ _ _)).trans ?_,
      (r4.trans (Cert.LossRefIdeal.Read.val_main_v42_eq (F := Ideal) _ _ _ _ _ _)).trans ?_, r5⟩
    · rw [h0, h1, h2, h3, h4, h5]; exact (Cert.LossIdeal.Hand.final6 m c (hpre c)).symm
    · rw [h0, h1, h2, h3, h4, h5]; exact (Cert.LossIdeal.Hand.final7 m c (hpre c)).symm
    · rw [h0, h1, h2, h3, h4, h5]; exact (Cert.LossIdeal.Hand.final8 m c (hpre c)).symm
    · rw [h0, h1, h2, h3, h4, h5]; exact (Cert.LossIdeal.Hand.final9 m c (hpre c)).symm
    · rw [h0, h1, h2, h3, h4, h5]; exact (Cert.LossIdeal.Hand.final10 m c (hpre c)).symm
  · exact (θ_run _ _ _).mono (fun r h c => ⟨(h.1 c).1 6, (h.1 c).1 7, (h.1 c).1 8, (h.1 c).1 9, (h.1 c).1 10, h.2 c⟩)
      (θ_run_and (Cert.LossIdeal.Gen.run_main m g) (Cert.LossIdeal.Gen.unchanged m g))

set_option maxHeartbeats 2000000 in
/-- The gradients of the hidden sum, of the attentions' product, of shift, scale, gate, norm weights and output weight are the reference's. -/
theorem algebraic_ff1 : Cert.algebraic_Ff1BwdIdeal_Ff1BwdRefIdeal_pre_ff1_finite := by
  intro m g m' g' hpre hagree
  refine ⟨fun c => (Cert.Ff1BwdIdeal.Gen.dats m 0 c).arrAt 9 (Cert.Ff1BwdIdeal.cfgs 0).N,
    fun c => (Cert.Ff1BwdIdeal.Gen.dats m 0 c).arrAt 10 (Cert.Ff1BwdIdeal.cfgs 0).N,
    fun c => (Cert.Ff1BwdIdeal.Gen.dats m 0 c).arrAt 11 (Cert.Ff1BwdIdeal.cfgs 0).N,
    fun c => (Cert.Ff1BwdIdeal.Gen.dats m 0 c).arrAt 12 (Cert.Ff1BwdIdeal.cfgs 0).N,
    fun c => (Cert.Ff1BwdIdeal.Gen.dats m 0 c).arrAt 13 (Cert.Ff1BwdIdeal.cfgs 0).N,
    fun c => (Cert.Ff1BwdIdeal.Gen.dats m 0 c).arrAt 14 (Cert.Ff1BwdIdeal.cfgs 0).N,
    fun c => (Cert.Ff1BwdIdeal.Gen.dats m 0 c).arrAt 15 (Cert.Ff1BwdIdeal.cfgs 0).N,
    fun c => (Cert.Ff1BwdIdeal.Gen.dats m 0 c).arrAt 16 (Cert.Ff1BwdIdeal.cfgs 0).N, ?_, ?_⟩
  rotate_left
  · refine (θ_run _ _ _).mono (fun r h c => ?_) (Cert.Ff1BwdRefIdeal.Value.run m' g')
    obtain ⟨r0, r1, r2, r3, r4, r5, r6, r7, r8⟩ := h c
    obtain ⟨h0, h1, h2, h3, h4, h5, h6, h7, h8⟩ := hagree c
    refine ⟨(r0.trans (Cert.Ff1BwdRefIdeal.Read.val_main_v71_eq (F := Ideal) m' c)).trans ?_,
      (r1.trans (Cert.Ff1BwdRefIdeal.Read.val_main_v97_eq (F := Ideal) m' c)).trans ?_,
      (r2.trans (Cert.Ff1BwdRefIdeal.Read.val_main_v46_eq (F := Ideal) _ _)).trans ?_,
      (r3.trans (Cert.Ff1BwdRefIdeal.Read.val_main_v49_eq (F := Ideal) m' c)).trans ?_,
      (r4.trans (Cert.Ff1BwdRefIdeal.Read.val_main_v54_eq (F := Ideal) m' c)).trans ?_,
      (r5.trans (Cert.Ff1BwdRefIdeal.Read.val_main_v77_eq (F := Ideal) m' c)).trans ?_,
      (r6.trans (Cert.Ff1BwdRefIdeal.Read.val_main_v80_eq (F := Ideal) m' c)).trans ?_,
      (r7.trans (Cert.Ff1BwdRefIdeal.Read.val_main_v100_eq (F := Ideal) m' c)).trans ?_, r8⟩
    · rw [h0, h1, h2, h3, h4, h5, h6, h7, h8]; exact (Cert.Ff1BwdIdeal.Hand.final9 m c (hpre c)).symm
    · rw [h0, h1, h2, h3, h4, h5, h6, h7, h8]; exact (Cert.Ff1BwdIdeal.Hand.final10 m c (hpre c)).symm
    · rw [h6, h7]; exact (Cert.Ff1BwdIdeal.Hand.final11 m c (hpre c)).symm
    · rw [h0, h1, h2, h3, h4, h5, h6, h7]; exact (Cert.Ff1BwdIdeal.Hand.final12 m c (hpre c)).symm
    · rw [h0, h1, h2, h3, h4, h6, h7]; exact (Cert.Ff1BwdIdeal.Hand.final13 m c (hpre c)).symm
    · rw [h0, h1, h2, h3, h4, h5, h6, h7, h8]; exact (Cert.Ff1BwdIdeal.Hand.final14 m c (hpre c)).symm
    · rw [h0, h1, h2, h3, h4, h5, h6, h7, h8]; exact (Cert.Ff1BwdIdeal.Hand.final15 m c (hpre c)).symm
    · rw [h0, h1, h2, h3, h4, h5, h6, h7, h8]; exact (Cert.Ff1BwdIdeal.Hand.final16 m c (hpre c)).symm
  · exact (θ_run _ _ _).mono (fun r h c => ⟨(h.1 c).1 9, (h.1 c).1 10, (h.1 c).1 11, (h.1 c).1 12, (h.1 c).1 13, (h.1 c).1 14, (h.1 c).1 15, (h.1 c).1 16, h.2 c⟩)
      (θ_run_and (Cert.Ff1BwdIdeal.Gen.run_main m g) (Cert.Ff1BwdIdeal.Gen.unchanged m g))

set_option maxHeartbeats 2000000 in
/-- The gradients of the retention, of its gate, of the group norm's weight, of the two output weights and of the attention are the reference's. -/
theorem algebraic_branch : Cert.algebraic_BranchIdeal_BranchRefIdeal_pre_branch_finite := by
  intro m g m' g' hpre hagree
  refine ⟨fun c => (Cert.BranchIdeal.Gen.dats m 0 c).arrAt 9 (Cert.BranchIdeal.cfgs 0).N,
    fun c => (Cert.BranchIdeal.Gen.dats m 0 c).arrAt 10 (Cert.BranchIdeal.cfgs 0).N,
    fun c => (Cert.BranchIdeal.Gen.dats m 0 c).arrAt 11 (Cert.BranchIdeal.cfgs 0).N,
    fun c => (Cert.BranchIdeal.Gen.dats m 0 c).arrAt 12 (Cert.BranchIdeal.cfgs 0).N,
    fun c => (Cert.BranchIdeal.Gen.dats m 0 c).arrAt 13 (Cert.BranchIdeal.cfgs 0).N,
    fun c => (Cert.BranchIdeal.Gen.dats m 0 c).arrAt 14 (Cert.BranchIdeal.cfgs 0).N, ?_, ?_⟩
  rotate_left
  · refine (θ_run _ _ _).mono (fun r h c => ?_) (Cert.BranchRefIdeal.Value.run m' g')
    obtain ⟨r0, r1, r2, r3, r4, r5, r6⟩ := h c
    obtain ⟨h0, h1, h2, h3, h4, h5, h6, h7⟩ := hagree c
    refine ⟨(r0.trans (Cert.BranchRefIdeal.Read.val_main_v78_eq (F := Ideal) _ _)).trans ?_,
      (r1.trans (Cert.BranchRefIdeal.Read.val_main_v79_eq (F := Ideal) _ _ _ _)).trans ?_,
      (r2.trans (Cert.BranchRefIdeal.Read.val_main_v80_eq (F := Ideal) _ _)).trans ?_,
      (r3.trans (Cert.BranchRefIdeal.Read.val_main_v81_eq (F := Ideal) m' c)).trans ?_,
      (r4.trans (Cert.BranchRefIdeal.Read.val_main_v82_eq (F := Ideal) m' c)).trans ?_,
      (r5.trans (Cert.BranchRefIdeal.Read.val_main_v50_eq (F := Ideal) _ _ _ _)).trans ?_, r6⟩
    · rw [h5, h7]; exact (Cert.BranchIdeal.Hand.final9 m c).symm
    · rw [h0, h1, h2, h6]; exact (Cert.BranchIdeal.Hand.final10 m c).symm
    · rw [h4, h7]; exact (Cert.BranchIdeal.Hand.final11 m c).symm
    · rw [h0, h1, h2, h3, h6]; exact (Cert.BranchIdeal.Hand.final12 m c (hpre c)).symm
    · rw [h0, h1, h2, h3, h6]; exact (Cert.BranchIdeal.Hand.final13 m c (hpre c)).symm
    · rw [h0, h1, h3, h6]; exact (Cert.BranchIdeal.Hand.final14 m c (hpre c)).symm
  · exact (θ_run _ _ _).mono (fun r h c => ⟨(h.1 c).1 9, (h.1 c).1 10, (h.1 c).1 11, (h.1 c).1 12, (h.1 c).1 13, (h.1 c).1 14, h.2 c⟩)
      (θ_run_and (Cert.BranchIdeal.Gen.run_main m g) (Cert.BranchIdeal.Gen.unchanged m g))

/-- The rounded logarithm of two is named that logarithm. -/
theorem preserves_assemble : Cert.preserves_Assemble_AssembleIdeal :=
  IdealRules.named_const.statement Cert.AssembleIdeal.κ "ln2" .f32 0x3F317218#32 ((Real.log 2 : ℝ) : EReal) rfl

theorem claim : Cert.Claim := ⟨Cert.Gate.Gen.facts, Cert.GateIdeal.Gen.facts, Cert.GateRefIdeal.Gen.facts,
  Cert.StickGrad.Gen.facts, Cert.StickGradIdeal.Gen.facts, Cert.StickGradRefIdeal.Gen.facts,
  Cert.RetQ.Gen.facts, Cert.RetQIdeal.Gen.facts, Cert.RetQRefIdeal.Gen.facts,
  Cert.RetKV.Gen.facts, Cert.RetKVIdeal.Gen.facts, Cert.RetKVRefIdeal.Gen.facts,
  Cert.Ffn.Gen.facts, Cert.FfnIdeal.Gen.facts, Cert.FfnRefIdeal.Gen.facts,
  Cert.InBwd.Gen.facts, Cert.InBwdIdeal.Gen.facts, Cert.InBwdRefIdeal.Gen.facts,
  Cert.Loss.Gen.facts, Cert.LossIdeal.Gen.facts, Cert.LossRefIdeal.Gen.facts,
  Cert.Ff1Bwd.Gen.facts, Cert.Ff1BwdIdeal.Gen.facts, Cert.Ff1BwdRefIdeal.Gen.facts,
  Cert.Branch.Gen.facts, Cert.BranchIdeal.Gen.facts, Cert.BranchRefIdeal.Gen.facts,
  Cert.Assemble.Gen.facts, Cert.AssembleIdeal.Gen.facts, Cert.AssembleRefIdeal.Gen.facts,
  Cert.Pre_stick_finite.facts, Cert.Pre_ret_finite.facts, Cert.Pre_in_finite.facts, Cert.Pre_loss_finite.facts, Cert.Pre_ff1_finite.facts, Cert.Pre_branch_finite.facts,
  fun m ρ _ => Cert.Gate.Gen.frame m ρ, fun m ρ _ => Cert.GateIdeal.Gen.frame m ρ, frame_gateRef,
  fun m ρ _ => Cert.StickGrad.Gen.frame m ρ, fun m ρ _ => Cert.StickGradIdeal.Gen.frame m ρ, fun m ρ _ => Cert.StickGradIdeal.Gen.frame m ρ,
  frame_stickRef, fun m ρ _ => frame_stickRef m ρ trivial,
  fun m ρ _ => Cert.RetQ.Gen.frame m ρ, fun m ρ _ => Cert.RetQIdeal.Gen.frame m ρ, fun m ρ _ => Cert.RetQIdeal.Gen.frame m ρ,
  frame_retQRef, fun m ρ _ => frame_retQRef m ρ trivial,
  fun m ρ _ => Cert.RetKV.Gen.frame m ρ, fun m ρ _ => Cert.RetKVIdeal.Gen.frame m ρ, fun m ρ _ => Cert.RetKVIdeal.Gen.frame m ρ,
  frame_retKVRef, fun m ρ _ => frame_retKVRef m ρ trivial,
  fun m ρ _ => Cert.Ffn.Gen.frame m ρ, fun m ρ _ => Cert.FfnIdeal.Gen.frame m ρ, frame_ffnRef,
  fun m ρ _ => Cert.InBwd.Gen.frame m ρ, fun m ρ _ => Cert.InBwdIdeal.Gen.frame m ρ, fun m ρ _ => Cert.InBwdIdeal.Gen.frame m ρ,
  frame_inRef, fun m ρ _ => frame_inRef m ρ trivial,
  fun m ρ _ => Cert.Loss.Gen.frame m ρ, fun m ρ _ => Cert.LossIdeal.Gen.frame m ρ, fun m ρ _ => Cert.LossIdeal.Gen.frame m ρ,
    frame_lossRef, fun m ρ _ => frame_lossRef m ρ trivial,
  fun m ρ _ => Cert.Ff1Bwd.Gen.frame m ρ, fun m ρ _ => Cert.Ff1BwdIdeal.Gen.frame m ρ, fun m ρ _ => Cert.Ff1BwdIdeal.Gen.frame m ρ,
    frame_ff1Ref, fun m ρ _ => frame_ff1Ref m ρ trivial,
  fun m ρ _ => Cert.Branch.Gen.frame m ρ, fun m ρ _ => Cert.BranchIdeal.Gen.frame m ρ, fun m ρ _ => Cert.BranchIdeal.Gen.frame m ρ,
    frame_branchRef, fun m ρ _ => frame_branchRef m ρ trivial,
  fun m ρ _ => Cert.Assemble.Gen.frame m ρ, fun m ρ _ => Cert.AssembleIdeal.Gen.frame m ρ, frame_assembleRef,
  trivial, algebraic_gate, trivial, algebraic_stick, trivial, algebraic_retQ, trivial, algebraic_retKV, trivial, algebraic_ffn,
  trivial, algebraic_in, trivial, algebraic_loss, trivial, algebraic_ff1, trivial, algebraic_branch, preserves_assemble⟩

end Cert.Proof

end
